-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_MlpFinal (m : (ℓ : Loc Cert.MlpFinal.nD Cert.MlpFinal.τ Cert.MlpFinal.sig) → Buf (Elt Bits) ℓ) : Prop :=
  True

def Pre_MlpFinalIdeal (m : (ℓ : Loc Cert.MlpFinalIdeal.nD Cert.MlpFinalIdeal.τ Cert.MlpFinalIdeal.sig) → Buf (Elt Ideal) ℓ) : Prop :=
  True

def Pre_MlpFinalRefIdeal (m : (ℓ : Loc Cert.MlpFinalRefIdeal.nD Cert.MlpFinalRefIdeal.τ Cert.MlpFinalRefIdeal.sig) → Buf (Elt Ideal) ℓ) : Prop :=
  True

def Pre_InCd (m : (ℓ : Loc Cert.InCd.nD Cert.InCd.τ Cert.InCd.sig) → Buf (Elt Bits) ℓ) : Prop :=
  True

def Pre_InCdIdeal (m : (ℓ : Loc Cert.InCdIdeal.nD Cert.InCdIdeal.τ Cert.InCdIdeal.sig) → Buf (Elt Ideal) ℓ) : Prop :=
  True

def Pre_InCdRefIdeal (m : (ℓ : Loc Cert.InCdRefIdeal.nD Cert.InCdRefIdeal.τ Cert.InCdRefIdeal.sig) → Buf (Elt Ideal) ℓ) : Prop :=
  True

def Pre_OutAb (m : (ℓ : Loc Cert.OutAb.nD Cert.OutAb.τ Cert.OutAb.sig) → Buf (Elt Bits) ℓ) : Prop :=
  True

def Pre_OutAbIdeal (m : (ℓ : Loc Cert.OutAbIdeal.nD Cert.OutAbIdeal.τ Cert.OutAbIdeal.sig) → Buf (Elt Ideal) ℓ) : Prop :=
  True

def Pre_OutAbRefIdeal (m : (ℓ : Loc Cert.OutAbRefIdeal.nD Cert.OutAbRefIdeal.τ Cert.OutAbRefIdeal.sig) → Buf (Elt Ideal) ℓ) : Prop :=
  True

def Pre_OutCd (m : (ℓ : Loc Cert.OutCd.nD Cert.OutCd.τ Cert.OutCd.sig) → Buf (Elt Bits) ℓ) : Prop :=
  True

def Pre_OutCdIdeal (m : (ℓ : Loc Cert.OutCdIdeal.nD Cert.OutCdIdeal.τ Cert.OutCdIdeal.sig) → Buf (Elt Ideal) ℓ) : Prop :=
  True

def Pre_OutCdRefIdeal (m : (ℓ : Loc Cert.OutCdRefIdeal.nD Cert.OutCdRefIdeal.τ Cert.OutCdRefIdeal.sig) → Buf (Elt Ideal) ℓ) : Prop :=
  True

def Pre_InAb (m : (ℓ : Loc Cert.InAb.nD Cert.InAb.τ Cert.InAb.sig) → Buf (Elt Bits) ℓ) : Prop :=
  True

def Pre_InAbIdeal (m : (ℓ : Loc Cert.InAbIdeal.nD Cert.InAbIdeal.τ Cert.InAbIdeal.sig) → Buf (Elt Ideal) ℓ) : Prop :=
  True

def Pre_InAbIdeal_finite_ab [hPre_finite_ab : Cert.Pre_finite_ab.Facts] (m : (ℓ : Loc Cert.InAbIdeal.nD Cert.InAbIdeal.τ Cert.InAbIdeal.sig) → Buf (Elt Ideal) ℓ) : Prop :=
  ∀ c : Dev Cert.InAbIdeal.nD,
    (Cert.Pre_finite_ab.fn (F := Ideal) (m ((c.tc : Thread Cert.InAbIdeal.nD Cert.InAbIdeal.τ).loc Cert.InAbIdeal.main_arg0)) (m ((c.tc : Thread Cert.InAbIdeal.nD Cert.InAbIdeal.τ).loc Cert.InAbIdeal.main_arg1)) (m ((c.tc : Thread Cert.InAbIdeal.nD Cert.InAbIdeal.τ).loc Cert.InAbIdeal.main_arg2)) (m ((c.tc : Thread Cert.InAbIdeal.nD Cert.InAbIdeal.τ).loc Cert.InAbIdeal.main_arg3)) (m ((c.tc : Thread Cert.InAbIdeal.nD Cert.InAbIdeal.τ).loc Cert.InAbIdeal.main_arg4)) (m ((c.tc : Thread Cert.InAbIdeal.nD Cert.InAbIdeal.τ).loc Cert.InAbIdeal.main_arg5)) (m ((c.tc : Thread Cert.InAbIdeal.nD Cert.InAbIdeal.τ).loc Cert.InAbIdeal.main_arg6)) (m ((c.tc : Thread Cert.InAbIdeal.nD Cert.InAbIdeal.τ).loc Cert.InAbIdeal.main_arg7))) = (fun _ => 1#1)

def Pre_InAbRefIdeal (m : (ℓ : Loc Cert.InAbRefIdeal.nD Cert.InAbRefIdeal.τ Cert.InAbRefIdeal.sig) → Buf (Elt Ideal) ℓ) : Prop :=
  True

def Pre_InAbRefIdeal_finite_ab [hPre_finite_ab : Cert.Pre_finite_ab.Facts] (m : (ℓ : Loc Cert.InAbRefIdeal.nD Cert.InAbRefIdeal.τ Cert.InAbRefIdeal.sig) → Buf (Elt Ideal) ℓ) : Prop :=
  ∀ c : Dev Cert.InAbRefIdeal.nD,
    (Cert.Pre_finite_ab.fn (F := Ideal) (m ((c.tc : Thread Cert.InAbRefIdeal.nD Cert.InAbRefIdeal.τ).loc Cert.InAbRefIdeal.main_arg0)) (m ((c.tc : Thread Cert.InAbRefIdeal.nD Cert.InAbRefIdeal.τ).loc Cert.InAbRefIdeal.main_arg1)) (m ((c.tc : Thread Cert.InAbRefIdeal.nD Cert.InAbRefIdeal.τ).loc Cert.InAbRefIdeal.main_arg2)) (m ((c.tc : Thread Cert.InAbRefIdeal.nD Cert.InAbRefIdeal.τ).loc Cert.InAbRefIdeal.main_arg3)) (m ((c.tc : Thread Cert.InAbRefIdeal.nD Cert.InAbRefIdeal.τ).loc Cert.InAbRefIdeal.main_arg4)) (m ((c.tc : Thread Cert.InAbRefIdeal.nD Cert.InAbRefIdeal.τ).loc Cert.InAbRefIdeal.main_arg5)) (m ((c.tc : Thread Cert.InAbRefIdeal.nD Cert.InAbRefIdeal.τ).loc Cert.InAbRefIdeal.main_arg6)) (m ((c.tc : Thread Cert.InAbRefIdeal.nD Cert.InAbRefIdeal.τ).loc Cert.InAbRefIdeal.main_arg7))) = (fun _ => 1#1)

def Pre_InAbS (m : (ℓ : Loc Cert.InAbS.nD Cert.InAbS.τ Cert.InAbS.sig) → Buf (Elt Bits) ℓ) : Prop :=
  True

def Pre_InAbSIdeal (m : (ℓ : Loc Cert.InAbSIdeal.nD Cert.InAbSIdeal.τ Cert.InAbSIdeal.sig) → Buf (Elt Ideal) ℓ) : Prop :=
  True

def Pre_InAbSIdeal_finite_ab_s [hPre_finite_ab_s : Cert.Pre_finite_ab_s.Facts] (m : (ℓ : Loc Cert.InAbSIdeal.nD Cert.InAbSIdeal.τ Cert.InAbSIdeal.sig) → Buf (Elt Ideal) ℓ) : Prop :=
  ∀ c : Dev Cert.InAbSIdeal.nD,
    (Cert.Pre_finite_ab_s.fn (F := Ideal) (m ((c.tc : Thread Cert.InAbSIdeal.nD Cert.InAbSIdeal.τ).loc Cert.InAbSIdeal.main_arg0)) (m ((c.tc : Thread Cert.InAbSIdeal.nD Cert.InAbSIdeal.τ).loc Cert.InAbSIdeal.main_arg1)) (m ((c.tc : Thread Cert.InAbSIdeal.nD Cert.InAbSIdeal.τ).loc Cert.InAbSIdeal.main_arg2)) (m ((c.tc : Thread Cert.InAbSIdeal.nD Cert.InAbSIdeal.τ).loc Cert.InAbSIdeal.main_arg3)) (m ((c.tc : Thread Cert.InAbSIdeal.nD Cert.InAbSIdeal.τ).loc Cert.InAbSIdeal.main_arg4)) (m ((c.tc : Thread Cert.InAbSIdeal.nD Cert.InAbSIdeal.τ).loc Cert.InAbSIdeal.main_arg5)) (m ((c.tc : Thread Cert.InAbSIdeal.nD Cert.InAbSIdeal.τ).loc Cert.InAbSIdeal.main_arg6))) = (fun _ => 1#1)

def Pre_InAbSRefIdeal (m : (ℓ : Loc Cert.InAbSRefIdeal.nD Cert.InAbSRefIdeal.τ Cert.InAbSRefIdeal.sig) → Buf (Elt Ideal) ℓ) : Prop :=
  True

def Pre_InAbSRefIdeal_finite_ab_s [hPre_finite_ab_s : Cert.Pre_finite_ab_s.Facts] (m : (ℓ : Loc Cert.InAbSRefIdeal.nD Cert.InAbSRefIdeal.τ Cert.InAbSRefIdeal.sig) → Buf (Elt Ideal) ℓ) : Prop :=
  ∀ c : Dev Cert.InAbSRefIdeal.nD,
    (Cert.Pre_finite_ab_s.fn (F := Ideal) (m ((c.tc : Thread Cert.InAbSRefIdeal.nD Cert.InAbSRefIdeal.τ).loc Cert.InAbSRefIdeal.main_arg0)) (m ((c.tc : Thread Cert.InAbSRefIdeal.nD Cert.InAbSRefIdeal.τ).loc Cert.InAbSRefIdeal.main_arg1)) (m ((c.tc : Thread Cert.InAbSRefIdeal.nD Cert.InAbSRefIdeal.τ).loc Cert.InAbSRefIdeal.main_arg2)) (m ((c.tc : Thread Cert.InAbSRefIdeal.nD Cert.InAbSRefIdeal.τ).loc Cert.InAbSRefIdeal.main_arg3)) (m ((c.tc : Thread Cert.InAbSRefIdeal.nD Cert.InAbSRefIdeal.τ).loc Cert.InAbSRefIdeal.main_arg4)) (m ((c.tc : Thread Cert.InAbSRefIdeal.nD Cert.InAbSRefIdeal.τ).loc Cert.InAbSRefIdeal.main_arg5)) (m ((c.tc : Thread Cert.InAbSRefIdeal.nD Cert.InAbSRefIdeal.τ).loc Cert.InAbSRefIdeal.main_arg6))) = (fun _ => 1#1)

def Pre_MlpFinalS (m : (ℓ : Loc Cert.MlpFinalS.nD Cert.MlpFinalS.τ Cert.MlpFinalS.sig) → Buf (Elt Bits) ℓ) : Prop :=
  True

def Pre_MlpFinalSIdeal (m : (ℓ : Loc Cert.MlpFinalSIdeal.nD Cert.MlpFinalSIdeal.τ Cert.MlpFinalSIdeal.sig) → Buf (Elt Ideal) ℓ) : Prop :=
  True

def Pre_MlpFinalSRefIdeal (m : (ℓ : Loc Cert.MlpFinalSRefIdeal.nD Cert.MlpFinalSRefIdeal.τ Cert.MlpFinalSRefIdeal.sig) → Buf (Elt Ideal) ℓ) : Prop :=
  True

def Pre_InCdS (m : (ℓ : Loc Cert.InCdS.nD Cert.InCdS.τ Cert.InCdS.sig) → Buf (Elt Bits) ℓ) : Prop :=
  True

def Pre_InCdSIdeal (m : (ℓ : Loc Cert.InCdSIdeal.nD Cert.InCdSIdeal.τ Cert.InCdSIdeal.sig) → Buf (Elt Ideal) ℓ) : Prop :=
  True

def Pre_InCdSRefIdeal (m : (ℓ : Loc Cert.InCdSRefIdeal.nD Cert.InCdSRefIdeal.τ Cert.InCdSRefIdeal.sig) → Buf (Elt Ideal) ℓ) : Prop :=
  True

def Pre_Unabsorb (m : (ℓ : Loc Cert.Unabsorb.nD Cert.Unabsorb.τ Cert.Unabsorb.sig) → Buf (Elt Bits) ℓ) : Prop :=
  True

def Pre_UnabsorbIdeal (m : (ℓ : Loc Cert.UnabsorbIdeal.nD Cert.UnabsorbIdeal.τ Cert.UnabsorbIdeal.sig) → Buf (Elt Ideal) ℓ) : Prop :=
  True

def Pre_UnabsorbRefIdeal (m : (ℓ : Loc Cert.UnabsorbRefIdeal.nD Cert.UnabsorbRefIdeal.τ Cert.UnabsorbRefIdeal.sig) → Buf (Elt Ideal) ℓ) : Prop :=
  True

def Pre_PoolS (m : (ℓ : Loc Cert.PoolS.nD Cert.PoolS.τ Cert.PoolS.sig) → Buf (Elt Bits) ℓ) : Prop :=
  True

def Pre_PoolSIdeal (m : (ℓ : Loc Cert.PoolSIdeal.nD Cert.PoolSIdeal.τ Cert.PoolSIdeal.sig) → Buf (Elt Ideal) ℓ) : Prop :=
  True

def Pre_PoolSRefIdeal (m : (ℓ : Loc Cert.PoolSRefIdeal.nD Cert.PoolSRefIdeal.τ Cert.PoolSRefIdeal.sig) → Buf (Elt Ideal) ℓ) : Prop :=
  True

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSRefIdeal (m : (ℓ : Loc Cert.ConvSRefIdeal.nD Cert.ConvSRefIdeal.τ Cert.ConvSRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MlpFinal [hMlpFinal : Cert.MlpFinal.Facts] : Prop :=
  ∀ (m : (ℓ : Loc Cert.MlpFinal.nD Cert.MlpFinal.τ Cert.MlpFinal.sig) → Buf (Elt Bits) ℓ) (g : Dev Cert.MlpFinal.nD → PrngReg), Pre_MlpFinal m →
    θ_run (Cert.MlpFinal.defs (F := Bits)) (onTc (τ := Cert.MlpFinal.τ) (Cert.MlpFinal.main (F := Bits))) ⟨m, fun _ => 0, g⟩ (fun r => (∀ c : Dev Cert.MlpFinal.nD,
      r.2.mem ((c.tc : Thread Cert.MlpFinal.nD Cert.MlpFinal.τ).loc Cert.MlpFinal.main_arg0) = m ((c.tc : Thread Cert.MlpFinal.nD Cert.MlpFinal.τ).loc Cert.MlpFinal.main_arg0)
      ∧ r.2.mem ((c.tc : Thread Cert.MlpFinal.nD Cert.MlpFinal.τ).loc Cert.MlpFinal.main_arg1) = m ((c.tc : Thread Cert.MlpFinal.nD Cert.MlpFinal.τ).loc Cert.MlpFinal.main_arg1)
      ∧ r.2.mem ((c.tc : Thread Cert.MlpFinal.nD Cert.MlpFinal.τ).loc Cert.MlpFinal.main_arg2) = m ((c.tc : Thread Cert.MlpFinal.nD Cert.MlpFinal.τ).loc Cert.MlpFinal.main_arg2)
      ∧ r.2.mem ((c.tc : Thread Cert.MlpFinal.nD Cert.MlpFinal.τ).loc Cert.MlpFinal.main_arg3) = m ((c.tc : Thread Cert.MlpFinal.nD Cert.MlpFinal.τ).loc Cert.MlpFinal.main_arg3)
      ∧ r.2.mem ((c.tc : Thread Cert.MlpFinal.nD Cert.MlpFinal.τ).loc Cert.MlpFinal.main_arg4) = m ((c.tc : Thread Cert.MlpFinal.nD Cert.MlpFinal.τ).loc Cert.MlpFinal.main_arg4))
      ∧ r.2.sem = fun _ => 0)

def quiescent_MlpFinalIdeal [hMlpFinalIdeal : Cert.MlpFinalIdeal.Facts] : Prop :=
  ∀ (m : (ℓ : Loc Cert.MlpFinalIdeal.nD Cert.MlpFinalIdeal.τ Cert.MlpFinalIdeal.sig) → Buf (Elt Ideal) ℓ) (g : Dev Cert.MlpFinalIdeal.nD → PrngReg), Pre_MlpFinalIdeal m →
    θ_run (Cert.MlpFinalIdeal.defs (F := Ideal)) (onTc (τ := Cert.MlpFinalIdeal.τ) (Cert.MlpFinalIdeal.main (F := Ideal))) ⟨m, fun _ => 0, g⟩ (fun r => (∀ c : Dev Cert.MlpFinalIdeal.nD,
      r.2.mem ((c.tc : Thread Cert.MlpFinalIdeal.nD Cert.MlpFinalIdeal.τ).loc Cert.MlpFinalIdeal.main_arg0) = m ((c.tc : Thread Cert.MlpFinalIdeal.nD Cert.MlpFinalIdeal.τ).loc Cert.MlpFinalIdeal.main_arg0)
      ∧ r.2.mem ((c.tc : Thread Cert.MlpFinalIdeal.nD Cert.MlpFinalIdeal.τ).loc Cert.MlpFinalIdeal.main_arg1) = m ((c.tc : Thread Cert.MlpFinalIdeal.nD Cert.MlpFinalIdeal.τ).loc Cert.MlpFinalIdeal.main_arg1)
      ∧ r.2.mem ((c.tc : Thread Cert.MlpFinalIdeal.nD Cert.MlpFinalIdeal.τ).loc Cert.MlpFinalIdeal.main_arg2) = m ((c.tc : Thread Cert.MlpFinalIdeal.nD Cert.MlpFinalIdeal.τ).loc Cert.MlpFinalIdeal.main_arg2)
      ∧ r.2.mem ((c.tc : Thread Cert.MlpFinalIdeal.nD Cert.MlpFinalIdeal.τ).loc Cert.MlpFinalIdeal.main_arg3) = m ((c.tc : Thread Cert.MlpFinalIdeal.nD Cert.MlpFinalIdeal.τ).loc Cert.MlpFinalIdeal.main_arg3)
      ∧ r.2.mem ((c.tc : Thread Cert.MlpFinalIdeal.nD Cert.MlpFinalIdeal.τ).loc Cert.MlpFinalIdeal.main_arg4) = m ((c.tc : Thread Cert.MlpFinalIdeal.nD Cert.MlpFinalIdeal.τ).loc Cert.MlpFinalIdeal.main_arg4))
      ∧ r.2.sem = fun _ => 0)

def quiescent_MlpFinalRefIdeal [hMlpFinalRefIdeal : Cert.MlpFinalRefIdeal.Facts] : Prop :=
  ∀ (m : (ℓ : Loc Cert.MlpFinalRefIdeal.nD Cert.MlpFinalRefIdeal.τ Cert.MlpFinalRefIdeal.sig) → Buf (Elt Ideal) ℓ) (g : Dev Cert.MlpFinalRefIdeal.nD → PrngReg), Pre_MlpFinalRefIdeal m →
    θ_run (Cert.MlpFinalRefIdeal.defs (F := Ideal)) (onTc (τ := Cert.MlpFinalRefIdeal.τ) (Cert.MlpFinalRefIdeal.main (F := Ideal))) ⟨m, fun _ => 0, g⟩ (fun r => (∀ c : Dev Cert.MlpFinalRefIdeal.nD,
      r.2.mem ((c.tc : Thread Cert.MlpFinalRefIdeal.nD Cert.MlpFinalRefIdeal.τ).loc Cert.MlpFinalRefIdeal.main_arg0) = m ((c.tc : Thread Cert.MlpFinalRefIdeal.nD Cert.MlpFinalRefIdeal.τ).loc Cert.MlpFinalRefIdeal.main_arg0)
      ∧ r.2.mem ((c.tc : Thread Cert.MlpFinalRefIdeal.nD Cert.MlpFinalRefIdeal.τ).loc Cert.MlpFinalRefIdeal.main_arg1) = m ((c.tc : Thread Cert.MlpFinalRefIdeal.nD Cert.MlpFinalRefIdeal.τ).loc Cert.MlpFinalRefIdeal.main_arg1)
      ∧ r.2.mem ((c.tc : Thread Cert.MlpFinalRefIdeal.nD Cert.MlpFinalRefIdeal.τ).loc Cert.MlpFinalRefIdeal.main_arg2) = m ((c.tc : Thread Cert.MlpFinalRefIdeal.nD Cert.MlpFinalRefIdeal.τ).loc Cert.MlpFinalRefIdeal.main_arg2)
      ∧ r.2.mem ((c.tc : Thread Cert.MlpFinalRefIdeal.nD Cert.MlpFinalRefIdeal.τ).loc Cert.MlpFinalRefIdeal.main_arg3) = m ((c.tc : Thread Cert.MlpFinalRefIdeal.nD Cert.MlpFinalRefIdeal.τ).loc Cert.MlpFinalRefIdeal.main_arg3)
      ∧ r.2.mem ((c.tc : Thread Cert.MlpFinalRefIdeal.nD Cert.MlpFinalRefIdeal.τ).loc Cert.MlpFinalRefIdeal.main_arg4) = m ((c.tc : Thread Cert.MlpFinalRefIdeal.nD Cert.MlpFinalRefIdeal.τ).loc Cert.MlpFinalRefIdeal.main_arg4))
      ∧ r.2.sem = fun _ => 0)

def quiescent_InCd [hInCd : Cert.InCd.Facts] : Prop :=
  ∀ (m : (ℓ : Loc Cert.InCd.nD Cert.InCd.τ Cert.InCd.sig) → Buf (Elt Bits) ℓ) (g : Dev Cert.InCd.nD → PrngReg), Pre_InCd m →
    θ_run (Cert.InCd.defs (F := Bits)) (onTc (τ := Cert.InCd.τ) (Cert.InCd.main (F := Bits))) ⟨m, fun _ => 0, g⟩ (fun r => (∀ c : Dev Cert.InCd.nD,
      r.2.mem ((c.tc : Thread Cert.InCd.nD Cert.InCd.τ).loc Cert.InCd.main_arg0) = m ((c.tc : Thread Cert.InCd.nD Cert.InCd.τ).loc Cert.InCd.main_arg0)
      ∧ r.2.mem ((c.tc : Thread Cert.InCd.nD Cert.InCd.τ).loc Cert.InCd.main_arg1) = m ((c.tc : Thread Cert.InCd.nD Cert.InCd.τ).loc Cert.InCd.main_arg1)
      ∧ r.2.mem ((c.tc : Thread Cert.InCd.nD Cert.InCd.τ).loc Cert.InCd.main_arg2) = m ((c.tc : Thread Cert.InCd.nD Cert.InCd.τ).loc Cert.InCd.main_arg2))
      ∧ r.2.sem = fun _ => 0)

def quiescent_InCdIdeal [hInCdIdeal : Cert.InCdIdeal.Facts] : Prop :=
  ∀ (m : (ℓ : Loc Cert.InCdIdeal.nD Cert.InCdIdeal.τ Cert.InCdIdeal.sig) → Buf (Elt Ideal) ℓ) (g : Dev Cert.InCdIdeal.nD → PrngReg), Pre_InCdIdeal m →
    θ_run (Cert.InCdIdeal.defs (F := Ideal)) (onTc (τ := Cert.InCdIdeal.τ) (Cert.InCdIdeal.main (F := Ideal))) ⟨m, fun _ => 0, g⟩ (fun r => (∀ c : Dev Cert.InCdIdeal.nD,
      r.2.mem ((c.tc : Thread Cert.InCdIdeal.nD Cert.InCdIdeal.τ).loc Cert.InCdIdeal.main_arg0) = m ((c.tc : Thread Cert.InCdIdeal.nD Cert.InCdIdeal.τ).loc Cert.InCdIdeal.main_arg0)
      ∧ r.2.mem ((c.tc : Thread Cert.InCdIdeal.nD Cert.InCdIdeal.τ).loc Cert.InCdIdeal.main_arg1) = m ((c.tc : Thread Cert.InCdIdeal.nD Cert.InCdIdeal.τ).loc Cert.InCdIdeal.main_arg1)
      ∧ r.2.mem ((c.tc : Thread Cert.InCdIdeal.nD Cert.InCdIdeal.τ).loc Cert.InCdIdeal.main_arg2) = m ((c.tc : Thread Cert.InCdIdeal.nD Cert.InCdIdeal.τ).loc Cert.InCdIdeal.main_arg2))
      ∧ r.2.sem = fun _ => 0)

def quiescent_InCdRefIdeal [hInCdRefIdeal : Cert.InCdRefIdeal.Facts] : Prop :=
  ∀ (m : (ℓ : Loc Cert.InCdRefIdeal.nD Cert.InCdRefIdeal.τ Cert.InCdRefIdeal.sig) → Buf (Elt Ideal) ℓ) (g : Dev Cert.InCdRefIdeal.nD → PrngReg), Pre_InCdRefIdeal m →
    θ_run (Cert.InCdRefIdeal.defs (F := Ideal)) (onTc (τ := Cert.InCdRefIdeal.τ) (Cert.InCdRefIdeal.main (F := Ideal))) ⟨m, fun _ => 0, g⟩ (fun r => (∀ c : Dev Cert.InCdRefIdeal.nD,
      r.2.mem ((c.tc : Thread Cert.InCdRefIdeal.nD Cert.InCdRefIdeal.τ).loc Cert.InCdRefIdeal.main_arg0) = m ((c.tc : Thread Cert.InCdRefIdeal.nD Cert.InCdRefIdeal.τ).loc Cert.InCdRefIdeal.main_arg0)
      ∧ r.2.mem ((c.tc : Thread Cert.InCdRefIdeal.nD Cert.InCdRefIdeal.τ).loc Cert.InCdRefIdeal.main_arg1) = m ((c.tc : Thread Cert.InCdRefIdeal.nD Cert.InCdRefIdeal.τ).loc Cert.InCdRefIdeal.main_arg1)
      ∧ r.2.mem ((c.tc : Thread Cert.InCdRefIdeal.nD Cert.InCdRefIdeal.τ).loc Cert.InCdRefIdeal.main_arg2) = m ((c.tc : Thread Cert.InCdRefIdeal.nD Cert.InCdRefIdeal.τ).loc Cert.InCdRefIdeal.main_arg2))
      ∧ r.2.sem = fun _ => 0)

def quiescent_OutAb [hOutAb : Cert.OutAb.Facts] : Prop :=
  ∀ (m : (ℓ : Loc Cert.OutAb.nD Cert.OutAb.τ Cert.OutAb.sig) → Buf (Elt Bits) ℓ) (g : Dev Cert.OutAb.nD → PrngReg), Pre_OutAb m →
    θ_run (Cert.OutAb.defs (F := Bits)) (onTc (τ := Cert.OutAb.τ) (Cert.OutAb.main (F := Bits))) ⟨m, fun _ => 0, g⟩ (fun r => (∀ c : Dev Cert.OutAb.nD,
      r.2.mem ((c.tc : Thread Cert.OutAb.nD Cert.OutAb.τ).loc Cert.OutAb.main_arg0) = m ((c.tc : Thread Cert.OutAb.nD Cert.OutAb.τ).loc Cert.OutAb.main_arg0)
      ∧ r.2.mem ((c.tc : Thread Cert.OutAb.nD Cert.OutAb.τ).loc Cert.OutAb.main_arg1) = m ((c.tc : Thread Cert.OutAb.nD Cert.OutAb.τ).loc Cert.OutAb.main_arg1)
      ∧ r.2.mem ((c.tc : Thread Cert.OutAb.nD Cert.OutAb.τ).loc Cert.OutAb.main_arg2) = m ((c.tc : Thread Cert.OutAb.nD Cert.OutAb.τ).loc Cert.OutAb.main_arg2)
      ∧ r.2.mem ((c.tc : Thread Cert.OutAb.nD Cert.OutAb.τ).loc Cert.OutAb.main_arg3) = m ((c.tc : Thread Cert.OutAb.nD Cert.OutAb.τ).loc Cert.OutAb.main_arg3))
      ∧ r.2.sem = fun _ => 0)

def quiescent_OutAbIdeal [hOutAbIdeal : Cert.OutAbIdeal.Facts] : Prop :=
  ∀ (m : (ℓ : Loc Cert.OutAbIdeal.nD Cert.OutAbIdeal.τ Cert.OutAbIdeal.sig) → Buf (Elt Ideal) ℓ) (g : Dev Cert.OutAbIdeal.nD → PrngReg), Pre_OutAbIdeal m →
    θ_run (Cert.OutAbIdeal.defs (F := Ideal)) (onTc (τ := Cert.OutAbIdeal.τ) (Cert.OutAbIdeal.main (F := Ideal))) ⟨m, fun _ => 0, g⟩ (fun r => (∀ c : Dev Cert.OutAbIdeal.nD,
      r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
      ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
      ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2)
      ∧ r.2.mem ((c.tc : Thread Cert.OutAbIdeal.nD Cert.OutAbIdeal.τ).loc Cert.OutAbIdeal.main_arg3) = m ((c.tc : Thread Cert.OutAbIdeal.nD Cert.OutAbIdeal.τ).loc Cert.OutAbIdeal.main_arg3))
      ∧ r.2.sem = fun _ => 0)

def quiescent_OutAbRefIdeal [hOutAbRefIdeal : Cert.OutAbRefIdeal.Facts] : Prop :=
  ∀ (m : (ℓ : Loc Cert.OutAbRefIdeal.nD Cert.OutAbRefIdeal.τ Cert.OutAbRefIdeal.sig) → Buf (Elt Ideal) ℓ) (g : Dev Cert.OutAbRefIdeal.nD → PrngReg), Pre_OutAbRefIdeal m →
    θ_run (Cert.OutAbRefIdeal.defs (F := Ideal)) (onTc (τ := Cert.OutAbRefIdeal.τ) (Cert.OutAbRefIdeal.main (F := Ideal))) ⟨m, fun _ => 0, g⟩ (fun r => (∀ c : Dev Cert.OutAbRefIdeal.nD,
      r.2.mem ((c.tc : Thread Cert.OutAbRefIdeal.nD Cert.OutAbRefIdeal.τ).loc Cert.OutAbRefIdeal.main_arg0) = m ((c.tc : Thread Cert.OutAbRefIdeal.nD Cert.OutAbRefIdeal.τ).loc Cert.OutAbRefIdeal.main_arg0)
      ∧ r.2.mem ((c.tc : Thread Cert.OutAbRefIdeal.nD Cert.OutAbRefIdeal.τ).loc Cert.OutAbRefIdeal.main_arg1) = m ((c.tc : Thread Cert.OutAbRefIdeal.nD Cert.OutAbRefIdeal.τ).loc Cert.OutAbRefIdeal.main_arg1)
      ∧ r.2.mem ((c.tc : Thread Cert.OutAbRefIdeal.nD Cert.OutAbRefIdeal.τ).loc Cert.OutAbRefIdeal.main_arg2) = m ((c.tc : Thread Cert.OutAbRefIdeal.nD Cert.OutAbRefIdeal.τ).loc Cert.OutAbRefIdeal.main_arg2)
      ∧ r.2.mem ((c.tc : Thread Cert.OutAbRefIdeal.nD Cert.OutAbRefIdeal.τ).loc Cert.OutAbRefIdeal.main_arg3) = m ((c.tc : Thread Cert.OutAbRefIdeal.nD Cert.OutAbRefIdeal.τ).loc Cert.OutAbRefIdeal.main_arg3))
      ∧ r.2.sem = fun _ => 0)

def quiescent_OutCd [hOutCd : Cert.OutCd.Facts] : Prop :=
  ∀ (m : (ℓ : Loc Cert.OutCd.nD Cert.OutCd.τ Cert.OutCd.sig) → Buf (Elt Bits) ℓ) (g : Dev Cert.OutCd.nD → PrngReg), Pre_OutCd m →
    θ_run (Cert.OutCd.defs (F := Bits)) (onTc (τ := Cert.OutCd.τ) (Cert.OutCd.main (F := Bits))) ⟨m, fun _ => 0, g⟩ (fun r => (∀ c : Dev Cert.OutCd.nD,
      r.2.mem ((c.tc : Thread Cert.OutCd.nD Cert.OutCd.τ).loc Cert.OutCd.main_arg0) = m ((c.tc : Thread Cert.OutCd.nD Cert.OutCd.τ).loc Cert.OutCd.main_arg0)
      ∧ r.2.mem ((c.tc : Thread Cert.OutCd.nD Cert.OutCd.τ).loc Cert.OutCd.main_arg1) = m ((c.tc : Thread Cert.OutCd.nD Cert.OutCd.τ).loc Cert.OutCd.main_arg1)
      ∧ r.2.mem ((c.tc : Thread Cert.OutCd.nD Cert.OutCd.τ).loc Cert.OutCd.main_arg2) = m ((c.tc : Thread Cert.OutCd.nD Cert.OutCd.τ).loc Cert.OutCd.main_arg2))
      ∧ r.2.sem = fun _ => 0)

def quiescent_OutCdIdeal [hOutCdIdeal : Cert.OutCdIdeal.Facts] : Prop :=
  ∀ (m : (ℓ : Loc Cert.OutCdIdeal.nD Cert.OutCdIdeal.τ Cert.OutCdIdeal.sig) → Buf (Elt Ideal) ℓ) (g : Dev Cert.OutCdIdeal.nD → PrngReg), Pre_OutCdIdeal m →
    θ_run (Cert.OutCdIdeal.defs (F := Ideal)) (onTc (τ := Cert.OutCdIdeal.τ) (Cert.OutCdIdeal.main (F := Ideal))) ⟨m, fun _ => 0, g⟩ (fun r => (∀ c : Dev Cert.OutCdIdeal.nD,
      r.2.mem ((c.tc : Thread Cert.OutCdIdeal.nD Cert.OutCdIdeal.τ).loc Cert.OutCdIdeal.main_arg0) = m ((c.tc : Thread Cert.OutCdIdeal.nD Cert.OutCdIdeal.τ).loc Cert.OutCdIdeal.main_arg0)
      ∧ r.2.mem ((c.tc : Thread Cert.OutCdIdeal.nD Cert.OutCdIdeal.τ).loc Cert.OutCdIdeal.main_arg1) = m ((c.tc : Thread Cert.OutCdIdeal.nD Cert.OutCdIdeal.τ).loc Cert.OutCdIdeal.main_arg1)
      ∧ r.2.mem ((c.tc : Thread Cert.OutCdIdeal.nD Cert.OutCdIdeal.τ).loc Cert.OutCdIdeal.main_arg2) = m ((c.tc : Thread Cert.OutCdIdeal.nD Cert.OutCdIdeal.τ).loc Cert.OutCdIdeal.main_arg2))
      ∧ r.2.sem = fun _ => 0)

def quiescent_OutCdRefIdeal [hOutCdRefIdeal : Cert.OutCdRefIdeal.Facts] : Prop :=
  ∀ (m : (ℓ : Loc Cert.OutCdRefIdeal.nD Cert.OutCdRefIdeal.τ Cert.OutCdRefIdeal.sig) → Buf (Elt Ideal) ℓ) (g : Dev Cert.OutCdRefIdeal.nD → PrngReg), Pre_OutCdRefIdeal m →
    θ_run (Cert.OutCdRefIdeal.defs (F := Ideal)) (onTc (τ := Cert.OutCdRefIdeal.τ) (Cert.OutCdRefIdeal.main (F := Ideal))) ⟨m, fun _ => 0, g⟩ (fun r => (∀ c : Dev Cert.OutCdRefIdeal.nD,
      r.2.mem ((c.tc : Thread Cert.OutCdRefIdeal.nD Cert.OutCdRefIdeal.τ).loc Cert.OutCdRefIdeal.main_arg0) = m ((c.tc : Thread Cert.OutCdRefIdeal.nD Cert.OutCdRefIdeal.τ).loc Cert.OutCdRefIdeal.main_arg0)
      ∧ r.2.mem ((c.tc : Thread Cert.OutCdRefIdeal.nD Cert.OutCdRefIdeal.τ).loc Cert.OutCdRefIdeal.main_arg1) = m ((c.tc : Thread Cert.OutCdRefIdeal.nD Cert.OutCdRefIdeal.τ).loc Cert.OutCdRefIdeal.main_arg1)
      ∧ r.2.mem ((c.tc : Thread Cert.OutCdRefIdeal.nD Cert.OutCdRefIdeal.τ).loc Cert.OutCdRefIdeal.main_arg2) = m ((c.tc : Thread Cert.OutCdRefIdeal.nD Cert.OutCdRefIdeal.τ).loc Cert.OutCdRefIdeal.main_arg2))
      ∧ r.2.sem = fun _ => 0)

def quiescent_InAb [hInAb : Cert.InAb.Facts] : Prop :=
  ∀ (m : (ℓ : Loc Cert.InAb.nD Cert.InAb.τ Cert.InAb.sig) → Buf (Elt Bits) ℓ) (g : Dev Cert.InAb.nD → PrngReg), Pre_InAb m →
    θ_run (Cert.InAb.defs (F := Bits)) (onTc (τ := Cert.InAb.τ) (Cert.InAb.main (F := Bits))) ⟨m, fun _ => 0, g⟩ (fun r => (∀ c : Dev Cert.InAb.nD,
      r.2.mem ((c.tc : Thread Cert.InAb.nD Cert.InAb.τ).loc Cert.InAb.main_arg0) = m ((c.tc : Thread Cert.InAb.nD Cert.InAb.τ).loc Cert.InAb.main_arg0)
      ∧ r.2.mem ((c.tc : Thread Cert.InAb.nD Cert.InAb.τ).loc Cert.InAb.main_arg1) = m ((c.tc : Thread Cert.InAb.nD Cert.InAb.τ).loc Cert.InAb.main_arg1)
      ∧ r.2.mem ((c.tc : Thread Cert.InAb.nD Cert.InAb.τ).loc Cert.InAb.main_arg2) = m ((c.tc : Thread Cert.InAb.nD Cert.InAb.τ).loc Cert.InAb.main_arg2)
      ∧ r.2.mem ((c.tc : Thread Cert.InAb.nD Cert.InAb.τ).loc Cert.InAb.main_arg3) = m ((c.tc : Thread Cert.InAb.nD Cert.InAb.τ).loc Cert.InAb.main_arg3)
      ∧ r.2.mem ((c.tc : Thread Cert.InAb.nD Cert.InAb.τ).loc Cert.InAb.main_arg4) = m ((c.tc : Thread Cert.InAb.nD Cert.InAb.τ).loc Cert.InAb.main_arg4)
      ∧ r.2.mem ((c.tc : Thread Cert.InAb.nD Cert.InAb.τ).loc Cert.InAb.main_arg5) = m ((c.tc : Thread Cert.InAb.nD Cert.InAb.τ).loc Cert.InAb.main_arg5)
      ∧ r.2.mem ((c.tc : Thread Cert.InAb.nD Cert.InAb.τ).loc Cert.InAb.main_arg6) = m ((c.tc : Thread Cert.InAb.nD Cert.InAb.τ).loc Cert.InAb.main_arg6)
      ∧ r.2.mem ((c.tc : Thread Cert.InAb.nD Cert.InAb.τ).loc Cert.InAb.main_arg7) = m ((c.tc : Thread Cert.InAb.nD Cert.InAb.τ).loc Cert.InAb.main_arg7))
      ∧ r.2.sem = fun _ => 0)

def quiescent_InAbIdeal [hInAbIdeal : Cert.InAbIdeal.Facts] : Prop :=
  ∀ (m : (ℓ : Loc Cert.InAbIdeal.nD Cert.InAbIdeal.τ Cert.InAbIdeal.sig) → Buf (Elt Ideal) ℓ) (g : Dev Cert.InAbIdeal.nD → PrngReg), Pre_InAbIdeal m →
    θ_run (Cert.InAbIdeal.defs (F := Ideal)) (onTc (τ := Cert.InAbIdeal.τ) (Cert.InAbIdeal.main (F := Ideal))) ⟨m, fun _ => 0, g⟩ (fun r => (∀ c : Dev Cert.InAbIdeal.nD,
      r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
      ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1)
      ∧ r.2.mem ((c.tc : Thread Cert.InAbIdeal.nD Cert.InAbIdeal.τ).loc Cert.InAbIdeal.main_arg2) = m ((c.tc : Thread Cert.InAbIdeal.nD Cert.InAbIdeal.τ).loc Cert.InAbIdeal.main_arg2)
      ∧ r.2.mem ((c.tc : Thread Cert.InAbIdeal.nD Cert.InAbIdeal.τ).loc Cert.InAbIdeal.main_arg3) = m ((c.tc : Thread Cert.InAbIdeal.nD Cert.InAbIdeal.τ).loc Cert.InAbIdeal.main_arg3)
      ∧ r.2.mem ((c.tc : Thread Cert.InAbIdeal.nD Cert.InAbIdeal.τ).loc Cert.InAbIdeal.main_arg4) = m ((c.tc : Thread Cert.InAbIdeal.nD Cert.InAbIdeal.τ).loc Cert.InAbIdeal.main_arg4)
      ∧ r.2.mem ((c.tc : Thread Cert.InAbIdeal.nD Cert.InAbIdeal.τ).loc Cert.InAbIdeal.main_arg5) = m ((c.tc : Thread Cert.InAbIdeal.nD Cert.InAbIdeal.τ).loc Cert.InAbIdeal.main_arg5)
      ∧ r.2.mem ((c.tc : Thread Cert.InAbIdeal.nD Cert.InAbIdeal.τ).loc Cert.InAbIdeal.main_arg6) = m ((c.tc : Thread Cert.InAbIdeal.nD Cert.InAbIdeal.τ).loc Cert.InAbIdeal.main_arg6)
      ∧ r.2.mem ((c.tc : Thread Cert.InAbIdeal.nD Cert.InAbIdeal.τ).loc Cert.InAbIdeal.main_arg7) = m ((c.tc : Thread Cert.InAbIdeal.nD Cert.InAbIdeal.τ).loc Cert.InAbIdeal.main_arg7))
      ∧ r.2.sem = fun _ => 0)

def quiescent_InAbIdeal_pre_finite_ab [hInAbIdeal : Cert.InAbIdeal.Facts] [hPre_finite_ab : Cert.Pre_finite_ab.Facts] : Prop :=
  ∀ (m : (ℓ : Loc Cert.InAbIdeal.nD Cert.InAbIdeal.τ Cert.InAbIdeal.sig) → Buf (Elt Ideal) ℓ) (g : Dev Cert.InAbIdeal.nD → PrngReg), Pre_InAbIdeal_finite_ab m →
    θ_run (Cert.InAbIdeal.defs (F := Ideal)) (onTc (τ := Cert.InAbIdeal.τ) (Cert.InAbIdeal.main (F := Ideal))) ⟨m, fun _ => 0, g⟩ (fun r => (∀ c : Dev Cert.InAbIdeal.nD,
      r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
      ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1)
      ∧ r.2.mem ((c.tc : Thread Cert.InAbIdeal.nD Cert.InAbIdeal.τ).loc Cert.InAbIdeal.main_arg2) = m ((c.tc : Thread Cert.InAbIdeal.nD Cert.InAbIdeal.τ).loc Cert.InAbIdeal.main_arg2)
      ∧ r.2.mem ((c.tc : Thread Cert.InAbIdeal.nD Cert.InAbIdeal.τ).loc Cert.InAbIdeal.main_arg3) = m ((c.tc : Thread Cert.InAbIdeal.nD Cert.InAbIdeal.τ).loc Cert.InAbIdeal.main_arg3)
      ∧ r.2.mem ((c.tc : Thread Cert.InAbIdeal.nD Cert.InAbIdeal.τ).loc Cert.InAbIdeal.main_arg4) = m ((c.tc : Thread Cert.InAbIdeal.nD Cert.InAbIdeal.τ).loc Cert.InAbIdeal.main_arg4)
      ∧ r.2.mem ((c.tc : Thread Cert.InAbIdeal.nD Cert.InAbIdeal.τ).loc Cert.InAbIdeal.main_arg5) = m ((c.tc : Thread Cert.InAbIdeal.nD Cert.InAbIdeal.τ).loc Cert.InAbIdeal.main_arg5)
      ∧ r.2.mem ((c.tc : Thread Cert.InAbIdeal.nD Cert.InAbIdeal.τ).loc Cert.InAbIdeal.main_arg6) = m ((c.tc : Thread Cert.InAbIdeal.nD Cert.InAbIdeal.τ).loc Cert.InAbIdeal.main_arg6)
      ∧ r.2.mem ((c.tc : Thread Cert.InAbIdeal.nD Cert.InAbIdeal.τ).loc Cert.InAbIdeal.main_arg7) = m ((c.tc : Thread Cert.InAbIdeal.nD Cert.InAbIdeal.τ).loc Cert.InAbIdeal.main_arg7))
      ∧ r.2.sem = fun _ => 0)

def quiescent_InAbRefIdeal [hInAbRefIdeal : Cert.InAbRefIdeal.Facts] : Prop :=
  ∀ (m : (ℓ : Loc Cert.InAbRefIdeal.nD Cert.InAbRefIdeal.τ Cert.InAbRefIdeal.sig) → Buf (Elt Ideal) ℓ) (g : Dev Cert.InAbRefIdeal.nD → PrngReg), Pre_InAbRefIdeal m →
    θ_run (Cert.InAbRefIdeal.defs (F := Ideal)) (onTc (τ := Cert.InAbRefIdeal.τ) (Cert.InAbRefIdeal.main (F := Ideal))) ⟨m, fun _ => 0, g⟩ (fun r => (∀ c : Dev Cert.InAbRefIdeal.nD,
      r.2.mem ((c.tc : Thread Cert.InAbRefIdeal.nD Cert.InAbRefIdeal.τ).loc Cert.InAbRefIdeal.main_arg0) = m ((c.tc : Thread Cert.InAbRefIdeal.nD Cert.InAbRefIdeal.τ).loc Cert.InAbRefIdeal.main_arg0)
      ∧ r.2.mem ((c.tc : Thread Cert.InAbRefIdeal.nD Cert.InAbRefIdeal.τ).loc Cert.InAbRefIdeal.main_arg1) = m ((c.tc : Thread Cert.InAbRefIdeal.nD Cert.InAbRefIdeal.τ).loc Cert.InAbRefIdeal.main_arg1)
      ∧ r.2.mem ((c.tc : Thread Cert.InAbRefIdeal.nD Cert.InAbRefIdeal.τ).loc Cert.InAbRefIdeal.main_arg2) = m ((c.tc : Thread Cert.InAbRefIdeal.nD Cert.InAbRefIdeal.τ).loc Cert.InAbRefIdeal.main_arg2)
      ∧ r.2.mem ((c.tc : Thread Cert.InAbRefIdeal.nD Cert.InAbRefIdeal.τ).loc Cert.InAbRefIdeal.main_arg3) = m ((c.tc : Thread Cert.InAbRefIdeal.nD Cert.InAbRefIdeal.τ).loc Cert.InAbRefIdeal.main_arg3)
      ∧ r.2.mem ((c.tc : Thread Cert.InAbRefIdeal.nD Cert.InAbRefIdeal.τ).loc Cert.InAbRefIdeal.main_arg4) = m ((c.tc : Thread Cert.InAbRefIdeal.nD Cert.InAbRefIdeal.τ).loc Cert.InAbRefIdeal.main_arg4)
      ∧ r.2.mem ((c.tc : Thread Cert.InAbRefIdeal.nD Cert.InAbRefIdeal.τ).loc Cert.InAbRefIdeal.main_arg5) = m ((c.tc : Thread Cert.InAbRefIdeal.nD Cert.InAbRefIdeal.τ).loc Cert.InAbRefIdeal.main_arg5)
      ∧ r.2.mem ((c.tc : Thread Cert.InAbRefIdeal.nD Cert.InAbRefIdeal.τ).loc Cert.InAbRefIdeal.main_arg6) = m ((c.tc : Thread Cert.InAbRefIdeal.nD Cert.InAbRefIdeal.τ).loc Cert.InAbRefIdeal.main_arg6)
      ∧ r.2.mem ((c.tc : Thread Cert.InAbRefIdeal.nD Cert.InAbRefIdeal.τ).loc Cert.InAbRefIdeal.main_arg7) = m ((c.tc : Thread Cert.InAbRefIdeal.nD Cert.InAbRefIdeal.τ).loc Cert.InAbRefIdeal.main_arg7))
      ∧ r.2.sem = fun _ => 0)

def quiescent_InAbRefIdeal_pre_finite_ab [hInAbRefIdeal : Cert.InAbRefIdeal.Facts] [hPre_finite_ab : Cert.Pre_finite_ab.Facts] : Prop :=
  ∀ (m : (ℓ : Loc Cert.InAbRefIdeal.nD Cert.InAbRefIdeal.τ Cert.InAbRefIdeal.sig) → Buf (Elt Ideal) ℓ) (g : Dev Cert.InAbRefIdeal.nD → PrngReg), Pre_InAbRefIdeal_finite_ab m →
    θ_run (Cert.InAbRefIdeal.defs (F := Ideal)) (onTc (τ := Cert.InAbRefIdeal.τ) (Cert.InAbRefIdeal.main (F := Ideal))) ⟨m, fun _ => 0, g⟩ (fun r => (∀ c : Dev Cert.InAbRefIdeal.nD,
      r.2.mem ((c.tc : Thread Cert.InAbRefIdeal.nD Cert.InAbRefIdeal.τ).loc Cert.InAbRefIdeal.main_arg0) = m ((c.tc : Thread Cert.InAbRefIdeal.nD Cert.InAbRefIdeal.τ).loc Cert.InAbRefIdeal.main_arg0)
      ∧ r.2.mem ((c.tc : Thread Cert.InAbRefIdeal.nD Cert.InAbRefIdeal.τ).loc Cert.InAbRefIdeal.main_arg1) = m ((c.tc : Thread Cert.InAbRefIdeal.nD Cert.InAbRefIdeal.τ).loc Cert.InAbRefIdeal.main_arg1)
      ∧ r.2.mem ((c.tc : Thread Cert.InAbRefIdeal.nD Cert.InAbRefIdeal.τ).loc Cert.InAbRefIdeal.main_arg2) = m ((c.tc : Thread Cert.InAbRefIdeal.nD Cert.InAbRefIdeal.τ).loc Cert.InAbRefIdeal.main_arg2)
      ∧ r.2.mem ((c.tc : Thread Cert.InAbRefIdeal.nD Cert.InAbRefIdeal.τ).loc Cert.InAbRefIdeal.main_arg3) = m ((c.tc : Thread Cert.InAbRefIdeal.nD Cert.InAbRefIdeal.τ).loc Cert.InAbRefIdeal.main_arg3)
      ∧ r.2.mem ((c.tc : Thread Cert.InAbRefIdeal.nD Cert.InAbRefIdeal.τ).loc Cert.InAbRefIdeal.main_arg4) = m ((c.tc : Thread Cert.InAbRefIdeal.nD Cert.InAbRefIdeal.τ).loc Cert.InAbRefIdeal.main_arg4)
      ∧ r.2.mem ((c.tc : Thread Cert.InAbRefIdeal.nD Cert.InAbRefIdeal.τ).loc Cert.InAbRefIdeal.main_arg5) = m ((c.tc : Thread Cert.InAbRefIdeal.nD Cert.InAbRefIdeal.τ).loc Cert.InAbRefIdeal.main_arg5)
      ∧ r.2.mem ((c.tc : Thread Cert.InAbRefIdeal.nD Cert.InAbRefIdeal.τ).loc Cert.InAbRefIdeal.main_arg6) = m ((c.tc : Thread Cert.InAbRefIdeal.nD Cert.InAbRefIdeal.τ).loc Cert.InAbRefIdeal.main_arg6)
      ∧ r.2.mem ((c.tc : Thread Cert.InAbRefIdeal.nD Cert.InAbRefIdeal.τ).loc Cert.InAbRefIdeal.main_arg7) = m ((c.tc : Thread Cert.InAbRefIdeal.nD Cert.InAbRefIdeal.τ).loc Cert.InAbRefIdeal.main_arg7))
      ∧ r.2.sem = fun _ => 0)

def quiescent_InAbS [hInAbS : Cert.InAbS.Facts] : Prop :=
  ∀ (m : (ℓ : Loc Cert.InAbS.nD Cert.InAbS.τ Cert.InAbS.sig) → Buf (Elt Bits) ℓ) (g : Dev Cert.InAbS.nD → PrngReg), Pre_InAbS m →
    θ_run (Cert.InAbS.defs (F := Bits)) (onTc (τ := Cert.InAbS.τ) (Cert.InAbS.main (F := Bits))) ⟨m, fun _ => 0, g⟩ (fun r => (∀ c : Dev Cert.InAbS.nD,
      r.2.mem ((c.tc : Thread Cert.InAbS.nD Cert.InAbS.τ).loc Cert.InAbS.main_arg0) = m ((c.tc : Thread Cert.InAbS.nD Cert.InAbS.τ).loc Cert.InAbS.main_arg0)
      ∧ r.2.mem ((c.tc : Thread Cert.InAbS.nD Cert.InAbS.τ).loc Cert.InAbS.main_arg1) = m ((c.tc : Thread Cert.InAbS.nD Cert.InAbS.τ).loc Cert.InAbS.main_arg1)
      ∧ r.2.mem ((c.tc : Thread Cert.InAbS.nD Cert.InAbS.τ).loc Cert.InAbS.main_arg2) = m ((c.tc : Thread Cert.InAbS.nD Cert.InAbS.τ).loc Cert.InAbS.main_arg2)
      ∧ r.2.mem ((c.tc : Thread Cert.InAbS.nD Cert.InAbS.τ).loc Cert.InAbS.main_arg3) = m ((c.tc : Thread Cert.InAbS.nD Cert.InAbS.τ).loc Cert.InAbS.main_arg3)
      ∧ r.2.mem ((c.tc : Thread Cert.InAbS.nD Cert.InAbS.τ).loc Cert.InAbS.main_arg4) = m ((c.tc : Thread Cert.InAbS.nD Cert.InAbS.τ).loc Cert.InAbS.main_arg4)
      ∧ r.2.mem ((c.tc : Thread Cert.InAbS.nD Cert.InAbS.τ).loc Cert.InAbS.main_arg5) = m ((c.tc : Thread Cert.InAbS.nD Cert.InAbS.τ).loc Cert.InAbS.main_arg5)
      ∧ r.2.mem ((c.tc : Thread Cert.InAbS.nD Cert.InAbS.τ).loc Cert.InAbS.main_arg6) = m ((c.tc : Thread Cert.InAbS.nD Cert.InAbS.τ).loc Cert.InAbS.main_arg6))
      ∧ r.2.sem = fun _ => 0)

def quiescent_InAbSIdeal [hInAbSIdeal : Cert.InAbSIdeal.Facts] : Prop :=
  ∀ (m : (ℓ : Loc Cert.InAbSIdeal.nD Cert.InAbSIdeal.τ Cert.InAbSIdeal.sig) → Buf (Elt Ideal) ℓ) (g : Dev Cert.InAbSIdeal.nD → PrngReg), Pre_InAbSIdeal m →
    θ_run (Cert.InAbSIdeal.defs (F := Ideal)) (onTc (τ := Cert.InAbSIdeal.τ) (Cert.InAbSIdeal.main (F := Ideal))) ⟨m, fun _ => 0, g⟩ (fun r => (∀ c : Dev Cert.InAbSIdeal.nD,
      r.2.mem ((c.tc : Thread Cert.InAbSIdeal.nD Cert.InAbSIdeal.τ).loc Cert.InAbSIdeal.main_arg0) = m ((c.tc : Thread Cert.InAbSIdeal.nD Cert.InAbSIdeal.τ).loc Cert.InAbSIdeal.main_arg0)
      ∧ r.2.mem ((c.tc : Thread Cert.InAbSIdeal.nD Cert.InAbSIdeal.τ).loc Cert.InAbSIdeal.main_arg1) = m ((c.tc : Thread Cert.InAbSIdeal.nD Cert.InAbSIdeal.τ).loc Cert.InAbSIdeal.main_arg1)
      ∧ r.2.mem ((c.tc : Thread Cert.InAbSIdeal.nD Cert.InAbSIdeal.τ).loc Cert.InAbSIdeal.main_arg2) = m ((c.tc : Thread Cert.InAbSIdeal.nD Cert.InAbSIdeal.τ).loc Cert.InAbSIdeal.main_arg2)
      ∧ r.2.mem ((c.tc : Thread Cert.InAbSIdeal.nD Cert.InAbSIdeal.τ).loc Cert.InAbSIdeal.main_arg3) = m ((c.tc : Thread Cert.InAbSIdeal.nD Cert.InAbSIdeal.τ).loc Cert.InAbSIdeal.main_arg3)
      ∧ r.2.mem ((c.tc : Thread Cert.InAbSIdeal.nD Cert.InAbSIdeal.τ).loc Cert.InAbSIdeal.main_arg4) = m ((c.tc : Thread Cert.InAbSIdeal.nD Cert.InAbSIdeal.τ).loc Cert.InAbSIdeal.main_arg4)
      ∧ r.2.mem ((c.tc : Thread Cert.InAbSIdeal.nD Cert.InAbSIdeal.τ).loc Cert.InAbSIdeal.main_arg5) = m ((c.tc : Thread Cert.InAbSIdeal.nD Cert.InAbSIdeal.τ).loc Cert.InAbSIdeal.main_arg5)
      ∧ r.2.mem ((c.tc : Thread Cert.InAbSIdeal.nD Cert.InAbSIdeal.τ).loc Cert.InAbSIdeal.main_arg6) = m ((c.tc : Thread Cert.InAbSIdeal.nD Cert.InAbSIdeal.τ).loc Cert.InAbSIdeal.main_arg6))
      ∧ r.2.sem = fun _ => 0)

def quiescent_InAbSIdeal_pre_finite_ab_s [hInAbSIdeal : Cert.InAbSIdeal.Facts] [hPre_finite_ab_s : Cert.Pre_finite_ab_s.Facts] : Prop :=
  ∀ (m : (ℓ : Loc Cert.InAbSIdeal.nD Cert.InAbSIdeal.τ Cert.InAbSIdeal.sig) → Buf (Elt Ideal) ℓ) (g : Dev Cert.InAbSIdeal.nD → PrngReg), Pre_InAbSIdeal_finite_ab_s m →
    θ_run (Cert.InAbSIdeal.defs (F := Ideal)) (onTc (τ := Cert.InAbSIdeal.τ) (Cert.InAbSIdeal.main (F := Ideal))) ⟨m, fun _ => 0, g⟩ (fun r => (∀ c : Dev Cert.InAbSIdeal.nD,
      r.2.mem ((c.tc : Thread Cert.InAbSIdeal.nD Cert.InAbSIdeal.τ).loc Cert.InAbSIdeal.main_arg0) = m ((c.tc : Thread Cert.InAbSIdeal.nD Cert.InAbSIdeal.τ).loc Cert.InAbSIdeal.main_arg0)
      ∧ r.2.mem ((c.tc : Thread Cert.InAbSIdeal.nD Cert.InAbSIdeal.τ).loc Cert.InAbSIdeal.main_arg1) = m ((c.tc : Thread Cert.InAbSIdeal.nD Cert.InAbSIdeal.τ).loc Cert.InAbSIdeal.main_arg1)
      ∧ r.2.mem ((c.tc : Thread Cert.InAbSIdeal.nD Cert.InAbSIdeal.τ).loc Cert.InAbSIdeal.main_arg2) = m ((c.tc : Thread Cert.InAbSIdeal.nD Cert.InAbSIdeal.τ).loc Cert.InAbSIdeal.main_arg2)
      ∧ r.2.mem ((c.tc : Thread Cert.InAbSIdeal.nD Cert.InAbSIdeal.τ).loc Cert.InAbSIdeal.main_arg3) = m ((c.tc : Thread Cert.InAbSIdeal.nD Cert.InAbSIdeal.τ).loc Cert.InAbSIdeal.main_arg3)
      ∧ r.2.mem ((c.tc : Thread Cert.InAbSIdeal.nD Cert.InAbSIdeal.τ).loc Cert.InAbSIdeal.main_arg4) = m ((c.tc : Thread Cert.InAbSIdeal.nD Cert.InAbSIdeal.τ).loc Cert.InAbSIdeal.main_arg4)
      ∧ r.2.mem ((c.tc : Thread Cert.InAbSIdeal.nD Cert.InAbSIdeal.τ).loc Cert.InAbSIdeal.main_arg5) = m ((c.tc : Thread Cert.InAbSIdeal.nD Cert.InAbSIdeal.τ).loc Cert.InAbSIdeal.main_arg5)
      ∧ r.2.mem ((c.tc : Thread Cert.InAbSIdeal.nD Cert.InAbSIdeal.τ).loc Cert.InAbSIdeal.main_arg6) = m ((c.tc : Thread Cert.InAbSIdeal.nD Cert.InAbSIdeal.τ).loc Cert.InAbSIdeal.main_arg6))
      ∧ r.2.sem = fun _ => 0)

def quiescent_InAbSRefIdeal [hInAbSRefIdeal : Cert.InAbSRefIdeal.Facts] : Prop :=
  ∀ (m : (ℓ : Loc Cert.InAbSRefIdeal.nD Cert.InAbSRefIdeal.τ Cert.InAbSRefIdeal.sig) → Buf (Elt Ideal) ℓ) (g : Dev Cert.InAbSRefIdeal.nD → PrngReg), Pre_InAbSRefIdeal m →
    θ_run (Cert.InAbSRefIdeal.defs (F := Ideal)) (onTc (τ := Cert.InAbSRefIdeal.τ) (Cert.InAbSRefIdeal.main (F := Ideal))) ⟨m, fun _ => 0, g⟩ (fun r => (∀ c : Dev Cert.InAbSRefIdeal.nD,
      r.2.mem ((c.tc : Thread Cert.InAbSRefIdeal.nD Cert.InAbSRefIdeal.τ).loc Cert.InAbSRefIdeal.main_arg0) = m ((c.tc : Thread Cert.InAbSRefIdeal.nD Cert.InAbSRefIdeal.τ).loc Cert.InAbSRefIdeal.main_arg0)
      ∧ r.2.mem ((c.tc : Thread Cert.InAbSRefIdeal.nD Cert.InAbSRefIdeal.τ).loc Cert.InAbSRefIdeal.main_arg1) = m ((c.tc : Thread Cert.InAbSRefIdeal.nD Cert.InAbSRefIdeal.τ).loc Cert.InAbSRefIdeal.main_arg1)
      ∧ r.2.mem ((c.tc : Thread Cert.InAbSRefIdeal.nD Cert.InAbSRefIdeal.τ).loc Cert.InAbSRefIdeal.main_arg2) = m ((c.tc : Thread Cert.InAbSRefIdeal.nD Cert.InAbSRefIdeal.τ).loc Cert.InAbSRefIdeal.main_arg2)
      ∧ r.2.mem ((c.tc : Thread Cert.InAbSRefIdeal.nD Cert.InAbSRefIdeal.τ).loc Cert.InAbSRefIdeal.main_arg3) = m ((c.tc : Thread Cert.InAbSRefIdeal.nD Cert.InAbSRefIdeal.τ).loc Cert.InAbSRefIdeal.main_arg3)
      ∧ r.2.mem ((c.tc : Thread Cert.InAbSRefIdeal.nD Cert.InAbSRefIdeal.τ).loc Cert.InAbSRefIdeal.main_arg4) = m ((c.tc : Thread Cert.InAbSRefIdeal.nD Cert.InAbSRefIdeal.τ).loc Cert.InAbSRefIdeal.main_arg4)
      ∧ r.2.mem ((c.tc : Thread Cert.InAbSRefIdeal.nD Cert.InAbSRefIdeal.τ).loc Cert.InAbSRefIdeal.main_arg5) = m ((c.tc : Thread Cert.InAbSRefIdeal.nD Cert.InAbSRefIdeal.τ).loc Cert.InAbSRefIdeal.main_arg5)
      ∧ r.2.mem ((c.tc : Thread Cert.InAbSRefIdeal.nD Cert.InAbSRefIdeal.τ).loc Cert.InAbSRefIdeal.main_arg6) = m ((c.tc : Thread Cert.InAbSRefIdeal.nD Cert.InAbSRefIdeal.τ).loc Cert.InAbSRefIdeal.main_arg6))
      ∧ r.2.sem = fun _ => 0)

def quiescent_InAbSRefIdeal_pre_finite_ab_s [hInAbSRefIdeal : Cert.InAbSRefIdeal.Facts] [hPre_finite_ab_s : Cert.Pre_finite_ab_s.Facts] : Prop :=
  ∀ (m : (ℓ : Loc Cert.InAbSRefIdeal.nD Cert.InAbSRefIdeal.τ Cert.InAbSRefIdeal.sig) → Buf (Elt Ideal) ℓ) (g : Dev Cert.InAbSRefIdeal.nD → PrngReg), Pre_InAbSRefIdeal_finite_ab_s m →
    θ_run (Cert.InAbSRefIdeal.defs (F := Ideal)) (onTc (τ := Cert.InAbSRefIdeal.τ) (Cert.InAbSRefIdeal.main (F := Ideal))) ⟨m, fun _ => 0, g⟩ (fun r => (∀ c : Dev Cert.InAbSRefIdeal.nD,
      r.2.mem ((c.tc : Thread Cert.InAbSRefIdeal.nD Cert.InAbSRefIdeal.τ).loc Cert.InAbSRefIdeal.main_arg0) = m ((c.tc : Thread Cert.InAbSRefIdeal.nD Cert.InAbSRefIdeal.τ).loc Cert.InAbSRefIdeal.main_arg0)
      ∧ r.2.mem ((c.tc : Thread Cert.InAbSRefIdeal.nD Cert.InAbSRefIdeal.τ).loc Cert.InAbSRefIdeal.main_arg1) = m ((c.tc : Thread Cert.InAbSRefIdeal.nD Cert.InAbSRefIdeal.τ).loc Cert.InAbSRefIdeal.main_arg1)
      ∧ r.2.mem ((c.tc : Thread Cert.InAbSRefIdeal.nD Cert.InAbSRefIdeal.τ).loc Cert.InAbSRefIdeal.main_arg2) = m ((c.tc : Thread Cert.InAbSRefIdeal.nD Cert.InAbSRefIdeal.τ).loc Cert.InAbSRefIdeal.main_arg2)
      ∧ r.2.mem ((c.tc : Thread Cert.InAbSRefIdeal.nD Cert.InAbSRefIdeal.τ).loc Cert.InAbSRefIdeal.main_arg3) = m ((c.tc : Thread Cert.InAbSRefIdeal.nD Cert.InAbSRefIdeal.τ).loc Cert.InAbSRefIdeal.main_arg3)
      ∧ r.2.mem ((c.tc : Thread Cert.InAbSRefIdeal.nD Cert.InAbSRefIdeal.τ).loc Cert.InAbSRefIdeal.main_arg4) = m ((c.tc : Thread Cert.InAbSRefIdeal.nD Cert.InAbSRefIdeal.τ).loc Cert.InAbSRefIdeal.main_arg4)
      ∧ r.2.mem ((c.tc : Thread Cert.InAbSRefIdeal.nD Cert.InAbSRefIdeal.τ).loc Cert.InAbSRefIdeal.main_arg5) = m ((c.tc : Thread Cert.InAbSRefIdeal.nD Cert.InAbSRefIdeal.τ).loc Cert.InAbSRefIdeal.main_arg5)
      ∧ r.2.mem ((c.tc : Thread Cert.InAbSRefIdeal.nD Cert.InAbSRefIdeal.τ).loc Cert.InAbSRefIdeal.main_arg6) = m ((c.tc : Thread Cert.InAbSRefIdeal.nD Cert.InAbSRefIdeal.τ).loc Cert.InAbSRefIdeal.main_arg6))
      ∧ r.2.sem = fun _ => 0)

def quiescent_MlpFinalS [hMlpFinalS : Cert.MlpFinalS.Facts] : Prop :=
  ∀ (m : (ℓ : Loc Cert.MlpFinalS.nD Cert.MlpFinalS.τ Cert.MlpFinalS.sig) → Buf (Elt Bits) ℓ) (g : Dev Cert.MlpFinalS.nD → PrngReg), Pre_MlpFinalS m →
    θ_run (Cert.MlpFinalS.defs (F := Bits)) (onTc (τ := Cert.MlpFinalS.τ) (Cert.MlpFinalS.main (F := Bits))) ⟨m, fun _ => 0, g⟩ (fun r => (∀ c : Dev Cert.MlpFinalS.nD,
      r.2.mem ((c.tc : Thread Cert.MlpFinalS.nD Cert.MlpFinalS.τ).loc Cert.MlpFinalS.main_arg0) = m ((c.tc : Thread Cert.MlpFinalS.nD Cert.MlpFinalS.τ).loc Cert.MlpFinalS.main_arg0)
      ∧ r.2.mem ((c.tc : Thread Cert.MlpFinalS.nD Cert.MlpFinalS.τ).loc Cert.MlpFinalS.main_arg1) = m ((c.tc : Thread Cert.MlpFinalS.nD Cert.MlpFinalS.τ).loc Cert.MlpFinalS.main_arg1)
      ∧ r.2.mem ((c.tc : Thread Cert.MlpFinalS.nD Cert.MlpFinalS.τ).loc Cert.MlpFinalS.main_arg2) = m ((c.tc : Thread Cert.MlpFinalS.nD Cert.MlpFinalS.τ).loc Cert.MlpFinalS.main_arg2)
      ∧ r.2.mem ((c.tc : Thread Cert.MlpFinalS.nD Cert.MlpFinalS.τ).loc Cert.MlpFinalS.main_arg3) = m ((c.tc : Thread Cert.MlpFinalS.nD Cert.MlpFinalS.τ).loc Cert.MlpFinalS.main_arg3)
      ∧ r.2.mem ((c.tc : Thread Cert.MlpFinalS.nD Cert.MlpFinalS.τ).loc Cert.MlpFinalS.main_arg4) = m ((c.tc : Thread Cert.MlpFinalS.nD Cert.MlpFinalS.τ).loc Cert.MlpFinalS.main_arg4))
      ∧ r.2.sem = fun _ => 0)

def quiescent_MlpFinalSIdeal [hMlpFinalSIdeal : Cert.MlpFinalSIdeal.Facts] : Prop :=
  ∀ (m : (ℓ : Loc Cert.MlpFinalSIdeal.nD Cert.MlpFinalSIdeal.τ Cert.MlpFinalSIdeal.sig) → Buf (Elt Ideal) ℓ) (g : Dev Cert.MlpFinalSIdeal.nD → PrngReg), Pre_MlpFinalSIdeal m →
    θ_run (Cert.MlpFinalSIdeal.defs (F := Ideal)) (onTc (τ := Cert.MlpFinalSIdeal.τ) (Cert.MlpFinalSIdeal.main (F := Ideal))) ⟨m, fun _ => 0, g⟩ (fun r => (∀ c : Dev Cert.MlpFinalSIdeal.nD,
      r.2.mem ((c.tc : Thread Cert.MlpFinalSIdeal.nD Cert.MlpFinalSIdeal.τ).loc Cert.MlpFinalSIdeal.main_arg0) = m ((c.tc : Thread Cert.MlpFinalSIdeal.nD Cert.MlpFinalSIdeal.τ).loc Cert.MlpFinalSIdeal.main_arg0)
      ∧ r.2.mem ((c.tc : Thread Cert.MlpFinalSIdeal.nD Cert.MlpFinalSIdeal.τ).loc Cert.MlpFinalSIdeal.main_arg1) = m ((c.tc : Thread Cert.MlpFinalSIdeal.nD Cert.MlpFinalSIdeal.τ).loc Cert.MlpFinalSIdeal.main_arg1)
      ∧ r.2.mem ((c.tc : Thread Cert.MlpFinalSIdeal.nD Cert.MlpFinalSIdeal.τ).loc Cert.MlpFinalSIdeal.main_arg2) = m ((c.tc : Thread Cert.MlpFinalSIdeal.nD Cert.MlpFinalSIdeal.τ).loc Cert.MlpFinalSIdeal.main_arg2)
      ∧ r.2.mem ((c.tc : Thread Cert.MlpFinalSIdeal.nD Cert.MlpFinalSIdeal.τ).loc Cert.MlpFinalSIdeal.main_arg3) = m ((c.tc : Thread Cert.MlpFinalSIdeal.nD Cert.MlpFinalSIdeal.τ).loc Cert.MlpFinalSIdeal.main_arg3)
      ∧ r.2.mem ((c.tc : Thread Cert.MlpFinalSIdeal.nD Cert.MlpFinalSIdeal.τ).loc Cert.MlpFinalSIdeal.main_arg4) = m ((c.tc : Thread Cert.MlpFinalSIdeal.nD Cert.MlpFinalSIdeal.τ).loc Cert.MlpFinalSIdeal.main_arg4))
      ∧ r.2.sem = fun _ => 0)

def quiescent_MlpFinalSRefIdeal [hMlpFinalSRefIdeal : Cert.MlpFinalSRefIdeal.Facts] : Prop :=
  ∀ (m : (ℓ : Loc Cert.MlpFinalSRefIdeal.nD Cert.MlpFinalSRefIdeal.τ Cert.MlpFinalSRefIdeal.sig) → Buf (Elt Ideal) ℓ) (g : Dev Cert.MlpFinalSRefIdeal.nD → PrngReg), Pre_MlpFinalSRefIdeal m →
    θ_run (Cert.MlpFinalSRefIdeal.defs (F := Ideal)) (onTc (τ := Cert.MlpFinalSRefIdeal.τ) (Cert.MlpFinalSRefIdeal.main (F := Ideal))) ⟨m, fun _ => 0, g⟩ (fun r => (∀ c : Dev Cert.MlpFinalSRefIdeal.nD,
      r.2.mem ((c.tc : Thread Cert.MlpFinalSRefIdeal.nD Cert.MlpFinalSRefIdeal.τ).loc Cert.MlpFinalSRefIdeal.main_arg0) = m ((c.tc : Thread Cert.MlpFinalSRefIdeal.nD Cert.MlpFinalSRefIdeal.τ).loc Cert.MlpFinalSRefIdeal.main_arg0)
      ∧ r.2.mem ((c.tc : Thread Cert.MlpFinalSRefIdeal.nD Cert.MlpFinalSRefIdeal.τ).loc Cert.MlpFinalSRefIdeal.main_arg1) = m ((c.tc : Thread Cert.MlpFinalSRefIdeal.nD Cert.MlpFinalSRefIdeal.τ).loc Cert.MlpFinalSRefIdeal.main_arg1)
      ∧ r.2.mem ((c.tc : Thread Cert.MlpFinalSRefIdeal.nD Cert.MlpFinalSRefIdeal.τ).loc Cert.MlpFinalSRefIdeal.main_arg2) = m ((c.tc : Thread Cert.MlpFinalSRefIdeal.nD Cert.MlpFinalSRefIdeal.τ).loc Cert.MlpFinalSRefIdeal.main_arg2)
      ∧ r.2.mem ((c.tc : Thread Cert.MlpFinalSRefIdeal.nD Cert.MlpFinalSRefIdeal.τ).loc Cert.MlpFinalSRefIdeal.main_arg3) = m ((c.tc : Thread Cert.MlpFinalSRefIdeal.nD Cert.MlpFinalSRefIdeal.τ).loc Cert.MlpFinalSRefIdeal.main_arg3)
      ∧ r.2.mem ((c.tc : Thread Cert.MlpFinalSRefIdeal.nD Cert.MlpFinalSRefIdeal.τ).loc Cert.MlpFinalSRefIdeal.main_arg4) = m ((c.tc : Thread Cert.MlpFinalSRefIdeal.nD Cert.MlpFinalSRefIdeal.τ).loc Cert.MlpFinalSRefIdeal.main_arg4))
      ∧ r.2.sem = fun _ => 0)

def quiescent_InCdS [hInCdS : Cert.InCdS.Facts] : Prop :=
  ∀ (m : (ℓ : Loc Cert.InCdS.nD Cert.InCdS.τ Cert.InCdS.sig) → Buf (Elt Bits) ℓ) (g : Dev Cert.InCdS.nD → PrngReg), Pre_InCdS m →
    θ_run (Cert.InCdS.defs (F := Bits)) (onTc (τ := Cert.InCdS.τ) (Cert.InCdS.main (F := Bits))) ⟨m, fun _ => 0, g⟩ (fun r => (∀ c : Dev Cert.InCdS.nD,
      r.2.mem ((c.tc : Thread Cert.InCdS.nD Cert.InCdS.τ).loc Cert.InCdS.main_arg0) = m ((c.tc : Thread Cert.InCdS.nD Cert.InCdS.τ).loc Cert.InCdS.main_arg0)
      ∧ r.2.mem ((c.tc : Thread Cert.InCdS.nD Cert.InCdS.τ).loc Cert.InCdS.main_arg1) = m ((c.tc : Thread Cert.InCdS.nD Cert.InCdS.τ).loc Cert.InCdS.main_arg1)
      ∧ r.2.mem ((c.tc : Thread Cert.InCdS.nD Cert.InCdS.τ).loc Cert.InCdS.main_arg2) = m ((c.tc : Thread Cert.InCdS.nD Cert.InCdS.τ).loc Cert.InCdS.main_arg2))
      ∧ r.2.sem = fun _ => 0)

def quiescent_InCdSIdeal [hInCdSIdeal : Cert.InCdSIdeal.Facts] : Prop :=
  ∀ (m : (ℓ : Loc Cert.InCdSIdeal.nD Cert.InCdSIdeal.τ Cert.InCdSIdeal.sig) → Buf (Elt Ideal) ℓ) (g : Dev Cert.InCdSIdeal.nD → PrngReg), Pre_InCdSIdeal m →
    θ_run (Cert.InCdSIdeal.defs (F := Ideal)) (onTc (τ := Cert.InCdSIdeal.τ) (Cert.InCdSIdeal.main (F := Ideal))) ⟨m, fun _ => 0, g⟩ (fun r => (∀ c : Dev Cert.InCdSIdeal.nD,
      r.2.mem ((c.tc : Thread Cert.InCdSIdeal.nD Cert.InCdSIdeal.τ).loc Cert.InCdSIdeal.main_arg0) = m ((c.tc : Thread Cert.InCdSIdeal.nD Cert.InCdSIdeal.τ).loc Cert.InCdSIdeal.main_arg0)
      ∧ r.2.mem ((c.tc : Thread Cert.InCdSIdeal.nD Cert.InCdSIdeal.τ).loc Cert.InCdSIdeal.main_arg1) = m ((c.tc : Thread Cert.InCdSIdeal.nD Cert.InCdSIdeal.τ).loc Cert.InCdSIdeal.main_arg1)
      ∧ r.2.mem ((c.tc : Thread Cert.InCdSIdeal.nD Cert.InCdSIdeal.τ).loc Cert.InCdSIdeal.main_arg2) = m ((c.tc : Thread Cert.InCdSIdeal.nD Cert.InCdSIdeal.τ).loc Cert.InCdSIdeal.main_arg2))
      ∧ r.2.sem = fun _ => 0)

def quiescent_InCdSRefIdeal [hInCdSRefIdeal : Cert.InCdSRefIdeal.Facts] : Prop :=
  ∀ (m : (ℓ : Loc Cert.InCdSRefIdeal.nD Cert.InCdSRefIdeal.τ Cert.InCdSRefIdeal.sig) → Buf (Elt Ideal) ℓ) (g : Dev Cert.InCdSRefIdeal.nD → PrngReg), Pre_InCdSRefIdeal m →
    θ_run (Cert.InCdSRefIdeal.defs (F := Ideal)) (onTc (τ := Cert.InCdSRefIdeal.τ) (Cert.InCdSRefIdeal.main (F := Ideal))) ⟨m, fun _ => 0, g⟩ (fun r => (∀ c : Dev Cert.InCdSRefIdeal.nD,
      r.2.mem ((c.tc : Thread Cert.InCdSRefIdeal.nD Cert.InCdSRefIdeal.τ).loc Cert.InCdSRefIdeal.main_arg0) = m ((c.tc : Thread Cert.InCdSRefIdeal.nD Cert.InCdSRefIdeal.τ).loc Cert.InCdSRefIdeal.main_arg0)
      ∧ r.2.mem ((c.tc : Thread Cert.InCdSRefIdeal.nD Cert.InCdSRefIdeal.τ).loc Cert.InCdSRefIdeal.main_arg1) = m ((c.tc : Thread Cert.InCdSRefIdeal.nD Cert.InCdSRefIdeal.τ).loc Cert.InCdSRefIdeal.main_arg1)
      ∧ r.2.mem ((c.tc : Thread Cert.InCdSRefIdeal.nD Cert.InCdSRefIdeal.τ).loc Cert.InCdSRefIdeal.main_arg2) = m ((c.tc : Thread Cert.InCdSRefIdeal.nD Cert.InCdSRefIdeal.τ).loc Cert.InCdSRefIdeal.main_arg2))
      ∧ r.2.sem = fun _ => 0)

def quiescent_Unabsorb [hUnabsorb : Cert.Unabsorb.Facts] : Prop :=
  ∀ (m : (ℓ : Loc Cert.Unabsorb.nD Cert.Unabsorb.τ Cert.Unabsorb.sig) → Buf (Elt Bits) ℓ) (g : Dev Cert.Unabsorb.nD → PrngReg), Pre_Unabsorb m →
    θ_run (Cert.Unabsorb.defs (F := Bits)) (onTc (τ := Cert.Unabsorb.τ) (Cert.Unabsorb.main (F := Bits))) ⟨m, fun _ => 0, g⟩ (fun r => (∀ c : Dev Cert.Unabsorb.nD,
      r.2.mem ((c.tc : Thread Cert.Unabsorb.nD Cert.Unabsorb.τ).loc Cert.Unabsorb.main_arg0) = m ((c.tc : Thread Cert.Unabsorb.nD Cert.Unabsorb.τ).loc Cert.Unabsorb.main_arg0)
      ∧ r.2.mem ((c.tc : Thread Cert.Unabsorb.nD Cert.Unabsorb.τ).loc Cert.Unabsorb.main_arg1) = m ((c.tc : Thread Cert.Unabsorb.nD Cert.Unabsorb.τ).loc Cert.Unabsorb.main_arg1))
      ∧ r.2.sem = fun _ => 0)

def quiescent_UnabsorbIdeal [hUnabsorbIdeal : Cert.UnabsorbIdeal.Facts] : Prop :=
  ∀ (m : (ℓ : Loc Cert.UnabsorbIdeal.nD Cert.UnabsorbIdeal.τ Cert.UnabsorbIdeal.sig) → Buf (Elt Ideal) ℓ) (g : Dev Cert.UnabsorbIdeal.nD → PrngReg), Pre_UnabsorbIdeal m →
    θ_run (Cert.UnabsorbIdeal.defs (F := Ideal)) (onTc (τ := Cert.UnabsorbIdeal.τ) (Cert.UnabsorbIdeal.main (F := Ideal))) ⟨m, fun _ => 0, g⟩ (fun r => (∀ c : Dev Cert.UnabsorbIdeal.nD,
      r.2.mem ((c.tc : Thread Cert.UnabsorbIdeal.nD Cert.UnabsorbIdeal.τ).loc Cert.UnabsorbIdeal.main_arg0) = m ((c.tc : Thread Cert.UnabsorbIdeal.nD Cert.UnabsorbIdeal.τ).loc Cert.UnabsorbIdeal.main_arg0)
      ∧ r.2.mem ((c.tc : Thread Cert.UnabsorbIdeal.nD Cert.UnabsorbIdeal.τ).loc Cert.UnabsorbIdeal.main_arg1) = m ((c.tc : Thread Cert.UnabsorbIdeal.nD Cert.UnabsorbIdeal.τ).loc Cert.UnabsorbIdeal.main_arg1))
      ∧ r.2.sem = fun _ => 0)

def quiescent_UnabsorbRefIdeal [hUnabsorbRefIdeal : Cert.UnabsorbRefIdeal.Facts] : Prop :=
  ∀ (m : (ℓ : Loc Cert.UnabsorbRefIdeal.nD Cert.UnabsorbRefIdeal.τ Cert.UnabsorbRefIdeal.sig) → Buf (Elt Ideal) ℓ) (g : Dev Cert.UnabsorbRefIdeal.nD → PrngReg), Pre_UnabsorbRefIdeal m →
    θ_run (Cert.UnabsorbRefIdeal.defs (F := Ideal)) (onTc (τ := Cert.UnabsorbRefIdeal.τ) (Cert.UnabsorbRefIdeal.main (F := Ideal))) ⟨m, fun _ => 0, g⟩ (fun r => (∀ c : Dev Cert.UnabsorbRefIdeal.nD,
      r.2.mem ((c.tc : Thread Cert.UnabsorbRefIdeal.nD Cert.UnabsorbRefIdeal.τ).loc Cert.UnabsorbRefIdeal.main_arg0) = m ((c.tc : Thread Cert.UnabsorbRefIdeal.nD Cert.UnabsorbRefIdeal.τ).loc Cert.UnabsorbRefIdeal.main_arg0)
      ∧ r.2.mem ((c.tc : Thread Cert.UnabsorbRefIdeal.nD Cert.UnabsorbRefIdeal.τ).loc Cert.UnabsorbRefIdeal.main_arg1) = m ((c.tc : Thread Cert.UnabsorbRefIdeal.nD Cert.UnabsorbRefIdeal.τ).loc Cert.UnabsorbRefIdeal.main_arg1))
      ∧ r.2.sem = fun _ => 0)

def quiescent_PoolS [hPoolS : Cert.PoolS.Facts] : Prop :=
  ∀ (m : (ℓ : Loc Cert.PoolS.nD Cert.PoolS.τ Cert.PoolS.sig) → Buf (Elt Bits) ℓ) (g : Dev Cert.PoolS.nD → PrngReg), Pre_PoolS m →
    θ_run (Cert.PoolS.defs (F := Bits)) (onTc (τ := Cert.PoolS.τ) (Cert.PoolS.main (F := Bits))) ⟨m, fun _ => 0, g⟩ (fun r => (∀ c : Dev Cert.PoolS.nD,
      r.2.mem ((c.tc : Thread Cert.PoolS.nD Cert.PoolS.τ).loc Cert.PoolS.main_arg0) = m ((c.tc : Thread Cert.PoolS.nD Cert.PoolS.τ).loc Cert.PoolS.main_arg0)
      ∧ r.2.mem ((c.tc : Thread Cert.PoolS.nD Cert.PoolS.τ).loc Cert.PoolS.main_arg1) = m ((c.tc : Thread Cert.PoolS.nD Cert.PoolS.τ).loc Cert.PoolS.main_arg1)
      ∧ r.2.mem ((c.tc : Thread Cert.PoolS.nD Cert.PoolS.τ).loc Cert.PoolS.main_arg2) = m ((c.tc : Thread Cert.PoolS.nD Cert.PoolS.τ).loc Cert.PoolS.main_arg2)
      ∧ r.2.mem ((c.tc : Thread Cert.PoolS.nD Cert.PoolS.τ).loc Cert.PoolS.main_arg3) = m ((c.tc : Thread Cert.PoolS.nD Cert.PoolS.τ).loc Cert.PoolS.main_arg3))
      ∧ r.2.sem = fun _ => 0)

def quiescent_PoolSIdeal [hPoolSIdeal : Cert.PoolSIdeal.Facts] : Prop :=
  ∀ (m : (ℓ : Loc Cert.PoolSIdeal.nD Cert.PoolSIdeal.τ Cert.PoolSIdeal.sig) → Buf (Elt Ideal) ℓ) (g : Dev Cert.PoolSIdeal.nD → PrngReg), Pre_PoolSIdeal m →
    θ_run (Cert.PoolSIdeal.defs (F := Ideal)) (onTc (τ := Cert.PoolSIdeal.τ) (Cert.PoolSIdeal.main (F := Ideal))) ⟨m, fun _ => 0, g⟩ (fun r => (∀ c : Dev Cert.PoolSIdeal.nD,
      r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
      ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
      ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
      ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3))
      ∧ r.2.sem = fun _ => 0)

def quiescent_PoolSRefIdeal [hPoolSRefIdeal : Cert.PoolSRefIdeal.Facts] : Prop :=
  ∀ (m : (ℓ : Loc Cert.PoolSRefIdeal.nD Cert.PoolSRefIdeal.τ Cert.PoolSRefIdeal.sig) → Buf (Elt Ideal) ℓ) (g : Dev Cert.PoolSRefIdeal.nD → PrngReg), Pre_PoolSRefIdeal m →
    θ_run (Cert.PoolSRefIdeal.defs (F := Ideal)) (onTc (τ := Cert.PoolSRefIdeal.τ) (Cert.PoolSRefIdeal.main (F := Ideal))) ⟨m, fun _ => 0, g⟩ (fun r => (∀ c : Dev Cert.PoolSRefIdeal.nD,
      r.2.mem ((c.tc : Thread Cert.PoolSRefIdeal.nD Cert.PoolSRefIdeal.τ).loc Cert.PoolSRefIdeal.main_arg0) = m ((c.tc : Thread Cert.PoolSRefIdeal.nD Cert.PoolSRefIdeal.τ).loc Cert.PoolSRefIdeal.main_arg0)
      ∧ r.2.mem ((c.tc : Thread Cert.PoolSRefIdeal.nD Cert.PoolSRefIdeal.τ).loc Cert.PoolSRefIdeal.main_arg1) = m ((c.tc : Thread Cert.PoolSRefIdeal.nD Cert.PoolSRefIdeal.τ).loc Cert.PoolSRefIdeal.main_arg1)
      ∧ r.2.mem ((c.tc : Thread Cert.PoolSRefIdeal.nD Cert.PoolSRefIdeal.τ).loc Cert.PoolSRefIdeal.main_arg2) = m ((c.tc : Thread Cert.PoolSRefIdeal.nD Cert.PoolSRefIdeal.τ).loc Cert.PoolSRefIdeal.main_arg2)
      ∧ r.2.mem ((c.tc : Thread Cert.PoolSRefIdeal.nD Cert.PoolSRefIdeal.τ).loc Cert.PoolSRefIdeal.main_arg3) = m ((c.tc : Thread Cert.PoolSRefIdeal.nD Cert.PoolSRefIdeal.τ).loc Cert.PoolSRefIdeal.main_arg3))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2)
      ∧ r.2.mem ((c.tc : Thread Cert.ConvS.nD Cert.ConvS.τ).loc Cert.ConvS.main_arg3) = m ((c.tc : Thread Cert.ConvS.nD Cert.ConvS.τ).loc Cert.ConvS.main_arg3)
      ∧ r.2.mem ((c.tc : Thread Cert.ConvS.nD Cert.ConvS.τ).loc Cert.ConvS.main_arg4) = m ((c.tc : Thread Cert.ConvS.nD Cert.ConvS.τ).loc Cert.ConvS.main_arg4)
      ∧ r.2.mem ((c.tc : Thread Cert.ConvS.nD Cert.ConvS.τ).loc Cert.ConvS.main_arg5) = m ((c.tc : Thread Cert.ConvS.nD Cert.ConvS.τ).loc Cert.ConvS.main_arg5)
      ∧ r.2.mem ((c.tc : Thread Cert.ConvS.nD Cert.ConvS.τ).loc Cert.ConvS.main_arg6) = m ((c.tc : Thread Cert.ConvS.nD Cert.ConvS.τ).loc Cert.ConvS.main_arg6)
      ∧ r.2.mem ((c.tc : Thread Cert.ConvS.nD Cert.ConvS.τ).loc Cert.ConvS.main_arg7) = m ((c.tc : Thread Cert.ConvS.nD Cert.ConvS.τ).loc Cert.ConvS.main_arg7)
      ∧ r.2.mem ((c.tc : Thread Cert.ConvS.nD Cert.ConvS.τ).loc Cert.ConvS.main_arg8) = m ((c.tc : Thread Cert.ConvS.nD Cert.ConvS.τ).loc Cert.ConvS.main_arg8)
      ∧ r.2.mem ((c.tc : Thread Cert.ConvS.nD Cert.ConvS.τ).loc Cert.ConvS.main_arg9) = m ((c.tc : Thread Cert.ConvS.nD Cert.ConvS.τ).loc Cert.ConvS.main_arg9))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
      ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
      ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
      ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
      ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6)
      ∧ r.2.mem ((c.tc : Thread Cert.ConvSIdeal.nD Cert.ConvSIdeal.τ).loc Cert.ConvSIdeal.main_arg7) = m ((c.tc : Thread Cert.ConvSIdeal.nD Cert.ConvSIdeal.τ).loc Cert.ConvSIdeal.main_arg7)
      ∧ r.2.mem ((c.tc : Thread Cert.ConvSIdeal.nD Cert.ConvSIdeal.τ).loc Cert.ConvSIdeal.main_arg8) = m ((c.tc : Thread Cert.ConvSIdeal.nD Cert.ConvSIdeal.τ).loc Cert.ConvSIdeal.main_arg8)
      ∧ r.2.mem ((c.tc : Thread Cert.ConvSIdeal.nD Cert.ConvSIdeal.τ).loc Cert.ConvSIdeal.main_arg9) = m ((c.tc : Thread Cert.ConvSIdeal.nD Cert.ConvSIdeal.τ).loc Cert.ConvSIdeal.main_arg9))
      ∧ r.2.sem = fun _ => 0)

def quiescent_ConvSRefIdeal [hConvSRefIdeal : Cert.ConvSRefIdeal.Facts] : Prop :=
  ∀ (m : (ℓ : Loc Cert.ConvSRefIdeal.nD Cert.ConvSRefIdeal.τ Cert.ConvSRefIdeal.sig) → Buf (Elt Ideal) ℓ) (g : Dev Cert.ConvSRefIdeal.nD → PrngReg), Pre_ConvSRefIdeal m →
    θ_run (Cert.ConvSRefIdeal.defs (F := Ideal)) (onTc (τ := Cert.ConvSRefIdeal.τ) (Cert.ConvSRefIdeal.main (F := Ideal))) ⟨m, fun _ => 0, g⟩ (fun r => (∀ c : Dev Cert.ConvSRefIdeal.nD,
      r.2.mem ((c.tc : Thread Cert.ConvSRefIdeal.nD Cert.ConvSRefIdeal.τ).loc Cert.ConvSRefIdeal.main_arg0) = m ((c.tc : Thread Cert.ConvSRefIdeal.nD Cert.ConvSRefIdeal.τ).loc Cert.ConvSRefIdeal.main_arg0)
      ∧ r.2.mem ((c.tc : Thread Cert.ConvSRefIdeal.nD Cert.ConvSRefIdeal.τ).loc Cert.ConvSRefIdeal.main_arg1) = m ((c.tc : Thread Cert.ConvSRefIdeal.nD Cert.ConvSRefIdeal.τ).loc Cert.ConvSRefIdeal.main_arg1)
      ∧ r.2.mem ((c.tc : Thread Cert.ConvSRefIdeal.nD Cert.ConvSRefIdeal.τ).loc Cert.ConvSRefIdeal.main_arg2) = m ((c.tc : Thread Cert.ConvSRefIdeal.nD Cert.ConvSRefIdeal.τ).loc Cert.ConvSRefIdeal.main_arg2)
      ∧ r.2.mem ((c.tc : Thread Cert.ConvSRefIdeal.nD Cert.ConvSRefIdeal.τ).loc Cert.ConvSRefIdeal.main_arg3) = m ((c.tc : Thread Cert.ConvSRefIdeal.nD Cert.ConvSRefIdeal.τ).loc Cert.ConvSRefIdeal.main_arg3)
      ∧ r.2.mem ((c.tc : Thread Cert.ConvSRefIdeal.nD Cert.ConvSRefIdeal.τ).loc Cert.ConvSRefIdeal.main_arg4) = m ((c.tc : Thread Cert.ConvSRefIdeal.nD Cert.ConvSRefIdeal.τ).loc Cert.ConvSRefIdeal.main_arg4)
      ∧ r.2.mem ((c.tc : Thread Cert.ConvSRefIdeal.nD Cert.ConvSRefIdeal.τ).loc Cert.ConvSRefIdeal.main_arg5) = m ((c.tc : Thread Cert.ConvSRefIdeal.nD Cert.ConvSRefIdeal.τ).loc Cert.ConvSRefIdeal.main_arg5)
      ∧ r.2.mem ((c.tc : Thread Cert.ConvSRefIdeal.nD Cert.ConvSRefIdeal.τ).loc Cert.ConvSRefIdeal.main_arg6) = m ((c.tc : Thread Cert.ConvSRefIdeal.nD Cert.ConvSRefIdeal.τ).loc Cert.ConvSRefIdeal.main_arg6)
      ∧ r.2.mem ((c.tc : Thread Cert.ConvSRefIdeal.nD Cert.ConvSRefIdeal.τ).loc Cert.ConvSRefIdeal.main_arg7) = m ((c.tc : Thread Cert.ConvSRefIdeal.nD Cert.ConvSRefIdeal.τ).loc Cert.ConvSRefIdeal.main_arg7)
      ∧ r.2.mem ((c.tc : Thread Cert.ConvSRefIdeal.nD Cert.ConvSRefIdeal.τ).loc Cert.ConvSRefIdeal.main_arg8) = m ((c.tc : Thread Cert.ConvSRefIdeal.nD Cert.ConvSRefIdeal.τ).loc Cert.ConvSRefIdeal.main_arg8)
      ∧ r.2.mem ((c.tc : Thread Cert.ConvSRefIdeal.nD Cert.ConvSRefIdeal.τ).loc Cert.ConvSRefIdeal.main_arg9) = m ((c.tc : Thread Cert.ConvSRefIdeal.nD Cert.ConvSRefIdeal.τ).loc Cert.ConvSRefIdeal.main_arg9))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v21) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_MlpFinal_MlpFinalIdeal : Prop :=
  True

def algebraic_MlpFinalIdeal_MlpFinalRefIdeal [hMlpFinalIdeal : Cert.MlpFinalIdeal.Facts] [hMlpFinalRefIdeal : Cert.MlpFinalRefIdeal.Facts] : Prop :=
  ∀ (m : (ℓ : Loc Cert.MlpFinalIdeal.nD Cert.MlpFinalIdeal.τ Cert.MlpFinalIdeal.sig) → Buf (Elt Ideal) ℓ) (g : Dev Cert.MlpFinalIdeal.nD → PrngReg)
    (m' : (ℓ : Loc Cert.MlpFinalRefIdeal.nD Cert.MlpFinalRefIdeal.τ Cert.MlpFinalRefIdeal.sig) → Buf (Elt Ideal) ℓ) (g' : Dev Cert.MlpFinalRefIdeal.nD → PrngReg), Pre_MlpFinalIdeal m →
    (∀ c : Dev Cert.MlpFinalIdeal.nD,
      m' ((c.tc : Thread Cert.MlpFinalRefIdeal.nD Cert.MlpFinalRefIdeal.τ).loc Cert.MlpFinalRefIdeal.main_arg0) = m ((c.tc : Thread Cert.MlpFinalIdeal.nD Cert.MlpFinalIdeal.τ).loc Cert.MlpFinalIdeal.main_arg0)
      ∧ m' ((c.tc : Thread Cert.MlpFinalRefIdeal.nD Cert.MlpFinalRefIdeal.τ).loc Cert.MlpFinalRefIdeal.main_arg1) = m ((c.tc : Thread Cert.MlpFinalIdeal.nD Cert.MlpFinalIdeal.τ).loc Cert.MlpFinalIdeal.main_arg1)
      ∧ m' ((c.tc : Thread Cert.MlpFinalRefIdeal.nD Cert.MlpFinalRefIdeal.τ).loc Cert.MlpFinalRefIdeal.main_arg2) = m ((c.tc : Thread Cert.MlpFinalIdeal.nD Cert.MlpFinalIdeal.τ).loc Cert.MlpFinalIdeal.main_arg2)
      ∧ m' ((c.tc : Thread Cert.MlpFinalRefIdeal.nD Cert.MlpFinalRefIdeal.τ).loc Cert.MlpFinalRefIdeal.main_arg3) = m ((c.tc : Thread Cert.MlpFinalIdeal.nD Cert.MlpFinalIdeal.τ).loc Cert.MlpFinalIdeal.main_arg3)
      ∧ m' ((c.tc : Thread Cert.MlpFinalRefIdeal.nD Cert.MlpFinalRefIdeal.τ).loc Cert.MlpFinalRefIdeal.main_arg4) = m ((c.tc : Thread Cert.MlpFinalIdeal.nD Cert.MlpFinalIdeal.τ).loc Cert.MlpFinalIdeal.main_arg4)) →
    ∃ (v0 : (c : Dev Cert.MlpFinalIdeal.nD) → Buf (Elt Ideal) ((c.tc : Thread Cert.MlpFinalIdeal.nD Cert.MlpFinalIdeal.τ).loc Cert.MlpFinalIdeal.main_v4)),
      θ_run (Cert.MlpFinalIdeal.defs (F := Ideal)) (onTc (τ := Cert.MlpFinalIdeal.τ) (Cert.MlpFinalIdeal.main (F := Ideal))) ⟨m, fun _ => 0, g⟩ (fun r => ∀ c : Dev Cert.MlpFinalIdeal.nD,
          r.2.mem ((c.tc : Thread Cert.MlpFinalIdeal.nD Cert.MlpFinalIdeal.τ).loc Cert.MlpFinalIdeal.main_v4) = v0 c
          ∧ r.2.mem ((c.tc : Thread Cert.MlpFinalIdeal.nD Cert.MlpFinalIdeal.τ).loc Cert.MlpFinalIdeal.main_arg0) = m ((c.tc : Thread Cert.MlpFinalIdeal.nD Cert.MlpFinalIdeal.τ).loc Cert.MlpFinalIdeal.main_arg0)
          ∧ r.2.mem ((c.tc : Thread Cert.MlpFinalIdeal.nD Cert.MlpFinalIdeal.τ).loc Cert.MlpFinalIdeal.main_arg1) = m ((c.tc : Thread Cert.MlpFinalIdeal.nD Cert.MlpFinalIdeal.τ).loc Cert.MlpFinalIdeal.main_arg1)
          ∧ r.2.mem ((c.tc : Thread Cert.MlpFinalIdeal.nD Cert.MlpFinalIdeal.τ).loc Cert.MlpFinalIdeal.main_arg2) = m ((c.tc : Thread Cert.MlpFinalIdeal.nD Cert.MlpFinalIdeal.τ).loc Cert.MlpFinalIdeal.main_arg2)
          ∧ r.2.mem ((c.tc : Thread Cert.MlpFinalIdeal.nD Cert.MlpFinalIdeal.τ).loc Cert.MlpFinalIdeal.main_arg3) = m ((c.tc : Thread Cert.MlpFinalIdeal.nD Cert.MlpFinalIdeal.τ).loc Cert.MlpFinalIdeal.main_arg3)
          ∧ r.2.mem ((c.tc : Thread Cert.MlpFinalIdeal.nD Cert.MlpFinalIdeal.τ).loc Cert.MlpFinalIdeal.main_arg4) = m ((c.tc : Thread Cert.MlpFinalIdeal.nD Cert.MlpFinalIdeal.τ).loc Cert.MlpFinalIdeal.main_arg4))
      ∧ θ_run (Cert.MlpFinalRefIdeal.defs (F := Ideal)) (onTc (τ := Cert.MlpFinalRefIdeal.τ) (Cert.MlpFinalRefIdeal.main (F := Ideal))) ⟨m', fun _ => 0, g'⟩ (fun r => ∀ c : Dev Cert.MlpFinalRefIdeal.nD,
          r.2.mem ((c.tc : Thread Cert.MlpFinalRefIdeal.nD Cert.MlpFinalRefIdeal.τ).loc Cert.MlpFinalRefIdeal.main_v34) = v0 c
          ∧ r.2.mem ((c.tc : Thread Cert.MlpFinalRefIdeal.nD Cert.MlpFinalRefIdeal.τ).loc Cert.MlpFinalRefIdeal.main_arg0) = m' ((c.tc : Thread Cert.MlpFinalRefIdeal.nD Cert.MlpFinalRefIdeal.τ).loc Cert.MlpFinalRefIdeal.main_arg0)
          ∧ r.2.mem ((c.tc : Thread Cert.MlpFinalRefIdeal.nD Cert.MlpFinalRefIdeal.τ).loc Cert.MlpFinalRefIdeal.main_arg1) = m' ((c.tc : Thread Cert.MlpFinalRefIdeal.nD Cert.MlpFinalRefIdeal.τ).loc Cert.MlpFinalRefIdeal.main_arg1)
          ∧ r.2.mem ((c.tc : Thread Cert.MlpFinalRefIdeal.nD Cert.MlpFinalRefIdeal.τ).loc Cert.MlpFinalRefIdeal.main_arg2) = m' ((c.tc : Thread Cert.MlpFinalRefIdeal.nD Cert.MlpFinalRefIdeal.τ).loc Cert.MlpFinalRefIdeal.main_arg2)
          ∧ r.2.mem ((c.tc : Thread Cert.MlpFinalRefIdeal.nD Cert.MlpFinalRefIdeal.τ).loc Cert.MlpFinalRefIdeal.main_arg3) = m' ((c.tc : Thread Cert.MlpFinalRefIdeal.nD Cert.MlpFinalRefIdeal.τ).loc Cert.MlpFinalRefIdeal.main_arg3)
          ∧ r.2.mem ((c.tc : Thread Cert.MlpFinalRefIdeal.nD Cert.MlpFinalRefIdeal.τ).loc Cert.MlpFinalRefIdeal.main_arg4) = m' ((c.tc : Thread Cert.MlpFinalRefIdeal.nD Cert.MlpFinalRefIdeal.τ).loc Cert.MlpFinalRefIdeal.main_arg4))

def preserves_InCd_InCdIdeal : Prop :=
  True

def algebraic_InCdIdeal_InCdRefIdeal [hInCdIdeal : Cert.InCdIdeal.Facts] [hInCdRefIdeal : Cert.InCdRefIdeal.Facts] : Prop :=
  ∀ (m : (ℓ : Loc Cert.InCdIdeal.nD Cert.InCdIdeal.τ Cert.InCdIdeal.sig) → Buf (Elt Ideal) ℓ) (g : Dev Cert.InCdIdeal.nD → PrngReg)
    (m' : (ℓ : Loc Cert.InCdRefIdeal.nD Cert.InCdRefIdeal.τ Cert.InCdRefIdeal.sig) → Buf (Elt Ideal) ℓ) (g' : Dev Cert.InCdRefIdeal.nD → PrngReg), Pre_InCdIdeal m →
    (∀ c : Dev Cert.InCdIdeal.nD,
      m' ((c.tc : Thread Cert.InCdRefIdeal.nD Cert.InCdRefIdeal.τ).loc Cert.InCdRefIdeal.main_arg0) = m ((c.tc : Thread Cert.InCdIdeal.nD Cert.InCdIdeal.τ).loc Cert.InCdIdeal.main_arg0)
      ∧ m' ((c.tc : Thread Cert.InCdRefIdeal.nD Cert.InCdRefIdeal.τ).loc Cert.InCdRefIdeal.main_arg1) = m ((c.tc : Thread Cert.InCdIdeal.nD Cert.InCdIdeal.τ).loc Cert.InCdIdeal.main_arg1)
      ∧ m' ((c.tc : Thread Cert.InCdRefIdeal.nD Cert.InCdRefIdeal.τ).loc Cert.InCdRefIdeal.main_arg2) = m ((c.tc : Thread Cert.InCdIdeal.nD Cert.InCdIdeal.τ).loc Cert.InCdIdeal.main_arg2)) →
    ∃ (v0 : (c : Dev Cert.InCdIdeal.nD) → Buf (Elt Ideal) ((c.tc : Thread Cert.InCdIdeal.nD Cert.InCdIdeal.τ).loc Cert.InCdIdeal.main_v2_0)) (v1 : (c : Dev Cert.InCdIdeal.nD) → Buf (Elt Ideal) ((c.tc : Thread Cert.InCdIdeal.nD Cert.InCdIdeal.τ).loc Cert.InCdIdeal.main_v2_1)) (v2 : (c : Dev Cert.InCdIdeal.nD) → Buf (Elt Ideal) ((c.tc : Thread Cert.InCdIdeal.nD Cert.InCdIdeal.τ).loc Cert.InCdIdeal.main_v2_2)),
      θ_run (Cert.InCdIdeal.defs (F := Ideal)) (onTc (τ := Cert.InCdIdeal.τ) (Cert.InCdIdeal.main (F := Ideal))) ⟨m, fun _ => 0, g⟩ (fun r => ∀ c : Dev Cert.InCdIdeal.nD,
          r.2.mem ((c.tc : Thread Cert.InCdIdeal.nD Cert.InCdIdeal.τ).loc Cert.InCdIdeal.main_v2_0) = v0 c
          ∧ r.2.mem ((c.tc : Thread Cert.InCdIdeal.nD Cert.InCdIdeal.τ).loc Cert.InCdIdeal.main_v2_1) = v1 c
          ∧ r.2.mem ((c.tc : Thread Cert.InCdIdeal.nD Cert.InCdIdeal.τ).loc Cert.InCdIdeal.main_v2_2) = v2 c
          ∧ r.2.mem ((c.tc : Thread Cert.InCdIdeal.nD Cert.InCdIdeal.τ).loc Cert.InCdIdeal.main_arg0) = m ((c.tc : Thread Cert.InCdIdeal.nD Cert.InCdIdeal.τ).loc Cert.InCdIdeal.main_arg0)
          ∧ r.2.mem ((c.tc : Thread Cert.InCdIdeal.nD Cert.InCdIdeal.τ).loc Cert.InCdIdeal.main_arg1) = m ((c.tc : Thread Cert.InCdIdeal.nD Cert.InCdIdeal.τ).loc Cert.InCdIdeal.main_arg1)
          ∧ r.2.mem ((c.tc : Thread Cert.InCdIdeal.nD Cert.InCdIdeal.τ).loc Cert.InCdIdeal.main_arg2) = m ((c.tc : Thread Cert.InCdIdeal.nD Cert.InCdIdeal.τ).loc Cert.InCdIdeal.main_arg2))
      ∧ θ_run (Cert.InCdRefIdeal.defs (F := Ideal)) (onTc (τ := Cert.InCdRefIdeal.τ) (Cert.InCdRefIdeal.main (F := Ideal))) ⟨m', fun _ => 0, g'⟩ (fun r => ∀ c : Dev Cert.InCdRefIdeal.nD,
          r.2.mem ((c.tc : Thread Cert.InCdRefIdeal.nD Cert.InCdRefIdeal.τ).loc Cert.InCdRefIdeal.main_v22) = v0 c
          ∧ r.2.mem ((c.tc : Thread Cert.InCdRefIdeal.nD Cert.InCdRefIdeal.τ).loc Cert.InCdRefIdeal.main_v25) = v1 c
          ∧ r.2.mem ((c.tc : Thread Cert.InCdRefIdeal.nD Cert.InCdRefIdeal.τ).loc Cert.InCdRefIdeal.main_v26) = v2 c
          ∧ r.2.mem ((c.tc : Thread Cert.InCdRefIdeal.nD Cert.InCdRefIdeal.τ).loc Cert.InCdRefIdeal.main_arg0) = m' ((c.tc : Thread Cert.InCdRefIdeal.nD Cert.InCdRefIdeal.τ).loc Cert.InCdRefIdeal.main_arg0)
          ∧ r.2.mem ((c.tc : Thread Cert.InCdRefIdeal.nD Cert.InCdRefIdeal.τ).loc Cert.InCdRefIdeal.main_arg1) = m' ((c.tc : Thread Cert.InCdRefIdeal.nD Cert.InCdRefIdeal.τ).loc Cert.InCdRefIdeal.main_arg1)
          ∧ r.2.mem ((c.tc : Thread Cert.InCdRefIdeal.nD Cert.InCdRefIdeal.τ).loc Cert.InCdRefIdeal.main_arg2) = m' ((c.tc : Thread Cert.InCdRefIdeal.nD Cert.InCdRefIdeal.τ).loc Cert.InCdRefIdeal.main_arg2))

def preserves_OutAb_OutAbIdeal : Prop :=
  True

def algebraic_OutAbIdeal_OutAbRefIdeal [hOutAbIdeal : Cert.OutAbIdeal.Facts] [hOutAbRefIdeal : Cert.OutAbRefIdeal.Facts] : Prop :=
  ∀ (m : (ℓ : Loc Cert.OutAbIdeal.nD Cert.OutAbIdeal.τ Cert.OutAbIdeal.sig) → Buf (Elt Ideal) ℓ) (g : Dev Cert.OutAbIdeal.nD → PrngReg)
    (m' : (ℓ : Loc Cert.OutAbRefIdeal.nD Cert.OutAbRefIdeal.τ Cert.OutAbRefIdeal.sig) → Buf (Elt Ideal) ℓ) (g' : Dev Cert.OutAbRefIdeal.nD → PrngReg), Pre_OutAbIdeal m →
    (∀ c : Dev Cert.OutAbIdeal.nD,
      m' ((c.tc : Thread Cert.OutAbRefIdeal.nD Cert.OutAbRefIdeal.τ).loc Cert.OutAbRefIdeal.main_arg0) = m ((c.tc : Thread Cert.OutAbIdeal.nD Cert.OutAbIdeal.τ).loc Cert.OutAbIdeal.main_arg0)
      ∧ m' ((c.tc : Thread Cert.OutAbRefIdeal.nD Cert.OutAbRefIdeal.τ).loc Cert.OutAbRefIdeal.main_arg1) = m ((c.tc : Thread Cert.OutAbIdeal.nD Cert.OutAbIdeal.τ).loc Cert.OutAbIdeal.main_arg1)
      ∧ m' ((c.tc : Thread Cert.OutAbRefIdeal.nD Cert.OutAbRefIdeal.τ).loc Cert.OutAbRefIdeal.main_arg2) = m ((c.tc : Thread Cert.OutAbIdeal.nD Cert.OutAbIdeal.τ).loc Cert.OutAbIdeal.main_arg2)
      ∧ m' ((c.tc : Thread Cert.OutAbRefIdeal.nD Cert.OutAbRefIdeal.τ).loc Cert.OutAbRefIdeal.main_arg3) = m ((c.tc : Thread Cert.OutAbIdeal.nD Cert.OutAbIdeal.τ).loc Cert.OutAbIdeal.main_arg3)) →
    ∃ (v0 : (c : Dev Cert.OutAbIdeal.nD) → Buf (Elt Ideal) ((c.tc : Thread Cert.OutAbIdeal.nD Cert.OutAbIdeal.τ).loc Cert.OutAbIdeal.main_v1)),
      θ_run (Cert.OutAbIdeal.defs (F := Ideal)) (onTc (τ := Cert.OutAbIdeal.τ) (Cert.OutAbIdeal.main (F := Ideal))) ⟨m, fun _ => 0, g⟩ (fun r => ∀ c : Dev Cert.OutAbIdeal.nD,
          r.2.mem ((c.tc : Thread Cert.OutAbIdeal.nD Cert.OutAbIdeal.τ).loc Cert.OutAbIdeal.main_v1) = v0 c
          ∧ r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
          ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
          ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2)
          ∧ r.2.mem ((c.tc : Thread Cert.OutAbIdeal.nD Cert.OutAbIdeal.τ).loc Cert.OutAbIdeal.main_arg3) = m ((c.tc : Thread Cert.OutAbIdeal.nD Cert.OutAbIdeal.τ).loc Cert.OutAbIdeal.main_arg3))
      ∧ θ_run (Cert.OutAbRefIdeal.defs (F := Ideal)) (onTc (τ := Cert.OutAbRefIdeal.τ) (Cert.OutAbRefIdeal.main (F := Ideal))) ⟨m', fun _ => 0, g'⟩ (fun r => ∀ c : Dev Cert.OutAbRefIdeal.nD,
          r.2.mem ((c.tc : Thread Cert.OutAbRefIdeal.nD Cert.OutAbRefIdeal.τ).loc Cert.OutAbRefIdeal.main_v4) = v0 c
          ∧ r.2.mem ((c.tc : Thread Cert.OutAbRefIdeal.nD Cert.OutAbRefIdeal.τ).loc Cert.OutAbRefIdeal.main_arg0) = m' ((c.tc : Thread Cert.OutAbRefIdeal.nD Cert.OutAbRefIdeal.τ).loc Cert.OutAbRefIdeal.main_arg0)
          ∧ r.2.mem ((c.tc : Thread Cert.OutAbRefIdeal.nD Cert.OutAbRefIdeal.τ).loc Cert.OutAbRefIdeal.main_arg1) = m' ((c.tc : Thread Cert.OutAbRefIdeal.nD Cert.OutAbRefIdeal.τ).loc Cert.OutAbRefIdeal.main_arg1)
          ∧ r.2.mem ((c.tc : Thread Cert.OutAbRefIdeal.nD Cert.OutAbRefIdeal.τ).loc Cert.OutAbRefIdeal.main_arg2) = m' ((c.tc : Thread Cert.OutAbRefIdeal.nD Cert.OutAbRefIdeal.τ).loc Cert.OutAbRefIdeal.main_arg2)
          ∧ r.2.mem ((c.tc : Thread Cert.OutAbRefIdeal.nD Cert.OutAbRefIdeal.τ).loc Cert.OutAbRefIdeal.main_arg3) = m' ((c.tc : Thread Cert.OutAbRefIdeal.nD Cert.OutAbRefIdeal.τ).loc Cert.OutAbRefIdeal.main_arg3))

def preserves_OutCd_OutCdIdeal : Prop :=
  True

def algebraic_OutCdIdeal_OutCdRefIdeal [hOutCdIdeal : Cert.OutCdIdeal.Facts] [hOutCdRefIdeal : Cert.OutCdRefIdeal.Facts] : Prop :=
  ∀ (m : (ℓ : Loc Cert.OutCdIdeal.nD Cert.OutCdIdeal.τ Cert.OutCdIdeal.sig) → Buf (Elt Ideal) ℓ) (g : Dev Cert.OutCdIdeal.nD → PrngReg)
    (m' : (ℓ : Loc Cert.OutCdRefIdeal.nD Cert.OutCdRefIdeal.τ Cert.OutCdRefIdeal.sig) → Buf (Elt Ideal) ℓ) (g' : Dev Cert.OutCdRefIdeal.nD → PrngReg), Pre_OutCdIdeal m →
    (∀ c : Dev Cert.OutCdIdeal.nD,
      m' ((c.tc : Thread Cert.OutCdRefIdeal.nD Cert.OutCdRefIdeal.τ).loc Cert.OutCdRefIdeal.main_arg0) = m ((c.tc : Thread Cert.OutCdIdeal.nD Cert.OutCdIdeal.τ).loc Cert.OutCdIdeal.main_arg0)
      ∧ m' ((c.tc : Thread Cert.OutCdRefIdeal.nD Cert.OutCdRefIdeal.τ).loc Cert.OutCdRefIdeal.main_arg1) = m ((c.tc : Thread Cert.OutCdIdeal.nD Cert.OutCdIdeal.τ).loc Cert.OutCdIdeal.main_arg1)
      ∧ m' ((c.tc : Thread Cert.OutCdRefIdeal.nD Cert.OutCdRefIdeal.τ).loc Cert.OutCdRefIdeal.main_arg2) = m ((c.tc : Thread Cert.OutCdIdeal.nD Cert.OutCdIdeal.τ).loc Cert.OutCdIdeal.main_arg2)) →
    ∃ (v0 : (c : Dev Cert.OutCdIdeal.nD) → Buf (Elt Ideal) ((c.tc : Thread Cert.OutCdIdeal.nD Cert.OutCdIdeal.τ).loc Cert.OutCdIdeal.main_v1)),
      θ_run (Cert.OutCdIdeal.defs (F := Ideal)) (onTc (τ := Cert.OutCdIdeal.τ) (Cert.OutCdIdeal.main (F := Ideal))) ⟨m, fun _ => 0, g⟩ (fun r => ∀ c : Dev Cert.OutCdIdeal.nD,
          r.2.mem ((c.tc : Thread Cert.OutCdIdeal.nD Cert.OutCdIdeal.τ).loc Cert.OutCdIdeal.main_v1) = v0 c
          ∧ r.2.mem ((c.tc : Thread Cert.OutCdIdeal.nD Cert.OutCdIdeal.τ).loc Cert.OutCdIdeal.main_arg0) = m ((c.tc : Thread Cert.OutCdIdeal.nD Cert.OutCdIdeal.τ).loc Cert.OutCdIdeal.main_arg0)
          ∧ r.2.mem ((c.tc : Thread Cert.OutCdIdeal.nD Cert.OutCdIdeal.τ).loc Cert.OutCdIdeal.main_arg1) = m ((c.tc : Thread Cert.OutCdIdeal.nD Cert.OutCdIdeal.τ).loc Cert.OutCdIdeal.main_arg1)
          ∧ r.2.mem ((c.tc : Thread Cert.OutCdIdeal.nD Cert.OutCdIdeal.τ).loc Cert.OutCdIdeal.main_arg2) = m ((c.tc : Thread Cert.OutCdIdeal.nD Cert.OutCdIdeal.τ).loc Cert.OutCdIdeal.main_arg2))
      ∧ θ_run (Cert.OutCdRefIdeal.defs (F := Ideal)) (onTc (τ := Cert.OutCdRefIdeal.τ) (Cert.OutCdRefIdeal.main (F := Ideal))) ⟨m', fun _ => 0, g'⟩ (fun r => ∀ c : Dev Cert.OutCdRefIdeal.nD,
          r.2.mem ((c.tc : Thread Cert.OutCdRefIdeal.nD Cert.OutCdRefIdeal.τ).loc Cert.OutCdRefIdeal.main_v2) = v0 c
          ∧ r.2.mem ((c.tc : Thread Cert.OutCdRefIdeal.nD Cert.OutCdRefIdeal.τ).loc Cert.OutCdRefIdeal.main_arg0) = m' ((c.tc : Thread Cert.OutCdRefIdeal.nD Cert.OutCdRefIdeal.τ).loc Cert.OutCdRefIdeal.main_arg0)
          ∧ r.2.mem ((c.tc : Thread Cert.OutCdRefIdeal.nD Cert.OutCdRefIdeal.τ).loc Cert.OutCdRefIdeal.main_arg1) = m' ((c.tc : Thread Cert.OutCdRefIdeal.nD Cert.OutCdRefIdeal.τ).loc Cert.OutCdRefIdeal.main_arg1)
          ∧ r.2.mem ((c.tc : Thread Cert.OutCdRefIdeal.nD Cert.OutCdRefIdeal.τ).loc Cert.OutCdRefIdeal.main_arg2) = m' ((c.tc : Thread Cert.OutCdRefIdeal.nD Cert.OutCdRefIdeal.τ).loc Cert.OutCdRefIdeal.main_arg2))

def preserves_InAb_InAbIdeal : Prop :=
  True

def algebraic_InAbIdeal_InAbRefIdeal_pre_finite_ab [hInAbIdeal : Cert.InAbIdeal.Facts] [hInAbRefIdeal : Cert.InAbRefIdeal.Facts] [hPre_finite_ab : Cert.Pre_finite_ab.Facts] : Prop :=
  ∀ (m : (ℓ : Loc Cert.InAbIdeal.nD Cert.InAbIdeal.τ Cert.InAbIdeal.sig) → Buf (Elt Ideal) ℓ) (g : Dev Cert.InAbIdeal.nD → PrngReg)
    (m' : (ℓ : Loc Cert.InAbRefIdeal.nD Cert.InAbRefIdeal.τ Cert.InAbRefIdeal.sig) → Buf (Elt Ideal) ℓ) (g' : Dev Cert.InAbRefIdeal.nD → PrngReg), Pre_InAbIdeal_finite_ab m →
    (∀ c : Dev Cert.InAbIdeal.nD,
      m' ((c.tc : Thread Cert.InAbRefIdeal.nD Cert.InAbRefIdeal.τ).loc Cert.InAbRefIdeal.main_arg0) = m ((c.tc : Thread Cert.InAbIdeal.nD Cert.InAbIdeal.τ).loc Cert.InAbIdeal.main_arg0)
      ∧ m' ((c.tc : Thread Cert.InAbRefIdeal.nD Cert.InAbRefIdeal.τ).loc Cert.InAbRefIdeal.main_arg1) = m ((c.tc : Thread Cert.InAbIdeal.nD Cert.InAbIdeal.τ).loc Cert.InAbIdeal.main_arg1)
      ∧ m' ((c.tc : Thread Cert.InAbRefIdeal.nD Cert.InAbRefIdeal.τ).loc Cert.InAbRefIdeal.main_arg2) = m ((c.tc : Thread Cert.InAbIdeal.nD Cert.InAbIdeal.τ).loc Cert.InAbIdeal.main_arg2)
      ∧ m' ((c.tc : Thread Cert.InAbRefIdeal.nD Cert.InAbRefIdeal.τ).loc Cert.InAbRefIdeal.main_arg3) = m ((c.tc : Thread Cert.InAbIdeal.nD Cert.InAbIdeal.τ).loc Cert.InAbIdeal.main_arg3)
      ∧ m' ((c.tc : Thread Cert.InAbRefIdeal.nD Cert.InAbRefIdeal.τ).loc Cert.InAbRefIdeal.main_arg4) = m ((c.tc : Thread Cert.InAbIdeal.nD Cert.InAbIdeal.τ).loc Cert.InAbIdeal.main_arg4)
      ∧ m' ((c.tc : Thread Cert.InAbRefIdeal.nD Cert.InAbRefIdeal.τ).loc Cert.InAbRefIdeal.main_arg5) = m ((c.tc : Thread Cert.InAbIdeal.nD Cert.InAbIdeal.τ).loc Cert.InAbIdeal.main_arg5)
      ∧ m' ((c.tc : Thread Cert.InAbRefIdeal.nD Cert.InAbRefIdeal.τ).loc Cert.InAbRefIdeal.main_arg6) = m ((c.tc : Thread Cert.InAbIdeal.nD Cert.InAbIdeal.τ).loc Cert.InAbIdeal.main_arg6)
      ∧ m' ((c.tc : Thread Cert.InAbRefIdeal.nD Cert.InAbRefIdeal.τ).loc Cert.InAbRefIdeal.main_arg7) = m ((c.tc : Thread Cert.InAbIdeal.nD Cert.InAbIdeal.τ).loc Cert.InAbIdeal.main_arg7)) →
    ∃ (v0 : (c : Dev Cert.InAbIdeal.nD) → Buf (Elt Ideal) ((c.tc : Thread Cert.InAbIdeal.nD Cert.InAbIdeal.τ).loc Cert.InAbIdeal.main_v50_0)) (v1 : (c : Dev Cert.InAbIdeal.nD) → Buf (Elt Ideal) ((c.tc : Thread Cert.InAbIdeal.nD Cert.InAbIdeal.τ).loc Cert.InAbIdeal.main_v50_1)) (v2 : (c : Dev Cert.InAbIdeal.nD) → Buf (Elt Ideal) ((c.tc : Thread Cert.InAbIdeal.nD Cert.InAbIdeal.τ).loc Cert.InAbIdeal.main_v50_2)) (v3 : (c : Dev Cert.InAbIdeal.nD) → Buf (Elt Ideal) ((c.tc : Thread Cert.InAbIdeal.nD Cert.InAbIdeal.τ).loc Cert.InAbIdeal.main_v50_3)) (v4 : (c : Dev Cert.InAbIdeal.nD) → Buf (Elt Ideal) ((c.tc : Thread Cert.InAbIdeal.nD Cert.InAbIdeal.τ).loc Cert.InAbIdeal.main_v50_4)) (v5 : (c : Dev Cert.InAbIdeal.nD) → Buf (Elt Ideal) ((c.tc : Thread Cert.InAbIdeal.nD Cert.InAbIdeal.τ).loc Cert.InAbIdeal.main_v50_5)),
      θ_run (Cert.InAbIdeal.defs (F := Ideal)) (onTc (τ := Cert.InAbIdeal.τ) (Cert.InAbIdeal.main (F := Ideal))) ⟨m, fun _ => 0, g⟩ (fun r => ∀ c : Dev Cert.InAbIdeal.nD,
          r.2.mem ((c.tc : Thread Cert.InAbIdeal.nD Cert.InAbIdeal.τ).loc Cert.InAbIdeal.main_v50_0) = v0 c
          ∧ r.2.mem ((c.tc : Thread Cert.InAbIdeal.nD Cert.InAbIdeal.τ).loc Cert.InAbIdeal.main_v50_1) = v1 c
          ∧ r.2.mem ((c.tc : Thread Cert.InAbIdeal.nD Cert.InAbIdeal.τ).loc Cert.InAbIdeal.main_v50_2) = v2 c
          ∧ r.2.mem ((c.tc : Thread Cert.InAbIdeal.nD Cert.InAbIdeal.τ).loc Cert.InAbIdeal.main_v50_3) = v3 c
          ∧ r.2.mem ((c.tc : Thread Cert.InAbIdeal.nD Cert.InAbIdeal.τ).loc Cert.InAbIdeal.main_v50_4) = v4 c
          ∧ r.2.mem ((c.tc : Thread Cert.InAbIdeal.nD Cert.InAbIdeal.τ).loc Cert.InAbIdeal.main_v50_5) = v5 c
          ∧ r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
          ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1)
          ∧ r.2.mem ((c.tc : Thread Cert.InAbIdeal.nD Cert.InAbIdeal.τ).loc Cert.InAbIdeal.main_arg2) = m ((c.tc : Thread Cert.InAbIdeal.nD Cert.InAbIdeal.τ).loc Cert.InAbIdeal.main_arg2)
          ∧ r.2.mem ((c.tc : Thread Cert.InAbIdeal.nD Cert.InAbIdeal.τ).loc Cert.InAbIdeal.main_arg3) = m ((c.tc : Thread Cert.InAbIdeal.nD Cert.InAbIdeal.τ).loc Cert.InAbIdeal.main_arg3)
          ∧ r.2.mem ((c.tc : Thread Cert.InAbIdeal.nD Cert.InAbIdeal.τ).loc Cert.InAbIdeal.main_arg4) = m ((c.tc : Thread Cert.InAbIdeal.nD Cert.InAbIdeal.τ).loc Cert.InAbIdeal.main_arg4)
          ∧ r.2.mem ((c.tc : Thread Cert.InAbIdeal.nD Cert.InAbIdeal.τ).loc Cert.InAbIdeal.main_arg5) = m ((c.tc : Thread Cert.InAbIdeal.nD Cert.InAbIdeal.τ).loc Cert.InAbIdeal.main_arg5)
          ∧ r.2.mem ((c.tc : Thread Cert.InAbIdeal.nD Cert.InAbIdeal.τ).loc Cert.InAbIdeal.main_arg6) = m ((c.tc : Thread Cert.InAbIdeal.nD Cert.InAbIdeal.τ).loc Cert.InAbIdeal.main_arg6)
          ∧ r.2.mem ((c.tc : Thread Cert.InAbIdeal.nD Cert.InAbIdeal.τ).loc Cert.InAbIdeal.main_arg7) = m ((c.tc : Thread Cert.InAbIdeal.nD Cert.InAbIdeal.τ).loc Cert.InAbIdeal.main_arg7))
      ∧ θ_run (Cert.InAbRefIdeal.defs (F := Ideal)) (onTc (τ := Cert.InAbRefIdeal.τ) (Cert.InAbRefIdeal.main (F := Ideal))) ⟨m', fun _ => 0, g'⟩ (fun r => ∀ c : Dev Cert.InAbRefIdeal.nD,
          r.2.mem ((c.tc : Thread Cert.InAbRefIdeal.nD Cert.InAbRefIdeal.τ).loc Cert.InAbRefIdeal.main_v15) = v0 c
          ∧ r.2.mem ((c.tc : Thread Cert.InAbRefIdeal.nD Cert.InAbRefIdeal.τ).loc Cert.InAbRefIdeal.main_v80) = v1 c
          ∧ r.2.mem ((c.tc : Thread Cert.InAbRefIdeal.nD Cert.InAbRefIdeal.τ).loc Cert.InAbRefIdeal.main_v125) = v2 c
          ∧ r.2.mem ((c.tc : Thread Cert.InAbRefIdeal.nD Cert.InAbRefIdeal.τ).loc Cert.InAbRefIdeal.main_v127) = v3 c
          ∧ r.2.mem ((c.tc : Thread Cert.InAbRefIdeal.nD Cert.InAbRefIdeal.τ).loc Cert.InAbRefIdeal.main_v129) = v4 c
          ∧ r.2.mem ((c.tc : Thread Cert.InAbRefIdeal.nD Cert.InAbRefIdeal.τ).loc Cert.InAbRefIdeal.main_v131) = v5 c
          ∧ r.2.mem ((c.tc : Thread Cert.InAbRefIdeal.nD Cert.InAbRefIdeal.τ).loc Cert.InAbRefIdeal.main_arg0) = m' ((c.tc : Thread Cert.InAbRefIdeal.nD Cert.InAbRefIdeal.τ).loc Cert.InAbRefIdeal.main_arg0)
          ∧ r.2.mem ((c.tc : Thread Cert.InAbRefIdeal.nD Cert.InAbRefIdeal.τ).loc Cert.InAbRefIdeal.main_arg1) = m' ((c.tc : Thread Cert.InAbRefIdeal.nD Cert.InAbRefIdeal.τ).loc Cert.InAbRefIdeal.main_arg1)
          ∧ r.2.mem ((c.tc : Thread Cert.InAbRefIdeal.nD Cert.InAbRefIdeal.τ).loc Cert.InAbRefIdeal.main_arg2) = m' ((c.tc : Thread Cert.InAbRefIdeal.nD Cert.InAbRefIdeal.τ).loc Cert.InAbRefIdeal.main_arg2)
          ∧ r.2.mem ((c.tc : Thread Cert.InAbRefIdeal.nD Cert.InAbRefIdeal.τ).loc Cert.InAbRefIdeal.main_arg3) = m' ((c.tc : Thread Cert.InAbRefIdeal.nD Cert.InAbRefIdeal.τ).loc Cert.InAbRefIdeal.main_arg3)
          ∧ r.2.mem ((c.tc : Thread Cert.InAbRefIdeal.nD Cert.InAbRefIdeal.τ).loc Cert.InAbRefIdeal.main_arg4) = m' ((c.tc : Thread Cert.InAbRefIdeal.nD Cert.InAbRefIdeal.τ).loc Cert.InAbRefIdeal.main_arg4)
          ∧ r.2.mem ((c.tc : Thread Cert.InAbRefIdeal.nD Cert.InAbRefIdeal.τ).loc Cert.InAbRefIdeal.main_arg5) = m' ((c.tc : Thread Cert.InAbRefIdeal.nD Cert.InAbRefIdeal.τ).loc Cert.InAbRefIdeal.main_arg5)
          ∧ r.2.mem ((c.tc : Thread Cert.InAbRefIdeal.nD Cert.InAbRefIdeal.τ).loc Cert.InAbRefIdeal.main_arg6) = m' ((c.tc : Thread Cert.InAbRefIdeal.nD Cert.InAbRefIdeal.τ).loc Cert.InAbRefIdeal.main_arg6)
          ∧ r.2.mem ((c.tc : Thread Cert.InAbRefIdeal.nD Cert.InAbRefIdeal.τ).loc Cert.InAbRefIdeal.main_arg7) = m' ((c.tc : Thread Cert.InAbRefIdeal.nD Cert.InAbRefIdeal.τ).loc Cert.InAbRefIdeal.main_arg7))

def preserves_InAbS_InAbSIdeal : Prop :=
  True

def algebraic_InAbSIdeal_InAbSRefIdeal_pre_finite_ab_s [hInAbSIdeal : Cert.InAbSIdeal.Facts] [hInAbSRefIdeal : Cert.InAbSRefIdeal.Facts] [hPre_finite_ab_s : Cert.Pre_finite_ab_s.Facts] : Prop :=
  ∀ (m : (ℓ : Loc Cert.InAbSIdeal.nD Cert.InAbSIdeal.τ Cert.InAbSIdeal.sig) → Buf (Elt Ideal) ℓ) (g : Dev Cert.InAbSIdeal.nD → PrngReg)
    (m' : (ℓ : Loc Cert.InAbSRefIdeal.nD Cert.InAbSRefIdeal.τ Cert.InAbSRefIdeal.sig) → Buf (Elt Ideal) ℓ) (g' : Dev Cert.InAbSRefIdeal.nD → PrngReg), Pre_InAbSIdeal_finite_ab_s m →
    (∀ c : Dev Cert.InAbSIdeal.nD,
      m' ((c.tc : Thread Cert.InAbSRefIdeal.nD Cert.InAbSRefIdeal.τ).loc Cert.InAbSRefIdeal.main_arg0) = m ((c.tc : Thread Cert.InAbSIdeal.nD Cert.InAbSIdeal.τ).loc Cert.InAbSIdeal.main_arg0)
      ∧ m' ((c.tc : Thread Cert.InAbSRefIdeal.nD Cert.InAbSRefIdeal.τ).loc Cert.InAbSRefIdeal.main_arg1) = m ((c.tc : Thread Cert.InAbSIdeal.nD Cert.InAbSIdeal.τ).loc Cert.InAbSIdeal.main_arg1)
      ∧ m' ((c.tc : Thread Cert.InAbSRefIdeal.nD Cert.InAbSRefIdeal.τ).loc Cert.InAbSRefIdeal.main_arg2) = m ((c.tc : Thread Cert.InAbSIdeal.nD Cert.InAbSIdeal.τ).loc Cert.InAbSIdeal.main_arg2)
      ∧ m' ((c.tc : Thread Cert.InAbSRefIdeal.nD Cert.InAbSRefIdeal.τ).loc Cert.InAbSRefIdeal.main_arg3) = m ((c.tc : Thread Cert.InAbSIdeal.nD Cert.InAbSIdeal.τ).loc Cert.InAbSIdeal.main_arg3)
      ∧ m' ((c.tc : Thread Cert.InAbSRefIdeal.nD Cert.InAbSRefIdeal.τ).loc Cert.InAbSRefIdeal.main_arg4) = m ((c.tc : Thread Cert.InAbSIdeal.nD Cert.InAbSIdeal.τ).loc Cert.InAbSIdeal.main_arg4)
      ∧ m' ((c.tc : Thread Cert.InAbSRefIdeal.nD Cert.InAbSRefIdeal.τ).loc Cert.InAbSRefIdeal.main_arg5) = m ((c.tc : Thread Cert.InAbSIdeal.nD Cert.InAbSIdeal.τ).loc Cert.InAbSIdeal.main_arg5)
      ∧ m' ((c.tc : Thread Cert.InAbSRefIdeal.nD Cert.InAbSRefIdeal.τ).loc Cert.InAbSRefIdeal.main_arg6) = m ((c.tc : Thread Cert.InAbSIdeal.nD Cert.InAbSIdeal.τ).loc Cert.InAbSIdeal.main_arg6)) →
    ∃ (v0 : (c : Dev Cert.InAbSIdeal.nD) → Buf (Elt Ideal) ((c.tc : Thread Cert.InAbSIdeal.nD Cert.InAbSIdeal.τ).loc Cert.InAbSIdeal.main_v52_0)) (v1 : (c : Dev Cert.InAbSIdeal.nD) → Buf (Elt Ideal) ((c.tc : Thread Cert.InAbSIdeal.nD Cert.InAbSIdeal.τ).loc Cert.InAbSIdeal.main_v52_1)) (v2 : (c : Dev Cert.InAbSIdeal.nD) → Buf (Elt Ideal) ((c.tc : Thread Cert.InAbSIdeal.nD Cert.InAbSIdeal.τ).loc Cert.InAbSIdeal.main_v52_2)) (v3 : (c : Dev Cert.InAbSIdeal.nD) → Buf (Elt Ideal) ((c.tc : Thread Cert.InAbSIdeal.nD Cert.InAbSIdeal.τ).loc Cert.InAbSIdeal.main_v52_3)) (v4 : (c : Dev Cert.InAbSIdeal.nD) → Buf (Elt Ideal) ((c.tc : Thread Cert.InAbSIdeal.nD Cert.InAbSIdeal.τ).loc Cert.InAbSIdeal.main_v52_4)),
      θ_run (Cert.InAbSIdeal.defs (F := Ideal)) (onTc (τ := Cert.InAbSIdeal.τ) (Cert.InAbSIdeal.main (F := Ideal))) ⟨m, fun _ => 0, g⟩ (fun r => ∀ c : Dev Cert.InAbSIdeal.nD,
          r.2.mem ((c.tc : Thread Cert.InAbSIdeal.nD Cert.InAbSIdeal.τ).loc Cert.InAbSIdeal.main_v52_0) = v0 c
          ∧ r.2.mem ((c.tc : Thread Cert.InAbSIdeal.nD Cert.InAbSIdeal.τ).loc Cert.InAbSIdeal.main_v52_1) = v1 c
          ∧ r.2.mem ((c.tc : Thread Cert.InAbSIdeal.nD Cert.InAbSIdeal.τ).loc Cert.InAbSIdeal.main_v52_2) = v2 c
          ∧ r.2.mem ((c.tc : Thread Cert.InAbSIdeal.nD Cert.InAbSIdeal.τ).loc Cert.InAbSIdeal.main_v52_3) = v3 c
          ∧ r.2.mem ((c.tc : Thread Cert.InAbSIdeal.nD Cert.InAbSIdeal.τ).loc Cert.InAbSIdeal.main_v52_4) = v4 c
          ∧ r.2.mem ((c.tc : Thread Cert.InAbSIdeal.nD Cert.InAbSIdeal.τ).loc Cert.InAbSIdeal.main_arg0) = m ((c.tc : Thread Cert.InAbSIdeal.nD Cert.InAbSIdeal.τ).loc Cert.InAbSIdeal.main_arg0)
          ∧ r.2.mem ((c.tc : Thread Cert.InAbSIdeal.nD Cert.InAbSIdeal.τ).loc Cert.InAbSIdeal.main_arg1) = m ((c.tc : Thread Cert.InAbSIdeal.nD Cert.InAbSIdeal.τ).loc Cert.InAbSIdeal.main_arg1)
          ∧ r.2.mem ((c.tc : Thread Cert.InAbSIdeal.nD Cert.InAbSIdeal.τ).loc Cert.InAbSIdeal.main_arg2) = m ((c.tc : Thread Cert.InAbSIdeal.nD Cert.InAbSIdeal.τ).loc Cert.InAbSIdeal.main_arg2)
          ∧ r.2.mem ((c.tc : Thread Cert.InAbSIdeal.nD Cert.InAbSIdeal.τ).loc Cert.InAbSIdeal.main_arg3) = m ((c.tc : Thread Cert.InAbSIdeal.nD Cert.InAbSIdeal.τ).loc Cert.InAbSIdeal.main_arg3)
          ∧ r.2.mem ((c.tc : Thread Cert.InAbSIdeal.nD Cert.InAbSIdeal.τ).loc Cert.InAbSIdeal.main_arg4) = m ((c.tc : Thread Cert.InAbSIdeal.nD Cert.InAbSIdeal.τ).loc Cert.InAbSIdeal.main_arg4)
          ∧ r.2.mem ((c.tc : Thread Cert.InAbSIdeal.nD Cert.InAbSIdeal.τ).loc Cert.InAbSIdeal.main_arg5) = m ((c.tc : Thread Cert.InAbSIdeal.nD Cert.InAbSIdeal.τ).loc Cert.InAbSIdeal.main_arg5)
          ∧ r.2.mem ((c.tc : Thread Cert.InAbSIdeal.nD Cert.InAbSIdeal.τ).loc Cert.InAbSIdeal.main_arg6) = m ((c.tc : Thread Cert.InAbSIdeal.nD Cert.InAbSIdeal.τ).loc Cert.InAbSIdeal.main_arg6))
      ∧ θ_run (Cert.InAbSRefIdeal.defs (F := Ideal)) (onTc (τ := Cert.InAbSRefIdeal.τ) (Cert.InAbSRefIdeal.main (F := Ideal))) ⟨m', fun _ => 0, g'⟩ (fun r => ∀ c : Dev Cert.InAbSRefIdeal.nD,
          r.2.mem ((c.tc : Thread Cert.InAbSRefIdeal.nD Cert.InAbSRefIdeal.τ).loc Cert.InAbSRefIdeal.main_v19) = v0 c
          ∧ r.2.mem ((c.tc : Thread Cert.InAbSRefIdeal.nD Cert.InAbSRefIdeal.τ).loc Cert.InAbSRefIdeal.main_v85) = v1 c
          ∧ r.2.mem ((c.tc : Thread Cert.InAbSRefIdeal.nD Cert.InAbSRefIdeal.τ).loc Cert.InAbSRefIdeal.main_v114) = v2 c
          ∧ r.2.mem ((c.tc : Thread Cert.InAbSRefIdeal.nD Cert.InAbSRefIdeal.τ).loc Cert.InAbSRefIdeal.main_v124) = v3 c
          ∧ r.2.mem ((c.tc : Thread Cert.InAbSRefIdeal.nD Cert.InAbSRefIdeal.τ).loc Cert.InAbSRefIdeal.main_v125) = v4 c
          ∧ r.2.mem ((c.tc : Thread Cert.InAbSRefIdeal.nD Cert.InAbSRefIdeal.τ).loc Cert.InAbSRefIdeal.main_arg0) = m' ((c.tc : Thread Cert.InAbSRefIdeal.nD Cert.InAbSRefIdeal.τ).loc Cert.InAbSRefIdeal.main_arg0)
          ∧ r.2.mem ((c.tc : Thread Cert.InAbSRefIdeal.nD Cert.InAbSRefIdeal.τ).loc Cert.InAbSRefIdeal.main_arg1) = m' ((c.tc : Thread Cert.InAbSRefIdeal.nD Cert.InAbSRefIdeal.τ).loc Cert.InAbSRefIdeal.main_arg1)
          ∧ r.2.mem ((c.tc : Thread Cert.InAbSRefIdeal.nD Cert.InAbSRefIdeal.τ).loc Cert.InAbSRefIdeal.main_arg2) = m' ((c.tc : Thread Cert.InAbSRefIdeal.nD Cert.InAbSRefIdeal.τ).loc Cert.InAbSRefIdeal.main_arg2)
          ∧ r.2.mem ((c.tc : Thread Cert.InAbSRefIdeal.nD Cert.InAbSRefIdeal.τ).loc Cert.InAbSRefIdeal.main_arg3) = m' ((c.tc : Thread Cert.InAbSRefIdeal.nD Cert.InAbSRefIdeal.τ).loc Cert.InAbSRefIdeal.main_arg3)
          ∧ r.2.mem ((c.tc : Thread Cert.InAbSRefIdeal.nD Cert.InAbSRefIdeal.τ).loc Cert.InAbSRefIdeal.main_arg4) = m' ((c.tc : Thread Cert.InAbSRefIdeal.nD Cert.InAbSRefIdeal.τ).loc Cert.InAbSRefIdeal.main_arg4)
          ∧ r.2.mem ((c.tc : Thread Cert.InAbSRefIdeal.nD Cert.InAbSRefIdeal.τ).loc Cert.InAbSRefIdeal.main_arg5) = m' ((c.tc : Thread Cert.InAbSRefIdeal.nD Cert.InAbSRefIdeal.τ).loc Cert.InAbSRefIdeal.main_arg5)
          ∧ r.2.mem ((c.tc : Thread Cert.InAbSRefIdeal.nD Cert.InAbSRefIdeal.τ).loc Cert.InAbSRefIdeal.main_arg6) = m' ((c.tc : Thread Cert.InAbSRefIdeal.nD Cert.InAbSRefIdeal.τ).loc Cert.InAbSRefIdeal.main_arg6))

def preserves_MlpFinalS_MlpFinalSIdeal : Prop :=
  True

def algebraic_MlpFinalSIdeal_MlpFinalSRefIdeal [hMlpFinalSIdeal : Cert.MlpFinalSIdeal.Facts] [hMlpFinalSRefIdeal : Cert.MlpFinalSRefIdeal.Facts] : Prop :=
  ∀ (m : (ℓ : Loc Cert.MlpFinalSIdeal.nD Cert.MlpFinalSIdeal.τ Cert.MlpFinalSIdeal.sig) → Buf (Elt Ideal) ℓ) (g : Dev Cert.MlpFinalSIdeal.nD → PrngReg)
    (m' : (ℓ : Loc Cert.MlpFinalSRefIdeal.nD Cert.MlpFinalSRefIdeal.τ Cert.MlpFinalSRefIdeal.sig) → Buf (Elt Ideal) ℓ) (g' : Dev Cert.MlpFinalSRefIdeal.nD → PrngReg), Pre_MlpFinalSIdeal m →
    (∀ c : Dev Cert.MlpFinalSIdeal.nD,
      m' ((c.tc : Thread Cert.MlpFinalSRefIdeal.nD Cert.MlpFinalSRefIdeal.τ).loc Cert.MlpFinalSRefIdeal.main_arg0) = m ((c.tc : Thread Cert.MlpFinalSIdeal.nD Cert.MlpFinalSIdeal.τ).loc Cert.MlpFinalSIdeal.main_arg0)
      ∧ m' ((c.tc : Thread Cert.MlpFinalSRefIdeal.nD Cert.MlpFinalSRefIdeal.τ).loc Cert.MlpFinalSRefIdeal.main_arg1) = m ((c.tc : Thread Cert.MlpFinalSIdeal.nD Cert.MlpFinalSIdeal.τ).loc Cert.MlpFinalSIdeal.main_arg1)
      ∧ m' ((c.tc : Thread Cert.MlpFinalSRefIdeal.nD Cert.MlpFinalSRefIdeal.τ).loc Cert.MlpFinalSRefIdeal.main_arg2) = m ((c.tc : Thread Cert.MlpFinalSIdeal.nD Cert.MlpFinalSIdeal.τ).loc Cert.MlpFinalSIdeal.main_arg2)
      ∧ m' ((c.tc : Thread Cert.MlpFinalSRefIdeal.nD Cert.MlpFinalSRefIdeal.τ).loc Cert.MlpFinalSRefIdeal.main_arg3) = m ((c.tc : Thread Cert.MlpFinalSIdeal.nD Cert.MlpFinalSIdeal.τ).loc Cert.MlpFinalSIdeal.main_arg3)
      ∧ m' ((c.tc : Thread Cert.MlpFinalSRefIdeal.nD Cert.MlpFinalSRefIdeal.τ).loc Cert.MlpFinalSRefIdeal.main_arg4) = m ((c.tc : Thread Cert.MlpFinalSIdeal.nD Cert.MlpFinalSIdeal.τ).loc Cert.MlpFinalSIdeal.main_arg4)) →
    ∃ (v0 : (c : Dev Cert.MlpFinalSIdeal.nD) → Buf (Elt Ideal) ((c.tc : Thread Cert.MlpFinalSIdeal.nD Cert.MlpFinalSIdeal.τ).loc Cert.MlpFinalSIdeal.main_v4)),
      θ_run (Cert.MlpFinalSIdeal.defs (F := Ideal)) (onTc (τ := Cert.MlpFinalSIdeal.τ) (Cert.MlpFinalSIdeal.main (F := Ideal))) ⟨m, fun _ => 0, g⟩ (fun r => ∀ c : Dev Cert.MlpFinalSIdeal.nD,
          r.2.mem ((c.tc : Thread Cert.MlpFinalSIdeal.nD Cert.MlpFinalSIdeal.τ).loc Cert.MlpFinalSIdeal.main_v4) = v0 c
          ∧ r.2.mem ((c.tc : Thread Cert.MlpFinalSIdeal.nD Cert.MlpFinalSIdeal.τ).loc Cert.MlpFinalSIdeal.main_arg0) = m ((c.tc : Thread Cert.MlpFinalSIdeal.nD Cert.MlpFinalSIdeal.τ).loc Cert.MlpFinalSIdeal.main_arg0)
          ∧ r.2.mem ((c.tc : Thread Cert.MlpFinalSIdeal.nD Cert.MlpFinalSIdeal.τ).loc Cert.MlpFinalSIdeal.main_arg1) = m ((c.tc : Thread Cert.MlpFinalSIdeal.nD Cert.MlpFinalSIdeal.τ).loc Cert.MlpFinalSIdeal.main_arg1)
          ∧ r.2.mem ((c.tc : Thread Cert.MlpFinalSIdeal.nD Cert.MlpFinalSIdeal.τ).loc Cert.MlpFinalSIdeal.main_arg2) = m ((c.tc : Thread Cert.MlpFinalSIdeal.nD Cert.MlpFinalSIdeal.τ).loc Cert.MlpFinalSIdeal.main_arg2)
          ∧ r.2.mem ((c.tc : Thread Cert.MlpFinalSIdeal.nD Cert.MlpFinalSIdeal.τ).loc Cert.MlpFinalSIdeal.main_arg3) = m ((c.tc : Thread Cert.MlpFinalSIdeal.nD Cert.MlpFinalSIdeal.τ).loc Cert.MlpFinalSIdeal.main_arg3)
          ∧ r.2.mem ((c.tc : Thread Cert.MlpFinalSIdeal.nD Cert.MlpFinalSIdeal.τ).loc Cert.MlpFinalSIdeal.main_arg4) = m ((c.tc : Thread Cert.MlpFinalSIdeal.nD Cert.MlpFinalSIdeal.τ).loc Cert.MlpFinalSIdeal.main_arg4))
      ∧ θ_run (Cert.MlpFinalSRefIdeal.defs (F := Ideal)) (onTc (τ := Cert.MlpFinalSRefIdeal.τ) (Cert.MlpFinalSRefIdeal.main (F := Ideal))) ⟨m', fun _ => 0, g'⟩ (fun r => ∀ c : Dev Cert.MlpFinalSRefIdeal.nD,
          r.2.mem ((c.tc : Thread Cert.MlpFinalSRefIdeal.nD Cert.MlpFinalSRefIdeal.τ).loc Cert.MlpFinalSRefIdeal.main_v34) = v0 c
          ∧ r.2.mem ((c.tc : Thread Cert.MlpFinalSRefIdeal.nD Cert.MlpFinalSRefIdeal.τ).loc Cert.MlpFinalSRefIdeal.main_arg0) = m' ((c.tc : Thread Cert.MlpFinalSRefIdeal.nD Cert.MlpFinalSRefIdeal.τ).loc Cert.MlpFinalSRefIdeal.main_arg0)
          ∧ r.2.mem ((c.tc : Thread Cert.MlpFinalSRefIdeal.nD Cert.MlpFinalSRefIdeal.τ).loc Cert.MlpFinalSRefIdeal.main_arg1) = m' ((c.tc : Thread Cert.MlpFinalSRefIdeal.nD Cert.MlpFinalSRefIdeal.τ).loc Cert.MlpFinalSRefIdeal.main_arg1)
          ∧ r.2.mem ((c.tc : Thread Cert.MlpFinalSRefIdeal.nD Cert.MlpFinalSRefIdeal.τ).loc Cert.MlpFinalSRefIdeal.main_arg2) = m' ((c.tc : Thread Cert.MlpFinalSRefIdeal.nD Cert.MlpFinalSRefIdeal.τ).loc Cert.MlpFinalSRefIdeal.main_arg2)
          ∧ r.2.mem ((c.tc : Thread Cert.MlpFinalSRefIdeal.nD Cert.MlpFinalSRefIdeal.τ).loc Cert.MlpFinalSRefIdeal.main_arg3) = m' ((c.tc : Thread Cert.MlpFinalSRefIdeal.nD Cert.MlpFinalSRefIdeal.τ).loc Cert.MlpFinalSRefIdeal.main_arg3)
          ∧ r.2.mem ((c.tc : Thread Cert.MlpFinalSRefIdeal.nD Cert.MlpFinalSRefIdeal.τ).loc Cert.MlpFinalSRefIdeal.main_arg4) = m' ((c.tc : Thread Cert.MlpFinalSRefIdeal.nD Cert.MlpFinalSRefIdeal.τ).loc Cert.MlpFinalSRefIdeal.main_arg4))

def preserves_InCdS_InCdSIdeal : Prop :=
  True

def algebraic_InCdSIdeal_InCdSRefIdeal [hInCdSIdeal : Cert.InCdSIdeal.Facts] [hInCdSRefIdeal : Cert.InCdSRefIdeal.Facts] : Prop :=
  ∀ (m : (ℓ : Loc Cert.InCdSIdeal.nD Cert.InCdSIdeal.τ Cert.InCdSIdeal.sig) → Buf (Elt Ideal) ℓ) (g : Dev Cert.InCdSIdeal.nD → PrngReg)
    (m' : (ℓ : Loc Cert.InCdSRefIdeal.nD Cert.InCdSRefIdeal.τ Cert.InCdSRefIdeal.sig) → Buf (Elt Ideal) ℓ) (g' : Dev Cert.InCdSRefIdeal.nD → PrngReg), Pre_InCdSIdeal m →
    (∀ c : Dev Cert.InCdSIdeal.nD,
      m' ((c.tc : Thread Cert.InCdSRefIdeal.nD Cert.InCdSRefIdeal.τ).loc Cert.InCdSRefIdeal.main_arg0) = m ((c.tc : Thread Cert.InCdSIdeal.nD Cert.InCdSIdeal.τ).loc Cert.InCdSIdeal.main_arg0)
      ∧ m' ((c.tc : Thread Cert.InCdSRefIdeal.nD Cert.InCdSRefIdeal.τ).loc Cert.InCdSRefIdeal.main_arg1) = m ((c.tc : Thread Cert.InCdSIdeal.nD Cert.InCdSIdeal.τ).loc Cert.InCdSIdeal.main_arg1)
      ∧ m' ((c.tc : Thread Cert.InCdSRefIdeal.nD Cert.InCdSRefIdeal.τ).loc Cert.InCdSRefIdeal.main_arg2) = m ((c.tc : Thread Cert.InCdSIdeal.nD Cert.InCdSIdeal.τ).loc Cert.InCdSIdeal.main_arg2)) →
    ∃ (v0 : (c : Dev Cert.InCdSIdeal.nD) → Buf (Elt Ideal) ((c.tc : Thread Cert.InCdSIdeal.nD Cert.InCdSIdeal.τ).loc Cert.InCdSIdeal.main_v2_0)) (v1 : (c : Dev Cert.InCdSIdeal.nD) → Buf (Elt Ideal) ((c.tc : Thread Cert.InCdSIdeal.nD Cert.InCdSIdeal.τ).loc Cert.InCdSIdeal.main_v2_1)) (v2 : (c : Dev Cert.InCdSIdeal.nD) → Buf (Elt Ideal) ((c.tc : Thread Cert.InCdSIdeal.nD Cert.InCdSIdeal.τ).loc Cert.InCdSIdeal.main_v2_2)),
      θ_run (Cert.InCdSIdeal.defs (F := Ideal)) (onTc (τ := Cert.InCdSIdeal.τ) (Cert.InCdSIdeal.main (F := Ideal))) ⟨m, fun _ => 0, g⟩ (fun r => ∀ c : Dev Cert.InCdSIdeal.nD,
          r.2.mem ((c.tc : Thread Cert.InCdSIdeal.nD Cert.InCdSIdeal.τ).loc Cert.InCdSIdeal.main_v2_0) = v0 c
          ∧ r.2.mem ((c.tc : Thread Cert.InCdSIdeal.nD Cert.InCdSIdeal.τ).loc Cert.InCdSIdeal.main_v2_1) = v1 c
          ∧ r.2.mem ((c.tc : Thread Cert.InCdSIdeal.nD Cert.InCdSIdeal.τ).loc Cert.InCdSIdeal.main_v2_2) = v2 c
          ∧ r.2.mem ((c.tc : Thread Cert.InCdSIdeal.nD Cert.InCdSIdeal.τ).loc Cert.InCdSIdeal.main_arg0) = m ((c.tc : Thread Cert.InCdSIdeal.nD Cert.InCdSIdeal.τ).loc Cert.InCdSIdeal.main_arg0)
          ∧ r.2.mem ((c.tc : Thread Cert.InCdSIdeal.nD Cert.InCdSIdeal.τ).loc Cert.InCdSIdeal.main_arg1) = m ((c.tc : Thread Cert.InCdSIdeal.nD Cert.InCdSIdeal.τ).loc Cert.InCdSIdeal.main_arg1)
          ∧ r.2.mem ((c.tc : Thread Cert.InCdSIdeal.nD Cert.InCdSIdeal.τ).loc Cert.InCdSIdeal.main_arg2) = m ((c.tc : Thread Cert.InCdSIdeal.nD Cert.InCdSIdeal.τ).loc Cert.InCdSIdeal.main_arg2))
      ∧ θ_run (Cert.InCdSRefIdeal.defs (F := Ideal)) (onTc (τ := Cert.InCdSRefIdeal.τ) (Cert.InCdSRefIdeal.main (F := Ideal))) ⟨m', fun _ => 0, g'⟩ (fun r => ∀ c : Dev Cert.InCdSRefIdeal.nD,
          r.2.mem ((c.tc : Thread Cert.InCdSRefIdeal.nD Cert.InCdSRefIdeal.τ).loc Cert.InCdSRefIdeal.main_v22) = v0 c
          ∧ r.2.mem ((c.tc : Thread Cert.InCdSRefIdeal.nD Cert.InCdSRefIdeal.τ).loc Cert.InCdSRefIdeal.main_v25) = v1 c
          ∧ r.2.mem ((c.tc : Thread Cert.InCdSRefIdeal.nD Cert.InCdSRefIdeal.τ).loc Cert.InCdSRefIdeal.main_v26) = v2 c
          ∧ r.2.mem ((c.tc : Thread Cert.InCdSRefIdeal.nD Cert.InCdSRefIdeal.τ).loc Cert.InCdSRefIdeal.main_arg0) = m' ((c.tc : Thread Cert.InCdSRefIdeal.nD Cert.InCdSRefIdeal.τ).loc Cert.InCdSRefIdeal.main_arg0)
          ∧ r.2.mem ((c.tc : Thread Cert.InCdSRefIdeal.nD Cert.InCdSRefIdeal.τ).loc Cert.InCdSRefIdeal.main_arg1) = m' ((c.tc : Thread Cert.InCdSRefIdeal.nD Cert.InCdSRefIdeal.τ).loc Cert.InCdSRefIdeal.main_arg1)
          ∧ r.2.mem ((c.tc : Thread Cert.InCdSRefIdeal.nD Cert.InCdSRefIdeal.τ).loc Cert.InCdSRefIdeal.main_arg2) = m' ((c.tc : Thread Cert.InCdSRefIdeal.nD Cert.InCdSRefIdeal.τ).loc Cert.InCdSRefIdeal.main_arg2))

def preserves_Unabsorb_UnabsorbIdeal : Prop :=
  True

def algebraic_UnabsorbIdeal_UnabsorbRefIdeal [hUnabsorbIdeal : Cert.UnabsorbIdeal.Facts] [hUnabsorbRefIdeal : Cert.UnabsorbRefIdeal.Facts] : Prop :=
  ∀ (m : (ℓ : Loc Cert.UnabsorbIdeal.nD Cert.UnabsorbIdeal.τ Cert.UnabsorbIdeal.sig) → Buf (Elt Ideal) ℓ) (g : Dev Cert.UnabsorbIdeal.nD → PrngReg)
    (m' : (ℓ : Loc Cert.UnabsorbRefIdeal.nD Cert.UnabsorbRefIdeal.τ Cert.UnabsorbRefIdeal.sig) → Buf (Elt Ideal) ℓ) (g' : Dev Cert.UnabsorbRefIdeal.nD → PrngReg), Pre_UnabsorbIdeal m →
    (∀ c : Dev Cert.UnabsorbIdeal.nD,
      m' ((c.tc : Thread Cert.UnabsorbRefIdeal.nD Cert.UnabsorbRefIdeal.τ).loc Cert.UnabsorbRefIdeal.main_arg0) = m ((c.tc : Thread Cert.UnabsorbIdeal.nD Cert.UnabsorbIdeal.τ).loc Cert.UnabsorbIdeal.main_arg0)
      ∧ m' ((c.tc : Thread Cert.UnabsorbRefIdeal.nD Cert.UnabsorbRefIdeal.τ).loc Cert.UnabsorbRefIdeal.main_arg1) = m ((c.tc : Thread Cert.UnabsorbIdeal.nD Cert.UnabsorbIdeal.τ).loc Cert.UnabsorbIdeal.main_arg1)) →
    ∃ (v0 : (c : Dev Cert.UnabsorbIdeal.nD) → Buf (Elt Ideal) ((c.tc : Thread Cert.UnabsorbIdeal.nD Cert.UnabsorbIdeal.τ).loc Cert.UnabsorbIdeal.main_v2)),
      θ_run (Cert.UnabsorbIdeal.defs (F := Ideal)) (onTc (τ := Cert.UnabsorbIdeal.τ) (Cert.UnabsorbIdeal.main (F := Ideal))) ⟨m, fun _ => 0, g⟩ (fun r => ∀ c : Dev Cert.UnabsorbIdeal.nD,
          r.2.mem ((c.tc : Thread Cert.UnabsorbIdeal.nD Cert.UnabsorbIdeal.τ).loc Cert.UnabsorbIdeal.main_v2) = v0 c
          ∧ r.2.mem ((c.tc : Thread Cert.UnabsorbIdeal.nD Cert.UnabsorbIdeal.τ).loc Cert.UnabsorbIdeal.main_arg0) = m ((c.tc : Thread Cert.UnabsorbIdeal.nD Cert.UnabsorbIdeal.τ).loc Cert.UnabsorbIdeal.main_arg0)
          ∧ r.2.mem ((c.tc : Thread Cert.UnabsorbIdeal.nD Cert.UnabsorbIdeal.τ).loc Cert.UnabsorbIdeal.main_arg1) = m ((c.tc : Thread Cert.UnabsorbIdeal.nD Cert.UnabsorbIdeal.τ).loc Cert.UnabsorbIdeal.main_arg1))
      ∧ θ_run (Cert.UnabsorbRefIdeal.defs (F := Ideal)) (onTc (τ := Cert.UnabsorbRefIdeal.τ) (Cert.UnabsorbRefIdeal.main (F := Ideal))) ⟨m', fun _ => 0, g'⟩ (fun r => ∀ c : Dev Cert.UnabsorbRefIdeal.nD,
          r.2.mem ((c.tc : Thread Cert.UnabsorbRefIdeal.nD Cert.UnabsorbRefIdeal.τ).loc Cert.UnabsorbRefIdeal.main_v5) = v0 c
          ∧ r.2.mem ((c.tc : Thread Cert.UnabsorbRefIdeal.nD Cert.UnabsorbRefIdeal.τ).loc Cert.UnabsorbRefIdeal.main_arg0) = m' ((c.tc : Thread Cert.UnabsorbRefIdeal.nD Cert.UnabsorbRefIdeal.τ).loc Cert.UnabsorbRefIdeal.main_arg0)
          ∧ r.2.mem ((c.tc : Thread Cert.UnabsorbRefIdeal.nD Cert.UnabsorbRefIdeal.τ).loc Cert.UnabsorbRefIdeal.main_arg1) = m' ((c.tc : Thread Cert.UnabsorbRefIdeal.nD Cert.UnabsorbRefIdeal.τ).loc Cert.UnabsorbRefIdeal.main_arg1))

def preserves_PoolS_PoolSIdeal : Prop :=
  True

def algebraic_PoolSIdeal_PoolSRefIdeal [hPoolSIdeal : Cert.PoolSIdeal.Facts] [hPoolSRefIdeal : Cert.PoolSRefIdeal.Facts] : Prop :=
  ∀ (m : (ℓ : Loc Cert.PoolSIdeal.nD Cert.PoolSIdeal.τ Cert.PoolSIdeal.sig) → Buf (Elt Ideal) ℓ) (g : Dev Cert.PoolSIdeal.nD → PrngReg)
    (m' : (ℓ : Loc Cert.PoolSRefIdeal.nD Cert.PoolSRefIdeal.τ Cert.PoolSRefIdeal.sig) → Buf (Elt Ideal) ℓ) (g' : Dev Cert.PoolSRefIdeal.nD → PrngReg), Pre_PoolSIdeal m →
    (∀ c : Dev Cert.PoolSIdeal.nD,
      m' ((c.tc : Thread Cert.PoolSRefIdeal.nD Cert.PoolSRefIdeal.τ).loc Cert.PoolSRefIdeal.main_arg0) = m ((c.tc : Thread Cert.PoolSIdeal.nD Cert.PoolSIdeal.τ).loc Cert.PoolSIdeal.main_arg0)
      ∧ m' ((c.tc : Thread Cert.PoolSRefIdeal.nD Cert.PoolSRefIdeal.τ).loc Cert.PoolSRefIdeal.main_arg1) = m ((c.tc : Thread Cert.PoolSIdeal.nD Cert.PoolSIdeal.τ).loc Cert.PoolSIdeal.main_arg1)
      ∧ m' ((c.tc : Thread Cert.PoolSRefIdeal.nD Cert.PoolSRefIdeal.τ).loc Cert.PoolSRefIdeal.main_arg2) = m ((c.tc : Thread Cert.PoolSIdeal.nD Cert.PoolSIdeal.τ).loc Cert.PoolSIdeal.main_arg2)
      ∧ m' ((c.tc : Thread Cert.PoolSRefIdeal.nD Cert.PoolSRefIdeal.τ).loc Cert.PoolSRefIdeal.main_arg3) = m ((c.tc : Thread Cert.PoolSIdeal.nD Cert.PoolSIdeal.τ).loc Cert.PoolSIdeal.main_arg3)) →
    ∃ (v0 : (c : Dev Cert.PoolSIdeal.nD) → Buf (Elt Ideal) ((c.tc : Thread Cert.PoolSIdeal.nD Cert.PoolSIdeal.τ).loc Cert.PoolSIdeal.main_v2)),
      θ_run (Cert.PoolSIdeal.defs (F := Ideal)) (onTc (τ := Cert.PoolSIdeal.τ) (Cert.PoolSIdeal.main (F := Ideal))) ⟨m, fun _ => 0, g⟩ (fun r => ∀ c : Dev Cert.PoolSIdeal.nD,
          r.2.mem ((c.tc : Thread Cert.PoolSIdeal.nD Cert.PoolSIdeal.τ).loc Cert.PoolSIdeal.main_v2) = v0 c
          ∧ r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
          ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
          ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
          ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3))
      ∧ θ_run (Cert.PoolSRefIdeal.defs (F := Ideal)) (onTc (τ := Cert.PoolSRefIdeal.τ) (Cert.PoolSRefIdeal.main (F := Ideal))) ⟨m', fun _ => 0, g'⟩ (fun r => ∀ c : Dev Cert.PoolSRefIdeal.nD,
          r.2.mem ((c.tc : Thread Cert.PoolSRefIdeal.nD Cert.PoolSRefIdeal.τ).loc Cert.PoolSRefIdeal.main_v110) = v0 c
          ∧ r.2.mem ((c.tc : Thread Cert.PoolSRefIdeal.nD Cert.PoolSRefIdeal.τ).loc Cert.PoolSRefIdeal.main_arg0) = m' ((c.tc : Thread Cert.PoolSRefIdeal.nD Cert.PoolSRefIdeal.τ).loc Cert.PoolSRefIdeal.main_arg0)
          ∧ r.2.mem ((c.tc : Thread Cert.PoolSRefIdeal.nD Cert.PoolSRefIdeal.τ).loc Cert.PoolSRefIdeal.main_arg1) = m' ((c.tc : Thread Cert.PoolSRefIdeal.nD Cert.PoolSRefIdeal.τ).loc Cert.PoolSRefIdeal.main_arg1)
          ∧ r.2.mem ((c.tc : Thread Cert.PoolSRefIdeal.nD Cert.PoolSRefIdeal.τ).loc Cert.PoolSRefIdeal.main_arg2) = m' ((c.tc : Thread Cert.PoolSRefIdeal.nD Cert.PoolSRefIdeal.τ).loc Cert.PoolSRefIdeal.main_arg2)
          ∧ r.2.mem ((c.tc : Thread Cert.PoolSRefIdeal.nD Cert.PoolSRefIdeal.τ).loc Cert.PoolSRefIdeal.main_arg3) = m' ((c.tc : Thread Cert.PoolSRefIdeal.nD Cert.PoolSRefIdeal.τ).loc Cert.PoolSRefIdeal.main_arg3))

def preserves_ConvS_ConvSIdeal : Prop :=
  True

def algebraic_ConvSIdeal_ConvSRefIdeal [hConvSIdeal : Cert.ConvSIdeal.Facts] [hConvSRefIdeal : Cert.ConvSRefIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSRefIdeal.nD Cert.ConvSRefIdeal.τ Cert.ConvSRefIdeal.sig) → Buf (Elt Ideal) ℓ) (g' : Dev Cert.ConvSRefIdeal.nD → PrngReg), Pre_ConvSIdeal m →
    (∀ c : Dev Cert.ConvSIdeal.nD,
      m' ((c.tc : Thread Cert.ConvSRefIdeal.nD Cert.ConvSRefIdeal.τ).loc Cert.ConvSRefIdeal.main_arg0) = m ((c.tc : Thread Cert.ConvSIdeal.nD Cert.ConvSIdeal.τ).loc Cert.ConvSIdeal.main_arg0)
      ∧ m' ((c.tc : Thread Cert.ConvSRefIdeal.nD Cert.ConvSRefIdeal.τ).loc Cert.ConvSRefIdeal.main_arg1) = m ((c.tc : Thread Cert.ConvSIdeal.nD Cert.ConvSIdeal.τ).loc Cert.ConvSIdeal.main_arg1)
      ∧ m' ((c.tc : Thread Cert.ConvSRefIdeal.nD Cert.ConvSRefIdeal.τ).loc Cert.ConvSRefIdeal.main_arg2) = m ((c.tc : Thread Cert.ConvSIdeal.nD Cert.ConvSIdeal.τ).loc Cert.ConvSIdeal.main_arg2)
      ∧ m' ((c.tc : Thread Cert.ConvSRefIdeal.nD Cert.ConvSRefIdeal.τ).loc Cert.ConvSRefIdeal.main_arg3) = m ((c.tc : Thread Cert.ConvSIdeal.nD Cert.ConvSIdeal.τ).loc Cert.ConvSIdeal.main_arg3)
      ∧ m' ((c.tc : Thread Cert.ConvSRefIdeal.nD Cert.ConvSRefIdeal.τ).loc Cert.ConvSRefIdeal.main_arg4) = m ((c.tc : Thread Cert.ConvSIdeal.nD Cert.ConvSIdeal.τ).loc Cert.ConvSIdeal.main_arg4)
      ∧ m' ((c.tc : Thread Cert.ConvSRefIdeal.nD Cert.ConvSRefIdeal.τ).loc Cert.ConvSRefIdeal.main_arg5) = m ((c.tc : Thread Cert.ConvSIdeal.nD Cert.ConvSIdeal.τ).loc Cert.ConvSIdeal.main_arg5)
      ∧ m' ((c.tc : Thread Cert.ConvSRefIdeal.nD Cert.ConvSRefIdeal.τ).loc Cert.ConvSRefIdeal.main_arg6) = m ((c.tc : Thread Cert.ConvSIdeal.nD Cert.ConvSIdeal.τ).loc Cert.ConvSIdeal.main_arg6)
      ∧ m' ((c.tc : Thread Cert.ConvSRefIdeal.nD Cert.ConvSRefIdeal.τ).loc Cert.ConvSRefIdeal.main_arg7) = m ((c.tc : Thread Cert.ConvSIdeal.nD Cert.ConvSIdeal.τ).loc Cert.ConvSIdeal.main_arg7)
      ∧ m' ((c.tc : Thread Cert.ConvSRefIdeal.nD Cert.ConvSRefIdeal.τ).loc Cert.ConvSRefIdeal.main_arg8) = m ((c.tc : Thread Cert.ConvSIdeal.nD Cert.ConvSIdeal.τ).loc Cert.ConvSIdeal.main_arg8)
      ∧ m' ((c.tc : Thread Cert.ConvSRefIdeal.nD Cert.ConvSRefIdeal.τ).loc Cert.ConvSRefIdeal.main_arg9) = m ((c.tc : Thread Cert.ConvSIdeal.nD Cert.ConvSIdeal.τ).loc Cert.ConvSIdeal.main_arg9)) →
    ∃ (v0 : (c : Dev Cert.ConvSIdeal.nD) → Buf (Elt Ideal) ((c.tc : Thread Cert.ConvSIdeal.nD Cert.ConvSIdeal.τ).loc Cert.ConvSIdeal.main_v3)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v3) = v0 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
          ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
          ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
          ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
          ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6)
          ∧ r.2.mem ((c.tc : Thread Cert.ConvSIdeal.nD Cert.ConvSIdeal.τ).loc Cert.ConvSIdeal.main_arg7) = m ((c.tc : Thread Cert.ConvSIdeal.nD Cert.ConvSIdeal.τ).loc Cert.ConvSIdeal.main_arg7)
          ∧ r.2.mem ((c.tc : Thread Cert.ConvSIdeal.nD Cert.ConvSIdeal.τ).loc Cert.ConvSIdeal.main_arg8) = m ((c.tc : Thread Cert.ConvSIdeal.nD Cert.ConvSIdeal.τ).loc Cert.ConvSIdeal.main_arg8)
          ∧ r.2.mem ((c.tc : Thread Cert.ConvSIdeal.nD Cert.ConvSIdeal.τ).loc Cert.ConvSIdeal.main_arg9) = m ((c.tc : Thread Cert.ConvSIdeal.nD Cert.ConvSIdeal.τ).loc Cert.ConvSIdeal.main_arg9))
      ∧ θ_run (Cert.ConvSRefIdeal.defs (F := Ideal)) (onTc (τ := Cert.ConvSRefIdeal.τ) (Cert.ConvSRefIdeal.main (F := Ideal))) ⟨m', fun _ => 0, g'⟩ (fun r => ∀ c : Dev Cert.ConvSRefIdeal.nD,
          r.2.mem ((c.tc : Thread Cert.ConvSRefIdeal.nD Cert.ConvSRefIdeal.τ).loc Cert.ConvSRefIdeal.main_v272) = v0 c
          ∧ r.2.mem ((c.tc : Thread Cert.ConvSRefIdeal.nD Cert.ConvSRefIdeal.τ).loc Cert.ConvSRefIdeal.main_arg0) = m' ((c.tc : Thread Cert.ConvSRefIdeal.nD Cert.ConvSRefIdeal.τ).loc Cert.ConvSRefIdeal.main_arg0)
          ∧ r.2.mem ((c.tc : Thread Cert.ConvSRefIdeal.nD Cert.ConvSRefIdeal.τ).loc Cert.ConvSRefIdeal.main_arg1) = m' ((c.tc : Thread Cert.ConvSRefIdeal.nD Cert.ConvSRefIdeal.τ).loc Cert.ConvSRefIdeal.main_arg1)
          ∧ r.2.mem ((c.tc : Thread Cert.ConvSRefIdeal.nD Cert.ConvSRefIdeal.τ).loc Cert.ConvSRefIdeal.main_arg2) = m' ((c.tc : Thread Cert.ConvSRefIdeal.nD Cert.ConvSRefIdeal.τ).loc Cert.ConvSRefIdeal.main_arg2)
          ∧ r.2.mem ((c.tc : Thread Cert.ConvSRefIdeal.nD Cert.ConvSRefIdeal.τ).loc Cert.ConvSRefIdeal.main_arg3) = m' ((c.tc : Thread Cert.ConvSRefIdeal.nD Cert.ConvSRefIdeal.τ).loc Cert.ConvSRefIdeal.main_arg3)
          ∧ r.2.mem ((c.tc : Thread Cert.ConvSRefIdeal.nD Cert.ConvSRefIdeal.τ).loc Cert.ConvSRefIdeal.main_arg4) = m' ((c.tc : Thread Cert.ConvSRefIdeal.nD Cert.ConvSRefIdeal.τ).loc Cert.ConvSRefIdeal.main_arg4)
          ∧ r.2.mem ((c.tc : Thread Cert.ConvSRefIdeal.nD Cert.ConvSRefIdeal.τ).loc Cert.ConvSRefIdeal.main_arg5) = m' ((c.tc : Thread Cert.ConvSRefIdeal.nD Cert.ConvSRefIdeal.τ).loc Cert.ConvSRefIdeal.main_arg5)
          ∧ r.2.mem ((c.tc : Thread Cert.ConvSRefIdeal.nD Cert.ConvSRefIdeal.τ).loc Cert.ConvSRefIdeal.main_arg6) = m' ((c.tc : Thread Cert.ConvSRefIdeal.nD Cert.ConvSRefIdeal.τ).loc Cert.ConvSRefIdeal.main_arg6)
          ∧ r.2.mem ((c.tc : Thread Cert.ConvSRefIdeal.nD Cert.ConvSRefIdeal.τ).loc Cert.ConvSRefIdeal.main_arg7) = m' ((c.tc : Thread Cert.ConvSRefIdeal.nD Cert.ConvSRefIdeal.τ).loc Cert.ConvSRefIdeal.main_arg7)
          ∧ r.2.mem ((c.tc : Thread Cert.ConvSRefIdeal.nD Cert.ConvSRefIdeal.τ).loc Cert.ConvSRefIdeal.main_arg8) = m' ((c.tc : Thread Cert.ConvSRefIdeal.nD Cert.ConvSRefIdeal.τ).loc Cert.ConvSRefIdeal.main_arg8)
          ∧ r.2.mem ((c.tc : Thread Cert.ConvSRefIdeal.nD Cert.ConvSRefIdeal.τ).loc Cert.ConvSRefIdeal.main_arg9) = m' ((c.tc : Thread Cert.ConvSRefIdeal.nD Cert.ConvSRefIdeal.τ).loc Cert.ConvSRefIdeal.main_arg9))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v108) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hMlpFinal : Cert.MlpFinal.Facts) (hMlpFinalIdeal : Cert.MlpFinalIdeal.Facts) (hMlpFinalRefIdeal : Cert.MlpFinalRefIdeal.Facts) (hInCd : Cert.InCd.Facts) (hInCdIdeal : Cert.InCdIdeal.Facts) (hInCdRefIdeal : Cert.InCdRefIdeal.Facts) (hOutAb : Cert.OutAb.Facts) (hOutAbIdeal : Cert.OutAbIdeal.Facts) (hOutAbRefIdeal : Cert.OutAbRefIdeal.Facts) (hOutCd : Cert.OutCd.Facts) (hOutCdIdeal : Cert.OutCdIdeal.Facts) (hOutCdRefIdeal : Cert.OutCdRefIdeal.Facts) (hInAb : Cert.InAb.Facts) (hInAbIdeal : Cert.InAbIdeal.Facts) (hInAbRefIdeal : Cert.InAbRefIdeal.Facts) (hInAbS : Cert.InAbS.Facts) (hInAbSIdeal : Cert.InAbSIdeal.Facts) (hInAbSRefIdeal : Cert.InAbSRefIdeal.Facts) (hMlpFinalS : Cert.MlpFinalS.Facts) (hMlpFinalSIdeal : Cert.MlpFinalSIdeal.Facts) (hMlpFinalSRefIdeal : Cert.MlpFinalSRefIdeal.Facts) (hInCdS : Cert.InCdS.Facts) (hInCdSIdeal : Cert.InCdSIdeal.Facts) (hInCdSRefIdeal : Cert.InCdSRefIdeal.Facts) (hUnabsorb : Cert.Unabsorb.Facts) (hUnabsorbIdeal : Cert.UnabsorbIdeal.Facts) (hUnabsorbRefIdeal : Cert.UnabsorbRefIdeal.Facts) (hPoolS : Cert.PoolS.Facts) (hPoolSIdeal : Cert.PoolSIdeal.Facts) (hPoolSRefIdeal : Cert.PoolSRefIdeal.Facts) (hConvS : Cert.ConvS.Facts) (hConvSIdeal : Cert.ConvSIdeal.Facts) (hConvSRefIdeal : Cert.ConvSRefIdeal.Facts) (hPool : Cert.Pool.Facts) (hPoolIdeal : Cert.PoolIdeal.Facts) (hPoolRefIdeal : Cert.PoolRefIdeal.Facts) (hPre_finite_qk : Cert.Pre_finite_qk.Facts) (hPre_finite_ab : Cert.Pre_finite_ab.Facts) (hPre_finite_ab_s : Cert.Pre_finite_ab_s.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Mlp (hMlp := hMlp)
    ∧ quiescent_MlpIdeal (hMlpIdeal := hMlpIdeal)
    ∧ quiescent_MlpRefIdeal (hMlpRefIdeal := hMlpRefIdeal)
    ∧ quiescent_MlpFinal (hMlpFinal := hMlpFinal)
    ∧ quiescent_MlpFinalIdeal (hMlpFinalIdeal := hMlpFinalIdeal)
    ∧ quiescent_MlpFinalRefIdeal (hMlpFinalRefIdeal := hMlpFinalRefIdeal)
    ∧ quiescent_InCd (hInCd := hInCd)
    ∧ quiescent_InCdIdeal (hInCdIdeal := hInCdIdeal)
    ∧ quiescent_InCdRefIdeal (hInCdRefIdeal := hInCdRefIdeal)
    ∧ quiescent_OutAb (hOutAb := hOutAb)
    ∧ quiescent_OutAbIdeal (hOutAbIdeal := hOutAbIdeal)
    ∧ quiescent_OutAbRefIdeal (hOutAbRefIdeal := hOutAbRefIdeal)
    ∧ quiescent_OutCd (hOutCd := hOutCd)
    ∧ quiescent_OutCdIdeal (hOutCdIdeal := hOutCdIdeal)
    ∧ quiescent_OutCdRefIdeal (hOutCdRefIdeal := hOutCdRefIdeal)
    ∧ quiescent_InAb (hInAb := hInAb)
    ∧ quiescent_InAbIdeal (hInAbIdeal := hInAbIdeal)
    ∧ quiescent_InAbIdeal_pre_finite_ab (hInAbIdeal := hInAbIdeal) (hPre_finite_ab := hPre_finite_ab)
    ∧ quiescent_InAbRefIdeal (hInAbRefIdeal := hInAbRefIdeal)
    ∧ quiescent_InAbRefIdeal_pre_finite_ab (hInAbRefIdeal := hInAbRefIdeal) (hPre_finite_ab := hPre_finite_ab)
    ∧ quiescent_InAbS (hInAbS := hInAbS)
    ∧ quiescent_InAbSIdeal (hInAbSIdeal := hInAbSIdeal)
    ∧ quiescent_InAbSIdeal_pre_finite_ab_s (hInAbSIdeal := hInAbSIdeal) (hPre_finite_ab_s := hPre_finite_ab_s)
    ∧ quiescent_InAbSRefIdeal (hInAbSRefIdeal := hInAbSRefIdeal)
    ∧ quiescent_InAbSRefIdeal_pre_finite_ab_s (hInAbSRefIdeal := hInAbSRefIdeal) (hPre_finite_ab_s := hPre_finite_ab_s)
    ∧ quiescent_MlpFinalS (hMlpFinalS := hMlpFinalS)
    ∧ quiescent_MlpFinalSIdeal (hMlpFinalSIdeal := hMlpFinalSIdeal)
    ∧ quiescent_MlpFinalSRefIdeal (hMlpFinalSRefIdeal := hMlpFinalSRefIdeal)
    ∧ quiescent_InCdS (hInCdS := hInCdS)
    ∧ quiescent_InCdSIdeal (hInCdSIdeal := hInCdSIdeal)
    ∧ quiescent_InCdSRefIdeal (hInCdSRefIdeal := hInCdSRefIdeal)
    ∧ quiescent_Unabsorb (hUnabsorb := hUnabsorb)
    ∧ quiescent_UnabsorbIdeal (hUnabsorbIdeal := hUnabsorbIdeal)
    ∧ quiescent_UnabsorbRefIdeal (hUnabsorbRefIdeal := hUnabsorbRefIdeal)
    ∧ quiescent_PoolS (hPoolS := hPoolS)
    ∧ quiescent_PoolSIdeal (hPoolSIdeal := hPoolSIdeal)
    ∧ quiescent_PoolSRefIdeal (hPoolSRefIdeal := hPoolSRefIdeal)
    ∧ quiescent_ConvS (hConvS := hConvS)
    ∧ quiescent_ConvSIdeal (hConvSIdeal := hConvSIdeal)
    ∧ quiescent_ConvSRefIdeal (hConvSRefIdeal := hConvSRefIdeal)
    ∧ quiescent_Pool (hPool := hPool)
    ∧ quiescent_PoolIdeal (hPoolIdeal := hPoolIdeal)
    ∧ quiescent_PoolRefIdeal (hPoolRefIdeal := hPoolRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Mlp_MlpIdeal
    ∧ algebraic_MlpIdeal_MlpRefIdeal (hMlpIdeal := hMlpIdeal) (hMlpRefIdeal := hMlpRefIdeal)
    ∧ preserves_MlpFinal_MlpFinalIdeal
    ∧ algebraic_MlpFinalIdeal_MlpFinalRefIdeal (hMlpFinalIdeal := hMlpFinalIdeal) (hMlpFinalRefIdeal := hMlpFinalRefIdeal)
    ∧ preserves_InCd_InCdIdeal
    ∧ algebraic_InCdIdeal_InCdRefIdeal (hInCdIdeal := hInCdIdeal) (hInCdRefIdeal := hInCdRefIdeal)
    ∧ preserves_OutAb_OutAbIdeal
    ∧ algebraic_OutAbIdeal_OutAbRefIdeal (hOutAbIdeal := hOutAbIdeal) (hOutAbRefIdeal := hOutAbRefIdeal)
    ∧ preserves_OutCd_OutCdIdeal
    ∧ algebraic_OutCdIdeal_OutCdRefIdeal (hOutCdIdeal := hOutCdIdeal) (hOutCdRefIdeal := hOutCdRefIdeal)
    ∧ preserves_InAb_InAbIdeal
    ∧ algebraic_InAbIdeal_InAbRefIdeal_pre_finite_ab (hInAbIdeal := hInAbIdeal) (hInAbRefIdeal := hInAbRefIdeal) (hPre_finite_ab := hPre_finite_ab)
    ∧ preserves_InAbS_InAbSIdeal
    ∧ algebraic_InAbSIdeal_InAbSRefIdeal_pre_finite_ab_s (hInAbSIdeal := hInAbSIdeal) (hInAbSRefIdeal := hInAbSRefIdeal) (hPre_finite_ab_s := hPre_finite_ab_s)
    ∧ preserves_MlpFinalS_MlpFinalSIdeal
    ∧ algebraic_MlpFinalSIdeal_MlpFinalSRefIdeal (hMlpFinalSIdeal := hMlpFinalSIdeal) (hMlpFinalSRefIdeal := hMlpFinalSRefIdeal)
    ∧ preserves_InCdS_InCdSIdeal
    ∧ algebraic_InCdSIdeal_InCdSRefIdeal (hInCdSIdeal := hInCdSIdeal) (hInCdSRefIdeal := hInCdSRefIdeal)
    ∧ preserves_Unabsorb_UnabsorbIdeal
    ∧ algebraic_UnabsorbIdeal_UnabsorbRefIdeal (hUnabsorbIdeal := hUnabsorbIdeal) (hUnabsorbRefIdeal := hUnabsorbRefIdeal)
    ∧ preserves_PoolS_PoolSIdeal
    ∧ algebraic_PoolSIdeal_PoolSRefIdeal (hPoolSIdeal := hPoolSIdeal) (hPoolSRefIdeal := hPoolSRefIdeal)
    ∧ preserves_ConvS_ConvSIdeal
    ∧ algebraic_ConvSIdeal_ConvSRefIdeal (hConvSIdeal := hConvSIdeal) (hConvSRefIdeal := hConvSRefIdeal)
    ∧ preserves_Pool_PoolIdeal
    ∧ algebraic_PoolIdeal_PoolRefIdeal (hPoolIdeal := hPoolIdeal) (hPoolRefIdeal := hPoolRefIdeal)
-- ==== Pre_finite_ab.lean ====
abbrev S8192x2048 : Shape := ⟨2, ![8192, 2048]⟩
abbrev S2048 : Shape := ⟨1, ![2048]⟩
abbrev S2048x1600 : Shape := ⟨2, ![2048, 1600]⟩
abbrev S512 : Shape := ⟨1, ![512]⟩
abbrev S512x12x192 : Shape := ⟨3, ![512, 12, 192]⟩
abbrev S512x12x128 : Shape := ⟨3, ![512, 12, 128]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x1600 : S_.BroadcastsInDim S2048x1600 (![] : Fin 0 → Fin S2048x1600.rank)
  reducesTo_S2048x1600_S_d0_1 : S2048x1600.ReducesTo [0, 1] S_
  bcast_S_S512 : S_.BroadcastsInDim S512 (![] : Fin 0 → Fin S512.rank)
  reducesTo_S512_S_d0 : S512.ReducesTo [0] S_
  bcast_S_S512x12x192 : S_.BroadcastsInDim S512x12x192 (![] : Fin 0 → Fin S512x12x192.rank)
  reducesTo_S512x12x192_S_d0_1_2 : S512x12x192.ReducesTo [0, 1, 2] S_

variable [Facts]

def fn_part1 {F : FTy → Type} [FloatOps F] (main_v13 : IVec S_ 1) (main_v16 : IVec S512x12x192 1) : IVec S_ 1 :=
  let main_c_5 : IVec S_ 1 := constantI S_ 1 1#1
  let main_v17 : IVec S_ 1 := (fun x v => Host.reduce IntOp.andi x v reducesTo_S512x12x192_S_d0_1_2 h_S_) main_v16 main_c_5
  let main_v18 : IVec S_ 1 := andi main_v13 main_v17
  main_v18

def fn {F : FTy → Type} [FloatOps F] (main_arg0 : FVec F S8192x2048 .f32) (main_arg1 : FVec F S2048 .f32) (main_arg2 : FVec F S2048x1600 .f32) (main_arg3 : FVec F S512 .f32) (main_arg4 : FVec F S512 .f32) (main_arg5 : FVec F S512x12x192 .f32) (main_arg6 : FVec F S512x12x128 .f32) (main_arg7 : FVec F S512x12x128 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x1600 .f32 := Host.absf main_arg2
  let main_cst_0 : FVec F S_ .f32 := constant S_ .f32 0x7F800000#32
  let main_v5 : FVec F S2048x1600 .f32 := broadcastInDim S2048x1600 ![] bcast_S_S2048x1600 main_cst_0
  let main_v6 : IVec S2048x1600 1 := cmpf .olt main_v4 main_v5
  let main_c_1 : IVec S_ 1 := constantI S_ 1 1#1
  let main_v7 : IVec S_ 1 := (fun x v => Host.reduce IntOp.andi x v reducesTo_S2048x1600_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x12x192 .f32 := Host.absf main_arg5
  let main_cst_4 : FVec F S_ .f32 := constant S_ .f32 0x7F800000#32
  let main_v15 : FVec F S512x12x192 .f32 := broadcastInDim S512x12x192 ![] bcast_S_S512x12x192 main_cst_4
  let main_v16 : IVec S512x12x192 1 := cmpf .olt main_v14 main_v15
  fn_part1 (F := F) main_v13 main_v16
-- ==== Pre_finite_ab_s.lean ====
abbrev S512x2048 : Shape := ⟨2, ![512, 2048]⟩
abbrev S2048 : Shape := ⟨1, ![2048]⟩
abbrev S2048x1600 : Shape := ⟨2, ![2048, 1600]⟩
abbrev S512 : Shape := ⟨1, ![512]⟩
abbrev S512x12x192 : Shape := ⟨3, ![512, 12, 192]⟩
abbrev S512x12x128 : Shape := ⟨3, ![512, 12, 128]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x1600 : S_.BroadcastsInDim S2048x1600 (![] : Fin 0 → Fin S2048x1600.rank)
  reducesTo_S2048x1600_S_d0_1 : S2048x1600.ReducesTo [0, 1] S_
  bcast_S_S512 : S_.BroadcastsInDim S512 (![] : Fin 0 → Fin S512.rank)
  reducesTo_S512_S_d0 : S512.ReducesTo [0] S_
  bcast_S_S512x12x192 : S_.BroadcastsInDim S512x12x192 (![] : Fin 0 → Fin S512x12x192.rank)
  reducesTo_S512x12x192_S_d0_1_2 : S512x12x192.ReducesTo [0, 1, 2] S_

variable [Facts]

def fn_part1 {F : FTy → Type} [FloatOps F] (main_v13 : IVec S_ 1) (main_v16 : IVec S512x12x192 1) : IVec S_ 1 :=
  let main_c_5 : IVec S_ 1 := constantI S_ 1 1#1
  let main_v17 : IVec S_ 1 := (fun x v => Host.reduce IntOp.andi x v reducesTo_S512x12x192_S_d0_1_2 h_S_) main_v16 main_c_5
  let main_v18 : IVec S_ 1 := andi main_v13 main_v17
  main_v18

def fn {F : FTy → Type} [FloatOps F] (main_arg0 : FVec F S512x2048 .f32) (main_arg1 : FVec F S2048 .f32) (main_arg2 : FVec F S2048x1600 .f32) (main_arg3 : FVec F S512 .f32) (main_arg4 : FVec F S512 .f32) (main_arg5 : FVec F S512x12x192 .f32) (main_arg6 : FVec F S512x12x128 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x1600 .f32 := Host.absf main_arg2
  let main_cst_0 : FVec F S_ .f32 := constant S_ .f32 0x7F800000#32
  let main_v5 : FVec F S2048x1600 .f32 := broadcastInDim S2048x1600 ![] bcast_S_S2048x1600 main_cst_0
  let main_v6 : IVec S2048x1600 1 := cmpf .olt main_v4 main_v5
  let main_c_1 : IVec S_ 1 := constantI S_ 1 1#1
  let main_v7 : IVec S_ 1 := (fun x v => Host.reduce IntOp.andi x v reducesTo_S2048x1600_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x12x192 .f32 := Host.absf main_arg5
  let main_cst_4 : FVec F S_ .f32 := constant S_ .f32 0x7F800000#32
  let main_v15 : FVec F S512x12x192 .f32 := broadcastInDim S512x12x192 ![] bcast_S_S512x12x192 main_cst_4
  let main_v16 : IVec S512x12x192 1 := cmpf .olt main_v14 main_v15
  fn_part1 (F := F) main_v13 main_v16
-- ==== Pre_finite_qk.lean ====
abbrev S8192x3072 : Shape := ⟨2, ![8192, 3072]⟩
abbrev S8192x1536 : Shape := ⟨2, ![8192, 1536]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)

variable [Facts]

def fn {F : FTy → Type} [FloatOps F] (main_arg0 : FVec F S8192x3072 .bf16) (main_arg1 : FVec F S8192x3072 .bf16) (main_arg2 : FVec F S8192x1536 .bf16) : IVec S8192x3072 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_v4 : FVec F S8192x3072 .f32 := (extf .f32 · bitsLt_bf16_f32) main_arg1
  let main_v5 : FVec F S8192x3072 .f32 := Host.absf main_v4
  let main_cst_0 : FVec F S_ .f32 := constant S_ .f32 0x7F800000#32
  let main_v6 : FVec F S8192x3072 .f32 := broadcastInDim S8192x3072 ![] bcast_S_S8192x3072 main_cst_0
  let main_v7 : IVec S8192x3072 1 := cmpf .olt main_v5 main_v6
  let main_v8 : IVec S8192x3072 1 := andi main_v3 main_v7
  main_v8
-- ==== Kernel.lean ====
abbrev S8192x3072 : Shape := ⟨2, ![8192, 3072]⟩
abbrev S8192x1536 : Shape := ⟨2, ![8192, 1536]⟩
abbrev S512x3072 : Shape := ⟨2, ![512, 3072]⟩
abbrev S2048x3072 : Shape := ⟨2, ![2048, 3072]⟩
abbrev S2048x1536 : Shape := ⟨2, ![2048, 1536]⟩
abbrev S512x1536 : Shape := ⟨2, ![512, 1536]⟩
abbrev S512x512 : Shape := ⟨2, ![512, 512]⟩
abbrev S512x256 : Shape := ⟨2, ![512, 256]⟩
abbrev S512x1 : Shape := ⟨2, ![512, 1]⟩
abbrev S512x128 : Shape := ⟨2, ![512, 128]⟩
abbrev S512 : Shape := ⟨1, ![512]⟩

abbrev nBuf : Space → Nat
  | .hbm => 4
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S8192x1536, .bf16⟩
  | .hbm, ⟨3, _⟩ => ⟨S8192x1536, .bf16⟩
  | .local _ .vmem, ⟨0, _⟩ => ⟨S512x3072, .bf16⟩
  | .local _ .vmem, ⟨1, _⟩ => ⟨S512x3072, .bf16⟩
  | .local _ .vmem, ⟨2, _⟩ => ⟨S2048x3072, .bf16⟩
  | .local _ .vmem, ⟨3, _⟩ => ⟨S2048x1536, .bf16⟩
  | .local _ .vmem, ⟨4, _⟩ => ⟨S512x1536, .bf16⟩
  | .local _ .vmem, ⟨5, _⟩ => ⟨S512x1536, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  ⟨c0_i32, v15, c1_i32_7⟩
def k0_mult1 (i : grid0.Coords) (k0_t1 : Fin (k0_t1_loop i).trips) : BitVec 32 :=
  let c0_i32 : BitVec 32 := 0#32
  let c1_i32_7 : BitVec 32 := 1#32
  let arg6 : BitVec 32 := Scf.iv c0_i32 c1_i32_7 k0_t1
  let c512_i32_176 : BitVec 32 := 512#32
  let v441 : BitVec 32 := Scalar.muli arg6 c512_i32_176
  v441
def k0_off1 (i : grid0.Coords) (k0_t1 : Fin (k0_t1_loop i).trips) : Fin 2 → Nat :=
  let c0_i32 : BitVec 32 := 0#32
  let c1_i32_7 : BitVec 32 := 1#32
  let arg6 : BitVec 32 := Scf.iv c0_i32 c1_i32_7 k0_t1
  let c512_i32_176 : BitVec 32 := 512#32
  let v441 : BitVec 32 := Scalar.muli arg6 c512_i32_176
  let v442 : BitVec 32 := v441
  let v443 : Index := Scalar.indexCast v442
  let c0_177 : Index := 0#32
  ![v443.toNat, 0]
def k0_off2 (i : grid0.Coords) (k0_t1 : Fin (k0_t1_loop i).trips) : Fin 2 → Nat :=
  let c0_i32 : BitVec 32 := 0#32
  let c1_i32_7 : BitVec 32 := 1#32
  let arg6 : BitVec 32 := Scf.iv c0_i32 c1_i32_7 k0_t1
  let c512_i32_176 : BitVec 32 := 512#32
  let v441 : BitVec 32 := Scalar.muli arg6 c512_i32_176
  let v442 : BitVec 32 := v441
  let v446 : Index := Scalar.indexCast v442
  let c256_179 : Index := 256#32
  ![v446.toNat, 256]
def k0_off3 (i : grid0.Coords) (k0_t1 : Fin (k0_t1_loop i).trips) : Fin 2 → Nat :=
  let c0_i32 : BitVec 32 := 0#32
  let c1_i32_7 : BitVec 32 := 1#32
  let arg6 : BitVec 32 := Scf.iv c0_i32 c1_i32_7 k0_t1
  let c512_i32_176 : BitVec 32 := 512#32
  let v441 : BitVec 32 := Scalar.muli arg6 c512_i32_176
  let v442 : BitVec 32 := v441
  let v449 : Index := Scalar.indexCast v442
  let c0_181 : Index := 0#32
  ![v449.toNat, 0]
def k0_off4 (i : grid0.Coords) (k0_t1 : Fin (k0_t1_loop i).trips) : Fin 2 → Nat :=
  let c0_i32 : BitVec 32 := 0#32
  let c1_i32_7 : BitVec 32 := 1#32
  let arg6 : BitVec 32 := Scf.iv c0_i32 c1_i32_7 k0_t1
  let c512_i32_176 : BitVec 32 := 512#32
  let v441 : BitVec 32 := Scalar.muli arg6 c512_i32_176
  let v442 : BitVec 32 := v441
  let v468 : Index := Scalar.indexCast v442
  let c128_185 : Index := 128#32
  ![v468.toNat, 128]
@[reducible] def k0_t2_loop (i : grid0.Coords) : Scf.Loop 32 :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let v12 : BitVec 32 := Scalar.addi c0_i32 v11
  let c1_i32_8 : BitVec 32 := 1#32
  ⟨v15, v12, c1_i32_8⟩
def k0_mult2 (i : grid0.Coords) (k0_t2 : Fin (k0_t2_loop i).trips) : BitVec 32 :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg6 : BitVec 32 := Scf.iv v15 c1_i32_8 k0_t2
  let c512_i32_176 : BitVec 32 := 512#32
  let v441 : BitVec 32 := Scalar.muli arg6 c512_i32_176
  v441
def k0_off5 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg6 : BitVec 32 := Scf.iv v15 c1_i32_8 k0_t2
  let c512_i32_176 : BitVec 32 := 512#32
  let v441 : BitVec 32 := Scalar.muli arg6 c512_i32_176
  let v442 : BitVec 32 := v441
  let v443 : Index := Scalar.indexCast v442
  let c0_177 : Index := 0#32
  ![v443.toNat, 0]
def k0_off6 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg6 : BitVec 32 := Scf.iv v15 c1_i32_8 k0_t2
  let c512_i32_176 : BitVec 32 := 512#32
  let v441 : BitVec 32 := Scalar.muli arg6 c512_i32_176
  let v442 : BitVec 32 := v441
  let v446 : Index := Scalar.indexCast v442
  let c256_179 : Index := 256#32
  ![v446.toNat, 256]
def k0_off7 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg6 : BitVec 32 := Scf.iv v15 c1_i32_8 k0_t2
  let c512_i32_176 : BitVec 32 := 512#32
  let v441 : BitVec 32 := Scalar.muli arg6 c512_i32_176
  let v442 : BitVec 32 := v441
  let v449 : Index := Scalar.indexCast v442
  let c0_181 : Index := 0#32
  ![v449.toNat, 0]
def k0_off8 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_8 : BitVec 32 := 1#32
  let arg6 : BitVec 32 := Scf.iv v15 c1_i32_8 k0_t2
  let c512_i32_176 : BitVec 32 := 512#32
  let v441 : BitVec 32 := Scalar.muli arg6 c512_i32_176
  let v442 : BitVec 32 := v441
  let v468 : Index := Scalar.indexCast v442
  let c128_185 : Index := 128#32
  ![v468.toNat, 128]
def k0_mult3 (i : grid0.Coords) : BitVec 32 :=
  let arg1 : BitVec 32 := BitVec.ofNat 32 (i 1).val
  let c512_i32 : BitVec 32 := 512#32
  let v18 : BitVec 32 := Scalar.muli arg1 c512_i32
  v18
def k0_off9 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v20 : Index := Scalar.indexCast v19
  let c0_9 : Index := 0#32
  ![v20.toNat, 0]
def k0_off10 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v23 : Index := Scalar.indexCast v19
  let c256_11 : Index := 256#32
  ![v23.toNat, 256]
def k0_off11 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v30 : Index := Scalar.indexCast v19
  let c0_15 : Index := 0#32
  ![v30.toNat, 0]
def k0_off12 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v49 : Index := Scalar.indexCast v19
  let c128 : Index := 128#32
  ![v49.toNat, 128]
@[reducible] def k0_t3_loop (i : grid0.Coords) : Scf.Loop 32 :=
  let c0_i32_34 : BitVec 32 := 0#32
  let arg1 : BitVec 32 := BitVec.ofNat 32 (i 1).val
  let v84 : BitVec 32 := Scalar.subi arg1 c0_i32_34
  let c1_i32_35 : BitVec 32 := 1#32
  let v86 : BitVec 32 := Scalar.divsi v84 c1_i32_35
  let v87 : BitVec 32 := Scalar.muli v86 c1_i32_35
  let v88 : BitVec 32 := Scalar.addi c0_i32_34 v87
  let c1_i32_36 : BitVec 32 := 1#32
  ⟨c0_i32_34, v88, c1_i32_36⟩
def k0_mult4 (i : grid0.Coords) (k0_t3 : Fin (k0_t3_loop i).trips) : BitVec 32 :=
  let c0_i32_34 : BitVec 32 := 0#32
  let c1_i32_36 : BitVec 32 := 1#32
  let arg6 : BitVec 32 := Scf.iv c0_i32_34 c1_i32_36 k0_t3
  let c512_i32_176 : BitVec 32 := 512#32
  let v441 : BitVec 32 := Scalar.muli arg6 c512_i32_176
  v441
def k0_off13 (i : grid0.Coords) (k0_t3 : Fin (k0_t3_loop i).trips) : Fin 2 → Nat :=
  let c0_i32_34 : BitVec 32 := 0#32
  let c1_i32_36 : BitVec 32 := 1#32
  let arg6 : BitVec 32 := Scf.iv c0_i32_34 c1_i32_36 k0_t3
  let c512_i32_176 : BitVec 32 := 512#32
  let v441 : BitVec 32 := Scalar.muli arg6 c512_i32_176
  let v442 : BitVec 32 := v441
  let v443 : Index := Scalar.indexCast v442
  let c512_177 : Index := 512#32
  ![v443.toNat, 512]
def k0_off14 (i : grid0.Coords) (k0_t3 : Fin (k0_t3_loop i).trips) : Fin 2 → Nat :=
  let c0_i32_34 : BitVec 32 := 0#32
  let c1_i32_36 : BitVec 32 := 1#32
  let arg6 : BitVec 32 := Scf.iv c0_i32_34 c1_i32_36 k0_t3
  let c512_i32_176 : BitVec 32 := 512#32
  let v441 : BitVec 32 := Scalar.muli arg6 c512_i32_176
  let v442 : BitVec 32 := v441
  let v446 : Index := Scalar.indexCast v442
  let c768_179 : Index := 768#32
  ![v446.toNat, 768]
def k0_off15 (i : grid0.Coords) (k0_t3 : Fin (k0_t3_loop i).trips) : Fin 2 → Nat :=
  let c0_i32_34 : BitVec 32 := 0#32
  let c1_i32_36 : BitVec 32 := 1#32
  let arg6 : BitVec 32 := Scf.iv c0_i32_34 c1_i32_36 k0_t3
  let c512_i32_176 : BitVec 32 := 512#32
  let v441 : BitVec 32 := Scalar.muli arg6 c512_i32_176
  let v442 : BitVec 32 := v441
  let v449 : Index := Scalar.indexCast v442
  let c256_181 : Index := 256#32
  ![v449.toNat, 256]
def k0_off16 (i : grid0.Coords) (k0_t3 : Fin (k0_t3_loop i).trips) : Fin 2 → Nat :=
  let c0_i32_34 : BitVec 32 := 0#32
  let c1_i32_36 : BitVec 32 := 1#32
  let arg6 : BitVec 32 := Scf.iv c0_i32_34 c1_i32_36 k0_t3
  let c512_i32_176 : BitVec 32 := 512#32
  let v441 : BitVec 32 := Scalar.muli arg6 c512_i32_176
  let v442 : BitVec 32 := v441
  let v468 : Index := Scalar.indexCast v442
  let c384_185 : Index := 384#32
  ![v468.toNat, 384]
@[reducible] def k0_t4_loop (i : grid0.Coords) : Scf.Loop 32 :=
  let c0_i32_34 : BitVec 32 := 0#32
  let arg1 : BitVec 32 := BitVec.ofNat 32 (i 1).val
  let v84 : BitVec 32 := Scalar.subi arg1 c0_i32_34
  let c1_i32_35 : BitVec 32 := 1#32
  let v86 : BitVec 32 := Scalar.divsi v84 c1_i32_35
  let v87 : BitVec 32 := Scalar.muli v86 c1_i32_35
  let v88 : BitVec 32 := Scalar.addi c0_i32_34 v87
  let v85 : BitVec 32 := Scalar.addi c0_i32_34 v84
  let c1_i32_37 : BitVec 32 := 1#32
  ⟨v88, v85, c1_i32_37⟩
def k0_mult5 (i : grid0.Coords) (k0_t4 : Fin (k0_t4_loop i).trips) : BitVec 32 :=
  let c0_i32_34 : BitVec 32 := 0#32
  let arg1 : BitVec 32 := BitVec.ofNat 32 (i 1).val
  let v84 : BitVec 32 := Scalar.subi arg1 c0_i32_34
  let c1_i32_35 : BitVec 32 := 1#32
  let v86 : BitVec 32 := Scalar.divsi v84 c1_i32_35
  let v87 : BitVec 32 := Scalar.muli v86 c1_i32_35
  let v88 : BitVec 32 := Scalar.addi c0_i32_34 v87
  let c1_i32_37 : BitVec 32 := 1#32
  let arg6 : BitVec 32 := Scf.iv v88 c1_i32_37 k0_t4
  let c512_i32_176 : BitVec 32 := 512#32
  let v441 : BitVec 32 := Scalar.muli arg6 c512_i32_176
  v441
def k0_off17 (i : grid0.Coords) (k0_t4 : Fin (k0_t4_loop i).trips) : Fin 2 → Nat :=
  let c0_i32_34 : BitVec 32 := 0#32
  let arg1 : BitVec 32 := BitVec.ofNat 32 (i 1).val
  let v84 : BitVec 32 := Scalar.subi arg1 c0_i32_34
  let c1_i32_35 : BitVec 32 := 1#32
  let v86 : BitVec 32 := Scalar.divsi v84 c1_i32_35
  let v87 : BitVec 32 := Scalar.muli v86 c1_i32_35
  let v88 : BitVec 32 := Scalar.addi c0_i32_34 v87
  let c1_i32_37 : BitVec 32 := 1#32
  let arg6 : BitVec 32 := Scf.iv v88 c1_i32_37 k0_t4
  let c512_i32_176 : BitVec 32 := 512#32
  let v441 : BitVec 32 := Scalar.muli arg6 c512_i32_176
  let v442 : BitVec 32 := v441
  let v443 : Index := Scalar.indexCast v442
  let c512_177 : Index := 512#32
  ![v443.toNat, 512]
def k0_off18 (i : grid0.Coords) (k0_t4 : Fin (k0_t4_loop i).trips) : Fin 2 → Nat :=
  let c0_i32_34 : BitVec 32 := 0#32
  let arg1 : BitVec 32 := BitVec.ofNat 32 (i 1).val
  let v84 : BitVec 32 := Scalar.subi arg1 c0_i32_34
  let c1_i32_35 : BitVec 32 := 1#32
  let v86 : BitVec 32 := Scalar.divsi v84 c1_i32_35
  let v87 : BitVec 32 := Scalar.muli v86 c1_i32_35
  let v88 : BitVec 32 := Scalar.addi c0_i32_34 v87
  let c1_i32_37 : BitVec 32 := 1#32
  let arg6 : BitVec 32 := Scf.iv v88 c1_i32_37 k0_t4
  let c512_i32_176 : BitVec 32 := 512#32
  let v441 : BitVec 32 := Scalar.muli arg6 c512_i32_176
  let v442 : BitVec 32 := v441
  let v446 : Index := Scalar.indexCast v442
  let c768_179 : Index := 768#32
  ![v446.toNat, 768]
def k0_off19 (i : grid0.Coords) (k0_t4 : Fin (k0_t4_loop i).trips) : Fin 2 → Nat :=
  let c0_i32_34 : BitVec 32 := 0#32
  let arg1 : BitVec 32 := BitVec.ofNat 32 (i 1).val
  let v84 : BitVec 32 := Scalar.subi arg1 c0_i32_34
  let c1_i32_35 : BitVec 32 := 1#32
  let v86 : BitVec 32 := Scalar.divsi v84 c1_i32_35
  let v87 : BitVec 32 := Scalar.muli v86 c1_i32_35
  let v88 : BitVec 32 := Scalar.addi c0_i32_34 v87
  let c1_i32_37 : BitVec 32 := 1#32
  let arg6 : BitVec 32 := Scf.iv v88 c1_i32_37 k0_t4
  let c512_i32_176 : BitVec 32 := 512#32
  let v441 : BitVec 32 := Scalar.muli arg6 c512_i32_176
  let v442 : BitVec 32 := v441
  let v449 : Index := Scalar.indexCast v442
  let c256_181 : Index := 256#32
  ![v449.toNat, 256]
def k0_off20 (i : grid0.Coords) (k0_t4 : Fin (k0_t4_loop i).trips) : Fin 2 → Nat :=
  let c0_i32_34 : BitVec 32 := 0#32
  let arg1 : BitVec 32 := BitVec.ofNat 32 (i 1).val
  let v84 : BitVec 32 := Scalar.subi arg1 c0_i32_34
  let c1_i32_35 : BitVec 32 := 1#32
  let v86 : BitVec 32 := Scalar.divsi v84 c1_i32_35
  let v87 : BitVec 32 := Scalar.muli v86 c1_i32_35
  let v88 : BitVec 32 := Scalar.addi c0_i32_34 v87
  let c1_i32_37 : BitVec 32 := 1#32
  let arg6 : BitVec 32 := Scf.iv v88 c1_i32_37 k0_t4
  let c512_i32_176 : BitVec 32 := 512#32
  let v441 : BitVec 32 := Scalar.muli arg6 c512_i32_176
  let v442 : BitVec 32 := v441
  let v468 : Index := Scalar.indexCast v442
  let c384_185 : Index := 384#32
  ![v468.toNat, 384]
def k0_mult6 (i : grid0.Coords) : BitVec 32 :=
  let arg1 : BitVec 32 := BitVec.ofNat 32 (i 1).val
  let c512_i32_38 : BitVec 32 := 512#32
  let v91 : BitVec 32 := Scalar.muli arg1 c512_i32_38
  v91
def k0_off21 (i : grid0.Coords) : Fin 2 → Nat :=
  let arg1 : BitVec 32 := BitVec.ofNat 32 (i 1).val
  let c512_i32_38 : BitVec 32 := 512#32
  let v91 : BitVec 32 := Scalar.muli arg1 c512_i32_38
  let v92 : BitVec 32 := v91
  let v93 : Index := Scalar.indexCast v92
  let c512_39 : Index := 512#32
  ![v93.toNat, 512]
def k0_off22 (i : grid0.Coords) : Fin 2 → Nat :=
  let arg1 : BitVec 32 := BitVec.ofNat 32 (i 1).val
  let c512_i32_38 : BitVec 32 := 512#32
  let v91 : BitVec 32 := Scalar.muli arg1 c512_i32_38
  let v92 : BitVec 32 := v91
  let v96 : Index := Scalar.indexCast v92
  let c768_41 : Index := 768#32
  ![v96.toNat, 768]
def k0_off23 (i : grid0.Coords) : Fin 2 → Nat :=
  let arg1 : BitVec 32 := BitVec.ofNat 32 (i 1).val
  let c512_i32_38 : BitVec 32 := 512#32
  let v91 : BitVec 32 := Scalar.muli arg1 c512_i32_38
  let v92 : BitVec 32 := v91
  let v103 : Index := Scalar.indexCast v92
  let c256_45 : Index := 256#32
  ![v103.toNat, 256]
def k0_off24 (i : grid0.Coords) : Fin 2 → Nat :=
  let arg1 : BitVec 32 := BitVec.ofNat 32 (i 1).val
  let c512_i32_38 : BitVec 32 := 512#32
  let v91 : BitVec 32 := Scalar.muli arg1 c512_i32_38
  let v92 : BitVec 32 := v91
  let v122 : Index := Scalar.indexCast v92
  let c384 : Index := 384#32
  ![v122.toNat, 384]
@[reducible] def k0_t5_loop (i : grid0.Coords) : Scf.Loop 32 :=
  let c0_i32_64 : BitVec 32 := 0#32
  let arg1 : BitVec 32 := BitVec.ofNat 32 (i 1).val
  let v157 : BitVec 32 := Scalar.subi arg1 c0_i32_64
  let c1_i32_65 : BitVec 32 := 1#32
  let v159 : BitVec 32 := Scalar.divsi v157 c1_i32_65
  let v160 : BitVec 32 := Scalar.muli v159 c1_i32_65
  let v161 : BitVec 32 := Scalar.addi c0_i32_64 v160
  let c1_i32_66 : BitVec 32 := 1#32
  ⟨c0_i32_64, v161, c1_i32_66⟩
def k0_mult7 (i : grid0.Coords) (k0_t5 : Fin (k0_t5_loop i).trips) : BitVec 32 :=
  let c0_i32_64 : BitVec 32 := 0#32
  let c1_i32_66 : BitVec 32 := 1#32
  let arg6 : BitVec 32 := Scf.iv c0_i32_64 c1_i32_66 k0_t5
  let c512_i32_176 : BitVec 32 := 512#32
  let v441 : BitVec 32 := Scalar.muli arg6 c512_i32_176
  v441
def k0_off25 (i : grid0.Coords) (k0_t5 : Fin (k0_t5_loop i).trips) : Fin 2 → Nat :=
  let c0_i32_64 : BitVec 32 := 0#32
  let c1_i32_66 : BitVec 32 := 1#32
  let arg6 : BitVec 32 := Scf.iv c0_i32_64 c1_i32_66 k0_t5
  let c512_i32_176 : BitVec 32 := 512#32
  let v441 : BitVec 32 := Scalar.muli arg6 c512_i32_176
  let v442 : BitVec 32 := v441
  let v443 : Index := Scalar.indexCast v442
  let c1024_177 : Index := 1024#32
  ![v443.toNat, 1024]
def k0_off26 (i : grid0.Coords) (k0_t5 : Fin (k0_t5_loop i).trips) : Fin 2 → Nat :=
  let c0_i32_64 : BitVec 32 := 0#32
  let c1_i32_66 : BitVec 32 := 1#32
  let arg6 : BitVec 32 := Scf.iv c0_i32_64 c1_i32_66 k0_t5
  let c512_i32_176 : BitVec 32 := 512#32
  let v441 : BitVec 32 := Scalar.muli arg6 c512_i32_176
  let v442 : BitVec 32 := v441
  let v446 : Index := Scalar.indexCast v442
  let c1280_179 : Index := 1280#32
  ![v446.toNat, 1280]
def k0_off27 (i : grid0.Coords) (k0_t5 : Fin (k0_t5_loop i).trips) : Fin 2 → Nat :=
  let c0_i32_64 : BitVec 32 := 0#32
  let c1_i32_66 : BitVec 32 := 1#32
  let arg6 : BitVec 32 := Scf.iv c0_i32_64 c1_i32_66 k0_t5
  let c512_i32_176 : BitVec 32 := 512#32
  let v441 : BitVec 32 := Scalar.muli arg6 c512_i32_176
  let v442 : BitVec 32 := v441
  let v449 : Index := Scalar.indexCast v442
  let c512_181 : Index := 512#32
  ![v449.toNat, 512]
def k0_off28 (i : grid0.Coords) (k0_t5 : Fin (k0_t5_loop i).trips) : Fin 2 → Nat :=
  let c0_i32_64 : BitVec 32 := 0#32
  let c1_i32_66 : BitVec 32 := 1#32
  let arg6 : BitVec 32 := Scf.iv c0_i32_64 c1_i32_66 k0_t5
  let c512_i32_176 : BitVec 32 := 512#32
  let v441 : BitVec 32 := Scalar.muli arg6 c512_i32_176
  let v442 : BitVec 32 := v441
  let v468 : Index := Scalar.indexCast v442
  let c640_185 : Index := 640#32
  ![v468.toNat, 640]
@[reducible] def k0_t6_loop (i : grid0.Coords) : Scf.Loop 32 :=
  let c0_i32_64 : BitVec 32 := 0#32
  let arg1 : BitVec 32 := BitVec.ofNat 32 (i 1).val
  let v157 : BitVec 32 := Scalar.subi arg1 c0_i32_64
  let c1_i32_65 : BitVec 32 := 1#32
  let v159 : BitVec 32 := Scalar.divsi v157 c1_i32_65
  let v160 : BitVec 32 := Scalar.muli v159 c1_i32_65
  let v161 : BitVec 32 := Scalar.addi c0_i32_64 v160
  let v158 : BitVec 32 := Scalar.addi c0_i32_64 v157
  let c1_i32_67 : BitVec 32 := 1#32
  ⟨v161, v158, c1_i32_67⟩
def k0_mult8 (i : grid0.Coords) (k0_t6 : Fin (k0_t6_loop i).trips) : BitVec 32 :=
  let c0_i32_64 : BitVec 32 := 0#32
  let arg1 : BitVec 32 := BitVec.ofNat 32 (i 1).val
  let v157 : BitVec 32 := Scalar.subi arg1 c0_i32_64
  let c1_i32_65 : BitVec 32 := 1#32
  let v159 : BitVec 32 := Scalar.divsi v157 c1_i32_65
  let v160 : BitVec 32 := Scalar.muli v159 c1_i32_65
  let v161 : BitVec 32 := Scalar.addi c0_i32_64 v160
  let c1_i32_67 : BitVec 32 := 1#32
  let arg6 : BitVec 32 := Scf.iv v161 c1_i32_67 k0_t6
  let c512_i32_176 : BitVec 32 := 512#32
  let v441 : BitVec 32 := Scalar.muli arg6 c512_i32_176
  v441
def k0_off29 (i : grid0.Coords) (k0_t6 : Fin (k0_t6_loop i).trips) : Fin 2 → Nat :=
  let c0_i32_64 : BitVec 32 := 0#32
  let arg1 : BitVec 32 := BitVec.ofNat 32 (i 1).val
  let v157 : BitVec 32 := Scalar.subi arg1 c0_i32_64
  let c1_i32_65 : BitVec 32 := 1#32
  let v159 : BitVec 32 := Scalar.divsi v157 c1_i32_65
  let v160 : BitVec 32 := Scalar.muli v159 c1_i32_65
  let v161 : BitVec 32 := Scalar.addi c0_i32_64 v160
  let c1_i32_67 : BitVec 32 := 1#32
  let arg6 : BitVec 32 := Scf.iv v161 c1_i32_67 k0_t6
  let c512_i32_176 : BitVec 32 := 512#32
  let v441 : BitVec 32 := Scalar.muli arg6 c512_i32_176
  let v442 : BitVec 32 := v441
  let v443 : Index := Scalar.indexCast v442
  let c1024_177 : Index := 1024#32
  ![v443.toNat, 1024]
def k0_off30 (i : grid0.Coords) (k0_t6 : Fin (k0_t6_loop i).trips) : Fin 2 → Nat :=
  let c0_i32_64 : BitVec 32 := 0#32
  let arg1 : BitVec 32 := BitVec.ofNat 32 (i 1).val
  let v157 : BitVec 32 := Scalar.subi arg1 c0_i32_64
  let c1_i32_65 : BitVec 32 := 1#32
  let v159 : BitVec 32 := Scalar.divsi v157 c1_i32_65
  let v160 : BitVec 32 := Scalar.muli v159 c1_i32_65
  let v161 : BitVec 32 := Scalar.addi c0_i32_64 v160
  let c1_i32_67 : BitVec 32 := 1#32
  let arg6 : BitVec 32 := Scf.iv v161 c1_i32_67 k0_t6
  let c512_i32_176 : BitVec 32 := 512#32
  let v441 : BitVec 32 := Scalar.muli arg6 c512_i32_176
  let v442 : BitVec 32 := v441
  let v446 : Index := Scalar.indexCast v442
  let c1280_179 : Index := 1280#32
  ![v446.toNat, 1280]
def k0_off31 (i : grid0.Coords) (k0_t6 : Fin (k0_t6_loop i).trips) : Fin 2 → Nat :=
  let c0_i32_64 : BitVec 32 := 0#32
  let arg1 : BitVec 32 := BitVec.ofNat 32 (i 1).val
  let v157 : BitVec 32 := Scalar.subi arg1 c0_i32_64
  let c1_i32_65 : BitVec 32 := 1#32
  let v159 : BitVec 32 := Scalar.divsi v157 c1_i32_65
  let v160 : BitVec 32 := Scalar.muli v159 c1_i32_65
  let v161 : BitVec 32 := Scalar.addi c0_i32_64 v160
  let c1_i32_67 : BitVec 32 := 1#32
  let arg6 : BitVec 32 := Scf.iv v161 c1_i32_67 k0_t6
  let c512_i32_176 : BitVec 32 := 512#32
  let v441 : BitVec 32 := Scalar.muli arg6 c512_i32_176
  let v442 : BitVec 32 := v441
  let v449 : Index := Scalar.indexCast v442
  let c512_181 : Index := 512#32
  ![v449.toNat, 512]
def k0_off32 (i : grid0.Coords) (k0_t6 : Fin (k0_t6_loop i).trips) : Fin 2 → Nat :=
  let c0_i32_64 : BitVec 32 := 0#32
  let arg1 : BitVec 32 := BitVec.ofNat 32 (i 1).val
  let v157 : BitVec 32 := Scalar.subi arg1 c0_i32_64
  let c1_i32_65 : BitVec 32 := 1#32
  let v159 : BitVec 32 := Scalar.divsi v157 c1_i32_65
  let v160 : BitVec 32 := Scalar.muli v159 c1_i32_65
  let v161 : BitVec 32 := Scalar.addi c0_i32_64 v160
  let c1_i32_67 : BitVec 32 := 1#32
  let arg6 : BitVec 32 := Scf.iv v161 c1_i32_67 k0_t6
  let c512_i32_176 : BitVec 32 := 512#32
  let v441 : BitVec 32 := Scalar.muli arg6 c512_i32_176
  let v442 : BitVec 32 := v441
  let v468 : Index := Scalar.indexCast v442
  let c640_185 : Index := 640#32
  ![v468.toNat, 640]
def k0_mult9 (i : grid0.Coords) : BitVec 32 :=
  let arg1 : BitVec 32 := BitVec.ofNat 32 (i 1).val
  let c512_i32_68 : BitVec 32 := 512#32
  let v164 : BitVec 32 := Scalar.muli arg1 c512_i32_68
  v164
def k0_off33 (i : grid0.Coords) : Fin 2 → Nat :=
  let arg1 : BitVec 32 := BitVec.ofNat 32 (i 1).val
  let c512_i32_68 : BitVec 32 := 512#32
  let v164 : BitVec 32 := Scalar.muli arg1 c512_i32_68
  let v165 : BitVec 32 := v164
  let v166 : Index := Scalar.indexCast v165
  let c1024_69 : Index := 1024#32
  ![v166.toNat, 1024]
def k0_off34 (i : grid0.Coords) : Fin 2 → Nat :=
  let arg1 : BitVec 32 := BitVec.ofNat 32 (i 1).val
  let c512_i32_68 : BitVec 32 := 512#32
  let v164 : BitVec 32 := Scalar.muli arg1 c512_i32_68
  let v165 : BitVec 32 := v164
  let v169 : Index := Scalar.indexCast v165
  let c1280_71 : Index := 1280#32
  ![v169.toNat, 1280]
def k0_off35 (i : grid0.Coords) : Fin 2 → Nat :=
  let arg1 : BitVec 32 := BitVec.ofNat 32 (i 1).val
  let c512_i32_68 : BitVec 32 := 512#32
  let v164 : BitVec 32 := Scalar.muli arg1 c512_i32_68
  let v165 : BitVec 32 := v164
  let v176 : Index := Scalar.indexCast v165
  let c512_75 : Index := 512#32
  ![v176.toNat, 512]
def k0_off36 (i : grid0.Coords) : Fin 2 → Nat :=
  let arg1 : BitVec 32 := BitVec.ofNat 32 (i 1).val
  let c512_i32_68 : BitVec 32 := 512#32
  let v164 : BitVec 32 := Scalar.muli arg1 c512_i32_68
  let v165 : BitVec 32 := v164
  let v195 : Index := Scalar.indexCast v165
  let c640 : Index := 640#32
  ![v195.toNat, 640]
@[reducible] def k0_t7_loop (i : grid0.Coords) : Scf.Loop 32 :=
  let c0_i32_94 : BitVec 32 := 0#32
  let arg1 : BitVec 32 := BitVec.ofNat 32 (i 1).val
  let v230 : BitVec 32 := Scalar.subi arg1 c0_i32_94
  let c1_i32_95 : BitVec 32 := 1#32
  let v232 : BitVec 32 := Scalar.divsi v230 c1_i32_95
  let v233 : BitVec 32 := Scalar.muli v232 c1_i32_95
  let v234 : BitVec 32 := Scalar.addi c0_i32_94 v233
  let c1_i32_96 : BitVec 32 := 1#32
  ⟨c0_i32_94, v234, c1_i32_96⟩
def k0_mult10 (i : grid0.Coords) (k0_t7 : Fin (k0_t7_loop i).trips) : BitVec 32 :=
  let c0_i32_94 : BitVec 32 := 0#32
  let c1_i32_96 : BitVec 32 := 1#32
  let arg6 : BitVec 32 := Scf.iv c0_i32_94 c1_i32_96 k0_t7
  let c512_i32_176 : BitVec 32 := 512#32
  let v441 : BitVec 32 := Scalar.muli arg6 c512_i32_176
  v441
def k0_off37 (i : grid0.Coords) (k0_t7 : Fin (k0_t7_loop i).trips) : Fin 2 → Nat :=
  let c0_i32_94 : BitVec 32 := 0#32
  let c1_i32_96 : BitVec 32 := 1#32
  let arg6 : BitVec 32 := Scf.iv c0_i32_94 c1_i32_96 k0_t7
  let c512_i32_176 : BitVec 32 := 512#32
  let v441 : BitVec 32 := Scalar.muli arg6 c512_i32_176
  let v442 : BitVec 32 := v441
  let v443 : Index := Scalar.indexCast v442
  let c1536_177 : Index := 1536#32
  ![v443.toNat, 1536]
def k0_off38 (i : grid0.Coords) (k0_t7 : Fin (k0_t7_loop i).trips) : Fin 2 → Nat :=
  let c0_i32_94 : BitVec 32 := 0#32
  let c1_i32_96 : BitVec 32 := 1#32
  let arg6 : BitVec 32 := Scf.iv c0_i32_94 c1_i32_96 k0_t7
  let c512_i32_176 : BitVec 32 := 512#32
  let v441 : BitVec 32 := Scalar.muli arg6 c512_i32_176
  let v442 : BitVec 32 := v441
  let v446 : Index := Scalar.indexCast v442
  let c1792_179 : Index := 1792#32
  ![v446.toNat, 1792]
def k0_off39 (i : grid0.Coords) (k0_t7 : Fin (k0_t7_loop i).trips) : Fin 2 → Nat :=
  let c0_i32_94 : BitVec 32 := 0#32
  let c1_i32_96 : BitVec 32 := 1#32
  let arg6 : BitVec 32 := Scf.iv c0_i32_94 c1_i32_96 k0_t7
  let c512_i32_176 : BitVec 32 := 512#32
  let v441 : BitVec 32 := Scalar.muli arg6 c512_i32_176
  let v442 : BitVec 32 := v441
  let v449 : Index := Scalar.indexCast v442
  let c768_181 : Index := 768#32
  ![v449.toNat, 768]
def k0_off40 (i : grid0.Coords) (k0_t7 : Fin (k0_t7_loop i).trips) : Fin 2 → Nat :=
  let c0_i32_94 : BitVec 32 := 0#32
  let c1_i32_96 : BitVec 32 := 1#32
  let arg6 : BitVec 32 := Scf.iv c0_i32_94 c1_i32_96 k0_t7
  let c512_i32_176 : BitVec 32 := 512#32
  let v441 : BitVec 32 := Scalar.muli arg6 c512_i32_176
  let v442 : BitVec 32 := v441
  let v468 : Index := Scalar.indexCast v442
  let c896_185 : Index := 896#32
  ![v468.toNat, 896]
@[reducible] def k0_t8_loop (i : grid0.Coords) : Scf.Loop 32 :=
  let c0_i32_94 : BitVec 32 := 0#32
  let arg1 : BitVec 32 := BitVec.ofNat 32 (i 1).val
  let v230 : BitVec 32 := Scalar.subi arg1 c0_i32_94
  let c1_i32_95 : BitVec 32 := 1#32
  let v232 : BitVec 32 := Scalar.divsi v230 c1_i32_95
  let v233 : BitVec 32 := Scalar.muli v232 c1_i32_95
  let v234 : BitVec 32 := Scalar.addi c0_i32_94 v233
  let v231 : BitVec 32 := Scalar.addi c0_i32_94 v230
  let c1_i32_97 : BitVec 32 := 1#32
  ⟨v234, v231, c1_i32_97⟩
def k0_mult11 (i : grid0.Coords) (k0_t8 : Fin (k0_t8_loop i).trips) : BitVec 32 :=
  let c0_i32_94 : BitVec 32 := 0#32
  let arg1 : BitVec 32 := BitVec.ofNat 32 (i 1).val
  let v230 : BitVec 32 := Scalar.subi arg1 c0_i32_94
  let c1_i32_95 : BitVec 32 := 1#32
  let v232 : BitVec 32 := Scalar.divsi v230 c1_i32_95
  let v233 : BitVec 32 := Scalar.muli v232 c1_i32_95
  let v234 : BitVec 32 := Scalar.addi c0_i32_94 v233
  let c1_i32_97 : BitVec 32 := 1#32
  let arg6 : BitVec 32 := Scf.iv v234 c1_i32_97 k0_t8
  let c512_i32_176 : BitVec 32 := 512#32
  let v441 : BitVec 32 := Scalar.muli arg6 c512_i32_176
  v441
def k0_off41 (i : grid0.Coords) (k0_t8 : Fin (k0_t8_loop i).trips) : Fin 2 → Nat :=
  let c0_i32_94 : BitVec 32 := 0#32
  let arg1 : BitVec 32 := BitVec.ofNat 32 (i 1).val
  let v230 : BitVec 32 := Scalar.subi arg1 c0_i32_94
  let c1_i32_95 : BitVec 32 := 1#32
  let v232 : BitVec 32 := Scalar.divsi v230 c1_i32_95
  let v233 : BitVec 32 := Scalar.muli v232 c1_i32_95
  let v234 : BitVec 32 := Scalar.addi c0_i32_94 v233
  let c1_i32_97 : BitVec 32 := 1#32
  let arg6 : BitVec 32 := Scf.iv v234 c1_i32_97 k0_t8
  let c512_i32_176 : BitVec 32 := 512#32
  let v441 : BitVec 32 := Scalar.muli arg6 c512_i32_176
  let v442 : BitVec 32 := v441
  let v443 : Index := Scalar.indexCast v442
  let c1536_177 : Index := 1536#32
  ![v443.toNat, 1536]
def k0_off42 (i : grid0.Coords) (k0_t8 : Fin (k0_t8_loop i).trips) : Fin 2 → Nat :=
  let c0_i32_94 : BitVec 32 := 0#32
  let arg1 : BitVec 32 := BitVec.ofNat 32 (i 1).val
  let v230 : BitVec 32 := Scalar.subi arg1 c0_i32_94
  let c1_i32_95 : BitVec 32 := 1#32
  let v232 : BitVec 32 := Scalar.divsi v230 c1_i32_95
  let v233 : BitVec 32 := Scalar.muli v232 c1_i32_95
  let v234 : BitVec 32 := Scalar.addi c0_i32_94 v233
  let c1_i32_97 : BitVec 32 := 1#32
  let arg6 : BitVec 32 := Scf.iv v234 c1_i32_97 k0_t8
  let c512_i32_176 : BitVec 32 := 512#32
  let v441 : BitVec 32 := Scalar.muli arg6 c512_i32_176
  let v442 : BitVec 32 := v441
  let v446 : Index := Scalar.indexCast v442
  let c1792_179 : Index := 1792#32
  ![v446.toNat, 1792]
def k0_off43 (i : grid0.Coords) (k0_t8 : Fin (k0_t8_loop i).trips) : Fin 2 → Nat :=
  let c0_i32_94 : BitVec 32 := 0#32
  let arg1 : BitVec 32 := BitVec.ofNat 32 (i 1).val
  let v230 : BitVec 32 := Scalar.subi arg1 c0_i32_94
  let c1_i32_95 : BitVec 32 := 1#32
  let v232 : BitVec 32 := Scalar.divsi v230 c1_i32_95
  let v233 : BitVec 32 := Scalar.muli v232 c1_i32_95
  let v234 : BitVec 32 := Scalar.addi c0_i32_94 v233
  let c1_i32_97 : BitVec 32 := 1#32
  let arg6 : BitVec 32 := Scf.iv v234 c1_i32_97 k0_t8
  let c512_i32_176 : BitVec 32 := 512#32
  let v441 : BitVec 32 := Scalar.muli arg6 c512_i32_176
  let v442 : BitVec 32 := v441
  let v449 : Index := Scalar.indexCast v442
  let c768_181 : Index := 768#32
  ![v449.toNat, 768]
def k0_off44 (i : grid0.Coords) (k0_t8 : Fin (k0_t8_loop i).trips) : Fin 2 → Nat :=
  let c0_i32_94 : BitVec 32 := 0#32
  let arg1 : BitVec 32 := BitVec.ofNat 32 (i 1).val
  let v230 : BitVec 32 := Scalar.subi arg1 c0_i32_94
  let c1_i32_95 : BitVec 32 := 1#32
  let v232 : BitVec 32 := Scalar.divsi v230 c1_i32_95
  let v233 : BitVec 32 := Scalar.muli v232 c1_i32_95
  let v234 : BitVec 32 := Scalar.addi c0_i32_94 v233
  let c1_i32_97 : BitVec 32 := 1#32
  let arg6 : BitVec 32 := Scf.iv v234 c1_i32_97 k0_t8
  let c512_i32_176 : BitVec 32 := 512#32
  let v441 : BitVec 32 := Scalar.muli arg6 c512_i32_176
  let v442 : BitVec 32 := v441
  let v468 : Index := Scalar.indexCast v442
  let c896_185 : Index := 896#32
  ![v468.toNat, 896]
def k0_mult12 (i : grid0.Coords) : BitVec 32 :=
  let arg1 : BitVec 32 := BitVec.ofNat 32 (i 1).val
  let c512_i32_98 : BitVec 32 := 512#32
  let v237 : BitVec 32 := Scalar.muli arg1 c512_i32_98
  v237
def k0_off45 (i : grid0.Coords) : Fin 2 → Nat :=
  let arg1 : BitVec 32 := BitVec.ofNat 32 (i 1).val
  let c512_i32_98 : BitVec 32 := 512#32
  let v237 : BitVec 32 := Scalar.muli arg1 c512_i32_98
  let v238 : BitVec 32 := v237
  let v239 : Index := Scalar.indexCast v238
  let c1536_99 : Index := 1536#32
  ![v239.toNat, 1536]
def k0_off46 (i : grid0.Coords) : Fin 2 → Nat :=
  let arg1 : BitVec 32 := BitVec.ofNat 32 (i 1).val
  let c512_i32_98 : BitVec 32 := 512#32
  let v237 : BitVec 32 := Scalar.muli arg1 c512_i32_98
  let v238 : BitVec 32 := v237
  let v242 : Index := Scalar.indexCast v238
  let c1792_101 : Index := 1792#32
  ![v242.toNat, 1792]
def k0_off47 (i : grid0.Coords) : Fin 2 → Nat :=
  let arg1 : BitVec 32 := BitVec.ofNat 32 (i 1).val
  let c512_i32_98 : BitVec 32 := 512#32
  let v237 : BitVec 32 := Scalar.muli arg1 c512_i32_98
  let v238 : BitVec 32 := v237
  let v249 : Index := Scalar.indexCast v238
  let c768_105 : Index := 768#32
  ![v249.toNat, 768]
def k0_off48 (i : grid0.Coords) : Fin 2 → Nat :=
  let arg1 : BitVec 32 := BitVec.ofNat 32 (i 1).val
  let c512_i32_98 : BitVec 32 := 512#32
  let v237 : BitVec 32 := Scalar.muli arg1 c512_i32_98
  let v238 : BitVec 32 := v237
  let v268 : Index := Scalar.indexCast v238
  let c896 : Index := 896#32
  ![v268.toNat, 896]
@[reducible] def k0_t9_loop (i : grid0.Coords) : Scf.Loop 32 :=
  let c0_i32_124 : BitVec 32 := 0#32
  let arg1 : BitVec 32 := BitVec.ofNat 32 (i 1).val
  let v303 : BitVec 32 := Scalar.subi arg1 c0_i32_124
  let c1_i32_125 : BitVec 32 := 1#32
  let v305 : BitVec 32 := Scalar.divsi v303 c1_i32_125
  let v306 : BitVec 32 := Scalar.muli v305 c1_i32_125
  let v307 : BitVec 32 := Scalar.addi c0_i32_124 v306
  let c1_i32_126 : BitVec 32 := 1#32
  ⟨c0_i32_124, v307, c1_i32_126⟩
def k0_mult13 (i : grid0.Coords) (k0_t9 : Fin (k0_t9_loop i).trips) : BitVec 32 :=
  let c0_i32_124 : BitVec 32 := 0#32
  let c1_i32_126 : BitVec 32 := 1#32
  let arg6 : BitVec 32 := Scf.iv c0_i32_124 c1_i32_126 k0_t9
  let c512_i32_176 : BitVec 32 := 512#32
  let v441 : BitVec 32 := Scalar.muli arg6 c512_i32_176
  v441
def k0_off49 (i : grid0.Coords) (k0_t9 : Fin (k0_t9_loop i).trips) : Fin 2 → Nat :=
  let c0_i32_124 : BitVec 32 := 0#32
  let c1_i32_126 : BitVec 32 := 1#32
  let arg6 : BitVec 32 := Scf.iv c0_i32_124 c1_i32_126 k0_t9
  let c512_i32_176 : BitVec 32 := 512#32
  let v441 : BitVec 32 := Scalar.muli arg6 c512_i32_176
  let v442 : BitVec 32 := v441
  let v443 : Index := Scalar.indexCast v442
  let c2048_177 : Index := 2048#32
  ![v443.toNat, 2048]
def k0_off50 (i : grid0.Coords) (k0_t9 : Fin (k0_t9_loop i).trips) : Fin 2 → Nat :=
  let c0_i32_124 : BitVec 32 := 0#32
  let c1_i32_126 : BitVec 32 := 1#32
  let arg6 : BitVec 32 := Scf.iv c0_i32_124 c1_i32_126 k0_t9
  let c512_i32_176 : BitVec 32 := 512#32
  let v441 : BitVec 32 := Scalar.muli arg6 c512_i32_176
  let v442 : BitVec 32 := v441
  let v446 : Index := Scalar.indexCast v442
  let c2304_179 : Index := 2304#32
  ![v446.toNat, 2304]
def k0_off51 (i : grid0.Coords) (k0_t9 : Fin (k0_t9_loop i).trips) : Fin 2 → Nat :=
  let c0_i32_124 : BitVec 32 := 0#32
  let c1_i32_126 : BitVec 32 := 1#32
  let arg6 : BitVec 32 := Scf.iv c0_i32_124 c1_i32_126 k0_t9
  let c512_i32_176 : BitVec 32 := 512#32
  let v441 : BitVec 32 := Scalar.muli arg6 c512_i32_176
  let v442 : BitVec 32 := v441
  let v449 : Index := Scalar.indexCast v442
  let c1024_181 : Index := 1024#32
  ![v449.toNat, 1024]
def k0_off52 (i : grid0.Coords) (k0_t9 : Fin (k0_t9_loop i).trips) : Fin 2 → Nat :=
  let c0_i32_124 : BitVec 32 := 0#32
  let c1_i32_126 : BitVec 32 := 1#32
  let arg6 : BitVec 32 := Scf.iv c0_i32_124 c1_i32_126 k0_t9
  let c512_i32_176 : BitVec 32 := 512#32
  let v441 : BitVec 32 := Scalar.muli arg6 c512_i32_176
  let v442 : BitVec 32 := v441
  let v468 : Index := Scalar.indexCast v442
  let c1152_185 : Index := 1152#32
  ![v468.toNat, 1152]
@[reducible] def k0_t10_loop (i : grid0.Coords) : Scf.Loop 32 :=
  let c0_i32_124 : BitVec 32 := 0#32
  let arg1 : BitVec 32 := BitVec.ofNat 32 (i 1).val
  let v303 : BitVec 32 := Scalar.subi arg1 c0_i32_124
  let c1_i32_125 : BitVec 32 := 1#32
  let v305 : BitVec 32 := Scalar.divsi v303 c1_i32_125
  let v306 : BitVec 32 := Scalar.muli v305 c1_i32_125
  let v307 : BitVec 32 := Scalar.addi c0_i32_124 v306
  let v304 : BitVec 32 := Scalar.addi c0_i32_124 v303
  let c1_i32_127 : BitVec 32 := 1#32
  ⟨v307, v304, c1_i32_127⟩
def k0_mult14 (i : grid0.Coords) (k0_t10 : Fin (k0_t10_loop i).trips) : BitVec 32 :=
  let c0_i32_124 : BitVec 32 := 0#32
  let arg1 : BitVec 32 := BitVec.ofNat 32 (i 1).val
  let v303 : BitVec 32 := Scalar.subi arg1 c0_i32_124
  let c1_i32_125 : BitVec 32 := 1#32
  let v305 : BitVec 32 := Scalar.divsi v303 c1_i32_125
  let v306 : BitVec 32 := Scalar.muli v305 c1_i32_125
  let v307 : BitVec 32 := Scalar.addi c0_i32_124 v306
  let c1_i32_127 : BitVec 32 := 1#32
  let arg6 : BitVec 32 := Scf.iv v307 c1_i32_127 k0_t10
  let c512_i32_176 : BitVec 32 := 512#32
  let v441 : BitVec 32 := Scalar.muli arg6 c512_i32_176
  v441
def k0_off53 (i : grid0.Coords) (k0_t10 : Fin (k0_t10_loop i).trips) : Fin 2 → Nat :=
  let c0_i32_124 : BitVec 32 := 0#32
  let arg1 : BitVec 32 := BitVec.ofNat 32 (i 1).val
  let v303 : BitVec 32 := Scalar.subi arg1 c0_i32_124
  let c1_i32_125 : BitVec 32 := 1#32
  let v305 : BitVec 32 := Scalar.divsi v303 c1_i32_125
  let v306 : BitVec 32 := Scalar.muli v305 c1_i32_125
  let v307 : BitVec 32 := Scalar.addi c0_i32_124 v306
  let c1_i32_127 : BitVec 32 := 1#32
  let arg6 : BitVec 32 := Scf.iv v307 c1_i32_127 k0_t10
  let c512_i32_176 : BitVec 32 := 512#32
  let v441 : BitVec 32 := Scalar.muli arg6 c512_i32_176
  let v442 : BitVec 32 := v441
  let v443 : Index := Scalar.indexCast v442
  let c2048_177 : Index := 2048#32
  ![v443.toNat, 2048]
def k0_off54 (i : grid0.Coords) (k0_t10 : Fin (k0_t10_loop i).trips) : Fin 2 → Nat :=
  let c0_i32_124 : BitVec 32 := 0#32
  let arg1 : BitVec 32 := BitVec.ofNat 32 (i 1).val
  let v303 : BitVec 32 := Scalar.subi arg1 c0_i32_124
  let c1_i32_125 : BitVec 32 := 1#32
  let v305 : BitVec 32 := Scalar.divsi v303 c1_i32_125
  let v306 : BitVec 32 := Scalar.muli v305 c1_i32_125
  let v307 : BitVec 32 := Scalar.addi c0_i32_124 v306
  let c1_i32_127 : BitVec 32 := 1#32
  let arg6 : BitVec 32 := Scf.iv v307 c1_i32_127 k0_t10
  let c512_i32_176 : BitVec 32 := 512#32
  let v441 : BitVec 32 := Scalar.muli arg6 c512_i32_176
  let v442 : BitVec 32 := v441
  let v446 : Index := Scalar.indexCast v442
  let c2304_179 : Index := 2304#32
  ![v446.toNat, 2304]
def k0_off55 (i : grid0.Coords) (k0_t10 : Fin (k0_t10_loop i).trips) : Fin 2 → Nat :=
  let c0_i32_124 : BitVec 32 := 0#32
  let arg1 : BitVec 32 := BitVec.ofNat 32 (i 1).val
  let v303 : BitVec 32 := Scalar.subi arg1 c0_i32_124
  let c1_i32_125 : BitVec 32 := 1#32
  let v305 : BitVec 32 := Scalar.divsi v303 c1_i32_125
  let v306 : BitVec 32 := Scalar.muli v305 c1_i32_125
  let v307 : BitVec 32 := Scalar.addi c0_i32_124 v306
  let c1_i32_127 : BitVec 32 := 1#32
  let arg6 : BitVec 32 := Scf.iv v307 c1_i32_127 k0_t10
  let c512_i32_176 : BitVec 32 := 512#32
  let v441 : BitVec 32 := Scalar.muli arg6 c512_i32_176
  let v442 : BitVec 32 := v441
  let v449 : Index := Scalar.indexCast v442
  let c1024_181 : Index := 1024#32
  ![v449.toNat, 1024]
def k0_off56 (i : grid0.Coords) (k0_t10 : Fin (k0_t10_loop i).trips) : Fin 2 → Nat :=
  let c0_i32_124 : BitVec 32 := 0#32
  let arg1 : BitVec 32 := BitVec.ofNat 32 (i 1).val
  let v303 : BitVec 32 := Scalar.subi arg1 c0_i32_124
  let c1_i32_125 : BitVec 32 := 1#32
  let v305 : BitVec 32 := Scalar.divsi v303 c1_i32_125
  let v306 : BitVec 32 := Scalar.muli v305 c1_i32_125
  let v307 : BitVec 32 := Scalar.addi c0_i32_124 v306
  let c1_i32_127 : BitVec 32 := 1#32
  let arg6 : BitVec 32 := Scf.iv v307 c1_i32_127 k0_t10
  let c512_i32_176 : BitVec 32 := 512#32
  let v441 : BitVec 32 := Scalar.muli arg6 c512_i32_176
  let v442 : BitVec 32 := v441
  let v468 : Index := Scalar.indexCast v442
  let c1152_185 : Index := 1152#32
  ![v468.toNat, 1152]
def k0_mult15 (i : grid0.Coords) : BitVec 32 :=
  let arg1 : BitVec 32 := BitVec.ofNat 32 (i 1).val
  let c512_i32_128 : BitVec 32 := 512#32
  let v310 : BitVec 32 := Scalar.muli arg1 c512_i32_128
  v310
def k0_off57 (i : grid0.Coords) : Fin 2 → Nat :=
  let arg1 : BitVec 32 := BitVec.ofNat 32 (i 1).val
  let c512_i32_128 : BitVec 32 := 512#32
  let v310 : BitVec 32 := Scalar.muli arg1 c512_i32_128
  let v311 : BitVec 32 := v310
  let v312 : Index := Scalar.indexCast v311
  let c2048_129 : Index := 2048#32
  ![v312.toNat, 2048]
def k0_off58 (i : grid0.Coords) : Fin 2 → Nat :=
  let arg1 : BitVec 32 := BitVec.ofNat 32 (i 1).val
  let c512_i32_128 : BitVec 32 := 512#32
  let v310 : BitVec 32 := Scalar.muli arg1 c512_i32_128
  let v311 : BitVec 32 := v310
  let v315 : Index := Scalar.indexCast v311
  let c2304_131 : Index := 2304#32
  ![v315.toNat, 2304]
def k0_off59 (i : grid0.Coords) : Fin 2 → Nat :=
  let arg1 : BitVec 32 := BitVec.ofNat 32 (i 1).val
  let c512_i32_128 : BitVec 32 := 512#32
  let v310 : BitVec 32 := Scalar.muli arg1 c512_i32_128
  let v311 : BitVec 32 := v310
  let v322 : Index := Scalar.indexCast v311
  let c1024_135 : Index := 1024#32
  ![v322.toNat, 1024]
def k0_off60 (i : grid0.Coords) : Fin 2 → Nat :=
  let arg1 : BitVec 32 := BitVec.ofNat 32 (i 1).val
  let c512_i32_128 : BitVec 32 := 512#32
  let v310 : BitVec 32 := Scalar.muli arg1 c512_i32_128
  let v311 : BitVec 32 := v310
  let v341 : Index := Scalar.indexCast v311
  let c1152 : Index := 1152#32
  ![v341.toNat, 1152]
@[reducible] def k0_t11_loop (i : grid0.Coords) : Scf.Loop 32 :=
  let c0_i32_154 : BitVec 32 := 0#32
  let arg1 : BitVec 32 := BitVec.ofNat 32 (i 1).val
  let v376 : BitVec 32 := Scalar.subi arg1 c0_i32_154
  let c1_i32_155 : BitVec 32 := 1#32
  let v378 : BitVec 32 := Scalar.divsi v376 c1_i32_155
  let v379 : BitVec 32 := Scalar.muli v378 c1_i32_155
  let v380 : BitVec 32 := Scalar.addi c0_i32_154 v379
  let c1_i32_156 : BitVec 32 := 1#32
  ⟨c0_i32_154, v380, c1_i32_156⟩
def k0_mult16 (i : grid0.Coords) (k0_t11 : Fin (k0_t11_loop i).trips) : BitVec 32 :=
  let c0_i32_154 : BitVec 32 := 0#32
  let c1_i32_156 : BitVec 32 := 1#32
  let arg6 : BitVec 32 := Scf.iv c0_i32_154 c1_i32_156 k0_t11
  let c512_i32_176 : BitVec 32 := 512#32
  let v441 : BitVec 32 := Scalar.muli arg6 c512_i32_176
  v441
def k0_off61 (i : grid0.Coords) (k0_t11 : Fin (k0_t11_loop i).trips) : Fin 2 → Nat :=
  let c0_i32_154 : BitVec 32 := 0#32
  let c1_i32_156 : BitVec 32 := 1#32
  let arg6 : BitVec 32 := Scf.iv c0_i32_154 c1_i32_156 k0_t11
  let c512_i32_176 : BitVec 32 := 512#32
  let v441 : BitVec 32 := Scalar.muli arg6 c512_i32_176
  let v442 : BitVec 32 := v441
  let v443 : Index := Scalar.indexCast v442
  let c2560_177 : Index := 2560#32
  ![v443.toNat, 2560]
def k0_off62 (i : grid0.Coords) (k0_t11 : Fin (k0_t11_loop i).trips) : Fin 2 → Nat :=
  let c0_i32_154 : BitVec 32 := 0#32
  let c1_i32_156 : BitVec 32 := 1#32
  let arg6 : BitVec 32 := Scf.iv c0_i32_154 c1_i32_156 k0_t11
  let c512_i32_176 : BitVec 32 := 512#32
  let v441 : BitVec 32 := Scalar.muli arg6 c512_i32_176
  let v442 : BitVec 32 := v441
  let v446 : Index := Scalar.indexCast v442
  let c2816_179 : Index := 2816#32
  ![v446.toNat, 2816]
def k0_off63 (i : grid0.Coords) (k0_t11 : Fin (k0_t11_loop i).trips) : Fin 2 → Nat :=
  let c0_i32_154 : BitVec 32 := 0#32
  let c1_i32_156 : BitVec 32 := 1#32
  let arg6 : BitVec 32 := Scf.iv c0_i32_154 c1_i32_156 k0_t11
  let c512_i32_176 : BitVec 32 := 512#32
  let v441 : BitVec 32 := Scalar.muli arg6 c512_i32_176
  let v442 : BitVec 32 := v441
  let v449 : Index := Scalar.indexCast v442
  let c1280_181 : Index := 1280#32
  ![v449.toNat, 1280]
def k0_off64 (i : grid0.Coords) (k0_t11 : Fin (k0_t11_loop i).trips) : Fin 2 → Nat :=
  let c0_i32_154 : BitVec 32 := 0#32
  let c1_i32_156 : BitVec 32 := 1#32
  let arg6 : BitVec 32 := Scf.iv c0_i32_154 c1_i32_156 k0_t11
  let c512_i32_176 : BitVec 32 := 512#32
  let v441 : BitVec 32 := Scalar.muli arg6 c512_i32_176
  let v442 : BitVec 32 := v441
  let v468 : Index := Scalar.indexCast v442
  let c1408_185 : Index := 1408#32
  ![v468.toNat, 1408]
@[reducible] def k0_t12_loop (i : grid0.Coords) : Scf.Loop 32 :=
  let c0_i32_154 : BitVec 32 := 0#32
  let arg1 : BitVec 32 := BitVec.ofNat 32 (i 1).val
  let v376 : BitVec 32 := Scalar.subi arg1 c0_i32_154
  let c1_i32_155 : BitVec 32 := 1#32
  let v378 : BitVec 32 := Scalar.divsi v376 c1_i32_155
  let v379 : BitVec 32 := Scalar.muli v378 c1_i32_155
  let v380 : BitVec 32 := Scalar.addi c0_i32_154 v379
  let v377 : BitVec 32 := Scalar.addi c0_i32_154 v376
  let c1_i32_157 : BitVec 32 := 1#32
  ⟨v380, v377, c1_i32_157⟩
def k0_mult17 (i : grid0.Coords) (k0_t12 : Fin (k0_t12_loop i).trips) : BitVec 32 :=
  let c0_i32_154 : BitVec 32 := 0#32
  let arg1 : BitVec 32 := BitVec.ofNat 32 (i 1).val
  let v376 : BitVec 32 := Scalar.subi arg1 c0_i32_154
  let c1_i32_155 : BitVec 32 := 1#32
  let v378 : BitVec 32 := Scalar.divsi v376 c1_i32_155
  let v379 : BitVec 32 := Scalar.muli v378 c1_i32_155
  let v380 : BitVec 32 := Scalar.addi c0_i32_154 v379
  let c1_i32_157 : BitVec 32 := 1#32
  let arg6 : BitVec 32 := Scf.iv v380 c1_i32_157 k0_t12
  let c512_i32_176 : BitVec 32 := 512#32
  let v441 : BitVec 32 := Scalar.muli arg6 c512_i32_176
  v441
def k0_off65 (i : grid0.Coords) (k0_t12 : Fin (k0_t12_loop i).trips) : Fin 2 → Nat :=
  let c0_i32_154 : BitVec 32 := 0#32
  let arg1 : BitVec 32 := BitVec.ofNat 32 (i 1).val
  let v376 : BitVec 32 := Scalar.subi arg1 c0_i32_154
  let c1_i32_155 : BitVec 32 := 1#32
  let v378 : BitVec 32 := Scalar.divsi v376 c1_i32_155
  let v379 : BitVec 32 := Scalar.muli v378 c1_i32_155
  let v380 : BitVec 32 := Scalar.addi c0_i32_154 v379
  let c1_i32_157 : BitVec 32 := 1#32
  let arg6 : BitVec 32 := Scf.iv v380 c1_i32_157 k0_t12
  let c512_i32_176 : BitVec 32 := 512#32
  let v441 : BitVec 32 := Scalar.muli arg6 c512_i32_176
  let v442 : BitVec 32 := v441
  let v443 : Index := Scalar.indexCast v442
  let c2560_177 : Index := 2560#32
  ![v443.toNat, 2560]
def k0_off66 (i : grid0.Coords) (k0_t12 : Fin (k0_t12_loop i).trips) : Fin 2 → Nat :=
  let c0_i32_154 : BitVec 32 := 0#32
  let arg1 : BitVec 32 := BitVec.ofNat 32 (i 1).val
  let v376 : BitVec 32 := Scalar.subi arg1 c0_i32_154
  let c1_i32_155 : BitVec 32 := 1#32
  let v378 : BitVec 32 := Scalar.divsi v376 c1_i32_155
  let v379 : BitVec 32 := Scalar.muli v378 c1_i32_155
  let v380 : BitVec 32 := Scalar.addi c0_i32_154 v379
  let c1_i32_157 : BitVec 32 := 1#32
  let arg6 : BitVec 32 := Scf.iv v380 c1_i32_157 k0_t12
  let c512_i32_176 : BitVec 32 := 512#32
  let v441 : BitVec 32 := Scalar.muli arg6 c512_i32_176
  let v442 : BitVec 32 := v441
  let v446 : Index := Scalar.indexCast v442
  let c2816_179 : Index := 2816#32
  ![v446.toNat, 2816]
def k0_off67 (i : grid0.Coords) (k0_t12 : Fin (k0_t12_loop i).trips) : Fin 2 → Nat :=
  let c0_i32_154 : BitVec 32 := 0#32
  let arg1 : BitVec 32 := BitVec.ofNat 32 (i 1).val
  let v376 : BitVec 32 := Scalar.subi arg1 c0_i32_154
  let c1_i32_155 : BitVec 32 := 1#32
  let v378 : BitVec 32 := Scalar.divsi v376 c1_i32_155
  let v379 : BitVec 32 := Scalar.muli v378 c1_i32_155
  let v380 : BitVec 32 := Scalar.addi c0_i32_154 v379
  let c1_i32_157 : BitVec 32 := 1#32
  let arg6 : BitVec 32 := Scf.iv v380 c1_i32_157 k0_t12
  let c512_i32_176 : BitVec 32 := 512#32
  let v441 : BitVec 32 := Scalar.muli arg6 c512_i32_176
  let v442 : BitVec 32 := v441
  let v449 : Index := Scalar.indexCast v442
  let c1280_181 : Index := 1280#32
  ![v449.toNat, 1280]
def k0_off68 (i : grid0.Coords) (k0_t12 : Fin (k0_t12_loop i).trips) : Fin 2 → Nat :=
  let c0_i32_154 : BitVec 32 := 0#32
  let arg1 : BitVec 32 := BitVec.ofNat 32 (i 1).val
  let v376 : BitVec 32 := Scalar.subi arg1 c0_i32_154
  let c1_i32_155 : BitVec 32 := 1#32
  let v378 : BitVec 32 := Scalar.divsi v376 c1_i32_155
  let v379 : BitVec 32 := Scalar.muli v378 c1_i32_155
  let v380 : BitVec 32 := Scalar.addi c0_i32_154 v379
  let c1_i32_157 : BitVec 32 := 1#32
  let arg6 : BitVec 32 := Scf.iv v380 c1_i32_157 k0_t12
  let c512_i32_176 : BitVec 32 := 512#32
  let v441 : BitVec 32 := Scalar.muli arg6 c512_i32_176
  let v442 : BitVec 32 := v441
  let v468 : Index := Scalar.indexCast v442
  let c1408_185 : Index := 1408#32
  ![v468.toNat, 1408]
def k0_mult18 (i : grid0.Coords) : BitVec 32 :=
  let arg1 : BitVec 32 := BitVec.ofNat 32 (i 1).val
  let c512_i32_158 : BitVec 32 := 512#32
  let v383 : BitVec 32 := Scalar.muli arg1 c512_i32_158
  v383
def k0_off69 (i : grid0.Coords) : Fin 2 → Nat :=
  let arg1 : BitVec 32 := BitVec.ofNat 32 (i 1).val
  let c512_i32_158 : BitVec 32 := 512#32
  let v383 : BitVec 32 := Scalar.muli arg1 c512_i32_158
  let v384 : BitVec 32 := v383
  let v385 : Index := Scalar.indexCast v384
  let c2560_159 : Index := 2560#32
  ![v385.toNat, 2560]
def k0_off70 (i : grid0.Coords) : Fin 2 → Nat :=
  let arg1 : BitVec 32 := BitVec.ofNat 32 (i 1).val
  let c512_i32_158 : BitVec 32 := 512#32
  let v383 : BitVec 32 := Scalar.muli arg1 c512_i32_158
  let v384 : BitVec 32 := v383
  let v388 : Index := Scalar.indexCast v384
  let c2816_161 : Index := 2816#32
  ![v388.toNat, 2816]
def k0_off71 (i : grid0.Coords) : Fin 2 → Nat :=
  let arg1 : BitVec 32 := BitVec.ofNat 32 (i 1).val
  let c512_i32_158 : BitVec 32 := 512#32
  let v383 : BitVec 32 := Scalar.muli arg1 c512_i32_158
  let v384 : BitVec 32 := v383
  let v395 : Index := Scalar.indexCast v384
  let c1280_165 : Index := 1280#32
  ![v395.toNat, 1280]
def k0_off72 (i : grid0.Coords) : Fin 2 → Nat :=
  let arg1 : BitVec 32 := BitVec.ofNat 32 (i 1).val
  let c512_i32_158 : BitVec 32 := 512#32
  let v383 : BitVec 32 := Scalar.muli arg1 c512_i32_158
  let v384 : BitVec 32 := v383
  let v414 : Index := Scalar.indexCast v384
  let c1408 : Index := 1408#32
  ![v414.toNat, 1408]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8192x3072 : Shape := ⟨2, ![8192, 3072]⟩
abbrev S8192x1536 : Shape := ⟨2, ![8192, 1536]⟩
abbrev S4x2048x12x256 : Shape := ⟨4, ![4, 2048, 12, 256]⟩
abbrev S4x2048x12x128 : Shape := ⟨4, ![4, 2048, 12, 128]⟩
abbrev S2048 : Shape := ⟨1, ![2048]⟩
abbrev S4x12x2048x2048 : Shape := ⟨4, ![4, 12, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S4x12x2048 : Shape := ⟨3, ![4, 12, 2048]⟩
abbrev S4x12x2048x1 : Shape := ⟨4, ![4, 12, 2048, 1]⟩
abbrev S4x12x128x2048 : Shape := ⟨4, ![4, 12, 128, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S8192x1536, .bf16⟩
  | .hbm, ⟨3, _⟩ => ⟨S8192x3072, .f32⟩
  | .hbm, ⟨4, _⟩ => ⟨S4x2048x12x256, .f32⟩
  | .hbm, ⟨5, _⟩ => ⟨S8192x3072, .f32⟩
  | .hbm, ⟨6, _⟩ => ⟨S4x2048x12x256, .f32⟩
  | .hbm, ⟨7, _⟩ => ⟨S8192x1536, .f32⟩
  | .hbm, ⟨8, _⟩ => ⟨S4x2048x12x128, .f32⟩
  | .hbm, ⟨9, _⟩ => ⟨S2048, .i32⟩
  | .hbm, ⟨10, _⟩ => ⟨S4x12x2048x2048, .f32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .f32⟩
  | .hbm, ⟨17, _⟩ => ⟨S_, .f32⟩
  | .hbm, ⟨18, _⟩ => ⟨S4x12x2048x2048, .i1⟩
  | .hbm, ⟨19, _⟩ => ⟨S4x12x2048x2048, .f32⟩
  | .hbm, ⟨20, _⟩ => ⟨S4x12x2048x2048, .f32⟩
  | .hbm, ⟨21, _⟩ => ⟨S_, .f32⟩
  | .hbm, ⟨22, _⟩ => ⟨S4x12x2048, .f32⟩
  | .hbm, ⟨23, _⟩ => ⟨S_, .f32⟩
  | .hbm, ⟨24, _⟩ => ⟨S4x12x2048, .f32⟩
  | .hbm, ⟨25, _⟩ => ⟨S4x12x2048, .f32⟩
  | .hbm, ⟨26, _⟩ => ⟨S4x12x2048x1, .f32⟩
  | .hbm, ⟨27, _⟩ => ⟨S4x12x2048x2048, .f32⟩
  | .hbm, ⟨28, _⟩ => ⟨S4x12x2048x2048, .f32⟩
  | .hbm, ⟨29, _⟩ => ⟨S4x12x2048x2048, .f32⟩
  | .hbm, ⟨30, _⟩ => ⟨S_, .f32⟩
  | .hbm, ⟨31, _⟩ => ⟨S4x12x2048, .f32⟩
  | .hbm, ⟨32, _⟩ => ⟨S4x12x2048x1, .f32⟩
  | .hbm, ⟨33, _⟩ => ⟨S4x12x2048x2048, .f32⟩
  | .hbm, ⟨34, _⟩ => ⟨S4x12x2048x2048, .f32⟩
  | .hbm, ⟨35, _⟩ => ⟨S4x12x128x2048, .f32⟩
  | .hbm, ⟨36, _⟩ => ⟨S4x2048x12x128, .f32⟩
  | .hbm, ⟨37, _⟩ => ⟨S8192x1536, .f32⟩
  | .hbm, ⟨38, _⟩ => ⟨S8192x1536, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Mlp.lean ====
abbrev S8192x2048 : Shape := ⟨2, ![8192, 2048]⟩
abbrev S2048 : Shape := ⟨1, ![2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S1x2048, .f32⟩
  | .hbm, ⟨6, _⟩ => ⟨S2x2048x8192, .bf16⟩
  | .hbm, ⟨7, _⟩ => ⟨S2x8192x2048, .bf16⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S8192x2048 : Shape := ⟨2, ![8192, 2048]⟩
abbrev S2048 : Shape := ⟨1, ![2048]⟩
abbrev S2x2048x8192 : Shape := ⟨3, ![2, 2048, 8192]⟩
abbrev S2x8192x2048 : Shape := ⟨3, ![2, 8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x8192, .f32⟩
  | .hbm, ⟨22, _⟩ => ⟨S2048x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S1x8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== MlpFinal.lean ====
abbrev S8192x2048 : Shape := ⟨2, ![8192, 2048]⟩
abbrev S2048 : Shape := ⟨1, ![2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S1x2048, .f32⟩
  | .hbm, ⟨6, _⟩ => ⟨S2x2048x8192, .bf16⟩
  | .hbm, ⟨7, _⟩ => ⟨S2x8192x2048, .bf16⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpFinalIdeal.lean ====
abbrev S8192x2048 : Shape := ⟨2, ![8192, 2048]⟩
abbrev S2048 : Shape := ⟨1, ![2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S1x2048, .f32⟩
  | .hbm, ⟨6, _⟩ => ⟨S2x2048x8192, .bf16⟩
  | .hbm, ⟨7, _⟩ => ⟨S2x8192x2048, .bf16⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpFinalRefIdeal.lean ====
abbrev S8192x2048 : Shape := ⟨2, ![8192, 2048]⟩
abbrev S2048 : Shape := ⟨1, ![2048]⟩
abbrev S2x2048x8192 : Shape := ⟨3, ![2, 2048, 8192]⟩
abbrev S2x8192x2048 : Shape := ⟨3, ![2, 8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x8192, .f32⟩
  | .hbm, ⟨22, _⟩ => ⟨S2048x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S1x8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x2048, .f32⟩
  | .hbm, ⟨44, _⟩ => ⟨S8192x2048, .f32⟩
  | .hbm, ⟨45, _⟩ => ⟨S1x2048, .f32⟩
  | .hbm, ⟨46, _⟩ => ⟨S8192x2048, .f32⟩
  | .hbm, ⟨47, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== InCd.lean ====
abbrev S8192x2048 : Shape := ⟨2, ![8192, 2048]⟩
abbrev S2048 : Shape := ⟨1, ![2048]⟩
abbrev S2048x5120 : Shape := ⟨2, ![2048, 5120]⟩
abbrev S1x2048 : Shape := ⟨2, ![1, 2048]⟩
abbrev S8192x1024 : Shape := ⟨2, ![8192, 1024]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5120, .f32⟩
  | .hbm, ⟨3, _⟩ => ⟨S1x2048, .f32⟩
  | .hbm, ⟨4, _⟩ => ⟨S2048x5120, .bf16⟩
  | .hbm, ⟨5, _⟩ => ⟨S8192x1024, .f32⟩
  | .hbm, ⟨6, _⟩ => ⟨S8192x1024, .f32⟩
  | .hbm, ⟨7, _⟩ => ⟨S8192x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== InCdIdeal.lean ====
abbrev S8192x2048 : Shape := ⟨2, ![8192, 2048]⟩
abbrev S2048 : Shape := ⟨1, ![2048]⟩
abbrev S2048x5120 : Shape := ⟨2, ![2048, 5120]⟩
abbrev S1x2048 : Shape := ⟨2, ![1, 2048]⟩
abbrev S8192x1024 : Shape := ⟨2, ![8192, 1024]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5120, .f32⟩
  | .hbm, ⟨3, _⟩ => ⟨S1x2048, .f32⟩
  | .hbm, ⟨4, _⟩ => ⟨S2048x5120, .bf16⟩
  | .hbm, ⟨5, _⟩ => ⟨S8192x1024, .f32⟩
  | .hbm, ⟨6, _⟩ => ⟨S8192x1024, .f32⟩
  | .hbm, ⟨7, _⟩ => ⟨S8192x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== InCdRefIdeal.lean ====
abbrev S8192x2048 : Shape := ⟨2, ![8192, 2048]⟩
abbrev S2048 : Shape := ⟨1, ![2048]⟩
abbrev S2048x5120 : Shape := ⟨2, ![2048, 5120]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5120 : Shape := ⟨2, ![8192, 5120]⟩
abbrev S8192x1024 : Shape := ⟨2, ![8192, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5120, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x5120, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== OutAb.lean ====
abbrev S8192x2048 : Shape := ⟨2, ![8192, 2048]⟩
abbrev S8192x512 : Shape := ⟨2, ![8192, 512]⟩
abbrev S8192x1536 : Shape := ⟨2, ![8192, 1536]⟩
abbrev S2048x2048 : Shape := ⟨2, ![2048, 2048]⟩
abbrev S512x2048 : Shape := ⟨2, ![512, 2048]⟩
abbrev S512x512 : Shape := ⟨2, ![512, 512]⟩
abbrev S512x1536 : Shape := ⟨2, ![512, 1536]⟩
abbrev S1536x2048 : Shape := ⟨2, ![1536, 2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S8192x1536, .bf16⟩
  | .hbm, ⟨3, _⟩ => ⟨S2048x2048, .f32⟩
  | .hbm, ⟨4, _⟩ => ⟨S2048x2048, .bf16⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x1536, .bf16⟩
  | .local _ .vmem, ⟨5, _⟩ => ⟨S512x1536, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutAbRefIdeal.lean ====
abbrev S8192x2048 : Shape := ⟨2, ![8192, 2048]⟩
abbrev S8192x512 : Shape := ⟨2, ![8192, 512]⟩
abbrev S8192x1536 : Shape := ⟨2, ![8192, 1536]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S8192x1536, .bf16⟩
  | .hbm, ⟨3, _⟩ => ⟨S2048x2048, .f32⟩
  | .hbm, ⟨4, _⟩ => ⟨S8192x512, .f32⟩
  | .hbm, ⟨5, _⟩ => ⟨S8192x1536, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OutCd.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S2048x2048, .bf16⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutCdRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InAb.lean ====
abbrev S8192x2048 : Shape := ⟨2, ![8192, 2048]⟩
abbrev S2048 : Shape := ⟨1, ![2048]⟩
abbrev S2048x1600 : Shape := ⟨2, ![2048, 1600]⟩
abbrev S512 : Shape := ⟨1, ![512]⟩
abbrev S512x12x192 : Shape := ⟨3, ![512, 12, 192]⟩
abbrev S512x12x128 : Shape := ⟨3, ![512, 12, 128]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S2048x1536 : Shape := ⟨2, ![2048, 1536]⟩
abbrev S2048x1792 : Shape := ⟨2, ![2048, 1792]⟩
abbrev S512x12x64 : Shape := ⟨3, ![512, 12, 64]⟩
abbrev S512x12x256 : Shape := ⟨3, ![512, 12, 256]⟩
abbrev S512x3072 : Shape := ⟨2, ![512, 3072]⟩
abbrev S512x12x32 : Shape := ⟨3, ![512, 12, 32]⟩
abbrev S512x1536 : Shape := ⟨2, ![512, 1536]⟩
abbrev S1x2048 : Shape := ⟨2, ![1, 2048]⟩
abbrev S1x512 : Shape := ⟨2, ![1, 512]⟩
abbrev S8192x512 : Shape := ⟨2, ![8192, 512]⟩
abbrev S8192x64 : Shape := ⟨2, ![8192, 64]⟩
abbrev S8192x3072 : Shape := ⟨2, ![8192, 3072]⟩
abbrev S8192x1536 : Shape := ⟨2, ![8192, 1536]⟩
abbrev S256x2048 : Shape := ⟨2, ![256, 2048]⟩
abbrev S256x128 : Shape := ⟨2, ![256, 128]⟩
abbrev S256x512 : Shape := ⟨2, ![256, 512]⟩
abbrev S256x64 : Shape := ⟨2, ![256, 64]⟩
abbrev S256x3072 : Shape := ⟨2, ![256, 3072]⟩
abbrev S256x1536 : Shape := ⟨2, ![256, 1536]⟩
abbrev S256 : Shape := ⟨1, ![256]⟩
abbrev S256x1 : Shape := ⟨2, ![256, 1]⟩
abbrev S256x1792 : Shape := ⟨2, ![256, 1792]⟩

abbrev nBuf : Space → Nat
  | .hbm => 71
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x1600, .f32⟩
  | .hbm, ⟨3, _⟩ => ⟨S512, .f32⟩
  | .hbm, ⟨4, _⟩ => ⟨S512, .f32⟩
  | .hbm, ⟨5, _⟩ => ⟨S512x12x192, .f32⟩
  | .hbm, ⟨6, _⟩ => ⟨S512x12x128, .f32⟩
  | .hbm, ⟨7, _⟩ => ⟨S512x12x128, .f32⟩
  | .hbm, ⟨8, _⟩ => ⟨S2048, .i32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S2048, .f32⟩
  | .hbm, ⟨18, _⟩ => ⟨S2048x1, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S_, .f32⟩
  | .hbm, ⟨24, _⟩ => ⟨S2048x64, .f32⟩
  | .hbm, ⟨25, _⟩ => ⟨S2048x32, .f32⟩
  | .hbm, ⟨26, _⟩ => ⟨S2048x32, .f32⟩
  | .hbm, ⟨27, _⟩ => ⟨S2048x128, .f32⟩
  | .hbm, ⟨28, _⟩ => ⟨S2048x128, .f32⟩
  | .hbm, ⟨29, _⟩ => ⟨S2048x64, .f32⟩
  | .hbm, ⟨30, _⟩ => ⟨S2048x1536, .f32⟩
  | .hbm, ⟨31, _⟩ => ⟨S_, .f32⟩
  | .hbm, ⟨32, _⟩ => ⟨S2048x64, .f32⟩
  | .hbm, ⟨33, _⟩ => ⟨S2048x128, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x64, .f32⟩
  | .hbm, ⟨38, _⟩ => ⟨S_, .f32⟩
  | .hbm, ⟨39, _⟩ => ⟨S2048x64, .f32⟩
  | .hbm, ⟨40, _⟩ => ⟨S2048x128, .f32⟩
  | .hbm, ⟨41, _⟩ => ⟨S2048x1792, .f32⟩
  | .hbm, ⟨42, _⟩ => ⟨S2048x1792, .bf16⟩
  | .hbm, ⟨43, _⟩ => ⟨S_, .f32⟩
  | .hbm, ⟨44, _⟩ => ⟨S512x12x64, .f32⟩
  | .hbm, ⟨45, _⟩ => ⟨S512x12x256, .f32⟩
  | .hbm, ⟨46, _⟩ => ⟨S512x3072, .f32⟩
  | .hbm, ⟨47, _⟩ => ⟨S512x3072, .bf16⟩
  | .hbm, ⟨48, _⟩ => ⟨S512x12x64, .f32⟩
  | .hbm, ⟨49, _⟩ => ⟨S512x12x32, .f32⟩
  | .hbm, ⟨50, _⟩ => ⟨S512x12x32, .f32⟩
  | .hbm, ⟨51, _⟩ => ⟨S512x12x32, .f32⟩
  | .hbm, ⟨52, _⟩ => ⟨S512x12x64, .f32⟩
  | .hbm, ⟨53, _⟩ => ⟨S_, .f32⟩
  | .hbm, ⟨54, _⟩ => ⟨S512x12x64, .f32⟩
  | .hbm, ⟨55, _⟩ => ⟨S512x12x128, .f32⟩
  | .hbm, ⟨56, _⟩ => ⟨S512x1536, .f32⟩
  | .hbm, ⟨57, _⟩ => ⟨S512x1536, .bf16⟩
  | .hbm, ⟨58, _⟩ => ⟨S512x1536, .f32⟩
  | .hbm, ⟨59, _⟩ => ⟨S512x1536, .bf16⟩
  | .hbm, ⟨60, _⟩ => ⟨S512x1536, .f32⟩
  | .hbm, ⟨61, _⟩ => ⟨S512x1536, .bf16⟩
  | .hbm, ⟨62, _⟩ => ⟨S1x2048, .f32⟩
  | .hbm, ⟨63, _⟩ => ⟨S1x512, .f32⟩
  | .hbm, ⟨64, _⟩ => ⟨S1x512, .f32⟩
  | .hbm, ⟨65, _⟩ => ⟨S8192x512, .f32⟩
  | .hbm, ⟨66, _⟩ => ⟨S8192x512, .f32⟩
  | .hbm, ⟨67, _⟩ => ⟨S8192x64, .f32⟩
  | .hbm, ⟨68, _⟩ => ⟨S8192x3072, .bf16⟩
  | .hbm, ⟨69, _⟩ => ⟨S8192x3072, .bf16⟩
  | .hbm, ⟨70, _⟩ => ⟨S8192x1536, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x1792, .bf16⟩
  | .local _ .vmem, ⟨4, _⟩ => ⟨S1x512, .f32⟩
  | .local _ .vmem, ⟨5, _⟩ => ⟨S1x512, .f32⟩
  | .local _ .vmem, ⟨6, _⟩ => ⟨S512x3072, .bf16⟩
  | .local _ .vmem, ⟨7, _⟩ => ⟨S512x1536, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S512x1536, .bf16⟩
  | .local _ .vmem, ⟨13, _⟩ => ⟨S512x1536, .bf16⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x64, .f32⟩
  | .local _ .vmem, ⟨19, _⟩ => ⟨S256x64, .f32⟩
  | .local _ .vmem, ⟨20, _⟩ => ⟨S256x3072, .bf16⟩
  | .local _ .vmem, ⟨21, _⟩ => ⟨S256x3072, .bf16⟩
  | .local _ .vmem, ⟨22, _⟩ => ⟨S256x3072, .bf16⟩
  | .local _ .vmem, ⟨23, _⟩ => ⟨S256x3072, .bf16⟩
  | .local _ .vmem, ⟨24, _⟩ => ⟨S256x1536, .bf16⟩
  | .local _ .vmem, ⟨25, _⟩ => ⟨S256x1536, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50_0 : Ref sig .tc := ⟨.hbm, 65, rfl⟩
abbrev main_v50_1 : Ref sig .tc := ⟨.hbm, 66, rfl⟩
abbrev main_v50_2 : Ref sig .tc := ⟨.hbm, 67, rfl⟩
abbrev main_v50_3 : Ref sig .tc := ⟨.hbm, 68, rfl⟩
abbrev main_v50_4 : Ref sig .tc := ⟨.hbm, 69, rfl⟩
abbrev main_v50_5 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1536 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== InAbRefIdeal.lean ====
abbrev S8192x2048 : Shape := ⟨2, ![8192, 2048]⟩
abbrev S2048 : Shape := ⟨1, ![2048]⟩
abbrev S2048x1600 : Shape := ⟨2, ![2048, 1600]⟩
abbrev S512 : Shape := ⟨1, ![512]⟩
abbrev S512x12x192 : Shape := ⟨3, ![512, 12, 192]⟩
abbrev S512x12x128 : Shape := ⟨3, ![512, 12, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x1600 : Shape := ⟨2, ![8192, 1600]⟩
abbrev S8192x512 : Shape := ⟨2, ![8192, 512]⟩
abbrev S8192x64 : Shape := ⟨2, ![8192, 64]⟩
abbrev S1x512 : Shape := ⟨2, ![1, 512]⟩
abbrev S8192x12x192 : Shape := ⟨3, ![8192, 12, 192]⟩
abbrev S4x2048x12x192 : Shape := ⟨4, ![4, 2048, 12, 192]⟩
abbrev S4x2048x12x128 : Shape := ⟨4, ![4, 2048, 12, 128]⟩
abbrev S4x2048x12x64 : Shape := ⟨4, ![4, 2048, 12, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S4x2048x12x32 : Shape := ⟨4, ![4, 2048, 12, 32]⟩
abbrev S1x2048x1x32 : Shape := ⟨4, ![1, 2048, 1, 32]⟩
abbrev S4x2048x64 : Shape := ⟨3, ![4, 2048, 64]⟩
abbrev S4x2048x32 : Shape := ⟨3, ![4, 2048, 32]⟩
abbrev S1x2048x32 : Shape := ⟨3, ![1, 2048, 32]⟩
abbrev S8192x12x128 : Shape := ⟨3, ![8192, 12, 128]⟩
abbrev S4x2048x1x64 : Shape := ⟨4, ![4, 2048, 1, 64]⟩
abbrev S4x2048x12x256 : Shape := ⟨4, ![4, 2048, 12, 256]⟩
abbrev S8192x3072 : Shape := ⟨2, ![8192, 3072]⟩
abbrev S8192x1536 : Shape := ⟨2, ![8192, 1536]⟩

abbrev nBuf : Space → Nat
  | .hbm => 156
  | .vmem => 0
  | .smem => 0
  | _ => 0

abbrev hbmTy0_0 (i : Nat) : BufTy := match i % 128 with
  | 0 => ⟨S8192x2048, .f32⟩
  | 1 => ⟨S2048, .f32⟩
  | 2 => ⟨S2048x1600, .f32⟩
  | 3 => ⟨S512, .f32⟩
  | 4 => ⟨S512, .f32⟩
  | 5 => ⟨S512x12x192, .f32⟩
  | 6 => ⟨S512x12x128, .f32⟩
  | 7 => ⟨S512x12x128, .f32⟩
  | 8 => ⟨S2048, .i32⟩
  | 9 => ⟨S8192x2048, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x2048, .f32⟩
  | 21 => ⟨S8192x2048, .f32⟩
  | 22 => ⟨S1x2048, .f32⟩
  | 23 => ⟨S8192x2048, .f32⟩
  | 24 => ⟨S8192x2048, .f32⟩
  | 25 => ⟨S8192x1600, .f32⟩
  | 26 => ⟨S8192x512, .f32⟩
  | 27 => ⟨S8192x512, .f32⟩
  | 28 => ⟨S8192x512, .f32⟩
  | 29 => ⟨S8192x64, .f32⟩
  | 30 => ⟨S8192x512, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x1, .f32⟩
  | 41 => ⟨S8192x512, .f32⟩
  | 42 => ⟨S8192x512, .f32⟩
  | 43 => ⟨S1x512, .f32⟩
  | 44 => ⟨S8192x512, .f32⟩
  | 45 => ⟨S8192x512, .f32⟩
  | 46 => ⟨S8192x12x192, .f32⟩
  | 47 => ⟨S4x2048x12x192, .f32⟩
  | 48 => ⟨S4x2048x12x128, .f32⟩
  | 49 => ⟨S4x2048x12x64, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S2048, .f32⟩
  | 59 => ⟨S2048x1, .f32⟩
  | 60 => ⟨S1x32, .f32⟩
  | 61 => ⟨S2048x32, .f32⟩
  | 62 => ⟨S2048x32, .f32⟩
  | 63 => ⟨S2048x32, .f32⟩
  | 64 => ⟨S2048x1x32, .f32⟩
  | 65 => ⟨S2048x1x32, .f32⟩
  | 66 => ⟨S2048x1x32, .f32⟩
  | 67 => ⟨S4x2048x12x32, .f32⟩
  | 68 => ⟨S4x2048x12x32, .f32⟩
  | 69 => ⟨S1x2048x1x32, .f32⟩
  | 70 => ⟨S4x2048x12x32, .f32⟩
  | 71 => ⟨S4x2048x12x32, .f32⟩
  | 72 => ⟨S1x2048x1x32, .f32⟩
  | 73 => ⟨S4x2048x12x32, .f32⟩
  | 74 => ⟨S4x2048x12x32, .f32⟩
  | 75 => ⟨S4x2048x12x32, .f32⟩
  | 76 => ⟨S1x2048x1x32, .f32⟩
  | 77 => ⟨S4x2048x12x32, .f32⟩
  | 78 => ⟨S4x2048x12x32, .f32⟩
  | 79 => ⟨S1x2048x1x32, .f32⟩
  | 80 => ⟨S4x2048x12x32, .f32⟩
  | 81 => ⟨S4x2048x12x32, .f32⟩
  | 82 => ⟨S4x2048x12x32, .f32⟩
  | 83 => ⟨S4x2048x12x64, .f32⟩
  | 84 => ⟨S8192x512, .f32⟩
  | 85 => ⟨S_, .f32⟩
  | 86 => ⟨S8192, .f32⟩
  | 87 => ⟨S8192x1, .f32⟩
  | 88 => ⟨S_, .f32⟩
  | 89 => ⟨S8192x1, .f32⟩
  | 90 => ⟨S8192x1, .f32⟩
  | 91 => ⟨S_, .f32⟩
  | 92 => ⟨S8192x1, .f32⟩
  | 93 => ⟨S8192x1, .f32⟩
  | 94 => ⟨S8192x1, .f32⟩
  | 95 => ⟨S8192x512, .f32⟩
  | 96 => ⟨S8192x512, .f32⟩
  | 97 => ⟨S1x512, .f32⟩
  | 98 => ⟨S8192x512, .f32⟩
  | 99 => ⟨S8192x512, .f32⟩
  | 100 => ⟨S4x2048x64, .f32⟩
  | 101 => ⟨S32, .f32⟩
  | 102 => ⟨S32, .f32⟩
  | 103 => ⟨S_, .f32⟩
  | 104 => ⟨S32, .f32⟩
  | 105 => ⟨S32, .f32⟩
  | 106 => ⟨S_, .f32⟩
  | 107 => ⟨S32, .f32⟩
  | 108 => ⟨S32, .f32⟩
  | 109 => ⟨S2048, .f32⟩
  | 110 => ⟨S2048x1, .f32⟩
  | 111 => ⟨S1x32, .f32⟩
  | 112 => ⟨S2048x32, .f32⟩
  | 113 => ⟨S2048x32, .f32⟩
  | 114 => ⟨S2048x32, .f32⟩
  | 115 => ⟨S2048x32, .f32⟩
  | 116 => ⟨S2048x32, .f32⟩
  | 117 => ⟨S4x2048x32, .f32⟩
  | 118 => ⟨S4x2048x32, .f32⟩
  | 119 => ⟨S1x2048x32, .f32⟩
  | 120 => ⟨S4x2048x32, .f32⟩
  | 121 => ⟨S4x2048x32, .f32⟩
  | 122 => ⟨S1x2048x32, .f32⟩
  | 123 => ⟨S4x2048x32, .f32⟩
  | 124 => ⟨S4x2048x32, .f32⟩
  | 125 => ⟨S4x2048x32, .f32⟩
  | 126 => ⟨S1x2048x32, .f32⟩
  | 127 => ⟨S4x2048x32, .f32⟩
  | _ => ⟨S8192x2048, .f32⟩

abbrev hbmTy0_1 (i : Nat) : BufTy := match i % 128 with
  | 0 => ⟨S4x2048x32, .f32⟩
  | 1 => ⟨S1x2048x32, .f32⟩
  | 2 => ⟨S4x2048x32, .f32⟩
  | 3 => ⟨S4x2048x32, .f32⟩
  | 4 => ⟨S4x2048x32, .f32⟩
  | 5 => ⟨S4x2048x64, .f32⟩
  | 6 => ⟨S8192x12x128, .f32⟩
  | 7 => ⟨S4x2048x12x128, .f32⟩
  | 8 => ⟨S8192x12x128, .f32⟩
  | 9 => ⟨S_, .f32⟩
  | 10 => ⟨S4x2048x12x64, .f32⟩
  | 11 => ⟨S4x2048x1x64, .f32⟩
  | 12 => ⟨S4x2048x12x64, .f32⟩
  | 13 => ⟨S_, .f32⟩
  | 14 => ⟨S4x2048x12x128, .f32⟩
  | 15 => ⟨S4x2048x12x128, .f32⟩
  | 16 => ⟨S_, .f32⟩
  | 17 => ⟨S4x2048x12x64, .f32⟩
  | 18 => ⟨S4x2048x12x64, .f32⟩
  | 19 => ⟨S4x2048x12x256, .f32⟩
  | 20 => ⟨S4x2048x12x256, .f32⟩
  | 21 => ⟨S8192x64, .f32⟩
  | 22 => ⟨S8192x3072, .f32⟩
  | 23 => ⟨S8192x3072, .bf16⟩
  | 24 => ⟨S8192x3072, .f32⟩
  | 25 => ⟨S8192x3072, .bf16⟩
  | 26 => ⟨S8192x1536, .f32⟩
  | 27 => ⟨S8192x1536, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_cst_8 : Ref sig .tc := ⟨.hbm, 88, rfl⟩
abbrev main_v71 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_10 : Ref sig .tc := ⟨.hbm, 103, rfl⟩
abbrev main_v84 : Ref sig .tc := ⟨.hbm, 104, rfl⟩
abbrev main_v85 : Ref sig .tc := ⟨.hbm, 105, rfl⟩
abbrev main_cst_11 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_cst_12 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_cst_13 : Ref sig .tc := ⟨.hbm, 141, rfl⟩
abbrev main_v119 : Ref sig .tc := ⟨.hbm, 142, rfl⟩
abbrev main_v120 : Ref sig .tc := ⟨.hbm, 143, rfl⟩
abbrev main_cst_14 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩

abbrev nD : Nat := 1
abbrev τ : Topo := Topo.v7x

variable {F : FTy → Type} [FloatOps F]
-- ==== InAbS.lean ====
abbrev S512x2048 : Shape := ⟨2, ![512, 2048]⟩
abbrev S2048 : Shape := ⟨1, ![2048]⟩
abbrev S2048x1600 : Shape := ⟨2, ![2048, 1600]⟩
abbrev S512 : Shape := ⟨1, ![512]⟩
abbrev S512x12x192 : Shape := ⟨3, ![512, 12, 192]⟩
abbrev S512x12x128 : Shape := ⟨3, ![512, 12, 128]⟩
abbrev S4 : Shape := ⟨1, ![4]⟩
abbrev S_ : Shape := ⟨0, ![]⟩
abbrev S4x128 : Shape := ⟨2, ![4, 128]⟩
abbrev S32 : Shape := ⟨1, ![32]⟩
abbrev S512x1 : Shape := ⟨2, ![512, 1]⟩
abbrev S1x32 : Shape := ⟨2, ![1, 32]⟩
abbrev S512x32 : Shape := ⟨2, ![512, 32]⟩
abbrev S512x64 : Shape := ⟨2, ![512, 64]⟩
abbrev S512x128 : Shape := ⟨2, ![512, 128]⟩
abbrev S2048x64 : Shape := ⟨2, ![2048, 64]⟩
abbrev S2048x1536 : Shape := ⟨2, ![2048, 1536]⟩
abbrev S2048x128 : Shape := ⟨2, ![2048, 128]⟩
abbrev S2048x32 : Shape := ⟨2, ![2048, 32]⟩
abbrev S2048x1792 : Shape := ⟨2, ![2048, 1792]⟩
abbrev S512x12x64 : Shape := ⟨3, ![512, 12, 64]⟩
abbrev S512x12x256 : Shape := ⟨3, ![512, 12, 256]⟩
abbrev S512x3072 : Shape := ⟨2, ![512, 3072]⟩
abbrev S512x12x32 : Shape := ⟨3, ![512, 12, 32]⟩
abbrev S512x1536 : Shape := ⟨2, ![512, 1536]⟩
abbrev S12x128x512 : Shape := ⟨3, ![12, 128, 512]⟩
abbrev S1x2048 : Shape := ⟨2, ![1, 2048]⟩
abbrev S1x512 : Shape := ⟨2, ![1, 512]⟩
abbrev S512x512 : Shape := ⟨2, ![512, 512]⟩
abbrev S512x6144 : Shape := ⟨2, ![512, 6144]⟩
abbrev S256x2048 : Shape := ⟨2, ![256, 2048]⟩
abbrev S256x128 : Shape := ⟨2, ![256, 128]⟩
abbrev S256x512 : Shape := ⟨2, ![256, 512]⟩
abbrev S256x64 : Shape := ⟨2, ![256, 64]⟩
abbrev S256x6144 : Shape := ⟨2, ![256, 6144]⟩
abbrev S256x1536 : Shape := ⟨2, ![256, 1536]⟩
abbrev S256 : Shape := ⟨1, ![256]⟩
abbrev S256x1 : Shape := ⟨2, ![256, 1]⟩
abbrev S256x1792 : Shape := ⟨2, ![256, 1792]⟩
abbrev S256x3072 : Shape := ⟨2, ![256, 3072]⟩
abbrev S1x128x512 : Shape := ⟨3, ![1, 128, 512]⟩
abbrev S128x512 : Shape := ⟨2, ![128, 512]⟩

abbrev nBuf : Space → Nat
  | .hbm => 72
  | .vmem => 23
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x1600, .f32⟩
  | .hbm, ⟨3, _⟩ => ⟨S512, .f32⟩
  | .hbm, ⟨4, _⟩ => ⟨S512, .f32⟩
  | .hbm, ⟨5, _⟩ => ⟨S512x12x192, .f32⟩
  | .hbm, ⟨6, _⟩ => ⟨S512x12x128, .f32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4x128, .i32⟩
  | .hbm, ⟨12, _⟩ => ⟨S512, .i32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S512, .f32⟩
  | .hbm, ⟨22, _⟩ => ⟨S512x1, .f32⟩
  | .hbm, ⟨23, _⟩ => ⟨S1x32, .f32⟩
  | .hbm, ⟨24, _⟩ => ⟨S512x32, .f32⟩
  | .hbm, ⟨25, _⟩ => ⟨S512x32, .f32⟩
  | .hbm, ⟨26, _⟩ => ⟨S512x32, .f32⟩
  | .hbm, ⟨27, _⟩ => ⟨S_, .f32⟩
  | .hbm, ⟨28, _⟩ => ⟨S512x64, .f32⟩
  | .hbm, ⟨29, _⟩ => ⟨S512x32, .f32⟩
  | .hbm, ⟨30, _⟩ => ⟨S512x32, .f32⟩
  | .hbm, ⟨31, _⟩ => ⟨S512x128, .f32⟩
  | .hbm, ⟨32, _⟩ => ⟨S512x128, .f32⟩
  | .hbm, ⟨33, _⟩ => ⟨S2048x64, .f32⟩
  | .hbm, ⟨34, _⟩ => ⟨S2048x1536, .f32⟩
  | .hbm, ⟨35, _⟩ => ⟨S_, .f32⟩
  | .hbm, ⟨36, _⟩ => ⟨S2048x64, .f32⟩
  | .hbm, ⟨37, _⟩ => ⟨S2048x128, .f32⟩
  | .hbm, ⟨38, _⟩ => ⟨S2048x32, .f32⟩
  | .hbm, ⟨39, _⟩ => ⟨S2048x32, .f32⟩
  | .hbm, ⟨40, _⟩ => ⟨S2048x32, .f32⟩
  | .hbm, ⟨41, _⟩ => ⟨S2048x64, .f32⟩
  | .hbm, ⟨42, _⟩ => ⟨S_, .f32⟩
  | .hbm, ⟨43, _⟩ => ⟨S2048x64, .f32⟩
  | .hbm, ⟨44, _⟩ => ⟨S2048x128, .f32⟩
  | .hbm, ⟨45, _⟩ => ⟨S2048x1792, .f32⟩
  | .hbm, ⟨46, _⟩ => ⟨S2048x1792, .bf16⟩
  | .hbm, ⟨47, _⟩ => ⟨S_, .f32⟩
  | .hbm, ⟨48, _⟩ => ⟨S512x12x64, .f32⟩
  | .hbm, ⟨49, _⟩ => ⟨S512x12x256, .f32⟩
  | .hbm, ⟨50, _⟩ => ⟨S512x3072, .f32⟩
  | .hbm, ⟨51, _⟩ => ⟨S512x3072, .bf16⟩
  | .hbm, ⟨52, _⟩ => ⟨S512x12x64, .f32⟩
  | .hbm, ⟨53, _⟩ => ⟨S512x12x32, .f32⟩
  | .hbm, ⟨54, _⟩ => ⟨S512x12x32, .f32⟩
  | .hbm, ⟨55, _⟩ => ⟨S512x12x32, .f32⟩
  | .hbm, ⟨56, _⟩ => ⟨S512x12x64, .f32⟩
  | .hbm, ⟨57, _⟩ => ⟨S_, .f32⟩
  | .hbm, ⟨58, _⟩ => ⟨S512x12x64, .f32⟩
  | .hbm, ⟨59, _⟩ => ⟨S512x12x128, .f32⟩
  | .hbm, ⟨60, _⟩ => ⟨S512x1536, .f32⟩
  | .hbm, ⟨61, _⟩ => ⟨S512x1536, .bf16⟩
  | .hbm, ⟨62, _⟩ => ⟨S12x128x512, .f32⟩
  | .hbm, ⟨63, _⟩ => ⟨S12x128x512, .bf16⟩
  | .hbm, ⟨64, _⟩ => ⟨S1x2048, .f32⟩
  | .hbm, ⟨65, _⟩ => ⟨S1x512, .f32⟩
  | .hbm, ⟨66, _⟩ => ⟨S1x512, .f32⟩
  | .hbm, ⟨67, _⟩ => ⟨S512x512, .f32⟩
  | .hbm, ⟨68, _⟩ => ⟨S512x512, .f32⟩
  | .hbm, ⟨69, _⟩ => ⟨S512x64, .f32⟩
  | .hbm, ⟨70, _⟩ => ⟨S512x6144, .bf16⟩
  | .hbm, ⟨71, _⟩ => ⟨S512x1536, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x1792, .bf16⟩
  | .local _ .vmem, ⟨4, _⟩ => ⟨S1x512, .f32⟩
  | .local _ .vmem, ⟨5, _⟩ => ⟨S1x512, .f32⟩
  | .local _ .vmem, ⟨6, _⟩ => ⟨S512x3072, .bf16⟩
  | .local _ .vmem, ⟨7, _⟩ => ⟨S512x1536, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S12x128x512, .bf16⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x64, .f32⟩
  | .local _ .vmem, ⟨18, _⟩ => ⟨S256x64, .f32⟩
  | .local _ .vmem, ⟨19, _⟩ => ⟨S256x6144, .bf16⟩
  | .local _ .vmem, ⟨20, _⟩ => ⟨S256x6144, .bf16⟩
  | .local _ .vmem, ⟨21, _⟩ => ⟨S256x1536, .f32⟩
  | .local _ .vmem, ⟨22, _⟩ => ⟨S256x1536, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52_0 : Ref sig .tc := ⟨.hbm, 67, rfl⟩
abbrev main_v52_1 : Ref sig .tc := ⟨.hbm, 68, rfl⟩
abbrev main_v52_2 : Ref sig .tc := ⟨.hbm, 69, rfl⟩
abbrev main_v52_3 : Ref sig .tc := ⟨.hbm, 70, rfl⟩
abbrev main_v52_4 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S12x128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x6144 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InAbSRefIdeal.lean ====
abbrev S512x2048 : Shape := ⟨2, ![512, 2048]⟩
abbrev S2048 : Shape := ⟨1, ![2048]⟩
abbrev S2048x1600 : Shape := ⟨2, ![2048, 1600]⟩
abbrev S512 : Shape := ⟨1, ![512]⟩
abbrev S512x12x192 : Shape := ⟨3, ![512, 12, 192]⟩
abbrev S512x12x128 : Shape := ⟨3, ![512, 12, 128]⟩
abbrev S4 : Shape := ⟨1, ![4]⟩
abbrev S_ : Shape := ⟨0, ![]⟩
abbrev S4x128 : Shape := ⟨2, ![4, 128]⟩
abbrev S512x1 : Shape := ⟨2, ![512, 1]⟩
abbrev S1x2048 : Shape := ⟨2, ![1, 2048]⟩
abbrev S512x1600 : Shape := ⟨2, ![512, 1600]⟩
abbrev S512x512 : Shape := ⟨2, ![512, 512]⟩
abbrev S512x64 : Shape := ⟨2, ![512, 64]⟩
abbrev S1x512 : Shape := ⟨2, ![1, 512]⟩
abbrev S512x12x64 : Shape := ⟨3, ![512, 12, 64]⟩
abbrev S1x512x12x64 : Shape := ⟨4, ![1, 512, 12, 64]⟩
abbrev S32 : Shape := ⟨1, ![32]⟩
abbrev S1x32 : Shape := ⟨2, ![1, 32]⟩
abbrev S512x32 : Shape := ⟨2, ![512, 32]⟩
abbrev S512x1x32 : Shape := ⟨3, ![512, 1, 32]⟩
abbrev S1x512x12x32 : Shape := ⟨4, ![1, 512, 12, 32]⟩
abbrev S1x512x1x32 : Shape := ⟨4, ![1, 512, 1, 32]⟩
abbrev S1x512x64 : Shape := ⟨3, ![1, 512, 64]⟩
abbrev S1x512x32 : Shape := ⟨3, ![1, 512, 32]⟩
abbrev S12x512x512 : Shape := ⟨3, ![12, 512, 512]⟩
abbrev S512x12x512 : Shape := ⟨3, ![512, 12, 512]⟩
abbrev S512x6144 : Shape := ⟨2, ![512, 6144]⟩
abbrev S512x1536 : Shape := ⟨2, ![512, 1536]⟩

abbrev nBuf : Space → Nat
  | .hbm => 150
  | .vmem => 0
  | .smem => 0
  | _ => 0

abbrev hbmTy0_0 (i : Nat) : BufTy := match i % 128 with
  | 0 => ⟨S512x2048, .f32⟩
  | 1 => ⟨S2048, .f32⟩
  | 2 => ⟨S2048x1600, .f32⟩
  | 3 => ⟨S512, .f32⟩
  | 4 => ⟨S512, .f32⟩
  | 5 => ⟨S512x12x192, .f32⟩
  | 6 => ⟨S512x12x128, .f32⟩
  | 7 => ⟨S4, .i32⟩
  | 8 => ⟨S_, .i32⟩
  | 9 => ⟨S4, .i32⟩
  | 10 => ⟨S4, .i32⟩
  | 11 => ⟨S4x128, .i32⟩
  | 12 => ⟨S512, .i32⟩
  | 13 => ⟨S512x2048, .f32⟩
  | 14 => ⟨S_, .f32⟩
  | 15 => ⟨S512, .f32⟩
  | 16 => ⟨S512x1, .f32⟩
  | 17 => ⟨S_, .f32⟩
  | 18 => ⟨S512x1, .f32⟩
  | 19 => ⟨S512x1, .f32⟩
  | 20 => ⟨S_, .f32⟩
  | 21 => ⟨S512x1, .f32⟩
  | 22 => ⟨S512x1, .f32⟩
  | 23 => ⟨S512x1, .f32⟩
  | 24 => ⟨S512x2048, .f32⟩
  | 25 => ⟨S512x2048, .f32⟩
  | 26 => ⟨S1x2048, .f32⟩
  | 27 => ⟨S512x2048, .f32⟩
  | 28 => ⟨S512x2048, .f32⟩
  | 29 => ⟨S512x1600, .f32⟩
  | 30 => ⟨S512x512, .f32⟩
  | 31 => ⟨S512x512, .f32⟩
  | 32 => ⟨S512x512, .f32⟩
  | 33 => ⟨S512x64, .f32⟩
  | 34 => ⟨S512x512, .f32⟩
  | 35 => ⟨S_, .f32⟩
  | 36 => ⟨S512, .f32⟩
  | 37 => ⟨S512x1, .f32⟩
  | 38 => ⟨S_, .f32⟩
  | 39 => ⟨S512x1, .f32⟩
  | 40 => ⟨S512x1, .f32⟩
  | 41 => ⟨S_, .f32⟩
  | 42 => ⟨S512x1, .f32⟩
  | 43 => ⟨S512x1, .f32⟩
  | 44 => ⟨S512x1, .f32⟩
  | 45 => ⟨S512x512, .f32⟩
  | 46 => ⟨S512x512, .f32⟩
  | 47 => ⟨S1x512, .f32⟩
  | 48 => ⟨S512x512, .f32⟩
  | 49 => ⟨S512x512, .f32⟩
  | 50 => ⟨S512x12x192, .f32⟩
  | 51 => ⟨S512x12x128, .f32⟩
  | 52 => ⟨S512x12x64, .f32⟩
  | 53 => ⟨S1x512x12x64, .f32⟩
  | 54 => ⟨S32, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S512, .f32⟩
  | 63 => ⟨S512x1, .f32⟩
  | 64 => ⟨S1x32, .f32⟩
  | 65 => ⟨S512x32, .f32⟩
  | 66 => ⟨S512x32, .f32⟩
  | 67 => ⟨S512x32, .f32⟩
  | 68 => ⟨S512x1x32, .f32⟩
  | 69 => ⟨S512x1x32, .f32⟩
  | 70 => ⟨S512x1x32, .f32⟩
  | 71 => ⟨S1x512x12x32, .f32⟩
  | 72 => ⟨S1x512x12x32, .f32⟩
  | 73 => ⟨S1x512x1x32, .f32⟩
  | 74 => ⟨S1x512x12x32, .f32⟩
  | 75 => ⟨S1x512x12x32, .f32⟩
  | 76 => ⟨S1x512x1x32, .f32⟩
  | 77 => ⟨S1x512x12x32, .f32⟩
  | 78 => ⟨S1x512x12x32, .f32⟩
  | 79 => ⟨S1x512x12x32, .f32⟩
  | 80 => ⟨S1x512x1x32, .f32⟩
  | 81 => ⟨S1x512x12x32, .f32⟩
  | 82 => ⟨S1x512x12x32, .f32⟩
  | 83 => ⟨S1x512x1x32, .f32⟩
  | 84 => ⟨S1x512x12x32, .f32⟩
  | 85 => ⟨S1x512x12x32, .f32⟩
  | 86 => ⟨S1x512x12x32, .f32⟩
  | 87 => ⟨S1x512x12x64, .f32⟩
  | 88 => ⟨S512x12x64, .f32⟩
  | 89 => ⟨S512x512, .f32⟩
  | 90 => ⟨S_, .f32⟩
  | 91 => ⟨S512, .f32⟩
  | 92 => ⟨S512x1, .f32⟩
  | 93 => ⟨S_, .f32⟩
  | 94 => ⟨S512x1, .f32⟩
  | 95 => ⟨S512x1, .f32⟩
  | 96 => ⟨S_, .f32⟩
  | 97 => ⟨S512x1, .f32⟩
  | 98 => ⟨S512x1, .f32⟩
  | 99 => ⟨S512x1, .f32⟩
  | 100 => ⟨S512x512, .f32⟩
  | 101 => ⟨S512x512, .f32⟩
  | 102 => ⟨S1x512, .f32⟩
  | 103 => ⟨S512x512, .f32⟩
  | 104 => ⟨S512x512, .f32⟩
  | 105 => ⟨S1x512x64, .f32⟩
  | 106 => ⟨S32, .f32⟩
  | 107 => ⟨S32, .f32⟩
  | 108 => ⟨S_, .f32⟩
  | 109 => ⟨S32, .f32⟩
  | 110 => ⟨S32, .f32⟩
  | 111 => ⟨S_, .f32⟩
  | 112 => ⟨S32, .f32⟩
  | 113 => ⟨S32, .f32⟩
  | 114 => ⟨S512, .f32⟩
  | 115 => ⟨S512x1, .f32⟩
  | 116 => ⟨S1x32, .f32⟩
  | 117 => ⟨S512x32, .f32⟩
  | 118 => ⟨S512x32, .f32⟩
  | 119 => ⟨S512x32, .f32⟩
  | 120 => ⟨S512x32, .f32⟩
  | 121 => ⟨S512x32, .f32⟩
  | 122 => ⟨S1x512x32, .f32⟩
  | 123 => ⟨S1x512x32, .f32⟩
  | 124 => ⟨S1x512x32, .f32⟩
  | 125 => ⟨S1x512x32, .f32⟩
  | 126 => ⟨S1x512x32, .f32⟩
  | 127 => ⟨S1x512x32, .f32⟩
  | _ => ⟨S512x2048, .f32⟩

abbrev hbmTy0_1 (i : Nat) : BufTy := match i % 128 with
  | 0 => ⟨S1x512x32, .f32⟩
  | 1 => ⟨S1x512x32, .f32⟩
  | 2 => ⟨S1x512x32, .f32⟩
  | 3 => ⟨S1x512x32, .f32⟩
  | 4 => ⟨S1x512x32, .f32⟩
  | 5 => ⟨S1x512x32, .f32⟩
  | 6 => ⟨S1x512x64, .f32⟩
  | 7 => ⟨S512x64, .f32⟩
  | 8 => ⟨S_, .f32⟩
  | 9 => ⟨S512x12x128, .f32⟩
  | 10 => ⟨S512x12x128, .f32⟩
  | 11 => ⟨S12x512x512, .f32⟩
  | 12 => ⟨S512x12x512, .f32⟩
  | 13 => ⟨S_, .f32⟩
  | 14 => ⟨S512x12x64, .f32⟩
  | 15 => ⟨S_, .f32⟩
  | 16 => ⟨S512x12x64, .f32⟩
  | 17 => ⟨S512x12x64, .f32⟩
  | 18 => ⟨S512x12x128, .f32⟩
  | 19 => ⟨S512x6144, .f32⟩
  | 20 => ⟨S512x6144, .bf16⟩
  | 21 => ⟨S512x1536, .f32⟩
  | _ => ⟨S512x2048, .f32⟩

abbrev hbmTy (i : Nat) : BufTy := match i / 128 with
  | 0 => hbmTy0_0 i
  | 1 => hbmTy0_1 i
  | _ => ⟨S512x2048, .f32⟩

abbrev bufTy : (tb : Table) → Fin (tcTables nBuf tb) → BufTy
  | .hbm, ⟨i, _⟩ => hbmTy i
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_7 : Ref sig .tc := ⟨.hbm, 90, rfl⟩
abbrev main_v74 : Ref sig .tc := ⟨.hbm, 91, rfl⟩
abbrev main_v75 : Ref sig .tc := ⟨.hbm, 92, rfl⟩
abbrev main_cst_8 : Ref sig .tc := ⟨.hbm, 93, rfl⟩
abbrev main_v76 : Ref sig .tc := ⟨.hbm, 94, rfl⟩
abbrev main_v77 : Ref sig .tc := ⟨.hbm, 95, rfl⟩
abbrev main_cst_9 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_10 : Ref sig .tc := ⟨.hbm, 108, rfl⟩
abbrev main_v89 : Ref sig .tc := ⟨.hbm, 109, rfl⟩
abbrev main_v90 : Ref sig .tc := ⟨.hbm, 110, rfl⟩
abbrev main_cst_11 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_12 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_cst_13 : Ref sig .tc := ⟨.hbm, 141, rfl⟩
abbrev main_v119 : Ref sig .tc := ⟨.hbm, 142, rfl⟩
abbrev main_cst_14 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩

abbrev nD : Nat := 1
abbrev τ : Topo := Topo.v7x

variable {F : FTy → Type} [FloatOps F]
-- ==== MlpFinalS.lean ====
abbrev S512x2048 : Shape := ⟨2, ![512, 2048]⟩
abbrev S2048 : Shape := ⟨1, ![2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 10
  | .vmem => 9
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S1x2048, .f32⟩
  | .hbm, ⟨6, _⟩ => ⟨S2x2048x8192, .bf16⟩
  | .hbm, ⟨7, _⟩ => ⟨S2x8192x2048, .bf16⟩
  | .hbm, ⟨8, _⟩ => ⟨S1x2048, .f32⟩
  | .hbm, ⟨9, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== MlpFinalSRefIdeal.lean ====
abbrev S512x2048 : Shape := ⟨2, ![512, 2048]⟩
abbrev S2048 : Shape := ⟨1, ![2048]⟩
abbrev S2x2048x8192 : Shape := ⟨3, ![2, 2048, 8192]⟩
abbrev S2x8192x2048 : Shape := ⟨3, ![2, 8192, 2048]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S1x2048x8192 : Shape := ⟨3, ![1, 2048, 8192]⟩
abbrev S2048x8192 : Shape := ⟨2, ![2048, 8192]⟩
abbrev S512x8192 : Shape := ⟨2, ![512, 8192]⟩
abbrev S1x8192x2048 : Shape := ⟨3, ![1, 8192, 2048]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S512x2048, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x2048, .f32⟩
  | .hbm, ⟨17, _⟩ => ⟨S512x2048, .f32⟩
  | .hbm, ⟨18, _⟩ => ⟨S1x2048, .f32⟩
  | .hbm, ⟨19, _⟩ => ⟨S512x2048, .f32⟩
  | .hbm, ⟨20, _⟩ => ⟨S512x2048, .f32⟩
  | .hbm, ⟨21, _⟩ => ⟨S1x2048x8192, .f32⟩
  | .hbm, ⟨22, _⟩ => ⟨S2048x8192, .f32⟩
  | .hbm, ⟨23, _⟩ => ⟨S512x8192, .f32⟩
  | .hbm, ⟨24, _⟩ => ⟨S_, .f32⟩
  | .hbm, ⟨25, _⟩ => ⟨S512x8192, .f32⟩
  | .hbm, ⟨26, _⟩ => ⟨S512x8192, .f32⟩
  | .hbm, ⟨27, _⟩ => ⟨S512x8192, .f32⟩
  | .hbm, ⟨28, _⟩ => ⟨S1x8192x2048, .f32⟩
  | .hbm, ⟨29, _⟩ => ⟨S8192x2048, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512, .f32⟩
  | .hbm, ⟨35, _⟩ => ⟨S512x1, .f32⟩
  | .hbm, ⟨36, _⟩ => ⟨S_, .f32⟩
  | .hbm, ⟨37, _⟩ => ⟨S512x1, .f32⟩
  | .hbm, ⟨38, _⟩ => ⟨S512x1, .f32⟩
  | .hbm, ⟨39, _⟩ => ⟨S_, .f32⟩
  | .hbm, ⟨40, _⟩ => ⟨S512x1, .f32⟩
  | .hbm, ⟨41, _⟩ => ⟨S512x1, .f32⟩
  | .hbm, ⟨42, _⟩ => ⟨S512x1, .f32⟩
  | .hbm, ⟨43, _⟩ => ⟨S512x2048, .f32⟩
  | .hbm, ⟨44, _⟩ => ⟨S512x2048, .f32⟩
  | .hbm, ⟨45, _⟩ => ⟨S1x2048, .f32⟩
  | .hbm, ⟨46, _⟩ => ⟨S512x2048, .f32⟩
  | .hbm, ⟨47, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== InCdS.lean ====
abbrev S512x2048 : Shape := ⟨2, ![512, 2048]⟩
abbrev S2048 : Shape := ⟨1, ![2048]⟩
abbrev S2048x5120 : Shape := ⟨2, ![2048, 5120]⟩
abbrev S1x2048 : Shape := ⟨2, ![1, 2048]⟩
abbrev S512x1024 : Shape := ⟨2, ![512, 1024]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 19
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x5120, .f32⟩
  | .hbm, ⟨3, _⟩ => ⟨S1x2048, .f32⟩
  | .hbm, ⟨4, _⟩ => ⟨S2048x5120, .bf16⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== InCdSRefIdeal.lean ====
abbrev S512x2048 : Shape := ⟨2, ![512, 2048]⟩
abbrev S2048 : Shape := ⟨1, ![2048]⟩
abbrev S2048x5120 : Shape := ⟨2, ![2048, 5120]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S512x5120 : Shape := ⟨2, ![512, 5120]⟩
abbrev S512x1024 : Shape := ⟨2, ![512, 1024]⟩

abbrev nBuf : Space → Nat
  | .hbm => 35
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x5120, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S512x5120, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S512x1024, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Unabsorb.lean ====
abbrev S512x6144 : Shape := ⟨2, ![512, 6144]⟩
abbrev S512x12x128 : Shape := ⟨3, ![512, 12, 128]⟩
abbrev S12x512x128 : Shape := ⟨3, ![12, 512, 128]⟩
abbrev S512x1536 : Shape := ⟨2, ![512, 1536]⟩
abbrev S256x6144 : Shape := ⟨2, ![256, 6144]⟩
abbrev S256x1536 : Shape := ⟨2, ![256, 1536]⟩
abbrev S256x512 : Shape := ⟨2, ![256, 512]⟩
abbrev S1x512x128 : Shape := ⟨3, ![1, 512, 128]⟩
abbrev S512x128 : Shape := ⟨2, ![512, 128]⟩
abbrev S256x128 : Shape := ⟨2, ![256, 128]⟩

abbrev nBuf : Space → Nat
  | .hbm => 5
  | .vmem => 5
  | .smem => 0
  | _ => 0

abbrev bufTy : (tb : Table) → Fin (tcTables nBuf tb) → BufTy
  | .hbm, ⟨0, _⟩ => ⟨S512x6144, .bf16⟩
  | .hbm, ⟨1, _⟩ => ⟨S512x12x128, .f32⟩
  | .hbm, ⟨2, _⟩ => ⟨S12x512x128, .f32⟩
  | .hbm, ⟨3, _⟩ => ⟨S12x512x128, .bf16⟩
  | .hbm, ⟨4, _⟩ => ⟨S512x1536, .bf16⟩
  | .local _ .vmem, ⟨0, _⟩ => ⟨S256x6144, .bf16⟩
  | .local _ .vmem, ⟨1, _⟩ => ⟨S256x6144, .bf16⟩
  | .local _ .vmem, ⟨2, _⟩ => ⟨S12x512x128, .bf16⟩
  | .local _ .vmem, ⟨3, _⟩ => ⟨S256x1536, .bf16⟩
  | .local _ .vmem, ⟨4, _⟩ => ⟨S256x1536, .bf16⟩
  | _, _ => ⟨S512x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== UnabsorbRefIdeal.lean ====
abbrev S512x6144 : Shape := ⟨2, ![512, 6144]⟩
abbrev S512x12x128 : Shape := ⟨3, ![512, 12, 128]⟩
abbrev S512x12x512 : Shape := ⟨3, ![512, 12, 512]⟩
abbrev S12x128x512 : Shape := ⟨3, ![12, 128, 512]⟩
abbrev S512x1536 : Shape := ⟨2, ![512, 1536]⟩

abbrev nBuf : Space → Nat
  | .hbm => 8
  | .vmem => 0
  | .smem => 0
  | _ => 0

abbrev bufTy : (tb : Table) → Fin (tcTables nBuf tb) → BufTy
  | .hbm, ⟨0, _⟩ => ⟨S512x6144, .bf16⟩
  | .hbm, ⟨1, _⟩ => ⟨S512x12x128, .f32⟩
  | .hbm, ⟨2, _⟩ => ⟨S512x6144, .f32⟩
  | .hbm, ⟨3, _⟩ => ⟨S512x12x512, .f32⟩
  | .hbm, ⟨4, _⟩ => ⟨S12x128x512, .f32⟩
  | .hbm, ⟨5, _⟩ => ⟨S512x12x128, .f32⟩
  | .hbm, ⟨6, _⟩ => ⟨S512x1536, .f32⟩
  | .hbm, ⟨7, _⟩ => ⟨S512x1536, .bf16⟩
  | _, _ => ⟨S512x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PoolS.lean ====
abbrev S15x128x512 : Shape := ⟨3, ![15, 128, 512]⟩
abbrev S4x128x512 : Shape := ⟨3, ![4, 128, 512]⟩
abbrev S4x128x128 : Shape := ⟨3, ![4, 128, 128]⟩
abbrev S512 : Shape := ⟨1, ![512]⟩
abbrev S1x512 : Shape := ⟨2, ![1, 512]⟩
abbrev S1x128x128 : Shape := ⟨3, ![1, 128, 128]⟩
abbrev S128x128 : Shape := ⟨2, ![128, 128]⟩
abbrev S128x512 : Shape := ⟨2, ![128, 512]⟩
abbrev S1x128x512 : Shape := ⟨3, ![1, 128, 512]⟩

abbrev nBuf : Space → Nat
  | .hbm => 7
  | .vmem => 5
  | .smem => 0
  | _ => 0

abbrev bufTy : (tb : Table) → Fin (tcTables nBuf tb) → BufTy
  | .hbm, ⟨0, _⟩ => ⟨S15x128x512, .f32⟩
  | .hbm, ⟨1, _⟩ => ⟨S4x128x512, .f32⟩
  | .hbm, ⟨2, _⟩ => ⟨S4x128x128, .f32⟩
  | .hbm, ⟨3, _⟩ => ⟨S512, .f32⟩
  | .hbm, ⟨4, _⟩ => ⟨S4x128x128, .bf16⟩
  | .hbm, ⟨5, _⟩ => ⟨S1x512, .f32⟩
  | .hbm, ⟨6, _⟩ => ⟨S4x128x512, .bf16⟩
  | .local _ .vmem, ⟨0, _⟩ => ⟨S15x128x512, .f32⟩
  | .local _ .vmem, ⟨1, _⟩ => ⟨S4x128x512, .f32⟩
  | .local _ .vmem, ⟨2, _⟩ => ⟨S4x128x128, .bf16⟩
  | .local _ .vmem, ⟨3, _⟩ => ⟨S1x512, .f32⟩
  | .local _ .vmem, ⟨4, _⟩ => ⟨S4x128x512, .bf16⟩
  | _, _ => ⟨S15x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S15x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PoolSRefIdeal.lean ====
abbrev S15x128x512 : Shape := ⟨3, ![15, 128, 512]⟩
abbrev S4x128x512 : Shape := ⟨3, ![4, 128, 512]⟩
abbrev S4x128x128 : Shape := ⟨3, ![4, 128, 128]⟩
abbrev S512 : Shape := ⟨1, ![512]⟩
abbrev S19x128x512 : Shape := ⟨3, ![19, 128, 512]⟩
abbrev S4 : Shape := ⟨1, ![4]⟩
abbrev S_ : Shape := ⟨0, ![]⟩
abbrev S4x1x1 : Shape := ⟨3, ![4, 1, 1]⟩
abbrev S4x128x4x128 : Shape := ⟨4, ![4, 128, 4, 128]⟩
abbrev S1x1x512 : Shape := ⟨3, ![1, 1, 512]⟩

abbrev nBuf : Space → Nat
  | .hbm => 127
  | .vmem => 0
  | .smem => 0
  | _ => 0

abbrev bufTy : (tb : Table) → Fin (tcTables nBuf tb) → BufTy
  | .hbm, ⟨0, _⟩ => ⟨S15x128x512, .f32⟩
  | .hbm, ⟨1, _⟩ => ⟨S4x128x512, .f32⟩
  | .hbm, ⟨2, _⟩ => ⟨S4x128x128, .f32⟩
  | .hbm, ⟨3, _⟩ => ⟨S512, .f32⟩
  | .hbm, ⟨4, _⟩ => ⟨S19x128x512, .f32⟩
  | .hbm, ⟨5, _⟩ => ⟨S4x128x128, .f32⟩
  | .hbm, ⟨6, _⟩ => ⟨S4x128x128, .f32⟩
  | .hbm, ⟨7, _⟩ => ⟨S4x128x128, .f32⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S_, .i32⟩
  | .hbm, ⟨13, _⟩ => ⟨S4, .i32⟩
  | .hbm, ⟨14, _⟩ => ⟨S4, .i32⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S4, .f32⟩
  | .hbm, ⟨19, _⟩ => ⟨S4x1x1, .f32⟩
  | .hbm, ⟨20, _⟩ => ⟨S4x128x128, .f32⟩
  | .hbm, ⟨21, _⟩ => ⟨S4x128x128, .f32⟩
  | .hbm, ⟨22, _⟩ => ⟨S4x128x128, .f32⟩
  | .hbm, ⟨23, _⟩ => ⟨S4x128x128, .f32⟩
  | .hbm, ⟨24, _⟩ => ⟨S4x128x128, .f32⟩
  | .hbm, ⟨25, _⟩ => ⟨S4x128x128, .f32⟩
  | .hbm, ⟨26, _⟩ => ⟨S4x128x128, .f32⟩
  | .hbm, ⟨27, _⟩ => ⟨S4x128x128, .f32⟩
  | .hbm, ⟨28, _⟩ => ⟨S4x128x128, .f32⟩
  | .hbm, ⟨29, _⟩ => ⟨S4, .i32⟩
  | .hbm, ⟨30, _⟩ => ⟨S_, .i32⟩
  | .hbm, ⟨31, _⟩ => ⟨S4, .i32⟩
  | .hbm, ⟨32, _⟩ => ⟨S4, .i32⟩
  | .hbm, ⟨33, _⟩ => ⟨S_, .i32⟩
  | .hbm, ⟨34, _⟩ => ⟨S4, .i32⟩
  | .hbm, ⟨35, _⟩ => ⟨S4, .i32⟩
  | .hbm, ⟨36, _⟩ => ⟨S_, .i32⟩
  | .hbm, ⟨37, _⟩ => ⟨S4, .i32⟩
  | .hbm, ⟨38, _⟩ => ⟨S4, .i32⟩
  | .hbm, ⟨39, _⟩ => ⟨S4, .f32⟩
  | .hbm, ⟨40, _⟩ => ⟨S4x1x1, .f32⟩
  | .hbm, ⟨41, _⟩ => ⟨S4x128x128, .f32⟩
  | .hbm, ⟨42, _⟩ => ⟨S4x128x128, .f32⟩
  | .hbm, ⟨43, _⟩ => ⟨S4x128x128, .f32⟩
  | .hbm, ⟨44, _⟩ => ⟨S4x128x128, .f32⟩
  | .hbm, ⟨45, _⟩ => ⟨S4x128x128, .f32⟩
  | .hbm, ⟨46, _⟩ => ⟨S4x128x128, .f32⟩
  | .hbm, ⟨47, _⟩ => ⟨S4x128x128, .f32⟩
  | .hbm, ⟨48, _⟩ => ⟨S4x128x128, .f32⟩
  | .hbm, ⟨49, _⟩ => ⟨S4x128x128, .f32⟩
  | .hbm, ⟨50, _⟩ => ⟨S4x128x128, .f32⟩
  | .hbm, ⟨51, _⟩ => ⟨S4x128x128, .f32⟩
  | .hbm, ⟨52, _⟩ => ⟨S4x128x128, .f32⟩
  | .hbm, ⟨53, _⟩ => ⟨S4x128x128, .f32⟩
  | .hbm, ⟨54, _⟩ => ⟨S4x128x128, .f32⟩
  | .hbm, ⟨55, _⟩ => ⟨S4x128x128, .f32⟩
  | .hbm, ⟨56, _⟩ => ⟨S4x128x128, .f32⟩
  | .hbm, ⟨57, _⟩ => ⟨S4x128x128, .f32⟩
  | .hbm, ⟨58, _⟩ => ⟨S4, .i32⟩
  | .hbm, ⟨59, _⟩ => ⟨S_, .i32⟩
  | .hbm, ⟨60, _⟩ => ⟨S4, .i32⟩
  | .hbm, ⟨61, _⟩ => ⟨S4, .i32⟩
  | .hbm, ⟨62, _⟩ => ⟨S_, .i32⟩
  | .hbm, ⟨63, _⟩ => ⟨S4, .i32⟩
  | .hbm, ⟨64, _⟩ => ⟨S4, .i32⟩
  | .hbm, ⟨65, _⟩ => ⟨S_, .i32⟩
  | .hbm, ⟨66, _⟩ => ⟨S4, .i32⟩
  | .hbm, ⟨67, _⟩ => ⟨S4, .i32⟩
  | .hbm, ⟨68, _⟩ => ⟨S4, .f32⟩
  | .hbm, ⟨69, _⟩ => ⟨S4x1x1, .f32⟩
  | .hbm, ⟨70, _⟩ => ⟨S4x128x128, .f32⟩
  | .hbm, ⟨71, _⟩ => ⟨S4x128x128, .f32⟩
  | .hbm, ⟨72, _⟩ => ⟨S4x128x128, .f32⟩
  | .hbm, ⟨73, _⟩ => ⟨S4x128x128, .f32⟩
  | .hbm, ⟨74, _⟩ => ⟨S4x128x128, .f32⟩
  | .hbm, ⟨75, _⟩ => ⟨S4x128x128, .f32⟩
  | .hbm, ⟨76, _⟩ => ⟨S4x128x128, .f32⟩
  | .hbm, ⟨77, _⟩ => ⟨S4x128x128, .f32⟩
  | .hbm, ⟨78, _⟩ => ⟨S4x128x128, .f32⟩
  | .hbm, ⟨79, _⟩ => ⟨S4x128x128, .f32⟩
  | .hbm, ⟨80, _⟩ => ⟨S4x128x128, .f32⟩
  | .hbm, ⟨81, _⟩ => ⟨S4x128x128, .f32⟩
  | .hbm, ⟨82, _⟩ => ⟨S4x128x128, .f32⟩
  | .hbm, ⟨83, _⟩ => ⟨S4x128x128, .f32⟩
  | .hbm, ⟨84, _⟩ => ⟨S4x128x128, .f32⟩
  | .hbm, ⟨85, _⟩ => ⟨S4x128x128, .f32⟩
  | .hbm, ⟨86, _⟩ => ⟨S4x128x128, .f32⟩
  | .hbm, ⟨87, _⟩ => ⟨S4x128x128, .f32⟩
  | .hbm, ⟨88, _⟩ => ⟨S4x128x128, .f32⟩
  | .hbm, ⟨89, _⟩ => ⟨S4x128x128, .f32⟩
  | .hbm, ⟨90, _⟩ => ⟨S4x128x128, .f32⟩
  | .hbm, ⟨91, _⟩ => ⟨S4x128x128, .f32⟩
  | .hbm, ⟨92, _⟩ => ⟨S4x128x128, .f32⟩
  | .hbm, ⟨93, _⟩ => ⟨S4x128x128, .f32⟩
  | .hbm, ⟨94, _⟩ => ⟨S4x128x128, .f32⟩
  | .hbm, ⟨95, _⟩ => ⟨S4x128x128, .f32⟩
  | .hbm, ⟨96, _⟩ => ⟨S4x128x128, .f32⟩
  | .hbm, ⟨97, _⟩ => ⟨S4x128x128, .f32⟩
  | .hbm, ⟨98, _⟩ => ⟨S4x128x128, .f32⟩
  | .hbm, ⟨99, _⟩ => ⟨S4x128x128, .f32⟩
  | .hbm, ⟨100, _⟩ => ⟨S4x128x128, .f32⟩
  | .hbm, ⟨101, _⟩ => ⟨S4x128x128, .f32⟩
  | .hbm, ⟨102, _⟩ => ⟨S4x128x128, .f32⟩
  | .hbm, ⟨103, _⟩ => ⟨S4, .i32⟩
  | .hbm, ⟨104, _⟩ => ⟨S_, .i32⟩
  | .hbm, ⟨105, _⟩ => ⟨S4, .i32⟩
  | .hbm, ⟨106, _⟩ => ⟨S4, .i32⟩
  | .hbm, ⟨107, _⟩ => ⟨S_, .i32⟩
  | .hbm, ⟨108, _⟩ => ⟨S4, .i32⟩
  | .hbm, ⟨109, _⟩ => ⟨S4, .i32⟩
  | .hbm, ⟨110, _⟩ => ⟨S_, .i32⟩
  | .hbm, ⟨111, _⟩ => ⟨S4, .i32⟩
  | .hbm, ⟨112, _⟩ => ⟨S4, .i32⟩
  | .hbm, ⟨113, _⟩ => ⟨S4, .f32⟩
  | .hbm, ⟨114, _⟩ => ⟨S4x1x1, .f32⟩
  | .hbm, ⟨115, _⟩ => ⟨S4x128x128, .f32⟩
  | .hbm, ⟨116, _⟩ => ⟨S4x128x128, .f32⟩
  | .hbm, ⟨117, _⟩ => ⟨S4x128x512, .f32⟩
  | .hbm, ⟨118, _⟩ => ⟨S4x128x512, .f32⟩
  | .hbm, ⟨119, _⟩ => ⟨S4x128x4x128, .f32⟩
  | .hbm, ⟨120, _⟩ => ⟨S4x128x4x128, .f32⟩
  | .hbm, ⟨121, _⟩ => ⟨S4x128x4x128, .f32⟩
  | .hbm, ⟨122, _⟩ => ⟨S4x128x512, .f32⟩
  | .hbm, ⟨123, _⟩ => ⟨S1x1x512, .f32⟩
  | .hbm, ⟨124, _⟩ => ⟨S4x128x512, .f32⟩
  | .hbm, ⟨125, _⟩ => ⟨S4x128x512, .f32⟩
  | .hbm, ⟨126, _⟩ => ⟨S4x128x512, .bf16⟩
  | _, _ => ⟨S15x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_5 : Ref sig .tc := ⟨.hbm, 59, rfl⟩
abbrev main_v49 : Ref sig .tc := ⟨.hbm, 60, rfl⟩
abbrev main_v50 : Ref sig .tc := ⟨.hbm, 61, rfl⟩
abbrev main_c_6 : Ref sig .tc := ⟨.hbm, 62, rfl⟩
abbrev main_v51 : Ref sig .tc := ⟨.hbm, 63, rfl⟩
abbrev main_v52 : Ref sig .tc := ⟨.hbm, 64, rfl⟩
abbrev main_c_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_c_8 : Ref sig .tc := ⟨.hbm, 104, rfl⟩
abbrev main_v91 : Ref sig .tc := ⟨.hbm, 105, rfl⟩
abbrev main_v92 : Ref sig .tc := ⟨.hbm, 106, rfl⟩
abbrev main_c_9 : Ref sig .tc := ⟨.hbm, 107, rfl⟩
abbrev main_v93 : Ref sig .tc := ⟨.hbm, 108, rfl⟩
abbrev main_v94 : Ref sig .tc := ⟨.hbm, 109, rfl⟩
abbrev main_c_10 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩

abbrev nD : Nat := 1
abbrev τ : Topo := Topo.v7x

variable {F : FTy → Type} [FloatOps F]
-- ==== ConvS.lean ====
abbrev S30x128x1024 : Shape := ⟨3, ![30, 128, 1024]⟩
abbrev S2x128x1024 : Shape := ⟨3, ![2, 128, 1024]⟩
abbrev S4x128x1024 : Shape := ⟨3, ![4, 128, 1024]⟩
abbrev S31x1024 : Shape := ⟨2, ![31, 1024]⟩
abbrev S1024 : Shape := ⟨1, ![1024]⟩
abbrev S3x1024 : Shape := ⟨2, ![3, 1024]⟩
abbrev S1x1024 : Shape := ⟨2, ![1, 1024]⟩
abbrev S4x128x2048 : Shape := ⟨3, ![4, 128, 2048]⟩
abbrev S30x32x1024 : Shape := ⟨3, ![30, 32, 1024]⟩
abbrev S2x32x1024 : Shape := ⟨3, ![2, 32, 1024]⟩
abbrev S4x32x1024 : Shape := ⟨3, ![4, 32, 1024]⟩
abbrev S4x32x2048 : Shape := ⟨3, ![4, 32, 2048]⟩
abbrev S1x32x1024 : Shape := ⟨3, ![1, 32, 1024]⟩
abbrev S32x1024 : Shape := ⟨2, ![32, 1024]⟩
abbrev S32 : Shape := ⟨1, ![32]⟩
abbrev S32x1 : Shape := ⟨2, ![32, 1]⟩

abbrev nBuf : Space → Nat
  | .hbm => 14
  | .vmem => 17
  | .smem => 0
  | _ => 0

abbrev bufTy : (tb : Table) → Fin (tcTables nBuf tb) → BufTy
  | .hbm, ⟨0, _⟩ => ⟨S30x128x1024, .f32⟩
  | .hbm, ⟨1, _⟩ => ⟨S2x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S31x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S3x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4x128x2048, .bf16⟩
  | .local _ .vmem, ⟨0, _⟩ => ⟨S30x32x1024, .f32⟩
  | .local _ .vmem, ⟨1, _⟩ => ⟨S30x32x1024, .f32⟩
  | .local _ .vmem, ⟨2, _⟩ => ⟨S2x32x1024, .f32⟩
  | .local _ .vmem, ⟨3, _⟩ => ⟨S2x32x1024, .f32⟩
  | .local _ .vmem, ⟨4, _⟩ => ⟨S4x32x1024, .f32⟩
  | .local _ .vmem, ⟨5, _⟩ => ⟨S4x32x1024, .f32⟩
  | .local _ .vmem, ⟨6, _⟩ => ⟨S4x32x1024, .f32⟩
  | .local _ .vmem, ⟨7, _⟩ => ⟨S4x32x1024, .f32⟩
  | .local _ .vmem, ⟨8, _⟩ => ⟨S4x32x1024, .f32⟩
  | .local _ .vmem, ⟨9, _⟩ => ⟨S4x32x1024, .f32⟩
  | .local _ .vmem, ⟨10, _⟩ => ⟨S31x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S3x1024, .f32⟩
  | .local _ .vmem, ⟨15, _⟩ => ⟨S4x32x2048, .bf16⟩
  | .local _ .vmem, ⟨16, _⟩ => ⟨S4x32x2048, .bf16⟩
  | _, _ => ⟨S30x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S30x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S31x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x32x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvSRefIdeal.lean ====
abbrev S30x128x1024 : Shape := ⟨3, ![30, 128, 1024]⟩
abbrev S2x128x1024 : Shape := ⟨3, ![2, 128, 1024]⟩
abbrev S4x128x1024 : Shape := ⟨3, ![4, 128, 1024]⟩
abbrev S31x1024 : Shape := ⟨2, ![31, 1024]⟩
abbrev S1024 : Shape := ⟨1, ![1024]⟩
abbrev S3x1024 : Shape := ⟨2, ![3, 1024]⟩
abbrev S34x128x1024 : Shape := ⟨3, ![34, 128, 1024]⟩
abbrev S1x1024 : Shape := ⟨2, ![1, 1024]⟩
abbrev S1x1x1024 : Shape := ⟨3, ![1, 1, 1024]⟩
abbrev S_ : Shape := ⟨0, ![]⟩
abbrev S4x128 : Shape := ⟨2, ![4, 128]⟩
abbrev S4x128x1 : Shape := ⟨3, ![4, 128, 1]⟩
abbrev S6x128x1024 : Shape := ⟨3, ![6, 128, 1024]⟩
abbrev S4x128x2048 : Shape := ⟨3, ![4, 128, 2048]⟩

abbrev nBuf : Space → Nat
  | .hbm => 290
  | .vmem => 0
  | .smem => 0
  | _ => 0

abbrev hbmTy0_0 (i : Nat) : BufTy := match i % 128 with
  | 0 => ⟨S30x128x1024, .f32⟩
  | 1 => ⟨S2x128x1024, .f32⟩
  | 2 => ⟨S4x128x1024, .f32⟩
  | 3 => ⟨S4x128x1024, .f32⟩
  | 4 => ⟨S4x128x1024, .f32⟩
  | 5 => ⟨S31x1024, .f32⟩
  | 6 => ⟨S1024, .f32⟩
  | 7 => ⟨S1024, .f32⟩
  | 8 => ⟨S1024, .f32⟩
  | 9 => ⟨S3x1024, .f32⟩
  | 10 => ⟨S34x128x1024, .f32⟩
  | 11 => ⟨S4x128x1024, .f32⟩
  | 12 => ⟨S1x1024, .f32⟩
  | 13 => ⟨S1024, .f32⟩
  | 14 => ⟨S1x1x1024, .f32⟩
  | 15 => ⟨S4x128x1024, .f32⟩
  | 16 => ⟨S4x128x1024, .f32⟩
  | 17 => ⟨S4x128x1024, .f32⟩
  | 18 => ⟨S1x1024, .f32⟩
  | 19 => ⟨S1024, .f32⟩
  | 20 => ⟨S1x1x1024, .f32⟩
  | 21 => ⟨S4x128x1024, .f32⟩
  | 22 => ⟨S4x128x1024, .f32⟩
  | 23 => ⟨S4x128x1024, .f32⟩
  | 24 => ⟨S4x128x1024, .f32⟩
  | 25 => ⟨S1x1024, .f32⟩
  | 26 => ⟨S1024, .f32⟩
  | 27 => ⟨S1x1x1024, .f32⟩
  | 28 => ⟨S4x128x1024, .f32⟩
  | 29 => ⟨S4x128x1024, .f32⟩
  | 30 => ⟨S4x128x1024, .f32⟩
  | 31 => ⟨S4x128x1024, .f32⟩
  | 32 => ⟨S1x1024, .f32⟩
  | 33 => ⟨S1024, .f32⟩
  | 34 => ⟨S1x1x1024, .f32⟩
  | 35 => ⟨S4x128x1024, .f32⟩
  | 36 => ⟨S4x128x1024, .f32⟩
  | 37 => ⟨S4x128x1024, .f32⟩
  | 38 => ⟨S4x128x1024, .f32⟩
  | 39 => ⟨S1x1024, .f32⟩
  | 40 => ⟨S1024, .f32⟩
  | 41 => ⟨S1x1x1024, .f32⟩
  | 42 => ⟨S4x128x1024, .f32⟩
  | 43 => ⟨S4x128x1024, .f32⟩
  | 44 => ⟨S4x128x1024, .f32⟩
  | 45 => ⟨S4x128x1024, .f32⟩
  | 46 => ⟨S1x1024, .f32⟩
  | 47 => ⟨S1024, .f32⟩
  | 48 => ⟨S1x1x1024, .f32⟩
  | 49 => ⟨S4x128x1024, .f32⟩
  | 50 => ⟨S4x128x1024, .f32⟩
  | 51 => ⟨S4x128x1024, .f32⟩
  | 52 => ⟨S4x128x1024, .f32⟩
  | 53 => ⟨S1x1024, .f32⟩
  | 54 => ⟨S1024, .f32⟩
  | 55 => ⟨S1x1x1024, .f32⟩
  | 56 => ⟨S4x128x1024, .f32⟩
  | 57 => ⟨S4x128x1024, .f32⟩
  | 58 => ⟨S4x128x1024, .f32⟩
  | 59 => ⟨S4x128x1024, .f32⟩
  | 60 => ⟨S1x1024, .f32⟩
  | 61 => ⟨S1024, .f32⟩
  | 62 => ⟨S1x1x1024, .f32⟩
  | 63 => ⟨S4x128x1024, .f32⟩
  | 64 => ⟨S4x128x1024, .f32⟩
  | 65 => ⟨S4x128x1024, .f32⟩
  | 66 => ⟨S4x128x1024, .f32⟩
  | 67 => ⟨S1x1024, .f32⟩
  | 68 => ⟨S1024, .f32⟩
  | 69 => ⟨S1x1x1024, .f32⟩
  | 70 => ⟨S4x128x1024, .f32⟩
  | 71 => ⟨S4x128x1024, .f32⟩
  | 72 => ⟨S4x128x1024, .f32⟩
  | 73 => ⟨S4x128x1024, .f32⟩
  | 74 => ⟨S1x1024, .f32⟩
  | 75 => ⟨S1024, .f32⟩
  | 76 => ⟨S1x1x1024, .f32⟩
  | 77 => ⟨S4x128x1024, .f32⟩
  | 78 => ⟨S4x128x1024, .f32⟩
  | 79 => ⟨S4x128x1024, .f32⟩
  | 80 => ⟨S4x128x1024, .f32⟩
  | 81 => ⟨S1x1024, .f32⟩
  | 82 => ⟨S1024, .f32⟩
  | 83 => ⟨S1x1x1024, .f32⟩
  | 84 => ⟨S4x128x1024, .f32⟩
  | 85 => ⟨S4x128x1024, .f32⟩
  | 86 => ⟨S4x128x1024, .f32⟩
  | 87 => ⟨S4x128x1024, .f32⟩
  | 88 => ⟨S1x1024, .f32⟩
  | 89 => ⟨S1024, .f32⟩
  | 90 => ⟨S1x1x1024, .f32⟩
  | 91 => ⟨S4x128x1024, .f32⟩
  | 92 => ⟨S4x128x1024, .f32⟩
  | 93 => ⟨S4x128x1024, .f32⟩
  | 94 => ⟨S4x128x1024, .f32⟩
  | 95 => ⟨S1x1024, .f32⟩
  | 96 => ⟨S1024, .f32⟩
  | 97 => ⟨S1x1x1024, .f32⟩
  | 98 => ⟨S4x128x1024, .f32⟩
  | 99 => ⟨S4x128x1024, .f32⟩
  | 100 => ⟨S4x128x1024, .f32⟩
  | 101 => ⟨S4x128x1024, .f32⟩
  | 102 => ⟨S1x1024, .f32⟩
  | 103 => ⟨S1024, .f32⟩
  | 104 => ⟨S1x1x1024, .f32⟩
  | 105 => ⟨S4x128x1024, .f32⟩
  | 106 => ⟨S4x128x1024, .f32⟩
  | 107 => ⟨S4x128x1024, .f32⟩
  | 108 => ⟨S4x128x1024, .f32⟩
  | 109 => ⟨S1x1024, .f32⟩
  | 110 => ⟨S1024, .f32⟩
  | 111 => ⟨S1x1x1024, .f32⟩
  | 112 => ⟨S4x128x1024, .f32⟩
  | 113 => ⟨S4x128x1024, .f32⟩
  | 114 => ⟨S4x128x1024, .f32⟩
  | 115 => ⟨S4x128x1024, .f32⟩
  | 116 => ⟨S1x1024, .f32⟩
  | 117 => ⟨S1024, .f32⟩
  | 118 => ⟨S1x1x1024, .f32⟩
  | 119 => ⟨S4x128x1024, .f32⟩
  | 120 => ⟨S4x128x1024, .f32⟩
  | 121 => ⟨S4x128x1024, .f32⟩
  | 122 => ⟨S4x128x1024, .f32⟩
  | 123 => ⟨S1x1024, .f32⟩
  | 124 => ⟨S1024, .f32⟩
  | 125 => ⟨S1x1x1024, .f32⟩
  | 126 => ⟨S4x128x1024, .f32⟩
  | 127 => ⟨S4x128x1024, .f32⟩
  | _ => ⟨S30x128x1024, .f32⟩

abbrev hbmTy0_1 (i : Nat) : BufTy := match i % 128 with
  | 0 => ⟨S4x128x1024, .f32⟩
  | 1 => ⟨S4x128x1024, .f32⟩
  | 2 => ⟨S1x1024, .f32⟩
  | 3 => ⟨S1024, .f32⟩
  | 4 => ⟨S1x1x1024, .f32⟩
  | 5 => ⟨S4x128x1024, .f32⟩
  | 6 => ⟨S4x128x1024, .f32⟩
  | 7 => ⟨S4x128x1024, .f32⟩
  | 8 => ⟨S4x128x1024, .f32⟩
  | 9 => ⟨S1x1024, .f32⟩
  | 10 => ⟨S1024, .f32⟩
  | 11 => ⟨S1x1x1024, .f32⟩
  | 12 => ⟨S4x128x1024, .f32⟩
  | 13 => ⟨S4x128x1024, .f32⟩
  | 14 => ⟨S4x128x1024, .f32⟩
  | 15 => ⟨S4x128x1024, .f32⟩
  | 16 => ⟨S1x1024, .f32⟩
  | 17 => ⟨S1024, .f32⟩
  | 18 => ⟨S1x1x1024, .f32⟩
  | 19 => ⟨S4x128x1024, .f32⟩
  | 20 => ⟨S4x128x1024, .f32⟩
  | 21 => ⟨S4x128x1024, .f32⟩
  | 22 => ⟨S4x128x1024, .f32⟩
  | 23 => ⟨S1x1024, .f32⟩
  | 24 => ⟨S1024, .f32⟩
  | 25 => ⟨S1x1x1024, .f32⟩
  | 26 => ⟨S4x128x1024, .f32⟩
  | 27 => ⟨S4x128x1024, .f32⟩
  | 28 => ⟨S4x128x1024, .f32⟩
  | 29 => ⟨S4x128x1024, .f32⟩
  | 30 => ⟨S1x1024, .f32⟩
  | 31 => ⟨S1024, .f32⟩
  | 32 => ⟨S1x1x1024, .f32⟩
  | 33 => ⟨S4x128x1024, .f32⟩
  | 34 => ⟨S4x128x1024, .f32⟩
  | 35 => ⟨S4x128x1024, .f32⟩
  | 36 => ⟨S4x128x1024, .f32⟩
  | 37 => ⟨S1x1024, .f32⟩
  | 38 => ⟨S1024, .f32⟩
  | 39 => ⟨S1x1x1024, .f32⟩
  | 40 => ⟨S4x128x1024, .f32⟩
  | 41 => ⟨S4x128x1024, .f32⟩
  | 42 => ⟨S4x128x1024, .f32⟩
  | 43 => ⟨S4x128x1024, .f32⟩
  | 44 => ⟨S1x1024, .f32⟩
  | 45 => ⟨S1024, .f32⟩
  | 46 => ⟨S1x1x1024, .f32⟩
  | 47 => ⟨S4x128x1024, .f32⟩
  | 48 => ⟨S4x128x1024, .f32⟩
  | 49 => ⟨S4x128x1024, .f32⟩
  | 50 => ⟨S4x128x1024, .f32⟩
  | 51 => ⟨S1x1024, .f32⟩
  | 52 => ⟨S1024, .f32⟩
  | 53 => ⟨S1x1x1024, .f32⟩
  | 54 => ⟨S4x128x1024, .f32⟩
  | 55 => ⟨S4x128x1024, .f32⟩
  | 56 => ⟨S4x128x1024, .f32⟩
  | 57 => ⟨S4x128x1024, .f32⟩
  | 58 => ⟨S1x1024, .f32⟩
  | 59 => ⟨S1024, .f32⟩
  | 60 => ⟨S1x1x1024, .f32⟩
  | 61 => ⟨S4x128x1024, .f32⟩
  | 62 => ⟨S4x128x1024, .f32⟩
  | 63 => ⟨S4x128x1024, .f32⟩
  | 64 => ⟨S4x128x1024, .f32⟩
  | 65 => ⟨S1x1024, .f32⟩
  | 66 => ⟨S1024, .f32⟩
  | 67 => ⟨S1x1x1024, .f32⟩
  | 68 => ⟨S4x128x1024, .f32⟩
  | 69 => ⟨S4x128x1024, .f32⟩
  | 70 => ⟨S4x128x1024, .f32⟩
  | 71 => ⟨S4x128x1024, .f32⟩
  | 72 => ⟨S1x1024, .f32⟩
  | 73 => ⟨S1024, .f32⟩
  | 74 => ⟨S1x1x1024, .f32⟩
  | 75 => ⟨S4x128x1024, .f32⟩
  | 76 => ⟨S4x128x1024, .f32⟩
  | 77 => ⟨S4x128x1024, .f32⟩
  | 78 => ⟨S4x128x1024, .f32⟩
  | 79 => ⟨S1x1024, .f32⟩
  | 80 => ⟨S1024, .f32⟩
  | 81 => ⟨S1x1x1024, .f32⟩
  | 82 => ⟨S4x128x1024, .f32⟩
  | 83 => ⟨S4x128x1024, .f32⟩
  | 84 => ⟨S4x128x1024, .f32⟩
  | 85 => ⟨S4x128x1024, .f32⟩
  | 86 => ⟨S1x1024, .f32⟩
  | 87 => ⟨S1024, .f32⟩
  | 88 => ⟨S1x1x1024, .f32⟩
  | 89 => ⟨S4x128x1024, .f32⟩
  | 90 => ⟨S4x128x1024, .f32⟩
  | 91 => ⟨S4x128x1024, .f32⟩
  | 92 => ⟨S4x128x1024, .f32⟩
  | 93 => ⟨S1x1024, .f32⟩
  | 94 => ⟨S1024, .f32⟩
  | 95 => ⟨S1x1x1024, .f32⟩
  | 96 => ⟨S4x128x1024, .f32⟩
  | 97 => ⟨S4x128x1024, .f32⟩
  | 98 => ⟨S4x128x1024, .f32⟩
  | 99 => ⟨S1x1x1024, .f32⟩
  | 100 => ⟨S4x128x1024, .f32⟩
  | 101 => ⟨S4x128x1024, .f32⟩
  | 102 => ⟨S_, .f32⟩
  | 103 => ⟨S4x128, .f32⟩
  | 104 => ⟨S4x128x1, .f32⟩
  | 105 => ⟨S_, .f32⟩
  | 106 => ⟨S4x128x1, .f32⟩
  | 107 => ⟨S4x128x1, .f32⟩
  | 108 => ⟨S4x128x1024, .f32⟩
  | 109 => ⟨S4x128x1024, .f32⟩
  | 110 => ⟨S4x128x1024, .f32⟩
  | 111 => ⟨S_, .f32⟩
  | 112 => ⟨S4x128, .f32⟩
  | 113 => ⟨S4x128x1, .f32⟩
  | 114 => ⟨S_, .f32⟩
  | 115 => ⟨S4x128x1, .f32⟩
  | 116 => ⟨S4x128x1, .f32⟩
  | 117 => ⟨S_, .f32⟩
  | 118 => ⟨S4x128x1, .f32⟩
  | 119 => ⟨S4x128x1, .f32⟩
  | 120 => ⟨S4x128x1, .f32⟩
  | 121 => ⟨S4x128x1024, .f32⟩
  | 122 => ⟨S4x128x1024, .f32⟩
  | 123 => ⟨S1x1x1024, .f32⟩
  | 124 => ⟨S4x128x1024, .f32⟩
  | 125 => ⟨S4x128x1024, .f32⟩
  | 126 => ⟨S1x1x1024, .f32⟩
  | 127 => ⟨S4x128x1024, .f32⟩
  | _ => ⟨S30x128x1024, .f32⟩

abbrev hbmTy0_2 (i : Nat) : BufTy := match i % 128 with
  | 0 => ⟨S4x128x1024, .f32⟩
  | 1 => ⟨S4x128x1024, .f32⟩
  | 2 => ⟨S4x128x1024, .f32⟩
  | 3 => ⟨S_, .f32⟩
  | 4 => ⟨S4x128x1024, .f32⟩
  | 5 => ⟨S4x128x1024, .f32⟩
  | 6 => ⟨S_, .f32⟩
  | 7 => ⟨S4x128x1024, .f32⟩
  | 8 => ⟨S4x128x1024, .f32⟩
  | 9 => ⟨S4x128x1024, .f32⟩
  | 10 => ⟨S6x128x1024, .f32⟩
  | 11 => ⟨S4x128x1024, .f32⟩
  | 12 => ⟨S1x1024, .f32⟩
  | 13 => ⟨S1024, .f32⟩
  | 14 => ⟨S1x1x1024, .f32⟩
  | 15 => ⟨S4x128x1024, .f32⟩
  | 16 => ⟨S4x128x1024, .f32⟩
  | 17 => ⟨S4x128x1024, .f32⟩
  | 18 => ⟨S1x1024, .f32⟩
  | 19 => ⟨S1024, .f32⟩
  | 20 => ⟨S1x1x1024, .f32⟩
  | 21 => ⟨S4x128x1024, .f32⟩
  | 22 => ⟨S4x128x1024, .f32⟩
  | 23 => ⟨S4x128x1024, .f32⟩
  | 24 => ⟨S4x128x1024, .f32⟩
  | 25 => ⟨S1x1024, .f32⟩
  | 26 => ⟨S1024, .f32⟩
  | 27 => ⟨S1x1x1024, .f32⟩
  | 28 => ⟨S4x128x1024, .f32⟩
  | 29 => ⟨S4x128x1024, .f32⟩
  | 30 => ⟨S4x128x1024, .f32⟩
  | 31 => ⟨S4x128x1024, .f32⟩
  | 32 => ⟨S4x128x2048, .f32⟩
  | 33 => ⟨S4x128x2048, .bf16⟩
  | _ => ⟨S30x128x1024, .f32⟩

abbrev hbmTy (i : Nat) : BufTy := match i / 128 with
  | 0 => hbmTy0_0 i
  | 1 => hbmTy0_1 i
  | 2 => hbmTy0_2 i
  | _ => ⟨S30x128x1024, .f32⟩

abbrev bufTy : (tb : Table) → Fin (tcTables nBuf tb) → BufTy
  | .hbm, ⟨i, _⟩ => hbmTy i
  | _, _ => ⟨S30x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_cst : Ref sig .tc := ⟨.hbm, 230, rfl⟩
abbrev main_v220 : Ref sig .tc := ⟨.hbm, 231, rfl⟩
abbrev main_v221 : Ref sig .tc := ⟨.hbm, 232, rfl⟩
abbrev main_cst_0 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_cst_1 : Ref sig .tc := ⟨.hbm, 239, rfl⟩
abbrev main_v227 : Ref sig .tc := ⟨.hbm, 240, rfl⟩
abbrev main_v228 : Ref sig .tc := ⟨.hbm, 241, rfl⟩
abbrev main_cst_2 : Ref sig .tc := ⟨.hbm, 242, rfl⟩
abbrev main_v229 : Ref sig .tc := ⟨.hbm, 243, rfl⟩
abbrev main_v230 : Ref sig .tc := ⟨.hbm, 244, rfl⟩
abbrev main_cst_3 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_cst_4 : Ref sig .tc := ⟨.hbm, 259, rfl⟩
abbrev main_v244 : Ref sig .tc := ⟨.hbm, 260, rfl⟩
abbrev main_v245 : Ref sig .tc := ⟨.hbm, 261, rfl⟩
abbrev main_cst_5 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_v268 : Ref sig .tc := ⟨.hbm, 285, rfl⟩
abbrev main_v269 : Ref sig .tc := ⟨.hbm, 286, rfl⟩
abbrev main_v270 : Ref sig .tc := ⟨.hbm, 287, rfl⟩
abbrev main_v271 : Ref sig .tc := ⟨.hbm, 288, rfl⟩
abbrev main_v272 : Ref sig .tc := ⟨.hbm, 289, rfl⟩

abbrev nD : Nat := 1
abbrev τ : Topo := Topo.v7x

variable {F : FTy → Type} [FloatOps F]
-- ==== Pool.lean ====
abbrev S8192x512 : Shape := ⟨2, ![8192, 512]⟩
abbrev S4x128x128 : Shape := ⟨3, ![4, 128, 128]⟩
abbrev S512 : Shape := ⟨1, ![512]⟩
abbrev S1x512 : Shape := ⟨2, ![1, 512]⟩
abbrev S2048x512 : Shape := ⟨2, ![2048, 512]⟩
abbrev S2064x512 : Shape := ⟨2, ![2064, 512]⟩
abbrev S16x512 : Shape := ⟨2, ![16, 512]⟩
abbrev S256x1 : Shape := ⟨2, ![256, 1]⟩
abbrev S256x128 : Shape := ⟨2, ![256, 128]⟩
abbrev S256x512 : Shape := ⟨2, ![256, 512]⟩
abbrev S1x128x128 : Shape := ⟨3, ![1, 128, 128]⟩
abbrev S128x128 : Shape := ⟨2, ![128, 128]⟩

abbrev nBuf : Space → Nat
  | .hbm => 6
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S4x128x128, .f32⟩
  | .hbm, ⟨2, _⟩ => ⟨S512, .f32⟩
  | .hbm, ⟨3, _⟩ => ⟨S4x128x128, .bf16⟩
  | .hbm, ⟨4, _⟩ => ⟨S1x512, .f32⟩
  | .hbm, ⟨5, _⟩ => ⟨S8192x512, .bf16⟩
  | .local _ .vmem, ⟨0, _⟩ => ⟨S2048x512, .f32⟩
  | .local _ .vmem, ⟨1, _⟩ => ⟨S2048x512, .f32⟩
  | .local _ .vmem, ⟨2, _⟩ => ⟨S4x128x128, .bf16⟩
  | .local _ .vmem, ⟨3, _⟩ => ⟨S1x512, .f32⟩
  | .local _ .vmem, ⟨4, _⟩ => ⟨S2048x512, .bf16⟩
  | .local _ .vmem, ⟨5, _⟩ => ⟨S2048x512, .bf16⟩
  | .local _ .vmem, ⟨6, _⟩ => ⟨S2064x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolRefIdeal.lean ====
abbrev S8192x512 : Shape := ⟨2, ![8192, 512]⟩
abbrev S4x128x128 : Shape := ⟨3, ![4, 128, 128]⟩
abbrev S512 : Shape := ⟨1, ![512]⟩
abbrev S4x2048x512 : Shape := ⟨3, ![4, 2048, 512]⟩
abbrev S_ : Shape := ⟨0, ![]⟩
abbrev S4x15x512 : Shape := ⟨3, ![4, 15, 512]⟩
abbrev S4x2063x512 : Shape := ⟨3, ![4, 2063, 512]⟩
abbrev S4x2048x128 : Shape := ⟨3, ![4, 2048, 128]⟩
abbrev S2048 : Shape := ⟨1, ![2048]⟩
abbrev S2048x1 : Shape := ⟨2, ![2048, 1]⟩
abbrev S1x2048x1 : Shape := ⟨3, ![1, 2048, 1]⟩
abbrev S4x2048x4x128 : Shape := ⟨4, ![4, 2048, 4, 128]⟩
abbrev S4x128x4x2048 : Shape := ⟨4, ![4, 128, 4, 2048]⟩
abbrev S1x512 : Shape := ⟨2, ![1, 512]⟩

abbrev nBuf : Space → Nat
  | .hbm => 121
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S4x128x128, .f32⟩
  | .hbm, ⟨2, _⟩ => ⟨S512, .f32⟩
  | .hbm, ⟨3, _⟩ => ⟨S4x2048x512, .f32⟩
  | .hbm, ⟨4, _⟩ => ⟨S_, .f32⟩
  | .hbm, ⟨5, _⟩ => ⟨S4x15x512, .f32⟩
  | .hbm, ⟨6, _⟩ => ⟨S4x2063x512, .f32⟩
  | .hbm, ⟨7, _⟩ => ⟨S4x2048x128, .f32⟩
  | .hbm, ⟨8, _⟩ => ⟨S4x2048x128, .f32⟩
  | .hbm, ⟨9, _⟩ => ⟨S4x2048x128, .f32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .f32⟩
  | .hbm, ⟨18, _⟩ => ⟨S2048x1, .f32⟩
  | .hbm, ⟨19, _⟩ => ⟨S1x2048x1, .f32⟩
  | .hbm, ⟨20, _⟩ => ⟨S4x2048x128, .f32⟩
  | .hbm, ⟨21, _⟩ => ⟨S4x2048x128, .f32⟩
  | .hbm, ⟨22, _⟩ => ⟨S4x2048x128, .f32⟩
  | .hbm, ⟨23, _⟩ => ⟨S4x2048x128, .f32⟩
  | .hbm, ⟨24, _⟩ => ⟨S4x2048x128, .f32⟩
  | .hbm, ⟨25, _⟩ => ⟨S4x2048x128, .f32⟩
  | .hbm, ⟨26, _⟩ => ⟨S4x2048x128, .f32⟩
  | .hbm, ⟨27, _⟩ => ⟨S4x2048x128, .f32⟩
  | .hbm, ⟨28, _⟩ => ⟨S4x2048x128, .f32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .f32⟩
  | .hbm, ⟨37, _⟩ => ⟨S2048x1, .f32⟩
  | .hbm, ⟨38, _⟩ => ⟨S1x2048x1, .f32⟩
  | .hbm, ⟨39, _⟩ => ⟨S4x2048x128, .f32⟩
  | .hbm, ⟨40, _⟩ => ⟨S4x2048x128, .f32⟩
  | .hbm, ⟨41, _⟩ => ⟨S4x2048x128, .f32⟩
  | .hbm, ⟨42, _⟩ => ⟨S4x2048x128, .f32⟩
  | .hbm, ⟨43, _⟩ => ⟨S4x2048x128, .f32⟩
  | .hbm, ⟨44, _⟩ => ⟨S4x2048x128, .f32⟩
  | .hbm, ⟨45, _⟩ => ⟨S4x2048x128, .f32⟩
  | .hbm, ⟨46, _⟩ => ⟨S4x2048x128, .f32⟩
  | .hbm, ⟨47, _⟩ => ⟨S4x2048x128, .f32⟩
  | .hbm, ⟨48, _⟩ => ⟨S4x2048x128, .f32⟩
  | .hbm, ⟨49, _⟩ => ⟨S4x2048x128, .f32⟩
  | .hbm, ⟨50, _⟩ => ⟨S4x2048x128, .f32⟩
  | .hbm, ⟨51, _⟩ => ⟨S4x2048x128, .f32⟩
  | .hbm, ⟨52, _⟩ => ⟨S4x2048x128, .f32⟩
  | .hbm, ⟨53, _⟩ => ⟨S4x2048x128, .f32⟩
  | .hbm, ⟨54, _⟩ => ⟨S4x2048x128, .f32⟩
  | .hbm, ⟨55, _⟩ => ⟨S4x2048x128, .f32⟩
  | .hbm, ⟨56, _⟩ => ⟨S2048, .i32⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S2048, .f32⟩
  | .hbm, ⟨64, _⟩ => ⟨S2048x1, .f32⟩
  | .hbm, ⟨65, _⟩ => ⟨S1x2048x1, .f32⟩
  | .hbm, ⟨66, _⟩ => ⟨S4x2048x128, .f32⟩
  | .hbm, ⟨67, _⟩ => ⟨S4x2048x128, .f32⟩
  | .hbm, ⟨68, _⟩ => ⟨S4x2048x128, .f32⟩
  | .hbm, ⟨69, _⟩ => ⟨S4x2048x128, .f32⟩
  | .hbm, ⟨70, _⟩ => ⟨S4x2048x128, .f32⟩
  | .hbm, ⟨71, _⟩ => ⟨S4x2048x128, .f32⟩
  | .hbm, ⟨72, _⟩ => ⟨S4x2048x128, .f32⟩
  | .hbm, ⟨73, _⟩ => ⟨S4x2048x128, .f32⟩
  | .hbm, ⟨74, _⟩ => ⟨S4x2048x128, .f32⟩
  | .hbm, ⟨75, _⟩ => ⟨S4x2048x128, .f32⟩
  | .hbm, ⟨76, _⟩ => ⟨S4x2048x128, .f32⟩
  | .hbm, ⟨77, _⟩ => ⟨S4x2048x128, .f32⟩
  | .hbm, ⟨78, _⟩ => ⟨S4x2048x128, .f32⟩
  | .hbm, ⟨79, _⟩ => ⟨S4x2048x128, .f32⟩
  | .hbm, ⟨80, _⟩ => ⟨S4x2048x128, .f32⟩
  | .hbm, ⟨81, _⟩ => ⟨S4x2048x128, .f32⟩
  | .hbm, ⟨82, _⟩ => ⟨S4x2048x128, .f32⟩
  | .hbm, ⟨83, _⟩ => ⟨S4x2048x128, .f32⟩
  | .hbm, ⟨84, _⟩ => ⟨S4x2048x128, .f32⟩
  | .hbm, ⟨85, _⟩ => ⟨S4x2048x128, .f32⟩
  | .hbm, ⟨86, _⟩ => ⟨S4x2048x128, .f32⟩
  | .hbm, ⟨87, _⟩ => ⟨S4x2048x128, .f32⟩
  | .hbm, ⟨88, _⟩ => ⟨S4x2048x128, .f32⟩
  | .hbm, ⟨89, _⟩ => ⟨S4x2048x128, .f32⟩
  | .hbm, ⟨90, _⟩ => ⟨S4x2048x128, .f32⟩
  | .hbm, ⟨91, _⟩ => ⟨S4x2048x128, .f32⟩
  | .hbm, ⟨92, _⟩ => ⟨S4x2048x128, .f32⟩
  | .hbm, ⟨93, _⟩ => ⟨S4x2048x128, .f32⟩
  | .hbm, ⟨94, _⟩ => ⟨S4x2048x128, .f32⟩
  | .hbm, ⟨95, _⟩ => ⟨S4x2048x128, .f32⟩
  | .hbm, ⟨96, _⟩ => ⟨S4x2048x128, .f32⟩
  | .hbm, ⟨97, _⟩ => ⟨S4x2048x128, .f32⟩
  | .hbm, ⟨98, _⟩ => ⟨S4x2048x128, .f32⟩
  | .hbm, ⟨99, _⟩ => ⟨S2048, .i32⟩
  | .hbm, ⟨100, _⟩ => ⟨S_, .i32⟩
  | .hbm, ⟨101, _⟩ => ⟨S2048, .i32⟩
  | .hbm, ⟨102, _⟩ => ⟨S2048, .i32⟩
  | .hbm, ⟨103, _⟩ => ⟨S_, .i32⟩
  | .hbm, ⟨104, _⟩ => ⟨S2048, .i32⟩
  | .hbm, ⟨105, _⟩ => ⟨S2048, .i32⟩
  | .hbm, ⟨106, _⟩ => ⟨S2048, .f32⟩
  | .hbm, ⟨107, _⟩ => ⟨S2048x1, .f32⟩
  | .hbm, ⟨108, _⟩ => ⟨S1x2048x1, .f32⟩
  | .hbm, ⟨109, _⟩ => ⟨S4x2048x128, .f32⟩
  | .hbm, ⟨110, _⟩ => ⟨S4x2048x128, .f32⟩
  | .hbm, ⟨111, _⟩ => ⟨S4x2048x512, .f32⟩
  | .hbm, ⟨112, _⟩ => ⟨S4x2048x512, .f32⟩
  | .hbm, ⟨113, _⟩ => ⟨S4x2048x4x128, .f32⟩
  | .hbm, ⟨114, _⟩ => ⟨S4x128x4x2048, .f32⟩
  | .hbm, ⟨115, _⟩ => ⟨S4x2048x4x128, .f32⟩
  | .hbm, ⟨116, _⟩ => ⟨S8192x512, .f32⟩
  | .hbm, ⟨117, _⟩ => ⟨S1x512, .f32⟩
  | .hbm, ⟨118, _⟩ => ⟨S8192x512, .f32⟩
  | .hbm, ⟨119, _⟩ => ⟨S8192x512, .f32⟩
  | .hbm, ⟨120, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_1 : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_c_3 : Ref sig .tc := ⟨.hbm, 57, rfl⟩
abbrev main_v49 : Ref sig .tc := ⟨.hbm, 58, rfl⟩
abbrev main_v50 : Ref sig .tc := ⟨.hbm, 59, rfl⟩
abbrev main_c_4 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_c_5 : Ref sig .tc := ⟨.hbm, 100, rfl⟩
abbrev main_v90 : Ref sig .tc := ⟨.hbm, 101, rfl⟩
abbrev main_v91 : Ref sig .tc := ⟨.hbm, 102, rfl⟩
abbrev main_c_6 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩

abbrev nD : Nat := 1
abbrev τ : Topo := Topo.v7x

variable {F : FTy → Type} [FloatOps F]
-- ==== Proof.AttnStep.lean ====
/- The attention kernel's arithmetic for one head, as functions of that head's blocks: one update of the running
   (maximum, sum, weighted sum) triple by a block of 512 keys, the causal mask of the diagonal block, and the
   quotient stored at the end. -/
module

public import proofs.«01_k».proof.Proof.Gen.KernelIdeal.Value
public import Idealize.ShloMosaic.PureOps.Ideal
public import Idealize.ShloMosaic.Lib.WholeRead

@[expose] public section

set_option maxRecDepth 16384

noncomputable section

namespace Cert.Attn

open Idealize.ShloMosaic Idealize.ShloMosaic.TcCoe Idealize.SL.Sem Cert.KernelIdeal Cert.KernelIdeal.Gen

variable {F : FTy → Type} [FloatOps F]

/-- One head's running maximum, running sum and running weighted sum, one row for each of the 512 queries. -/
abbrev HS (F : FTy → Type) := FVec F S512x1 .f32 × FVec F S512x1 .f32 × FVec F S512x128 .f32

/-- The triple before any key: maximum `-∞`, sums zero. -/
def hinit : HS F :=
  (broadcast S512x1 (Scalar.ofBits .f32 0xFF800000#32), broadcast S512x1 (Scalar.ofBits .f32 0x00000000#32),
    broadcast S512x128 (Scalar.ofBits .f32 0x00000000#32))

/-- The scores of 512 queries against 512 keys. -/
def qk (q k : Vec F S512x256 .bf16) : FVec F S512x512 .f32 :=
  matmul dot_S512x256_S512x256_S512x512_1_1_0_0_n_n none q k (constant S512x512 .f32 0x00000000#32)

/-- The new running maximum. -/
def hmax (s : FVec F S512x512 .f32) (m : FVec F S512x1 .f32) : FVec F S512x1 .f32 :=
  maximumf m (shapeCast S512x1
    (multiReduction .maximumf [1] S512 s 0xFF800000#32 reduces_S512x512_S512 (.inl rfl) rfl) shapeCasts_S512_S512x1)

/-- The weights `exp (s - max)` of one block. -/
def hexp (s : FVec F S512x512 .f32) (mn : FVec F S512x1 .f32) : FVec F S512x512 .f32 :=
  exp (subf s (broadcastTo S512x512 mn broadcasts_S512x1_S512x512))

/-- One update of a head's triple by a block's scores `s` and values `v`. -/
def hstep (s : FVec F S512x512 .f32) (v : Vec F S512x128 .bf16) (st : HS F) : HS F :=
  (hmax s st.1,
   addf (mulf (exp (subf st.1 (hmax s st.1))) st.2.1) (shapeCast S512x1
     (multiReduction .add [1] S512 (hexp s (hmax s st.1)) 0x00000000#32 reduces_S512x512_S512 (.inl rfl) rfl)
     shapeCasts_S512_S512x1),
   addf (mulf (broadcastTo S512x128 (exp (subf st.1 (hmax s st.1))) broadcasts_S512x1_S512x128) st.2.2)
     (matmul dot_S512x512_S512x128_S512x128_1_0_0_1_n_n none (truncf .bf16 (hexp s (hmax s st.1)) bitsLt_bf16_f32) v
       (constant S512x128 .f32 0x00000000#32)))

/-- The diagonal block's scores, those of later keys replaced by `-∞`. -/
def hmask (s : FVec F S512x512 .f32) : FVec F S512x512 .f32 :=
  select (cmpi .sle (iota .tc S512x512 32 [1]) (iota .tc S512x512 32 [0])) s (broadcast S512x512 (Scalar.ofBits .f32 0xFF800000#32))

/-- What is stored for a head: weighted sum over sum. -/
def hout (st : HS F) : FVec F S512x128 .bf16 :=
  truncf .bf16 (divf st.2.2 (broadcastTo S512x128 st.2.1 broadcasts_S512x1_S512x128)) bitsLt_bf16_f32

/-- Two heads' triples as the kernel's loops carry them. -/
def both (a b : HS F) : FVec F S512x1 .f32 × FVec F S512x1 .f32 × FVec F S512x128 .f32 × FVec F S512x1 .f32 × FVec F S512x1 .f32 × FVec F S512x128 .f32 :=
  (a.1, a.2.1, a.2.2, b.1, b.2.1, b.2.2)

/-- Block `t` of 512 rows and the 256 columns of head `h`, of the keys. -/
def kblk (h : Fin 12) (t : Fin 4) (x : Vec F S2048x3072 .bf16) : Vec F S512x256 .bf16 :=
  fun j => x ((Rect.unit (s := S2048x3072) ![512 * t.val, 256 * h.val] S512x256.size (by
    intro a; match a with
      | ⟨0, _⟩ => show 512 * t.val + 512 ≤ 2048; omega
      | ⟨1, _⟩ => show 256 * h.val + 256 ≤ 3072; omega)).toLoadRect.idx j)

/-- Block `t` of 512 rows and the 128 columns of head `h`, of the values. -/
def vblk (h : Fin 12) (t : Fin 4) (x : Vec F S2048x1536 .bf16) : Vec F S512x128 .bf16 :=
  fun j => x ((Rect.unit (s := S2048x1536) ![512 * t.val, 128 * h.val] S512x128.size (by
    intro a; match a with
      | ⟨0, _⟩ => show 512 * t.val + 512 ≤ 2048; omega
      | ⟨1, _⟩ => show 128 * h.val + 128 ≤ 1536; omega)).toLoadRect.idx j)

/-- The 256 columns of head `h` of the query block. -/
def qblk (h : Fin 12) (x : Vec F S512x3072 .bf16) : Vec F S512x256 .bf16 :=
  fun j => x ((Rect.unit (s := S512x3072) ![0, 256 * h.val] S512x256.size (by
    intro a; match a with
      | ⟨0, _⟩ => show 0 + 512 ≤ 512; omega
      | ⟨1, _⟩ => show 256 * h.val + 256 ≤ 3072; omega)).toLoadRect.idx j)

/-- A load of the keys' memref at a block's offsets is that block. -/
theorem readAt_kblk {arg3 : Memref sig .tc .vmem S2048x3072 .bf16} (harg3 : arg3.IsWhole) (x : Vec F S2048x3072 .bf16)
    (h : Fin 12) (t : Fin 4) (off : Fin 2 → ℕ) (e : off = ![512 * t.val, 256 * h.val])
    (p : ∀ a, off a + S512x256.size a ≤ S2048x3072.size a) :
    View.readAt (Elt F) arg3.view (Rect.unit (s := S2048x3072) off S512x256.size p).toLoadRect (harg3.unread x) = kblk h t x := by
  subst e; funext j; exact harg3.readAt_unread x _ j

/-- A load of the values' memref at a block's offsets is that block. -/
theorem readAt_vblk {arg4 : Memref sig .tc .vmem S2048x1536 .bf16} (harg4 : arg4.IsWhole) (x : Vec F S2048x1536 .bf16)
    (h : Fin 12) (t : Fin 4) (off : Fin 2 → ℕ) (e : off = ![512 * t.val, 128 * h.val])
    (p : ∀ a, off a + S512x128.size a ≤ S2048x1536.size a) :
    View.readAt (Elt F) arg4.view (Rect.unit (s := S2048x1536) off S512x128.size p).toLoadRect (harg4.unread x) = vblk h t x := by
  subst e; funext j; exact harg4.readAt_unread x _ j

/-- A load of the query block's memref at a head's columns is that head's queries. -/
theorem readAt_qblk {arg2 : Memref sig .tc .vmem S512x3072 .bf16} (harg2 : arg2.IsWhole) (x : Vec F S512x3072 .bf16)
    (h : Fin 12) (off : Fin 2 → ℕ) (e : off = ![0, 256 * h.val])
    (p : ∀ a, off a + S512x256.size a ≤ S512x3072.size a) :
    View.readAt (Elt F) arg2.view (Rect.unit (s := S512x3072) off S512x256.size p).toLoadRect (harg2.unread x) = qblk h x := by
  subst e; funext j; exact harg2.readAt_unread x _ j

/-- One head's triple after the unmasked blocks before `k`. -/
def hloop (h : Fin 12) (q : Vec F S512x256 .bf16) (x1 : Vec F S2048x3072 .bf16) (x2 : Vec F S2048x1536 .bf16) : ℕ → HS F
  | 0 => hinit
  | k + 1 => if hk : k < 4 then hstep (qk q (kblk h ⟨k, hk⟩ x1)) (vblk h ⟨k, hk⟩ x2) (hloop h q x1 x2 k) else hloop h q x1 x2 k

/-- What head `h` stores at query block `t`: the unmasked blocks, then the diagonal one, then the quotient. -/
def headOut (h : Fin 12) (t : Fin 4) (x0 : Vec F S512x3072 .bf16) (x1 : Vec F S2048x3072 .bf16) (x2 : Vec F S2048x1536 .bf16) :
    FVec F S512x128 .bf16 :=
  hout (hstep (hmask (qk (qblk h x0) (kblk h t x1))) (vblk h t x2) (hloop h (qblk h x0) x1 x2 t.val))

end Cert.Attn

end
-- ==== Proof.AttnLoops.lean ====
/- The attention kernel's six pairs of heads: the loop of each pair carries the two heads' triples of `Cert.Attn.hloop`,
   whatever the pair; its remainder loop makes no trip. -/
module

public import proofs.«01_k».proof.Proof.AttnStep

@[expose] public section

set_option maxRecDepth 16384

noncomputable section

namespace Cert.Attn

open Idealize.ShloMosaic Idealize.ShloMosaic.TcCoe Idealize.SL.Sem Cert.KernelIdeal Cert.KernelIdeal.Gen

variable {F : FTy → Type} [FloatOps F]

/-- The loop over the unmasked blocks makes one trip for each earlier query block. -/
theorem trips_eq : ∀ i : grid0.Coords, (k0_t1_loop i).trips = (i 1).val := by decide +kernel

/-- The remainder loop makes none. -/
theorem trips_rem : ∀ i : grid0.Coords, (k0_t2_loop i).trips = 0 := by decide +kernel

/-- One trip of pair 1's loop updates each of its two heads' triples. -/
theorem trip_pair1 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (v3 : Vec F S512x256 .bf16) (v4 : Vec F S512x256 .bf16) (X_arg3 : BufTy.Contents (Elt F) arg3.view.ty) (X_arg4 : BufTy.Contents (Elt F) arg4.view.ty) (k : Fin (k0_t1_loop i).trips) (a b : HS F) :
    tripR_k0_t1 (F := F) 𝒱 c bd i arg2 harg2 arg3 harg3 arg4 harg4 arg5 harg5 v3 v4 X_arg3 X_arg4 k (both a b)
      = both (hstep (qk v3 (View.readAt (Elt F) arg3.view (Rect.unit (s := S2048x3072) (k0_off1 i k) S512x256.size (k0_off1_inb i k)).toLoadRect X_arg3)) (View.readAt (Elt F) arg4.view (Rect.unit (s := S2048x1536) (k0_off3 i k) S512x128.size (k0_off3_inb i k)).toLoadRect X_arg4) a) (hstep (qk v4 (View.readAt (Elt F) arg3.view (Rect.unit (s := S2048x3072) (k0_off2 i k) S512x256.size (k0_off2_inb i k)).toLoadRect X_arg3)) (View.readAt (Elt F) arg4.view (Rect.unit (s := S2048x1536) (k0_off4 i k) S512x128.size (k0_off4_inb i k)).toLoadRect X_arg4) b) := by
  unfold tripR_k0_t1 trip_k0_t1; rfl

/-- Pair 1's loop carries `hloop` of heads 0 and 1. -/
theorem loop_pair1 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (v3 : Vec F S512x256 .bf16) (v4 : Vec F S512x256 .bf16)  (x1 : Vec F S2048x3072 .bf16) (x2 : Vec F S2048x1536 .bf16) (n : ℕ) (hn : n ≤ (k0_t1_loop i).trips) :
    st_k0_t1 (F := F) 𝒱 c bd i arg2 harg2 arg3 harg3 arg4 harg4 arg5 harg5 v3 v4 (harg3.unread x1) (harg4.unread x2) (both hinit hinit) n = both (hloop 0 v3 x1 x2 n) (hloop 1 v4 x1 x2 n) := by
  induction n with
  | zero => rfl
  | succ n ih =>
    have h4 : n < 4 := by
      have e : (k0_t1_loop i).trips = (i 1).val := trips_eq i
      have h := (i 1).isLt
      have h' : (i 1).val < 4 := h
      omega
    rw [st_k0_t1_succ (F := F) 𝒱 c bd i arg2 harg2 arg3 harg3 arg4 harg4 arg5 harg5 v3 v4 (harg3.unread x1) (harg4.unread x2) (both hinit hinit) ⟨n, hn⟩, ih (by omega), trip_pair1,
      readAt_kblk harg3 x1 0 ⟨n, h4⟩ _ (k0_off1_eq i ⟨n, hn⟩), readAt_kblk harg3 x1 1 ⟨n, h4⟩ _ (k0_off2_eq i ⟨n, hn⟩),
      readAt_vblk harg4 x2 0 ⟨n, h4⟩ _ (k0_off3_eq i ⟨n, hn⟩), readAt_vblk harg4 x2 1 ⟨n, h4⟩ _ (k0_off4_eq i ⟨n, hn⟩)]
    simp only [hloop, h4, dite_true]

/-- One trip of pair 2's loop updates each of its two heads' triples. -/
theorem trip_pair2 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v2 : IVec S512x512 1) (v76 : Vec F S512x256 .bf16) (v77 : Vec F S512x256 .bf16) (cst_28 : F .f32) (X_arg3 : BufTy.Contents (Elt F) arg3.view.ty) (X_arg4 : BufTy.Contents (Elt F) arg4.view.ty) (k : Fin (k0_t3_loop i).trips) (a b : HS F) :
    tripR_k0_t3 (F := F) 𝒱 c bd i arg2 harg2 arg3 harg3 arg4 harg4 arg5 harg5 arg1 v2 v76 v77 cst_28 X_arg3 X_arg4 k (both a b)
      = both (hstep (qk v76 (View.readAt (Elt F) arg3.view (Rect.unit (s := S2048x3072) (k0_off13 i k) S512x256.size (k0_off13_inb i k)).toLoadRect X_arg3)) (View.readAt (Elt F) arg4.view (Rect.unit (s := S2048x1536) (k0_off15 i k) S512x128.size (k0_off15_inb i k)).toLoadRect X_arg4) a) (hstep (qk v77 (View.readAt (Elt F) arg3.view (Rect.unit (s := S2048x3072) (k0_off14 i k) S512x256.size (k0_off14_inb i k)).toLoadRect X_arg3)) (View.readAt (Elt F) arg4.view (Rect.unit (s := S2048x1536) (k0_off16 i k) S512x128.size (k0_off16_inb i k)).toLoadRect X_arg4) b) := by
  unfold tripR_k0_t3 trip_k0_t3; rfl

/-- Pair 2's loop carries `hloop` of heads 2 and 3. -/
theorem loop_pair2 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v2 : IVec S512x512 1) (v76 : Vec F S512x256 .bf16) (v77 : Vec F S512x256 .bf16) (cst_28 : F .f32)  (x1 : Vec F S2048x3072 .bf16) (x2 : Vec F S2048x1536 .bf16) (n : ℕ) (hn : n ≤ (k0_t3_loop i).trips) :
    st_k0_t3 (F := F) 𝒱 c bd i arg2 harg2 arg3 harg3 arg4 harg4 arg5 harg5 arg1 v2 v76 v77 cst_28 (harg3.unread x1) (harg4.unread x2) (both hinit hinit) n = both (hloop 2 v76 x1 x2 n) (hloop 3 v77 x1 x2 n) := by
  induction n with
  | zero => rfl
  | succ n ih =>
    have h4 : n < 4 := by
      have e : (k0_t3_loop i).trips = (i 1).val := trips_eq i
      have h := (i 1).isLt
      have h' : (i 1).val < 4 := h
      omega
    rw [st_k0_t3_succ (F := F) 𝒱 c bd i arg2 harg2 arg3 harg3 arg4 harg4 arg5 harg5 arg1 v2 v76 v77 cst_28 (harg3.unread x1) (harg4.unread x2) (both hinit hinit) ⟨n, hn⟩, ih (by omega), trip_pair2,
      readAt_kblk harg3 x1 2 ⟨n, h4⟩ _ (k0_off13_eq i ⟨n, hn⟩), readAt_kblk harg3 x1 3 ⟨n, h4⟩ _ (k0_off14_eq i ⟨n, hn⟩),
      readAt_vblk harg4 x2 2 ⟨n, h4⟩ _ (k0_off15_eq i ⟨n, hn⟩), readAt_vblk harg4 x2 3 ⟨n, h4⟩ _ (k0_off16_eq i ⟨n, hn⟩)]
    simp only [hloop, h4, dite_true]

/-- One trip of pair 3's loop updates each of its two heads' triples. -/
theorem trip_pair3 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v2 : IVec S512x512 1) (v149 : Vec F S512x256 .bf16) (v150 : Vec F S512x256 .bf16) (v151 : FVec F S512x1 .f32) (v152 : FVec F S512x1 .f32) (v153 : FVec F S512x128 .f32) (v154 : FVec F S512x1 .f32) (v155 : FVec F S512x1 .f32) (v156 : FVec F S512x128 .f32) (c0_i32_64 : BitVec 32) (X_arg3 : BufTy.Contents (Elt F) arg3.view.ty) (X_arg4 : BufTy.Contents (Elt F) arg4.view.ty) (k : Fin (k0_t5_loop i).trips) (a b : HS F) :
    tripR_k0_t5 (F := F) 𝒱 c bd i arg2 harg2 arg3 harg3 arg4 harg4 arg5 harg5 arg1 v2 v149 v150 v151 v152 v153 v154 v155 v156 c0_i32_64 X_arg3 X_arg4 k (both a b)
      = both (hstep (qk v149 (View.readAt (Elt F) arg3.view (Rect.unit (s := S2048x3072) (k0_off25 i k) S512x256.size (k0_off25_inb i k)).toLoadRect X_arg3)) (View.readAt (Elt F) arg4.view (Rect.unit (s := S2048x1536) (k0_off27 i k) S512x128.size (k0_off27_inb i k)).toLoadRect X_arg4) a) (hstep (qk v150 (View.readAt (Elt F) arg3.view (Rect.unit (s := S2048x3072) (k0_off26 i k) S512x256.size (k0_off26_inb i k)).toLoadRect X_arg3)) (View.readAt (Elt F) arg4.view (Rect.unit (s := S2048x1536) (k0_off28 i k) S512x128.size (k0_off28_inb i k)).toLoadRect X_arg4) b) := by
  unfold tripR_k0_t5 trip_k0_t5; rfl

/-- Pair 3's loop carries `hloop` of heads 4 and 5. -/
theorem loop_pair3 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v2 : IVec S512x512 1) (v149 : Vec F S512x256 .bf16) (v150 : Vec F S512x256 .bf16) (v151 : FVec F S512x1 .f32) (v152 : FVec F S512x1 .f32) (v153 : FVec F S512x128 .f32) (v154 : FVec F S512x1 .f32) (v155 : FVec F S512x1 .f32) (v156 : FVec F S512x128 .f32) (c0_i32_64 : BitVec 32)  (x1 : Vec F S2048x3072 .bf16) (x2 : Vec F S2048x1536 .bf16) (n : ℕ) (hn : n ≤ (k0_t5_loop i).trips) :
    st_k0_t5 (F := F) 𝒱 c bd i arg2 harg2 arg3 harg3 arg4 harg4 arg5 harg5 arg1 v2 v149 v150 v151 v152 v153 v154 v155 v156 c0_i32_64 (harg3.unread x1) (harg4.unread x2) (both hinit hinit) n = both (hloop 4 v149 x1 x2 n) (hloop 5 v150 x1 x2 n) := by
  induction n with
  | zero => rfl
  | succ n ih =>
    have h4 : n < 4 := by
      have e : (k0_t5_loop i).trips = (i 1).val := trips_eq i
      have h := (i 1).isLt
      have h' : (i 1).val < 4 := h
      omega
    rw [st_k0_t5_succ (F := F) 𝒱 c bd i arg2 harg2 arg3 harg3 arg4 harg4 arg5 harg5 arg1 v2 v149 v150 v151 v152 v153 v154 v155 v156 c0_i32_64 (harg3.unread x1) (harg4.unread x2) (both hinit hinit) ⟨n, hn⟩, ih (by omega), trip_pair3,
      readAt_kblk harg3 x1 4 ⟨n, h4⟩ _ (k0_off25_eq i ⟨n, hn⟩), readAt_kblk harg3 x1 5 ⟨n, h4⟩ _ (k0_off26_eq i ⟨n, hn⟩),
      readAt_vblk harg4 x2 4 ⟨n, h4⟩ _ (k0_off27_eq i ⟨n, hn⟩), readAt_vblk harg4 x2 5 ⟨n, h4⟩ _ (k0_off28_eq i ⟨n, hn⟩)]
    simp only [hloop, h4, dite_true]

/-- One trip of pair 4's loop updates each of its two heads' triples. -/
theorem trip_pair4 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v163_4 : FVec F S512x1 .f32) (v163_5 : FVec F S512x128 .f32) (v175 : FVec F S512x512 .f32) (v189 : FVec F S512x1 .f32) (v194 : FVec F S512x128 .f32) (v196 : Vec F S512x128 .bf16) (v199 : FVec F S512x1 .f32) (v200 : FVec F S512x1 .f32) (v222 : Vec F S512x256 .bf16) (v223 : Vec F S512x256 .bf16) (X_arg3 : BufTy.Contents (Elt F) arg3.view.ty) (X_arg4 : BufTy.Contents (Elt F) arg4.view.ty) (k : Fin (k0_t7_loop i).trips) (a b : HS F) :
    tripR_k0_t7 (F := F) 𝒱 c bd i arg2 harg2 arg3 harg3 arg4 harg4 arg5 harg5 arg1 v163_4 v163_5 v175 v189 v194 v196 v199 v200 v222 v223 X_arg3 X_arg4 k (both a b)
      = both (hstep (qk v222 (View.readAt (Elt F) arg3.view (Rect.unit (s := S2048x3072) (k0_off37 i k) S512x256.size (k0_off37_inb i k)).toLoadRect X_arg3)) (View.readAt (Elt F) arg4.view (Rect.unit (s := S2048x1536) (k0_off39 i k) S512x128.size (k0_off39_inb i k)).toLoadRect X_arg4) a) (hstep (qk v223 (View.readAt (Elt F) arg3.view (Rect.unit (s := S2048x3072) (k0_off38 i k) S512x256.size (k0_off38_inb i k)).toLoadRect X_arg3)) (View.readAt (Elt F) arg4.view (Rect.unit (s := S2048x1536) (k0_off40 i k) S512x128.size (k0_off40_inb i k)).toLoadRect X_arg4) b) := by
  unfold tripR_k0_t7 trip_k0_t7; rfl

/-- Pair 4's loop carries `hloop` of heads 6 and 7. -/
theorem loop_pair4 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v163_4 : FVec F S512x1 .f32) (v163_5 : FVec F S512x128 .f32) (v175 : FVec F S512x512 .f32) (v189 : FVec F S512x1 .f32) (v194 : FVec F S512x128 .f32) (v196 : Vec F S512x128 .bf16) (v199 : FVec F S512x1 .f32) (v200 : FVec F S512x1 .f32) (v222 : Vec F S512x256 .bf16) (v223 : Vec F S512x256 .bf16)  (x1 : Vec F S2048x3072 .bf16) (x2 : Vec F S2048x1536 .bf16) (n : ℕ) (hn : n ≤ (k0_t7_loop i).trips) :
    st_k0_t7 (F := F) 𝒱 c bd i arg2 harg2 arg3 harg3 arg4 harg4 arg5 harg5 arg1 v163_4 v163_5 v175 v189 v194 v196 v199 v200 v222 v223 (harg3.unread x1) (harg4.unread x2) (both hinit hinit) n = both (hloop 6 v222 x1 x2 n) (hloop 7 v223 x1 x2 n) := by
  induction n with
  | zero => rfl
  | succ n ih =>
    have h4 : n < 4 := by
      have e : (k0_t7_loop i).trips = (i 1).val := trips_eq i
      have h := (i 1).isLt
      have h' : (i 1).val < 4 := h
      omega
    rw [st_k0_t7_succ (F := F) 𝒱 c bd i arg2 harg2 arg3 harg3 arg4 harg4 arg5 harg5 arg1 v163_4 v163_5 v175 v189 v194 v196 v199 v200 v222 v223 (harg3.unread x1) (harg4.unread x2) (both hinit hinit) ⟨n, hn⟩, ih (by omega), trip_pair4,
      readAt_kblk harg3 x1 6 ⟨n, h4⟩ _ (k0_off37_eq i ⟨n, hn⟩), readAt_kblk harg3 x1 7 ⟨n, h4⟩ _ (k0_off38_eq i ⟨n, hn⟩),
      readAt_vblk harg4 x2 6 ⟨n, h4⟩ _ (k0_off39_eq i ⟨n, hn⟩), readAt_vblk harg4 x2 7 ⟨n, h4⟩ _ (k0_off40_eq i ⟨n, hn⟩)]
    simp only [hloop, h4, dite_true]

/-- One trip of pair 5's loop updates each of its two heads' triples. -/
theorem trip_pair5 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v262 : FVec F S512x1 .f32) (v267 : FVec F S512x128 .f32) (v269 : Vec F S512x128 .bf16) (v281 : FVec F S512x1 .f32) (v283 : FVec F S512x128 .f32) (v284 : FVec F S512x512 .bf16) (v295 : Vec F S512x256 .bf16) (v296 : Vec F S512x256 .bf16) (X_arg3 : BufTy.Contents (Elt F) arg3.view.ty) (X_arg4 : BufTy.Contents (Elt F) arg4.view.ty) (k : Fin (k0_t9_loop i).trips) (a b : HS F) :
    tripR_k0_t9 (F := F) 𝒱 c bd i arg2 harg2 arg3 harg3 arg4 harg4 arg5 harg5 arg1 v262 v267 v269 v281 v283 v284 v295 v296 X_arg3 X_arg4 k (both a b)
      = both (hstep (qk v295 (View.readAt (Elt F) arg3.view (Rect.unit (s := S2048x3072) (k0_off49 i k) S512x256.size (k0_off49_inb i k)).toLoadRect X_arg3)) (View.readAt (Elt F) arg4.view (Rect.unit (s := S2048x1536) (k0_off51 i k) S512x128.size (k0_off51_inb i k)).toLoadRect X_arg4) a) (hstep (qk v296 (View.readAt (Elt F) arg3.view (Rect.unit (s := S2048x3072) (k0_off50 i k) S512x256.size (k0_off50_inb i k)).toLoadRect X_arg3)) (View.readAt (Elt F) arg4.view (Rect.unit (s := S2048x1536) (k0_off52 i k) S512x128.size (k0_off52_inb i k)).toLoadRect X_arg4) b) := by
  unfold tripR_k0_t9 trip_k0_t9; rfl

/-- Pair 5's loop carries `hloop` of heads 8 and 9. -/
theorem loop_pair5 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v262 : FVec F S512x1 .f32) (v267 : FVec F S512x128 .f32) (v269 : Vec F S512x128 .bf16) (v281 : FVec F S512x1 .f32) (v283 : FVec F S512x128 .f32) (v284 : FVec F S512x512 .bf16) (v295 : Vec F S512x256 .bf16) (v296 : Vec F S512x256 .bf16)  (x1 : Vec F S2048x3072 .bf16) (x2 : Vec F S2048x1536 .bf16) (n : ℕ) (hn : n ≤ (k0_t9_loop i).trips) :
    st_k0_t9 (F := F) 𝒱 c bd i arg2 harg2 arg3 harg3 arg4 harg4 arg5 harg5 arg1 v262 v267 v269 v281 v283 v284 v295 v296 (harg3.unread x1) (harg4.unread x2) (both hinit hinit) n = both (hloop 8 v295 x1 x2 n) (hloop 9 v296 x1 x2 n) := by
  induction n with
  | zero => rfl
  | succ n ih =>
    have h4 : n < 4 := by
      have e : (k0_t9_loop i).trips = (i 1).val := trips_eq i
      have h := (i 1).isLt
      have h' : (i 1).val < 4 := h
      omega
    rw [st_k0_t9_succ (F := F) 𝒱 c bd i arg2 harg2 arg3 harg3 arg4 harg4 arg5 harg5 arg1 v262 v267 v269 v281 v283 v284 v295 v296 (harg3.unread x1) (harg4.unread x2) (both hinit hinit) ⟨n, hn⟩, ih (by omega), trip_pair5,
      readAt_kblk harg3 x1 8 ⟨n, h4⟩ _ (k0_off49_eq i ⟨n, hn⟩), readAt_kblk harg3 x1 9 ⟨n, h4⟩ _ (k0_off50_eq i ⟨n, hn⟩),
      readAt_vblk harg4 x2 8 ⟨n, h4⟩ _ (k0_off51_eq i ⟨n, hn⟩), readAt_vblk harg4 x2 9 ⟨n, h4⟩ _ (k0_off52_eq i ⟨n, hn⟩)]
    simp only [hloop, h4, dite_true]

/-- One trip of pair 6's loop updates each of its two heads' triples. -/
theorem trip_pair6 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v2 : IVec S512x512 1) (v365 : FVec F S512x128 .f32) (v368 : Vec F S512x256 .bf16) (v369 : Vec F S512x256 .bf16) (X_arg3 : BufTy.Contents (Elt F) arg3.view.ty) (X_arg4 : BufTy.Contents (Elt F) arg4.view.ty) (k : Fin (k0_t11_loop i).trips) (a b : HS F) :
    tripR_k0_t11 (F := F) 𝒱 c bd i arg2 harg2 arg3 harg3 arg4 harg4 arg5 harg5 arg1 v2 v365 v368 v369 X_arg3 X_arg4 k (both a b)
      = both (hstep (qk v368 (View.readAt (Elt F) arg3.view (Rect.unit (s := S2048x3072) (k0_off61 i k) S512x256.size (k0_off61_inb i k)).toLoadRect X_arg3)) (View.readAt (Elt F) arg4.view (Rect.unit (s := S2048x1536) (k0_off63 i k) S512x128.size (k0_off63_inb i k)).toLoadRect X_arg4) a) (hstep (qk v369 (View.readAt (Elt F) arg3.view (Rect.unit (s := S2048x3072) (k0_off62 i k) S512x256.size (k0_off62_inb i k)).toLoadRect X_arg3)) (View.readAt (Elt F) arg4.view (Rect.unit (s := S2048x1536) (k0_off64 i k) S512x128.size (k0_off64_inb i k)).toLoadRect X_arg4) b) := by
  unfold tripR_k0_t11 trip_k0_t11; rfl

/-- Pair 6's loop carries `hloop` of heads 10 and 11. -/
theorem loop_pair6 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v2 : IVec S512x512 1) (v365 : FVec F S512x128 .f32) (v368 : Vec F S512x256 .bf16) (v369 : Vec F S512x256 .bf16)  (x1 : Vec F S2048x3072 .bf16) (x2 : Vec F S2048x1536 .bf16) (n : ℕ) (hn : n ≤ (k0_t11_loop i).trips) :
    st_k0_t11 (F := F) 𝒱 c bd i arg2 harg2 arg3 harg3 arg4 harg4 arg5 harg5 arg1 v2 v365 v368 v369 (harg3.unread x1) (harg4.unread x2) (both hinit hinit) n = both (hloop 10 v368 x1 x2 n) (hloop 11 v369 x1 x2 n) := by
  induction n with
  | zero => rfl
  | succ n ih =>
    have h4 : n < 4 := by
      have e : (k0_t11_loop i).trips = (i 1).val := trips_eq i
      have h := (i 1).isLt
      have h' : (i 1).val < 4 := h
      omega
    rw [st_k0_t11_succ (F := F) 𝒱 c bd i arg2 harg2 arg3 harg3 arg4 harg4 arg5 harg5 arg1 v2 v365 v368 v369 (harg3.unread x1) (harg4.unread x2) (both hinit hinit) ⟨n, hn⟩, ih (by omega), trip_pair6,
      readAt_kblk harg3 x1 10 ⟨n, h4⟩ _ (k0_off61_eq i ⟨n, hn⟩), readAt_kblk harg3 x1 11 ⟨n, h4⟩ _ (k0_off62_eq i ⟨n, hn⟩),
      readAt_vblk harg4 x2 10 ⟨n, h4⟩ _ (k0_off63_eq i ⟨n, hn⟩), readAt_vblk harg4 x2 11 ⟨n, h4⟩ _ (k0_off64_eq i ⟨n, hn⟩)]
    simp only [hloop, h4, dite_true]

end Cert.Attn

end
-- ==== Proof.AttnPieces.lean ====
/- What the attention kernel's body stores: for each head, `Cert.Attn.headOut` in that head's 128 columns. -/
module

public import proofs.«01_k».proof.Proof.AttnLoops

@[expose] public section

set_option maxRecDepth 16384

noncomputable section

namespace Cert.Attn

open Idealize.ShloMosaic Idealize.ShloMosaic.TcCoe Idealize.SL.Sem Cert.KernelIdeal Cert.KernelIdeal.Gen

variable {F : FTy → Type} [FloatOps F]

/-- The query block's number among the four of its sequence. -/
abbrev qb (i : grid0.Coords) : Fin 4 := ⟨(i 1).val, (i 1).isLt⟩

/-- The first of two heads' triples. -/
abbrev fst3 (s : FVec F S512x1 .f32 × FVec F S512x1 .f32 × FVec F S512x128 .f32 × FVec F S512x1 .f32 × FVec F S512x1 .f32 × FVec F S512x128 .f32) : HS F :=
  (s.1, s.2.1, s.2.2.1)

/-- The second of two heads' triples. -/
abbrev snd3 (s : FVec F S512x1 .f32 × FVec F S512x1 .f32 × FVec F S512x128 .f32 × FVec F S512x1 .f32 × FVec F S512x1 .f32 × FVec F S512x128 .f32) : HS F :=
  (s.2.2.2.1, s.2.2.2.2.1, s.2.2.2.2.2)

/-- Pair 1's remainder loop leaves what it was given. -/
theorem rem_pair1 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (v3 : Vec F S512x256 .bf16) (v4 : Vec F S512x256 .bf16) (v15 : BitVec 32) (X_arg3 : BufTy.Contents (Elt F) arg3.view.ty) (X_arg4 : BufTy.Contents (Elt F) arg4.view.ty) (init : FVec F S512x1 .f32 × FVec F S512x1 .f32 × FVec F S512x128 .f32 × FVec F S512x1 .f32 × FVec F S512x1 .f32 × FVec F S512x128 .f32) :
    st_k0_t2 (F := F) 𝒱 c bd i arg2 harg2 arg3 harg3 arg4 harg4 arg5 harg5 v3 v4 v15 X_arg3 X_arg4 init (k0_t2_loop i).trips = init := by
  rw [show (k0_t2_loop i).trips = 0 from trips_rem i]; rfl

/-- What pair 1's loop ends with. -/
theorem full_pair1 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (v3 : Vec F S512x256 .bf16) (v4 : Vec F S512x256 .bf16)  (x1 : Vec F S2048x3072 .bf16) (x2 : Vec F S2048x1536 .bf16) :
    st_k0_t1 (F := F) 𝒱 c bd i arg2 harg2 arg3 harg3 arg4 harg4 arg5 harg5 v3 v4 (harg3.unread x1) (harg4.unread x2) (both hinit hinit) (k0_t1_loop i).trips = both (hloop 0 v3 x1 x2 (i 1).val) (hloop 1 v4 x1 x2 (i 1).val) :=
  (loop_pair1 (F := F) 𝒱 c bd i arg2 harg2 arg3 harg3 arg4 harg4 arg5 harg5 v3 v4 x1 x2 _ le_rfl).trans (by rw [show (k0_t1_loop i).trips = (i 1).val from trips_eq i])

/-- Head 0's payload. -/
theorem pay_head0 (c : Dev nD) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole)
    (x0 : Vec F S512x3072 .bf16) (x1 : Vec F S2048x3072 .bf16) (x2 : Vec F S2048x1536 .bf16) :
    (kernelRun0_A c i arg2 harg2 arg3 harg3 arg4 harg4 arg5 harg5 x0 x1 x2).1[11]? = some ⟨Rect.unit ![0, 0] ![512, 128] inb_S512x1536_S512x128_0_0, headOut 0 (qb i) x0 x1 x2⟩ := by
  refine Eq.trans (b := some ⟨Rect.unit ![0, 0] ![512, 128] inb_S512x1536_S512x128_0_0,
      hout (hstep (hmask (qk (View.readAt (Elt F) arg2.view (Rect.unit (s := S512x3072) ![0, 0] S512x256.size inb_S512x3072_S512x256_0_0).toLoadRect (harg2.unread x0)) (View.readAt (Elt F) arg3.view (Rect.unit (s := S2048x3072) (k0_off9 i) S512x256.size (k0_off9_inb i)).toLoadRect (harg3.unread x1)))) (View.readAt (Elt F) arg4.view (Rect.unit (s := S2048x1536) (k0_off11 i) S512x128.size (k0_off11_inb i)).toLoadRect (harg4.unread x2)) (fst3 (st_k0_t2 (F := F) Variants.none c none i arg2 harg2 arg3 harg3 arg4 harg4 arg5 harg5 (View.readAt (Elt F) arg2.view (Rect.unit (s := S512x3072) ![0, 0] S512x256.size inb_S512x3072_S512x256_0_0).toLoadRect (harg2.unread x0)) (View.readAt (Elt F) arg2.view (Rect.unit (s := S512x3072) ![0, 256] S512x256.size inb_S512x3072_S512x256_0_256).toLoadRect (harg2.unread x0)) ?v15 (harg3.unread x1) (harg4.unread x2)
        (st_k0_t1 (F := F) Variants.none c none i arg2 harg2 arg3 harg3 arg4 harg4 arg5 harg5 (View.readAt (Elt F) arg2.view (Rect.unit (s := S512x3072) ![0, 0] S512x256.size inb_S512x3072_S512x256_0_0).toLoadRect (harg2.unread x0)) (View.readAt (Elt F) arg2.view (Rect.unit (s := S512x3072) ![0, 256] S512x256.size inb_S512x3072_S512x256_0_256).toLoadRect (harg2.unread x0)) (harg3.unread x1) (harg4.unread x2) (both hinit hinit) (k0_t1_loop i).trips) (k0_t2_loop i).trips)))⟩) ?run ?val
  case run =>
    unfold kernelRun0_A
    rfl
  case val =>
    rw [rem_pair1, full_pair1, readAt_qblk harg2 x0 0 ![0, 0] rfl, readAt_qblk harg2 x0 1 ![0, 256] rfl,
      readAt_kblk harg3 x1 0 (qb i) _ (k0_off9_eq i), readAt_vblk harg4 x2 0 (qb i) _ (k0_off11_eq i)]
    rfl

/-- Head 1's payload. -/
theorem pay_head1 (c : Dev nD) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole)
    (x0 : Vec F S512x3072 .bf16) (x1 : Vec F S2048x3072 .bf16) (x2 : Vec F S2048x1536 .bf16) :
    (kernelRun0_A c i arg2 harg2 arg3 harg3 arg4 harg4 arg5 harg5 x0 x1 x2).1[10]? = some ⟨Rect.unit ![0, 128] ![512, 128] inb_S512x1536_S512x128_0_128, headOut 1 (qb i) x0 x1 x2⟩ := by
  refine Eq.trans (b := some ⟨Rect.unit ![0, 128] ![512, 128] inb_S512x1536_S512x128_0_128,
      hout (hstep (hmask (qk (View.readAt (Elt F) arg2.view (Rect.unit (s := S512x3072) ![0, 256] S512x256.size inb_S512x3072_S512x256_0_256).toLoadRect (harg2.unread x0)) (View.readAt (Elt F) arg3.view (Rect.unit (s := S2048x3072) (k0_off10 i) S512x256.size (k0_off10_inb i)).toLoadRect (harg3.unread x1)))) (View.readAt (Elt F) arg4.view (Rect.unit (s := S2048x1536) (k0_off12 i) S512x128.size (k0_off12_inb i)).toLoadRect (harg4.unread x2)) (snd3 (st_k0_t2 (F := F) Variants.none c none i arg2 harg2 arg3 harg3 arg4 harg4 arg5 harg5 (View.readAt (Elt F) arg2.view (Rect.unit (s := S512x3072) ![0, 0] S512x256.size inb_S512x3072_S512x256_0_0).toLoadRect (harg2.unread x0)) (View.readAt (Elt F) arg2.view (Rect.unit (s := S512x3072) ![0, 256] S512x256.size inb_S512x3072_S512x256_0_256).toLoadRect (harg2.unread x0)) ?v15 (harg3.unread x1) (harg4.unread x2)
        (st_k0_t1 (F := F) Variants.none c none i arg2 harg2 arg3 harg3 arg4 harg4 arg5 harg5 (View.readAt (Elt F) arg2.view (Rect.unit (s := S512x3072) ![0, 0] S512x256.size inb_S512x3072_S512x256_0_0).toLoadRect (harg2.unread x0)) (View.readAt (Elt F) arg2.view (Rect.unit (s := S512x3072) ![0, 256] S512x256.size inb_S512x3072_S512x256_0_256).toLoadRect (harg2.unread x0)) (harg3.unread x1) (harg4.unread x2) (both hinit hinit) (k0_t1_loop i).trips) (k0_t2_loop i).trips)))⟩) ?run ?val
  case run =>
    unfold kernelRun0_A
    rfl
  case val =>
    rw [rem_pair1, full_pair1, readAt_qblk harg2 x0 0 ![0, 0] rfl, readAt_qblk harg2 x0 1 ![0, 256] rfl,
      readAt_kblk harg3 x1 1 (qb i) _ (k0_off10_eq i), readAt_vblk harg4 x2 1 (qb i) _ (k0_off12_eq i)]
    rfl

/-- Pair 2's remainder loop leaves what it was given. -/
theorem rem_pair2 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v2 : IVec S512x512 1) (v76 : Vec F S512x256 .bf16) (v77 : Vec F S512x256 .bf16) (cst_28 : F .f32) (v88 : BitVec 32) (X_arg3 : BufTy.Contents (Elt F) arg3.view.ty) (X_arg4 : BufTy.Contents (Elt F) arg4.view.ty) (init : FVec F S512x1 .f32 × FVec F S512x1 .f32 × FVec F S512x128 .f32 × FVec F S512x1 .f32 × FVec F S512x1 .f32 × FVec F S512x128 .f32) :
    st_k0_t4 (F := F) 𝒱 c bd i arg2 harg2 arg3 harg3 arg4 harg4 arg5 harg5 arg1 v2 v76 v77 cst_28 v88 X_arg3 X_arg4 init (k0_t4_loop i).trips = init := by
  rw [show (k0_t4_loop i).trips = 0 from trips_rem i]; rfl

/-- What pair 2's loop ends with. -/
theorem full_pair2 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v2 : IVec S512x512 1) (v76 : Vec F S512x256 .bf16) (v77 : Vec F S512x256 .bf16) (cst_28 : F .f32)  (x1 : Vec F S2048x3072 .bf16) (x2 : Vec F S2048x1536 .bf16) :
    st_k0_t3 (F := F) 𝒱 c bd i arg2 harg2 arg3 harg3 arg4 harg4 arg5 harg5 arg1 v2 v76 v77 cst_28 (harg3.unread x1) (harg4.unread x2) (both hinit hinit) (k0_t3_loop i).trips = both (hloop 2 v76 x1 x2 (i 1).val) (hloop 3 v77 x1 x2 (i 1).val) :=
  (loop_pair2 (F := F) 𝒱 c bd i arg2 harg2 arg3 harg3 arg4 harg4 arg5 harg5 arg1 v2 v76 v77 cst_28 x1 x2 _ le_rfl).trans (by rw [show (k0_t3_loop i).trips = (i 1).val from trips_eq i])

/-- Head 2's payload. -/
theorem pay_head2 (c : Dev nD) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole)
    (x0 : Vec F S512x3072 .bf16) (x1 : Vec F S2048x3072 .bf16) (x2 : Vec F S2048x1536 .bf16) :
    (kernelRun0_A c i arg2 harg2 arg3 harg3 arg4 harg4 arg5 harg5 x0 x1 x2).1[9]? = some ⟨Rect.unit ![0, 256] ![512, 128] inb_S512x1536_S512x128_0_256, headOut 2 (qb i) x0 x1 x2⟩ := by
  refine Eq.trans (b := some ⟨Rect.unit ![0, 256] ![512, 128] inb_S512x1536_S512x128_0_256,
      hout (hstep (hmask (qk (View.readAt (Elt F) arg2.view (Rect.unit (s := S512x3072) ![0, 512] S512x256.size inb_S512x3072_S512x256_0_512).toLoadRect (harg2.unread x0)) (View.readAt (Elt F) arg3.view (Rect.unit (s := S2048x3072) (k0_off21 i) S512x256.size (k0_off21_inb i)).toLoadRect (harg3.unread x1)))) (View.readAt (Elt F) arg4.view (Rect.unit (s := S2048x1536) (k0_off23 i) S512x128.size (k0_off23_inb i)).toLoadRect (harg4.unread x2)) (fst3 (st_k0_t4 (F := F) Variants.none c none i arg2 harg2 arg3 harg3 arg4 harg4 arg5 harg5 ?arg1 ?v2 (View.readAt (Elt F) arg2.view (Rect.unit (s := S512x3072) ![0, 512] S512x256.size inb_S512x3072_S512x256_0_512).toLoadRect (harg2.unread x0)) (View.readAt (Elt F) arg2.view (Rect.unit (s := S512x3072) ![0, 768] S512x256.size inb_S512x3072_S512x256_0_768).toLoadRect (harg2.unread x0)) ?cst_28 ?v88 (harg3.unread x1) (harg4.unread x2)
        (st_k0_t3 (F := F) Variants.none c none i arg2 harg2 arg3 harg3 arg4 harg4 arg5 harg5 ?arg1 ?v2 (View.readAt (Elt F) arg2.view (Rect.unit (s := S512x3072) ![0, 512] S512x256.size inb_S512x3072_S512x256_0_512).toLoadRect (harg2.unread x0)) (View.readAt (Elt F) arg2.view (Rect.unit (s := S512x3072) ![0, 768] S512x256.size inb_S512x3072_S512x256_0_768).toLoadRect (harg2.unread x0)) ?cst_28 (harg3.unread x1) (harg4.unread x2) (both hinit hinit) (k0_t3_loop i).trips) (k0_t4_loop i).trips)))⟩) ?run ?val
  case run =>
    unfold kernelRun0_A
    rfl
  case val =>
    rw [rem_pair2, full_pair2, readAt_qblk harg2 x0 2 ![0, 512] rfl, readAt_qblk harg2 x0 3 ![0, 768] rfl,
      readAt_kblk harg3 x1 2 (qb i) _ (k0_off21_eq i), readAt_vblk harg4 x2 2 (qb i) _ (k0_off23_eq i)]
    rfl

/-- Head 3's payload. -/
theorem pay_head3 (c : Dev nD) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole)
    (x0 : Vec F S512x3072 .bf16) (x1 : Vec F S2048x3072 .bf16) (x2 : Vec F S2048x1536 .bf16) :
    (kernelRun0_A c i arg2 harg2 arg3 harg3 arg4 harg4 arg5 harg5 x0 x1 x2).1[8]? = some ⟨Rect.unit ![0, 384] ![512, 128] inb_S512x1536_S512x128_0_384, headOut 3 (qb i) x0 x1 x2⟩ := by
  refine Eq.trans (b := some ⟨Rect.unit ![0, 384] ![512, 128] inb_S512x1536_S512x128_0_384,
      hout (hstep (hmask (qk (View.readAt (Elt F) arg2.view (Rect.unit (s := S512x3072) ![0, 768] S512x256.size inb_S512x3072_S512x256_0_768).toLoadRect (harg2.unread x0)) (View.readAt (Elt F) arg3.view (Rect.unit (s := S2048x3072) (k0_off22 i) S512x256.size (k0_off22_inb i)).toLoadRect (harg3.unread x1)))) (View.readAt (Elt F) arg4.view (Rect.unit (s := S2048x1536) (k0_off24 i) S512x128.size (k0_off24_inb i)).toLoadRect (harg4.unread x2)) (snd3 (st_k0_t4 (F := F) Variants.none c none i arg2 harg2 arg3 harg3 arg4 harg4 arg5 harg5 ?arg1 ?v2 (View.readAt (Elt F) arg2.view (Rect.unit (s := S512x3072) ![0, 512] S512x256.size inb_S512x3072_S512x256_0_512).toLoadRect (harg2.unread x0)) (View.readAt (Elt F) arg2.view (Rect.unit (s := S512x3072) ![0, 768] S512x256.size inb_S512x3072_S512x256_0_768).toLoadRect (harg2.unread x0)) ?cst_28 ?v88 (harg3.unread x1) (harg4.unread x2)
        (st_k0_t3 (F := F) Variants.none c none i arg2 harg2 arg3 harg3 arg4 harg4 arg5 harg5 ?arg1 ?v2 (View.readAt (Elt F) arg2.view (Rect.unit (s := S512x3072) ![0, 512] S512x256.size inb_S512x3072_S512x256_0_512).toLoadRect (harg2.unread x0)) (View.readAt (Elt F) arg2.view (Rect.unit (s := S512x3072) ![0, 768] S512x256.size inb_S512x3072_S512x256_0_768).toLoadRect (harg2.unread x0)) ?cst_28 (harg3.unread x1) (harg4.unread x2) (both hinit hinit) (k0_t3_loop i).trips) (k0_t4_loop i).trips)))⟩) ?run ?val
  case run =>
    unfold kernelRun0_A
    rfl
  case val =>
    rw [rem_pair2, full_pair2, readAt_qblk harg2 x0 2 ![0, 512] rfl, readAt_qblk harg2 x0 3 ![0, 768] rfl,
      readAt_kblk harg3 x1 3 (qb i) _ (k0_off22_eq i), readAt_vblk harg4 x2 3 (qb i) _ (k0_off24_eq i)]
    rfl

/-- Pair 3's remainder loop leaves what it was given. -/
theorem rem_pair3 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v2 : IVec S512x512 1) (v149 : Vec F S512x256 .bf16) (v150 : Vec F S512x256 .bf16) (v151 : FVec F S512x1 .f32) (v152 : FVec F S512x1 .f32) (v153 : FVec F S512x128 .f32) (v154 : FVec F S512x1 .f32) (v155 : FVec F S512x1 .f32) (v156 : FVec F S512x128 .f32) (c0_i32_64 : BitVec 32) (v161 : BitVec 32) (X_arg3 : BufTy.Contents (Elt F) arg3.view.ty) (X_arg4 : BufTy.Contents (Elt F) arg4.view.ty) (init : FVec F S512x1 .f32 × FVec F S512x1 .f32 × FVec F S512x128 .f32 × FVec F S512x1 .f32 × FVec F S512x1 .f32 × FVec F S512x128 .f32) :
    st_k0_t6 (F := F) 𝒱 c bd i arg2 harg2 arg3 harg3 arg4 harg4 arg5 harg5 arg1 v2 v149 v150 v151 v152 v153 v154 v155 v156 c0_i32_64 v161 X_arg3 X_arg4 init (k0_t6_loop i).trips = init := by
  rw [show (k0_t6_loop i).trips = 0 from trips_rem i]; rfl

/-- What pair 3's loop ends with. -/
theorem full_pair3 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v2 : IVec S512x512 1) (v149 : Vec F S512x256 .bf16) (v150 : Vec F S512x256 .bf16) (v151 : FVec F S512x1 .f32) (v152 : FVec F S512x1 .f32) (v153 : FVec F S512x128 .f32) (v154 : FVec F S512x1 .f32) (v155 : FVec F S512x1 .f32) (v156 : FVec F S512x128 .f32) (c0_i32_64 : BitVec 32)  (x1 : Vec F S2048x3072 .bf16) (x2 : Vec F S2048x1536 .bf16) :
    st_k0_t5 (F := F) 𝒱 c bd i arg2 harg2 arg3 harg3 arg4 harg4 arg5 harg5 arg1 v2 v149 v150 v151 v152 v153 v154 v155 v156 c0_i32_64 (harg3.unread x1) (harg4.unread x2) (both hinit hinit) (k0_t5_loop i).trips = both (hloop 4 v149 x1 x2 (i 1).val) (hloop 5 v150 x1 x2 (i 1).val) :=
  (loop_pair3 (F := F) 𝒱 c bd i arg2 harg2 arg3 harg3 arg4 harg4 arg5 harg5 arg1 v2 v149 v150 v151 v152 v153 v154 v155 v156 c0_i32_64 x1 x2 _ le_rfl).trans (by rw [show (k0_t5_loop i).trips = (i 1).val from trips_eq i])

/-- Head 4's payload. -/
theorem pay_head4 (c : Dev nD) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole)
    (x0 : Vec F S512x3072 .bf16) (x1 : Vec F S2048x3072 .bf16) (x2 : Vec F S2048x1536 .bf16) :
    (kernelRun0_A c i arg2 harg2 arg3 harg3 arg4 harg4 arg5 harg5 x0 x1 x2).1[7]? = some ⟨Rect.unit ![0, 512] ![512, 128] inb_S512x1536_S512x128_0_512, headOut 4 (qb i) x0 x1 x2⟩ := by
  refine Eq.trans (b := some ⟨Rect.unit ![0, 512] ![512, 128] inb_S512x1536_S512x128_0_512,
      hout (hstep (hmask (qk (View.readAt (Elt F) arg2.view (Rect.unit (s := S512x3072) ![0, 1024] S512x256.size inb_S512x3072_S512x256_0_1024).toLoadRect (harg2.unread x0)) (View.readAt (Elt F) arg3.view (Rect.unit (s := S2048x3072) (k0_off33 i) S512x256.size (k0_off33_inb i)).toLoadRect (harg3.unread x1)))) (View.readAt (Elt F) arg4.view (Rect.unit (s := S2048x1536) (k0_off35 i) S512x128.size (k0_off35_inb i)).toLoadRect (harg4.unread x2)) (fst3 (st_k0_t6 (F := F) Variants.none c none i arg2 harg2 arg3 harg3 arg4 harg4 arg5 harg5 ?arg1 ?v2 (View.readAt (Elt F) arg2.view (Rect.unit (s := S512x3072) ![0, 1024] S512x256.size inb_S512x3072_S512x256_0_1024).toLoadRect (harg2.unread x0)) (View.readAt (Elt F) arg2.view (Rect.unit (s := S512x3072) ![0, 1280] S512x256.size inb_S512x3072_S512x256_0_1280).toLoadRect (harg2.unread x0)) ?v151 ?v152 ?v153 ?v154 ?v155 ?v156 ?c0_i32_64 ?v161 (harg3.unread x1) (harg4.unread x2)
        (st_k0_t5 (F := F) Variants.none c none i arg2 harg2 arg3 harg3 arg4 harg4 arg5 harg5 ?arg1 ?v2 (View.readAt (Elt F) arg2.view (Rect.unit (s := S512x3072) ![0, 1024] S512x256.size inb_S512x3072_S512x256_0_1024).toLoadRect (harg2.unread x0)) (View.readAt (Elt F) arg2.view (Rect.unit (s := S512x3072) ![0, 1280] S512x256.size inb_S512x3072_S512x256_0_1280).toLoadRect (harg2.unread x0)) ?v151 ?v152 ?v153 ?v154 ?v155 ?v156 ?c0_i32_64 (harg3.unread x1) (harg4.unread x2) (both hinit hinit) (k0_t5_loop i).trips) (k0_t6_loop i).trips)))⟩) ?run ?val
  case run =>
    unfold kernelRun0_A
    rfl
  case val =>
    rw [rem_pair3, full_pair3, readAt_qblk harg2 x0 4 ![0, 1024] rfl, readAt_qblk harg2 x0 5 ![0, 1280] rfl,
      readAt_kblk harg3 x1 4 (qb i) _ (k0_off33_eq i), readAt_vblk harg4 x2 4 (qb i) _ (k0_off35_eq i)]
    rfl

/-- Head 5's payload. -/
theorem pay_head5 (c : Dev nD) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole)
    (x0 : Vec F S512x3072 .bf16) (x1 : Vec F S2048x3072 .bf16) (x2 : Vec F S2048x1536 .bf16) :
    (kernelRun0_A c i arg2 harg2 arg3 harg3 arg4 harg4 arg5 harg5 x0 x1 x2).1[6]? = some ⟨Rect.unit ![0, 640] ![512, 128] inb_S512x1536_S512x128_0_640, headOut 5 (qb i) x0 x1 x2⟩ := by
  refine Eq.trans (b := some ⟨Rect.unit ![0, 640] ![512, 128] inb_S512x1536_S512x128_0_640,
      hout (hstep (hmask (qk (View.readAt (Elt F) arg2.view (Rect.unit (s := S512x3072) ![0, 1280] S512x256.size inb_S512x3072_S512x256_0_1280).toLoadRect (harg2.unread x0)) (View.readAt (Elt F) arg3.view (Rect.unit (s := S2048x3072) (k0_off34 i) S512x256.size (k0_off34_inb i)).toLoadRect (harg3.unread x1)))) (View.readAt (Elt F) arg4.view (Rect.unit (s := S2048x1536) (k0_off36 i) S512x128.size (k0_off36_inb i)).toLoadRect (harg4.unread x2)) (snd3 (st_k0_t6 (F := F) Variants.none c none i arg2 harg2 arg3 harg3 arg4 harg4 arg5 harg5 ?arg1 ?v2 (View.readAt (Elt F) arg2.view (Rect.unit (s := S512x3072) ![0, 1024] S512x256.size inb_S512x3072_S512x256_0_1024).toLoadRect (harg2.unread x0)) (View.readAt (Elt F) arg2.view (Rect.unit (s := S512x3072) ![0, 1280] S512x256.size inb_S512x3072_S512x256_0_1280).toLoadRect (harg2.unread x0)) ?v151 ?v152 ?v153 ?v154 ?v155 ?v156 ?c0_i32_64 ?v161 (harg3.unread x1) (harg4.unread x2)
        (st_k0_t5 (F := F) Variants.none c none i arg2 harg2 arg3 harg3 arg4 harg4 arg5 harg5 ?arg1 ?v2 (View.readAt (Elt F) arg2.view (Rect.unit (s := S512x3072) ![0, 1024] S512x256.size inb_S512x3072_S512x256_0_1024).toLoadRect (harg2.unread x0)) (View.readAt (Elt F) arg2.view (Rect.unit (s := S512x3072) ![0, 1280] S512x256.size inb_S512x3072_S512x256_0_1280).toLoadRect (harg2.unread x0)) ?v151 ?v152 ?v153 ?v154 ?v155 ?v156 ?c0_i32_64 (harg3.unread x1) (harg4.unread x2) (both hinit hinit) (k0_t5_loop i).trips) (k0_t6_loop i).trips)))⟩) ?run ?val
  case run =>
    unfold kernelRun0_A
    rfl
  case val =>
    rw [rem_pair3, full_pair3, readAt_qblk harg2 x0 4 ![0, 1024] rfl, readAt_qblk harg2 x0 5 ![0, 1280] rfl,
      readAt_kblk harg3 x1 5 (qb i) _ (k0_off34_eq i), readAt_vblk harg4 x2 5 (qb i) _ (k0_off36_eq i)]
    rfl

/-- Pair 4's remainder loop leaves what it was given. -/
theorem rem_pair4 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v163_4 : FVec F S512x1 .f32) (v163_5 : FVec F S512x128 .f32) (v175 : FVec F S512x512 .f32) (v189 : FVec F S512x1 .f32) (v194 : FVec F S512x128 .f32) (v196 : Vec F S512x128 .bf16) (v199 : FVec F S512x1 .f32) (v200 : FVec F S512x1 .f32) (v222 : Vec F S512x256 .bf16) (v223 : Vec F S512x256 .bf16) (v234 : BitVec 32) (X_arg3 : BufTy.Contents (Elt F) arg3.view.ty) (X_arg4 : BufTy.Contents (Elt F) arg4.view.ty) (init : FVec F S512x1 .f32 × FVec F S512x1 .f32 × FVec F S512x128 .f32 × FVec F S512x1 .f32 × FVec F S512x1 .f32 × FVec F S512x128 .f32) :
    st_k0_t8 (F := F) 𝒱 c bd i arg2 harg2 arg3 harg3 arg4 harg4 arg5 harg5 arg1 v163_4 v163_5 v175 v189 v194 v196 v199 v200 v222 v223 v234 X_arg3 X_arg4 init (k0_t8_loop i).trips = init := by
  rw [show (k0_t8_loop i).trips = 0 from trips_rem i]; rfl

/-- What pair 4's loop ends with. -/
theorem full_pair4 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v163_4 : FVec F S512x1 .f32) (v163_5 : FVec F S512x128 .f32) (v175 : FVec F S512x512 .f32) (v189 : FVec F S512x1 .f32) (v194 : FVec F S512x128 .f32) (v196 : Vec F S512x128 .bf16) (v199 : FVec F S512x1 .f32) (v200 : FVec F S512x1 .f32) (v222 : Vec F S512x256 .bf16) (v223 : Vec F S512x256 .bf16)  (x1 : Vec F S2048x3072 .bf16) (x2 : Vec F S2048x1536 .bf16) :
    st_k0_t7 (F := F) 𝒱 c bd i arg2 harg2 arg3 harg3 arg4 harg4 arg5 harg5 arg1 v163_4 v163_5 v175 v189 v194 v196 v199 v200 v222 v223 (harg3.unread x1) (harg4.unread x2) (both hinit hinit) (k0_t7_loop i).trips = both (hloop 6 v222 x1 x2 (i 1).val) (hloop 7 v223 x1 x2 (i 1).val) :=
  (loop_pair4 (F := F) 𝒱 c bd i arg2 harg2 arg3 harg3 arg4 harg4 arg5 harg5 arg1 v163_4 v163_5 v175 v189 v194 v196 v199 v200 v222 v223 x1 x2 _ le_rfl).trans (by rw [show (k0_t7_loop i).trips = (i 1).val from trips_eq i])

/-- Head 6's payload. -/
theorem pay_head6 (c : Dev nD) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole)
    (x0 : Vec F S512x3072 .bf16) (x1 : Vec F S2048x3072 .bf16) (x2 : Vec F S2048x1536 .bf16) :
    (kernelRun0_A c i arg2 harg2 arg3 harg3 arg4 harg4 arg5 harg5 x0 x1 x2).1[5]? = some ⟨Rect.unit ![0, 768] ![512, 128] inb_S512x1536_S512x128_0_768, headOut 6 (qb i) x0 x1 x2⟩ := by
  refine Eq.trans (b := some ⟨Rect.unit ![0, 768] ![512, 128] inb_S512x1536_S512x128_0_768,
      hout (hstep (hmask (qk (View.readAt (Elt F) arg2.view (Rect.unit (s := S512x3072) ![0, 1536] S512x256.size inb_S512x3072_S512x256_0_1536).toLoadRect (harg2.unread x0)) (View.readAt (Elt F) arg3.view (Rect.unit (s := S2048x3072) (k0_off45 i) S512x256.size (k0_off45_inb i)).toLoadRect (harg3.unread x1)))) (View.readAt (Elt F) arg4.view (Rect.unit (s := S2048x1536) (k0_off47 i) S512x128.size (k0_off47_inb i)).toLoadRect (harg4.unread x2)) (fst3 (st_k0_t8 (F := F) Variants.none c none i arg2 harg2 arg3 harg3 arg4 harg4 arg5 harg5 ?arg1 ?v163_4 ?v163_5 ?v175 ?v189 ?v194 ?v196 ?v199 ?v200 (View.readAt (Elt F) arg2.view (Rect.unit (s := S512x3072) ![0, 1536] S512x256.size inb_S512x3072_S512x256_0_1536).toLoadRect (harg2.unread x0)) (View.readAt (Elt F) arg2.view (Rect.unit (s := S512x3072) ![0, 1792] S512x256.size inb_S512x3072_S512x256_0_1792).toLoadRect (harg2.unread x0)) ?v234 (harg3.unread x1) (harg4.unread x2)
        (st_k0_t7 (F := F) Variants.none c none i arg2 harg2 arg3 harg3 arg4 harg4 arg5 harg5 ?arg1 ?v163_4 ?v163_5 ?v175 ?v189 ?v194 ?v196 ?v199 ?v200 (View.readAt (Elt F) arg2.view (Rect.unit (s := S512x3072) ![0, 1536] S512x256.size inb_S512x3072_S512x256_0_1536).toLoadRect (harg2.unread x0)) (View.readAt (Elt F) arg2.view (Rect.unit (s := S512x3072) ![0, 1792] S512x256.size inb_S512x3072_S512x256_0_1792).toLoadRect (harg2.unread x0)) (harg3.unread x1) (harg4.unread x2) (both hinit hinit) (k0_t7_loop i).trips) (k0_t8_loop i).trips)))⟩) ?run ?val
  case run =>
    unfold kernelRun0_A
    rfl
  case val =>
    rw [rem_pair4, full_pair4, readAt_qblk harg2 x0 6 ![0, 1536] rfl, readAt_qblk harg2 x0 7 ![0, 1792] rfl,
      readAt_kblk harg3 x1 6 (qb i) _ (k0_off45_eq i), readAt_vblk harg4 x2 6 (qb i) _ (k0_off47_eq i)]
    rfl

/-- Head 7's payload. -/
theorem pay_head7 (c : Dev nD) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole)
    (x0 : Vec F S512x3072 .bf16) (x1 : Vec F S2048x3072 .bf16) (x2 : Vec F S2048x1536 .bf16) :
    (kernelRun0_A c i arg2 harg2 arg3 harg3 arg4 harg4 arg5 harg5 x0 x1 x2).1[4]? = some ⟨Rect.unit ![0, 896] ![512, 128] inb_S512x1536_S512x128_0_896, headOut 7 (qb i) x0 x1 x2⟩ := by
  refine Eq.trans (b := some ⟨Rect.unit ![0, 896] ![512, 128] inb_S512x1536_S512x128_0_896,
      hout (hstep (hmask (qk (View.readAt (Elt F) arg2.view (Rect.unit (s := S512x3072) ![0, 1792] S512x256.size inb_S512x3072_S512x256_0_1792).toLoadRect (harg2.unread x0)) (View.readAt (Elt F) arg3.view (Rect.unit (s := S2048x3072) (k0_off46 i) S512x256.size (k0_off46_inb i)).toLoadRect (harg3.unread x1)))) (View.readAt (Elt F) arg4.view (Rect.unit (s := S2048x1536) (k0_off48 i) S512x128.size (k0_off48_inb i)).toLoadRect (harg4.unread x2)) (snd3 (st_k0_t8 (F := F) Variants.none c none i arg2 harg2 arg3 harg3 arg4 harg4 arg5 harg5 ?arg1 ?v163_4 ?v163_5 ?v175 ?v189 ?v194 ?v196 ?v199 ?v200 (View.readAt (Elt F) arg2.view (Rect.unit (s := S512x3072) ![0, 1536] S512x256.size inb_S512x3072_S512x256_0_1536).toLoadRect (harg2.unread x0)) (View.readAt (Elt F) arg2.view (Rect.unit (s := S512x3072) ![0, 1792] S512x256.size inb_S512x3072_S512x256_0_1792).toLoadRect (harg2.unread x0)) ?v234 (harg3.unread x1) (harg4.unread x2)
        (st_k0_t7 (F := F) Variants.none c none i arg2 harg2 arg3 harg3 arg4 harg4 arg5 harg5 ?arg1 ?v163_4 ?v163_5 ?v175 ?v189 ?v194 ?v196 ?v199 ?v200 (View.readAt (Elt F) arg2.view (Rect.unit (s := S512x3072) ![0, 1536] S512x256.size inb_S512x3072_S512x256_0_1536).toLoadRect (harg2.unread x0)) (View.readAt (Elt F) arg2.view (Rect.unit (s := S512x3072) ![0, 1792] S512x256.size inb_S512x3072_S512x256_0_1792).toLoadRect (harg2.unread x0)) (harg3.unread x1) (harg4.unread x2) (both hinit hinit) (k0_t7_loop i).trips) (k0_t8_loop i).trips)))⟩) ?run ?val
  case run =>
    unfold kernelRun0_A
    rfl
  case val =>
    rw [rem_pair4, full_pair4, readAt_qblk harg2 x0 6 ![0, 1536] rfl, readAt_qblk harg2 x0 7 ![0, 1792] rfl,
      readAt_kblk harg3 x1 7 (qb i) _ (k0_off46_eq i), readAt_vblk harg4 x2 7 (qb i) _ (k0_off48_eq i)]
    rfl

/-- Pair 5's remainder loop leaves what it was given. -/
theorem rem_pair5 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v262 : FVec F S512x1 .f32) (v267 : FVec F S512x128 .f32) (v269 : Vec F S512x128 .bf16) (v281 : FVec F S512x1 .f32) (v283 : FVec F S512x128 .f32) (v284 : FVec F S512x512 .bf16) (v295 : Vec F S512x256 .bf16) (v296 : Vec F S512x256 .bf16) (v307 : BitVec 32) (X_arg3 : BufTy.Contents (Elt F) arg3.view.ty) (X_arg4 : BufTy.Contents (Elt F) arg4.view.ty) (init : FVec F S512x1 .f32 × FVec F S512x1 .f32 × FVec F S512x128 .f32 × FVec F S512x1 .f32 × FVec F S512x1 .f32 × FVec F S512x128 .f32) :
    st_k0_t10 (F := F) 𝒱 c bd i arg2 harg2 arg3 harg3 arg4 harg4 arg5 harg5 arg1 v262 v267 v269 v281 v283 v284 v295 v296 v307 X_arg3 X_arg4 init (k0_t10_loop i).trips = init := by
  rw [show (k0_t10_loop i).trips = 0 from trips_rem i]; rfl

/-- What pair 5's loop ends with. -/
theorem full_pair5 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v262 : FVec F S512x1 .f32) (v267 : FVec F S512x128 .f32) (v269 : Vec F S512x128 .bf16) (v281 : FVec F S512x1 .f32) (v283 : FVec F S512x128 .f32) (v284 : FVec F S512x512 .bf16) (v295 : Vec F S512x256 .bf16) (v296 : Vec F S512x256 .bf16)  (x1 : Vec F S2048x3072 .bf16) (x2 : Vec F S2048x1536 .bf16) :
    st_k0_t9 (F := F) 𝒱 c bd i arg2 harg2 arg3 harg3 arg4 harg4 arg5 harg5 arg1 v262 v267 v269 v281 v283 v284 v295 v296 (harg3.unread x1) (harg4.unread x2) (both hinit hinit) (k0_t9_loop i).trips = both (hloop 8 v295 x1 x2 (i 1).val) (hloop 9 v296 x1 x2 (i 1).val) :=
  (loop_pair5 (F := F) 𝒱 c bd i arg2 harg2 arg3 harg3 arg4 harg4 arg5 harg5 arg1 v262 v267 v269 v281 v283 v284 v295 v296 x1 x2 _ le_rfl).trans (by rw [show (k0_t9_loop i).trips = (i 1).val from trips_eq i])

/-- Head 8's payload. -/
theorem pay_head8 (c : Dev nD) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole)
    (x0 : Vec F S512x3072 .bf16) (x1 : Vec F S2048x3072 .bf16) (x2 : Vec F S2048x1536 .bf16) :
    (kernelRun0_A c i arg2 harg2 arg3 harg3 arg4 harg4 arg5 harg5 x0 x1 x2).1[3]? = some ⟨Rect.unit ![0, 1024] ![512, 128] inb_S512x1536_S512x128_0_1024, headOut 8 (qb i) x0 x1 x2⟩ := by
  refine Eq.trans (b := some ⟨Rect.unit ![0, 1024] ![512, 128] inb_S512x1536_S512x128_0_1024,
      hout (hstep (hmask (qk (View.readAt (Elt F) arg2.view (Rect.unit (s := S512x3072) ![0, 2048] S512x256.size inb_S512x3072_S512x256_0_2048).toLoadRect (harg2.unread x0)) (View.readAt (Elt F) arg3.view (Rect.unit (s := S2048x3072) (k0_off57 i) S512x256.size (k0_off57_inb i)).toLoadRect (harg3.unread x1)))) (View.readAt (Elt F) arg4.view (Rect.unit (s := S2048x1536) (k0_off59 i) S512x128.size (k0_off59_inb i)).toLoadRect (harg4.unread x2)) (fst3 (st_k0_t10 (F := F) Variants.none c none i arg2 harg2 arg3 harg3 arg4 harg4 arg5 harg5 ?arg1 ?v262 ?v267 ?v269 ?v281 ?v283 ?v284 (View.readAt (Elt F) arg2.view (Rect.unit (s := S512x3072) ![0, 2048] S512x256.size inb_S512x3072_S512x256_0_2048).toLoadRect (harg2.unread x0)) (View.readAt (Elt F) arg2.view (Rect.unit (s := S512x3072) ![0, 2304] S512x256.size inb_S512x3072_S512x256_0_2304).toLoadRect (harg2.unread x0)) ?v307 (harg3.unread x1) (harg4.unread x2)
        (st_k0_t9 (F := F) Variants.none c none i arg2 harg2 arg3 harg3 arg4 harg4 arg5 harg5 ?arg1 ?v262 ?v267 ?v269 ?v281 ?v283 ?v284 (View.readAt (Elt F) arg2.view (Rect.unit (s := S512x3072) ![0, 2048] S512x256.size inb_S512x3072_S512x256_0_2048).toLoadRect (harg2.unread x0)) (View.readAt (Elt F) arg2.view (Rect.unit (s := S512x3072) ![0, 2304] S512x256.size inb_S512x3072_S512x256_0_2304).toLoadRect (harg2.unread x0)) (harg3.unread x1) (harg4.unread x2) (both hinit hinit) (k0_t9_loop i).trips) (k0_t10_loop i).trips)))⟩) ?run ?val
  case run =>
    unfold kernelRun0_A
    rfl
  case val =>
    rw [rem_pair5, full_pair5, readAt_qblk harg2 x0 8 ![0, 2048] rfl, readAt_qblk harg2 x0 9 ![0, 2304] rfl,
      readAt_kblk harg3 x1 8 (qb i) _ (k0_off57_eq i), readAt_vblk harg4 x2 8 (qb i) _ (k0_off59_eq i)]
    rfl

/-- Head 9's payload. -/
theorem pay_head9 (c : Dev nD) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole)
    (x0 : Vec F S512x3072 .bf16) (x1 : Vec F S2048x3072 .bf16) (x2 : Vec F S2048x1536 .bf16) :
    (kernelRun0_A c i arg2 harg2 arg3 harg3 arg4 harg4 arg5 harg5 x0 x1 x2).1[2]? = some ⟨Rect.unit ![0, 1152] ![512, 128] inb_S512x1536_S512x128_0_1152, headOut 9 (qb i) x0 x1 x2⟩ := by
  refine Eq.trans (b := some ⟨Rect.unit ![0, 1152] ![512, 128] inb_S512x1536_S512x128_0_1152,
      hout (hstep (hmask (qk (View.readAt (Elt F) arg2.view (Rect.unit (s := S512x3072) ![0, 2304] S512x256.size inb_S512x3072_S512x256_0_2304).toLoadRect (harg2.unread x0)) (View.readAt (Elt F) arg3.view (Rect.unit (s := S2048x3072) (k0_off58 i) S512x256.size (k0_off58_inb i)).toLoadRect (harg3.unread x1)))) (View.readAt (Elt F) arg4.view (Rect.unit (s := S2048x1536) (k0_off60 i) S512x128.size (k0_off60_inb i)).toLoadRect (harg4.unread x2)) (snd3 (st_k0_t10 (F := F) Variants.none c none i arg2 harg2 arg3 harg3 arg4 harg4 arg5 harg5 ?arg1 ?v262 ?v267 ?v269 ?v281 ?v283 ?v284 (View.readAt (Elt F) arg2.view (Rect.unit (s := S512x3072) ![0, 2048] S512x256.size inb_S512x3072_S512x256_0_2048).toLoadRect (harg2.unread x0)) (View.readAt (Elt F) arg2.view (Rect.unit (s := S512x3072) ![0, 2304] S512x256.size inb_S512x3072_S512x256_0_2304).toLoadRect (harg2.unread x0)) ?v307 (harg3.unread x1) (harg4.unread x2)
        (st_k0_t9 (F := F) Variants.none c none i arg2 harg2 arg3 harg3 arg4 harg4 arg5 harg5 ?arg1 ?v262 ?v267 ?v269 ?v281 ?v283 ?v284 (View.readAt (Elt F) arg2.view (Rect.unit (s := S512x3072) ![0, 2048] S512x256.size inb_S512x3072_S512x256_0_2048).toLoadRect (harg2.unread x0)) (View.readAt (Elt F) arg2.view (Rect.unit (s := S512x3072) ![0, 2304] S512x256.size inb_S512x3072_S512x256_0_2304).toLoadRect (harg2.unread x0)) (harg3.unread x1) (harg4.unread x2) (both hinit hinit) (k0_t9_loop i).trips) (k0_t10_loop i).trips)))⟩) ?run ?val
  case run =>
    unfold kernelRun0_A
    rfl
  case val =>
    rw [rem_pair5, full_pair5, readAt_qblk harg2 x0 8 ![0, 2048] rfl, readAt_qblk harg2 x0 9 ![0, 2304] rfl,
      readAt_kblk harg3 x1 9 (qb i) _ (k0_off58_eq i), readAt_vblk harg4 x2 9 (qb i) _ (k0_off60_eq i)]
    rfl

/-- Pair 6's remainder loop leaves what it was given. -/
theorem rem_pair6 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v2 : IVec S512x512 1) (v365 : FVec F S512x128 .f32) (v368 : Vec F S512x256 .bf16) (v369 : Vec F S512x256 .bf16) (v380 : BitVec 32) (X_arg3 : BufTy.Contents (Elt F) arg3.view.ty) (X_arg4 : BufTy.Contents (Elt F) arg4.view.ty) (init : FVec F S512x1 .f32 × FVec F S512x1 .f32 × FVec F S512x128 .f32 × FVec F S512x1 .f32 × FVec F S512x1 .f32 × FVec F S512x128 .f32) :
    st_k0_t12 (F := F) 𝒱 c bd i arg2 harg2 arg3 harg3 arg4 harg4 arg5 harg5 arg1 v2 v365 v368 v369 v380 X_arg3 X_arg4 init (k0_t12_loop i).trips = init := by
  rw [show (k0_t12_loop i).trips = 0 from trips_rem i]; rfl

/-- What pair 6's loop ends with. -/
theorem full_pair6 (𝒱 : Variants) (c : Dev nD) (bd : Option 𝒱.V) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole) (arg1 : BitVec 32) (v2 : IVec S512x512 1) (v365 : FVec F S512x128 .f32) (v368 : Vec F S512x256 .bf16) (v369 : Vec F S512x256 .bf16)  (x1 : Vec F S2048x3072 .bf16) (x2 : Vec F S2048x1536 .bf16) :
    st_k0_t11 (F := F) 𝒱 c bd i arg2 harg2 arg3 harg3 arg4 harg4 arg5 harg5 arg1 v2 v365 v368 v369 (harg3.unread x1) (harg4.unread x2) (both hinit hinit) (k0_t11_loop i).trips = both (hloop 10 v368 x1 x2 (i 1).val) (hloop 11 v369 x1 x2 (i 1).val) :=
  (loop_pair6 (F := F) 𝒱 c bd i arg2 harg2 arg3 harg3 arg4 harg4 arg5 harg5 arg1 v2 v365 v368 v369 x1 x2 _ le_rfl).trans (by rw [show (k0_t11_loop i).trips = (i 1).val from trips_eq i])

/-- Head 10's payload. -/
theorem pay_head10 (c : Dev nD) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole)
    (x0 : Vec F S512x3072 .bf16) (x1 : Vec F S2048x3072 .bf16) (x2 : Vec F S2048x1536 .bf16) :
    (kernelRun0_A c i arg2 harg2 arg3 harg3 arg4 harg4 arg5 harg5 x0 x1 x2).1[1]? = some ⟨Rect.unit ![0, 1280] ![512, 128] inb_S512x1536_S512x128_0_1280, headOut 10 (qb i) x0 x1 x2⟩ := by
  refine Eq.trans (b := some ⟨Rect.unit ![0, 1280] ![512, 128] inb_S512x1536_S512x128_0_1280,
      hout (hstep (hmask (qk (View.readAt (Elt F) arg2.view (Rect.unit (s := S512x3072) ![0, 2560] S512x256.size inb_S512x3072_S512x256_0_2560).toLoadRect (harg2.unread x0)) (View.readAt (Elt F) arg3.view (Rect.unit (s := S2048x3072) (k0_off69 i) S512x256.size (k0_off69_inb i)).toLoadRect (harg3.unread x1)))) (View.readAt (Elt F) arg4.view (Rect.unit (s := S2048x1536) (k0_off71 i) S512x128.size (k0_off71_inb i)).toLoadRect (harg4.unread x2)) (fst3 (st_k0_t12 (F := F) Variants.none c none i arg2 harg2 arg3 harg3 arg4 harg4 arg5 harg5 ?arg1 ?v2 ?v365 (View.readAt (Elt F) arg2.view (Rect.unit (s := S512x3072) ![0, 2560] S512x256.size inb_S512x3072_S512x256_0_2560).toLoadRect (harg2.unread x0)) (View.readAt (Elt F) arg2.view (Rect.unit (s := S512x3072) ![0, 2816] S512x256.size inb_S512x3072_S512x256_0_2816).toLoadRect (harg2.unread x0)) ?v380 (harg3.unread x1) (harg4.unread x2)
        (st_k0_t11 (F := F) Variants.none c none i arg2 harg2 arg3 harg3 arg4 harg4 arg5 harg5 ?arg1 ?v2 ?v365 (View.readAt (Elt F) arg2.view (Rect.unit (s := S512x3072) ![0, 2560] S512x256.size inb_S512x3072_S512x256_0_2560).toLoadRect (harg2.unread x0)) (View.readAt (Elt F) arg2.view (Rect.unit (s := S512x3072) ![0, 2816] S512x256.size inb_S512x3072_S512x256_0_2816).toLoadRect (harg2.unread x0)) (harg3.unread x1) (harg4.unread x2) (both hinit hinit) (k0_t11_loop i).trips) (k0_t12_loop i).trips)))⟩) ?run ?val
  case run =>
    unfold kernelRun0_A
    rfl
  case val =>
    rw [rem_pair6, full_pair6, readAt_qblk harg2 x0 10 ![0, 2560] rfl, readAt_qblk harg2 x0 11 ![0, 2816] rfl,
      readAt_kblk harg3 x1 10 (qb i) _ (k0_off69_eq i), readAt_vblk harg4 x2 10 (qb i) _ (k0_off71_eq i)]
    rfl

/-- Head 11's payload. -/
theorem pay_head11 (c : Dev nD) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole)
    (x0 : Vec F S512x3072 .bf16) (x1 : Vec F S2048x3072 .bf16) (x2 : Vec F S2048x1536 .bf16) :
    (kernelRun0_A c i arg2 harg2 arg3 harg3 arg4 harg4 arg5 harg5 x0 x1 x2).1[0]? = some ⟨Rect.unit ![0, 1408] ![512, 128] inb_S512x1536_S512x128_0_1408, headOut 11 (qb i) x0 x1 x2⟩ := by
  refine Eq.trans (b := some ⟨Rect.unit ![0, 1408] ![512, 128] inb_S512x1536_S512x128_0_1408,
      hout (hstep (hmask (qk (View.readAt (Elt F) arg2.view (Rect.unit (s := S512x3072) ![0, 2816] S512x256.size inb_S512x3072_S512x256_0_2816).toLoadRect (harg2.unread x0)) (View.readAt (Elt F) arg3.view (Rect.unit (s := S2048x3072) (k0_off70 i) S512x256.size (k0_off70_inb i)).toLoadRect (harg3.unread x1)))) (View.readAt (Elt F) arg4.view (Rect.unit (s := S2048x1536) (k0_off72 i) S512x128.size (k0_off72_inb i)).toLoadRect (harg4.unread x2)) (snd3 (st_k0_t12 (F := F) Variants.none c none i arg2 harg2 arg3 harg3 arg4 harg4 arg5 harg5 ?arg1 ?v2 ?v365 (View.readAt (Elt F) arg2.view (Rect.unit (s := S512x3072) ![0, 2560] S512x256.size inb_S512x3072_S512x256_0_2560).toLoadRect (harg2.unread x0)) (View.readAt (Elt F) arg2.view (Rect.unit (s := S512x3072) ![0, 2816] S512x256.size inb_S512x3072_S512x256_0_2816).toLoadRect (harg2.unread x0)) ?v380 (harg3.unread x1) (harg4.unread x2)
        (st_k0_t11 (F := F) Variants.none c none i arg2 harg2 arg3 harg3 arg4 harg4 arg5 harg5 ?arg1 ?v2 ?v365 (View.readAt (Elt F) arg2.view (Rect.unit (s := S512x3072) ![0, 2560] S512x256.size inb_S512x3072_S512x256_0_2560).toLoadRect (harg2.unread x0)) (View.readAt (Elt F) arg2.view (Rect.unit (s := S512x3072) ![0, 2816] S512x256.size inb_S512x3072_S512x256_0_2816).toLoadRect (harg2.unread x0)) (harg3.unread x1) (harg4.unread x2) (both hinit hinit) (k0_t11_loop i).trips) (k0_t12_loop i).trips)))⟩) ?run ?val
  case run =>
    unfold kernelRun0_A
    rfl
  case val =>
    rw [rem_pair6, full_pair6, readAt_qblk harg2 x0 10 ![0, 2560] rfl, readAt_qblk harg2 x0 11 ![0, 2816] rfl,
      readAt_kblk harg3 x1 11 (qb i) _ (k0_off70_eq i), readAt_vblk harg4 x2 11 (qb i) _ (k0_off72_eq i)]
    rfl

end Cert.Attn

end
-- ==== Proof.Softmax.lean ====
/- The running softmax over the extended reals: the triple (maximum, sum, weighted sum) kept block by block gives the
   softmax average over all the keys. Keys are numbered by naturals; a masked key has score `⊥`. -/
module

public import Idealize.ShloMosaic.PureOps.Ideal
public import Idealize.ShloMosaic.PureOps.Ideal.Laws

@[expose] public section

noncomputable section

namespace Cert.Softmax

open Idealize.ShloMosaic

/-- The weight of a score relative to a real maximum, as a real number: zero for a masked key. -/
def wt (s : EReal) (M : ℝ) : ℝ := if s = ⊥ then 0 else Real.exp (s.toReal - M)

theorem wt_nonneg (s : EReal) (M : ℝ) : 0 ≤ wt s M := by
  unfold wt; split
  · exact le_rfl
  · exact (Real.exp_pos _).le

theorem wt_pos {s : EReal} (h : s ≠ ⊥) (M : ℝ) : 0 < wt s M := by
  unfold wt; rw [if_neg h]; exact Real.exp_pos _

/-- The exponential of a score below `⊤` minus a real maximum is that weight. -/
theorem exp_sub_coe {s : EReal} (h : s ≠ ⊤) (M : ℝ) : Ideal.exp (s - (M : EReal)) = ((wt s M : ℝ) : EReal) := by
  induction s with
  | bot => rw [EReal.bot_sub, wt, if_pos rfl]; rfl
  | top => exact absurd rfl h
  | coe x => rw [← EReal.coe_sub, wt, if_neg (EReal.coe_ne_bot x), EReal.toReal_coe]; rfl

/-- Changing the maximum from `M` to `M'` rescales every weight by `exp (M - M')`. -/
theorem rescale (s : EReal) (M M' : ℝ) : Real.exp (M - M') * wt s M = wt s M' := by
  unfold wt; split
  · rw [mul_zero]
  · rw [← Real.exp_add]; congr 1; ring

/-- Multiplication by a nonnegative real distributes over a finite sum of extended reals. -/
theorem coe_mul_sum {ι : Type} (t : Finset ι) (f : ι → EReal) {c : ℝ} (hc : 0 ≤ c) :
    (c : EReal) * ∑ i ∈ t, f i = ∑ i ∈ t, (c : EReal) * f i := by
  classical
  induction t using Finset.induction_on with
  | empty => simp
  | insert a t ha ih =>
    rw [Finset.sum_insert ha, Finset.sum_insert ha, ← ih]
    exact EReal.left_distrib_of_nonneg_of_ne_top (EReal.coe_nonneg.mpr hc) (EReal.coe_ne_top c) _ _

/-- A finite sum of reals read in the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A fold of `max` from `⊥` is the supremum. -/
theorem fold_max_eq_sup {ι : Type} (t : Finset ι) (f : ι → EReal) : t.fold max ⊥ f = t.sup f := rfl

/-- What the triple holds after the first `n` keys. -/
structure Inv (S v : ℕ → EReal) (n : ℕ) (m l a : EReal) : Prop where
  max : m = (Finset.range n).sup S
  real : n = 0 ∨ ∃ M : ℝ, m = (M : EReal)
  sum : l = ∑ i ∈ Finset.range n, Ideal.exp (S i - m)
  avg : a = ∑ i ∈ Finset.range n, Ideal.exp (S i - m) * v i

/-- Before any key: maximum `⊥` and both sums zero. -/
theorem inv_zero (S v : ℕ → EReal) : Inv S v 0 ⊥ 0 0 := ⟨by simp, .inl rfl, by simp, by simp⟩

/-- The supremum of the first `n + k` scores is the maximum of the first `n` and of the next `k`. -/
theorem sup_range_add (S : ℕ → EReal) (n k : ℕ) :
    (Finset.range (n + k)).sup S = Max.max ((Finset.range n).sup S) (Finset.univ.sup fun c : Fin k => S (n + c.val)) := by
  apply le_antisymm
  · refine Finset.sup_le fun i hi => ?_
    rcases lt_or_ge i n with h | h
    · exact le_max_of_le_left (Finset.le_sup (f := S) (Finset.mem_range.mpr h))
    · have hi' := Finset.mem_range.mp hi
      refine le_max_of_le_right ?_
      have := Finset.le_sup (f := fun c : Fin k => S (n + c.val)) (Finset.mem_univ (⟨i - n, by omega⟩ : Fin k))
      simpa [Nat.add_sub_cancel' h] using this
  · refine max_le (Finset.sup_mono fun i hi => ?_) (Finset.sup_le fun c _ => Finset.le_sup (f := S) ?_)
    · exact Finset.mem_range.mpr (lt_of_lt_of_le (Finset.mem_range.mp hi) (Nat.le_add_right _ _))
    · exact Finset.mem_range.mpr (Nat.add_lt_add_left c.isLt n)

/-- The sum over the first `n + k` keys is the sum over the first `n` plus that over the next `k`. -/
theorem sum_range_add' (f : ℕ → EReal) (n k : ℕ) :
    ∑ i ∈ Finset.range (n + k), f i = ∑ i ∈ Finset.range n, f i + ∑ c : Fin k, f (n + c.val) := by
  rw [Finset.sum_range_add, Finset.sum_range (fun x => f (n + x))]

/-- Scores below `⊤` whose first is a real number have a real supremum. -/
theorem sup_real (S : ℕ → EReal) (hS : ∀ i, S i ≠ ⊤) (h0 : S 0 ≠ ⊥) {n : ℕ} (hn : 0 < n) :
    ∃ M : ℝ, (Finset.range n).sup S = (M : EReal) := by
  have hb : (Finset.range n).sup S ≠ ⊥ := fun h =>
    h0 (le_bot_iff.mp (h ▸ Finset.le_sup (f := S) (Finset.mem_range.mpr hn)))
  have ht : (Finset.range n).sup S ≠ ⊤ := by
    refine ne_of_lt ((Finset.sup_lt_iff bot_lt_top).mpr fun i _ => lt_top_iff_ne_top.mpr (hS i))
  exact ⟨_, (EReal.coe_toReal ht hb).symm⟩

/-- One update by the next `k` keys. -/
theorem inv_step {S v : ℕ → EReal} (hS : ∀ i, S i ≠ ⊤) (h0 : S 0 ≠ ⊥) {n : ℕ} {m l a : EReal} (h : Inv S v n m l a)
    {k : ℕ} (hk : 0 < k) {m' : EReal} (hm : m' = Max.max m (Finset.univ.sup fun c : Fin k => S (n + c.val))) :
    Inv S v (n + k) m' (Ideal.exp (m - m') * l + ∑ c : Fin k, Ideal.exp (S (n + c.val) - m'))
      (Ideal.exp (m - m') * a + ∑ c : Fin k, Ideal.exp (S (n + c.val) - m') * v (n + c.val)) := by
  have hm' : m' = (Finset.range (n + k)).sup S := by rw [hm, h.max, sup_range_add]
  obtain ⟨M', hM'⟩ := sup_real S hS h0 (n := n + k) (by omega)
  have hM : m' = (M' : EReal) := hm'.trans hM'
  refine ⟨hm', .inr ⟨M', hM⟩, ?_, ?_⟩
  · rw [sum_range_add']
    congr 1
    rcases h.real with rfl | ⟨M, hMm⟩
    · rw [h.sum]; simp
    · rw [h.sum, hMm, hM, exp_sub_coe (EReal.coe_ne_top M), coe_mul_sum _ _ (wt_nonneg _ _)]
      refine Finset.sum_congr rfl fun i _ => ?_
      rw [exp_sub_coe (hS i), exp_sub_coe (hS i), ← EReal.coe_mul]
      congr 1
      rw [← rescale (S i) M M', wt, if_neg (EReal.coe_ne_bot M), EReal.toReal_coe]
  · rw [sum_range_add']
    congr 1
    rcases h.real with rfl | ⟨M, hMm⟩
    · rw [h.avg]; simp
    · rw [h.avg, hMm, hM, exp_sub_coe (EReal.coe_ne_top M), coe_mul_sum _ _ (wt_nonneg _ _)]
      refine Finset.sum_congr rfl fun i _ => ?_
      rw [exp_sub_coe (hS i), exp_sub_coe (hS i), ← mul_assoc, ← EReal.coe_mul]
      congr 2
      rw [← rescale (S i) M M', wt, if_neg (EReal.coe_ne_bot M), EReal.toReal_coe]

/-- The softmax average of `v` over `N` keys with scores `S`. -/
def average (S v : ℕ → EReal) (N : ℕ) : EReal :=
  ∑ i : Fin N, v i.val * Ideal.div (Ideal.exp (S i.val - Finset.univ.sup fun j : Fin N => S j.val))
    (∑ j : Fin N, Ideal.exp (S j.val - Finset.univ.sup fun j : Fin N => S j.val))

/-- At the end the quotient is the softmax average over all `N` keys, those past the first `n` being masked. -/
theorem quotient {S v : ℕ → EReal} (hS : ∀ i, S i ≠ ⊤) (h0 : S 0 ≠ ⊥) {n N : ℕ} {m l a : EReal} (h : Inv S v n m l a)
    (hn : 0 < n) (hN : n ≤ N) (hb : ∀ i, n ≤ i → S i = ⊥) :
    Ideal.div a l = average S v N := by
  unfold average
  have hsup : (Finset.univ.sup fun j : Fin N => S j.val) = m := by
    rw [h.max]
    apply le_antisymm
    · refine Finset.sup_le fun j _ => ?_
      rcases lt_or_ge j.val n with hj | hj
      · exact Finset.le_sup (f := S) (Finset.mem_range.mpr hj)
      · rw [hb _ hj]; exact bot_le
    · exact Finset.sup_le fun i hi =>
        Finset.le_sup (f := fun j : Fin N => S j.val) (Finset.mem_univ (⟨i, lt_of_lt_of_le (Finset.mem_range.mp hi) hN⟩ : Fin N))
  obtain ⟨M, hM⟩ := h.real.resolve_left hn.ne'
  have hsub : Finset.range n ⊆ Finset.range N := Finset.range_subset_range.mpr hN
  have hzero : ∀ i ∈ Finset.range N, i ∉ Finset.range n → Ideal.exp (S i - m) = 0 := fun i _ hi => by
    rw [hb i (by simpa using hi), hM, EReal.bot_sub]; rfl
  have hl : (∑ j : Fin N, Ideal.exp (S j.val - m)) = l := by
    rw [h.sum, ← Finset.sum_range (fun j => Ideal.exp (S j - m)), Finset.sum_subset hsub hzero]
  have hL : l = ((∑ i ∈ Finset.range n, wt (S i) M : ℝ) : EReal) := by
    rw [h.sum, coe_sum]; exact Finset.sum_congr rfl fun i _ => by rw [hM, exp_sub_coe (hS i)]
  have hpos : 0 < ∑ i ∈ Finset.range n, wt (S i) M :=
    lt_of_lt_of_le (wt_pos h0 M)
      (Finset.single_le_sum (f := fun i => wt (S i) M) (fun i _ => wt_nonneg (S i) M) (Finset.mem_range.mpr hn))
  have hdiv : ∀ x : EReal, Ideal.div x l = x * l⁻¹ := fun x => by
    unfold Ideal.div; rw [if_neg]; rw [hL]; exact fun e => hpos.ne' (EReal.coe_eq_zero.mp e)
  rw [hsup, hl, ← Finset.sum_range (fun i => v i * Ideal.div (Ideal.exp (S i - m)) l),
    ← Finset.sum_subset hsub (fun i hi hi' => by rw [hzero i hi hi', hdiv, zero_mul, mul_zero]), hdiv, h.avg, mul_comm, hL,
    ← EReal.coe_inv, coe_mul_sum _ _ (inv_nonneg.mpr hpos.le)]
  refine Finset.sum_congr rfl fun i _ => ?_
  rw [EReal.coe_inv, ← hL, hdiv, mul_comm (l⁻¹), mul_comm (Ideal.exp (S i - m)), mul_assoc]

end Cert.Softmax

end
-- ==== Proof.AttnVal.lean ====
/- The attention kernel's arithmetic for one head read at an index, over the extended reals. -/
module

public import proofs.«01_k».proof.Proof.AttnStep
public import proofs.«01_k».proof.Proof.Softmax
public import Idealize.ShloMosaic.Lib.Pointwise
public import Idealize.ShloMosaic.Lib.WordCmp

@[expose] public section

set_option maxRecDepth 16384

noncomputable section

namespace Cert.Attn

open Idealize.ShloMosaic Idealize.ShloMosaic.TcCoe Cert.KernelIdeal Cert.KernelIdeal.Gen

/-- A score is the inner product of a query row and a key row. -/
theorem qk_apply (q k : Vec Ideal S512x256 .bf16) (r c : Fin 512) :
    qk (F := Ideal) q k (ix2 r c) = ∑ d : Fin 256, q (ix2 r d) * k (ix2 c d) := by
  pointwise [qk]

/-- The 32-bit pattern of `-∞`. -/
theorem ofBits_ninf : Ideal.ofBits .f32 0xFF800000#32 = (⊥ : EReal) := by
  simp [Ideal.ofBits, Ideal.ieee]

/-- The running maximum of a row after a block. -/
theorem hmax_apply (s : FVec Ideal S512x512 .f32) (m : FVec Ideal S512x1 .f32) (r : Fin 512) :
    hmax (F := Ideal) s m (ix2 r 0) = max (m (ix2 r 0)) (Finset.univ.sup fun c : Fin 512 => s (ix2 r c)) := by
  pointwise [hmax]
  rw [ofBits_ninf]; rfl

/-- The diagonal block keeps the keys up to the query's own. -/
theorem hmask_apply (s : FVec Ideal S512x512 .f32) (r c : Fin 512) :
    hmask (F := Ideal) s (ix2 r c) = if c.val ≤ r.val then s (ix2 r c) else ⊥ := by
  pointwise [hmask]
  rw [ofBits_ninf, WordCmp.cmpi_sle_ofNat (by have := c.isLt; omega) (by have := r.isLt; omega)]
  by_cases h : c.val ≤ r.val
  · simp [h, Scalar.select]
  · simp [h, Scalar.select]

/-- The running sum of a row after a block. -/
theorem hstep_l (s : FVec Ideal S512x512 .f32) (v : Vec Ideal S512x128 .bf16) (st : HS Ideal) (r : Fin 512) :
    (hstep (F := Ideal) s v st).2.1 (ix2 r 0) =
      Ideal.exp (st.1 (ix2 r 0) - hmax (F := Ideal) s st.1 (ix2 r 0)) * st.2.1 (ix2 r 0)
        + ∑ c : Fin 512, Ideal.exp (s (ix2 r c) - hmax (F := Ideal) s st.1 (ix2 r 0)) := by
  pointwise [hstep, hexp]

/-- The running weighted sum of a row and column after a block. -/
theorem hstep_a (s : FVec Ideal S512x512 .f32) (v : Vec Ideal S512x128 .bf16) (st : HS Ideal) (r : Fin 512) (e : Fin 128) :
    (hstep (F := Ideal) s v st).2.2 (ix2 r e) =
      Ideal.exp (st.1 (ix2 r 0) - hmax (F := Ideal) s st.1 (ix2 r 0)) * st.2.2 (ix2 r e)
        + ∑ c : Fin 512, Ideal.exp (s (ix2 r c) - hmax (F := Ideal) s st.1 (ix2 r 0)) * v (ix2 c e) := by
  pointwise [hstep, hexp]

/-- The stored quotient. -/
theorem hout_apply (st : HS Ideal) (r : Fin 512) (e : Fin 128) :
    hout (F := Ideal) st (ix2 r e) = Ideal.div (st.2.2 (ix2 r e)) (st.2.1 (ix2 r 0)) := by
  pointwise [hout]

/-- A key block's entry in the whole array of keys. -/
theorem kblk_apply (h : Fin 12) (t : Fin 4) (x : Vec Ideal S2048x3072 .bf16) (c : Fin 512) (d : Fin 256) :
    kblk (F := Ideal) h t x (ix2 c d) = x (ix2 ⟨512 * t.val + c.val, by omega⟩ ⟨256 * h.val + d.val, by omega⟩) := by
  unfold kblk; refine congrArg x (funext fun a => ?_)
  match a with
  | ⟨0, _⟩ => exact Fin.ext (by show 512 * t.val + 1 * c.val = _; simp)
  | ⟨1, _⟩ => exact Fin.ext (by show 256 * h.val + 1 * d.val = _; simp)

/-- A value block's entry in the whole array of values. -/
theorem vblk_apply (h : Fin 12) (t : Fin 4) (x : Vec Ideal S2048x1536 .bf16) (c : Fin 512) (e : Fin 128) :
    vblk (F := Ideal) h t x (ix2 c e) = x (ix2 ⟨512 * t.val + c.val, by omega⟩ ⟨128 * h.val + e.val, by omega⟩) := by
  unfold vblk; refine congrArg x (funext fun a => ?_)
  match a with
  | ⟨0, _⟩ => exact Fin.ext (by show 512 * t.val + 1 * c.val = _; simp)
  | ⟨1, _⟩ => exact Fin.ext (by show 128 * h.val + 1 * e.val = _; simp)

/-- A head's query entry in the query block. -/
theorem qblk_apply (h : Fin 12) (x : Vec Ideal S512x3072 .bf16) (r : Fin 512) (d : Fin 256) :
    qblk (F := Ideal) h x (ix2 r d) = x (ix2 r ⟨256 * h.val + d.val, by omega⟩) := by
  unfold qblk; refine congrArg x (funext fun a => ?_)
  match a with
  | ⟨0, _⟩ => exact Fin.ext (by show 0 + 1 * r.val = _; simp)
  | ⟨1, _⟩ => exact Fin.ext (by show 256 * h.val + 1 * d.val = _; simp)

/-- Head `h`'s score of query row `r` against key `k`. -/
def score (h : Fin 12) (x0 : Vec Ideal S512x3072 .bf16) (x1 : Vec Ideal S2048x3072 .bf16) (r : Fin 512) (k : Fin 2048) : EReal :=
  ∑ d : Fin 256, x0 (ix2 r ⟨256 * h.val + d.val, by omega⟩) * x1 (ix2 k ⟨256 * h.val + d.val, by omega⟩)

/-- The scores of query row `r` of block `t` by the key's number, `⊥` past the query's own position. -/
def scores (h : Fin 12) (t : Fin 4) (x0 : Vec Ideal S512x3072 .bf16) (x1 : Vec Ideal S2048x3072 .bf16) (r : Fin 512) (i : ℕ) : EReal :=
  if hi : i < 2048 ∧ i ≤ 512 * t.val + r.val then score h x0 x1 r ⟨i, hi.1⟩ else ⊥

/-- Column `e` of head `h`'s values by the key's number. -/
def vals (h : Fin 12) (x2 : Vec Ideal S2048x1536 .bf16) (e : Fin 128) (i : ℕ) : EReal :=
  if hi : i < 2048 then x2 (ix2 ⟨i, hi⟩ ⟨128 * h.val + e.val, by omega⟩) else 0

variable {h : Fin 12} {t : Fin 4} {x0 : Vec Ideal S512x3072 .bf16} {x1 : Vec Ideal S2048x3072 .bf16} {r : Fin 512}

/-- A score of an unmasked block. -/
theorem scores_block (k : Fin 4) (hk : k.val < t.val) (c : Fin 512) :
    scores h t x0 x1 r (512 * k.val + c.val) = qk (F := Ideal) (qblk h x0) (kblk h k x1) (ix2 r c) := by
  unfold scores
  rw [dif_pos ⟨by omega, by omega⟩, qk_apply]
  unfold score
  exact Finset.sum_congr rfl fun d _ => by rw [qblk_apply, kblk_apply]

/-- A score of the diagonal block. -/
theorem scores_diag (c : Fin 512) :
    scores h t x0 x1 r (512 * t.val + c.val) = hmask (F := Ideal) (qk (F := Ideal) (qblk h x0) (kblk h t x1)) (ix2 r c) := by
  rw [hmask_apply]
  unfold scores
  by_cases hc : c.val ≤ r.val
  · rw [dif_pos ⟨by omega, by omega⟩, if_pos hc, qk_apply]
    unfold score
    exact Finset.sum_congr rfl fun d _ => by rw [qblk_apply, kblk_apply]
  · rw [dif_neg (by omega), if_neg hc]

/-- A value of a block. -/
theorem vals_block (x2 : Vec Ideal S2048x1536 .bf16) (e : Fin 128) (k : Fin 4) (c : Fin 512) :
    vals h x2 e (512 * k.val + c.val) = vblk (F := Ideal) h k x2 (ix2 c e) := by
  unfold vals
  rw [dif_pos (by omega), vblk_apply]

/-- Finite scores: none is `⊤`, and the first key's is not `⊥`. -/
theorem scores_ne_top (hs : ∀ k, ∃ s : ℝ, score h x0 x1 r k = (s : EReal)) (i : ℕ) : scores h t x0 x1 r i ≠ ⊤ := by
  unfold scores; split
  · obtain ⟨s, e⟩ := hs ⟨i, by omega⟩; rw [e]; exact EReal.coe_ne_top s
  · exact bot_ne_top

theorem scores_zero_ne_bot (hs : ∀ k, ∃ s : ℝ, score h x0 x1 r k = (s : EReal)) : scores h t x0 x1 r 0 ≠ ⊥ := by
  unfold scores; rw [dif_pos ⟨by omega, by omega⟩]
  obtain ⟨s, e⟩ := hs ⟨0, by omega⟩; rw [e]; exact EReal.coe_ne_bot s

/-- One update of a row keeps the running softmax. -/
theorem step_inv (hs : ∀ k, ∃ s : ℝ, score h x0 x1 r k = (s : EReal)) (x2 : Vec Ideal S2048x1536 .bf16) (e : Fin 128) (k : Fin 4)
    (s : FVec Ideal S512x512 .f32) (he : ∀ c : Fin 512, scores h t x0 x1 r (512 * k.val + c.val) = s (ix2 r c)) (st : HS Ideal)
    (hi : Softmax.Inv (scores h t x0 x1 r) (vals h x2 e) (512 * k.val) (st.1 (ix2 r 0)) (st.2.1 (ix2 r 0)) (st.2.2 (ix2 r e))) :
    Softmax.Inv (scores h t x0 x1 r) (vals h x2 e) (512 * k.val + 512) ((hstep (F := Ideal) s (vblk h k x2) st).1 (ix2 r 0))
      ((hstep (F := Ideal) s (vblk h k x2) st).2.1 (ix2 r 0)) ((hstep (F := Ideal) s (vblk h k x2) st).2.2 (ix2 r e)) := by
  have := Softmax.inv_step (scores_ne_top hs) (scores_zero_ne_bot hs) hi (k := 512) (by omega)
    (m' := hmax (F := Ideal) s st.1 (ix2 r 0)) (by rw [hmax_apply]; simp only [he])
  rw [hstep_l, hstep_a]
  rw [show (hstep (F := Ideal) s (vblk h k x2) st).1 = hmax (F := Ideal) s st.1 from rfl]
  simpa only [he, vals_block] using this

/-- The running softmax after the unmasked blocks before `n`. -/
theorem loop_inv (hs : ∀ k, ∃ s : ℝ, score h x0 x1 r k = (s : EReal)) (x2 : Vec Ideal S2048x1536 .bf16) (e : Fin 128) (n : ℕ) (hn : n ≤ t.val) :
    Softmax.Inv (scores h t x0 x1 r) (vals h x2 e) (512 * n) ((hloop (F := Ideal) h (qblk h x0) x1 x2 n).1 (ix2 r 0))
      ((hloop (F := Ideal) h (qblk h x0) x1 x2 n).2.1 (ix2 r 0)) ((hloop (F := Ideal) h (qblk h x0) x1 x2 n).2.2 (ix2 r e)) := by
  induction n with
  | zero =>
    have := Softmax.inv_zero (scores h t x0 x1 r) (vals h x2 e)
    have h1 : (hinit (F := Ideal)).1 (ix2 r 0) = ⊥ := by pointwise [hinit]; exact ofBits_ninf
    have h2 : (hinit (F := Ideal)).2.1 (ix2 r 0) = 0 := by pointwise [hinit]
    have h3 : (hinit (F := Ideal)).2.2 (ix2 r e) = 0 := by pointwise [hinit]
    unfold hloop
    rw [h1, h2, h3]; exact this
  | succ n ih =>
    have hn4 : n < 4 := by omega
    rw [hloop, dif_pos hn4]
    exact step_inv hs x2 e ⟨n, hn4⟩ _ (fun c => scores_block ⟨n, hn4⟩ (by show n < t.val; omega) c) _ (ih (by omega))

/-- What a head stores, when its scores are finite: the softmax average of the values over all 2048 keys, those after
    the query masked. -/
theorem headOut_apply (hs : ∀ k, ∃ s : ℝ, score h x0 x1 r k = (s : EReal)) (x2 : Vec Ideal S2048x1536 .bf16) (e : Fin 128) :
    headOut (F := Ideal) h t x0 x1 x2 (ix2 r e) = Softmax.average (scores h t x0 x1 r) (vals h x2 e) 2048 := by
  unfold headOut
  rw [hout_apply]
  refine Softmax.quotient (scores_ne_top hs) (scores_zero_ne_bot hs) (n := 512 * t.val + 512)
    (step_inv hs x2 e t _ (fun c => scores_diag c) _ (loop_inv hs x2 e t.val le_rfl)) (by omega) (by omega) fun i hi => ?_
  unfold scores; rw [dif_neg (by omega)]

end Cert.Attn

end
-- ==== Proof.AttnSpec.lean ====
/- Causal softmax attention over the extended reals, per sequence, head, query and column: what kernel and reference both compute. -/
module

public import proofs.«01_k».proof.Proof.Softmax

@[expose] public section

noncomputable section

namespace Cert.AttnSpec

/-- The scores of query `i` of sequence `b` in head `h` by the key's number, `⊥` past the query's own position. -/
def scores (q k : Fin 8192 → Fin 3072 → EReal) (b : Fin 4) (h : Fin 12) (i : Fin 2048) (n : ℕ) : EReal :=
  if hn : n < 2048 ∧ n ≤ i.val then
    ∑ d : Fin 256, q ⟨2048 * b.val + i.val, by omega⟩ ⟨256 * h.val + d.val, by omega⟩
      * k ⟨2048 * b.val + n, by omega⟩ ⟨256 * h.val + d.val, by omega⟩
  else ⊥

/-- Column `e` of head `h`'s values of sequence `b` by the key's number. -/
def vals (v : Fin 8192 → Fin 1536 → EReal) (b : Fin 4) (h : Fin 12) (e : Fin 128) (n : ℕ) : EReal :=
  if hn : n < 2048 then v ⟨2048 * b.val + n, by omega⟩ ⟨128 * h.val + e.val, by omega⟩ else 0

/-- Causal attention: the softmax average of the values. -/
def attn (q k : Fin 8192 → Fin 3072 → EReal) (v : Fin 8192 → Fin 1536 → EReal) (b : Fin 4) (h : Fin 12) (i : Fin 2048)
    (e : Fin 128) : EReal :=
  Softmax.average (scores q k b h i) (vals v b h e) 2048

end Cert.AttnSpec

end
-- ==== Proof.AttnKernel.lean ====
/- The attention kernel's result array: causal attention of its arguments, when every score is finite. -/
module

public import proofs.«01_k».proof.Proof.AttnPieces
public import proofs.«01_k».proof.Proof.AttnVal
public import proofs.«01_k».proof.Proof.AttnSpec
public import Idealize.ShloMosaic.Lib.Claim
public import Idealize.ShloMosaic.Lib.Pipeline.ValueKit

@[expose] public section

set_option maxRecDepth 16384

noncomputable section

namespace Cert.Attn

open Idealize.ShloMosaic Idealize.ShloMosaic.TcCoe Idealize.SL.Sem Cert.KernelIdeal Cert.KernelIdeal.Gen
open Idealize.ShloMosaic.Pipeline (Dat)

section Block
variable {F : FTy → Type} [FloatOps F]

/-- The block a grid point stores: each head's 128 columns. -/
def blockOut (t : Fin 4) (x0 : Vec F S512x3072 .bf16) (x1 : Vec F S2048x3072 .bf16) (x2 : Vec F S2048x1536 .bf16) :
    Vec F S512x1536 .bf16 :=
  fun y => headOut ⟨(y 1).val / 128, by have : (y 1).val < 1536 := (y 1).isLt; omega⟩ t x0 x1 x2
    (ix2 ⟨(y 0).val, (y 0).isLt⟩ ⟨(y 1).val % 128, Nat.mod_lt _ (by decide)⟩)

/-- One head's piece agrees with the block. -/
theorem piece_ok (h : Fin 12) (off : ℕ) (e : off = 128 * h.val) (t : Fin 4) (x0 : Vec F S512x3072 .bf16) (x1 : Vec F S2048x3072 .bf16)
    (x2 : Vec F S2048x1536 .bf16) (inb : ∀ a, (![0, off] : Fin 2 → ℕ) a + (![512, 128] : Fin 2 → ℕ) a ≤ S512x1536.size a)
    (x : (Rect.unit (s := S512x1536) ![0, off] ![512, 128] inb).shape.Idx) :
    headOut h t x0 x1 x2 x = blockOut t x0 x1 x2 ((Rect.unit (s := S512x1536) ![0, off] ![512, 128] inb).emb x) := by
  subst e
  have h1 : (x 1).val < 128 := (x 1).isLt
  unfold blockOut
  have e1 : (((Rect.unit (s := S512x1536) ![0, 128 * h.val] ![512, 128] inb).emb x) 1).val = 128 * h.val + 1 * (x 1).val := rfl
  have e0 : (((Rect.unit (s := S512x1536) ![0, 128 * h.val] ![512, 128] inb).emb x) 0).val = 0 + 1 * (x 0).val := rfl
  have eh : (⟨(((Rect.unit (s := S512x1536) ![0, 128 * h.val] ![512, 128] inb).emb x) 1).val / 128, by
      rw [e1]; have := h.isLt; omega⟩ : Fin 12) = h := Fin.ext (by show _ / 128 = _; rw [e1]; omega)
  rw [eh]
  refine congrArg (headOut h t x0 x1 x2) (funext fun a => ?_)
  match a with
  | ⟨0, _⟩ => exact Fin.ext ((show (x 0).val = 0 + 1 * (x 0).val by omega).trans e0.symm)
  | ⟨1, _⟩ => exact Fin.ext ((show (x 1).val = (128 * h.val + 1 * (x 1).val) % 128 by omega).trans (congrArg (· % 128) e1.symm))

/-- What a grid point leaves in the output's staging buffer. -/
theorem out_eq (c : Dev nD) (i : grid0.Coords) (arg2 : Memref sig .tc .vmem S512x3072 .bf16) (harg2 : arg2.IsWhole) (arg3 : Memref sig .tc .vmem S2048x3072 .bf16) (harg3 : arg3.IsWhole) (arg4 : Memref sig .tc .vmem S2048x1536 .bf16) (harg4 : arg4.IsWhole) (arg5 : Memref sig .tc .vmem S512x1536 .bf16) (harg5 : arg5.IsWhole)
    (x0 : Vec F S512x3072 .bf16) (x1 : Vec F S2048x3072 .bf16) (x2 : Vec F S2048x1536 .bf16) :
    out0_A_3 c i arg2 harg2 arg3 harg3 arg4 harg4 arg5 harg5 x0 x1 x2 = blockOut (qb i) x0 x1 x2 := by
  unfold out0_A_3
  rw [View.read_writes_junk_eq_canon]
  funext y
  refine View.canon_apply_of_pieces (blockOut (qb i) x0 x1 x2) _ ?_ y (cover0_A_3 c i arg2 harg2 arg3 harg3 arg4 harg4 arg5 harg5 x0 x1 x2 y)
  intro p hp
  obtain ⟨n, hn⟩ := List.mem_iff_getElem?.mp hp
  have hlen : (kernelRun0_A c i arg2 harg2 arg3 harg3 arg4 harg4 arg5 harg5 x0 x1 x2).1.length = 12 := by
    unfold kernelRun0_A; rfl
  have hlt : n < 12 := by
    rw [← hlen]; exact (List.getElem?_eq_some_iff.mp hn).1
  interval_cases n
  · obtain rfl := Option.some.inj ((pay_head11 c i arg2 harg2 arg3 harg3 arg4 harg4 arg5 harg5 x0 x1 x2).symm.trans hn)
    exact piece_ok 11 1408 rfl (qb i) x0 x1 x2 inb_S512x1536_S512x128_0_1408
  · obtain rfl := Option.some.inj ((pay_head10 c i arg2 harg2 arg3 harg3 arg4 harg4 arg5 harg5 x0 x1 x2).symm.trans hn)
    exact piece_ok 10 1280 rfl (qb i) x0 x1 x2 inb_S512x1536_S512x128_0_1280
  · obtain rfl := Option.some.inj ((pay_head9 c i arg2 harg2 arg3 harg3 arg4 harg4 arg5 harg5 x0 x1 x2).symm.trans hn)
    exact piece_ok 9 1152 rfl (qb i) x0 x1 x2 inb_S512x1536_S512x128_0_1152
  · obtain rfl := Option.some.inj ((pay_head8 c i arg2 harg2 arg3 harg3 arg4 harg4 arg5 harg5 x0 x1 x2).symm.trans hn)
    exact piece_ok 8 1024 rfl (qb i) x0 x1 x2 inb_S512x1536_S512x128_0_1024
  · obtain rfl := Option.some.inj ((pay_head7 c i arg2 harg2 arg3 harg3 arg4 harg4 arg5 harg5 x0 x1 x2).symm.trans hn)
    exact piece_ok 7 896 rfl (qb i) x0 x1 x2 inb_S512x1536_S512x128_0_896
  · obtain rfl := Option.some.inj ((pay_head6 c i arg2 harg2 arg3 harg3 arg4 harg4 arg5 harg5 x0 x1 x2).symm.trans hn)
    exact piece_ok 6 768 rfl (qb i) x0 x1 x2 inb_S512x1536_S512x128_0_768
  · obtain rfl := Option.some.inj ((pay_head5 c i arg2 harg2 arg3 harg3 arg4 harg4 arg5 harg5 x0 x1 x2).symm.trans hn)
    exact piece_ok 5 640 rfl (qb i) x0 x1 x2 inb_S512x1536_S512x128_0_640
  · obtain rfl := Option.some.inj ((pay_head4 c i arg2 harg2 arg3 harg3 arg4 harg4 arg5 harg5 x0 x1 x2).symm.trans hn)
    exact piece_ok 4 512 rfl (qb i) x0 x1 x2 inb_S512x1536_S512x128_0_512
  · obtain rfl := Option.some.inj ((pay_head3 c i arg2 harg2 arg3 harg3 arg4 harg4 arg5 harg5 x0 x1 x2).symm.trans hn)
    exact piece_ok 3 384 rfl (qb i) x0 x1 x2 inb_S512x1536_S512x128_0_384
  · obtain rfl := Option.some.inj ((pay_head2 c i arg2 harg2 arg3 harg3 arg4 harg4 arg5 harg5 x0 x1 x2).symm.trans hn)
    exact piece_ok 2 256 rfl (qb i) x0 x1 x2 inb_S512x1536_S512x128_0_256
  · obtain rfl := Option.some.inj ((pay_head1 c i arg2 harg2 arg3 harg3 arg4 harg4 arg5 harg5 x0 x1 x2).symm.trans hn)
    exact piece_ok 1 128 rfl (qb i) x0 x1 x2 inb_S512x1536_S512x128_0_128
  · obtain rfl := Option.some.inj ((pay_head0 c i arg2 harg2 arg3 harg3 arg4 harg4 arg5 harg5 x0 x1 x2).symm.trans hn)
    exact piece_ok 0 0 rfl (qb i) x0 x1 x2 inb_S512x1536_S512x128_0_0
end Block

variable (m : (ℓ : Loc nD τ sig) → Buf (Elt Ideal) ℓ)

/-- The windows' block indices: query block `4 b + i`, keys and values of sequence `b`. -/
theorem idx_eq : ∀ t : Fin cfg0.N, win0_0.index t = ![4 * (grid0.coords t 0).val + (grid0.coords t 1).val, 0]
    ∧ win0_1.index t = ![(grid0.coords t 0).val, 0] ∧ win0_2.index t = ![(grid0.coords t 0).val, 0]
    ∧ win0_3.index t = ![4 * (grid0.coords t 0).val + (grid0.coords t 1).val, 0] :=
  (by decide +kernel : ∀ t : Fin grid0.N, win0_0.index t = ![4 * (grid0.coords t 0).val + (grid0.coords t 1).val, 0]
    ∧ win0_1.index t = ![(grid0.coords t 0).val, 0] ∧ win0_2.index t = ![(grid0.coords t 0).val, 0]
    ∧ win0_3.index t = ![4 * (grid0.coords t 0).val + (grid0.coords t 1).val, 0])

/-- A query block's entry in the whole array. -/
theorem iblk0_apply (c : Dev nD) (t : Fin cfg0.N) (r : Fin 512) (d : Fin 3072) :
    (iblk m c 0 t : Vec Ideal S512x3072 .bf16) (ix2 r d) = (m ((c.tc : Thread nD τ).loc main_arg0) : Vec Ideal S8192x3072 .bf16)
      (ix2 ⟨512 * (4 * (grid0.coords t 0).val + (grid0.coords t 1).val) + r.val, by
        have h0 : (grid0.coords t 0).val < 4 := (grid0.coords t 0).isLt
        have h1 : (grid0.coords t 1).val < 4 := (grid0.coords t 1).isLt
        omega⟩ d) := by
  have h0 : (grid0.coords t 0).val < 4 := (grid0.coords t 0).isLt
  have h1 : (grid0.coords t 1).val < 4 := (grid0.coords t 1).isLt
  obtain ⟨e0, e1, e2, e3⟩ := idx_eq t
  blk_ext [iblk, V_main_arg0, e0]

/-- An entry of a sequence's keys in the whole array. -/
theorem iblk1_apply (c : Dev nD) (t : Fin cfg0.N) (r : Fin 2048) (d : Fin 3072) :
    (iblk m c 1 t : Vec Ideal S2048x3072 .bf16) (ix2 r d) = (m ((c.tc : Thread nD τ).loc main_arg1) : Vec Ideal S8192x3072 .bf16)
      (ix2 ⟨2048 * (grid0.coords t 0).val + r.val, by
        have h0 : (grid0.coords t 0).val < 4 := (grid0.coords t 0).isLt
        omega⟩ d) := by
  have h0 : (grid0.coords t 0).val < 4 := (grid0.coords t 0).isLt
  obtain ⟨e0, e1, e2, e3⟩ := idx_eq t
  blk_ext [iblk, V_main_arg1, e1]

/-- An entry of a sequence's values in the whole array. -/
theorem iblk2_apply (c : Dev nD) (t : Fin cfg0.N) (r : Fin 2048) (d : Fin 1536) :
    (iblk m c 2 t : Vec Ideal S2048x1536 .bf16) (ix2 r d) = (m ((c.tc : Thread nD τ).loc main_arg2) : Vec Ideal S8192x1536 .bf16)
      (ix2 ⟨2048 * (grid0.coords t 0).val + r.val, by
        have h0 : (grid0.coords t 0).val < 4 := (grid0.coords t 0).isLt
        omega⟩ d) := by
  have h0 : (grid0.coords t 0).val < 4 := (grid0.coords t 0).isLt
  obtain ⟨e0, e1, e2, e3⟩ := idx_eq t
  blk_ext [iblk, V_main_arg2, e2]

/-- A product of reals is a real; so is a finite sum of products. -/
theorem real_dot {n : ℕ} (f g : Fin n → EReal) (hf : ∀ d, ∃ s : ℝ, f d = (s : EReal)) (hg : ∀ d, ∃ s : ℝ, g d = (s : EReal)) :
    ∃ s : ℝ, ∑ d : Fin n, f d * g d = (s : EReal) := by
  choose a ha using hf
  choose b hb using hg
  refine ⟨∑ d, a d * b d, ?_⟩
  rw [Softmax.coe_sum]
  exact Finset.sum_congr rfl fun d _ => by rw [ha, hb, EReal.coe_mul]

/-- The result array: causal attention of the arguments at each row and column. -/
def result (q k : Vec Ideal S8192x3072 .bf16) (v : Vec Ideal S8192x1536 .bf16) : Vec Ideal S8192x1536 .bf16 :=
  fun p => AttnSpec.attn (fun r d => q (ix2 r d)) (fun r d => k (ix2 r d)) (fun r d => v (ix2 r d))
    ⟨(p 0).val / 2048, by have : (p 0).val < 8192 := (p 0).isLt; omega⟩
    ⟨(p 1).val / 128, by have : (p 1).val < 1536 := (p 1).isLt; omega⟩
    ⟨(p 0).val % 2048, Nat.mod_lt _ (by decide)⟩ ⟨(p 1).val % 128, Nat.mod_lt _ (by decide)⟩

/-- What a grid point stores at an entry of its block, for finite queries and keys. -/
theorem block_apply (c : Dev nD) (t : Fin cfg0.N) (q k : Vec Ideal S8192x3072 .bf16) (v : Vec Ideal S8192x1536 .bf16)
    (eq : m ((c.tc : Thread nD τ).loc main_arg0) = q) (ek : m ((c.tc : Thread nD τ).loc main_arg1) = k)
    (ev : m ((c.tc : Thread nD τ).loc main_arg2) = v)
    (hq : ∀ i, ∃ s : ℝ, q i = (s : EReal)) (hk : ∀ i, ∃ s : ℝ, k i = (s : EReal)) (r : Fin 512) (l : Fin 1536) :
    blockOut (F := Ideal) (qb (grid0.coords t)) (iblk m c 0 t) (iblk m c 1 t) (iblk m c 2 t) (ix2 r l) =
      result q k v (ix2 ⟨512 * (4 * (grid0.coords t 0).val + (grid0.coords t 1).val) + r.val, by
        have h0 : (grid0.coords t 0).val < 4 := (grid0.coords t 0).isLt
        have h1 : (grid0.coords t 1).val < 4 := (grid0.coords t 1).isLt
        omega⟩ l) := by
  have h0 : (grid0.coords t 0).val < 4 := (grid0.coords t 0).isLt
  have h1 : (grid0.coords t 1).val < 4 := (grid0.coords t 1).isLt
  have hl := l.isLt
  have hr := r.isLt
  have i0 := fun r d => (iblk0_apply m c t r d).trans (congrFun eq _)
  have i1 := fun r d => (iblk1_apply m c t r d).trans (congrFun ek _)
  have i2 := fun r d => (iblk2_apply m c t r d).trans (congrFun ev _)
  show headOut (F := Ideal) ⟨l.val / 128, _⟩ _ _ _ _ (ix2 r ⟨l.val % 128, _⟩) = AttnSpec.attn _ _ _
    ⟨(512 * (4 * (grid0.coords t 0).val + (grid0.coords t 1).val) + r.val) / 2048, _⟩ ⟨l.val / 128, _⟩
    ⟨(512 * (4 * (grid0.coords t 0).val + (grid0.coords t 1).val) + r.val) % 2048, _⟩ ⟨l.val % 128, _⟩
  rw [headOut_apply]
  · unfold AttnSpec.attn
    congr 1
    · funext n
      unfold scores AttnSpec.scores
      have hm : (512 * (4 * (grid0.coords t 0).val + (grid0.coords t 1).val) + r.val) % 2048
        = 512 * (grid0.coords t 1).val + r.val := by omega
      have hd : (512 * (4 * (grid0.coords t 0).val + (grid0.coords t 1).val) + r.val) / 2048 = (grid0.coords t 0).val := by omega
      by_cases hn : n < 2048 ∧ n ≤ 512 * (grid0.coords t 1).val + r.val
      · rw [dif_pos hn, dif_pos ⟨hn.1, by show n ≤ _ % 2048; rw [hm]; exact hn.2⟩]
        unfold score
        refine Finset.sum_congr rfl fun d _ => ?_
        rw [i0, i1]
        congr 2
        · refine congrArg (fun z => ix2 z _) (Fin.ext ?_)
          show 512 * (4 * (grid0.coords t 0).val + (grid0.coords t 1).val) + r.val = 2048 * (_ / 2048) + _ % 2048
          omega
        · refine congrArg (fun z => ix2 z _) (Fin.ext ?_)
          show 2048 * (grid0.coords t 0).val + n = 2048 * (_ / 2048) + n
          rw [hd]
      · rw [dif_neg hn, dif_neg (fun h' => hn ⟨h'.1, by rw [← hm]; exact h'.2⟩)]
    · funext n
      unfold vals AttnSpec.vals
      by_cases hn : n < 2048
      · rw [dif_pos hn, dif_pos hn, i2]
        refine congrArg v (congrArg (fun z => ix2 z _) (Fin.ext ?_))
        show 2048 * (grid0.coords t 0).val + n = 2048 * (_ / 2048) + n
        have hd : (512 * (4 * (grid0.coords t 0).val + (grid0.coords t 1).val) + r.val) / 2048 = (grid0.coords t 0).val := by omega
        rw [hd]
      · rw [dif_neg hn, dif_neg hn]
  · intro n
    unfold score
    refine real_dot _ _ (fun d => ?_) (fun d => ?_)
    · rw [i0]; exact hq _
    · rw [i1]; exact hk _

/-- The kernel's result array after the run, for finite queries and keys. -/
theorem final (c : Dev nD) (q k : Vec Ideal S8192x3072 .bf16) (v : Vec Ideal S8192x1536 .bf16)
    (eq : m ((c.tc : Thread nD τ).loc main_arg0) = q) (ek : m ((c.tc : Thread nD τ).loc main_arg1) = k)
    (ev : m ((c.tc : Thread nD τ).loc main_arg2) = v)
    (hq : ∀ i, ∃ s : ℝ, q i = (s : EReal)) (hk : ∀ i, ∃ s : ℝ, k i = (s : EReal)) :
    (dats m 0 c).arrAt 3 cfg0.N = result q k v := by
  refine (dats m 0 c).arrAt_eq_of_covers 3 _ (by decide +kernel) fun t hf y => ?_
  obtain ⟨e0, e1, e2, e3⟩ := idx_eq t
  blk_simp
  rw [after0_3]
  unfold outsAt0
  rw [out_eq]
  revert y
  show ∀ y : S512x1536.Idx, blockOut (qb (grid0.coords t)) (iblk m c 0 t) (iblk m c 1 t) (iblk m c 2 t) y =
    result q k v ((win0_3.blk t).view.emb y)
  intro y
  idx_vars y
  rw [block_apply m c t q k v eq ek ev hq hk]
  have h0 : (grid0.coords t 0).val < 4 := (grid0.coords t 0).isLt
  have h1 : (grid0.coords t 1).val < 4 := (grid0.coords t 1).isLt
  refine congrArg (result q k v) ?_
  blk_ext [e3]

end Cert.Attn

end
-- ==== Proof.AttnRef.lean ====
/- The attention reference read at an index: a softmax average over the 2048 keys of a sequence. -/
module

public import proofs.«01_k».proof.Proof.Gen.ReferenceIdeal.Run
public import proofs.«01_k».proof.Proof.AttnSpec
public import Idealize.ShloMosaic.Lib.Pointwise
public import Idealize.ShloMosaic.Lib.IdealHost
public import Idealize.ShloMosaic.Lib.WordCmp

@[expose] public section

set_option maxRecDepth 16384

noncomputable section

namespace Cert.AttnRef

open Idealize.ShloMosaic Idealize.ShloMosaic.TcCoe Cert.ReferenceIdeal Cert.ReferenceIdeal.Gen

variable {F : FTy → Type} [FloatOps F]

/-- The scores of all queries against all keys of the same sequence, per head. -/
def sc (q k : FVec F S8192x3072 .bf16) : FVec F S4x12x2048x2048 .f32 :=
  Host.dotGeneral dot_S4x2048x12x256_S4x2048x12x256_S4x12x2048x2048_3_3_1_1_02_02 none
    (shapeCast _ (extf .f32 q bitsLt_bf16_f32) shapeCasts_S8192x3072_S4x2048x12x256)
    (shapeCast _ (extf .f32 k bitsLt_bf16_f32) shapeCasts_S8192x3072_S4x2048x12x256)

/-- Scores of keys after the query replaced by `-∞`. -/
def msk (s : FVec F S4x12x2048x2048 .f32) : FVec F S4x12x2048x2048 .f32 :=
  select (broadcastInDim S4x12x2048x2048 ![2, 3] bcast_S2048x2048_S4x12x2048x2048_2_3
    (cmpi .sle (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0)))))
    s (broadcastInDim S4x12x2048x2048 ![] bcast_S_S4x12x2048x2048 (id (constant S_ .f32 0xFF800000#32)))

/-- The maximum over the keys. -/
def rmax (s : FVec F S4x12x2048x2048 .f32) : FVec F S4x12x2048 .f32 :=
  Host.reduce FloatOps.maximumf s (constant S_ .f32 0xFF800000#32) reducesTo_S4x12x2048x2048_S4x12x2048_d3 h_S_

/-- `exp (s - M)` for a maximum `M` per query. -/
def exOf (s : FVec F S4x12x2048x2048 .f32) (M : FVec F S4x12x2048 .f32) : FVec F S4x12x2048x2048 .f32 :=
  Host.exp (subf s (broadcastInDim S4x12x2048x2048 ![0, 1, 2, 3] bcast_S4x12x2048x1_S4x12x2048x2048_0_1_2_3
    (broadcastInDim S4x12x2048x1 ![0, 1, 2] bcast_S4x12x2048_S4x12x2048x1_0_1_2
      (maximumf (broadcastInDim S4x12x2048 ![] bcast_S_S4x12x2048 (constant S_ .f32 0xFF800000#32)) M))))

/-- `exp (s - max)`, the maximum over the keys. -/
def ex (s : FVec F S4x12x2048x2048 .f32) : FVec F S4x12x2048x2048 .f32 := exOf s (rmax s)

/-- The sum over the keys. -/
def rsum (p : FVec F S4x12x2048x2048 .f32) : FVec F S4x12x2048 .f32 :=
  Host.reduceAdd p (constant S_ .f32 0x00000000#32) reducesTo_S4x12x2048x2048_S4x12x2048_d3 h_S_

/-- Exponentials over a sum per query. -/
def wtsOf (p : FVec F S4x12x2048x2048 .f32) (L : FVec F S4x12x2048 .f32) : FVec F S4x12x2048x2048 .f32 :=
  Host.divf p (broadcastInDim S4x12x2048x2048 ![0, 1, 2, 3] bcast_S4x12x2048x1_S4x12x2048x2048_0_1_2_3
    (broadcastInDim S4x12x2048x1 ![0, 1, 2] bcast_S4x12x2048_S4x12x2048x1_0_1_2 L))

/-- The weights: exponentials over their sum. -/
def wts (p : FVec F S4x12x2048x2048 .f32) : FVec F S4x12x2048x2048 .f32 := wtsOf p (rsum p)

/-- The weighted values, laid out as rows of all heads' columns. -/
def outp (v : FVec F S8192x1536 .bf16) (p : FVec F S4x12x2048x2048 .f32) : FVec F S8192x1536 .bf16 :=
  truncf .bf16 (shapeCast _ (transpose S4x2048x12x128 [0, 3, 1, 2]
    (Host.dotGeneral dot_S4x2048x12x128_S4x12x2048x2048_S4x12x128x2048_1_3_3_2_02_01 none
      (shapeCast _ (extf .f32 v bitsLt_bf16_f32) shapeCasts_S8192x1536_S4x2048x12x128) p)
    transposes_S4x12x128x2048_S4x2048x12x128_0_3_1_2) shapeCasts_S4x2048x12x128_S8192x1536) bitsLt_bf16_f32

/-- The reference's result is these stages composed. -/
theorem res_eq (m : (ℓ : Loc nD τ sig) → Buf (Elt F) ℓ) (c : Dev nD) :
    Value.res_main_v28 (F := F) m c = outp (m ((c.tc : Thread nD τ).loc main_arg2))
      (wts (ex (msk (sc (m ((c.tc : Thread nD τ).loc main_arg0)) (m ((c.tc : Thread nD τ).loc main_arg1)))))) := rfl

variable (b : Fin 4) (h : Fin 12) (i j : Fin 2048)

/-- The 32-bit pattern of `-∞`. -/
theorem ofBits_ninf : Ideal.ofBits .f32 0xFF800000#32 = (⊥ : EReal) := by
  simp [Ideal.ofBits, Ideal.ieee]

/-- A score is the inner product of a query's and a key's columns of the head. -/
theorem sc_apply (q k : FVec Ideal S8192x3072 .bf16) :
    sc (F := Ideal) q k (ix4 b h i j) = ∑ d : Fin 256, q (ix2 ⟨2048 * b.val + i.val, by omega⟩ ⟨256 * h.val + d.val, by omega⟩)
      * k (ix2 ⟨2048 * b.val + j.val, by omega⟩ ⟨256 * h.val + d.val, by omega⟩) := by
  pointwise [sc]
  simp only [mul_comm b.val, mul_comm h.val]

/-- The mask keeps the keys up to the query. -/
theorem msk_apply (s : FVec Ideal S4x12x2048x2048 .f32) :
    msk (F := Ideal) s (ix4 b h i j) = if j.val ≤ i.val then s (ix4 b h i j) else ⊥ := by
  pointwise [msk]
  show Scalar.select _ _ (Ideal.ofBits .f32 0xFF800000#32) = _
  rw [ofBits_ninf, WordCmp.cmpi_sle_ofNat (by have := j.isLt; omega) (by have := i.isLt; omega)]
  by_cases h : j.val ≤ i.val
  · simp [h, Scalar.select]
  · simp [h, Scalar.select]

theorem reduces_keys : S4x12x2048x2048.Reduces [3] S4x12x2048 := by decide

theorem lift_keys (n : Fin 2048) : reduces_keys.lift (ix3 b h i) n = ix4 b h i n := by
  funext a
  match a with
  | ⟨0, _⟩ => rfl
  | ⟨1, _⟩ => rfl
  | ⟨2, _⟩ => rfl
  | ⟨3, _⟩ => rfl

/-- The maximum is the supremum over the keys. -/
theorem rmax_apply (s : FVec Ideal S4x12x2048x2048 .f32) :
    rmax (F := Ideal) s (ix3 b h i) = Finset.univ.sup fun n : Fin 2048 => s (ix4 b h i n) := by
  unfold rmax
  rw [Host.reduce_eq_fold_single FloatOps.maximumf s _ _ reduces_keys]
  show (Finset.univ : Finset (Fin 2048)).fold max (Ideal.ofBits .f32 0xFF800000#32) _ = _
  rw [ofBits_ninf]
  exact Finset.fold_congr fun n _ => congrArg s (lift_keys b h i n)

/-- The exponentials relative to a maximum. -/
theorem exOf_apply (s : FVec Ideal S4x12x2048x2048 .f32) (M : FVec Ideal S4x12x2048 .f32) :
    exOf (F := Ideal) s M (ix4 b h i j) = Ideal.exp (s (ix4 b h i j) - M (ix3 b h i)) := by
  pointwise [exOf]
  rw [ofBits_ninf, bot_sup_eq]

/-- The exponentials relative to the supremum. -/
theorem ex_apply (s : FVec Ideal S4x12x2048x2048 .f32) :
    ex (F := Ideal) s (ix4 b h i j) = Ideal.exp (s (ix4 b h i j) - Finset.univ.sup fun n : Fin 2048 => s (ix4 b h i n)) := by
  rw [ex, exOf_apply, rmax_apply]

/-- The sum is the sum over the keys. -/
theorem rsum_apply (s : FVec Ideal S4x12x2048x2048 .f32) :
    rsum (F := Ideal) s (ix3 b h i) = ∑ n : Fin 2048, s (ix4 b h i n) := by
  unfold rsum
  rw [ValueIdx.hostReduceAdd_apply]
  refine (Ideal.hostReduceAdd_single _ reduces_keys _ _ _).trans ?_
  have e : constant (F := Ideal) S_ .f32 0x00000000#32 (Shape.Idx.first h_S_) = (0 : EReal) := Ideal.ofBits_zero_f32
  rw [e]
  refine (zero_add _).trans ?_
  exact Finset.sum_congr rfl fun n _ => congrArg s (lift_keys b h i n)

/-- Exponentials over a sum. -/
theorem wtsOf_apply (s : FVec Ideal S4x12x2048x2048 .f32) (L : FVec Ideal S4x12x2048 .f32) :
    wtsOf (F := Ideal) s L (ix4 b h i j) = Ideal.div (s (ix4 b h i j)) (L (ix3 b h i)) := by
  pointwise [wtsOf]

/-- The weights: an exponential over the sum of all. -/
theorem wts_apply (s : FVec Ideal S4x12x2048x2048 .f32) :
    wts (F := Ideal) s (ix4 b h i j) = Ideal.div (s (ix4 b h i j)) (∑ n : Fin 2048, s (ix4 b h i n)) := by
  rw [wts, wtsOf_apply, rsum_apply]

/-- The result: the weighted sum of the values' columns of the head. -/
theorem outp_apply (v : FVec Ideal S8192x1536 .bf16) (p : FVec Ideal S4x12x2048x2048 .f32) (e : Fin 128) :
    outp (F := Ideal) v p (ix2 ⟨2048 * b.val + i.val, by omega⟩ ⟨128 * h.val + e.val, by omega⟩)
      = ∑ n : Fin 2048, v (ix2 ⟨2048 * b.val + n.val, by omega⟩ ⟨128 * h.val + e.val, by omega⟩) * p (ix4 b h i n) := by
  pointwise [outp]
  simp only [mul_comm b.val, mul_comm h.val]

/-- The masked scores of a query are those of the specification. -/
theorem msk_sc_apply (q k : FVec Ideal S8192x3072 .bf16) :
    msk (F := Ideal) (sc (F := Ideal) q k) (ix4 b h i j) = AttnSpec.scores (fun r d => q (ix2 r d)) (fun r d => k (ix2 r d)) b h i j.val := by
  rw [msk_apply]
  unfold AttnSpec.scores
  by_cases hj : j.val ≤ i.val
  · rw [if_pos hj, dif_pos ⟨j.isLt, hj⟩, sc_apply]
  · rw [if_neg hj, dif_neg (fun hn => hj hn.2)]

/-- The reference's result is causal attention of its arguments. -/
theorem res_apply (m : (ℓ : Loc nD τ sig) → Buf (Elt Ideal) ℓ) (c : Dev nD) (e : Fin 128) (q k : FVec Ideal S8192x3072 .bf16)
    (v : FVec Ideal S8192x1536 .bf16) (hq : m ((c.tc : Thread nD τ).loc main_arg0) = q) (hk : m ((c.tc : Thread nD τ).loc main_arg1) = k)
    (hv : m ((c.tc : Thread nD τ).loc main_arg2) = v) :
    (Value.res_main_v28 (F := Ideal) m c : FVec Ideal S8192x1536 .bf16) (ix2 ⟨2048 * b.val + i.val, by omega⟩ ⟨128 * h.val + e.val, by omega⟩)
      = AttnSpec.attn (fun r d => q (ix2 r d)) (fun r d => k (ix2 r d)) (fun r d => v (ix2 r d)) b h i e := by
  rw [res_eq, hq, hk, hv]
  refine (outp_apply b h i v _ e).trans ?_
  unfold AttnSpec.attn Softmax.average
  refine Finset.sum_congr rfl fun n _ => ?_
  rw [wts_apply]
  simp only [ex_apply, msk_sc_apply]
  unfold AttnSpec.vals
  rw [dif_pos n.isLt]

end Cert.AttnRef

end
-- ==== Proof.AttnClaim.lean ====
/- The attention's claims: its frames, and that kernel and reference leave the same array. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_finite_qk
public import proofs.«01_k».proof.Proof.AttnKernel
public import proofs.«01_k».proof.Proof.AttnRef
public import Idealize.ShloMosaic.Lib.Pointwise
public import Idealize.ShloMosaic.Lib.IdealHost

@[expose] public section

set_option maxRecDepth 16384

noncomputable section

namespace Cert.AttnClaim

open Idealize.ShloMosaic Idealize.ShloMosaic.TcCoe Idealize.SL.Sem

/-- A number whose absolute value is below +∞ is real. -/
theorem real_of_abs_lt (x : EReal) (h : max x (-x) < ⊤) : ∃ s : ℝ, x = (s : EReal) := by
  induction x with
  | bot => simp at h
  | top => simp at h
  | coe s => exact ⟨s, rfl⟩

theorem inf_f32 : (FloatOps.ofBits FTy.f32 0x7F800000#32 : Ideal .f32) = (⊤ : EReal) := by
  simp [Ideal.ofBits, Ideal.ieee]

/-- The precondition read at an entry: both absolute values are below +∞. -/
theorem fn_apply (q k : FVec Ideal Cert.Pre_finite_qk.S8192x3072 .bf16) (v : FVec Ideal Cert.Pre_finite_qk.S8192x1536 .bf16)
    (h : Cert.Pre_finite_qk.fn (F := Ideal) q k v = fun _ => 1#1) (r : Fin 8192) (d : Fin 3072) :
    (∃ s : ℝ, (q (ix2 r d) : EReal) = (s : EReal)) ∧ ∃ s : ℝ, (k (ix2 r d) : EReal) = (s : EReal) := by
  have e := congrFun h (ix2 r d)
  have e' : BitVec.ofBool (decide (max (q (ix2 r d) : EReal) (-(q (ix2 r d) : EReal)) < (⊤ : EReal))) &&&
      BitVec.ofBool (decide (max (k (ix2 r d) : EReal) (-(k (ix2 r d) : EReal)) < (⊤ : EReal))) = 1#1 := by
    rw [← e, ← inf_f32]
    rfl
  have e2 : max (q (ix2 r d) : EReal) (-(q (ix2 r d) : EReal)) < (⊤ : EReal) ∧
      max (k (ix2 r d) : EReal) (-(k (ix2 r d) : EReal)) < (⊤ : EReal) := by
    by_cases a : max (q (ix2 r d) : EReal) (-(q (ix2 r d) : EReal)) < (⊤ : EReal) <;>
      by_cases b : max (k (ix2 r d) : EReal) (-(k (ix2 r d) : EReal)) < (⊤ : EReal) <;>
      simp_all
  exact ⟨real_of_abs_lt _ e2.1, real_of_abs_lt _ e2.2⟩

theorem ix2_eta {n0 n1 : ℕ} (p : (⟨2, ![n0, n1]⟩ : Shape).Idx) : p = ix2 (p 0) (p 1) := by
  funext a
  match a with
  | ⟨0, _⟩ => rfl
  | ⟨1, _⟩ => rfl

/-- The reference's result is causal attention of its arguments. -/
theorem ref_eq (m : (ℓ : Loc Cert.ReferenceIdeal.nD Cert.ReferenceIdeal.τ Cert.ReferenceIdeal.sig) → Buf (Elt Ideal) ℓ)
    (c : Dev Cert.ReferenceIdeal.nD) (q k : FVec Ideal Cert.ReferenceIdeal.S8192x3072 .bf16)
    (v : FVec Ideal Cert.ReferenceIdeal.S8192x1536 .bf16)
    (hq : m ((c.tc : Thread Cert.ReferenceIdeal.nD Cert.ReferenceIdeal.τ).loc Cert.ReferenceIdeal.main_arg0) = q)
    (hk : m ((c.tc : Thread Cert.ReferenceIdeal.nD Cert.ReferenceIdeal.τ).loc Cert.ReferenceIdeal.main_arg1) = k)
    (hv : m ((c.tc : Thread Cert.ReferenceIdeal.nD Cert.ReferenceIdeal.τ).loc Cert.ReferenceIdeal.main_arg2) = v) :
    (Cert.ReferenceIdeal.Value.res_main_v28 (F := Ideal) m c : FVec Ideal Cert.ReferenceIdeal.S8192x1536 .bf16)
      = Cert.Attn.result q k v := by
  funext p
  have h0 : (p 0).val < 8192 := (p 0).isLt
  have h1 : (p 1).val < 1536 := (p 1).isLt
  refine Eq.trans ?_ (AttnRef.res_apply ⟨(p 0).val / 2048, by omega⟩ ⟨(p 1).val / 128, by omega⟩
    ⟨(p 0).val % 2048, Nat.mod_lt _ (by decide)⟩ m c ⟨(p 1).val % 128, Nat.mod_lt _ (by decide)⟩ q k v hq hk hv)
  congr 1
  funext a
  match a with
  | ⟨0, _⟩ => exact Fin.ext (show (p 0).val = 2048 * ((p 0).val / 2048) + (p 0).val % 2048 by omega)
  | ⟨1, _⟩ => exact Fin.ext (show (p 1).val = 128 * ((p 1).val / 128) + (p 1).val % 128 by omega)

theorem frame_k : Cert.quiescent_Kernel := fun m ρ _ => Cert.Kernel.Gen.frame m ρ
theorem frame_ki : Cert.quiescent_KernelIdeal := fun m ρ _ => Cert.KernelIdeal.Gen.frame m ρ
theorem frame_ki_pre : Cert.quiescent_KernelIdeal_pre_finite_qk := fun m ρ _ => Cert.KernelIdeal.Gen.frame m ρ

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ref_pre : Cert.quiescent_ReferenceIdeal_pre_finite_qk := fun m ρ _ => frame_ref m ρ trivial

theorem preserves : Cert.preserves_Kernel_KernelIdeal := trivial

/-- Kernel and reference leave the same array, for finite queries and keys. -/
theorem algebraic : Cert.algebraic_KernelIdeal_ReferenceIdeal_pre_finite_qk := by
  intro m ρ m' ρ' hpre hag
  refine ⟨fun c => Cert.Attn.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Value.run_blocks (F := Ideal) m ρ)
    refine Cert.Attn.final m c _ _ _ rfl rfl rfl (fun i => ?_) (fun i => ?_)
    · rw [ix2_eta i]; exact (fn_apply _ _ _ (hpre c) _ _).1
    · rw [ix2_eta i]; exact (fn_apply _ _ _ (hpre c) _ _).2
  · refine (θ_run Cert.ReferenceIdeal.defs _ _).mono (fun _ h c => ⟨(h c).1.trans ?_, (h c).2⟩)
      (Cert.ReferenceIdeal.Value.run (F := Ideal) m' ρ')
    exact ref_eq m' c _ _ _ (hag c).1 (hag c).2.1 (hag c).2.2

end Cert.AttnClaim

end
-- ==== Proof.Frames.lean ====
/- The frames of the further calls: each terminates without a fault, leaves its arguments unchanged, and ends with every
   semaphore counter at zero. -/
module

public import proofs.«01_k».proof.Defs
public import proofs.«01_k».proof.Proof.Gen.Mlp.Frame
public import proofs.«01_k».proof.Proof.Gen.MlpIdeal.Frame
public import proofs.«01_k».proof.Proof.Gen.MlpRefIdeal.Run
public import proofs.«01_k».proof.Proof.Gen.MlpFinal.Frame
public import proofs.«01_k».proof.Proof.Gen.MlpFinalIdeal.Frame
public import proofs.«01_k».proof.Proof.Gen.MlpFinalRefIdeal.Run
public import proofs.«01_k».proof.Proof.Gen.InCd.Frame
public import proofs.«01_k».proof.Proof.Gen.InCdIdeal.Frame
public import proofs.«01_k».proof.Proof.Gen.InCdRefIdeal.Run
public import proofs.«01_k».proof.Proof.Gen.OutAb.Frame
public import proofs.«01_k».proof.Proof.Gen.OutAbIdeal.Frame
public import proofs.«01_k».proof.Proof.Gen.OutAbRefIdeal.Run
public import proofs.«01_k».proof.Proof.Gen.OutCd.Frame
public import proofs.«01_k».proof.Proof.Gen.OutCdIdeal.Frame
public import proofs.«01_k».proof.Proof.Gen.OutCdRefIdeal.Run
public import proofs.«01_k».proof.Proof.Gen.Pre_finite_ab
public import proofs.«01_k».proof.Proof.Gen.InAb.Frame
public import proofs.«01_k».proof.Proof.Gen.InAbIdeal.Frame
public import proofs.«01_k».proof.Proof.Gen.InAbRefIdeal.Run
public import proofs.«01_k».proof.Proof.Gen.Pre_finite_ab_s
public import proofs.«01_k».proof.Proof.Gen.InAbS.Frame
public import proofs.«01_k».proof.Proof.Gen.InAbSIdeal.Frame
public import proofs.«01_k».proof.Proof.Gen.InAbSRefIdeal.Run
public import proofs.«01_k».proof.Proof.Gen.MlpFinalS.Frame
public import proofs.«01_k».proof.Proof.Gen.MlpFinalSIdeal.Frame
public import proofs.«01_k».proof.Proof.Gen.MlpFinalSRefIdeal.Run
public import proofs.«01_k».proof.Proof.Gen.InCdS.Frame
public import proofs.«01_k».proof.Proof.Gen.InCdSIdeal.Frame
public import proofs.«01_k».proof.Proof.Gen.InCdSRefIdeal.Run
public import proofs.«01_k».proof.Proof.Gen.Unabsorb.Frame
public import proofs.«01_k».proof.Proof.Gen.UnabsorbIdeal.Frame
public import proofs.«01_k».proof.Proof.Gen.UnabsorbRefIdeal.Run
public import proofs.«01_k».proof.Proof.Gen.PoolS.Frame
public import proofs.«01_k».proof.Proof.Gen.PoolSIdeal.Frame
public import proofs.«01_k».proof.Proof.Gen.PoolSRefIdeal.Run
public import proofs.«01_k».proof.Proof.Gen.ConvS.Frame
public import proofs.«01_k».proof.Proof.Gen.ConvSIdeal.Frame
public import proofs.«01_k».proof.Proof.Gen.ConvSRefIdeal.Run
public import proofs.«01_k».proof.Proof.Gen.Pool.Frame
public import proofs.«01_k».proof.Proof.Gen.PoolIdeal.Frame
public import proofs.«01_k».proof.Proof.Gen.PoolRefIdeal.Run

@[expose] public section

namespace Cert.Frames

open Idealize.ShloMosaic Idealize.ShloMosaic.TcCoe Idealize.SL.Sem

theorem Mlp.kernel : Cert.quiescent_Mlp := fun m ρ _ => Cert.Mlp.Gen.frame m ρ
theorem Mlp.ideal : Cert.quiescent_MlpIdeal := fun m ρ _ => Cert.MlpIdeal.Gen.frame m ρ
theorem Mlp.ref : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

theorem MlpFinal.kernel : Cert.quiescent_MlpFinal := fun m ρ _ => Cert.MlpFinal.Gen.frame m ρ
theorem MlpFinal.ideal : Cert.quiescent_MlpFinalIdeal := fun m ρ _ => Cert.MlpFinalIdeal.Gen.frame m ρ
theorem MlpFinal.ref : Cert.quiescent_MlpFinalRefIdeal := fun m ρ _ =>
  (θ_run Cert.MlpFinalRefIdeal.defs _ _).mono (fun r h => ⟨fun c => (h c).2, sem_eq_zero_of_no_sems (by decide) r.2⟩)
    (Cert.MlpFinalRefIdeal.Value.run (F := Ideal) m ρ)

theorem InCd.kernel : Cert.quiescent_InCd := fun m ρ _ => Cert.InCd.Gen.frame m ρ
theorem InCd.ideal : Cert.quiescent_InCdIdeal := fun m ρ _ => Cert.InCdIdeal.Gen.frame m ρ
theorem InCd.ref : Cert.quiescent_InCdRefIdeal := fun m ρ _ =>
  (θ_run Cert.InCdRefIdeal.defs _ _).mono (fun r h => ⟨fun c => (h c).2.2.2, sem_eq_zero_of_no_sems (by decide) r.2⟩)
    (Cert.InCdRefIdeal.Value.run (F := Ideal) m ρ)

theorem OutAb.kernel : Cert.quiescent_OutAb := fun m ρ _ => Cert.OutAb.Gen.frame m ρ
theorem OutAb.ideal : Cert.quiescent_OutAbIdeal := fun m ρ _ => Cert.OutAbIdeal.Gen.frame m ρ
theorem OutAb.ref : Cert.quiescent_OutAbRefIdeal := fun m ρ _ =>
  (θ_run Cert.OutAbRefIdeal.defs _ _).mono (fun r h => ⟨fun c => (h c).2, sem_eq_zero_of_no_sems (by decide) r.2⟩)
    (Cert.OutAbRefIdeal.Value.run (F := Ideal) m ρ)

theorem OutCd.kernel : Cert.quiescent_OutCd := fun m ρ _ => Cert.OutCd.Gen.frame m ρ
theorem OutCd.ideal : Cert.quiescent_OutCdIdeal := fun m ρ _ => Cert.OutCdIdeal.Gen.frame m ρ
theorem OutCd.ref : Cert.quiescent_OutCdRefIdeal := fun m ρ _ =>
  (θ_run Cert.OutCdRefIdeal.defs _ _).mono (fun r h => ⟨fun c => (h c).2, sem_eq_zero_of_no_sems (by decide) r.2⟩)
    (Cert.OutCdRefIdeal.Value.run (F := Ideal) m ρ)

theorem InAb.kernel : Cert.quiescent_InAb := fun m ρ _ => Cert.InAb.Gen.frame m ρ
theorem InAb.ideal : Cert.quiescent_InAbIdeal := fun m ρ _ => Cert.InAbIdeal.Gen.frame m ρ
theorem InAb.ref : Cert.quiescent_InAbRefIdeal := fun m ρ _ =>
  (θ_run Cert.InAbRefIdeal.defs _ _).mono (fun r h => ⟨fun c => (h c).2.2.2.2.2.2, sem_eq_zero_of_no_sems (by decide) r.2⟩)
    (Cert.InAbRefIdeal.Value.run (F := Ideal) m ρ)

theorem InAbS.kernel : Cert.quiescent_InAbS := fun m ρ _ => Cert.InAbS.Gen.frame m ρ
theorem InAbS.ideal : Cert.quiescent_InAbSIdeal := fun m ρ _ => Cert.InAbSIdeal.Gen.frame m ρ
theorem InAbS.ref : Cert.quiescent_InAbSRefIdeal := fun m ρ _ =>
  (θ_run Cert.InAbSRefIdeal.defs _ _).mono (fun r h => ⟨fun c => (h c).2.2.2.2.2, sem_eq_zero_of_no_sems (by decide) r.2⟩)
    (Cert.InAbSRefIdeal.Value.run (F := Ideal) m ρ)

theorem MlpFinalS.kernel : Cert.quiescent_MlpFinalS := fun m ρ _ => Cert.MlpFinalS.Gen.frame m ρ
theorem MlpFinalS.ideal : Cert.quiescent_MlpFinalSIdeal := fun m ρ _ => Cert.MlpFinalSIdeal.Gen.frame m ρ
theorem MlpFinalS.ref : Cert.quiescent_MlpFinalSRefIdeal := fun m ρ _ =>
  (θ_run Cert.MlpFinalSRefIdeal.defs _ _).mono (fun r h => ⟨fun c => (h c).2, sem_eq_zero_of_no_sems (by decide) r.2⟩)
    (Cert.MlpFinalSRefIdeal.Value.run (F := Ideal) m ρ)

theorem InCdS.kernel : Cert.quiescent_InCdS := fun m ρ _ => Cert.InCdS.Gen.frame m ρ
theorem InCdS.ideal : Cert.quiescent_InCdSIdeal := fun m ρ _ => Cert.InCdSIdeal.Gen.frame m ρ
theorem InCdS.ref : Cert.quiescent_InCdSRefIdeal := fun m ρ _ =>
  (θ_run Cert.InCdSRefIdeal.defs _ _).mono (fun r h => ⟨fun c => (h c).2.2.2, sem_eq_zero_of_no_sems (by decide) r.2⟩)
    (Cert.InCdSRefIdeal.Value.run (F := Ideal) m ρ)

theorem Unabsorb.kernel : Cert.quiescent_Unabsorb := fun m ρ _ => Cert.Unabsorb.Gen.frame m ρ
theorem Unabsorb.ideal : Cert.quiescent_UnabsorbIdeal := fun m ρ _ => Cert.UnabsorbIdeal.Gen.frame m ρ
theorem Unabsorb.ref : Cert.quiescent_UnabsorbRefIdeal := fun m ρ _ =>
  (θ_run Cert.UnabsorbRefIdeal.defs _ _).mono (fun r h => ⟨fun c => (h c).2, sem_eq_zero_of_no_sems (by decide) r.2⟩)
    (Cert.UnabsorbRefIdeal.Value.run (F := Ideal) m ρ)

theorem PoolS.kernel : Cert.quiescent_PoolS := fun m ρ _ => Cert.PoolS.Gen.frame m ρ
theorem PoolS.ideal : Cert.quiescent_PoolSIdeal := fun m ρ _ => Cert.PoolSIdeal.Gen.frame m ρ
theorem PoolS.ref : Cert.quiescent_PoolSRefIdeal := fun m ρ _ =>
  (θ_run Cert.PoolSRefIdeal.defs _ _).mono (fun r h => ⟨fun c => (h c).2, sem_eq_zero_of_no_sems (by decide) r.2⟩)
    (Cert.PoolSRefIdeal.Value.run (F := Ideal) m ρ)

theorem ConvS.kernel : Cert.quiescent_ConvS := fun m ρ _ => Cert.ConvS.Gen.frame m ρ
theorem ConvS.ideal : Cert.quiescent_ConvSIdeal := fun m ρ _ => Cert.ConvSIdeal.Gen.frame m ρ
theorem ConvS.ref : Cert.quiescent_ConvSRefIdeal := fun m ρ _ =>
  (θ_run Cert.ConvSRefIdeal.defs _ _).mono (fun r h => ⟨fun c => (h c).2, sem_eq_zero_of_no_sems (by decide) r.2⟩)
    (Cert.ConvSRefIdeal.Value.run (F := Ideal) m ρ)

theorem Pool.kernel : Cert.quiescent_Pool := fun m ρ _ => Cert.Pool.Gen.frame m ρ
theorem Pool.ideal : Cert.quiescent_PoolIdeal := fun m ρ _ => Cert.PoolIdeal.Gen.frame m ρ
theorem Pool.ref : Cert.quiescent_PoolRefIdeal := fun m ρ _ =>
  (θ_run Cert.PoolRefIdeal.defs _ _).mono (fun r h => ⟨fun c => (h c).2, sem_eq_zero_of_no_sems (by decide) r.2⟩)
    (Cert.PoolRefIdeal.Value.run (F := Ideal) m ρ)

theorem InAb.ideal_pre : Cert.quiescent_InAbIdeal_pre_finite_ab := fun m ρ _ => Cert.InAbIdeal.Gen.frame m ρ
theorem InAb.ref_pre : Cert.quiescent_InAbRefIdeal_pre_finite_ab := fun m ρ _ =>
  (θ_run Cert.InAbRefIdeal.defs _ _).mono (fun r h => ⟨fun c => (h c).2.2.2.2.2.2, sem_eq_zero_of_no_sems (by decide) r.2⟩)
    (Cert.InAbRefIdeal.Value.run (F := Ideal) m ρ)

theorem InAbS.ideal_pre : Cert.quiescent_InAbSIdeal_pre_finite_ab_s := fun m ρ _ => Cert.InAbSIdeal.Gen.frame m ρ
theorem InAbS.ref_pre : Cert.quiescent_InAbSRefIdeal_pre_finite_ab_s := fun m ρ _ =>
  (θ_run Cert.InAbSRefIdeal.defs _ _).mono (fun r h => ⟨fun c => (h c).2.2.2.2.2, sem_eq_zero_of_no_sems (by decide) r.2⟩)
    (Cert.InAbSRefIdeal.Value.run (F := Ideal) m ρ)

end Cert.Frames

end
-- ==== Proof.MlpSpec.lean ====
/- The squared-ReLU MLP with its root-mean-square norm, as numbers. -/
module

public import Idealize.ShloMosaic.Lib.Claim
public import Idealize.ShloMosaic.Lib.Pointwise
public import Idealize.ShloMosaic.Lib.IdealHost
public import Idealize.ShloMosaic.Lib.Pipeline.ValueKit

@[expose] public section

noncomputable section

namespace Cert.Spec

open Idealize.ShloMosaic

/-- A row's entry after the root-mean-square norm with gain `g`. -/
def rms (x g : Fin 2048 → EReal) (d : Fin 2048) : EReal :=
  x d * Ideal.rsqrt (Ideal.div (∑ k : Fin 2048, x k * x k) (Ideal.ofBits .f32 0x45000000#32) + Ideal.ofBits .f32 0x358637BD#32) * g d

/-- A hidden unit: the squared ReLU of a row's product with a column. -/
def unit (x w : Fin 2048 → EReal) : EReal :=
  max (∑ k : Fin 2048, x k * w k) 0 * max (∑ k : Fin 2048, x k * w k) 0

/-- The logistic function. -/
def gate (z : EReal) : EReal :=
  Ideal.div 1 (1 + Ideal.exp (-z))

/-- A row's product with a column. -/
def dot (x w : Fin 2048 → EReal) : EReal := ∑ k : Fin 2048, x k * w k

/-- The residual entry plus the sum over all hidden units. -/
def mlp (x g : Fin 2048 → EReal) (u : Fin 2048 → Fin 8192 → EReal) (w : Fin 8192 → Fin 2048 → EReal) (l : Fin 2048) : EReal :=
  x l + ∑ h : Fin 8192, unit (rms x g) (fun k => u k h) * w h l

/-- The residual entry plus the sum over the first `j` blocks of 1024 hidden units. -/
def part (x : EReal) (f : Fin 8192 → EReal) (j : ℕ) : EReal :=
  x + ∑ i ∈ Finset.range (1024 * j), if h : i < 8192 then f ⟨i, h⟩ else 0

theorem part_zero (x : EReal) (f : Fin 8192 → EReal) : part x f 0 = x := by
  simp [part]

theorem part_succ (x : EReal) (f : Fin 8192 → EReal) (j : ℕ) (hj : j < 8) :
    part x f (j + 1) = part x f j + ∑ k : Fin 1024, f ⟨1024 * j + k.val, by omega⟩ := by
  unfold part
  rw [Nat.mul_succ, Finset.sum_range_add, add_assoc, Finset.sum_range (n := 1024)]
  refine congrArg _ (congrArg _ (Finset.sum_congr rfl fun k _ => ?_))
  rw [dif_pos]

theorem part_eight (x : EReal) (f : Fin 8192 → EReal) : part x f 8 = x + ∑ h : Fin 8192, f h := by
  unfold part
  rw [show 1024 * 8 = 8192 from rfl, Finset.sum_range]
  refine congrArg _ (Finset.sum_congr rfl fun k _ => ?_)
  rw [dif_pos k.isLt]

end Cert.Spec

end
-- ==== Proof.MlpKernel.lean ====
/- The MLP kernel's result array: the residual plus the sum over all hidden units. -/
module

public import proofs.«01_k».proof.Proof.Gen.MlpIdeal.Value
public import proofs.«01_k».proof.Proof.MlpSpec

@[expose] public section

set_option maxRecDepth 16384

noncomputable section

namespace Cert.MlpKernel

open Idealize.ShloMosaic Idealize.ShloMosaic.TcCoe Idealize.SL.Sem Cert.MlpIdeal Cert.MlpIdeal.Gen

theorem pay1_apply (x : Vec Ideal S512x2048 .f32) (g : Vec Ideal S1x2048 .f32) (r : Fin 512) (d : Fin 2048) :
    k0_pay1 x g (ix2 r d) = Spec.rms (fun k => x (ix2 r k)) (fun k => g (ix2 0 k)) d := by
  unfold Spec.rms
  pointwise [k0_pay1]

theorem pay2_apply (n : Vec Ideal S512x2048 .bf16) (u : Vec Ideal S1x2048x1024 .bf16) (o : Vec Ideal S512x2048 .f32)
    (w : Vec Ideal S1x1024x2048 .bf16) (r : Fin 512) (l : Fin 2048) :
    k0_pay2 n u o w (ix2 r l) = (o (ix2 r l) : EReal) +
      ∑ j : Fin 1024, Spec.unit (fun k => n (ix2 r k)) (fun k => u (ix3 0 k j)) * (w (ix3 0 j l) : EReal) := by
  unfold Spec.unit
  pointwise [k0_pay2]

variable (m : (ℓ : Loc nD τ sig) → Buf (Elt Ideal) ℓ)

theorem step_A (c : Dev nD) (t : Fin cfg0.N) (h : t.val % 8 = 0) :
    outsAt0 m c t.val t.isLt = (k0_pay2 (k0_pay1 (iblk m c 0 t) (iblk m c 1 t)) (iblk m c 2 t) (iblk m c 0 t) (iblk m c 3 t),
      k0_pay1 (iblk m c 0 t) (iblk m c 1 t)) := by
  rw [outsAt0_A m c t h]
  refine Prod.ext ?_ ?_
  · frame_out
  · frame_out

theorem step_B (c : Dev nD) (t : Fin cfg0.N) (h : ¬t.val % 8 = 0) (hp : t.val - 1 < cfg0.N) :
    outsAt0 m c t.val t.isLt = (k0_pay2 (outsAt0 m c (t.val - 1) hp).2 (iblk m c 2 t) (outsAt0 m c (t.val - 1) hp).1 (iblk m c 3 t),
      (outsAt0 m c (t.val - 1) hp).2) := by
  rw [outsAt0_B m c t h]
  refine Prod.ext ?_ ?_
  · frame_out
    exact congrArg (fun n => k0_pay2 n (iblk m c 2 t) (outsAt0 m c (t.val - 1) hp).1 (iblk m c 3 t)) (Memref.IsWhole.read_unread _ _)
  · rfl

theorem idx_eq : ∀ t : Fin cfg0.N, win0_0.index t = ![t.val / 8, 0] ∧ win0_1.index t = ![0, 0] ∧ win0_2.index t = ![0, 0, t.val % 8]
    ∧ win0_3.index t = ![0, t.val % 8, 0] ∧ win0_5.index t = ![t.val / 8, 0] :=
  (by decide +kernel : ∀ t : Fin grid0.N, win0_0.index t = ![t.val / 8, 0] ∧ win0_1.index t = ![0, 0] ∧ win0_2.index t = ![0, 0, t.val % 8]
    ∧ win0_3.index t = ![0, t.val % 8, 0] ∧ win0_5.index t = ![t.val / 8, 0])

/-- A row block's entry in the whole array. -/
theorem iblk0_apply (c : Dev nD) (t : Fin cfg0.N) (r : Fin 512) (d : Fin 2048) :
    (iblk m c 0 t : Vec Ideal S512x2048 .f32) (ix2 r d) = (m ((c.tc : Thread nD τ).loc main_arg0) : Vec Ideal S8192x2048 .f32)
      (ix2 ⟨512 * (t.val / 8) + r.val, by have h : t.val < 128 := t.isLt; omega⟩ d) := by
  have h : t.val < 128 := t.isLt
  obtain ⟨e0, e1, e2, e3, e5⟩ := idx_eq t
  blk_ext [iblk, V_main_arg0, e0]

theorem iblk1_apply (c : Dev nD) (t : Fin cfg0.N) (d : Fin 2048) :
    (iblk m c 1 t : Vec Ideal S1x2048 .f32) (ix2 0 d) = (m ((c.tc : Thread nD τ).loc main_arg1) : Vec Ideal S2048 .f32) (ix1 d) := by
  have h : t.val < 128 := t.isLt
  obtain ⟨e0, e1, e2, e3, e5⟩ := idx_eq t
  have hb : (iblk m c 1 t : Vec Ideal S1x2048 .f32) (ix2 0 d) = (V m c main_v0 : Vec Ideal S1x2048 .f32) (ix2 0 d) := by
    blk_ext [iblk, e1]
  rw [hb]
  entry_read
  pointwise

theorem iblk2_apply (c : Dev nD) (t : Fin cfg0.N) (d : Fin 2048) (k : Fin 1024) :
    ((iblk m c 2 t : Vec Ideal S1x2048x1024 .bf16) (ix3 0 d k) : EReal) = (m ((c.tc : Thread nD τ).loc main_arg2) : Vec Ideal S2x2048x8192 .f32)
      (ix3 0 d ⟨1024 * (t.val % 8) + k.val, by omega⟩) := by
  have h : t.val < 128 := t.isLt
  obtain ⟨e0, e1, e2, e3, e5⟩ := idx_eq t
  have hb : (iblk m c 2 t : Vec Ideal S1x2048x1024 .bf16) (ix3 0 d k) = (V m c main_v1 : Vec Ideal S2x2048x8192 .bf16)
      (ix3 0 d ⟨1024 * (t.val % 8) + k.val, by omega⟩) := by
    blk_ext [iblk, e2]
  rw [hb]
  entry_read
  rfl

theorem iblk3_apply (c : Dev nD) (t : Fin cfg0.N) (d : Fin 2048) (k : Fin 1024) :
    ((iblk m c 3 t : Vec Ideal S1x1024x2048 .bf16) (ix3 0 k d) : EReal) = (m ((c.tc : Thread nD τ).loc main_arg3) : Vec Ideal S2x8192x2048 .f32)
      (ix3 0 ⟨1024 * (t.val % 8) + k.val, by omega⟩ d) := by
  have h : t.val < 128 := t.isLt
  obtain ⟨e0, e1, e2, e3, e5⟩ := idx_eq t
  have hb : (iblk m c 3 t : Vec Ideal S1x1024x2048 .bf16) (ix3 0 k d) = (V m c main_v2 : Vec Ideal S2x8192x2048 .bf16)
      (ix3 0 ⟨1024 * (t.val % 8) + k.val, by omega⟩ d) := by
    blk_ext [iblk, e3]
  rw [hb]
  entry_read
  rfl

/-- The array's entry: the residual row through the MLP of layer 0. -/
def result (x : FVec Ideal S8192x2048 .f32) (g : FVec Ideal S2048 .f32) (u : FVec Ideal S2x2048x8192 .f32)
    (w : FVec Ideal S2x8192x2048 .f32) : FVec Ideal S8192x2048 .f32 :=
  fun p => Spec.mlp (fun k => x (ix2 ⟨(p 0).val, (p 0).isLt⟩ k)) (fun k => g (ix1 k)) (fun k h => u (ix3 0 k h))
    (fun h l => w (ix3 0 h l)) ⟨(p 1).val, (p 1).isLt⟩

/-- The row of the residual array a block's row is. -/
def row (x : FVec Ideal S8192x2048 .f32) (n : ℕ) (hn : n < cfg0.N) (r : Fin 512) : Fin 2048 → EReal :=
  fun k => x (ix2 ⟨512 * (n / 8) + r.val, by have h : n < 128 := hn; omega⟩ k)

/-- A row's term of hidden unit `h` in column `l`. -/
def term (g : FVec Ideal S2048 .f32) (u : FVec Ideal S2x2048x8192 .f32) (w : FVec Ideal S2x8192x2048 .f32)
    (y : Fin 2048 → EReal) (l : Fin 2048) (h : Fin 8192) : EReal :=
  Spec.unit (Spec.rms y fun k => g (ix1 k)) (fun k => u (ix3 0 k h)) * w (ix3 0 h l)

variable (c : Dev nD) (x : FVec Ideal S8192x2048 .f32) (g : FVec Ideal S2048 .f32) (u : FVec Ideal S2x2048x8192 .f32)
    (w : FVec Ideal S2x8192x2048 .f32)

/-- What a point adds, given the normed rows it reads. -/
theorem add_apply (eu : m ((c.tc : Thread nD τ).loc main_arg2) = u) (ew : m ((c.tc : Thread nD τ).loc main_arg3) = w)
    (t : Fin cfg0.N) (n : Vec Ideal S512x2048 .bf16) (o : Vec Ideal S512x2048 .f32) (y : Fin 2048 → EReal) (r : Fin 512) (l : Fin 2048)
    (hn : ∀ d, (n (ix2 r d) : EReal) = Spec.rms y (fun k => g (ix1 k)) d) (a : EReal)
    (ho : o (ix2 r l) = Spec.part a (term g u w y l) (t.val % 8)) :
    k0_pay2 n (iblk m c 2 t) o (iblk m c 3 t) (ix2 r l) = Spec.part a (term g u w y l) (t.val % 8 + 1) := by
  rw [Spec.part_succ _ _ _ (by omega)]
  refine (pay2_apply _ _ _ _ r l).trans ?_
  rw [ho]
  refine congrArg _ (Finset.sum_congr rfl fun k _ => ?_)
  rw [iblk3_apply, ew]
  unfold term
  refine congrArg (· * _) ?_
  refine congrArg₂ Spec.unit (funext hn) (funext fun d => ?_)
  rw [iblk2_apply, eu]

/-- The first point of a row block: the norm stored, the output begun from the residual. -/
theorem first_apply (ex : m ((c.tc : Thread nD τ).loc main_arg0) = x) (eg : m ((c.tc : Thread nD τ).loc main_arg1) = g)
    (eu : m ((c.tc : Thread nD τ).loc main_arg2) = u) (ew : m ((c.tc : Thread nD τ).loc main_arg3) = w) (r : Fin 512)
    (t : Fin cfg0.N) (h : t.val % 8 = 0) :
    (∀ d, (k0_pay1 (iblk m c 0 t) (iblk m c 1 t) : Vec Ideal S512x2048 .bf16) (ix2 r d)
        = Spec.rms (row x t.val t.isLt r) (fun k => g (ix1 k)) d)
      ∧ ∀ l, (k0_pay2 (k0_pay1 (iblk m c 0 t) (iblk m c 1 t)) (iblk m c 2 t) (iblk m c 0 t) (iblk m c 3 t)
          : Vec Ideal S512x2048 .f32) (ix2 r l)
        = Spec.part (row x t.val t.isLt r l) (term g u w (row x t.val t.isLt r) l) (t.val % 8 + 1) := by
  have hx : ∀ k, (iblk m c 0 t : Vec Ideal S512x2048 .f32) (ix2 r k) = row x t.val t.isLt r k := fun k => by
    rw [iblk0_apply, ex]
    rfl
  have hn : ∀ d, (k0_pay1 (iblk m c 0 t) (iblk m c 1 t) : Vec Ideal S512x2048 .bf16) (ix2 r d)
      = Spec.rms (row x t.val t.isLt r) (fun k => g (ix1 k)) d := fun d => by
    refine (pay1_apply _ _ r d).trans ?_
    refine congrArg₂ (fun a b => Spec.rms a b d) (funext hx) (funext fun k => ?_)
    rw [iblk1_apply, eg]
  refine ⟨hn, fun l => add_apply m c g u w eu ew t _ _ _ r l hn _ ?_⟩
  rw [h, Spec.part_zero]
  exact hx l

/-- After point `n`: the scratch holds the normed rows, the output the partial sums. -/
theorem inv (ex : m ((c.tc : Thread nD τ).loc main_arg0) = x) (eg : m ((c.tc : Thread nD τ).loc main_arg1) = g)
    (eu : m ((c.tc : Thread nD τ).loc main_arg2) = u) (ew : m ((c.tc : Thread nD τ).loc main_arg3) = w) (r : Fin 512) :
    ∀ (n : ℕ) (hn : n < cfg0.N),
      (∀ d, ((outsAt0 m c n hn).2 : Vec Ideal S512x2048 .bf16) (ix2 r d) = Spec.rms (row x n hn r) (fun k => g (ix1 k)) d)
      ∧ ∀ l, ((outsAt0 m c n hn).1 : Vec Ideal S512x2048 .f32) (ix2 r l)
        = Spec.part (row x n hn r l) (term g u w (row x n hn r) l) (n % 8 + 1) := by
  intro n
  induction n with
  | zero =>
    intro hn
    rw [step_A m c ⟨0, hn⟩ rfl]
    exact first_apply m c x g u w ex eg eu ew r ⟨0, hn⟩ rfl
  | succ n ih =>
    intro hn
    by_cases h : (n + 1) % 8 = 0
    · rw [step_A m c ⟨n + 1, hn⟩ h]
      exact first_apply m c x g u w ex eg eu ew r ⟨n + 1, hn⟩ h
    · have hp : n < cfg0.N := by omega
      have hr : row x (n + 1) hn r = row x n hp r := by
        unfold row
        have e : (n + 1) / 8 = n / 8 := by omega
        simp only [e]
      obtain ⟨i1, i2⟩ := ih hp
      rw [step_B m c ⟨n + 1, hn⟩ h hp, hr]
      refine ⟨i1, fun l => ?_⟩
      refine add_apply m c g u w eu ew ⟨n + 1, hn⟩ _ _ _ r l i1 _ ?_
      have e : (n + 1) % 8 = n % 8 + 1 := by omega
      show _ = Spec.part _ _ ((n + 1) % 8)
      rw [e]
      exact i2 l

/-- The array after the run. -/
theorem final (ex : m ((c.tc : Thread nD τ).loc main_arg0) = x) (eg : m ((c.tc : Thread nD τ).loc main_arg1) = g)
    (eu : m ((c.tc : Thread nD τ).loc main_arg2) = u) (ew : m ((c.tc : Thread nD τ).loc main_arg3) = w) :
    (dats m 0 c).arrAt 5 cfg0.N = result x g u w := by
  refine (dats m 0 c).arrAt_eq_of_covers 5 _ (by decide +kernel) fun t hf y => ?_
  obtain ⟨e0, e1, e2, e3, e5⟩ := idx_eq t
  have h7 : t.val % 8 = 7 := (flush0_5 t).mp hf
  blk_simp
  rw [after0_5]
  revert y
  show ∀ y : S512x2048.Idx, (outsAt0 m c t.val t.isLt).1 y = result x g u w ((win0_5.blk t).view.emb y)
  intro y
  have h : t.val < 128 := t.isLt
  idx_vars y
  generalize y0 = r
  generalize y1 = l
  have hr : (win0_5.blk t).view.emb (ix2 r l) = (ix2 ⟨512 * (t.val / 8) + r.val, by omega⟩ l : S8192x2048.Idx) := by blk_ext [e5]
  refine ((inv m c x g u w ex eg eu ew r t.val t.isLt).2 l).trans ?_
  rw [hr, h7]
  exact Spec.part_eight _ _

end Cert.MlpKernel

end
-- ==== Proof.MlpClaim.lean ====
/- The first layer's MLP: its reference's array, and the claim that the kernel leaves the same. -/
module

public import proofs.«01_k».proof.Defs
public import proofs.«01_k».proof.Proof.Gen.MlpRefIdeal.Run
public import proofs.«01_k».proof.Proof.MlpKernel

@[expose] public section

set_option maxRecDepth 16384

noncomputable section

namespace Cert.MlpClaim

open Idealize.ShloMosaic Idealize.ShloMosaic.TcCoe Idealize.SL.Sem

section Ref
open Cert.MlpRefIdeal Cert.MlpRefIdeal.Gen

variable {F : FTy → Type} [FloatOps F]

/-- The sum of squares of each row. -/
def ssq (x : FVec F S8192x2048 .f32) : FVec F S8192 .f32 :=
  Host.reduceAdd (mulf x x) (constant S_ .f32 0x00000000#32) reducesTo_S8192x2048_S8192_d1 h_S_

/-- The normed rows, the sums of squares given. -/
def normOf (x : FVec F S8192x2048 .f32) (g : FVec F S2048 .f32) (q : FVec F S8192 .f32) : FVec F S8192x2048 .f32 :=
  mulf (mulf x (broadcastInDim S8192x2048 ![0, 1] bcast_S8192x1_S8192x2048_0_1 (Host.rsqrt (addf (Host.divf (broadcastInDim S8192x1 ![0] bcast_S8192_S8192x1_0 q) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- The hidden units' products before the squared ReLU. -/
def upOf (n : FVec F S8192x2048 .f32) (u : FVec F S2x2048x8192 .f32) : FVec F S8192x8192 .f32 :=
  Host.dotGeneral dot_S8192x2048_S2048x8192_S8192x8192_1_0_0_1_n_n none n
    (shapeCast _ (extractStridedSlice S1x2048x8192 ![0, 0, 0] u slices_S2x2048x8192_S1x2048x8192_0_0_0) shapeCasts_S1x2048x8192_S2048x8192)

/-- The squared ReLU. -/
def actOf (z : FVec F S8192x8192 .f32) : FVec F S8192x8192 .f32 :=
  mulf (maximumf z (broadcastInDim S8192x8192 ![] bcast_S_S8192x8192 (constant S_ .f32 0x00000000#32)))
    (maximumf z (broadcastInDim S8192x8192 ![] bcast_S_S8192x8192 (constant S_ .f32 0x00000000#32)))

/-- The residual plus the hidden units' product with the second weight. -/
def downOf (x : FVec F S8192x2048 .f32) (a : FVec F S8192x8192 .f32) (w : FVec F S2x8192x2048 .f32) : FVec F S8192x2048 .f32 :=
  addf x (Host.dotGeneral dot_S8192x8192_S8192x2048_S8192x2048_1_0_0_1_n_n none a
    (shapeCast _ (extractStridedSlice S1x8192x2048 ![0, 0, 0] w slices_S2x8192x2048_S1x8192x2048_0_0_0) shapeCasts_S1x8192x2048_S8192x2048))

theorem ssq_apply (x : FVec Ideal S8192x2048 .f32) (r : Fin 8192) :
    ssq x (ix1 r) = ∑ k : Fin 2048, (x (ix2 r k) : EReal) * x (ix2 r k) := by
  unfold ssq
  rw [ValueIdx.hostReduceAdd_apply]
  have reduces : S8192x2048.Reduces [1] S8192 := by decide
  have lift : ∀ k : Fin 2048, reduces.lift (ix1 r) k = (ix2 r k : S8192x2048.Idx) := fun k => by
    funext a
    match a with
    | ⟨0, _⟩ => rfl
    | ⟨1, _⟩ => rfl
  refine (Ideal.hostReduceAdd_single _ reduces _ _ _).trans ?_
  rw [show constant (F := Ideal) S_ .f32 0x00000000#32 _ = (0 : EReal) from Ideal.ofBits_zero_f32]
  refine (zero_add _).trans (Finset.sum_congr rfl fun k _ => ?_)
  exact congrArg (fun i => (x i : EReal) * x i) (lift k)

theorem normOf_apply (x : FVec Ideal S8192x2048 .f32) (g : FVec Ideal S2048 .f32) (r : Fin 8192) (d : Fin 2048) :
    normOf x g (ssq x) (ix2 r d) = Spec.rms (fun k => x (ix2 r k)) (fun k => g (ix1 k)) d := by
  unfold Spec.rms
  rw [← ssq_apply]
  generalize ssq x = q
  pointwise [normOf]

theorem upOf_apply (n : FVec Ideal S8192x2048 .f32) (u : FVec Ideal S2x2048x8192 .f32) (r h : Fin 8192) :
    upOf n u (ix2 r h) = ∑ k : Fin 2048, (n (ix2 r k) : EReal) * u (ix3 0 k h) := by
  pointwise [upOf]

theorem actOf_apply (z : FVec Ideal S8192x8192 .f32) (r h : Fin 8192) :
    actOf z (ix2 r h) = max (z (ix2 r h) : EReal) 0 * max (z (ix2 r h)) 0 := by
  pointwise [actOf]

theorem downOf_apply (x : FVec Ideal S8192x2048 .f32) (a : FVec Ideal S8192x8192 .f32) (w : FVec Ideal S2x8192x2048 .f32)
    (r : Fin 8192) (l : Fin 2048) :
    downOf x a w (ix2 r l) = (x (ix2 r l) : EReal) + ∑ h : Fin 8192, (a (ix2 r h) : EReal) * w (ix3 0 h l) := by
  pointwise [downOf]

theorem ref_eq (x : FVec Ideal S8192x2048 .f32) (g : FVec Ideal S2048 .f32) (u : FVec Ideal S2x2048x8192 .f32)
    (w : FVec Ideal S2x8192x2048 .f32) :
    downOf x (actOf (upOf (normOf x g (ssq x)) u)) w = MlpKernel.result x g u w := by
  funext p
  revert p
  show ∀ p : S8192x2048.Idx, _ = _
  intro p
  idx_vars p
  generalize p0 = r
  generalize p1 = l
  refine (downOf_apply _ _ _ r l).trans ?_
  show _ = Spec.mlp (fun k => x (ix2 r k)) (fun k => g (ix1 k)) (fun k h => u (ix3 0 k h)) (fun h l => w (ix3 0 h l)) l
  unfold Spec.mlp Spec.unit
  refine congrArg _ (Finset.sum_congr rfl fun h _ => ?_)
  rw [actOf_apply, upOf_apply]
  simp only [normOf_apply]

end Ref

/-- Kernel and reference leave the same array. -/
theorem algebraic : Cert.algebraic_MlpIdeal_MlpRefIdeal := by
  intro m ρ m' ρ' hpre hag
  refine ⟨fun c => MlpKernel.result (m ((c.tc : Thread Cert.MlpIdeal.nD Cert.MlpIdeal.τ).loc Cert.MlpIdeal.main_arg0))
    (m ((c.tc : Thread Cert.MlpIdeal.nD Cert.MlpIdeal.τ).loc Cert.MlpIdeal.main_arg1))
    (m ((c.tc : Thread Cert.MlpIdeal.nD Cert.MlpIdeal.τ).loc Cert.MlpIdeal.main_arg2))
    (m ((c.tc : Thread Cert.MlpIdeal.nD Cert.MlpIdeal.τ).loc Cert.MlpIdeal.main_arg3)), ?_, ?_⟩
  · exact (θ_run Cert.MlpIdeal.defs _ _).mono (fun _ h c => ⟨((h c).1.trans (Cert.MlpIdeal.Value.final5 m c).symm).trans
        (MlpKernel.final m c _ _ _ _ rfl rfl rfl rfl), (h c).2⟩)
      (Cert.MlpIdeal.Value.run (F := Ideal) m ρ)
  · refine (θ_run Cert.MlpRefIdeal.defs _ _).mono (fun _ h c => ⟨(h c).1.trans ?_, (h c).2⟩)
      (Cert.MlpRefIdeal.Value.run (F := Ideal) m' ρ')
    rw [(hag c).1, (hag c).2.1, (hag c).2.2.1, (hag c).2.2.2.1]
    exact ref_eq _ _ _ _

end Cert.MlpClaim

end
-- ==== Proof.MlpFinalKernel.lean ====
/- The last MLP kernel's result array: the final norm of the residual plus the sum over all hidden units. -/
module

public import proofs.«01_k».proof.Proof.Gen.MlpFinalIdeal.Value
public import proofs.«01_k».proof.Proof.MlpSpec

@[expose] public section

set_option maxRecDepth 16384

noncomputable section

namespace Cert.MlpFinalKernel

open Idealize.ShloMosaic Idealize.ShloMosaic.TcCoe Idealize.SL.Sem Cert.MlpFinalIdeal Cert.MlpFinalIdeal.Gen

theorem pay1_apply (x : Vec Ideal S512x2048 .f32) (g : Vec Ideal S1x2048 .f32) (r : Fin 512) (d : Fin 2048) :
    k0_pay1 x g (ix2 r d) = Spec.rms (fun k => x (ix2 r k)) (fun k => g (ix2 0 k)) d := by
  unfold Spec.rms
  pointwise [k0_pay1]

theorem pay3_apply (x : Vec Ideal S512x2048 .f32) (g : Vec Ideal S1x2048 .f32) (r : Fin 512) (d : Fin 2048) :
    k0_pay3 x g (ix2 r d) = Spec.rms (fun k => x (ix2 r k)) (fun k => g (ix2 0 k)) d := by
  unfold Spec.rms
  pointwise [k0_pay3]

theorem pay2_apply (n : Vec Ideal S512x2048 .bf16) (u : Vec Ideal S1x2048x1024 .bf16) (o : Vec Ideal S512x2048 .f32)
    (w : Vec Ideal S1x1024x2048 .bf16) (r : Fin 512) (l : Fin 2048) :
    k0_pay2 n u o w (ix2 r l) = (o (ix2 r l) : EReal) +
      ∑ j : Fin 1024, Spec.unit (fun k => n (ix2 r k)) (fun k => u (ix3 0 k j)) * (w (ix3 0 j l) : EReal) := by
  unfold Spec.unit
  pointwise [k0_pay2]

variable (m : (ℓ : Loc nD τ sig) → Buf (Elt Ideal) ℓ)

theorem step_A (c : Dev nD) (t : Fin cfg0.N) (h : t.val % 8 = 0) :
    outsAt0 m c t.val t.isLt = (k0_pay2 (k0_pay1 (iblk m c 0 t) (iblk m c 1 t)) (iblk m c 2 t) (iblk m c 0 t) (iblk m c 3 t),
      k0_pay1 (iblk m c 0 t) (iblk m c 1 t)) := by
  rw [outsAt0_A m c t h (by omega)]
  refine Prod.ext ?_ ?_
  · frame_out
  · frame_out

theorem step_B (c : Dev nD) (t : Fin cfg0.N) (h : ¬t.val % 8 = 0) (h7 : ¬t.val % 8 = 7) (hp : t.val - 1 < cfg0.N) :
    outsAt0 m c t.val t.isLt = (k0_pay2 (outsAt0 m c (t.val - 1) hp).2 (iblk m c 2 t) (outsAt0 m c (t.val - 1) hp).1 (iblk m c 3 t),
      (outsAt0 m c (t.val - 1) hp).2) := by
  rw [outsAt0_B m c t h h7]
  refine Prod.ext ?_ ?_
  · frame_out
    exact congrArg (fun n => k0_pay2 n (iblk m c 2 t) (outsAt0 m c (t.val - 1) hp).1 (iblk m c 3 t)) (Memref.IsWhole.read_unread _ _)
  · rfl

theorem step_C (c : Dev nD) (t : Fin cfg0.N) (h : ¬t.val % 8 = 0) (h7 : t.val % 8 = 7) (hp : t.val - 1 < cfg0.N) :
    outsAt0 m c t.val t.isLt = (k0_pay3 (k0_pay2 (outsAt0 m c (t.val - 1) hp).2 (iblk m c 2 t) (outsAt0 m c (t.val - 1) hp).1 (iblk m c 3 t))
        (iblk m c 4 t), (outsAt0 m c (t.val - 1) hp).2) := by
  rw [outsAt0_C m c t h h7]
  refine Prod.ext ?_ ?_
  · frame_out
    exact congrArg (fun n => k0_pay3 (k0_pay2 n (iblk m c 2 t) (outsAt0 m c (t.val - 1) hp).1 (iblk m c 3 t)) (iblk m c 4 t))
      (Memref.IsWhole.read_unread _ _)
  · rfl

theorem idx_eq : ∀ t : Fin cfg0.N, win0_0.index t = ![t.val / 8, 0] ∧ (win0_1.index t = ![0, 0] ∧ win0_4.index t = ![0, 0]) ∧ win0_2.index t = ![1, 0, t.val % 8]
    ∧ win0_3.index t = ![1, t.val % 8, 0] ∧ win0_5.index t = ![t.val / 8, 0] :=
  (by decide +kernel : ∀ t : Fin grid0.N, win0_0.index t = ![t.val / 8, 0] ∧ (win0_1.index t = ![0, 0] ∧ win0_4.index t = ![0, 0]) ∧ win0_2.index t = ![1, 0, t.val % 8]
    ∧ win0_3.index t = ![1, t.val % 8, 0] ∧ win0_5.index t = ![t.val / 8, 0])

/-- A row block's entry in the whole array. -/
theorem iblk0_apply (c : Dev nD) (t : Fin cfg0.N) (r : Fin 512) (d : Fin 2048) :
    (iblk m c 0 t : Vec Ideal S512x2048 .f32) (ix2 r d) = (m ((c.tc : Thread nD τ).loc main_arg0) : Vec Ideal S8192x2048 .f32)
      (ix2 ⟨512 * (t.val / 8) + r.val, by have h : t.val < 128 := t.isLt; omega⟩ d) := by
  have h : t.val < 128 := t.isLt
  obtain ⟨e0, ⟨e1, e4⟩, e2, e3, e5⟩ := idx_eq t
  blk_ext [iblk, V_main_arg0, e0]

theorem iblk1_apply (c : Dev nD) (t : Fin cfg0.N) (d : Fin 2048) :
    (iblk m c 1 t : Vec Ideal S1x2048 .f32) (ix2 0 d) = (m ((c.tc : Thread nD τ).loc main_arg1) : Vec Ideal S2048 .f32) (ix1 d) := by
  have h : t.val < 128 := t.isLt
  obtain ⟨e0, ⟨e1, e4⟩, e2, e3, e5⟩ := idx_eq t
  have hb : (iblk m c 1 t : Vec Ideal S1x2048 .f32) (ix2 0 d) = (V m c main_v0 : Vec Ideal S1x2048 .f32) (ix2 0 d) := by
    blk_ext [iblk, e1]
  rw [hb]
  entry_read
  pointwise

theorem iblk4_apply (c : Dev nD) (t : Fin cfg0.N) (d : Fin 2048) :
    (iblk m c 4 t : Vec Ideal S1x2048 .f32) (ix2 0 d) = (m ((c.tc : Thread nD τ).loc main_arg4) : Vec Ideal S2048 .f32) (ix1 d) := by
  have h : t.val < 128 := t.isLt
  obtain ⟨e0, ⟨e1, e4⟩, e2, e3, e5⟩ := idx_eq t
  have hb : (iblk m c 4 t : Vec Ideal S1x2048 .f32) (ix2 0 d) = (V m c main_v3 : Vec Ideal S1x2048 .f32) (ix2 0 d) := by
    blk_ext [iblk, e4]
  rw [hb]
  entry_read
  pointwise

theorem iblk2_apply (c : Dev nD) (t : Fin cfg0.N) (d : Fin 2048) (k : Fin 1024) :
    ((iblk m c 2 t : Vec Ideal S1x2048x1024 .bf16) (ix3 0 d k) : EReal) = (m ((c.tc : Thread nD τ).loc main_arg2) : Vec Ideal S2x2048x8192 .f32)
      (ix3 1 d ⟨1024 * (t.val % 8) + k.val, by omega⟩) := by
  have h : t.val < 128 := t.isLt
  obtain ⟨e0, ⟨e1, e4⟩, e2, e3, e5⟩ := idx_eq t
  have hb : (iblk m c 2 t : Vec Ideal S1x2048x1024 .bf16) (ix3 0 d k) = (V m c main_v1 : Vec Ideal S2x2048x8192 .bf16)
      (ix3 1 d ⟨1024 * (t.val % 8) + k.val, by omega⟩) := by
    blk_ext [iblk, e2]
  rw [hb]
  entry_read
  rfl

theorem iblk3_apply (c : Dev nD) (t : Fin cfg0.N) (d : Fin 2048) (k : Fin 1024) :
    ((iblk m c 3 t : Vec Ideal S1x1024x2048 .bf16) (ix3 0 k d) : EReal) = (m ((c.tc : Thread nD τ).loc main_arg3) : Vec Ideal S2x8192x2048 .f32)
      (ix3 1 ⟨1024 * (t.val % 8) + k.val, by omega⟩ d) := by
  have h : t.val < 128 := t.isLt
  obtain ⟨e0, ⟨e1, e4⟩, e2, e3, e5⟩ := idx_eq t
  have hb : (iblk m c 3 t : Vec Ideal S1x1024x2048 .bf16) (ix3 0 k d) = (V m c main_v2 : Vec Ideal S2x8192x2048 .bf16)
      (ix3 1 ⟨1024 * (t.val % 8) + k.val, by omega⟩ d) := by
    blk_ext [iblk, e3]
  rw [hb]
  entry_read
  rfl

/-- The array's entry: the residual row through the MLP of layer 1, then the final norm. -/
def result (x : FVec Ideal S8192x2048 .f32) (g : FVec Ideal S2048 .f32) (u : FVec Ideal S2x2048x8192 .f32)
    (w : FVec Ideal S2x8192x2048 .f32) (f : FVec Ideal S2048 .f32) : FVec Ideal S8192x2048 .f32 :=
  fun p => Spec.rms (Spec.mlp (fun k => x (ix2 ⟨(p 0).val, (p 0).isLt⟩ k)) (fun k => g (ix1 k)) (fun k h => u (ix3 1 k h))
    (fun h l => w (ix3 1 h l))) (fun k => f (ix1 k)) ⟨(p 1).val, (p 1).isLt⟩

/-- The row of the residual array a block's row is. -/
def row (x : FVec Ideal S8192x2048 .f32) (n : ℕ) (hn : n < cfg0.N) (r : Fin 512) : Fin 2048 → EReal :=
  fun k => x (ix2 ⟨512 * (n / 8) + r.val, by have h : n < 128 := hn; omega⟩ k)

/-- A row's term of hidden unit `h` in column `l`. -/
def term (g : FVec Ideal S2048 .f32) (u : FVec Ideal S2x2048x8192 .f32) (w : FVec Ideal S2x8192x2048 .f32)
    (y : Fin 2048 → EReal) (l : Fin 2048) (h : Fin 8192) : EReal :=
  Spec.unit (Spec.rms y fun k => g (ix1 k)) (fun k => u (ix3 1 k h)) * w (ix3 1 h l)

variable (c : Dev nD) (x : FVec Ideal S8192x2048 .f32) (g : FVec Ideal S2048 .f32) (u : FVec Ideal S2x2048x8192 .f32)
    (w : FVec Ideal S2x8192x2048 .f32)

/-- What a point adds, given the normed rows it reads. -/
theorem add_apply (eu : m ((c.tc : Thread nD τ).loc main_arg2) = u) (ew : m ((c.tc : Thread nD τ).loc main_arg3) = w)
    (t : Fin cfg0.N) (n : Vec Ideal S512x2048 .bf16) (o : Vec Ideal S512x2048 .f32) (y : Fin 2048 → EReal) (r : Fin 512) (l : Fin 2048)
    (hn : ∀ d, (n (ix2 r d) : EReal) = Spec.rms y (fun k => g (ix1 k)) d) (a : EReal)
    (ho : o (ix2 r l) = Spec.part a (term g u w y l) (t.val % 8)) :
    k0_pay2 n (iblk m c 2 t) o (iblk m c 3 t) (ix2 r l) = Spec.part a (term g u w y l) (t.val % 8 + 1) := by
  rw [Spec.part_succ _ _ _ (by omega)]
  refine (pay2_apply _ _ _ _ r l).trans ?_
  rw [ho]
  refine congrArg _ (Finset.sum_congr rfl fun k _ => ?_)
  rw [iblk3_apply, ew]
  unfold term
  refine congrArg (· * _) ?_
  refine congrArg₂ Spec.unit (funext hn) (funext fun d => ?_)
  rw [iblk2_apply, eu]

/-- The first point of a row block: the norm stored, the output begun from the residual. -/
theorem first_apply (ex : m ((c.tc : Thread nD τ).loc main_arg0) = x) (eg : m ((c.tc : Thread nD τ).loc main_arg1) = g)
    (eu : m ((c.tc : Thread nD τ).loc main_arg2) = u) (ew : m ((c.tc : Thread nD τ).loc main_arg3) = w) (r : Fin 512)
    (t : Fin cfg0.N) (h : t.val % 8 = 0) :
    (∀ d, (k0_pay1 (iblk m c 0 t) (iblk m c 1 t) : Vec Ideal S512x2048 .bf16) (ix2 r d)
        = Spec.rms (row x t.val t.isLt r) (fun k => g (ix1 k)) d)
      ∧ ∀ l, (k0_pay2 (k0_pay1 (iblk m c 0 t) (iblk m c 1 t)) (iblk m c 2 t) (iblk m c 0 t) (iblk m c 3 t)
          : Vec Ideal S512x2048 .f32) (ix2 r l)
        = Spec.part (row x t.val t.isLt r l) (term g u w (row x t.val t.isLt r) l) (t.val % 8 + 1) := by
  have hx : ∀ k, (iblk m c 0 t : Vec Ideal S512x2048 .f32) (ix2 r k) = row x t.val t.isLt r k := fun k => by
    rw [iblk0_apply, ex]
    rfl
  have hn : ∀ d, (k0_pay1 (iblk m c 0 t) (iblk m c 1 t) : Vec Ideal S512x2048 .bf16) (ix2 r d)
      = Spec.rms (row x t.val t.isLt r) (fun k => g (ix1 k)) d := fun d => by
    refine (pay1_apply _ _ r d).trans ?_
    refine congrArg₂ (fun a b => Spec.rms a b d) (funext hx) (funext fun k => ?_)
    rw [iblk1_apply, eg]
  refine ⟨hn, fun l => add_apply m c g u w eu ew t _ _ _ r l hn _ ?_⟩
  rw [h, Spec.part_zero]
  exact hx l

/-- After a point that is not a row block's last: the scratch holds the normed rows, the output the partial sums. -/
theorem inv (ex : m ((c.tc : Thread nD τ).loc main_arg0) = x) (eg : m ((c.tc : Thread nD τ).loc main_arg1) = g)
    (eu : m ((c.tc : Thread nD τ).loc main_arg2) = u) (ew : m ((c.tc : Thread nD τ).loc main_arg3) = w) (r : Fin 512) :
    ∀ (n : ℕ) (hn : n < cfg0.N), ¬n % 8 = 7 →
      (∀ d, ((outsAt0 m c n hn).2 : Vec Ideal S512x2048 .bf16) (ix2 r d) = Spec.rms (row x n hn r) (fun k => g (ix1 k)) d)
      ∧ ∀ l, ((outsAt0 m c n hn).1 : Vec Ideal S512x2048 .f32) (ix2 r l)
        = Spec.part (row x n hn r l) (term g u w (row x n hn r) l) (n % 8 + 1) := by
  intro n
  induction n with
  | zero =>
    intro hn _
    rw [step_A m c ⟨0, hn⟩ rfl]
    exact first_apply m c x g u w ex eg eu ew r ⟨0, hn⟩ rfl
  | succ n ih =>
    intro hn h7
    by_cases h : (n + 1) % 8 = 0
    · rw [step_A m c ⟨n + 1, hn⟩ h]
      exact first_apply m c x g u w ex eg eu ew r ⟨n + 1, hn⟩ h
    · have hp : n < cfg0.N := by omega
      have hr : row x (n + 1) hn r = row x n hp r := by
        unfold row
        have e : (n + 1) / 8 = n / 8 := by omega
        simp only [e]
      obtain ⟨i1, i2⟩ := ih hp (by omega)
      rw [step_B m c ⟨n + 1, hn⟩ h h7 hp, hr]
      refine ⟨i1, fun l => ?_⟩
      refine add_apply m c g u w eu ew ⟨n + 1, hn⟩ _ _ _ r l i1 _ ?_
      have e : (n + 1) % 8 = n % 8 + 1 := by omega
      show _ = Spec.part _ _ ((n + 1) % 8)
      rw [e]
      exact i2 l

/-- After a row block's last point: the final norm of the whole sums. -/
theorem last (f : FVec Ideal S2048 .f32) (ex : m ((c.tc : Thread nD τ).loc main_arg0) = x)
    (eg : m ((c.tc : Thread nD τ).loc main_arg1) = g) (eu : m ((c.tc : Thread nD τ).loc main_arg2) = u)
    (ew : m ((c.tc : Thread nD τ).loc main_arg3) = w) (ef : m ((c.tc : Thread nD τ).loc main_arg4) = f) (r : Fin 512) (l : Fin 2048)
    (n : ℕ) (hn : n + 1 < cfg0.N) (h7 : (n + 1) % 8 = 7) :
    ((outsAt0 m c (n + 1) hn).1 : Vec Ideal S512x2048 .f32) (ix2 r l)
      = Spec.rms (fun l => Spec.part (row x (n + 1) hn r l) (term g u w (row x (n + 1) hn r) l) 8) (fun k => f (ix1 k)) l := by
  have hp : n < cfg0.N := by omega
  have hr : row x (n + 1) hn r = row x n hp r := by
    unfold row
    have e : (n + 1) / 8 = n / 8 := by omega
    simp only [e]
  obtain ⟨i1, i2⟩ := inv m c x g u w ex eg eu ew r n hp (by omega)
  rw [step_C m c ⟨n + 1, hn⟩ (by show ¬(n + 1) % 8 = 0; omega) h7 hp, hr]
  refine (pay3_apply _ _ r l).trans ?_
  refine congrArg₂ (fun a b => Spec.rms a b l) (funext fun k => ?_) (funext fun k => ?_)
  · refine (add_apply m c g u w eu ew ⟨n + 1, hn⟩ _ _ _ r k i1 (row x n hp r k) ?_).trans ?_
    · have e : (n + 1) % 8 = n % 8 + 1 := by omega
      show _ = Spec.part _ _ ((n + 1) % 8)
      rw [e]
      exact i2 k
    · show Spec.part _ _ ((n + 1) % 8 + 1) = _
      rw [h7]
  · rw [iblk4_apply, ef]

/-- The array after the run. -/
theorem final (f : FVec Ideal S2048 .f32) (ex : m ((c.tc : Thread nD τ).loc main_arg0) = x)
    (eg : m ((c.tc : Thread nD τ).loc main_arg1) = g) (eu : m ((c.tc : Thread nD τ).loc main_arg2) = u)
    (ew : m ((c.tc : Thread nD τ).loc main_arg3) = w) (ef : m ((c.tc : Thread nD τ).loc main_arg4) = f) :
    (dats m 0 c).arrAt 5 cfg0.N = result x g u w f := by
  refine (dats m 0 c).arrAt_eq_of_covers 5 _ (by decide +kernel) fun t hf y => ?_
  obtain ⟨e0, e1, e2, e3, e5⟩ := idx_eq t
  have h7 : t.val % 8 = 7 := (flush0_5 t).mp hf
  blk_simp
  rw [after0_5]
  revert y
  show ∀ y : S512x2048.Idx, (outsAt0 m c t.val t.isLt).1 y = result x g u w f ((win0_5.blk t).view.emb y)
  intro y
  have h : t.val < 128 := t.isLt
  idx_vars y
  generalize y0 = r
  generalize y1 = l
  have hr : (win0_5.blk t).view.emb (ix2 r l) = (ix2 ⟨512 * (t.val / 8) + r.val, by omega⟩ l : S8192x2048.Idx) := by blk_ext [e5]
  rw [hr]
  obtain ⟨n, hn⟩ := t
  cases n with
  | zero => exact absurd h7 (by show ¬0 % 8 = 7; decide)
  | succ n =>
    refine (last m c x g u w f ex eg eu ew ef r l n hn h7).trans ?_
    simp only [Spec.part_eight]
    rfl

end Cert.MlpFinalKernel

end
-- ==== Proof.MlpFinalClaim.lean ====
/- The last layer's MLP with the final norm: its reference's array, and the claim that the kernel leaves the same. -/
module

public import proofs.«01_k».proof.Defs
public import proofs.«01_k».proof.Proof.Gen.MlpFinalRefIdeal.Run
public import proofs.«01_k».proof.Proof.MlpFinalKernel

@[expose] public section

set_option maxRecDepth 16384

noncomputable section

namespace Cert.MlpFinalClaim

open Idealize.ShloMosaic Idealize.ShloMosaic.TcCoe Idealize.SL.Sem

section Ref
open Cert.MlpFinalRefIdeal Cert.MlpFinalRefIdeal.Gen

variable {F : FTy → Type} [FloatOps F]

/-- The sum of squares of each row. -/
def ssq (x : FVec F S8192x2048 .f32) : FVec F S8192 .f32 :=
  Host.reduceAdd (mulf x x) (constant S_ .f32 0x00000000#32) reducesTo_S8192x2048_S8192_d1 h_S_

/-- The normed rows, the sums of squares given. -/
def normOf (x : FVec F S8192x2048 .f32) (g : FVec F S2048 .f32) (q : FVec F S8192 .f32) : FVec F S8192x2048 .f32 :=
  mulf (mulf x (broadcastInDim S8192x2048 ![0, 1] bcast_S8192x1_S8192x2048_0_1 (Host.rsqrt (addf (Host.divf (broadcastInDim S8192x1 ![0] bcast_S8192_S8192x1_0 q) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- The hidden units' products before the squared ReLU. -/
def upOf (n : FVec F S8192x2048 .f32) (u : FVec F S2x2048x8192 .f32) : FVec F S8192x8192 .f32 :=
  Host.dotGeneral dot_S8192x2048_S2048x8192_S8192x8192_1_0_0_1_n_n none n
    (shapeCast _ (extractStridedSlice S1x2048x8192 ![1, 0, 0] u slices_S2x2048x8192_S1x2048x8192_1_0_0) shapeCasts_S1x2048x8192_S2048x8192)

/-- The squared ReLU. -/
def actOf (z : FVec F S8192x8192 .f32) : FVec F S8192x8192 .f32 :=
  mulf (maximumf z (broadcastInDim S8192x8192 ![] bcast_S_S8192x8192 (constant S_ .f32 0x00000000#32)))
    (maximumf z (broadcastInDim S8192x8192 ![] bcast_S_S8192x8192 (constant S_ .f32 0x00000000#32)))

/-- The residual plus the hidden units' product with the second weight. -/
def downOf (x : FVec F S8192x2048 .f32) (a : FVec F S8192x8192 .f32) (w : FVec F S2x8192x2048 .f32) : FVec F S8192x2048 .f32 :=
  addf x (Host.dotGeneral dot_S8192x8192_S8192x2048_S8192x2048_1_0_0_1_n_n none a
    (shapeCast _ (extractStridedSlice S1x8192x2048 ![1, 0, 0] w slices_S2x8192x2048_S1x8192x2048_1_0_0) shapeCasts_S1x8192x2048_S8192x2048))

/-- The residual array after the MLP, before the final norm. -/
def sum (x : FVec F S8192x2048 .f32) (g : FVec F S2048 .f32) (u : FVec F S2x2048x8192 .f32) (w : FVec F S2x8192x2048 .f32) :
    FVec F S8192x2048 .f32 :=
  downOf x (actOf (upOf (normOf x g (ssq x)) u)) w

theorem ssq_apply (x : FVec Ideal S8192x2048 .f32) (r : Fin 8192) :
    ssq x (ix1 r) = ∑ k : Fin 2048, (x (ix2 r k) : EReal) * x (ix2 r k) := by
  unfold ssq
  rw [ValueIdx.hostReduceAdd_apply]
  have reduces : S8192x2048.Reduces [1] S8192 := by decide
  have lift : ∀ k : Fin 2048, reduces.lift (ix1 r) k = (ix2 r k : S8192x2048.Idx) := fun k => by
    funext a
    match a with
    | ⟨0, _⟩ => rfl
    | ⟨1, _⟩ => rfl
  refine (Ideal.hostReduceAdd_single _ reduces _ _ _).trans ?_
  rw [show constant (F := Ideal) S_ .f32 0x00000000#32 _ = (0 : EReal) from Ideal.ofBits_zero_f32]
  refine (zero_add _).trans (Finset.sum_congr rfl fun k _ => ?_)
  exact congrArg (fun i => (x i : EReal) * x i) (lift k)

theorem normOf_apply (x : FVec Ideal S8192x2048 .f32) (g : FVec Ideal S2048 .f32) (r : Fin 8192) (d : Fin 2048) :
    normOf x g (ssq x) (ix2 r d) = Spec.rms (fun k => x (ix2 r k)) (fun k => g (ix1 k)) d := by
  unfold Spec.rms
  rw [← ssq_apply]
  generalize ssq x = q
  pointwise [normOf]

theorem upOf_apply (n : FVec Ideal S8192x2048 .f32) (u : FVec Ideal S2x2048x8192 .f32) (r h : Fin 8192) :
    upOf n u (ix2 r h) = ∑ k : Fin 2048, (n (ix2 r k) : EReal) * u (ix3 1 k h) := by
  pointwise [upOf]

theorem actOf_apply (z : FVec Ideal S8192x8192 .f32) (r h : Fin 8192) :
    actOf z (ix2 r h) = max (z (ix2 r h) : EReal) 0 * max (z (ix2 r h)) 0 := by
  pointwise [actOf]

theorem downOf_apply (x : FVec Ideal S8192x2048 .f32) (a : FVec Ideal S8192x8192 .f32) (w : FVec Ideal S2x8192x2048 .f32)
    (r : Fin 8192) (l : Fin 2048) :
    downOf x a w (ix2 r l) = (x (ix2 r l) : EReal) + ∑ h : Fin 8192, (a (ix2 r h) : EReal) * w (ix3 1 h l) := by
  pointwise [downOf]

theorem sum_apply (x : FVec Ideal S8192x2048 .f32) (g : FVec Ideal S2048 .f32) (u : FVec Ideal S2x2048x8192 .f32)
    (w : FVec Ideal S2x8192x2048 .f32) (r : Fin 8192) (l : Fin 2048) :
    sum x g u w (ix2 r l) = Spec.mlp (fun k => x (ix2 r k)) (fun k => g (ix1 k)) (fun k h => u (ix3 1 k h)) (fun h l => w (ix3 1 h l)) l := by
  refine (downOf_apply _ _ _ r l).trans ?_
  unfold Spec.mlp Spec.unit
  refine congrArg _ (Finset.sum_congr rfl fun h _ => ?_)
  rw [actOf_apply, upOf_apply]
  simp only [normOf_apply]

theorem ref_eq (x : FVec Ideal S8192x2048 .f32) (g : FVec Ideal S2048 .f32) (u : FVec Ideal S2x2048x8192 .f32)
    (w : FVec Ideal S2x8192x2048 .f32) (f : FVec Ideal S2048 .f32) :
    normOf (sum x g u w) f (ssq (sum x g u w)) = MlpFinalKernel.result x g u w f := by
  funext p
  revert p
  show ∀ p : S8192x2048.Idx, _ = _
  intro p
  idx_vars p
  generalize p0 = r
  generalize p1 = l
  refine (normOf_apply _ _ r l).trans ?_
  show _ = Spec.rms (Spec.mlp (fun k => x (ix2 r k)) (fun k => g (ix1 k)) (fun k h => u (ix3 1 k h)) (fun h l => w (ix3 1 h l)))
    (fun k => f (ix1 k)) l
  exact congrArg (fun a => Spec.rms a (fun k => f (ix1 k)) l) (funext fun k => sum_apply x g u w r k)

/-- The reference's result is these stages composed. -/
theorem res_eq (m : (ℓ : Loc nD τ sig) → Buf (Elt F) ℓ) (c : Dev nD) (x : FVec F S8192x2048 .f32) (g : FVec F S2048 .f32)
    (u : FVec F S2x2048x8192 .f32) (w : FVec F S2x8192x2048 .f32) (f : FVec F S2048 .f32)
    (ex : m ((c.tc : Thread nD τ).loc main_arg0) = x) (eg : m ((c.tc : Thread nD τ).loc main_arg1) = g)
    (eu : m ((c.tc : Thread nD τ).loc main_arg2) = u) (ew : m ((c.tc : Thread nD τ).loc main_arg3) = w)
    (ef : m ((c.tc : Thread nD τ).loc main_arg4) = f) :
    Value.res_main_v34 (F := F) m c = normOf (sum x g u w) f (ssq (sum x g u w)) := by
  subst ex eg eu ew ef
  rfl

end Ref

/-- Kernel and reference leave the same array. -/
theorem algebraic : Cert.algebraic_MlpFinalIdeal_MlpFinalRefIdeal := by
  intro m ρ m' ρ' hpre hag
  refine ⟨fun c => MlpFinalKernel.result (m ((c.tc : Thread Cert.MlpFinalIdeal.nD Cert.MlpFinalIdeal.τ).loc Cert.MlpFinalIdeal.main_arg0))
    (m ((c.tc : Thread Cert.MlpFinalIdeal.nD Cert.MlpFinalIdeal.τ).loc Cert.MlpFinalIdeal.main_arg1))
    (m ((c.tc : Thread Cert.MlpFinalIdeal.nD Cert.MlpFinalIdeal.τ).loc Cert.MlpFinalIdeal.main_arg2))
    (m ((c.tc : Thread Cert.MlpFinalIdeal.nD Cert.MlpFinalIdeal.τ).loc Cert.MlpFinalIdeal.main_arg3))
    (m ((c.tc : Thread Cert.MlpFinalIdeal.nD Cert.MlpFinalIdeal.τ).loc Cert.MlpFinalIdeal.main_arg4)), ?_, ?_⟩
  · exact (θ_run Cert.MlpFinalIdeal.defs _ _).mono (fun _ h c => ⟨((h c).1.trans (Cert.MlpFinalIdeal.Value.final5 m c).symm).trans
        (MlpFinalKernel.final m c _ _ _ _ _ rfl rfl rfl rfl rfl), (h c).2⟩)
      (Cert.MlpFinalIdeal.Value.run (F := Ideal) m ρ)
  · refine (θ_run Cert.MlpFinalRefIdeal.defs _ _).mono (fun _ h c => ⟨(h c).1.trans ?_, (h c).2⟩)
      (Cert.MlpFinalRefIdeal.Value.run (F := Ideal) m' ρ')
    refine (res_eq m' c _ _ _ _ _ (hag c).1 (hag c).2.1 (hag c).2.2.1 (hag c).2.2.2.1 (hag c).2.2.2.2).trans ?_
    exact ref_eq _ _ _ _ _

end Cert.MlpFinalClaim

end
-- ==== Proof.InCdKernel.lean ====
/- The second layer's input projection: the kernel's three result arrays. -/
module

public import proofs.«01_k».proof.Proof.Gen.InCdIdeal.Value
public import proofs.«01_k».proof.Proof.MlpSpec

@[expose] public section

set_option maxRecDepth 16384

noncomputable section

namespace Cert.InCdKernel

open Idealize.ShloMosaic Idealize.ShloMosaic.TcCoe Idealize.SL.Sem Cert.InCdIdeal Cert.InCdIdeal.Gen

theorem pay1_apply (x : Vec Ideal S512x2048 .f32) (g : Vec Ideal S1x2048 .f32) (r : Fin 512) (d : Fin 2048) :
    k0_pay1 x g (ix2 r d) = Spec.rms (fun k => x (ix2 r k)) (fun k => g (ix2 0 k)) d := by
  unfold Spec.rms
  pointwise [k0_pay1]

theorem pay2_apply (n : Vec Ideal S512x2048 .bf16) (v w : Vec Ideal S2048x512 .bf16) (r l : Fin 512) :
    k0_pay2 n v w (ix2 r l) = Spec.dot (fun k => n (ix2 r k)) (fun k => v (ix2 k l))
      * Spec.gate (Spec.dot (fun k => n (ix2 r k)) (fun k => w (ix2 k l))) := by
  unfold Spec.gate Spec.dot
  pointwise [k0_pay2]
  rfl

theorem pay3_apply (n : Vec Ideal S512x2048 .bf16) (v : Vec Ideal S2048x512 .bf16) (r l : Fin 512) :
    k0_pay3 n v (ix2 r l) = Spec.dot (fun k => n (ix2 r k)) (fun k => v (ix2 k l)) := by
  unfold Spec.dot
  pointwise [k0_pay3]

theorem pay4_apply (n : Vec Ideal S512x2048 .bf16) (v w : Vec Ideal S2048x512 .bf16) (r l : Fin 512) :
    k0_pay4 n v w (ix2 r l) = Spec.dot (fun k => n (ix2 r k)) (fun k => v (ix2 k l))
      * Spec.dot (fun k => n (ix2 r k)) (fun k => w (ix2 k l)) := by
  unfold Spec.dot
  pointwise [k0_pay4]

variable (m : (ℓ : Loc nD τ sig) → Buf (Elt Ideal) ℓ)

/-- What the outputs of a point hold, from the normed rows it reads. -/
def outs (c : Dev nD) (t : Fin cfg0.N) (n : Vec Ideal S512x2048 .bf16) :
    Vec Ideal S512x512 .f32 × Vec Ideal S512x512 .f32 × Vec Ideal S512x512 .f32 × Vec Ideal S512x2048 .bf16 :=
  (k0_pay2 n (iblk m c 2 t) (iblk m c 3 t), k0_pay4 n (iblk m c 5 t) (iblk m c 6 t), k0_pay3 n (iblk m c 4 t), n)

theorem step_A (c : Dev nD) (t : Fin cfg0.N) (h : t.val % 2 = 0) :
    outsAt0 m c t.val t.isLt = outs m c t (k0_pay1 (iblk m c 0 t) (iblk m c 1 t)) := by
  rw [outsAt0_A m c t h]
  unfold outs
  refine Prod.ext ?_ (Prod.ext ?_ (Prod.ext ?_ ?_))
  · frame_out
  · frame_out
  · frame_out
  · frame_out

theorem step_B (c : Dev nD) (t : Fin cfg0.N) (h : ¬t.val % 2 = 0) (hp : t.val - 1 < cfg0.N) :
    outsAt0 m c t.val t.isLt = outs m c t (outsAt0 m c (t.val - 1) hp).2.2.2 := by
  rw [outsAt0_B m c t h]
  unfold outs
  refine Prod.ext ?_ (Prod.ext ?_ (Prod.ext ?_ ?_))
  · frame_out
    exact congrArg (fun n => k0_pay2 n (iblk m c 2 t) (iblk m c 3 t)) (Memref.IsWhole.read_unread _ _)
  · frame_out
    exact congrArg (fun n => k0_pay4 n (iblk m c 5 t) (iblk m c 6 t)) (Memref.IsWhole.read_unread _ _)
  · frame_out
    exact congrArg (fun n => k0_pay3 n (iblk m c 4 t)) (Memref.IsWhole.read_unread _ _)
  · rfl

theorem idx_eq : ∀ t : Fin cfg0.N, win0_0.index t = ![t.val / 2, 0] ∧ win0_1.index t = ![0, 0] ∧ win0_2.index t = ![0, t.val % 2]
    ∧ win0_3.index t = ![0, 2 + t.val % 2] ∧ win0_4.index t = ![0, 4 + t.val % 2] ∧ win0_5.index t = ![0, 6 + t.val % 2]
    ∧ win0_6.index t = ![0, 8 + t.val % 2] ∧ win0_7.index t = ![t.val / 2, t.val % 2] ∧ win0_8.index t = ![t.val / 2, t.val % 2]
    ∧ win0_9.index t = ![t.val / 2, t.val % 2] :=
  (by decide +kernel : ∀ t : Fin grid0.N, win0_0.index t = ![t.val / 2, 0] ∧ win0_1.index t = ![0, 0] ∧ win0_2.index t = ![0, t.val % 2]
    ∧ win0_3.index t = ![0, 2 + t.val % 2] ∧ win0_4.index t = ![0, 4 + t.val % 2] ∧ win0_5.index t = ![0, 6 + t.val % 2]
    ∧ win0_6.index t = ![0, 8 + t.val % 2] ∧ win0_7.index t = ![t.val / 2, t.val % 2] ∧ win0_8.index t = ![t.val / 2, t.val % 2]
    ∧ win0_9.index t = ![t.val / 2, t.val % 2])

/-- A row block's entry in the whole array. -/
theorem iblk0_apply (c : Dev nD) (t : Fin cfg0.N) (r : Fin 512) (d : Fin 2048) :
    (iblk m c 0 t : Vec Ideal S512x2048 .f32) (ix2 r d) = (m ((c.tc : Thread nD τ).loc main_arg0) : Vec Ideal S8192x2048 .f32)
      (ix2 ⟨512 * (t.val / 2) + r.val, by have h : t.val < 32 := t.isLt; omega⟩ d) := by
  have h : t.val < 32 := t.isLt
  obtain ⟨e0, e1, e2, e3, e4, e5, e6, e7, e8, e9⟩ := idx_eq t
  blk_ext [iblk, V_main_arg0, e0]

theorem iblk1_apply (c : Dev nD) (t : Fin cfg0.N) (d : Fin 2048) :
    (iblk m c 1 t : Vec Ideal S1x2048 .f32) (ix2 0 d) = (m ((c.tc : Thread nD τ).loc main_arg1) : Vec Ideal S2048 .f32) (ix1 d) := by
  have h : t.val < 32 := t.isLt
  obtain ⟨e0, e1, e2, e3, e4, e5, e6, e7, e8, e9⟩ := idx_eq t
  have hb : (iblk m c 1 t : Vec Ideal S1x2048 .f32) (ix2 0 d) = (V m c main_v0 : Vec Ideal S1x2048 .f32) (ix2 0 d) := by
    blk_ext [iblk, e1]
  rw [hb]
  entry_read
  pointwise

/-- A weight block's entry in the whole weight: five blocks of 1024 columns, each in two halves. -/
theorem iblk2_apply (c : Dev nD) (t : Fin cfg0.N) (d : Fin 2048) (l : Fin 512) :
    ((iblk m c 2 t : Vec Ideal S2048x512 .bf16) (ix2 d l) : EReal) = (m ((c.tc : Thread nD τ).loc main_arg2) : Vec Ideal S2048x5120 .f32)
      (ix2 d ⟨0 + (512 * (t.val % 2) + l.val), by omega⟩) := by
  have h : t.val < 32 := t.isLt
  obtain ⟨e0, e1, e2, e3, e4, e5, e6, e7, e8, e9⟩ := idx_eq t
  have hb : (iblk m c 2 t : Vec Ideal S2048x512 .bf16) (ix2 d l) = (V m c main_v1 : Vec Ideal S2048x5120 .bf16)
      (ix2 d ⟨0 + (512 * (t.val % 2) + l.val), by omega⟩) := by
    blk_ext [iblk, e2]
  rw [hb]
  entry_read
  rfl

theorem iblk3_apply (c : Dev nD) (t : Fin cfg0.N) (d : Fin 2048) (l : Fin 512) :
    ((iblk m c 3 t : Vec Ideal S2048x512 .bf16) (ix2 d l) : EReal) = (m ((c.tc : Thread nD τ).loc main_arg2) : Vec Ideal S2048x5120 .f32)
      (ix2 d ⟨1024 + (512 * (t.val % 2) + l.val), by omega⟩) := by
  have h : t.val < 32 := t.isLt
  obtain ⟨e0, e1, e2, e3, e4, e5, e6, e7, e8, e9⟩ := idx_eq t
  have hb : (iblk m c 3 t : Vec Ideal S2048x512 .bf16) (ix2 d l) = (V m c main_v1 : Vec Ideal S2048x5120 .bf16)
      (ix2 d ⟨1024 + (512 * (t.val % 2) + l.val), by omega⟩) := by
    blk_ext [iblk, e3]
  rw [hb]
  entry_read
  rfl

theorem iblk4_apply (c : Dev nD) (t : Fin cfg0.N) (d : Fin 2048) (l : Fin 512) :
    ((iblk m c 4 t : Vec Ideal S2048x512 .bf16) (ix2 d l) : EReal) = (m ((c.tc : Thread nD τ).loc main_arg2) : Vec Ideal S2048x5120 .f32)
      (ix2 d ⟨2048 + (512 * (t.val % 2) + l.val), by omega⟩) := by
  have h : t.val < 32 := t.isLt
  obtain ⟨e0, e1, e2, e3, e4, e5, e6, e7, e8, e9⟩ := idx_eq t
  have hb : (iblk m c 4 t : Vec Ideal S2048x512 .bf16) (ix2 d l) = (V m c main_v1 : Vec Ideal S2048x5120 .bf16)
      (ix2 d ⟨2048 + (512 * (t.val % 2) + l.val), by omega⟩) := by
    blk_ext [iblk, e4]
  rw [hb]
  entry_read
  rfl

theorem iblk5_apply (c : Dev nD) (t : Fin cfg0.N) (d : Fin 2048) (l : Fin 512) :
    ((iblk m c 5 t : Vec Ideal S2048x512 .bf16) (ix2 d l) : EReal) = (m ((c.tc : Thread nD τ).loc main_arg2) : Vec Ideal S2048x5120 .f32)
      (ix2 d ⟨3072 + (512 * (t.val % 2) + l.val), by omega⟩) := by
  have h : t.val < 32 := t.isLt
  obtain ⟨e0, e1, e2, e3, e4, e5, e6, e7, e8, e9⟩ := idx_eq t
  have hb : (iblk m c 5 t : Vec Ideal S2048x512 .bf16) (ix2 d l) = (V m c main_v1 : Vec Ideal S2048x5120 .bf16)
      (ix2 d ⟨3072 + (512 * (t.val % 2) + l.val), by omega⟩) := by
    blk_ext [iblk, e5]
  rw [hb]
  entry_read
  rfl

theorem iblk6_apply (c : Dev nD) (t : Fin cfg0.N) (d : Fin 2048) (l : Fin 512) :
    ((iblk m c 6 t : Vec Ideal S2048x512 .bf16) (ix2 d l) : EReal) = (m ((c.tc : Thread nD τ).loc main_arg2) : Vec Ideal S2048x5120 .f32)
      (ix2 d ⟨4096 + (512 * (t.val % 2) + l.val), by omega⟩) := by
  have h : t.val < 32 := t.isLt
  obtain ⟨e0, e1, e2, e3, e4, e5, e6, e7, e8, e9⟩ := idx_eq t
  have hb : (iblk m c 6 t : Vec Ideal S2048x512 .bf16) (ix2 d l) = (V m c main_v1 : Vec Ideal S2048x5120 .bf16)
      (ix2 d ⟨4096 + (512 * (t.val % 2) + l.val), by omega⟩) := by
    blk_ext [iblk, e6]
  rw [hb]
  entry_read
  rfl

/-- A normed row's product with column `1024 b + l` of the weight. -/
def proj (x : FVec Ideal S8192x2048 .f32) (g : FVec Ideal S2048 .f32) (w : FVec Ideal S2048x5120 .f32) (b : ℕ) (hb : b ≤ 4096)
    (r : Fin 8192) (l : Fin 1024) : EReal :=
  Spec.dot (Spec.rms (fun k => x (ix2 r k)) (fun k => g (ix1 k))) (fun k => w (ix2 k ⟨b + l.val, by omega⟩))

/-- The gated values. -/
def result0 (x : FVec Ideal S8192x2048 .f32) (g : FVec Ideal S2048 .f32) (w : FVec Ideal S2048x5120 .f32) : FVec Ideal S8192x1024 .f32 :=
  fun p => proj x g w 0 (by decide) ⟨(p 0).val, (p 0).isLt⟩ ⟨(p 1).val, (p 1).isLt⟩
    * Spec.gate (proj x g w 1024 (by decide) ⟨(p 0).val, (p 0).isLt⟩ ⟨(p 1).val, (p 1).isLt⟩)

/-- The product of the fourth and fifth projections. -/
def result1 (x : FVec Ideal S8192x2048 .f32) (g : FVec Ideal S2048 .f32) (w : FVec Ideal S2048x5120 .f32) : FVec Ideal S8192x1024 .f32 :=
  fun p => proj x g w 3072 (by decide) ⟨(p 0).val, (p 0).isLt⟩ ⟨(p 1).val, (p 1).isLt⟩
    * proj x g w 4096 (by decide) ⟨(p 0).val, (p 0).isLt⟩ ⟨(p 1).val, (p 1).isLt⟩

/-- The third projection. -/
def result2 (x : FVec Ideal S8192x2048 .f32) (g : FVec Ideal S2048 .f32) (w : FVec Ideal S2048x5120 .f32) : FVec Ideal S8192x1024 .f32 :=
  fun p => proj x g w 2048 (by decide) ⟨(p 0).val, (p 0).isLt⟩ ⟨(p 1).val, (p 1).isLt⟩

variable (c : Dev nD) (x : FVec Ideal S8192x2048 .f32) (g : FVec Ideal S2048 .f32) (w : FVec Ideal S2048x5120 .f32)

/-- The normed rows of a point's row block. -/
def Normed (n : Vec Ideal S512x2048 .bf16) (t : Fin cfg0.N) : Prop :=
  ∀ (r : Fin 512) (d : Fin 2048), (n (ix2 r d) : EReal)
    = Spec.rms (fun k => x (ix2 ⟨512 * (t.val / 2) + r.val, by have h : t.val < 32 := t.isLt; omega⟩ k)) (fun k => g (ix1 k)) d

theorem first_normed (ex : m ((c.tc : Thread nD τ).loc main_arg0) = x) (eg : m ((c.tc : Thread nD τ).loc main_arg1) = g)
    (t : Fin cfg0.N) : Normed x g (k0_pay1 (iblk m c 0 t) (iblk m c 1 t)) t := fun r d => by
  refine (pay1_apply _ _ r d).trans ?_
  refine congrArg₂ (fun a b => Spec.rms a b d) (funext fun k => ?_) (funext fun k => ?_)
  · rw [iblk0_apply, ex]
  · rw [iblk1_apply, eg]

/-- Every point's outputs come from the normed rows of its row block. -/
theorem step (ex : m ((c.tc : Thread nD τ).loc main_arg0) = x) (eg : m ((c.tc : Thread nD τ).loc main_arg1) = g)
    (t : Fin cfg0.N) : ∃ n, Normed x g n t ∧ outsAt0 m c t.val t.isLt = outs m c t n := by
  by_cases h : t.val % 2 = 0
  · exact ⟨_, first_normed m c x g ex eg t, step_A m c t h⟩
  · have hp : t.val - 1 < cfg0.N := by have := t.isLt; omega
    refine ⟨_, ?_, step_B m c t h hp⟩
    rw [step_A m c ⟨t.val - 1, hp⟩ (by show (t.val - 1) % 2 = 0; omega)]
    have hn := first_normed m c x g ex eg ⟨t.val - 1, hp⟩
    intro r d
    refine (hn r d).trans ?_
    have e : (t.val - 1) / 2 = t.val / 2 := by omega
    simp only [e]

theorem final7 (ex : m ((c.tc : Thread nD τ).loc main_arg0) = x) (eg : m ((c.tc : Thread nD τ).loc main_arg1) = g)
    (ew : m ((c.tc : Thread nD τ).loc main_arg2) = w) :
    (dats m 0 c).arrAt 7 cfg0.N = result0 x g w := by
  refine (dats m 0 c).arrAt_eq_of_covers 7 _ (by decide +kernel) fun t hf y => ?_
  obtain ⟨e0, e1, e2, e3, e4, e5, e6, e7, e8, e9⟩ := idx_eq t
  obtain ⟨n, hn, ho⟩ := step m c x g ex eg t
  blk_simp
  rw [after0_7, ho]
  revert y
  show ∀ y : S512x512.Idx, (outs m c t n).1 y = result0 x g w ((win0_7.blk t).view.emb y)
  intro y
  have h : t.val < 32 := t.isLt
  idx_vars y
  generalize y0 = r
  generalize y1 = l
  have hr : (win0_7.blk t).view.emb (ix2 r l) = (ix2 ⟨512 * (t.val / 2) + r.val, by omega⟩ ⟨512 * (t.val % 2) + l.val, by omega⟩
      : S8192x1024.Idx) := by blk_ext [e7]
  rw [hr]
  refine (pay2_apply _ _ _ r l).trans ?_
  unfold result0 proj
  exact congrArg₂ (fun a b : EReal => a * b) (congrArg₂ Spec.dot (funext fun k => hn r k) (funext fun k => by rw [iblk2_apply, ew]; rfl))
    (congrArg Spec.gate (congrArg₂ Spec.dot (funext fun k => hn r k) (funext fun k => by rw [iblk3_apply, ew]; rfl)))

theorem final8 (ex : m ((c.tc : Thread nD τ).loc main_arg0) = x) (eg : m ((c.tc : Thread nD τ).loc main_arg1) = g)
    (ew : m ((c.tc : Thread nD τ).loc main_arg2) = w) :
    (dats m 0 c).arrAt 8 cfg0.N = result1 x g w := by
  refine (dats m 0 c).arrAt_eq_of_covers 8 _ (by decide +kernel) fun t hf y => ?_
  obtain ⟨e0, e1, e2, e3, e4, e5, e6, e7, e8, e9⟩ := idx_eq t
  obtain ⟨n, hn, ho⟩ := step m c x g ex eg t
  blk_simp
  rw [after0_8, ho]
  revert y
  show ∀ y : S512x512.Idx, (outs m c t n).2.1 y = result1 x g w ((win0_8.blk t).view.emb y)
  intro y
  have h : t.val < 32 := t.isLt
  idx_vars y
  generalize y0 = r
  generalize y1 = l
  have hr : (win0_8.blk t).view.emb (ix2 r l) = (ix2 ⟨512 * (t.val / 2) + r.val, by omega⟩ ⟨512 * (t.val % 2) + l.val, by omega⟩
      : S8192x1024.Idx) := by blk_ext [e8]
  rw [hr]
  refine (pay4_apply _ _ _ r l).trans ?_
  unfold result1 proj
  exact congrArg₂ (fun a b : EReal => a * b) (congrArg₂ Spec.dot (funext fun k => hn r k) (funext fun k => by rw [iblk5_apply, ew]; rfl))
    (congrArg₂ Spec.dot (funext fun k => hn r k) (funext fun k => by rw [iblk6_apply, ew]; rfl))

theorem final9 (ex : m ((c.tc : Thread nD τ).loc main_arg0) = x) (eg : m ((c.tc : Thread nD τ).loc main_arg1) = g)
    (ew : m ((c.tc : Thread nD τ).loc main_arg2) = w) :
    (dats m 0 c).arrAt 9 cfg0.N = result2 x g w := by
  refine (dats m 0 c).arrAt_eq_of_covers 9 _ (by decide +kernel) fun t hf y => ?_
  obtain ⟨e0, e1, e2, e3, e4, e5, e6, e7, e8, e9⟩ := idx_eq t
  obtain ⟨n, hn, ho⟩ := step m c x g ex eg t
  blk_simp
  rw [after0_9, ho]
  revert y
  show ∀ y : S512x512.Idx, (outs m c t n).2.2.1 y = result2 x g w ((win0_9.blk t).view.emb y)
  intro y
  have h : t.val < 32 := t.isLt
  idx_vars y
  generalize y0 = r
  generalize y1 = l
  have hr : (win0_9.blk t).view.emb (ix2 r l) = (ix2 ⟨512 * (t.val / 2) + r.val, by omega⟩ ⟨512 * (t.val % 2) + l.val, by omega⟩
      : S8192x1024.Idx) := by blk_ext [e9]
  rw [hr]
  refine (pay3_apply _ _ r l).trans ?_
  unfold result2 proj
  exact congrArg₂ Spec.dot (funext fun k => hn r k) (funext fun k => by rw [iblk4_apply, ew]; rfl)

end Cert.InCdKernel

end
-- ==== Proof.InCdClaim.lean ====
/- The second layer's input projection: its reference's arrays, and the claim that the kernel leaves the same. -/
module

public import proofs.«01_k».proof.Defs
public import proofs.«01_k».proof.Proof.Gen.InCdRefIdeal.Run
public import proofs.«01_k».proof.Proof.InCdKernel

@[expose] public section

set_option maxRecDepth 16384

noncomputable section

namespace Cert.InCdClaim

open Idealize.ShloMosaic Idealize.ShloMosaic.TcCoe Idealize.SL.Sem

section Ref
open Cert.InCdRefIdeal Cert.InCdRefIdeal.Gen

variable {F : FTy → Type} [FloatOps F]

/-- The sum of squares of each row. -/
def ssq (x : FVec F S8192x2048 .f32) : FVec F S8192 .f32 :=
  Host.reduceAdd (mulf x x) (constant S_ .f32 0x00000000#32) reducesTo_S8192x2048_S8192_d1 h_S_

/-- The normed rows, the sums of squares given. -/
def normOf (x : FVec F S8192x2048 .f32) (g : FVec F S2048 .f32) (q : FVec F S8192 .f32) : FVec F S8192x2048 .f32 :=
  mulf (mulf x (broadcastInDim S8192x2048 ![0, 1] bcast_S8192x1_S8192x2048_0_1 (Host.rsqrt (addf (Host.divf (broadcastInDim S8192x1 ![0] bcast_S8192_S8192x1_0 q) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- All columns' products. -/
def prodOf (n : FVec F S8192x2048 .f32) (w : FVec F S2048x5120 .f32) : FVec F S8192x5120 .f32 :=
  Host.dotGeneral dot_S8192x2048_S2048x5120_S8192x5120_1_0_0_1_n_n none n w

/-- The first block of columns gated by the second. -/
def gluOf (z : FVec F S8192x5120 .f32) : FVec F S8192x1024 .f32 :=
  mulf (extractStridedSlice S8192x1024 ![0, 0] z slices_S8192x5120_S8192x1024_0_0)
    (Host.divf (broadcastInDim S8192x1024 ![] bcast_S_S8192x1024 (constant S_ .f32 0x3F800000#32))
      (addf (broadcastInDim S8192x1024 ![] bcast_S_S8192x1024 (constant S_ .f32 0x3F800000#32))
        (Host.exp (Host.negf (extractStridedSlice S8192x1024 ![0, 1024] z slices_S8192x5120_S8192x1024_0_1024)))))

/-- The product of the fourth and fifth blocks of columns. -/
def cghOf (z : FVec F S8192x5120 .f32) : FVec F S8192x1024 .f32 :=
  mulf (extractStridedSlice S8192x1024 ![0, 3072] z slices_S8192x5120_S8192x1024_0_3072)
    (extractStridedSlice S8192x1024 ![0, 4096] z slices_S8192x5120_S8192x1024_0_4096)

/-- The third block of columns. -/
def bgOf (z : FVec F S8192x5120 .f32) : FVec F S8192x1024 .f32 :=
  extractStridedSlice S8192x1024 ![0, 2048] z slices_S8192x5120_S8192x1024_0_2048

theorem ssq_apply (x : FVec Ideal S8192x2048 .f32) (r : Fin 8192) :
    ssq x (ix1 r) = ∑ k : Fin 2048, (x (ix2 r k) : EReal) * x (ix2 r k) := by
  unfold ssq
  rw [ValueIdx.hostReduceAdd_apply]
  have reduces : S8192x2048.Reduces [1] S8192 := by decide
  have lift : ∀ k : Fin 2048, reduces.lift (ix1 r) k = (ix2 r k : S8192x2048.Idx) := fun k => by
    funext a
    match a with
    | ⟨0, _⟩ => rfl
    | ⟨1, _⟩ => rfl
  refine (Ideal.hostReduceAdd_single _ reduces _ _ _).trans ?_
  rw [show constant (F := Ideal) S_ .f32 0x00000000#32 _ = (0 : EReal) from Ideal.ofBits_zero_f32]
  refine (zero_add _).trans (Finset.sum_congr rfl fun k _ => ?_)
  exact congrArg (fun i => (x i : EReal) * x i) (lift k)

theorem normOf_apply (x : FVec Ideal S8192x2048 .f32) (g : FVec Ideal S2048 .f32) (r : Fin 8192) (d : Fin 2048) :
    normOf x g (ssq x) (ix2 r d) = Spec.rms (fun k => x (ix2 r k)) (fun k => g (ix1 k)) d := by
  unfold Spec.rms
  rw [← ssq_apply]
  generalize ssq x = q
  pointwise [normOf]

theorem prodOf_apply (x : FVec Ideal S8192x2048 .f32) (g : FVec Ideal S2048 .f32) (w : FVec Ideal S2048x5120 .f32) (b : ℕ)
    (hb : b ≤ 4096) (r : Fin 8192) (l : Fin 1024) :
    prodOf (normOf x g (ssq x)) w (ix2 r ⟨b + l.val, by omega⟩) = InCdKernel.proj x g w b hb r l := by
  unfold InCdKernel.proj Spec.dot
  simp only [← normOf_apply]
  generalize normOf x g (ssq x) = n
  pointwise [prodOf]

theorem gluOf_apply (z : FVec Ideal S8192x5120 .f32) (r : Fin 8192) (l : Fin 1024) :
    gluOf z (ix2 r l) = (z (ix2 r ⟨0 + l.val, by omega⟩) : EReal) * Spec.gate (z (ix2 r ⟨1024 + l.val, by omega⟩)) := by
  unfold Spec.gate
  pointwise [gluOf]

theorem cghOf_apply (z : FVec Ideal S8192x5120 .f32) (r : Fin 8192) (l : Fin 1024) :
    cghOf z (ix2 r l) = (z (ix2 r ⟨3072 + l.val, by omega⟩) : EReal) * z (ix2 r ⟨4096 + l.val, by omega⟩) := by
  pointwise [cghOf]

theorem bgOf_apply (z : FVec Ideal S8192x5120 .f32) (r : Fin 8192) (l : Fin 1024) :
    bgOf z (ix2 r l) = (z (ix2 r ⟨2048 + l.val, by omega⟩) : EReal) := by
  pointwise [bgOf]

variable (x : FVec Ideal S8192x2048 .f32) (g : FVec Ideal S2048 .f32) (w : FVec Ideal S2048x5120 .f32)

theorem glu_eq : gluOf (prodOf (normOf x g (ssq x)) w) = InCdKernel.result0 x g w := by
  funext p
  revert p
  show ∀ p : S8192x1024.Idx, _ = _
  intro p
  idx_vars p
  generalize p0 = r
  generalize p1 = l
  refine (gluOf_apply _ r l).trans ?_
  rw [prodOf_apply x g w 0 (by decide), prodOf_apply x g w 1024 (by decide)]
  rfl

theorem cgh_eq : cghOf (prodOf (normOf x g (ssq x)) w) = InCdKernel.result1 x g w := by
  funext p
  revert p
  show ∀ p : S8192x1024.Idx, _ = _
  intro p
  idx_vars p
  generalize p0 = r
  generalize p1 = l
  refine (cghOf_apply _ r l).trans ?_
  rw [prodOf_apply x g w 3072 (by decide), prodOf_apply x g w 4096 (by decide)]
  rfl

theorem bg_eq : bgOf (prodOf (normOf x g (ssq x)) w) = InCdKernel.result2 x g w := by
  funext p
  revert p
  show ∀ p : S8192x1024.Idx, _ = _
  intro p
  idx_vars p
  generalize p0 = r
  generalize p1 = l
  refine (bgOf_apply _ r l).trans ?_
  rw [prodOf_apply x g w 2048 (by decide)]
  rfl

end Ref

/-- Kernel and reference leave the same three arrays. -/
theorem algebraic : Cert.algebraic_InCdIdeal_InCdRefIdeal := by
  intro m ρ m' ρ' hpre hag
  refine ⟨fun c => InCdKernel.result0 (m ((c.tc : Thread Cert.InCdIdeal.nD Cert.InCdIdeal.τ).loc Cert.InCdIdeal.main_arg0))
      (m ((c.tc : Thread Cert.InCdIdeal.nD Cert.InCdIdeal.τ).loc Cert.InCdIdeal.main_arg1))
      (m ((c.tc : Thread Cert.InCdIdeal.nD Cert.InCdIdeal.τ).loc Cert.InCdIdeal.main_arg2)),
    fun c => InCdKernel.result1 (m ((c.tc : Thread Cert.InCdIdeal.nD Cert.InCdIdeal.τ).loc Cert.InCdIdeal.main_arg0))
      (m ((c.tc : Thread Cert.InCdIdeal.nD Cert.InCdIdeal.τ).loc Cert.InCdIdeal.main_arg1))
      (m ((c.tc : Thread Cert.InCdIdeal.nD Cert.InCdIdeal.τ).loc Cert.InCdIdeal.main_arg2)),
    fun c => InCdKernel.result2 (m ((c.tc : Thread Cert.InCdIdeal.nD Cert.InCdIdeal.τ).loc Cert.InCdIdeal.main_arg0))
      (m ((c.tc : Thread Cert.InCdIdeal.nD Cert.InCdIdeal.τ).loc Cert.InCdIdeal.main_arg1))
      (m ((c.tc : Thread Cert.InCdIdeal.nD Cert.InCdIdeal.τ).loc Cert.InCdIdeal.main_arg2)), ?_, ?_⟩
  · exact (θ_run Cert.InCdIdeal.defs _ _).mono (fun _ h c => ⟨(h c).1.trans (InCdKernel.final7 m c _ _ _ rfl rfl rfl),
        (h c).2.1.trans (InCdKernel.final8 m c _ _ _ rfl rfl rfl), (h c).2.2.1.trans (InCdKernel.final9 m c _ _ _ rfl rfl rfl),
        (h c).2.2.2⟩)
      (Cert.InCdIdeal.Value.run_blocks (F := Ideal) m ρ)
  · refine (θ_run Cert.InCdRefIdeal.defs _ _).mono (fun _ h c => ⟨(h c).1.trans ?_, (h c).2.1.trans ?_, (h c).2.2.1.trans ?_,
        (h c).2.2.2⟩)
      (Cert.InCdRefIdeal.Value.run (F := Ideal) m' ρ')
    · rw [(hag c).1, (hag c).2.1, (hag c).2.2]
      exact glu_eq _ _ _
    · rw [(hag c).1, (hag c).2.1, (hag c).2.2]
      exact cgh_eq _ _ _
    · rw [(hag c).1, (hag c).2.1, (hag c).2.2]
      exact bg_eq _ _ _

end Cert.InCdClaim

end
-- ==== Proof.OutAbClaim.lean ====
/- The first layer's output projection: its kernel and its reference leave the same array. -/
module

public import proofs.«01_k».proof.Defs
public import proofs.«01_k».proof.Proof.Gen.OutAbIdeal.Value
public import proofs.«01_k».proof.Proof.Gen.OutAbRefIdeal.Run
public import Idealize.ShloMosaic.Lib.Claim
public import Idealize.ShloMosaic.Lib.Pointwise
public import Idealize.ShloMosaic.Lib.IdealHost
public import Idealize.ShloMosaic.Lib.Pipeline.ValueKit

@[expose] public section

set_option maxRecDepth 16384

noncomputable section

namespace Cert.OutAbClaim

open Idealize.ShloMosaic Idealize.ShloMosaic.TcCoe Idealize.SL.Sem

/-- The result: the residual row plus the two parts' products with the weight's upper and lower rows. -/
def result (x : FVec Ideal Cert.OutAbIdeal.S8192x2048 .f32) (a : FVec Ideal Cert.OutAbIdeal.S8192x512 .bf16)
    (b : FVec Ideal Cert.OutAbIdeal.S8192x1536 .bf16) (w : FVec Ideal Cert.OutAbIdeal.S2048x2048 .f32) :
    FVec Ideal Cert.OutAbIdeal.S8192x2048 .f32 :=
  fun p => (x p : EReal) +
    (∑ k : Fin 512, (a (ix2 ⟨(p 0).val, (p 0).isLt⟩ k) : EReal) * (w (ix2 ⟨k.val, by omega⟩ ⟨(p 1).val, (p 1).isLt⟩) : EReal)
      + ∑ k : Fin 1536, (b (ix2 ⟨(p 0).val, (p 0).isLt⟩ k) : EReal) * (w (ix2 ⟨512 + k.val, by omega⟩ ⟨(p 1).val, (p 1).isLt⟩) : EReal))

section Kernel
open Cert.OutAbIdeal Cert.OutAbIdeal.Gen

variable (m : (ℓ : Loc nD τ sig) → Buf (Elt Ideal) ℓ)

theorem idx_eq : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![t.val, 0])

theorem pay_apply (x : Vec Ideal S512x2048 .f32) (a : Vec Ideal S512x512 .bf16) (w : Vec Ideal S512x2048 .bf16)
    (b : Vec Ideal S512x1536 .bf16) (u : Vec Ideal S1536x2048 .bf16) (r : Fin 512) (l : Fin 2048) :
    k0_pay1 x a w b u (ix2 r l) = (x (ix2 r l) : EReal) + ∑ k : Fin 512, (a (ix2 r k) : EReal) * (w (ix2 k l) : EReal)
      + ∑ k : Fin 1536, (b (ix2 r k) : EReal) * (u (ix2 k l) : EReal) := by
  pointwise [k0_pay1]

theorem zeros : (![0, 0] : Fin 2 → ℕ) = fun _ => 0 := by
  funext a
  match a with
  | ⟨0, _⟩ => rfl
  | ⟨1, _⟩ => rfl

theorem out_eq (x : Vec Ideal S512x2048 .f32) (a : Vec Ideal S512x512 .bf16) (b : Vec Ideal S512x1536 .bf16)
    (w : Vec Ideal S2048x2048 .bf16) :
    out0_4 x a b w = k0_pay1 x a (View.ld (Val := Elt Ideal) w r0_2) b (View.ld (Val := Elt Ideal) w r0_4) := by
  unfold out0_4
  refine (View.canon_unit_zero (Val := Elt Ideal) zeros inb_S512x2048_S512x2048_0_0 _).trans ?_
  have e0 : View.ld (Val := Elt Ideal) x r0_0 = x := View.ld_unit_zero zeros _ _
  have e1 : View.ld (Val := Elt Ideal) a r0_1 = a := View.ld_unit_zero zeros _ _
  have e2 : View.ld (Val := Elt Ideal) b r0_3 = b := View.ld_unit_zero zeros _ _
  rw [e0, e1, e2]

/-- The weight's upper rows. -/
theorem ld_upper (w : Vec Ideal S2048x2048 .bf16) (k : Fin 512) (l : Fin 2048) :
    (View.ld (Val := Elt Ideal) w r0_2 : Vec Ideal S512x2048 .bf16) (ix2 k l) = w (ix2 ⟨k.val, by omega⟩ l) := by
  show w (r0_2.idx (ix2 k l)) = _
  refine congrArg w (funext fun a => ?_)
  match a with
  | ⟨0, _⟩ => exact Fin.ext (show 0 + 1 * k.val = k.val by omega)
  | ⟨1, _⟩ => exact Fin.ext (show 0 + 1 * l.val = l.val by omega)

/-- The weight's lower rows. -/
theorem ld_lower (w : Vec Ideal S2048x2048 .bf16) (k : Fin 1536) (l : Fin 2048) :
    (View.ld (Val := Elt Ideal) w r0_4 : Vec Ideal S1536x2048 .bf16) (ix2 k l) = w (ix2 ⟨512 + k.val, by omega⟩ l) := by
  show w (r0_4.idx (ix2 k l)) = _
  refine congrArg w (funext fun a => ?_)
  match a with
  | ⟨0, _⟩ => exact Fin.ext (show 512 + 1 * k.val = 512 + k.val by omega)
  | ⟨1, _⟩ => exact Fin.ext (show 0 + 1 * l.val = l.val by omega)

theorem iblk0_apply (c : Dev nD) (t : Fin cfg0.N) (r : Fin 512) (d : Fin 2048) :
    (iblk m c 0 t : Vec Ideal S512x2048 .f32) (ix2 r d) = (m ((c.tc : Thread nD τ).loc main_arg0) : Vec Ideal S8192x2048 .f32)
      (ix2 ⟨512 * t.val + r.val, by have h : t.val < 16 := t.isLt; omega⟩ d) := by
  have h : t.val < 16 := t.isLt
  obtain ⟨e0, e1, e2, e3, e4⟩ := idx_eq t
  blk_ext [iblk, V_main_arg0, e0]

theorem iblk1_apply (c : Dev nD) (t : Fin cfg0.N) (r : Fin 512) (d : Fin 512) :
    (iblk m c 1 t : Vec Ideal S512x512 .bf16) (ix2 r d) = (m ((c.tc : Thread nD τ).loc main_arg1) : Vec Ideal S8192x512 .bf16)
      (ix2 ⟨512 * t.val + r.val, by have h : t.val < 16 := t.isLt; omega⟩ d) := by
  have h : t.val < 16 := t.isLt
  obtain ⟨e0, e1, e2, e3, e4⟩ := idx_eq t
  blk_ext [iblk, V_main_arg1, e1]

theorem iblk2_apply (c : Dev nD) (t : Fin cfg0.N) (r : Fin 512) (d : Fin 1536) :
    (iblk m c 2 t : Vec Ideal S512x1536 .bf16) (ix2 r d) = (m ((c.tc : Thread nD τ).loc main_arg2) : Vec Ideal S8192x1536 .bf16)
      (ix2 ⟨512 * t.val + r.val, by have h : t.val < 16 := t.isLt; omega⟩ d) := by
  have h : t.val < 16 := t.isLt
  obtain ⟨e0, e1, e2, e3, e4⟩ := idx_eq t
  blk_ext [iblk, V_main_arg2, e2]

theorem iblk3_apply (c : Dev nD) (t : Fin cfg0.N) (r : Fin 2048) (d : Fin 2048) :
    ((iblk m c 3 t : Vec Ideal S2048x2048 .bf16) (ix2 r d) : EReal) = (m ((c.tc : Thread nD τ).loc main_arg3) : Vec Ideal S2048x2048 .f32)
      (ix2 r d) := by
  obtain ⟨e0, e1, e2, e3, e4⟩ := idx_eq t
  have h : t.val < 16 := t.isLt
  have hb : (iblk m c 3 t : Vec Ideal S2048x2048 .bf16) (ix2 r d) = (V m c main_v0 : Vec Ideal S2048x2048 .bf16) (ix2 r d) := by
    blk_ext [iblk, e3]
  rw [hb]
  entry_read
  rfl

/-- The kernel's result array after the run. -/
theorem final (c : Dev nD) (x : FVec Ideal S8192x2048 .f32) (a : FVec Ideal S8192x512 .bf16) (b : FVec Ideal S8192x1536 .bf16)
    (w : FVec Ideal S2048x2048 .f32)
    (ex : m ((c.tc : Thread nD τ).loc main_arg0) = x) (ea : m ((c.tc : Thread nD τ).loc main_arg1) = a)
    (eb : m ((c.tc : Thread nD τ).loc main_arg2) = b) (ew : m ((c.tc : Thread nD τ).loc main_arg3) = w) :
    (dats m 0 c).arrAt 4 cfg0.N = result x a b w := by
  refine (dats m 0 c).arrAt_eq_of_covers 4 _ (by decide +kernel) fun t hf y => ?_
  obtain ⟨e0, e1, e2, e3, e4⟩ := idx_eq t
  blk_simp
  rw [after0_4, out_eq]
  revert y
  show ∀ y : S512x2048.Idx, k0_pay1 (F := Ideal) (iblk m c 0 t) (iblk m c 1 t) (View.ld (Val := Elt Ideal) (iblk m c 3 t) r0_2)
    (iblk m c 2 t) (View.ld (Val := Elt Ideal) (iblk m c 3 t) r0_4) y = result x a b w ((win0_4.blk t).view.emb y)
  intro y
  have h : t.val < 16 := t.isLt
  idx_vars y
  generalize y0 = r
  generalize y1 = l
  have hr : (win0_4.blk t).view.emb (ix2 r l) = (ix2 ⟨512 * t.val + r.val, by omega⟩ l : S8192x2048.Idx) := by blk_ext [e4]
  refine (pay_apply _ _ _ _ _ r l).trans ?_
  rw [hr, iblk0_apply, ex, add_assoc]
  unfold result
  refine congrArg _ (congrArg₂ _ (Finset.sum_congr rfl fun k _ => ?_) (Finset.sum_congr rfl fun k _ => ?_))
  · rw [iblk1_apply, ld_upper, iblk3_apply, ea, ew]
    rfl
  · rw [iblk2_apply, ld_lower, iblk3_apply, eb, ew]
    rfl

end Kernel

section Ref
open Cert.OutAbRefIdeal Cert.OutAbRefIdeal.Gen

/-- The two parts side by side, read at an entry. -/
theorem cat_apply (a : FVec Ideal S8192x512 .f32) (b : FVec Ideal S8192x1536 .f32) (r : Fin 8192) (k : Fin 2048) :
    (concatenate S8192x2048 1 [⟨S8192x512, a⟩, ⟨S8192x1536, b⟩] concatenates_S8192x512_S8192x1536_S8192x2048_d1 : FVec Ideal S8192x2048 .f32) (ix2 r k)
      = if h : k.val < 512 then a (ix2 r ⟨k.val, h⟩) else b (ix2 r ⟨k.val - 512, by omega⟩) := by
  pointwise

theorem ref_eq (x : FVec Ideal S8192x2048 .f32) (a : FVec Ideal S8192x512 .bf16) (b : FVec Ideal S8192x1536 .bf16)
    (w : FVec Ideal S2048x2048 .f32) :
    addf x (Host.dotGeneral dot_S8192x2048_S2048x2048_S8192x2048_1_0_0_1_n_n none (concatenate S8192x2048 1
      [⟨S8192x512, (extf .f32 a bitsLt_bf16_f32)⟩, ⟨S8192x1536, (extf .f32 b bitsLt_bf16_f32)⟩]
      concatenates_S8192x512_S8192x1536_S8192x2048_d1) w) = result x a b w := by
  funext p
  revert p
  show ∀ p : S8192x2048.Idx, _ = _
  intro p
  idx_vars p
  generalize p0 = r
  generalize p1 = l
  have e : ∀ z : FVec Ideal S8192x2048 .f32, addf x (Host.dotGeneral dot_S8192x2048_S2048x2048_S8192x2048_1_0_0_1_n_n none z w) (ix2 r l)
      = (x (ix2 r l) : EReal) + ∑ k : Fin 2048, (z (ix2 r k) : EReal) * (w (ix2 k l) : EReal) := by
    intro z
    pointwise
  refine (e _).trans ?_
  simp only [cat_apply]
  refine congrArg _ ((Fin.sum_univ_add (a := 512) (b := 1536) (M := EReal) _).trans (congrArg₂ _
    (Finset.sum_congr rfl fun k _ => ?_) (Finset.sum_congr rfl fun k _ => ?_)))
  · rw [dif_pos (show (Fin.castAdd 1536 k).val < 512 from k.isLt)]
    rfl
  · have hk : ¬ (Fin.natAdd 512 k).val < 512 := by simp
    rw [dif_neg hk]
    have e1 : (⟨(Fin.natAdd 512 k).val - 512, by have := k.isLt; simp⟩ : Fin 1536) = k := Fin.ext (by simp)
    rw [e1]
    rfl

end Ref

/-- Kernel and reference leave the same array. -/
theorem algebraic : Cert.algebraic_OutAbIdeal_OutAbRefIdeal := by
  intro m ρ m' ρ' hpre hag
  refine ⟨fun c => result (m ((c.tc : Thread Cert.OutAbIdeal.nD Cert.OutAbIdeal.τ).loc Cert.OutAbIdeal.main_arg0))
    (m ((c.tc : Thread Cert.OutAbIdeal.nD Cert.OutAbIdeal.τ).loc Cert.OutAbIdeal.main_arg1))
    (m ((c.tc : Thread Cert.OutAbIdeal.nD Cert.OutAbIdeal.τ).loc Cert.OutAbIdeal.main_arg2))
    (m ((c.tc : Thread Cert.OutAbIdeal.nD Cert.OutAbIdeal.τ).loc Cert.OutAbIdeal.main_arg3)), ?_, ?_⟩
  · exact (θ_run Cert.OutAbIdeal.defs _ _).mono (fun _ h c => ⟨(h c).1.trans (final m c _ _ _ _ rfl rfl rfl rfl), (h c).2⟩)
      (Cert.OutAbIdeal.Value.run_blocks (F := Ideal) m ρ)
  · refine (θ_run Cert.OutAbRefIdeal.defs _ _).mono (fun _ h c => ⟨(h c).1.trans ?_, (h c).2⟩)
      (Cert.OutAbRefIdeal.Value.run (F := Ideal) m' ρ')
    rw [(hag c).1, (hag c).2.1, (hag c).2.2.1, (hag c).2.2.2]
    exact ref_eq _ _ _ _

end Cert.OutAbClaim

end
-- ==== Proof.OutCdClaim.lean ====
/- The second layer's output projection: its kernel and its reference leave the same array. -/
module

public import proofs.«01_k».proof.Defs
public import proofs.«01_k».proof.Proof.Gen.OutCdIdeal.Value
public import proofs.«01_k».proof.Proof.Gen.OutCdRefIdeal.Run
public import Idealize.ShloMosaic.Lib.Claim
public import Idealize.ShloMosaic.Lib.Pointwise
public import Idealize.ShloMosaic.Lib.IdealHost
public import Idealize.ShloMosaic.Lib.Pipeline.ValueKit

@[expose] public section

set_option maxRecDepth 16384

noncomputable section

namespace Cert.OutCdClaim

open Idealize.ShloMosaic Idealize.ShloMosaic.TcCoe Idealize.SL.Sem

/-- The result: the residual row plus the row's product with the weight. -/
def result (x : FVec Ideal Cert.OutCdIdeal.S8192x2048 .f32) (a : FVec Ideal Cert.OutCdIdeal.S8192x2048 .bf16)
    (w : FVec Ideal Cert.OutCdIdeal.S2048x2048 .f32) : FVec Ideal Cert.OutCdIdeal.S8192x2048 .f32 :=
  fun p => (x p : EReal) + ∑ k : Fin 2048, (a (ix2 ⟨(p 0).val, (p 0).isLt⟩ k) : EReal) * (w (ix2 k ⟨(p 1).val, (p 1).isLt⟩) : EReal)

section Kernel
open Cert.OutCdIdeal Cert.OutCdIdeal.Gen

variable (m : (ℓ : Loc nD τ sig) → Buf (Elt Ideal) ℓ)

theorem idx_eq : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, win0_0.index t = ![t.val, 0] ∧ win0_1.index t = ![t.val, 0] ∧ win0_2.index t = ![0, 0]
    ∧ win0_3.index t = ![t.val, 0])

theorem pay_apply (x : Vec Ideal S512x2048 .f32) (a : Vec Ideal S512x2048 .bf16) (w : Vec Ideal S2048x2048 .bf16)
    (r : Fin 512) (l : Fin 2048) :
    k0_pay1 x a w (ix2 r l) = (x (ix2 r l) : EReal) + ∑ k : Fin 2048, (a (ix2 r k) : EReal) * (w (ix2 k l) : EReal) := by
  pointwise [k0_pay1]

theorem zeros : (![0, 0] : Fin 2 → ℕ) = fun _ => 0 := by
  funext a
  match a with
  | ⟨0, _⟩ => rfl
  | ⟨1, _⟩ => rfl

theorem out_eq (x : Vec Ideal S512x2048 .f32) (a : Vec Ideal S512x2048 .bf16) (w : Vec Ideal S2048x2048 .bf16) :
    out0_3 x a w = k0_pay1 x a w := by
  unfold out0_3
  refine (View.canon_unit_zero (Val := Elt Ideal) zeros inb_S512x2048_S512x2048_0_0 _).trans ?_
  have e0 : View.ld (Val := Elt Ideal) x r0_0 = x := View.ld_unit_zero zeros _ _
  have e1 : View.ld (Val := Elt Ideal) a r0_0 = a := View.ld_unit_zero zeros _ _
  have e2 : View.ld (Val := Elt Ideal) w r0_1 = w := View.ld_unit_zero zeros _ _
  rw [e0, e1, e2]

/-- A row block's entry in the whole array. -/
theorem iblk0_apply (c : Dev nD) (t : Fin cfg0.N) (r : Fin 512) (d : Fin 2048) :
    (iblk m c 0 t : Vec Ideal S512x2048 .f32) (ix2 r d) = (m ((c.tc : Thread nD τ).loc main_arg0) : Vec Ideal S8192x2048 .f32)
      (ix2 ⟨512 * t.val + r.val, by have h : t.val < 16 := t.isLt; omega⟩ d) := by
  have h : t.val < 16 := t.isLt
  obtain ⟨e0, e1, e2, e3⟩ := idx_eq t
  blk_ext [iblk, V_main_arg0, e0]

theorem iblk1_apply (c : Dev nD) (t : Fin cfg0.N) (r : Fin 512) (d : Fin 2048) :
    (iblk m c 1 t : Vec Ideal S512x2048 .bf16) (ix2 r d) = (m ((c.tc : Thread nD τ).loc main_arg1) : Vec Ideal S8192x2048 .bf16)
      (ix2 ⟨512 * t.val + r.val, by have h : t.val < 16 := t.isLt; omega⟩ d) := by
  have h : t.val < 16 := t.isLt
  obtain ⟨e0, e1, e2, e3⟩ := idx_eq t
  blk_ext [iblk, V_main_arg1, e1]

theorem iblk2_apply (c : Dev nD) (t : Fin cfg0.N) (r : Fin 2048) (d : Fin 2048) :
    ((iblk m c 2 t : Vec Ideal S2048x2048 .bf16) (ix2 r d) : EReal) = (m ((c.tc : Thread nD τ).loc main_arg2) : Vec Ideal S2048x2048 .f32)
      (ix2 r d) := by
  obtain ⟨e0, e1, e2, e3⟩ := idx_eq t
  have h : t.val < 16 := t.isLt
  have hb : (iblk m c 2 t : Vec Ideal S2048x2048 .bf16) (ix2 r d) = (V m c main_v0 : Vec Ideal S2048x2048 .bf16) (ix2 r d) := by
    blk_ext [iblk, e2]
  rw [hb]
  entry_read
  rfl

theorem final (c : Dev nD) (x : FVec Ideal S8192x2048 .f32) (a : FVec Ideal S8192x2048 .bf16) (w : FVec Ideal S2048x2048 .f32)
    (ex : m ((c.tc : Thread nD τ).loc main_arg0) = x) (ea : m ((c.tc : Thread nD τ).loc main_arg1) = a)
    (ew : m ((c.tc : Thread nD τ).loc main_arg2) = w) :
    (dats m 0 c).arrAt 3 cfg0.N = result x a w := by
  refine (dats m 0 c).arrAt_eq_of_covers 3 _ (by decide +kernel) fun t hf y => ?_
  obtain ⟨e0, e1, e2, e3⟩ := idx_eq t
  blk_simp
  rw [after0_3, out_eq]
  revert y
  show ∀ y : S512x2048.Idx, k0_pay1 (F := Ideal) (iblk m c 0 t) (iblk m c 1 t) (iblk m c 2 t) y =
    result x a w ((win0_3.blk t).view.emb y)
  intro y
  have h : t.val < 16 := t.isLt
  idx_vars y
  generalize y0 = r
  generalize y1 = l
  have hr : (win0_3.blk t).view.emb (ix2 r l) = (ix2 ⟨512 * t.val + r.val, by omega⟩ l : S8192x2048.Idx) := by blk_ext [e3]
  refine (pay_apply _ _ _ r l).trans ?_
  rw [hr, iblk0_apply, ex]
  unfold result
  refine congrArg _ (Finset.sum_congr rfl fun k _ => ?_)
  rw [iblk1_apply, iblk2_apply, ea, ew]
  rfl

end Kernel

section Ref
open Cert.OutCdRefIdeal Cert.OutCdRefIdeal.Gen

theorem ref_eq (x : FVec Ideal S8192x2048 .f32) (a : FVec Ideal S8192x2048 .bf16) (w : FVec Ideal S2048x2048 .f32) :
    addf x (Host.dotGeneral dot_S8192x2048_S2048x2048_S8192x2048_1_0_0_1_n_n none (extf .f32 a bitsLt_bf16_f32) w) = result x a w := by
  funext p
  revert p
  show ∀ p : S8192x2048.Idx, _ = _
  intro p
  idx_vars p
  generalize p0 = r
  generalize p1 = l
  show _ = (x (ix2 r l) : EReal) + ∑ k : Fin 2048, (a (ix2 r k) : EReal) * (w (ix2 k l) : EReal)
  pointwise

end Ref

/-- Kernel and reference leave the same array. -/
theorem algebraic : Cert.algebraic_OutCdIdeal_OutCdRefIdeal := by
  intro m ρ m' ρ' hpre hag
  refine ⟨fun c => result (m ((c.tc : Thread Cert.OutCdIdeal.nD Cert.OutCdIdeal.τ).loc Cert.OutCdIdeal.main_arg0))
    (m ((c.tc : Thread Cert.OutCdIdeal.nD Cert.OutCdIdeal.τ).loc Cert.OutCdIdeal.main_arg1))
    (m ((c.tc : Thread Cert.OutCdIdeal.nD Cert.OutCdIdeal.τ).loc Cert.OutCdIdeal.main_arg2)), ?_, ?_⟩
  · exact (θ_run Cert.OutCdIdeal.defs _ _).mono (fun _ h c => ⟨(h c).1.trans (final m c _ _ _ rfl rfl rfl), (h c).2⟩)
      (Cert.OutCdIdeal.Value.run_blocks (F := Ideal) m ρ)
  · refine (θ_run Cert.OutCdRefIdeal.defs _ _).mono (fun _ h c => ⟨(h c).1.trans ?_, (h c).2⟩)
      (Cert.OutCdRefIdeal.Value.run (F := Ideal) m' ρ')
    rw [(hag c).1, (hag c).2.1, (hag c).2.2]
    exact ref_eq _ _ _

end Cert.OutCdClaim

end
-- ==== Proof.AbSpec.lean ====
/- The first layer's input projection, as numbers. -/
module

public import proofs.«01_k».proof.Proof.MlpSpec

@[expose] public section

noncomputable section

namespace Cert.AbSpec

open Idealize.ShloMosaic

/-- An entry after the root-mean-square norm over 512 columns with gain `g`. -/
def rms (x g : Fin 512 → EReal) (d : Fin 512) : EReal :=
  x d * Ideal.rsqrt (Ideal.div (∑ k : Fin 512, x k * x k) (Ideal.ofBits .f32 0x44000000#32) + Ideal.ofBits .f32 0x358637BD#32) * g d

/-- A row's product with a column, over 512. -/
def dot (x w : Fin 512 → EReal) : EReal := ∑ k : Fin 512, x k * w k

/-- The half-split rotation of 64 entries by the cosines and sines of 32 angles. -/
def rot (a : Fin 64 → EReal) (c s : Fin 32 → EReal) (e : Fin 64) : EReal :=
  if h : e.val < 32 then a e * c ⟨e.val, h⟩ - a ⟨e.val + 32, by omega⟩ * s ⟨e.val, h⟩
  else a e * c ⟨e.val - 32, by omega⟩ + a ⟨e.val - 32, by omega⟩ * s ⟨e.val - 32, by omega⟩

/-- A number that is neither infinity. -/
def IsReal (x : EReal) : Prop := ∃ s : ℝ, x = (s : EReal)

theorem fin_mul {x y : EReal} (hx : IsReal x) (hy : IsReal y) : IsReal (x * y) := by
  obtain ⟨a, rfl⟩ := hx
  obtain ⟨b, rfl⟩ := hy
  exact ⟨a * b, (EReal.coe_mul a b).symm⟩

theorem fin_add {x y : EReal} (hx : IsReal x) (hy : IsReal y) : IsReal (x + y) := by
  obtain ⟨a, rfl⟩ := hx
  obtain ⟨b, rfl⟩ := hy
  exact ⟨a + b, (EReal.coe_add a b).symm⟩

theorem fin_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact fin_add (h a) ih

theorem fin_neg {x : EReal} (hx : IsReal x) : IsReal (-x) := by
  obtain ⟨a, rfl⟩ := hx
  exact ⟨-a, (EReal.coe_neg a).symm⟩

/-- The sum of negated products of finite numbers is the negated sum. -/
theorem sum_neg {ι : Type} (s : Finset ι) (f g : ι → EReal) (hf : ∀ i, IsReal (f i)) (hg : ∀ i, IsReal (g i)) :
    ∑ i ∈ s, f i * -g i = -∑ i ∈ s, f i * g i := by
  classical
  induction s using Finset.induction_on with
  | empty => simp
  | insert a s ha ih =>
    rw [Finset.sum_insert ha, Finset.sum_insert ha, ih]
    obtain ⟨p, hp⟩ := fin_mul (hf a) (hg a)
    obtain ⟨q, hq⟩ := fin_sum s (fun i => f i * g i) fun i => fin_mul (hf i) (hg i)
    rw [mul_neg, hp, hq]
    rw [← EReal.coe_neg, ← EReal.coe_neg, ← EReal.coe_add, ← EReal.coe_add, ← EReal.coe_neg]
    congr 1
    ring

theorem rsqrt_real (r : ℝ) (h : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr h.le), if_neg h.ne']

theorem mul_self_nonneg' (x : EReal) : 0 ≤ x * x := by
  rcases le_total 0 x with h | h
  · exact mul_nonneg h h
  · rw [← neg_mul_neg]
    exact mul_nonneg (EReal.neg_nonneg.mpr h) (EReal.neg_nonneg.mpr h)

theorem div_pos_real (x : EReal) (c : ℝ) (hc : 0 < c) : Ideal.div x (c : EReal) = x * ((c⁻¹ : ℝ) : EReal) := by
  unfold Ideal.div
  rw [if_neg (by exact_mod_cast hc.ne'), EReal.coe_inv]

/-- A normed entry is finite whatever the row, when the gain is. -/
theorem norm_real {n : ℕ} (x : Fin n → EReal) (d : Fin n) (g : EReal) (hg : IsReal g) (C E : EReal)
    (hC : ∃ c : ℝ, 0 < c ∧ C = (c : EReal)) (hE : ∃ e : ℝ, 0 < e ∧ E = (e : EReal)) :
    IsReal (x d * Ideal.rsqrt (Ideal.div (∑ k : Fin n, x k * x k) C + E) * g) := by
  obtain ⟨c, hc, rfl⟩ := hC
  obtain ⟨e, he, rfl⟩ := hE
  rw [div_pos_real _ c hc]
  by_cases h : ∀ k, IsReal (x k)
  · refine fin_mul (fin_mul (h d) ?_) hg
    obtain ⟨s, hs⟩ := fin_sum Finset.univ (fun k => x k * x k) fun k => fin_mul (h k) (h k)
    have h0 : 0 ≤ ∑ k : Fin n, x k * x k := Finset.sum_nonneg fun k _ => mul_self_nonneg' (x k)
    rw [hs] at h0 ⊢
    have h0' : 0 ≤ s := by exact_mod_cast h0
    rw [← EReal.coe_mul, ← EReal.coe_add]
    exact rsqrt_real _ (by positivity)
  · have ht : ∃ k, x k * x k = ⊤ := by
      by_contra hn
      refine h fun k => ?_
      rcases hx : x k with _ | _ | r
      · exact absurd ⟨k, by rw [hx]; rfl⟩ hn
      · exact absurd ⟨k, by rw [hx]; rfl⟩ hn
      · exact ⟨r, rfl⟩
    obtain ⟨k, hk⟩ := ht
    have hs : ∑ k : Fin n, x k * x k = ⊤ := by
      refine top_le_iff.mp ?_
      rw [← hk]
      exact Finset.single_le_sum (f := fun k => x k * x k) (fun k _ => mul_self_nonneg' (x k)) (Finset.mem_univ k)
    rw [hs, EReal.top_mul_coe_of_pos (inv_pos.mpr hc), EReal.top_add_coe]
    rw [show Ideal.rsqrt ⊤ = 0 from rfl, mul_zero, zero_mul]
    exact ⟨0, rfl⟩

theorem c2048 : ∃ c : ℝ, 0 < c ∧ Ideal.ofBits .f32 0x45000000#32 = (c : EReal) := by
  refine ⟨8388608 * (2 ^ 12)⁻¹, by norm_num, ?_⟩
  simp [Ideal.ofBits, Ideal.ieee]

theorem c512 : ∃ c : ℝ, 0 < c ∧ Ideal.ofBits .f32 0x44000000#32 = (c : EReal) := by
  refine ⟨8388608 * (2 ^ 14)⁻¹, by norm_num, ?_⟩
  simp [Ideal.ofBits, Ideal.ieee]

theorem ceps : ∃ c : ℝ, 0 < c ∧ Ideal.ofBits .f32 0x358637BD#32 = (c : EReal) := by
  refine ⟨8796093 * 2 ^ (-43 : ℤ), by positivity, ?_⟩
  simp [Ideal.ofBits, Ideal.ieee]

/-- The negated product. -/
theorem dot_neg (f g : Fin 512 → EReal) (hf : ∀ i, IsReal (f i)) (hg : ∀ i, IsReal (g i)) : dot f (fun i => -g i) = -dot f g :=
  sum_neg _ f g hf hg

theorem dot_zero (f : Fin 512 → EReal) : dot f (fun _ => 0) = 0 := by
  simp [dot]

theorem sdot_neg (f g : Fin 2048 → EReal) (hf : ∀ i, IsReal (f i)) (hg : ∀ i, IsReal (g i)) :
    Spec.dot f (fun i => -g i) = -Spec.dot f g :=
  sum_neg _ f g hf hg

theorem sdot_zero (f : Fin 2048 → EReal) : Spec.dot f (fun _ => 0) = 0 := by
  simp [Spec.dot]

theorem srms_real (x g : Fin 2048 → EReal) (d : Fin 2048) (hg : IsReal (g d)) : IsReal (Spec.rms x g d) :=
  norm_real x d (g d) hg _ _ c2048 ceps

theorem rms_real (x g : Fin 512 → EReal) (d : Fin 512) (hg : IsReal (g d)) : IsReal (rms x g d) :=
  norm_real x d (g d) hg _ _ c512 ceps

theorem and_one : ∀ a y : BitVec 1, IntOp.andi a y = 1#1 → a = 1#1 ∧ y = 1#1 := by
  decide

/-- A conjunction folded over a list is true only if it starts true and every member is. -/
theorem foldl_and {α : Type} (x : α → BitVec 1) : ∀ (l : List α) (a : BitVec 1),
    l.foldl (fun r n => IntOp.andi r (x n)) a = 1#1 → a = 1#1 ∧ ∀ n ∈ l, x n = 1#1
  | [], a, h => ⟨h, by simp⟩
  | b :: l, a, h => by
    obtain ⟨h1, h2⟩ := foldl_and x l _ h
    have : a = 1#1 ∧ x b = 1#1 := and_one a (x b) h1
    exact ⟨this.1, fun n hn => by
      rcases List.mem_cons.mp hn with rfl | hn
      · exact this.2
      · exact h2 n hn⟩

/-- A conjunction over all entries of an array is true only if every entry is. -/
theorem reduce_and {s t u : Shape} {axes : List (Fin s.rank)} (x : IVec s 1) (init : IVec u 1) (h : s.ReducesTo axes t) (hu : 0 < u.numel)
    (j : t.Idx) (hj : ∀ i, i = j) (e : Host.reduce IntOp.andi x init h hu j = 1#1) (i : s.Idx) : x i = 1#1 := by
  have := (foldl_and (fun n => x (s.rowMajor.symm n)) _ _ e).2 (s.rowMajor i) (by simp [hj])
  simpa using this

end Cert.AbSpec

end
-- ==== Proof.AbBlocks.lean ====
/- The first layer's input projection: the kernel's query and key blocks, read from the 24 pieces of 128 columns each. -/
module

public import proofs.«01_k».proof.Proof.Gen.InAbIdeal.Value
public import proofs.«01_k».proof.Proof.AbSpec

@[expose] public section

set_option maxRecDepth 16384

noncomputable section

namespace Cert.AbBlocks

open Idealize.ShloMosaic Idealize.ShloMosaic.TcCoe Idealize.SL.Sem Cert.InAbIdeal Cert.InAbIdeal.Gen

/-- The softmax scale. -/
def scale : EReal := Ideal.ofBits .f32 0x3D93CD3A#32

/-- A block's query entry: in each head, 128 scaled columns, then 128 rotated and scaled ones. -/
def qAt (c s : FVec Ideal S256x128 .f32) (a : FVec Ideal S256x3072 .f32) (b : FVec Ideal S256x1536 .f32) (r : Fin 256) (j : Fin 3072) : EReal :=
  if h : j.val % 256 < 128 then (a (ix2 r j) : EReal) * scale
  else ((a (ix2 r j) : EReal) * c (ix2 r ⟨j.val % 256 - 128, by omega⟩)
    + b (ix2 r ⟨128 * (j.val / 256) + (j.val % 256 - 128), by omega⟩) * s (ix2 r ⟨j.val % 256 - 128, by omega⟩)) * scale

/-- A block's key entry: in each head, 128 columns of its own, then 128 that all heads share. -/
def kAt (a : FVec Ideal S256x1536 .f32) (b : FVec Ideal S256x128 .f32) (r : Fin 256) (j : Fin 3072) : EReal :=
  if h : j.val % 256 < 128 then (a (ix2 r ⟨128 * (j.val / 256) + j.val % 256, by omega⟩) : EReal)
  else b (ix2 r ⟨j.val % 256 - 128, by omega⟩)

theorem qAt_lo (c s : FVec Ideal S256x128 .f32) (a : FVec Ideal S256x3072 .f32) (b : FVec Ideal S256x1536 .f32) (r : Fin 256) (h : Fin 12)
    (l : Fin 128) (o : ℕ) (e : o = 256 * h.val) (q : o + l.val < 3072) :
    qAt c s a b r ⟨o + l.val, q⟩ = (a (ix2 r ⟨o + l.val, q⟩) : EReal) * scale := by
  subst e
  unfold qAt
  rw [dif_pos (by show (256 * h.val + l.val) % 256 < 128; omega)]

theorem qAt_hi (c s : FVec Ideal S256x128 .f32) (a : FVec Ideal S256x3072 .f32) (b : FVec Ideal S256x1536 .f32) (r : Fin 256) (h : Fin 12)
    (l : Fin 128) (o o' : ℕ) (e : o = 256 * h.val + 128) (e' : o' = 128 * h.val) (q : o + l.val < 3072) :
    qAt c s a b r ⟨o + l.val, q⟩ = ((a (ix2 r ⟨o + l.val, q⟩) : EReal) * c (ix2 r l)
      + b (ix2 r ⟨o' + l.val, by omega⟩) * s (ix2 r l)) * scale := by
  subst e e'
  unfold qAt
  rw [dif_neg (by show ¬(256 * h.val + 128 + l.val) % 256 < 128; omega)]
  have e1 : (256 * h.val + 128 + l.val) % 256 - 128 = l.val := by omega
  have e2 : (256 * h.val + 128 + l.val) / 256 = h.val := by omega
  simp only [e1, e2]

theorem kAt_lo (a : FVec Ideal S256x1536 .f32) (b : FVec Ideal S256x128 .f32) (r : Fin 256) (h : Fin 12)
    (l : Fin 128) (o o' : ℕ) (e : o = 256 * h.val) (e' : o' = 128 * h.val) (q : o + l.val < 3072) :
    kAt a b r ⟨o + l.val, q⟩ = (a (ix2 r ⟨o' + l.val, by omega⟩) : EReal) := by
  subst e e'
  unfold kAt
  rw [dif_pos (by show (256 * h.val + l.val) % 256 < 128; omega)]
  have e1 : (256 * h.val + l.val) % 256 = l.val := by omega
  have e2 : (256 * h.val + l.val) / 256 = h.val := by omega
  simp only [e1, e2]

theorem kAt_hi (a : FVec Ideal S256x1536 .f32) (b : FVec Ideal S256x128 .f32) (r : Fin 256) (h : Fin 12)
    (l : Fin 128) (o : ℕ) (e : o = 256 * h.val + 128) (q : o + l.val < 3072) :
    kAt a b r ⟨o + l.val, q⟩ = (b (ix2 r l) : EReal) := by
  subst e
  unfold kAt
  rw [dif_neg (by show ¬(256 * h.val + 128 + l.val) % 256 < 128; omega)]
  have e1 : (256 * h.val + 128 + l.val) % 256 - 128 = l.val := by omega
  simp only [e1]

/-- The array of given entries. -/
def arr (G : Fin 256 → Fin 3072 → EReal) : Vec Ideal S256x3072 .bf16 := fun y => G (y 0) (y 1)

/-- A piece of 128 columns agrees with an array of which it holds the entries. -/
theorem piece_ok (G : Fin 256 → Fin 3072 → EReal) (off : ℕ) (hoff : off ≤ 2944)
    (inb : ∀ a, (![0, off] : Fin 2 → ℕ) a + (![256, 128] : Fin 2 → ℕ) a ≤ S256x3072.size a) (p : FVec Ideal S256x128 .bf16)
    (hp : ∀ (r : Fin 256) (l : Fin 128), (p (ix2 r l) : EReal) = G r ⟨off + l.val, by omega⟩)
    (x : (Rect.unit (s := S256x3072) ![0, off] ![256, 128] inb).shape.Idx) :
    p x = arr G ((Rect.unit (s := S256x3072) ![0, off] ![256, 128] inb).emb x) := by
  revert x
  show ∀ x : S256x128.Idx, _
  intro x
  idx_vars x
  refine (hp x0 x1).trans ?_
  refine congrArg₂ G (Fin.ext ?_) (Fin.ext ?_)
  · show x0.val = 0 + 1 * x0.val
    omega
  · show off + x1.val = off + 1 * x1.val
    omega

section
variable (c s : FVec Ideal S256x128 .f32) (a : FVec Ideal S256x3072 .f32) (b d : FVec Ideal S256x1536 .f32) (e : FVec Ideal S256x128 .f32)
  (r : Fin 256) (l : Fin 128)

theorem q0 : ((k0_pay18 a) (ix2 r l) : EReal) = qAt c s a b r ⟨0 + l.val, by omega⟩ := by
  refine Eq.trans (b := (a (ix2 r ⟨0 + l.val, by omega⟩) : EReal) * scale) ?_ (qAt_lo c s a b r 0 l 0 rfl (by omega)).symm
  unfold scale
  pointwise [k0_pay18]

theorem q1 : ((k0_pay19 c s a b) (ix2 r l) : EReal) = qAt c s a b r ⟨128 + l.val, by omega⟩ := by
  refine Eq.trans (b := ((a (ix2 r ⟨128 + l.val, by omega⟩) : EReal) * c (ix2 r l) + b (ix2 r ⟨0 + l.val, by omega⟩) * s (ix2 r l)) * scale) ?_ (qAt_hi c s a b r 0 l 128 0 rfl rfl (by omega)).symm
  unfold scale
  pointwise [k0_pay19]

theorem q2 : ((k0_pay21 a) (ix2 r l) : EReal) = qAt c s a b r ⟨256 + l.val, by omega⟩ := by
  refine Eq.trans (b := (a (ix2 r ⟨256 + l.val, by omega⟩) : EReal) * scale) ?_ (qAt_lo c s a b r 1 l 256 rfl (by omega)).symm
  unfold scale
  pointwise [k0_pay21]

theorem q3 : ((k0_pay22 c s a b) (ix2 r l) : EReal) = qAt c s a b r ⟨384 + l.val, by omega⟩ := by
  refine Eq.trans (b := ((a (ix2 r ⟨384 + l.val, by omega⟩) : EReal) * c (ix2 r l) + b (ix2 r ⟨128 + l.val, by omega⟩) * s (ix2 r l)) * scale) ?_ (qAt_hi c s a b r 1 l 384 128 rfl rfl (by omega)).symm
  unfold scale
  pointwise [k0_pay22]

theorem q4 : ((k0_pay24 a) (ix2 r l) : EReal) = qAt c s a b r ⟨512 + l.val, by omega⟩ := by
  refine Eq.trans (b := (a (ix2 r ⟨512 + l.val, by omega⟩) : EReal) * scale) ?_ (qAt_lo c s a b r 2 l 512 rfl (by omega)).symm
  unfold scale
  pointwise [k0_pay24]

theorem q5 : ((k0_pay25 c s a b) (ix2 r l) : EReal) = qAt c s a b r ⟨640 + l.val, by omega⟩ := by
  refine Eq.trans (b := ((a (ix2 r ⟨640 + l.val, by omega⟩) : EReal) * c (ix2 r l) + b (ix2 r ⟨256 + l.val, by omega⟩) * s (ix2 r l)) * scale) ?_ (qAt_hi c s a b r 2 l 640 256 rfl rfl (by omega)).symm
  unfold scale
  pointwise [k0_pay25]

theorem q6 : ((k0_pay28 a) (ix2 r l) : EReal) = qAt c s a b r ⟨768 + l.val, by omega⟩ := by
  refine Eq.trans (b := (a (ix2 r ⟨768 + l.val, by omega⟩) : EReal) * scale) ?_ (qAt_lo c s a b r 3 l 768 rfl (by omega)).symm
  unfold scale
  pointwise [k0_pay28]

theorem q7 : ((k0_pay29 (k0_pay27 c s a b)) (ix2 r l) : EReal) = qAt c s a b r ⟨896 + l.val, by omega⟩ := by
  refine Eq.trans (b := ((a (ix2 r ⟨896 + l.val, by omega⟩) : EReal) * c (ix2 r l) + b (ix2 r ⟨384 + l.val, by omega⟩) * s (ix2 r l)) * scale) ?_ (qAt_hi c s a b r 3 l 896 384 rfl rfl (by omega)).symm
  unfold scale
  pointwise [k0_pay29, k0_pay27]

theorem q8 : ((k0_pay31 a) (ix2 r l) : EReal) = qAt c s a b r ⟨1024 + l.val, by omega⟩ := by
  refine Eq.trans (b := (a (ix2 r ⟨1024 + l.val, by omega⟩) : EReal) * scale) ?_ (qAt_lo c s a b r 4 l 1024 rfl (by omega)).symm
  unfold scale
  pointwise [k0_pay31]

theorem q9 : ((k0_pay32 c s a b) (ix2 r l) : EReal) = qAt c s a b r ⟨1152 + l.val, by omega⟩ := by
  refine Eq.trans (b := ((a (ix2 r ⟨1152 + l.val, by omega⟩) : EReal) * c (ix2 r l) + b (ix2 r ⟨512 + l.val, by omega⟩) * s (ix2 r l)) * scale) ?_ (qAt_hi c s a b r 4 l 1152 512 rfl rfl (by omega)).symm
  unfold scale
  pointwise [k0_pay32]

theorem q10 : ((k0_pay37 (k0_pay34 a)) (ix2 r l) : EReal) = qAt c s a b r ⟨1280 + l.val, by omega⟩ := by
  refine Eq.trans (b := (a (ix2 r ⟨1280 + l.val, by omega⟩) : EReal) * scale) ?_ (qAt_lo c s a b r 5 l 1280 rfl (by omega)).symm
  unfold scale
  pointwise [k0_pay37, k0_pay34]

theorem q11 : ((k0_pay38 (k0_pay35 c s a b) (k0_pay36 (F := Ideal))) (ix2 r l) : EReal) = qAt c s a b r ⟨1408 + l.val, by omega⟩ := by
  refine Eq.trans (b := ((a (ix2 r ⟨1408 + l.val, by omega⟩) : EReal) * c (ix2 r l) + b (ix2 r ⟨640 + l.val, by omega⟩) * s (ix2 r l)) * scale) ?_ (qAt_hi c s a b r 5 l 1408 640 rfl rfl (by omega)).symm
  unfold scale
  pointwise [k0_pay38, k0_pay35, k0_pay36]

theorem q12 : ((k0_pay40 a) (ix2 r l) : EReal) = qAt c s a b r ⟨1536 + l.val, by omega⟩ := by
  refine Eq.trans (b := (a (ix2 r ⟨1536 + l.val, by omega⟩) : EReal) * scale) ?_ (qAt_lo c s a b r 6 l 1536 rfl (by omega)).symm
  unfold scale
  pointwise [k0_pay40]

theorem q13 : ((k0_pay41 c s a b) (ix2 r l) : EReal) = qAt c s a b r ⟨1664 + l.val, by omega⟩ := by
  refine Eq.trans (b := ((a (ix2 r ⟨1664 + l.val, by omega⟩) : EReal) * c (ix2 r l) + b (ix2 r ⟨768 + l.val, by omega⟩) * s (ix2 r l)) * scale) ?_ (qAt_hi c s a b r 6 l 1664 768 rfl rfl (by omega)).symm
  unfold scale
  pointwise [k0_pay41]

theorem q14 : ((k0_pay46 (k0_pay43 a)) (ix2 r l) : EReal) = qAt c s a b r ⟨1792 + l.val, by omega⟩ := by
  refine Eq.trans (b := (a (ix2 r ⟨1792 + l.val, by omega⟩) : EReal) * scale) ?_ (qAt_lo c s a b r 7 l 1792 rfl (by omega)).symm
  unfold scale
  pointwise [k0_pay46, k0_pay43]

theorem q15 : ((k0_pay47 s (k0_pay44 c a) (k0_pay45 b)) (ix2 r l) : EReal) = qAt c s a b r ⟨1920 + l.val, by omega⟩ := by
  refine Eq.trans (b := ((a (ix2 r ⟨1920 + l.val, by omega⟩) : EReal) * c (ix2 r l) + b (ix2 r ⟨896 + l.val, by omega⟩) * s (ix2 r l)) * scale) ?_ (qAt_hi c s a b r 7 l 1920 896 rfl rfl (by omega)).symm
  unfold scale
  pointwise [k0_pay47, k0_pay44, k0_pay45]

theorem q16 : ((k0_pay49 a) (ix2 r l) : EReal) = qAt c s a b r ⟨2048 + l.val, by omega⟩ := by
  refine Eq.trans (b := (a (ix2 r ⟨2048 + l.val, by omega⟩) : EReal) * scale) ?_ (qAt_lo c s a b r 8 l 2048 rfl (by omega)).symm
  unfold scale
  pointwise [k0_pay49]

theorem q17 : ((k0_pay50 c s a b) (ix2 r l) : EReal) = qAt c s a b r ⟨2176 + l.val, by omega⟩ := by
  refine Eq.trans (b := ((a (ix2 r ⟨2176 + l.val, by omega⟩) : EReal) * c (ix2 r l) + b (ix2 r ⟨1024 + l.val, by omega⟩) * s (ix2 r l)) * scale) ?_ (qAt_hi c s a b r 8 l 2176 1024 rfl rfl (by omega)).symm
  unfold scale
  pointwise [k0_pay50]

theorem q18 : ((k0_pay54 (k0_pay52 a) (k0_pay53 (F := Ideal))) (ix2 r l) : EReal) = qAt c s a b r ⟨2304 + l.val, by omega⟩ := by
  refine Eq.trans (b := (a (ix2 r ⟨2304 + l.val, by omega⟩) : EReal) * scale) ?_ (qAt_lo c s a b r 9 l 2304 rfl (by omega)).symm
  unfold scale
  pointwise [k0_pay54, k0_pay52, k0_pay53]

theorem q19 : ((k0_pay55 c s a b) (ix2 r l) : EReal) = qAt c s a b r ⟨2432 + l.val, by omega⟩ := by
  refine Eq.trans (b := ((a (ix2 r ⟨2432 + l.val, by omega⟩) : EReal) * c (ix2 r l) + b (ix2 r ⟨1152 + l.val, by omega⟩) * s (ix2 r l)) * scale) ?_ (qAt_hi c s a b r 9 l 2432 1152 rfl rfl (by omega)).symm
  unfold scale
  pointwise [k0_pay55]

theorem q20 : ((k0_pay57 a) (ix2 r l) : EReal) = qAt c s a b r ⟨2560 + l.val, by omega⟩ := by
  refine Eq.trans (b := (a (ix2 r ⟨2560 + l.val, by omega⟩) : EReal) * scale) ?_ (qAt_lo c s a b r 10 l 2560 rfl (by omega)).symm
  unfold scale
  pointwise [k0_pay57]

theorem q21 : ((k0_pay58 c s a b) (ix2 r l) : EReal) = qAt c s a b r ⟨2688 + l.val, by omega⟩ := by
  refine Eq.trans (b := ((a (ix2 r ⟨2688 + l.val, by omega⟩) : EReal) * c (ix2 r l) + b (ix2 r ⟨1280 + l.val, by omega⟩) * s (ix2 r l)) * scale) ?_ (qAt_hi c s a b r 10 l 2688 1280 rfl rfl (by omega)).symm
  unfold scale
  pointwise [k0_pay58]

theorem q22 : ((k0_pay1 a) (ix2 r l) : EReal) = qAt c s a b r ⟨2816 + l.val, by omega⟩ := by
  refine Eq.trans (b := (a (ix2 r ⟨2816 + l.val, by omega⟩) : EReal) * scale) ?_ (qAt_lo c s a b r 11 l 2816 rfl (by omega)).symm
  unfold scale
  pointwise [k0_pay1]

theorem q23 : ((k0_pay2 c s a b) (ix2 r l) : EReal) = qAt c s a b r ⟨2944 + l.val, by omega⟩ := by
  refine Eq.trans (b := ((a (ix2 r ⟨2944 + l.val, by omega⟩) : EReal) * c (ix2 r l) + b (ix2 r ⟨1408 + l.val, by omega⟩) * s (ix2 r l)) * scale) ?_ (qAt_hi c s a b r 11 l 2944 1408 rfl rfl (by omega)).symm
  unfold scale
  pointwise [k0_pay2]

theorem k0 : ((k0_pay20 d) (ix2 r l) : EReal) = kAt d e r ⟨0 + l.val, by omega⟩ := by
  refine Eq.trans (b := (d (ix2 r ⟨0 + l.val, by omega⟩) : EReal)) ?_ (kAt_lo d e r 0 l 0 0 rfl rfl (by omega)).symm
  pointwise [k0_pay20]

theorem k2 : ((k0_pay23 d) (ix2 r l) : EReal) = kAt d e r ⟨256 + l.val, by omega⟩ := by
  refine Eq.trans (b := (d (ix2 r ⟨128 + l.val, by omega⟩) : EReal)) ?_ (kAt_lo d e r 1 l 256 128 rfl rfl (by omega)).symm
  pointwise [k0_pay23]

theorem k4 : ((k0_pay26 d) (ix2 r l) : EReal) = kAt d e r ⟨512 + l.val, by omega⟩ := by
  refine Eq.trans (b := (d (ix2 r ⟨256 + l.val, by omega⟩) : EReal)) ?_ (kAt_lo d e r 2 l 512 256 rfl rfl (by omega)).symm
  pointwise [k0_pay26]

theorem k6 : ((k0_pay30 d) (ix2 r l) : EReal) = kAt d e r ⟨768 + l.val, by omega⟩ := by
  refine Eq.trans (b := (d (ix2 r ⟨384 + l.val, by omega⟩) : EReal)) ?_ (kAt_lo d e r 3 l 768 384 rfl rfl (by omega)).symm
  pointwise [k0_pay30]

theorem k8 : ((k0_pay33 d) (ix2 r l) : EReal) = kAt d e r ⟨1024 + l.val, by omega⟩ := by
  refine Eq.trans (b := (d (ix2 r ⟨512 + l.val, by omega⟩) : EReal)) ?_ (kAt_lo d e r 4 l 1024 512 rfl rfl (by omega)).symm
  pointwise [k0_pay33]

theorem k10 : ((k0_pay39 d) (ix2 r l) : EReal) = kAt d e r ⟨1280 + l.val, by omega⟩ := by
  refine Eq.trans (b := (d (ix2 r ⟨640 + l.val, by omega⟩) : EReal)) ?_ (kAt_lo d e r 5 l 1280 640 rfl rfl (by omega)).symm
  pointwise [k0_pay39]

theorem k12 : ((k0_pay42 d) (ix2 r l) : EReal) = kAt d e r ⟨1536 + l.val, by omega⟩ := by
  refine Eq.trans (b := (d (ix2 r ⟨768 + l.val, by omega⟩) : EReal)) ?_ (kAt_lo d e r 6 l 1536 768 rfl rfl (by omega)).symm
  pointwise [k0_pay42]

theorem k14 : ((k0_pay48 d) (ix2 r l) : EReal) = kAt d e r ⟨1792 + l.val, by omega⟩ := by
  refine Eq.trans (b := (d (ix2 r ⟨896 + l.val, by omega⟩) : EReal)) ?_ (kAt_lo d e r 7 l 1792 896 rfl rfl (by omega)).symm
  pointwise [k0_pay48]

theorem k16 : ((k0_pay51 d) (ix2 r l) : EReal) = kAt d e r ⟨2048 + l.val, by omega⟩ := by
  refine Eq.trans (b := (d (ix2 r ⟨1024 + l.val, by omega⟩) : EReal)) ?_ (kAt_lo d e r 8 l 2048 1024 rfl rfl (by omega)).symm
  pointwise [k0_pay51]

theorem k18 : ((k0_pay56 d) (ix2 r l) : EReal) = kAt d e r ⟨2304 + l.val, by omega⟩ := by
  refine Eq.trans (b := (d (ix2 r ⟨1152 + l.val, by omega⟩) : EReal)) ?_ (kAt_lo d e r 9 l 2304 1152 rfl rfl (by omega)).symm
  pointwise [k0_pay56]

theorem k20 : ((k0_pay59 d) (ix2 r l) : EReal) = kAt d e r ⟨2560 + l.val, by omega⟩ := by
  refine Eq.trans (b := (d (ix2 r ⟨1280 + l.val, by omega⟩) : EReal)) ?_ (kAt_lo d e r 10 l 2560 1280 rfl rfl (by omega)).symm
  pointwise [k0_pay59]

theorem k22 : ((k0_pay3 d) (ix2 r l) : EReal) = kAt d e r ⟨2816 + l.val, by omega⟩ := by
  refine Eq.trans (b := (d (ix2 r ⟨1408 + l.val, by omega⟩) : EReal)) ?_ (kAt_lo d e r 11 l 2816 1408 rfl rfl (by omega)).symm
  pointwise [k0_pay3]

theorem krope (h : Fin 12) (o : ℕ) (eo : o = 256 * h.val + 128) :
    ((k0_pay17 e) (ix2 r l) : EReal) = kAt d e r ⟨o + l.val, by omega⟩ := by
  refine Eq.trans (b := (e (ix2 r l) : EReal)) ?_ (kAt_hi d e r h l o eo (by omega)).symm
  pointwise [k0_pay17]

end

/-- The query block a point leaves. -/
theorem out14_eq (x0 : Vec Ideal S256x2048 .f32) (x1 : Vec Ideal S1x2048 .f32) (x2 : Vec Ideal S2048x1792 .bf16) (x3 : Vec Ideal S1x512 .f32) (x4 : Vec Ideal S1x512 .f32) (x5 : Vec Ideal S512x3072 .bf16) (x6 : Vec Ideal S512x1536 .bf16) (x7 : Vec Ideal S256x128 .f32) (x8 : Vec Ideal S256x128 .f32) (x9 : Vec Ideal S512x1536 .bf16) (x10 : Vec Ideal S512x1536 .bf16) :
    out0_14 x0 x1 x2 x3 x4 x5 x6 x7 x8 x9 x10 = arr (qAt (k0_pay62 x0 x1 x2 x3 x4 x5 x6 x7 x8 x9 x10) (k0_pay63 x0 x1 x2 x3 x4 x5 x6 x7 x8 x9 x10) (k0_pay65 x0 x1 x2 x3 x4 x5 x6 x7 x8 x9 x10) (k0_pay66 x0 x1 x2 x3 x4 x5 x6 x7 x8 x9 x10)) := by
  generalize hG : arr (qAt (k0_pay62 x0 x1 x2 x3 x4 x5 x6 x7 x8 x9 x10) (k0_pay63 x0 x1 x2 x3 x4 x5 x6 x7 x8 x9 x10) (k0_pay65 x0 x1 x2 x3 x4 x5 x6 x7 x8 x9 x10) (k0_pay66 x0 x1 x2 x3 x4 x5 x6 x7 x8 x9 x10)) = G
  funext y
  unfold out0_14
  generalize k0_pay62 x0 x1 x2 x3 x4 x5 x6 x7 x8 x9 x10 = c at *
  generalize k0_pay63 x0 x1 x2 x3 x4 x5 x6 x7 x8 x9 x10 = s at *
  generalize k0_pay65 x0 x1 x2 x3 x4 x5 x6 x7 x8 x9 x10 = a at *
  generalize k0_pay66 x0 x1 x2 x3 x4 x5 x6 x7 x8 x9 x10 = b at *
  subst hG
  refine View.canon_apply_of_pieces (Val := Elt Ideal) (arr (qAt c s a b)) _ ?_ y (cover0_14 _ _ _ _ _ _ _ _ _ _ _ _ _ _ _ _ _ _ _ _ _ _ _ _ y)
  simp only [List.forall_mem_cons]
  refine ⟨piece_ok _ 2944 (by decide) inb_S256x3072_S256x128_0_2944 _ (q23 c s a b), piece_ok _ 2816 (by decide) inb_S256x3072_S256x128_0_2816 _ (q22 c s a b), piece_ok _ 2688 (by decide) inb_S256x3072_S256x128_0_2688 _ (q21 c s a b), piece_ok _ 2560 (by decide) inb_S256x3072_S256x128_0_2560 _ (q20 c s a b), piece_ok _ 2432 (by decide) inb_S256x3072_S256x128_0_2432 _ (q19 c s a b), piece_ok _ 2304 (by decide) inb_S256x3072_S256x128_0_2304 _ (q18 c s a b), piece_ok _ 2176 (by decide) inb_S256x3072_S256x128_0_2176 _ (q17 c s a b), piece_ok _ 2048 (by decide) inb_S256x3072_S256x128_0_2048 _ (q16 c s a b), piece_ok _ 1920 (by decide) inb_S256x3072_S256x128_0_1920 _ (q15 c s a b), piece_ok _ 1792 (by decide) inb_S256x3072_S256x128_0_1792 _ (q14 c s a b), piece_ok _ 1664 (by decide) inb_S256x3072_S256x128_0_1664 _ (q13 c s a b), piece_ok _ 1536 (by decide) inb_S256x3072_S256x128_0_1536 _ (q12 c s a b), piece_ok _ 1408 (by decide) inb_S256x3072_S256x128_0_1408 _ (q11 c s a b), piece_ok _ 1280 (by decide) inb_S256x3072_S256x128_0_1280 _ (q10 c s a b), piece_ok _ 1152 (by decide) inb_S256x3072_S256x128_0_1152 _ (q9 c s a b), piece_ok _ 1024 (by decide) inb_S256x3072_S256x128_0_1024 _ (q8 c s a b), piece_ok _ 896 (by decide) inb_S256x3072_S256x128_0_896 _ (q7 c s a b), piece_ok _ 768 (by decide) inb_S256x3072_S256x128_0_768 _ (q6 c s a b), piece_ok _ 640 (by decide) inb_S256x3072_S256x128_0_640 _ (q5 c s a b), piece_ok _ 512 (by decide) inb_S256x3072_S256x128_0_512 _ (q4 c s a b), piece_ok _ 384 (by decide) inb_S256x3072_S256x128_0_384 _ (q3 c s a b), piece_ok _ 256 (by decide) inb_S256x3072_S256x128_0_256 _ (q2 c s a b), piece_ok _ 128 (by decide) inb_S256x3072_S256x128_0_128 _ (q1 c s a b), piece_ok _ 0 (by decide) inb_S256x3072_S256x128_0_0 _ (q0 c s a b), by simp⟩

/-- The key block a point leaves. -/
theorem out15_eq (x0 : Vec Ideal S256x2048 .f32) (x1 : Vec Ideal S1x2048 .f32) (x2 : Vec Ideal S2048x1792 .bf16) (x3 : Vec Ideal S1x512 .f32) (x4 : Vec Ideal S1x512 .f32) (x5 : Vec Ideal S512x3072 .bf16) (x6 : Vec Ideal S512x1536 .bf16) (x7 : Vec Ideal S256x128 .f32) (x8 : Vec Ideal S256x128 .f32) (x9 : Vec Ideal S512x1536 .bf16) (x10 : Vec Ideal S512x1536 .bf16) :
    out0_15 x0 x1 x2 x3 x4 x5 x6 x7 x8 x9 x10 = arr (kAt (k0_pay67 x0 x1 x2 x3 x4 x5 x6 x7 x8 x9 x10) (k0_pay64 x0 x1 x2 x3 x4 x5 x6 x7 x8 x9 x10)) := by
  generalize hG : arr (kAt (k0_pay67 x0 x1 x2 x3 x4 x5 x6 x7 x8 x9 x10) (k0_pay64 x0 x1 x2 x3 x4 x5 x6 x7 x8 x9 x10)) = G
  funext y
  unfold out0_15 k0_pay68
  generalize k0_pay67 x0 x1 x2 x3 x4 x5 x6 x7 x8 x9 x10 = d at *
  generalize k0_pay64 x0 x1 x2 x3 x4 x5 x6 x7 x8 x9 x10 = e at *
  subst hG
  refine View.canon_apply_of_pieces (Val := Elt Ideal) (arr (kAt d e)) _ ?_ y (cover0_15 _ _ _ _ _ _ _ _ _ _ _ _ _ _ _ _ _ _ _ _ _ _ _ _ y)
  simp only [List.forall_mem_cons]
  refine ⟨piece_ok _ 2944 (by decide) inb_S256x3072_S256x128_0_2944 _ (fun r l => krope d e r l 11 2944 rfl), piece_ok _ 2816 (by decide) inb_S256x3072_S256x128_0_2816 _ (k22 d e), piece_ok _ 2688 (by decide) inb_S256x3072_S256x128_0_2688 _ (fun r l => krope d e r l 10 2688 rfl), piece_ok _ 2560 (by decide) inb_S256x3072_S256x128_0_2560 _ (k20 d e), piece_ok _ 2432 (by decide) inb_S256x3072_S256x128_0_2432 _ (fun r l => krope d e r l 9 2432 rfl), piece_ok _ 2304 (by decide) inb_S256x3072_S256x128_0_2304 _ (k18 d e), piece_ok _ 2176 (by decide) inb_S256x3072_S256x128_0_2176 _ (fun r l => krope d e r l 8 2176 rfl), piece_ok _ 2048 (by decide) inb_S256x3072_S256x128_0_2048 _ (k16 d e), piece_ok _ 1920 (by decide) inb_S256x3072_S256x128_0_1920 _ (fun r l => krope d e r l 7 1920 rfl), piece_ok _ 1792 (by decide) inb_S256x3072_S256x128_0_1792 _ (k14 d e), piece_ok _ 1664 (by decide) inb_S256x3072_S256x128_0_1664 _ (fun r l => krope d e r l 6 1664 rfl), piece_ok _ 1536 (by decide) inb_S256x3072_S256x128_0_1536 _ (k12 d e), piece_ok _ 1408 (by decide) inb_S256x3072_S256x128_0_1408 _ (fun r l => krope d e r l 5 1408 rfl), piece_ok _ 1280 (by decide) inb_S256x3072_S256x128_0_1280 _ (k10 d e), piece_ok _ 1152 (by decide) inb_S256x3072_S256x128_0_1152 _ (fun r l => krope d e r l 4 1152 rfl), piece_ok _ 1024 (by decide) inb_S256x3072_S256x128_0_1024 _ (k8 d e), piece_ok _ 896 (by decide) inb_S256x3072_S256x128_0_896 _ (fun r l => krope d e r l 3 896 rfl), piece_ok _ 768 (by decide) inb_S256x3072_S256x128_0_768 _ (k6 d e), piece_ok _ 640 (by decide) inb_S256x3072_S256x128_0_640 _ (fun r l => krope d e r l 2 640 rfl), piece_ok _ 512 (by decide) inb_S256x3072_S256x128_0_512 _ (k4 d e), piece_ok _ 384 (by decide) inb_S256x3072_S256x128_0_384 _ (fun r l => krope d e r l 1 384 rfl), piece_ok _ 256 (by decide) inb_S256x3072_S256x128_0_256 _ (k2 d e), piece_ok _ 128 (by decide) inb_S256x3072_S256x128_0_128 _ (fun r l => krope d e r l 0 128 rfl), piece_ok _ 0 (by decide) inb_S256x3072_S256x128_0_0 _ (k0 d e), by simp⟩

end Cert.AbBlocks

end
-- ==== Proof.AbHost.lean ====
/- The first layer's input projection: the operands the host code prepares. -/
module

public import proofs.«01_k».proof.Proof.AbBlocks

@[expose] public section

set_option maxRecDepth 16384

noncomputable section

namespace Cert.AbHost

open Idealize.ShloMosaic Idealize.ShloMosaic.TcCoe Idealize.SL.Sem Cert.InAbIdeal Cert.InAbIdeal.Gen

section
variable {F : FTy → Type} [FloatOps F]

/-- The second half negated, then the first half. -/
def swapK (k : FVec F S2048x64 .f32) : FVec F S2048x64 .f32 :=
  concatenate S2048x64 1 [⟨S2048x32, Host.negf (extractStridedSlice S2048x32 ![0, 32] k slices_S2048x64_S2048x32_0_32)⟩,
    ⟨S2048x32, extractStridedSlice S2048x32 ![0, 0] k slices_S2048x64_S2048x32_0_0⟩] concatenates_S2048x32_S2048x32_S2048x64_d1

/-- 64 columns, then 64 zeros. -/
def padK (k : FVec F S2048x64 .f32) : FVec F S2048x128 .f32 :=
  concatenate S2048x128 1 [⟨S2048x64, k⟩, ⟨S2048x64, broadcastInDim S2048x64 ![] bcast_S_S2048x64 (constant S_ .f32 0x00000000#32)⟩]
    concatenates_S2048x64_S2048x64_S2048x128_d1

/-- The key columns of the input weight. -/
def colsK (w : FVec F S2048x1600 .f32) : FVec F S2048x64 .f32 :=
  extractStridedSlice S2048x64 ![0, 1536] w slices_S2048x1600_S2048x64_0_1536

/-- Three blocks of columns. -/
def joinW (w : FVec F S2048x1600 .f32) (p q : FVec F S2048x128 .f32) : FVec F S2048x1792 .bf16 :=
  truncf .bf16 (concatenate S2048x1792 1 [⟨S2048x1536, extractStridedSlice S2048x1536 ![0, 0] w slices_S2048x1600_S2048x1536_0_0⟩,
    ⟨S2048x128, p⟩, ⟨S2048x128, q⟩] concatenates_S2048x1536_S2048x128_S2048x128_S2048x1792_d1) bitsLt_bf16_f32

/-- The input weight as the kernel reads it. -/
def winOf (w : FVec F S2048x1600 .f32) : FVec F S2048x1792 .bf16 := joinW w (padK (colsK w)) (padK (swapK (colsK w)))

/-- The query weight, each head padded to 256 columns. -/
def wqOf (w : FVec F S512x12x192 .f32) : FVec F S512x3072 .bf16 :=
  truncf .bf16 (shapeCast S512x3072 (concatenate S512x12x256 2 [⟨S512x12x192, w⟩,
    ⟨S512x12x64, broadcastInDim S512x12x64 ![] bcast_S_S512x12x64 (constant S_ .f32 0x00000000#32)⟩]
    concatenates_S512x12x192_S512x12x64_S512x12x256_d2) shapeCasts_S512x12x256_S512x3072) bitsLt_bf16_f32

/-- The rotated columns of each head. -/
def colsQ (w : FVec F S512x12x192 .f32) : FVec F S512x12x64 .f32 :=
  extractStridedSlice S512x12x64 ![0, 0, 128] w slices_S512x12x192_S512x12x64_0_0_128

/-- In each head the second half negated, then the first half. -/
def swapQ (k : FVec F S512x12x64 .f32) : FVec F S512x12x64 .f32 :=
  concatenate S512x12x64 2 [⟨S512x12x32, Host.negf (extractStridedSlice S512x12x32 ![0, 0, 32] k slices_S512x12x64_S512x12x32_0_0_32)⟩,
    ⟨S512x12x32, extractStridedSlice S512x12x32 ![0, 0, 0] k slices_S512x12x64_S512x12x32_0_0_0⟩] concatenates_S512x12x32_S512x12x32_S512x12x64_d2

/-- In each head 64 columns, then 64 zeros. -/
def padQ (k : FVec F S512x12x64 .f32) : FVec F S512x1536 .bf16 :=
  truncf .bf16 (shapeCast S512x1536 (concatenate S512x12x128 2 [⟨S512x12x64, k⟩,
    ⟨S512x12x64, broadcastInDim S512x12x64 ![] bcast_S_S512x12x64 (constant S_ .f32 0x00000000#32)⟩]
    concatenates_S512x12x64_S512x12x64_S512x12x128_d2) shapeCasts_S512x12x128_S512x1536) bitsLt_bf16_f32

/-- The angle of each position and frequency. -/
def angle : FVec F S2048x32 .f32 :=
  mulf (broadcastInDim S2048x32 ![0, 1] bcast_S2048x1_S2048x32_0_1 (broadcastInDim S2048x1 ![0] bcast_S2048_S2048x1_0
      (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- A table of 32 columns twice, then 64 zeros. -/
def tab (a : FVec F S2048x32 .f32) : FVec F S2048x128 .f32 :=
  concatenate S2048x128 1 [⟨S2048x32, a⟩, ⟨S2048x32, a⟩,
    ⟨S2048x64, broadcastInDim S2048x64 ![] bcast_S_S2048x64 (constant S_ .f32 0x00000000#32)⟩] concatenates_S2048x32_S2048x32_S2048x64_S2048x128_d1

variable (m : (ℓ : Loc nD τ sig) → Buf (Elt F) ℓ) (c : Dev nD)

set_option maxHeartbeats 4000000 in
theorem win_eq : (V m c main_v29 : Vec F S2048x1792 .bf16) = winOf (m ((c.tc : Thread nD τ).loc main_arg2)) := by
  show StableHlo.after hostOps0 _ _ = _
  after_results_simp <;> (try dsimp only [Matrix.cons_val]) <;> (try after_results_simp) <;> rfl

set_option maxHeartbeats 4000000 in
theorem wq_eq : (V m c main_v33 : Vec F S512x3072 .bf16) = wqOf (m ((c.tc : Thread nD τ).loc main_arg5)) := by
  entry_read
  rfl

set_option maxHeartbeats 4000000 in
theorem wqr_eq : (V m c main_v42 : Vec F S512x1536 .bf16) = padQ (swapQ (colsQ (m ((c.tc : Thread nD τ).loc main_arg5)))) := by
  entry_read
  rfl

set_option maxHeartbeats 4000000 in
theorem cos_eq : (V m c main_v16 : Vec F S2048x128 .f32) = tab (Host.cos angle) := by
  show StableHlo.after hostOps0 _ _ = _
  after_results_simp <;> (try dsimp only [Matrix.cons_val]) <;> (try after_results_simp) <;> rfl

set_option maxHeartbeats 4000000 in
theorem sin_eq : (V m c main_v17 : Vec F S2048x128 .f32) = tab (Host.sin angle) := by
  show StableHlo.after hostOps0 _ _ = _
  after_results_simp <;> (try dsimp only [Matrix.cons_val]) <;> (try after_results_simp) <;> rfl
end

end Cert.AbHost

end
-- ==== Proof.AbMath.lean ====
/- The first layer's input projection: its six results entry by entry, and the prepared operands' entries. -/
module

public import proofs.«01_k».proof.Proof.AbHost

@[expose] public section

set_option maxRecDepth 16384

noncomputable section

namespace Cert.AbMath

open Idealize.ShloMosaic Idealize.ShloMosaic.TcCoe Idealize.SL.Sem Cert.InAbIdeal Cert.InAbIdeal.Gen

section Defs
variable (x : Vec Ideal S8192x2048 .f32) (g : Vec Ideal S2048 .f32) (wi : Vec Ideal S2048x1600 .f32) (gain : Vec Ideal S512 .f32)
  (wq : Vec Ideal S512x12x192 .f32) (wk : Vec Ideal S512x12x128 .f32)

/-- A normed row of the input. -/
def hrow (n : Fin 8192) : Fin 2048 → EReal := Spec.rms (fun k => x (ix2 n k)) (fun k => g (ix1 k))

/-- A row's entry of the input projection. -/
def zAt (n : Fin 8192) (j : Fin 1600) : EReal := Spec.dot (hrow x g n) (fun d => wi (ix2 d j))

/-- Position and frequency to cosine. -/
def cosAt (p : Fin 2048) (e : Fin 32) : EReal := (Host.cos (AbHost.angle (F := Ideal)) : FVec Ideal S2048x32 .f32) (ix2 p e)

/-- Position and frequency to sine. -/
def sinAt (p : Fin 2048) (e : Fin 32) : EReal := (Host.sin (AbHost.angle (F := Ideal)) : FVec Ideal S2048x32 .f32) (ix2 p e)

/-- A row's position in its sequence. -/
def posOf (n : Fin 8192) : Fin 2048 := ⟨n.val % 2048, by omega⟩

/-- 512 columns of a row of the projection, normed. -/
def nrm (o : ℕ) (ho : o ≤ 1088) (n : Fin 8192) : Fin 512 → EReal :=
  AbSpec.rms (fun k => zAt x g wi n ⟨o + k.val, by omega⟩) (fun k => gain (ix1 k))

/-- The rotated key columns. -/
def krAt (n : Fin 8192) (e : Fin 64) : EReal :=
  AbSpec.rot (fun i => zAt x g wi n ⟨1536 + i.val, by omega⟩) (cosAt (posOf n)) (sinAt (posOf n)) e

/-- A head's query, unrotated. -/
def qdAt (n : Fin 8192) (h : Fin 12) (l : Fin 192) : EReal := AbSpec.dot (nrm x g wi gain 512 (by decide) n) (fun k => wq (ix3 k h l))

/-- A head's rotated query columns. -/
def qrAt (n : Fin 8192) (h : Fin 12) (e : Fin 64) : EReal :=
  AbSpec.rot (fun i => qdAt x g wi gain wq n h ⟨128 + i.val, by omega⟩) (cosAt (posOf n)) (sinAt (posOf n)) e

/-- A head's product with the normed latent. -/
def hdAt (n : Fin 8192) (h : Fin 12) (l : Fin 128) : EReal := AbSpec.dot (nrm x g wi gain 1024 (by decide) n) (fun k => wk (ix3 k h l))

/-- A head's query as it reaches the attention. -/
def qOut (n : Fin 8192) (h : Fin 12) (d : Fin 256) : EReal :=
  if h1 : d.val < 128 then qdAt x g wi gain wq n h ⟨d.val, by omega⟩ * AbBlocks.scale
  else if h2 : d.val - 128 < 64 then qrAt x g wi gain wq n h ⟨d.val - 128, by omega⟩ * AbBlocks.scale else 0

/-- A head's key as it reaches the attention. -/
def kOut (n : Fin 8192) (h : Fin 12) (d : Fin 256) : EReal :=
  if h1 : d.val < 128 then hdAt x g wi gain wk n h ⟨d.val, h1⟩
  else if h2 : d.val - 128 < 64 then krAt x g wi n ⟨d.val - 128, by omega⟩ else 0

/-- First result: the pooled columns. -/
def result0 : Vec Ideal S8192x512 .f32 := fun y => zAt x g wi (y 0) ⟨0 + (y 1).val, by have h : (y 1).val < 512 := (y 1).isLt; omega⟩

/-- Second result: the latent. -/
def result1 : Vec Ideal S8192x512 .f32 := fun y => nrm x g wi gain 1024 (by decide) (y 0) (y 1)

/-- Third result: the rotated key columns. -/
def result2 : Vec Ideal S8192x64 .f32 := fun y => krAt x g wi (y 0) (y 1)

/-- Fourth result: the queries. -/
def result3 : Vec Ideal S8192x3072 .bf16 := fun y => qOut x g wi gain wq (y 0)
  ⟨(y 1).val / 256, by have h : (y 1).val < 3072 := (y 1).isLt; omega⟩ ⟨(y 1).val % 256, by omega⟩

/-- Fifth result: the keys. -/
def result4 : Vec Ideal S8192x3072 .bf16 := fun y => kOut x g wi gain wk (y 0)
  ⟨(y 1).val / 256, by have h : (y 1).val < 3072 := (y 1).isLt; omega⟩ ⟨(y 1).val % 256, by omega⟩

/-- Sixth result: the values. -/
def result5 : Vec Ideal S8192x1536 .bf16 := fun y => hdAt x g wi gain wk (y 0)
  ⟨(y 1).val / 128, by have h : (y 1).val < 1536 := (y 1).isLt; omega⟩ ⟨(y 1).val % 128, by omega⟩

end Defs

/-- The kernel's two products with the padded tables are the rotation, or zero in the padding. -/
theorem rope_eq (a : Fin 64 → EReal) (c s : Fin 32 → EReal) (e : Fin 128) (x y C S : EReal)
    (hx : x = if h : e.val < 64 then a ⟨e.val, h⟩ else 0)
    (hy : y = if h : e.val < 32 then -a ⟨e.val + 32, by omega⟩ else if h' : e.val < 64 then a ⟨e.val - 32, by omega⟩ else 0)
    (hC : C = if h : e.val < 32 then c ⟨e.val, h⟩ else if h' : e.val < 64 then c ⟨e.val - 32, by omega⟩ else 0)
    (hS : S = if h : e.val < 32 then s ⟨e.val, h⟩ else if h' : e.val < 64 then s ⟨e.val - 32, by omega⟩ else 0) :
    x * C + y * S = if h : e.val < 64 then AbSpec.rot a c s ⟨e.val, h⟩ else 0 := by
  subst hx hy hC hS
  by_cases h1 : e.val < 32
  · have h2 : e.val < 64 := by omega
    simp only [h1, h2, dif_pos, AbSpec.rot]
    rw [sub_eq_add_neg, EReal.neg_mul]
  · by_cases h2 : e.val < 64
    · simp only [h1, h2, dif_pos, dif_neg, not_false_eq_true, AbSpec.rot]
    · simp only [h1, h2, dif_neg, not_false_eq_true, mul_zero, add_zero]

theorem winOf_lo (w : FVec Ideal S2048x1600 .f32) (d : Fin 2048) (j : Fin 1536) :
    (AbHost.winOf w (ix2 d ⟨j.val, by omega⟩) : EReal) = w (ix2 d ⟨j.val, by omega⟩) := by
  unfold AbHost.winOf
  generalize AbHost.padK (AbHost.colsK w) = p
  generalize AbHost.padK (AbHost.swapK (AbHost.colsK w)) = q
  pointwise [AbHost.joinW]

theorem joinW_mid (w : FVec Ideal S2048x1600 .f32) (p q : FVec Ideal S2048x128 .f32) (d : Fin 2048) (e : Fin 128) :
    (AbHost.joinW w p q (ix2 d ⟨1536 + e.val, by omega⟩) : EReal) = p (ix2 d e) := by
  pointwise [AbHost.joinW]

theorem joinW_hi (w : FVec Ideal S2048x1600 .f32) (p q : FVec Ideal S2048x128 .f32) (d : Fin 2048) (e : Fin 128) :
    (AbHost.joinW w p q (ix2 d ⟨1664 + e.val, by omega⟩) : EReal) = q (ix2 d e) := by
  pointwise [AbHost.joinW]
  rw [dif_neg (by omega), dif_neg (by omega)]
  exact congrArg (fun i => (q (ix2 d i) : EReal)) (Fin.ext (show 1664 + e.val - 1536 - 128 = e.val by omega))

theorem padK_lo (k : FVec Ideal S2048x64 .f32) (d : Fin 2048) (e : Fin 64) :
    (AbHost.padK k (ix2 d ⟨e.val, by omega⟩) : EReal) = k (ix2 d e) := by
  pointwise [AbHost.padK]

theorem padK_hi (k : FVec Ideal S2048x64 .f32) (d : Fin 2048) (e : Fin 64) :
    (AbHost.padK k (ix2 d ⟨64 + e.val, by omega⟩) : EReal) = 0 := by
  refine Eq.trans ?_ Ideal.ofBits_zero_f32
  pointwise [AbHost.padK]

theorem swapK_lo (k : FVec Ideal S2048x64 .f32) (d : Fin 2048) (e : Fin 32) :
    (AbHost.swapK k (ix2 d ⟨e.val, by omega⟩) : EReal) = -k (ix2 d ⟨32 + e.val, by omega⟩) := by
  pointwise [AbHost.swapK]

theorem swapK_hi (k : FVec Ideal S2048x64 .f32) (d : Fin 2048) (e : Fin 32) :
    (AbHost.swapK k (ix2 d ⟨32 + e.val, by omega⟩) : EReal) = k (ix2 d ⟨e.val, by omega⟩) := by
  pointwise [AbHost.swapK]

theorem colsK_apply (w : FVec Ideal S2048x1600 .f32) (d : Fin 2048) (e : Fin 64) :
    (AbHost.colsK w (ix2 d e) : EReal) = w (ix2 d ⟨1536 + e.val, by omega⟩) := by
  pointwise [AbHost.colsK]

theorem tab_lo (a : FVec Ideal S2048x32 .f32) (p : Fin 2048) (e : Fin 32) :
    (AbHost.tab a (ix2 p ⟨e.val, by omega⟩) : EReal) = a (ix2 p e) := by
  pointwise [AbHost.tab]

theorem tab_mid (a : FVec Ideal S2048x32 .f32) (p : Fin 2048) (e : Fin 32) :
    (AbHost.tab a (ix2 p ⟨32 + e.val, by omega⟩) : EReal) = a (ix2 p e) := by
  pointwise [AbHost.tab]

theorem tab_hi (a : FVec Ideal S2048x32 .f32) (p : Fin 2048) (e : Fin 64) :
    (AbHost.tab a (ix2 p ⟨64 + e.val, by omega⟩) : EReal) = 0 := by
  refine Eq.trans ?_ Ideal.ofBits_zero_f32
  pointwise [AbHost.tab]
  rw [dif_neg (by omega), dif_neg (by omega)]

theorem wqOf_lo (w : FVec Ideal S512x12x192 .f32) (k : Fin 512) (h : Fin 12) (l : Fin 192) :
    (AbHost.wqOf w (ix2 k ⟨256 * h.val + l.val, by omega⟩) : EReal) = w (ix3 k h l) := by
  pointwise [AbHost.wqOf]
  rw [dif_pos (by omega)]
  exact congrArg (fun i => (w (ix3 k h i) : EReal)) (Fin.ext (show (256 * h.val + l.val) % 256 = l.val by omega))

theorem wqOf_hi (w : FVec Ideal S512x12x192 .f32) (k : Fin 512) (h : Fin 12) (l : Fin 64) :
    (AbHost.wqOf w (ix2 k ⟨256 * h.val + (192 + l.val), by omega⟩) : EReal) = 0 := by
  refine Eq.trans ?_ Ideal.ofBits_zero_f32
  pointwise [AbHost.wqOf]
  rw [dif_neg (by omega)]

theorem padQ_lo (w : FVec Ideal S512x12x64 .f32) (k : Fin 512) (h : Fin 12) (e : Fin 64) :
    (AbHost.padQ w (ix2 k ⟨128 * h.val + e.val, by omega⟩) : EReal) = w (ix3 k h e) := by
  pointwise [AbHost.padQ]
  rw [dif_pos (by omega)]
  exact congrArg (fun i => (w (ix3 k h i) : EReal)) (Fin.ext (show (128 * h.val + e.val) % 128 = e.val by omega))

theorem padQ_hi (w : FVec Ideal S512x12x64 .f32) (k : Fin 512) (h : Fin 12) (e : Fin 64) :
    (AbHost.padQ w (ix2 k ⟨128 * h.val + (64 + e.val), by omega⟩) : EReal) = 0 := by
  refine Eq.trans ?_ Ideal.ofBits_zero_f32
  pointwise [AbHost.padQ]
  rw [dif_neg (by omega)]

theorem swapQ_lo (k : FVec Ideal S512x12x64 .f32) (d : Fin 512) (h : Fin 12) (e : Fin 32) :
    (AbHost.swapQ k (ix3 d h ⟨e.val, by omega⟩) : EReal) = -k (ix3 d h ⟨32 + e.val, by omega⟩) := by
  pointwise [AbHost.swapQ]

theorem swapQ_hi (k : FVec Ideal S512x12x64 .f32) (d : Fin 512) (h : Fin 12) (e : Fin 32) :
    (AbHost.swapQ k (ix3 d h ⟨32 + e.val, by omega⟩) : EReal) = k (ix3 d h ⟨e.val, by omega⟩) := by
  pointwise [AbHost.swapQ]

theorem colsQ_apply (w : FVec Ideal S512x12x192 .f32) (d : Fin 512) (h : Fin 12) (e : Fin 64) :
    (AbHost.colsQ w (ix3 d h e) : EReal) = w (ix3 d h ⟨128 + e.val, by omega⟩) := by
  pointwise [AbHost.colsQ]

end Cert.AbMath

end
-- ==== Proof.AbKernel.lean ====
/- The first layer's input projection: the values a grid point computes, and the operands it reads. -/
module

public import proofs.«01_k».proof.Proof.AbBlocks

@[expose] public section

set_option maxRecDepth 16384

noncomputable section

namespace Cert.AbKernel

open Idealize.ShloMosaic Idealize.ShloMosaic.TcCoe Idealize.SL.Sem Cert.InAbIdeal Cert.InAbIdeal.Gen

theorem pay4_apply (x : Vec Ideal S256x2048 .f32) (g : Vec Ideal S1x2048 .f32) (w : Vec Ideal S2048x1792 .bf16) (r : Fin 256) (j : Fin 1792) :
    k0_pay4 x g w (ix2 r j) = Spec.dot (Spec.rms (fun k => x (ix2 r k)) (fun k => g (ix2 0 k))) (fun k => w (ix2 k j)) := by
  unfold Spec.dot Spec.rms
  pointwise [k0_pay4]

theorem pay5_apply (x : Vec Ideal S256x2048 .f32) (g : Vec Ideal S1x2048 .f32) (w : Vec Ideal S2048x1792 .bf16) (r : Fin 256) (j : Fin 512) :
    k0_pay5 x g w (ix2 r j) = k0_pay4 x g w (ix2 r ⟨0 + j.val, by omega⟩) := by
  unfold k0_pay5
  generalize k0_pay4 x g w = z
  pointwise

theorem pay6_apply (x : Vec Ideal S256x2048 .f32) (g : Vec Ideal S1x2048 .f32) (w : Vec Ideal S2048x1792 .bf16) (n : Vec Ideal S1x512 .f32)
    (r : Fin 256) (j : Fin 512) :
    k0_pay6 x g w n (ix2 r j) = AbSpec.rms (fun k => k0_pay4 x g w (ix2 r ⟨1024 + k.val, by omega⟩)) (fun k => n (ix2 0 k)) j := by
  unfold k0_pay6 AbSpec.rms
  generalize k0_pay4 x g w = z
  pointwise

theorem pay9_apply (z : FVec Ideal S256x1792 .f32) (c s : Vec Ideal S256x128 .f32) (r : Fin 256) (e : Fin 128) :
    k0_pay9 z c s (ix2 r e) = (z (ix2 r ⟨1536 + e.val, by omega⟩) : EReal) * c (ix2 r e) + z (ix2 r ⟨1664 + e.val, by omega⟩) * s (ix2 r e) := by
  pointwise [k0_pay9, k0_pay7, k0_pay8]

theorem pay10_apply (z : FVec Ideal S256x1792 .f32) (c s : Vec Ideal S256x128 .f32) (r : Fin 256) (e : Fin 64) :
    k0_pay10 z c s (ix2 r e) = k0_pay9 z c s (ix2 r ⟨0 + e.val, by omega⟩) := by
  unfold k0_pay10
  generalize k0_pay9 z c s = y
  pointwise

theorem pay11_apply (z : FVec Ideal S256x1792 .f32) (n : Vec Ideal S1x512 .f32) (r : Fin 256) (j : Fin 512) :
    (k0_pay11 z n (ix2 r j) : EReal) = AbSpec.rms (fun k => z (ix2 r ⟨512 + k.val, by omega⟩)) (fun k => n (ix2 0 k)) j := by
  unfold AbSpec.rms
  pointwise [k0_pay11]

theorem pay12_apply (z : FVec Ideal S256x1792 .f32) (n : Vec Ideal S1x512 .f32) (w : Vec Ideal S512x3072 .bf16) (r : Fin 256) (j : Fin 3072) :
    k0_pay12 z n w (ix2 r j) = AbSpec.dot (fun k => k0_pay11 z n (ix2 r k)) (fun k => w (ix2 k j)) := by
  unfold k0_pay12 AbSpec.dot
  generalize k0_pay11 z n = y
  pointwise

theorem pay13_apply (z : FVec Ideal S256x1792 .f32) (n : Vec Ideal S1x512 .f32) (w : Vec Ideal S512x1536 .bf16) (r : Fin 256) (j : Fin 1536) :
    k0_pay13 z n w (ix2 r j) = AbSpec.dot (fun k => k0_pay11 z n (ix2 r k)) (fun k => w (ix2 k j)) := by
  unfold k0_pay13 AbSpec.dot
  generalize k0_pay11 z n = y
  pointwise

theorem pay15_apply (y : FVec Ideal S256x512 .f32) (w : Vec Ideal S512x1536 .bf16) (r : Fin 256) (j : Fin 1536) :
    k0_pay15 y w (ix2 r j) = AbSpec.dot (fun k => y (ix2 r k)) (fun k => w (ix2 k j)) := by
  unfold AbSpec.dot
  pointwise [k0_pay15, k0_pay14]

theorem pay16_apply (y : FVec Ideal S256x512 .f32) (w : Vec Ideal S512x1536 .bf16) (r : Fin 256) (j : Fin 1536) :
    (k0_pay16 (k0_pay14 y) w (ix2 r j) : EReal) = AbSpec.dot (fun k => y (ix2 r k)) (fun k => w (ix2 k j)) := by
  unfold AbSpec.dot
  pointwise [k0_pay16, k0_pay14]

variable (m : (ℓ : Loc nD τ sig) → Buf (Elt Ideal) ℓ)

theorem idx_eq : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![t.val % 8, 0] ∧ win0_8.index t = ![t.val % 8, 0]
    ∧ win0_9.index t = ![0, 0] ∧ win0_10.index t = ![0, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![t.val % 8, 0] ∧ win0_8.index t = ![t.val % 8, 0]
    ∧ win0_9.index t = ![0, 0] ∧ win0_10.index t = ![0, 0])

theorem odx_eq : ∀ t : Fin cfg0.N, win0_11.index t = ![t.val, 0] ∧ win0_12.index t = ![t.val, 0] ∧ win0_13.index t = ![t.val, 0]
    ∧ win0_14.index t = ![t.val, 0] ∧ win0_15.index t = ![t.val, 0] ∧ win0_16.index t = ![t.val, 0] :=
  (by decide +kernel : ∀ t : Fin grid0.N, win0_11.index t = ![t.val, 0] ∧ win0_12.index t = ![t.val, 0] ∧ win0_13.index t = ![t.val, 0]
    ∧ win0_14.index t = ![t.val, 0] ∧ win0_15.index t = ![t.val, 0] ∧ win0_16.index t = ![t.val, 0])

theorem iblk0_apply (c : Dev nD) (t : Fin cfg0.N) (r : Fin 256) (d : Fin 2048) :
    (iblk m c 0 t : Vec Ideal S256x2048 .f32) (ix2 r d) = (m ((c.tc : Thread nD τ).loc main_arg0) : Vec Ideal S8192x2048 .f32)
      (ix2 ⟨256 * t.val + r.val, by have h : t.val < 32 := t.isLt; omega⟩ d) := by
  have h : t.val < 32 := t.isLt
  obtain ⟨e0, e1, e2, e3, e4, e5, e6, e7, e8, e9, e10⟩ := idx_eq t
  blk_ext [iblk, V_main_arg0, e0]

theorem iblk1_apply (c : Dev nD) (t : Fin cfg0.N) (d : Fin 2048) :
    (iblk m c 1 t : Vec Ideal S1x2048 .f32) (ix2 0 d) = (m ((c.tc : Thread nD τ).loc main_arg1) : Vec Ideal S2048 .f32) (ix1 d) := by
  have h : t.val < 32 := t.isLt
  obtain ⟨e0, e1, e2, e3, e4, e5, e6, e7, e8, e9, e10⟩ := idx_eq t
  have hb : (iblk m c 1 t : Vec Ideal S1x2048 .f32) (ix2 0 d) = (V m c main_v47 : Vec Ideal S1x2048 .f32) (ix2 0 d) := by
    blk_ext [iblk, e1]
  rw [hb]
  entry_read
  pointwise

theorem iblk3_apply (c : Dev nD) (t : Fin cfg0.N) (d : Fin 512) :
    (iblk m c 3 t : Vec Ideal S1x512 .f32) (ix2 0 d) = (m ((c.tc : Thread nD τ).loc main_arg3) : Vec Ideal S512 .f32) (ix1 d) := by
  have h : t.val < 32 := t.isLt
  obtain ⟨e0, e1, e2, e3, e4, e5, e6, e7, e8, e9, e10⟩ := idx_eq t
  have hb : (iblk m c 3 t : Vec Ideal S1x512 .f32) (ix2 0 d) = (V m c main_v48 : Vec Ideal S1x512 .f32) (ix2 0 d) := by
    blk_ext [iblk, e3]
  rw [hb]
  entry_read
  pointwise

theorem iblk4_apply (c : Dev nD) (t : Fin cfg0.N) (d : Fin 512) :
    (iblk m c 4 t : Vec Ideal S1x512 .f32) (ix2 0 d) = (m ((c.tc : Thread nD τ).loc main_arg4) : Vec Ideal S512 .f32) (ix1 d) := by
  have h : t.val < 32 := t.isLt
  obtain ⟨e0, e1, e2, e3, e4, e5, e6, e7, e8, e9, e10⟩ := idx_eq t
  have hb : (iblk m c 4 t : Vec Ideal S1x512 .f32) (ix2 0 d) = (V m c main_v49 : Vec Ideal S1x512 .f32) (ix2 0 d) := by
    blk_ext [iblk, e4]
  rw [hb]
  entry_read
  pointwise

theorem iblk9_apply (c : Dev nD) (t : Fin cfg0.N) (d : Fin 512) (h : Fin 12) (l : Fin 128) :
    ((iblk m c 9 t : Vec Ideal S512x1536 .bf16) (ix2 d ⟨128 * h.val + l.val, by omega⟩) : EReal)
      = (m ((c.tc : Thread nD τ).loc main_arg6) : Vec Ideal S512x12x128 .f32) (ix3 d h l) := by
  have ht : t.val < 32 := t.isLt
  obtain ⟨e0, e1, e2, e3, e4, e5, e6, e7, e8, e9, e10⟩ := idx_eq t
  have hb : (iblk m c 9 t : Vec Ideal S512x1536 .bf16) (ix2 d ⟨128 * h.val + l.val, by omega⟩)
      = (V m c main_v44 : Vec Ideal S512x1536 .bf16) (ix2 d ⟨128 * h.val + l.val, by omega⟩) := by
    blk_ext [iblk, e9]
  rw [hb]
  entry_read
  pointwise
  exact congrArg₂ (fun a b => (m ((c.tc : Thread nD τ).loc main_arg6) : Vec Ideal S512x12x128 .f32) (ix3 d a b))
    (Fin.ext (show (128 * h.val + l.val) / 128 = h.val by omega)) (Fin.ext (show (128 * h.val + l.val) % 128 = l.val by omega))

theorem iblk10_apply (c : Dev nD) (t : Fin cfg0.N) (d : Fin 512) (h : Fin 12) (l : Fin 128) :
    ((iblk m c 10 t : Vec Ideal S512x1536 .bf16) (ix2 d ⟨128 * h.val + l.val, by omega⟩) : EReal)
      = (m ((c.tc : Thread nD τ).loc main_arg7) : Vec Ideal S512x12x128 .f32) (ix3 d h l) := by
  have ht : t.val < 32 := t.isLt
  obtain ⟨e0, e1, e2, e3, e4, e5, e6, e7, e8, e9, e10⟩ := idx_eq t
  have hb : (iblk m c 10 t : Vec Ideal S512x1536 .bf16) (ix2 d ⟨128 * h.val + l.val, by omega⟩)
      = (V m c main_v46 : Vec Ideal S512x1536 .bf16) (ix2 d ⟨128 * h.val + l.val, by omega⟩) := by
    blk_ext [iblk, e10]
  rw [hb]
  entry_read
  pointwise
  exact congrArg₂ (fun a b => (m ((c.tc : Thread nD τ).loc main_arg7) : Vec Ideal S512x12x128 .f32) (ix3 d a b))
    (Fin.ext (show (128 * h.val + l.val) / 128 = h.val by omega)) (Fin.ext (show (128 * h.val + l.val) % 128 = l.val by omega))

end Cert.AbKernel

end
-- ==== Proof.AbCols.lean ====
/- The first layer's input projection: the columns of the prepared weights, and the kernel's products with them. -/
module

public import proofs.«01_k».proof.Proof.AbMath
public import proofs.«01_k».proof.Proof.AbKernel

@[expose] public section

set_option maxRecDepth 16384

noncomputable section

namespace Cert.AbCols

open Idealize.ShloMosaic Idealize.ShloMosaic.TcCoe Idealize.SL.Sem Cert.InAbIdeal Cert.InAbIdeal.Gen

theorem pad_at (k : FVec Ideal S2048x64 .f32) (d : Fin 2048) (e : Fin 128) :
    (AbHost.padK k (ix2 d e) : EReal) = if h : e.val < 64 then k (ix2 d ⟨e.val, h⟩) else (0 : EReal) := by
  by_cases h : e.val < 64
  · rw [dif_pos h]
    exact AbMath.padK_lo k d ⟨e.val, h⟩
  · rw [dif_neg h]
    have he : e = ⟨64 + (e.val - 64), by omega⟩ := Fin.ext (by show e.val = 64 + (e.val - 64); omega)
    exact (congrArg (fun i : Fin 128 => (AbHost.padK k (ix2 d i) : EReal)) he).trans (AbMath.padK_hi k d ⟨e.val - 64, by omega⟩)

theorem swap_at (k : FVec Ideal S2048x64 .f32) (d : Fin 2048) (e : Fin 64) :
    (AbHost.swapK k (ix2 d e) : EReal) = if h : e.val < 32 then -k (ix2 d ⟨e.val + 32, by omega⟩) else (k (ix2 d ⟨e.val - 32, by omega⟩) : EReal) := by
  by_cases h : e.val < 32
  · rw [dif_pos h]
    refine (AbMath.swapK_lo k d ⟨e.val, h⟩).trans ?_
    exact congrArg (fun i : Fin 64 => -(k (ix2 d i) : EReal)) (Fin.ext (Nat.add_comm 32 e.val))
  · rw [dif_neg h]
    have he : e = ⟨32 + (e.val - 32), by omega⟩ := Fin.ext (by show e.val = 32 + (e.val - 32); omega)
    exact (congrArg (fun i : Fin 64 => (AbHost.swapK k (ix2 d i) : EReal)) he).trans (AbMath.swapK_hi k d ⟨e.val - 32, by omega⟩)

theorem win_k (w : FVec Ideal S2048x1600 .f32) (d : Fin 2048) (e : Fin 128) :
    (AbHost.winOf w (ix2 d ⟨1536 + e.val, by omega⟩) : EReal) = if h : e.val < 64 then w (ix2 d ⟨1536 + e.val, by omega⟩) else (0 : EReal) := by
  refine (AbMath.joinW_mid w _ _ d e).trans ((pad_at _ d e).trans ?_)
  by_cases h : e.val < 64
  · simp only [h, dif_pos]
    exact AbMath.colsK_apply w d ⟨e.val, h⟩
  · simp only [h, dif_neg, not_false_eq_true]

theorem win_r (w : FVec Ideal S2048x1600 .f32) (d : Fin 2048) (e : Fin 128) :
    (AbHost.winOf w (ix2 d ⟨1664 + e.val, by omega⟩) : EReal) = if h : e.val < 32 then -(w (ix2 d ⟨1536 + (e.val + 32), by omega⟩) : EReal)
      else if h' : e.val < 64 then (w (ix2 d ⟨1536 + (e.val - 32), by omega⟩) : EReal) else (0 : EReal) := by
  refine (AbMath.joinW_hi w _ _ d e).trans ((pad_at _ d e).trans ?_)
  by_cases h1 : e.val < 32
  · have h : e.val < 64 := by omega
    simp only [h, h1, dif_pos]
    refine (swap_at _ d ⟨e.val, h⟩).trans ?_
    simp only [h1, dif_pos]
    exact congrArg Neg.neg (AbMath.colsK_apply w d ⟨e.val + 32, by omega⟩)
  · by_cases h : e.val < 64
    · simp only [h, h1, dif_pos, dif_neg, not_false_eq_true]
      refine (swap_at _ d ⟨e.val, h⟩).trans ?_
      simp only [h1, dif_neg, not_false_eq_true]
      exact AbMath.colsK_apply w d ⟨e.val - 32, by omega⟩
    · simp only [h, h1, dif_neg, not_false_eq_true]

theorem tab_at (a : FVec Ideal S2048x32 .f32) (p : Fin 2048) (e : Fin 128) :
    (AbHost.tab a (ix2 p e) : EReal) = if h : e.val < 32 then (a (ix2 p ⟨e.val, h⟩) : EReal)
      else if h' : e.val < 64 then (a (ix2 p ⟨e.val - 32, by omega⟩) : EReal) else (0 : EReal) := by
  by_cases h : e.val < 32
  · rw [dif_pos h]
    exact AbMath.tab_lo a p ⟨e.val, h⟩
  · rw [dif_neg h]
    by_cases h' : e.val < 64
    · rw [dif_pos h']
      have he : e = ⟨32 + (e.val - 32), by omega⟩ := Fin.ext (by show e.val = 32 + (e.val - 32); omega)
      exact (congrArg (fun i : Fin 128 => (AbHost.tab a (ix2 p i) : EReal)) he).trans (AbMath.tab_mid a p ⟨e.val - 32, by omega⟩)
    · rw [dif_neg h']
      have he : e = ⟨64 + (e.val - 64), by omega⟩ := Fin.ext (by show e.val = 64 + (e.val - 64); omega)
      exact (congrArg (fun i : Fin 128 => (AbHost.tab a (ix2 p i) : EReal)) he).trans (AbMath.tab_hi a p ⟨e.val - 64, by omega⟩)

theorem wq_k (w : FVec Ideal S512x12x192 .f32) (k : Fin 512) (h : Fin 12) (e : Fin 128) :
    (AbHost.wqOf w (ix2 k ⟨256 * h.val + (128 + e.val), by omega⟩) : EReal)
      = if h' : e.val < 64 then (w (ix3 k h ⟨128 + e.val, by omega⟩) : EReal) else (0 : EReal) := by
  by_cases h' : e.val < 64
  · rw [dif_pos h']
    exact AbMath.wqOf_lo w k h ⟨128 + e.val, by omega⟩
  · rw [dif_neg h']
    have he : (⟨256 * h.val + (128 + e.val), by omega⟩ : Fin 3072) = ⟨256 * h.val + (192 + (e.val - 64)), by omega⟩ :=
      Fin.ext (by show 256 * h.val + (128 + e.val) = 256 * h.val + (192 + (e.val - 64)); omega)
    exact (congrArg (fun i : Fin 3072 => (AbHost.wqOf w (ix2 k i) : EReal)) he).trans (AbMath.wqOf_hi w k h ⟨e.val - 64, by omega⟩)

theorem padq_at (w : FVec Ideal S512x12x64 .f32) (k : Fin 512) (h : Fin 12) (e : Fin 128) :
    (AbHost.padQ w (ix2 k ⟨128 * h.val + e.val, by omega⟩) : EReal) = if h' : e.val < 64 then (w (ix3 k h ⟨e.val, h'⟩) : EReal) else (0 : EReal) := by
  by_cases h' : e.val < 64
  · rw [dif_pos h']
    exact AbMath.padQ_lo w k h ⟨e.val, h'⟩
  · rw [dif_neg h']
    have he : (⟨128 * h.val + e.val, by omega⟩ : Fin 1536) = ⟨128 * h.val + (64 + (e.val - 64)), by omega⟩ :=
      Fin.ext (by show 128 * h.val + e.val = 128 * h.val + (64 + (e.val - 64)); omega)
    exact (congrArg (fun i : Fin 1536 => (AbHost.padQ w (ix2 k i) : EReal)) he).trans (AbMath.padQ_hi w k h ⟨e.val - 64, by omega⟩)

theorem swapq_at (k : FVec Ideal S512x12x64 .f32) (d : Fin 512) (h : Fin 12) (e : Fin 64) :
    (AbHost.swapQ k (ix3 d h e) : EReal) = if h' : e.val < 32 then -(k (ix3 d h ⟨e.val + 32, by omega⟩) : EReal)
      else (k (ix3 d h ⟨e.val - 32, by omega⟩) : EReal) := by
  by_cases h' : e.val < 32
  · rw [dif_pos h']
    refine (AbMath.swapQ_lo k d h ⟨e.val, h'⟩).trans ?_
    exact congrArg (fun i : Fin 64 => -(k (ix3 d h i) : EReal)) (Fin.ext (Nat.add_comm 32 e.val))
  · rw [dif_neg h']
    have he : e = ⟨32 + (e.val - 32), by omega⟩ := Fin.ext (by show e.val = 32 + (e.val - 32); omega)
    exact (congrArg (fun i : Fin 64 => (AbHost.swapQ k (ix3 d h i) : EReal)) he).trans (AbMath.swapQ_hi k d h ⟨e.val - 32, by omega⟩)

theorem wq_r (w : FVec Ideal S512x12x192 .f32) (k : Fin 512) (h : Fin 12) (e : Fin 128) :
    (AbHost.padQ (AbHost.swapQ (AbHost.colsQ w)) (ix2 k ⟨128 * h.val + e.val, by omega⟩) : EReal)
      = if h1 : e.val < 32 then -(w (ix3 k h ⟨128 + (e.val + 32), by omega⟩) : EReal)
        else if h' : e.val < 64 then (w (ix3 k h ⟨128 + (e.val - 32), by omega⟩) : EReal) else (0 : EReal) := by
  refine (padq_at _ k h e).trans ?_
  by_cases h1 : e.val < 32
  · have h' : e.val < 64 := by omega
    simp only [h', h1, dif_pos]
    refine (swapq_at _ k h ⟨e.val, h'⟩).trans ?_
    simp only [h1, dif_pos]
    exact congrArg Neg.neg (AbMath.colsQ_apply w k h ⟨e.val + 32, by omega⟩)
  · by_cases h' : e.val < 64
    · simp only [h', h1, dif_pos, dif_neg, not_false_eq_true]
      refine (swapq_at _ k h ⟨e.val, h'⟩).trans ?_
      simp only [h1, dif_neg, not_false_eq_true]
      exact AbMath.colsQ_apply w k h ⟨e.val - 32, by omega⟩
    · simp only [h', h1, dif_neg, not_false_eq_true]

section
variable (x : Vec Ideal S8192x2048 .f32) (g : Vec Ideal S2048 .f32) (wi : Vec Ideal S2048x1600 .f32) (qg : Vec Ideal S512 .f32)
  (wq : Vec Ideal S512x12x192 .f32)
  (hg : ∀ d, AbSpec.IsReal (g (ix1 d))) (hwi : ∀ d j, AbSpec.IsReal (wi (ix2 d j)))
  (hqg : ∀ d, AbSpec.IsReal (qg (ix1 d))) (hwq : ∀ k h l, AbSpec.IsReal (wq (ix3 k h l)))

include hg in
theorem hrow_real (n : Fin 8192) (d : Fin 2048) : AbSpec.IsReal (AbMath.hrow x g n d) := AbSpec.srms_real _ _ d (hg d)

/-- A row's product with a column of the prepared input weight. -/
def zp (n : Fin 8192) (j : Fin 1792) : EReal := Spec.dot (AbMath.hrow x g n) (fun d => AbHost.winOf (F := Ideal) wi (ix2 d j))

theorem zp_lo (n : Fin 8192) (j : Fin 1536) : zp x g wi n ⟨j.val, by omega⟩ = AbMath.zAt x g wi n ⟨j.val, by omega⟩ :=
  congrArg (Spec.dot _) (funext fun d => AbMath.winOf_lo wi d j)

theorem zp_k (n : Fin 8192) (e : Fin 128) : zp x g wi n ⟨1536 + e.val, by omega⟩
    = if h : e.val < 64 then AbMath.zAt x g wi n ⟨1536 + e.val, by omega⟩ else 0 := by
  refine (congrArg (Spec.dot _) (funext fun d => win_k wi d e)).trans ?_
  by_cases h : e.val < 64
  · simp only [h, dif_pos]
    rfl
  · simp only [h, dif_neg, not_false_eq_true]
    exact AbSpec.sdot_zero _

include hg hwi in
theorem zp_r (n : Fin 8192) (e : Fin 128) : zp x g wi n ⟨1664 + e.val, by omega⟩
    = if h : e.val < 32 then -AbMath.zAt x g wi n ⟨1536 + (e.val + 32), by omega⟩
      else if h' : e.val < 64 then AbMath.zAt x g wi n ⟨1536 + (e.val - 32), by omega⟩ else 0 := by
  refine (congrArg (Spec.dot _) (funext fun d => win_r wi d e)).trans ?_
  by_cases h1 : e.val < 32
  · simp only [h1, dif_pos]
    exact AbSpec.sdot_neg _ _ (hrow_real x g hg n) (fun d => hwi d _)
  · by_cases h : e.val < 64
    · simp only [h, h1, dif_pos, dif_neg, not_false_eq_true]
      rfl
    · simp only [h, h1, dif_neg, not_false_eq_true]
      exact AbSpec.sdot_zero _

/-- The table's row of a position. -/
def ctab (p : Fin 2048) (e : Fin 128) : EReal := AbHost.tab (Host.cos (AbHost.angle (F := Ideal))) (ix2 p e)

/-- The table's row of a position. -/
def stab (p : Fin 2048) (e : Fin 128) : EReal := AbHost.tab (Host.sin (AbHost.angle (F := Ideal))) (ix2 p e)

include hg hwi in
theorem kr_eq (n : Fin 8192) (e : Fin 128) :
    zp x g wi n ⟨1536 + e.val, by omega⟩ * ctab (AbMath.posOf n) e + zp x g wi n ⟨1664 + e.val, by omega⟩ * stab (AbMath.posOf n) e
      = if h : e.val < 64 then AbMath.krAt x g wi n ⟨e.val, h⟩ else 0 :=
  AbMath.rope_eq (fun i => AbMath.zAt x g wi n ⟨1536 + i.val, by omega⟩) (AbMath.cosAt (AbMath.posOf n)) (AbMath.sinAt (AbMath.posOf n)) e
    _ _ _ _ (zp_k x g wi n e) (zp_r x g wi hg hwi n e) (tab_at _ _ e) (tab_at _ _ e)

/-- A row's product with a column of the padded query weight. -/
def qp (n : Fin 8192) (j : Fin 3072) : EReal := AbSpec.dot (AbMath.nrm x g wi qg 512 (by decide) n) (fun k => AbHost.wqOf (F := Ideal) wq (ix2 k j))

/-- A row's product with a column of the swapped query weight. -/
def qs (n : Fin 8192) (j : Fin 1536) : EReal :=
  AbSpec.dot (AbMath.nrm x g wi qg 512 (by decide) n) (fun k => AbHost.padQ (F := Ideal) (AbHost.swapQ (AbHost.colsQ wq)) (ix2 k j))

theorem qp_lo (n : Fin 8192) (h : Fin 12) (l : Fin 128) : qp x g wi qg wq n ⟨256 * h.val + l.val, by omega⟩
    = AbMath.qdAt x g wi qg wq n h ⟨l.val, by omega⟩ :=
  congrArg (AbSpec.dot _) (funext fun k => AbMath.wqOf_lo wq k h ⟨l.val, by omega⟩)

theorem qp_k (n : Fin 8192) (h : Fin 12) (e : Fin 128) : qp x g wi qg wq n ⟨256 * h.val + (128 + e.val), by omega⟩
    = if h' : e.val < 64 then AbMath.qdAt x g wi qg wq n h ⟨128 + e.val, by omega⟩ else 0 := by
  refine (congrArg (AbSpec.dot _) (funext fun k => wq_k wq k h e)).trans ?_
  by_cases h' : e.val < 64
  · simp only [h', dif_pos]
    rfl
  · simp only [h', dif_neg, not_false_eq_true]
    exact AbSpec.dot_zero _

include hqg hwq in
theorem qs_at (n : Fin 8192) (h : Fin 12) (e : Fin 128) : qs x g wi qg wq n ⟨128 * h.val + e.val, by omega⟩
    = if h1 : e.val < 32 then -AbMath.qdAt x g wi qg wq n h ⟨128 + (e.val + 32), by omega⟩
      else if h' : e.val < 64 then AbMath.qdAt x g wi qg wq n h ⟨128 + (e.val - 32), by omega⟩ else 0 := by
  refine (congrArg (AbSpec.dot _) (funext fun k => wq_r wq k h e)).trans ?_
  by_cases h1 : e.val < 32
  · simp only [h1, dif_pos]
    exact AbSpec.dot_neg _ _ (fun k => AbSpec.rms_real _ _ k (hqg k)) (fun k => hwq k _ _)
  · by_cases h' : e.val < 64
    · simp only [h', h1, dif_pos, dif_neg, not_false_eq_true]
      rfl
    · simp only [h', h1, dif_neg, not_false_eq_true]
      exact AbSpec.dot_zero _

include hqg hwq in
theorem qr_eq (n : Fin 8192) (h : Fin 12) (e : Fin 128) :
    qp x g wi qg wq n ⟨256 * h.val + (128 + e.val), by omega⟩ * ctab (AbMath.posOf n) e
      + qs x g wi qg wq n ⟨128 * h.val + e.val, by omega⟩ * stab (AbMath.posOf n) e
      = if h' : e.val < 64 then AbMath.qrAt x g wi qg wq n h ⟨e.val, h'⟩ else 0 :=
  AbMath.rope_eq (fun i => AbMath.qdAt x g wi qg wq n h ⟨128 + i.val, by omega⟩) (AbMath.cosAt (AbMath.posOf n)) (AbMath.sinAt (AbMath.posOf n)) e
    _ _ _ _ (qp_k x g wi qg wq n h e) (qs_at x g wi qg wq hqg hwq n h e) (tab_at _ _ e) (tab_at _ _ e)

end

end Cert.AbCols

end
-- ==== Proof.AbFinal.lean ====
/- The first layer's input projection: the blocks a grid point leaves, and the arrays the kernel leaves. -/
module

public import proofs.«01_k».proof.Proof.AbCols

@[expose] public section

set_option maxRecDepth 16384

noncomputable section

namespace Cert.AbFinal

open Idealize.ShloMosaic Idealize.ShloMosaic.TcCoe Idealize.SL.Sem Cert.InAbIdeal Cert.InAbIdeal.Gen

theorem zeros : (![0, 0] : Fin 2 → ℕ) = fun _ => 0 := by decide

/-- A column of a head's block of 128. -/
def col128 (h : Fin 12) (l : Fin 128) : Fin 1536 := ⟨128 * h.val + l.val, by omega⟩

section Blocks
variable (x0 : Vec Ideal S256x2048 .f32) (x1 : Vec Ideal S1x2048 .f32) (x2 : Vec Ideal S2048x1792 .bf16) (x3 x4 : Vec Ideal S1x512 .f32)
  (x5 : Vec Ideal S512x3072 .bf16) (x6 : Vec Ideal S512x1536 .bf16) (x7 x8 : Vec Ideal S256x128 .f32) (x9 x10 : Vec Ideal S512x1536 .bf16)

theorem p60 : k0_pay60 x0 x1 x2 x3 x4 x5 x6 x7 x8 x9 x10 = k0_pay4 x0 x1 x2 := by
  unfold k0_pay60
  have e0 : View.ld (Val := Elt Ideal) x0 r0_0 = x0 := View.ld_unit_zero zeros _ _
  have e1 : View.ld (Val := Elt Ideal) x1 r0_1 = x1 := View.ld_unit_zero zeros _ _
  have e2 : View.ld (Val := Elt Ideal) x2 r0_2 = x2 := View.ld_unit_zero zeros _ _
  rw [e0, e1, e2]

theorem p61 : k0_pay61 x0 x1 x2 x3 x4 x5 x6 x7 x8 x9 x10 = k0_pay6 x0 x1 x2 x4 := by
  unfold k0_pay61
  have e0 : View.ld (Val := Elt Ideal) x0 r0_0 = x0 := View.ld_unit_zero zeros _ _
  have e1 : View.ld (Val := Elt Ideal) x1 r0_1 = x1 := View.ld_unit_zero zeros _ _
  have e2 : View.ld (Val := Elt Ideal) x2 r0_2 = x2 := View.ld_unit_zero zeros _ _
  have e4 : View.ld (Val := Elt Ideal) x4 r0_4 = x4 := View.ld_unit_zero zeros _ _
  rw [e0, e1, e2, e4]

theorem p62 : k0_pay62 x0 x1 x2 x3 x4 x5 x6 x7 x8 x9 x10 = k0_pay7 x7 :=
  congrArg k0_pay7 (View.ld_unit_zero (Val := Elt Ideal) zeros _ x7)

theorem p63 : k0_pay63 x0 x1 x2 x3 x4 x5 x6 x7 x8 x9 x10 = k0_pay8 x8 :=
  congrArg k0_pay8 (View.ld_unit_zero (Val := Elt Ideal) zeros _ x8)

theorem p64 : k0_pay64 x0 x1 x2 x3 x4 x5 x6 x7 x8 x9 x10 = k0_pay9 (k0_pay4 x0 x1 x2) x7 x8 := by
  unfold k0_pay64
  have e7 : View.ld (Val := Elt Ideal) x7 r0_5 = x7 := View.ld_unit_zero zeros _ _
  have e8 : View.ld (Val := Elt Ideal) x8 r0_5 = x8 := View.ld_unit_zero zeros _ _
  rw [e7, e8, p60]

theorem p65 : k0_pay65 x0 x1 x2 x3 x4 x5 x6 x7 x8 x9 x10 = k0_pay12 (k0_pay4 x0 x1 x2) x3 x5 := by
  unfold k0_pay65
  have e3 : View.ld (Val := Elt Ideal) x3 r0_4 = x3 := View.ld_unit_zero zeros _ _
  have e5 : View.ld (Val := Elt Ideal) x5 r0_7 = x5 := View.ld_unit_zero zeros _ _
  rw [e3, e5, p60]

theorem p66 : k0_pay66 x0 x1 x2 x3 x4 x5 x6 x7 x8 x9 x10 = k0_pay13 (k0_pay4 x0 x1 x2) x3 x6 := by
  unfold k0_pay66
  have e3 : View.ld (Val := Elt Ideal) x3 r0_4 = x3 := View.ld_unit_zero zeros _ _
  have e6 : View.ld (Val := Elt Ideal) x6 r0_8 = x6 := View.ld_unit_zero zeros _ _
  rw [e3, e6, p60]

theorem p67 : k0_pay67 x0 x1 x2 x3 x4 x5 x6 x7 x8 x9 x10 = k0_pay15 (k0_pay6 x0 x1 x2 x4) x9 := by
  unfold k0_pay67
  have e9 : View.ld (Val := Elt Ideal) x9 r0_8 = x9 := View.ld_unit_zero zeros _ _
  rw [e9, p61]

theorem out11_eq : out0_11 x0 x1 x2 x3 x4 x5 x6 x7 x8 x9 x10 = k0_pay5 x0 x1 x2 := by
  unfold out0_11
  refine (View.canon_unit_zero (Val := Elt Ideal) zeros inb_S256x512_S256x512_0_0 _).trans ?_
  have e0 : View.ld (Val := Elt Ideal) x0 r0_0 = x0 := View.ld_unit_zero zeros _ _
  have e1 : View.ld (Val := Elt Ideal) x1 r0_1 = x1 := View.ld_unit_zero zeros _ _
  have e2 : View.ld (Val := Elt Ideal) x2 r0_2 = x2 := View.ld_unit_zero zeros _ _
  rw [e0, e1, e2]

theorem out12_eq : out0_12 x0 x1 x2 x3 x4 x5 x6 x7 x8 x9 x10 = k0_pay6 x0 x1 x2 x4 := by
  unfold out0_12
  refine (View.canon_unit_zero (Val := Elt Ideal) zeros inb_S256x512_S256x512_0_0 _).trans ?_
  exact p61 x0 x1 x2 x3 x4 x5 x6 x7 x8 x9 x10

theorem out13_eq : out0_13 x0 x1 x2 x3 x4 x5 x6 x7 x8 x9 x10 = k0_pay10 (k0_pay4 x0 x1 x2) x7 x8 := by
  unfold out0_13
  refine (View.canon_unit_zero (Val := Elt Ideal) zeros inb_S256x64_S256x64_0_0 _).trans ?_
  have e7 : View.ld (Val := Elt Ideal) x7 r0_5 = x7 := View.ld_unit_zero zeros _ _
  have e8 : View.ld (Val := Elt Ideal) x8 r0_5 = x8 := View.ld_unit_zero zeros _ _
  rw [e7, e8, p60]

theorem out16_eq : out0_16 x0 x1 x2 x3 x4 x5 x6 x7 x8 x9 x10 = k0_pay16 (k0_pay14 (k0_pay6 x0 x1 x2 x4)) x10 := by
  unfold out0_16
  refine (View.canon_unit_zero (Val := Elt Ideal) zeros inb_S256x1536_S256x1536_0_0 _).trans ?_
  have e9 : View.ld (Val := Elt Ideal) x10 r0_8 = x10 := View.ld_unit_zero zeros _ _
  rw [e9, p61]

theorem pay7_apply (c : Vec Ideal S256x128 .f32) (r : Fin 256) (e : Fin 128) : (k0_pay7 c (ix2 r e) : EReal) = c (ix2 r e) := by
  pointwise [k0_pay7]

theorem pay8_apply (c : Vec Ideal S256x128 .f32) (r : Fin 256) (e : Fin 128) : (k0_pay8 c (ix2 r e) : EReal) = c (ix2 r e) := by
  pointwise [k0_pay8]

variable (x : Vec Ideal S8192x2048 .f32) (g : Vec Ideal S2048 .f32) (wi : Vec Ideal S2048x1600 .f32) (qg kvg : Vec Ideal S512 .f32)
  (wq : Vec Ideal S512x12x192 .f32) (wuk wuv : Vec Ideal S512x12x128 .f32) (n : Fin 8192) (r : Fin 256)
  (hg : ∀ d, AbSpec.IsReal (g (ix1 d))) (hwi : ∀ d j, AbSpec.IsReal (wi (ix2 d j)))
  (hqg : ∀ d, AbSpec.IsReal (qg (ix1 d))) (hwq : ∀ k h l, AbSpec.IsReal (wq (ix3 k h l)))
  (H0 : ∀ k, (x0 (ix2 r k) : EReal) = x (ix2 n k)) (H1 : ∀ k, (x1 (ix2 0 k) : EReal) = g (ix1 k))
  (H2 : ∀ d j, (x2 (ix2 d j) : EReal) = AbHost.winOf (F := Ideal) wi (ix2 d j))
  (H3 : ∀ k, (x3 (ix2 0 k) : EReal) = qg (ix1 k)) (H4 : ∀ k, (x4 (ix2 0 k) : EReal) = kvg (ix1 k))
  (H5 : ∀ k j, (x5 (ix2 k j) : EReal) = AbHost.wqOf (F := Ideal) wq (ix2 k j))
  (H6 : ∀ k j, (x6 (ix2 k j) : EReal) = AbHost.padQ (F := Ideal) (AbHost.swapQ (AbHost.colsQ wq)) (ix2 k j))
  (H7 : ∀ e, (x7 (ix2 r e) : EReal) = AbCols.ctab (AbMath.posOf n) e) (H8 : ∀ e, (x8 (ix2 r e) : EReal) = AbCols.stab (AbMath.posOf n) e)
  (H9 : ∀ (k : Fin 512) (h : Fin 12) (l : Fin 128), (x9 (ix2 k (col128 h l)) : EReal) = wuk (ix3 k h l))
  (H10 : ∀ (k : Fin 512) (h : Fin 12) (l : Fin 128), (x10 (ix2 k (col128 h l)) : EReal) = wuv (ix3 k h l))

include H0 H1 H2 in
theorem b_z (j : Fin 1792) : (k0_pay4 x0 x1 x2 (ix2 r j) : EReal) = AbCols.zp x g wi n j := by
  refine (AbKernel.pay4_apply x0 x1 x2 r j).trans ?_
  simp only [H0, H1, H2]
  rfl

include H0 H1 H2 H3 in
theorem b_cq (k : Fin 512) : (k0_pay11 (k0_pay4 x0 x1 x2) x3 (ix2 r k) : EReal) = AbMath.nrm x g wi qg 512 (by decide) n k := by
  refine (AbKernel.pay11_apply _ x3 r k).trans ?_
  unfold AbMath.nrm
  exact congrArg₂ (fun a b => AbSpec.rms a b k)
    (funext fun i => (b_z x0 x1 x2 x g wi n r H0 H1 H2 _).trans (AbCols.zp_lo x g wi n ⟨512 + i.val, by omega⟩)) (funext H3)

include H0 H1 H2 H4 in
theorem b_lat (k : Fin 512) : (k0_pay6 x0 x1 x2 x4 (ix2 r k) : EReal) = AbMath.nrm x g wi kvg 1024 (by decide) n k := by
  refine (AbKernel.pay6_apply x0 x1 x2 x4 r k).trans ?_
  unfold AbMath.nrm
  exact congrArg₂ (fun a b => AbSpec.rms a b k)
    (funext fun i => (b_z x0 x1 x2 x g wi n r H0 H1 H2 _).trans (AbCols.zp_lo x g wi n ⟨1024 + i.val, by omega⟩)) (funext H4)

include hg hwi H0 H1 H2 H7 H8 in
theorem b_kr (e : Fin 128) : (k0_pay9 (k0_pay4 x0 x1 x2) x7 x8 (ix2 r e) : EReal)
    = if h : e.val < 64 then AbMath.krAt x g wi n ⟨e.val, h⟩ else 0 := by
  refine (AbKernel.pay9_apply _ x7 x8 r e).trans ?_
  rw [b_z x0 x1 x2 x g wi n r H0 H1 H2, b_z x0 x1 x2 x g wi n r H0 H1 H2, H7, H8]
  exact AbCols.kr_eq x g wi hg hwi n e

include H0 H1 H2 H3 H5 in
theorem b_q (j : Fin 3072) : (k0_pay12 (k0_pay4 x0 x1 x2) x3 x5 (ix2 r j) : EReal) = AbCols.qp x g wi qg wq n j := by
  refine (AbKernel.pay12_apply _ x3 x5 r j).trans ?_
  unfold AbCols.qp
  exact congrArg₂ AbSpec.dot (funext fun k => b_cq x0 x1 x2 x3 x g wi qg n r H0 H1 H2 H3 k) (funext fun k => H5 k j)

include H0 H1 H2 H3 H6 in
theorem b_qs (j : Fin 1536) : (k0_pay13 (k0_pay4 x0 x1 x2) x3 x6 (ix2 r j) : EReal) = AbCols.qs x g wi qg wq n j := by
  refine (AbKernel.pay13_apply _ x3 x6 r j).trans ?_
  unfold AbCols.qs
  exact congrArg₂ AbSpec.dot (funext fun k => b_cq x0 x1 x2 x3 x g wi qg n r H0 H1 H2 H3 k) (funext fun k => H6 k j)

include H0 H1 H2 H4 H9 in
theorem b_kn (h : Fin 12) (l : Fin 128) : (k0_pay15 (k0_pay6 x0 x1 x2 x4) x9 (ix2 r ⟨128 * h.val + l.val, by omega⟩) : EReal)
    = AbMath.hdAt x g wi kvg wuk n h l := by
  refine (AbKernel.pay15_apply _ x9 r _).trans ?_
  unfold AbMath.hdAt
  exact congrArg₂ AbSpec.dot (funext fun k => b_lat x0 x1 x2 x4 x g wi kvg n r H0 H1 H2 H4 k) (funext fun k => H9 k h l)

include H0 H1 H2 H4 H10 in
theorem b_v (h : Fin 12) (l : Fin 128) :
    (k0_pay16 (k0_pay14 (k0_pay6 x0 x1 x2 x4)) x10 (ix2 r ⟨128 * h.val + l.val, by omega⟩) : EReal) = AbMath.hdAt x g wi kvg wuv n h l := by
  refine (AbKernel.pay16_apply _ x10 r _).trans ?_
  unfold AbMath.hdAt
  exact congrArg₂ AbSpec.dot (funext fun k => b_lat x0 x1 x2 x4 x g wi kvg n r H0 H1 H2 H4 k) (funext fun k => H10 k h l)

include H0 H1 H2 H3 H5 H6 H7 H8 hqg hwq in
theorem b_qOut (h : Fin 12) (d : Fin 256) :
    AbBlocks.qAt (k0_pay7 x7) (k0_pay8 x8) (k0_pay12 (k0_pay4 x0 x1 x2) x3 x5) (k0_pay13 (k0_pay4 x0 x1 x2) x3 x6) r
      ⟨256 * h.val + d.val, by omega⟩ = AbMath.qOut x g wi qg wq n h d := by
  unfold AbMath.qOut
  by_cases h1 : d.val < 128
  · rw [dif_pos h1]
    refine (AbBlocks.qAt_lo _ _ _ _ r h ⟨d.val, h1⟩ (256 * h.val) rfl _).trans ?_
    exact congrArg (· * AbBlocks.scale) ((b_q x0 x1 x2 x3 x5 x g wi qg wq n r H0 H1 H2 H3 H5 _).trans
      (AbCols.qp_lo x g wi qg wq n h ⟨d.val, h1⟩))
  · rw [dif_neg h1]
    have he : (⟨256 * h.val + d.val, by omega⟩ : Fin 3072) = ⟨256 * h.val + 128 + (d.val - 128), by omega⟩ :=
      Fin.ext (by show 256 * h.val + d.val = 256 * h.val + 128 + (d.val - 128); omega)
    have ha : (⟨256 * h.val + 128 + (d.val - 128), by omega⟩ : Fin 3072) = ⟨256 * h.val + (128 + (d.val - 128)), by omega⟩ :=
      Fin.ext (by show 256 * h.val + 128 + (d.val - 128) = 256 * h.val + (128 + (d.val - 128)); omega)
    refine (congrArg (fun i : Fin 3072 => AbBlocks.qAt (k0_pay7 x7) (k0_pay8 x8) (k0_pay12 (k0_pay4 x0 x1 x2) x3 x5)
      (k0_pay13 (k0_pay4 x0 x1 x2) x3 x6) r i) he).trans
      ((AbBlocks.qAt_hi _ _ _ _ r h ⟨d.val - 128, by omega⟩ (256 * h.val + 128) (128 * h.val) rfl rfl (by show 256 * h.val + 128 + (d.val - 128) < 3072; omega)).trans ?_)
    rw [b_q x0 x1 x2 x3 x5 x g wi qg wq n r H0 H1 H2 H3 H5, b_qs x0 x1 x2 x3 x6 x g wi qg wq n r H0 H1 H2 H3 H6, pay7_apply, pay8_apply, H7, H8, ha]
    refine (congrArg (· * AbBlocks.scale) (AbCols.qr_eq x g wi qg wq hqg hwq n h ⟨d.val - 128, by omega⟩)).trans ?_
    by_cases h2 : d.val - 128 < 64
    · simp only [h2, dif_pos]
    · simp only [h2, dif_neg, not_false_eq_true, zero_mul]

include H0 H1 H2 H4 H7 H8 H9 hg hwi in
theorem b_kOut (h : Fin 12) (d : Fin 256) :
    AbBlocks.kAt (k0_pay15 (k0_pay6 x0 x1 x2 x4) x9) (k0_pay9 (k0_pay4 x0 x1 x2) x7 x8) r
      ⟨256 * h.val + d.val, by omega⟩ = AbMath.kOut x g wi kvg wuk n h d := by
  unfold AbMath.kOut
  by_cases h1 : d.val < 128
  · rw [dif_pos h1]
    refine (AbBlocks.kAt_lo _ _ r h ⟨d.val, h1⟩ (256 * h.val) (128 * h.val) rfl rfl _).trans ?_
    exact b_kn x0 x1 x2 x4 x9 x g wi kvg wuk n r H0 H1 H2 H4 H9 h ⟨d.val, h1⟩
  · rw [dif_neg h1]
    have he : (⟨256 * h.val + d.val, by omega⟩ : Fin 3072) = ⟨256 * h.val + 128 + (d.val - 128), by omega⟩ :=
      Fin.ext (by show 256 * h.val + d.val = 256 * h.val + 128 + (d.val - 128); omega)
    refine (congrArg (fun i : Fin 3072 => AbBlocks.kAt (k0_pay15 (k0_pay6 x0 x1 x2 x4) x9) (k0_pay9 (k0_pay4 x0 x1 x2) x7 x8) r i) he).trans
      ((AbBlocks.kAt_hi _ _ r h ⟨d.val - 128, by omega⟩ (256 * h.val + 128) rfl (by show 256 * h.val + 128 + (d.val - 128) < 3072; omega)).trans ?_)
    exact b_kr x0 x1 x2 x7 x8 x g wi n r hg hwi H0 H1 H2 H7 H8 ⟨d.val - 128, by omega⟩

end Blocks

end Cert.AbFinal

end
-- ==== Proof.AbArrays.lean ====
/- The first layer's input projection: the six arrays the kernel leaves. -/
module

public import proofs.«01_k».proof.Proof.AbFinal

@[expose] public section

set_option maxRecDepth 16384

noncomputable section

namespace Cert.AbArrays

open Idealize.ShloMosaic Idealize.ShloMosaic.TcCoe Idealize.SL.Sem Cert.InAbIdeal Cert.InAbIdeal.Gen

variable (m : (ℓ : Loc nD τ sig) → Buf (Elt Ideal) ℓ) (c : Dev nD)

theorem iblk2_apply (t : Fin cfg0.N) (d : Fin 2048) (j : Fin 1792) :
    ((iblk m c 2 t : Vec Ideal S2048x1792 .bf16) (ix2 d j) : EReal)
      = AbHost.winOf (F := Ideal) (m ((c.tc : Thread nD τ).loc main_arg2)) (ix2 d j) := by
  obtain ⟨e0, e1, e2, e3, e4, e5, e6, e7, e8, e9, e10⟩ := AbKernel.idx_eq t
  have hb : (iblk m c 2 t : Vec Ideal S2048x1792 .bf16) (ix2 d j) = (V m c main_v29 : Vec Ideal S2048x1792 .bf16) (ix2 d j) := by
    blk_ext [iblk, e2]
  exact hb.trans (congrFun (AbHost.win_eq m c) _)

theorem iblk5_apply (t : Fin cfg0.N) (k : Fin 512) (j : Fin 3072) :
    ((iblk m c 5 t : Vec Ideal S512x3072 .bf16) (ix2 k j) : EReal)
      = AbHost.wqOf (F := Ideal) (m ((c.tc : Thread nD τ).loc main_arg5)) (ix2 k j) := by
  obtain ⟨e0, e1, e2, e3, e4, e5, e6, e7, e8, e9, e10⟩ := AbKernel.idx_eq t
  have hb : (iblk m c 5 t : Vec Ideal S512x3072 .bf16) (ix2 k j) = (V m c main_v33 : Vec Ideal S512x3072 .bf16) (ix2 k j) := by
    blk_ext [iblk, e5]
  exact hb.trans (congrFun (AbHost.wq_eq m c) _)

theorem iblk6_apply (t : Fin cfg0.N) (k : Fin 512) (j : Fin 1536) :
    ((iblk m c 6 t : Vec Ideal S512x1536 .bf16) (ix2 k j) : EReal)
      = AbHost.padQ (F := Ideal) (AbHost.swapQ (AbHost.colsQ (m ((c.tc : Thread nD τ).loc main_arg5)))) (ix2 k j) := by
  obtain ⟨e0, e1, e2, e3, e4, e5, e6, e7, e8, e9, e10⟩ := AbKernel.idx_eq t
  have hb : (iblk m c 6 t : Vec Ideal S512x1536 .bf16) (ix2 k j) = (V m c main_v42 : Vec Ideal S512x1536 .bf16) (ix2 k j) := by
    blk_ext [iblk, e6]
  exact hb.trans (congrFun (AbHost.wqr_eq m c) _)

/-- The row of a grid point's block. -/
def row (t : Fin cfg0.N) (r : Fin 256) : Fin 8192 := ⟨256 * t.val + r.val, by have h : t.val < 32 := t.isLt; omega⟩

theorem iblk7_apply (t : Fin cfg0.N) (r : Fin 256) (e : Fin 128) :
    ((iblk m c 7 t : Vec Ideal S256x128 .f32) (ix2 r e) : EReal) = AbCols.ctab (AbMath.posOf (row t r)) e := by
  have h : t.val < 32 := t.isLt
  obtain ⟨e0, e1, e2, e3, e4, e5, e6, e7, e8, e9, e10⟩ := AbKernel.idx_eq t
  have hb : (iblk m c 7 t : Vec Ideal S256x128 .f32) (ix2 r e) = (V m c main_v16 : Vec Ideal S2048x128 .f32)
      (ix2 ⟨256 * (t.val % 8) + r.val, by omega⟩ e) := by
    blk_ext [iblk, e7]
  have hp : (⟨256 * (t.val % 8) + r.val, by omega⟩ : Fin 2048) = AbMath.posOf (row t r) :=
    Fin.ext (show 256 * (t.val % 8) + r.val = (256 * t.val + r.val) % 2048 by omega)
  rw [hp] at hb
  exact hb.trans (congrFun (AbHost.cos_eq m c) _)

theorem iblk8_apply (t : Fin cfg0.N) (r : Fin 256) (e : Fin 128) :
    ((iblk m c 8 t : Vec Ideal S256x128 .f32) (ix2 r e) : EReal) = AbCols.stab (AbMath.posOf (row t r)) e := by
  have h : t.val < 32 := t.isLt
  obtain ⟨e0, e1, e2, e3, e4, e5, e6, e7, e8, e9, e10⟩ := AbKernel.idx_eq t
  have hb : (iblk m c 8 t : Vec Ideal S256x128 .f32) (ix2 r e) = (V m c main_v17 : Vec Ideal S2048x128 .f32)
      (ix2 ⟨256 * (t.val % 8) + r.val, by omega⟩ e) := by
    blk_ext [iblk, e8]
  have hp : (⟨256 * (t.val % 8) + r.val, by omega⟩ : Fin 2048) = AbMath.posOf (row t r) :=
    Fin.ext (show 256 * (t.val % 8) + r.val = (256 * t.val + r.val) % 2048 by omega)
  rw [hp] at hb
  exact hb.trans (congrFun (AbHost.sin_eq m c) _)

section
variable (x : Vec Ideal S8192x2048 .f32) (g : Vec Ideal S2048 .f32) (wi : Vec Ideal S2048x1600 .f32) (qg kvg : Vec Ideal S512 .f32)
  (wq : Vec Ideal S512x12x192 .f32) (wuk wuv : Vec Ideal S512x12x128 .f32)
  (hg : ∀ d, AbSpec.IsReal (g (ix1 d))) (hwi : ∀ d j, AbSpec.IsReal (wi (ix2 d j)))
  (hqg : ∀ d, AbSpec.IsReal (qg (ix1 d))) (hwq : ∀ k h l, AbSpec.IsReal (wq (ix3 k h l)))
  (ex : m ((c.tc : Thread nD τ).loc main_arg0) = x) (eg : m ((c.tc : Thread nD τ).loc main_arg1) = g)
  (ewi : m ((c.tc : Thread nD τ).loc main_arg2) = wi) (eqg : m ((c.tc : Thread nD τ).loc main_arg3) = qg)
  (ekvg : m ((c.tc : Thread nD τ).loc main_arg4) = kvg) (ewq : m ((c.tc : Thread nD τ).loc main_arg5) = wq)
  (ewuk : m ((c.tc : Thread nD τ).loc main_arg6) = wuk) (ewuv : m ((c.tc : Thread nD τ).loc main_arg7) = wuv)

include ex in
theorem i0 (t : Fin cfg0.N) (r : Fin 256) (k : Fin 2048) : ((iblk m c 0 t : Vec Ideal S256x2048 .f32) (ix2 r k) : EReal) = x (ix2 (row t r) k) := by
  rw [AbKernel.iblk0_apply, ex]
  rfl

include eg in
theorem i1 (t : Fin cfg0.N) (k : Fin 2048) : ((iblk m c 1 t : Vec Ideal S1x2048 .f32) (ix2 0 k) : EReal) = g (ix1 k) := by
  rw [AbKernel.iblk1_apply, eg]

include ewi in
theorem i2 (t : Fin cfg0.N) (d : Fin 2048) (j : Fin 1792) :
    ((iblk m c 2 t : Vec Ideal S2048x1792 .bf16) (ix2 d j) : EReal) = AbHost.winOf (F := Ideal) wi (ix2 d j) := by
  subst ewi
  exact iblk2_apply m c t d j

include eqg in
theorem i3 (t : Fin cfg0.N) (k : Fin 512) : ((iblk m c 3 t : Vec Ideal S1x512 .f32) (ix2 0 k) : EReal) = qg (ix1 k) := by
  rw [AbKernel.iblk3_apply, eqg]

include ekvg in
theorem i4 (t : Fin cfg0.N) (k : Fin 512) : ((iblk m c 4 t : Vec Ideal S1x512 .f32) (ix2 0 k) : EReal) = kvg (ix1 k) := by
  rw [AbKernel.iblk4_apply, ekvg]

include ewq in
theorem i5 (t : Fin cfg0.N) (k : Fin 512) (j : Fin 3072) :
    ((iblk m c 5 t : Vec Ideal S512x3072 .bf16) (ix2 k j) : EReal) = AbHost.wqOf (F := Ideal) wq (ix2 k j) := by
  subst ewq
  exact iblk5_apply m c t k j

include ewq in
theorem i6 (t : Fin cfg0.N) (k : Fin 512) (j : Fin 1536) :
    ((iblk m c 6 t : Vec Ideal S512x1536 .bf16) (ix2 k j) : EReal) = AbHost.padQ (F := Ideal) (AbHost.swapQ (AbHost.colsQ wq)) (ix2 k j) := by
  subst ewq
  exact iblk6_apply m c t k j

include ewuk in
theorem i9 (t : Fin cfg0.N) (k : Fin 512) (h : Fin 12) (l : Fin 128) :
    ((iblk m c 9 t : Vec Ideal S512x1536 .bf16) (ix2 k (AbFinal.col128 h l)) : EReal) = wuk (ix3 k h l) := by
  subst ewuk
  exact AbKernel.iblk9_apply m c t k h l

include ewuv in
theorem i10 (t : Fin cfg0.N) (k : Fin 512) (h : Fin 12) (l : Fin 128) :
    ((iblk m c 10 t : Vec Ideal S512x1536 .bf16) (ix2 k (AbFinal.col128 h l)) : EReal) = wuv (ix3 k h l) := by
  subst ewuv
  exact AbKernel.iblk10_apply m c t k h l

include ex eg ewi in
theorem final11 : (dats m 0 c).arrAt 11 cfg0.N = AbMath.result0 x g wi := by
  refine (dats m 0 c).arrAt_eq_of_covers 11 _ (by decide +kernel) fun t hf y => ?_
  obtain ⟨o0, o1, o2, o3, o4, o5⟩ := AbKernel.odx_eq t
  blk_simp
  rw [after0_11, AbFinal.out11_eq]
  revert y
  show ∀ y : S256x512.Idx, k0_pay5 (F := Ideal) (iblk m c 0 t) (iblk m c 1 t) (iblk m c 2 t) y =
    AbMath.result0 x g wi ((win0_11.blk t).view.emb y)
  intro y
  have h : t.val < 32 := t.isLt
  idx_vars y
  generalize y0 = r
  generalize y1 = l
  have hr : (win0_11.blk t).view.emb (ix2 r l) = (ix2 (row t r) l : S8192x512.Idx) := by
    unfold row
    blk_ext [o0]
  rw [hr]
  refine (AbKernel.pay5_apply _ _ _ r l).trans ((AbFinal.b_z _ _ _ x g wi (row t r) r (i0 m c x ex t r) (i1 m c g eg t) (i2 m c wi ewi t) _).trans ?_)
  exact AbCols.zp_lo x g wi (row t r) ⟨0 + l.val, by omega⟩

include ex eg ewi ekvg in
theorem final12 : (dats m 0 c).arrAt 12 cfg0.N = AbMath.result1 x g wi kvg := by
  refine (dats m 0 c).arrAt_eq_of_covers 12 _ (by decide +kernel) fun t hf y => ?_
  obtain ⟨o0, o1, o2, o3, o4, o5⟩ := AbKernel.odx_eq t
  blk_simp
  rw [after0_12, AbFinal.out12_eq]
  revert y
  show ∀ y : S256x512.Idx, k0_pay6 (F := Ideal) (iblk m c 0 t) (iblk m c 1 t) (iblk m c 2 t) (iblk m c 4 t) y =
    AbMath.result1 x g wi kvg ((win0_12.blk t).view.emb y)
  intro y
  have h : t.val < 32 := t.isLt
  idx_vars y
  generalize y0 = r
  generalize y1 = l
  have hr : (win0_12.blk t).view.emb (ix2 r l) = (ix2 (row t r) l : S8192x512.Idx) := by
    unfold row
    blk_ext [o1]
  rw [hr]
  exact AbFinal.b_lat _ _ _ _ x g wi kvg (row t r) r (i0 m c x ex t r) (i1 m c g eg t) (i2 m c wi ewi t) (i4 m c kvg ekvg t) l

include ex eg ewi hg hwi in
theorem final13 : (dats m 0 c).arrAt 13 cfg0.N = AbMath.result2 x g wi := by
  refine (dats m 0 c).arrAt_eq_of_covers 13 _ (by decide +kernel) fun t hf y => ?_
  obtain ⟨o0, o1, o2, o3, o4, o5⟩ := AbKernel.odx_eq t
  blk_simp
  rw [after0_13, AbFinal.out13_eq]
  revert y
  show ∀ y : S256x64.Idx, k0_pay10 (F := Ideal) (k0_pay4 (iblk m c 0 t) (iblk m c 1 t) (iblk m c 2 t)) (iblk m c 7 t) (iblk m c 8 t) y =
    AbMath.result2 x g wi ((win0_13.blk t).view.emb y)
  intro y
  have h : t.val < 32 := t.isLt
  idx_vars y
  generalize y0 = r
  generalize y1 = l
  have hr : (win0_13.blk t).view.emb (ix2 r l) = (ix2 (row t r) l : S8192x64.Idx) := by
    unfold row
    blk_ext [o2]
  rw [hr]
  refine (AbKernel.pay10_apply _ _ _ r l).trans ((AbFinal.b_kr _ _ _ _ _ x g wi (row t r) r hg hwi (i0 m c x ex t r) (i1 m c g eg t)
    (i2 m c wi ewi t) (iblk7_apply m c t r) (iblk8_apply m c t r) _).trans ?_)
  have hl : 0 + l.val < 64 := by omega
  simp only [hl, dif_pos]
  exact congrArg (AbMath.krAt x g wi (row t r)) (Fin.ext (Nat.zero_add l.val))

include ex eg ewi eqg ewq hqg hwq in
theorem final14 : (dats m 0 c).arrAt 14 cfg0.N = AbMath.result3 x g wi qg wq := by
  refine (dats m 0 c).arrAt_eq_of_covers 14 _ (by decide +kernel) fun t hf y => ?_
  obtain ⟨o0, o1, o2, o3, o4, o5⟩ := AbKernel.odx_eq t
  blk_simp
  rw [after0_14, AbBlocks.out14_eq, AbFinal.p62, AbFinal.p63, AbFinal.p65, AbFinal.p66]
  revert y
  show ∀ y : S256x3072.Idx, AbBlocks.arr (AbBlocks.qAt (k0_pay7 (iblk m c 7 t)) (k0_pay8 (iblk m c 8 t))
      (k0_pay12 (k0_pay4 (iblk m c 0 t) (iblk m c 1 t) (iblk m c 2 t)) (iblk m c 3 t) (iblk m c 5 t))
      (k0_pay13 (k0_pay4 (iblk m c 0 t) (iblk m c 1 t) (iblk m c 2 t)) (iblk m c 3 t) (iblk m c 6 t))) y =
    AbMath.result3 x g wi qg wq ((win0_14.blk t).view.emb y)
  intro y
  have h : t.val < 32 := t.isLt
  idx_vars y
  generalize y0 = r
  generalize y1 = l
  have hr : (win0_14.blk t).view.emb (ix2 r l) = (ix2 (row t r) l : S8192x3072.Idx) := by
    unfold row
    blk_ext [o3]
  rw [hr]
  have hl : l = ⟨256 * (l.val / 256) + l.val % 256, by omega⟩ := Fin.ext (by show l.val = 256 * (l.val / 256) + l.val % 256; omega)
  refine Eq.trans ?_ (AbFinal.b_qOut _ _ _ _ _ _ _ _ x g wi qg wq (row t r) r hqg hwq (i0 m c x ex t r) (i1 m c g eg t) (i2 m c wi ewi t)
    (i3 m c qg eqg t) (i5 m c wq ewq t) (i6 m c wq ewq t) (iblk7_apply m c t r) (iblk8_apply m c t r) ⟨l.val / 256, by omega⟩ ⟨l.val % 256, by omega⟩)
  exact congrArg (AbBlocks.qAt _ _ _ _ r) hl

include ex eg ewi ekvg ewuk hg hwi in
theorem final15 : (dats m 0 c).arrAt 15 cfg0.N = AbMath.result4 x g wi kvg wuk := by
  refine (dats m 0 c).arrAt_eq_of_covers 15 _ (by decide +kernel) fun t hf y => ?_
  obtain ⟨o0, o1, o2, o3, o4, o5⟩ := AbKernel.odx_eq t
  blk_simp
  rw [after0_15, AbBlocks.out15_eq, AbFinal.p67, AbFinal.p64]
  revert y
  show ∀ y : S256x3072.Idx, AbBlocks.arr (AbBlocks.kAt
      (k0_pay15 (k0_pay6 (iblk m c 0 t) (iblk m c 1 t) (iblk m c 2 t) (iblk m c 4 t)) (iblk m c 9 t))
      (k0_pay9 (k0_pay4 (iblk m c 0 t) (iblk m c 1 t) (iblk m c 2 t)) (iblk m c 7 t) (iblk m c 8 t))) y =
    AbMath.result4 x g wi kvg wuk ((win0_15.blk t).view.emb y)
  intro y
  have h : t.val < 32 := t.isLt
  idx_vars y
  generalize y0 = r
  generalize y1 = l
  have hr : (win0_15.blk t).view.emb (ix2 r l) = (ix2 (row t r) l : S8192x3072.Idx) := by
    unfold row
    blk_ext [o4]
  rw [hr]
  have hl : l = ⟨256 * (l.val / 256) + l.val % 256, by omega⟩ := Fin.ext (by show l.val = 256 * (l.val / 256) + l.val % 256; omega)
  refine Eq.trans ?_ (AbFinal.b_kOut _ _ _ _ _ _ _ x g wi kvg wuk (row t r) r hg hwi (i0 m c x ex t r) (i1 m c g eg t) (i2 m c wi ewi t)
    (i4 m c kvg ekvg t) (iblk7_apply m c t r) (iblk8_apply m c t r) (i9 m c wuk ewuk t) ⟨l.val / 256, by omega⟩ ⟨l.val % 256, by omega⟩)
  exact congrArg (AbBlocks.kAt _ _ r) hl

include ex eg ewi ekvg ewuv in
theorem final16 : (dats m 0 c).arrAt 16 cfg0.N = AbMath.result5 x g wi kvg wuv := by
  refine (dats m 0 c).arrAt_eq_of_covers 16 _ (by decide +kernel) fun t hf y => ?_
  obtain ⟨o0, o1, o2, o3, o4, o5⟩ := AbKernel.odx_eq t
  blk_simp
  rw [after0_16, AbFinal.out16_eq]
  revert y
  show ∀ y : S256x1536.Idx, k0_pay16 (F := Ideal) (k0_pay14 (k0_pay6 (iblk m c 0 t) (iblk m c 1 t) (iblk m c 2 t) (iblk m c 4 t))) (iblk m c 10 t) y =
    AbMath.result5 x g wi kvg wuv ((win0_16.blk t).view.emb y)
  intro y
  have h : t.val < 32 := t.isLt
  idx_vars y
  generalize y0 = r
  generalize y1 = l
  have hr : (win0_16.blk t).view.emb (ix2 r l) = (ix2 (row t r) l : S8192x1536.Idx) := by
    unfold row
    blk_ext [o5]
  rw [hr]
  have hl : l = ⟨128 * (l.val / 128) + l.val % 128, by omega⟩ := Fin.ext (by show l.val = 128 * (l.val / 128) + l.val % 128; omega)
  refine Eq.trans ?_ (AbFinal.b_v _ _ _ _ _ x g wi kvg wuv (row t r) r (i0 m c x ex t r) (i1 m c g eg t) (i2 m c wi ewi t)
    (i4 m c kvg ekvg t) (i10 m c wuv ewuv t) ⟨l.val / 128, by omega⟩ ⟨l.val % 128, by omega⟩)
  exact congrArg (fun i : Fin 1536 => (k0_pay16 (F := Ideal) (k0_pay14 (k0_pay6 (iblk m c 0 t) (iblk m c 1 t) (iblk m c 2 t) (iblk m c 4 t)))
    (iblk m c 10 t) (ix2 r i) : EReal)) hl

end

end Cert.AbArrays

end
-- ==== Proof.AbRef.lean ====
/- The first layer's input projection: the reference's arrays, entry by entry. -/
module

public import proofs.«01_k».proof.Proof.Gen.InAbRefIdeal.Run
public import proofs.«01_k».proof.Proof.AbMath

@[expose] public section

set_option maxRecDepth 16384

noncomputable section

namespace Cert.AbRef

open Idealize.ShloMosaic Idealize.ShloMosaic.TcCoe Idealize.SL.Sem Cert.InAbRefIdeal Cert.InAbRefIdeal.Gen

section
variable {F : FTy → Type} [FloatOps F]

/-- The sum of squares of each row. -/
def ssq (x : FVec F S8192x2048 .f32) : FVec F S8192 .f32 :=
  Host.reduceAdd (mulf x x) (constant S_ .f32 0x00000000#32) reducesTo_S8192x2048_S8192_d1 h_S_

/-- The normed rows, the sums of squares given. -/
def normOf (x : FVec F S8192x2048 .f32) (g : FVec F S2048 .f32) (q : FVec F S8192 .f32) : FVec F S8192x2048 .f32 :=
  mulf (mulf x (broadcastInDim S8192x2048 ![0, 1] bcast_S8192x1_S8192x2048_0_1 (Host.rsqrt (addf (Host.divf (broadcastInDim S8192x1 ![0] bcast_S8192_S8192x1_0 q) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- All columns' products. -/
def prodOf (n : FVec F S8192x2048 .f32) (w : FVec F S2048x1600 .f32) : FVec F S8192x1600 .f32 :=
  Host.dotGeneral dot_S8192x2048_S2048x1600_S8192x1600_1_0_0_1_n_n none n w

/-- The first block of columns. -/
def uOf (z : FVec F S8192x1600 .f32) : FVec F S8192x512 .f32 := extractStridedSlice S8192x512 ![0, 0] z slices_S8192x1600_S8192x512_0_0

/-- The second block of columns. -/
def cqOf (z : FVec F S8192x1600 .f32) : FVec F S8192x512 .f32 := extractStridedSlice S8192x512 ![0, 512] z slices_S8192x1600_S8192x512_0_512

/-- The third block of columns. -/
def ckvOf (z : FVec F S8192x1600 .f32) : FVec F S8192x512 .f32 := extractStridedSlice S8192x512 ![0, 1024] z slices_S8192x1600_S8192x512_0_1024

/-- The last block of columns, by sequence. -/
def krOf (z : FVec F S8192x1600 .f32) : FVec F S4x2048x64 .f32 :=
  shapeCast _ (extractStridedSlice S8192x64 ![0, 1536] z slices_S8192x1600_S8192x64_0_1536) shapeCasts_S8192x64_S4x2048x64

/-- The sum of squares of each row of 512. -/
def ssq5 (x : FVec F S8192x512 .f32) : FVec F S8192 .f32 :=
  Host.reduceAdd (mulf x x) (constant S_ .f32 0x00000000#32) reducesTo_S8192x512_S8192_d1 h_S_

/-- The normed rows of 512, the sums of squares given. -/
def norm5 (x : FVec F S8192x512 .f32) (g : FVec F S512 .f32) (q : FVec F S8192 .f32) : FVec F S8192x512 .f32 :=
  mulf (mulf x (broadcastInDim S8192x512 ![0, 1] bcast_S8192x1_S8192x512_0_1 (Host.rsqrt (addf (Host.divf (broadcastInDim S8192x1 ![0] bcast_S8192_S8192x1_0 q) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 (broadcastInDim S1x512 ![1] bcast_S512_S1x512_1 g))

/-- The angles. -/
def ang : FVec F S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The keys' rotation. -/
def rotK (k : FVec F S4x2048x64 .f32) (a : FVec F S2048x32 .f32) : FVec F S4x2048x64 .f32 :=
  concatenate S4x2048x64 2 [⟨S4x2048x32, (subf (mulf (extractStridedSlice S4x2048x32 ![0, 0, 0] k slices_S4x2048x64_S4x2048x32_0_0_0) (broadcastInDim S4x2048x32 ![0, 1, 2] bcast_S1x2048x32_S4x2048x32_0_1_2 (broadcastInDim S1x2048x32 ![1, 2] bcast_S2048x32_S1x2048x32_1_2 (Host.cos a)))) (mulf (extractStridedSlice S4x2048x32 ![0, 0, 32] k slices_S4x2048x64_S4x2048x32_0_0_32) (broadcastInDim S4x2048x32 ![0, 1, 2] bcast_S1x2048x32_S4x2048x32_0_1_2 (broadcastInDim S1x2048x32 ![1, 2] bcast_S2048x32_S1x2048x32_1_2 (Host.sin a)))))⟩, ⟨S4x2048x32, (addf (mulf (extractStridedSlice S4x2048x32 ![0, 0, 32] k slices_S4x2048x64_S4x2048x32_0_0_32) (broadcastInDim S4x2048x32 ![0, 1, 2] bcast_S1x2048x32_S4x2048x32_0_1_2 (broadcastInDim S1x2048x32 ![1, 2] bcast_S2048x32_S1x2048x32_1_2 (Host.cos a)))) (mulf (extractStridedSlice S4x2048x32 ![0, 0, 0] k slices_S4x2048x64_S4x2048x32_0_0_0) (broadcastInDim S4x2048x32 ![0, 1, 2] bcast_S1x2048x32_S4x2048x32_0_1_2 (broadcastInDim S1x2048x32 ![1, 2] bcast_S2048x32_S1x2048x32_1_2 (Host.sin a)))))⟩] concatenates_S4x2048x32_S4x2048x32_S4x2048x64_d2

/-- Sequences joined again. -/
def flatK (k : FVec F S4x2048x64 .f32) : FVec F S8192x64 .f32 := shapeCast _ k shapeCasts_S4x2048x64_S8192x64

/-- All heads' queries, by sequence. -/
def qdOf (n : FVec F S8192x512 .f32) (w : FVec F S512x12x192 .f32) : FVec F S4x2048x12x192 .f32 :=
  shapeCast _ (Host.dotGeneral dot_S8192x512_S512x12x192_S8192x12x192_1_0_0_12_n_n none n w) shapeCasts_S8192x12x192_S4x2048x12x192

/-- The queries' rotated columns before the rotation. -/
def qrOf (q : FVec F S4x2048x12x192 .f32) : FVec F S4x2048x12x64 .f32 :=
  extractStridedSlice S4x2048x12x64 ![0, 0, 0, 128] q slices_S4x2048x12x192_S4x2048x12x64_0_0_0_128

/-- The queries' rotation. -/
def rotQ (k : FVec F S4x2048x12x64 .f32) (a : FVec F S2048x32 .f32) : FVec F S4x2048x12x64 .f32 :=
  concatenate S4x2048x12x64 3 [⟨S4x2048x12x32, (subf (mulf (extractStridedSlice S4x2048x12x32 ![0, 0, 0, 0] k slices_S4x2048x12x64_S4x2048x12x32_0_0_0_0) (broadcastInDim S4x2048x12x32 ![0, 1, 2, 3] bcast_S1x2048x1x32_S4x2048x12x32_0_1_2_3 (broadcastInDim S1x2048x1x32 ![1, 2, 3] bcast_S2048x1x32_S1x2048x1x32_1_2_3 (Host.cos (shapeCast _ a shapeCasts_S2048x32_S2048x1x32))))) (mulf (extractStridedSlice S4x2048x12x32 ![0, 0, 0, 32] k slices_S4x2048x12x64_S4x2048x12x32_0_0_0_32) (broadcastInDim S4x2048x12x32 ![0, 1, 2, 3] bcast_S1x2048x1x32_S4x2048x12x32_0_1_2_3 (broadcastInDim S1x2048x1x32 ![1, 2, 3] bcast_S2048x1x32_S1x2048x1x32_1_2_3 (Host.sin (shapeCast _ a shapeCasts_S2048x32_S2048x1x32))))))⟩, ⟨S4x2048x12x32, (addf (mulf (extractStridedSlice S4x2048x12x32 ![0, 0, 0, 32] k slices_S4x2048x12x64_S4x2048x12x32_0_0_0_32) (broadcastInDim S4x2048x12x32 ![0, 1, 2, 3] bcast_S1x2048x1x32_S4x2048x12x32_0_1_2_3 (broadcastInDim S1x2048x1x32 ![1, 2, 3] bcast_S2048x1x32_S1x2048x1x32_1_2_3 (Host.cos (shapeCast _ a shapeCasts_S2048x32_S2048x1x32))))) (mulf (extractStridedSlice S4x2048x12x32 ![0, 0, 0, 0] k slices_S4x2048x12x64_S4x2048x12x32_0_0_0_0) (broadcastInDim S4x2048x12x32 ![0, 1, 2, 3] bcast_S1x2048x1x32_S4x2048x12x32_0_1_2_3 (broadcastInDim S1x2048x1x32 ![1, 2, 3] bcast_S2048x1x32_S1x2048x1x32_1_2_3 (Host.sin (shapeCast _ a shapeCasts_S2048x32_S2048x1x32))))))⟩] concatenates_S4x2048x12x32_S4x2048x12x32_S4x2048x12x64_d3

/-- The queries as they reach the attention. -/
def joinQ (q : FVec F S4x2048x12x192 .f32) (r : FVec F S4x2048x12x64 .f32) : FVec F S8192x3072 .bf16 :=
  truncf .bf16 (shapeCast _ ((concatenate S4x2048x12x256 3 [⟨S4x2048x12x128, ((mulf (extractStridedSlice S4x2048x12x128 ![0, 0, 0, 0] q slices_S4x2048x12x192_S4x2048x12x128_0_0_0_0) (broadcastInDim S4x2048x12x128 ![] bcast_S_S4x2048x12x128 (constant S_ .f32 0x3D93CD3A#32))) : (⟨S4x2048x12x128, .f32⟩ : BufTy).Contents (Elt F))⟩, ⟨S4x2048x12x64, ((mulf r (broadcastInDim S4x2048x12x64 ![] bcast_S_S4x2048x12x64 (constant S_ .f32 0x3D93CD3A#32))) : (⟨S4x2048x12x64, .f32⟩ : BufTy).Contents (Elt F))⟩, ⟨S4x2048x12x64, ((broadcastInDim S4x2048x12x64 ![] bcast_S_S4x2048x12x64 (constant S_ .f32 0x00000000#32)) : (⟨S4x2048x12x64, .f32⟩ : BufTy).Contents (Elt F))⟩] concatenates_S4x2048x12x128_S4x2048x12x64_S4x2048x12x64_S4x2048x12x256_d3 : (⟨S4x2048x12x256, .f32⟩ : BufTy).Contents (Elt F))) shapeCasts_S4x2048x12x256_S8192x3072) bitsLt_bf16_f32

/-- All heads' products with the latent. -/
def hdOf (n : FVec F S8192x512 .f32) (w : FVec F S512x12x128 .f32) : FVec F S8192x12x128 .f32 :=
  Host.dotGeneral dot_S8192x512_S512x12x128_S8192x12x128_1_0_0_12_n_n none n w

/-- The keys as they reach the attention. -/
def joinK (d : FVec F S8192x12x128 .f32) (k : FVec F S4x2048x64 .f32) : FVec F S8192x3072 .bf16 :=
  truncf .bf16 (shapeCast _ ((concatenate S4x2048x12x256 3 [⟨S4x2048x12x128, ((shapeCast _ d shapeCasts_S8192x12x128_S4x2048x12x128) : (⟨S4x2048x12x128, .f32⟩ : BufTy).Contents (Elt F))⟩, ⟨S4x2048x12x64, ((broadcastInDim S4x2048x12x64 ![0, 1, 2, 3] bcast_S4x2048x1x64_S4x2048x12x64_0_1_2_3 (broadcastInDim S4x2048x1x64 ![0, 1, 3] bcast_S4x2048x64_S4x2048x1x64_0_1_3 k)) : (⟨S4x2048x12x64, .f32⟩ : BufTy).Contents (Elt F))⟩, ⟨S4x2048x12x64, ((broadcastInDim S4x2048x12x64 ![] bcast_S_S4x2048x12x64 (constant S_ .f32 0x00000000#32)) : (⟨S4x2048x12x64, .f32⟩ : BufTy).Contents (Elt F))⟩] concatenates_S4x2048x12x128_S4x2048x12x64_S4x2048x12x64_S4x2048x12x256_d3 : (⟨S4x2048x12x256, .f32⟩ : BufTy).Contents (Elt F))) shapeCasts_S4x2048x12x256_S8192x3072) bitsLt_bf16_f32

/-- The values, heads side by side. -/
def flatV (d : FVec F S8192x12x128 .f32) : FVec F S8192x1536 .bf16 :=
  truncf .bf16 (shapeCast _ d shapeCasts_S8192x12x128_S8192x1536) bitsLt_bf16_f32

end

theorem ssq_apply (x : FVec Ideal S8192x2048 .f32) (r : Fin 8192) :
    ssq x (ix1 r) = ∑ k : Fin 2048, (x (ix2 r k) : EReal) * x (ix2 r k) := by
  unfold ssq
  rw [ValueIdx.hostReduceAdd_apply]
  have reduces : S8192x2048.Reduces [1] S8192 := by decide
  have lift : ∀ k : Fin 2048, reduces.lift (ix1 r) k = (ix2 r k : S8192x2048.Idx) := fun k => by
    funext a
    match a with
    | ⟨0, _⟩ => rfl
    | ⟨1, _⟩ => rfl
  refine (Ideal.hostReduceAdd_single _ reduces _ _ _).trans ?_
  rw [show constant (F := Ideal) S_ .f32 0x00000000#32 _ = (0 : EReal) from Ideal.ofBits_zero_f32]
  refine (zero_add _).trans (Finset.sum_congr rfl fun k _ => ?_)
  exact congrArg (fun i => (x i : EReal) * x i) (lift k)

theorem ssq5_apply (x : FVec Ideal S8192x512 .f32) (r : Fin 8192) :
    ssq5 x (ix1 r) = ∑ k : Fin 512, (x (ix2 r k) : EReal) * x (ix2 r k) := by
  unfold ssq5
  rw [ValueIdx.hostReduceAdd_apply]
  have reduces : S8192x512.Reduces [1] S8192 := by decide
  have lift : ∀ k : Fin 512, reduces.lift (ix1 r) k = (ix2 r k : S8192x512.Idx) := fun k => by
    funext a
    match a with
    | ⟨0, _⟩ => rfl
    | ⟨1, _⟩ => rfl
  refine (Ideal.hostReduceAdd_single _ reduces _ _ _).trans ?_
  rw [show constant (F := Ideal) S_ .f32 0x00000000#32 _ = (0 : EReal) from Ideal.ofBits_zero_f32]
  refine (zero_add _).trans (Finset.sum_congr rfl fun k _ => ?_)
  exact congrArg (fun i => (x i : EReal) * x i) (lift k)

theorem normOf_apply (x : FVec Ideal S8192x2048 .f32) (g : FVec Ideal S2048 .f32) (r : Fin 8192) (d : Fin 2048) :
    normOf x g (ssq x) (ix2 r d) = AbMath.hrow x g r d := by
  unfold AbMath.hrow Spec.rms
  rw [← ssq_apply]
  generalize ssq x = q
  pointwise [normOf]

theorem norm5_apply (x : FVec Ideal S8192x512 .f32) (g : FVec Ideal S512 .f32) (r : Fin 8192) (d : Fin 512) :
    norm5 x g (ssq5 x) (ix2 r d) = AbSpec.rms (fun k => x (ix2 r k)) (fun k => g (ix1 k)) d := by
  unfold AbSpec.rms
  rw [← ssq5_apply]
  generalize ssq5 x = q
  pointwise [norm5]

theorem prodOf_apply (x : FVec Ideal S8192x2048 .f32) (g : FVec Ideal S2048 .f32) (w : FVec Ideal S2048x1600 .f32) (r : Fin 8192) (j : Fin 1600) :
    prodOf (normOf x g (ssq x)) w (ix2 r j) = AbMath.zAt x g w r j := by
  unfold AbMath.zAt Spec.dot
  simp only [← normOf_apply]
  generalize normOf x g (ssq x) = n
  pointwise [prodOf]

theorem uOf_apply (z : FVec Ideal S8192x1600 .f32) (r : Fin 8192) (l : Fin 512) :
    uOf z (ix2 r l) = (z (ix2 r ⟨0 + l.val, by omega⟩) : EReal) := by
  pointwise [uOf]

theorem cqOf_apply (z : FVec Ideal S8192x1600 .f32) (r : Fin 8192) (l : Fin 512) :
    cqOf z (ix2 r l) = (z (ix2 r ⟨512 + l.val, by omega⟩) : EReal) := by
  pointwise [cqOf]

theorem ckvOf_apply (z : FVec Ideal S8192x1600 .f32) (r : Fin 8192) (l : Fin 512) :
    ckvOf z (ix2 r l) = (z (ix2 r ⟨1024 + l.val, by omega⟩) : EReal) := by
  pointwise [ckvOf]

theorem krOf_apply (z : FVec Ideal S8192x1600 .f32) (n : Fin 4) (p : Fin 2048) (e : Fin 64) :
    krOf z (ix3 n p e) = (z (ix2 ⟨n.val * 2048 + p.val, by omega⟩ ⟨1536 + e.val, by omega⟩) : EReal) := by
  pointwise [krOf]

theorem rotK_lo (k : FVec Ideal S4x2048x64 .f32) (a : FVec Ideal S2048x32 .f32) (n : Fin 4) (p : Fin 2048) (e : Fin 32) :
    (rotK k a (ix3 n p ⟨e.val, by omega⟩) : EReal) = k (ix3 n p ⟨e.val, by omega⟩) * (Host.cos a : FVec Ideal S2048x32 .f32) (ix2 p e)
      - k (ix3 n p ⟨32 + e.val, by omega⟩) * (Host.sin a : FVec Ideal S2048x32 .f32) (ix2 p e) := by
  pointwise [rotK]

theorem rotK_hi (k : FVec Ideal S4x2048x64 .f32) (a : FVec Ideal S2048x32 .f32) (n : Fin 4) (p : Fin 2048) (e : Fin 32) :
    (rotK k a (ix3 n p ⟨32 + e.val, by omega⟩) : EReal) = k (ix3 n p ⟨32 + e.val, by omega⟩) * (Host.cos a : FVec Ideal S2048x32 .f32) (ix2 p e)
      + k (ix3 n p ⟨e.val, by omega⟩) * (Host.sin a : FVec Ideal S2048x32 .f32) (ix2 p e) := by
  pointwise [rotK]

theorem flatK_apply (k : FVec Ideal S4x2048x64 .f32) (n : Fin 4) (p : Fin 2048) (e : Fin 64) :
    (flatK k (ix2 ⟨n.val * 2048 + p.val, by omega⟩ e) : EReal) = k (ix3 n p e) := by
  pointwise [flatK]

theorem qdOf_apply (y : FVec Ideal S8192x512 .f32) (w : FVec Ideal S512x12x192 .f32) (n : Fin 4) (p : Fin 2048) (h : Fin 12) (l : Fin 192) :
    qdOf y w (ix4 n p h l) = AbSpec.dot (fun k => y (ix2 ⟨n.val * 2048 + p.val, by omega⟩ k)) (fun k => w (ix3 k h l)) := by
  unfold AbSpec.dot
  pointwise [qdOf]

theorem qrOf_apply (q : FVec Ideal S4x2048x12x192 .f32) (n : Fin 4) (p : Fin 2048) (h : Fin 12) (e : Fin 64) :
    (qrOf q (ix4 n p h e) : EReal) = q (ix4 n p h ⟨128 + e.val, by omega⟩) := by
  pointwise [qrOf]

theorem rotQ_lo (k : FVec Ideal S4x2048x12x64 .f32) (a : FVec Ideal S2048x32 .f32) (n : Fin 4) (p : Fin 2048) (h : Fin 12) (e : Fin 32) :
    (rotQ k a (ix4 n p h ⟨e.val, by omega⟩) : EReal) = k (ix4 n p h ⟨e.val, by omega⟩) * (Host.cos a : FVec Ideal S2048x32 .f32) (ix2 p e)
      - k (ix4 n p h ⟨32 + e.val, by omega⟩) * (Host.sin a : FVec Ideal S2048x32 .f32) (ix2 p e) := by
  pointwise [rotQ]

theorem rotQ_hi (k : FVec Ideal S4x2048x12x64 .f32) (a : FVec Ideal S2048x32 .f32) (n : Fin 4) (p : Fin 2048) (h : Fin 12) (e : Fin 32) :
    (rotQ k a (ix4 n p h ⟨32 + e.val, by omega⟩) : EReal) = k (ix4 n p h ⟨32 + e.val, by omega⟩) * (Host.cos a : FVec Ideal S2048x32 .f32) (ix2 p e)
      + k (ix4 n p h ⟨e.val, by omega⟩) * (Host.sin a : FVec Ideal S2048x32 .f32) (ix2 p e) := by
  pointwise [rotQ]

theorem joinQ_apply (q : FVec Ideal S4x2048x12x192 .f32) (r : FVec Ideal S4x2048x12x64 .f32) (n : Fin 4) (p : Fin 2048) (h : Fin 12) (d : Fin 256) :
    (joinQ q r (ix2 ⟨n.val * 2048 + p.val, by omega⟩ ⟨256 * h.val + d.val, by omega⟩) : EReal)
      = if h1 : d.val < 128 then q (ix4 n p h ⟨d.val, by omega⟩) * AbBlocks.scale
        else if h2 : d.val - 128 < 64 then r (ix4 n p h ⟨d.val - 128, by omega⟩) * AbBlocks.scale else (0 : EReal) := by
  unfold AbBlocks.scale
  pointwise [joinQ]

theorem hdOf_apply (y : FVec Ideal S8192x512 .f32) (w : FVec Ideal S512x12x128 .f32) (r : Fin 8192) (h : Fin 12) (l : Fin 128) :
    hdOf y w (ix3 r h l) = AbSpec.dot (fun k => y (ix2 r k)) (fun k => w (ix3 k h l)) := by
  unfold AbSpec.dot
  pointwise [hdOf]

theorem joinK_apply (t : FVec Ideal S8192x12x128 .f32) (k : FVec Ideal S4x2048x64 .f32) (n : Fin 4) (p : Fin 2048) (h : Fin 12) (d : Fin 256) :
    (joinK t k (ix2 ⟨n.val * 2048 + p.val, by omega⟩ ⟨256 * h.val + d.val, by omega⟩) : EReal)
      = if h1 : d.val < 128 then t (ix3 ⟨n.val * 2048 + p.val, by omega⟩ h ⟨d.val, h1⟩)
        else if h2 : d.val - 128 < 64 then k (ix3 n p ⟨d.val - 128, by omega⟩) else (0 : EReal) := by
  pointwise [joinK]

theorem flatV_apply (t : FVec Ideal S8192x12x128 .f32) (r : Fin 8192) (h : Fin 12) (l : Fin 128) :
    (flatV t (ix2 r ⟨128 * h.val + l.val, by omega⟩) : EReal) = t (ix3 r h l) := by
  pointwise [flatV]

theorem rotK_apply (k : FVec Ideal S4x2048x64 .f32) (a : FVec Ideal S2048x32 .f32) (n : Fin 4) (p : Fin 2048) (e : Fin 64) :
    (rotK k a (ix3 n p e) : EReal) = AbSpec.rot (fun i => k (ix3 n p i)) (fun i => (Host.cos a : FVec Ideal S2048x32 .f32) (ix2 p i))
      (fun i => (Host.sin a : FVec Ideal S2048x32 .f32) (ix2 p i)) e := by
  unfold AbSpec.rot
  by_cases h : e.val < 32
  · rw [dif_pos h]
    refine (rotK_lo k a n p ⟨e.val, h⟩).trans ?_
    exact congrArg (fun i => (k (ix3 n p e) : EReal) * (Host.cos a : FVec Ideal S2048x32 .f32) (ix2 p ⟨e.val, h⟩)
      - k (ix3 n p i) * (Host.sin a : FVec Ideal S2048x32 .f32) (ix2 p ⟨e.val, h⟩)) (Fin.ext (Nat.add_comm 32 e.val))
  · rw [dif_neg h]
    have he : e = ⟨32 + (e.val - 32), by omega⟩ := Fin.ext (show e.val = 32 + (e.val - 32) by omega)
    refine (congrArg (fun i => (rotK k a (ix3 n p i) : EReal)) he).trans ((rotK_hi k a n p ⟨e.val - 32, by omega⟩).trans ?_)
    exact congrArg (fun i => (k (ix3 n p i) : EReal) * (Host.cos a : FVec Ideal S2048x32 .f32) (ix2 p ⟨e.val - 32, by omega⟩)
      + k (ix3 n p ⟨e.val - 32, by omega⟩) * (Host.sin a : FVec Ideal S2048x32 .f32) (ix2 p ⟨e.val - 32, by omega⟩)) he.symm

theorem rotQ_apply (k : FVec Ideal S4x2048x12x64 .f32) (a : FVec Ideal S2048x32 .f32) (n : Fin 4) (p : Fin 2048) (h : Fin 12) (e : Fin 64) :
    (rotQ k a (ix4 n p h e) : EReal) = AbSpec.rot (fun i => k (ix4 n p h i)) (fun i => (Host.cos a : FVec Ideal S2048x32 .f32) (ix2 p i))
      (fun i => (Host.sin a : FVec Ideal S2048x32 .f32) (ix2 p i)) e := by
  unfold AbSpec.rot
  by_cases h' : e.val < 32
  · rw [dif_pos h']
    refine (rotQ_lo k a n p h ⟨e.val, h'⟩).trans ?_
    exact congrArg (fun i => (k (ix4 n p h e) : EReal) * (Host.cos a : FVec Ideal S2048x32 .f32) (ix2 p ⟨e.val, h'⟩)
      - k (ix4 n p h i) * (Host.sin a : FVec Ideal S2048x32 .f32) (ix2 p ⟨e.val, h'⟩)) (Fin.ext (Nat.add_comm 32 e.val))
  · rw [dif_neg h']
    have he : e = ⟨32 + (e.val - 32), by omega⟩ := Fin.ext (show e.val = 32 + (e.val - 32) by omega)
    refine (congrArg (fun i => (rotQ k a (ix4 n p h i) : EReal)) he).trans ((rotQ_hi k a n p h ⟨e.val - 32, by omega⟩).trans ?_)
    exact congrArg (fun i => (k (ix4 n p h i) : EReal) * (Host.cos a : FVec Ideal S2048x32 .f32) (ix2 p ⟨e.val - 32, by omega⟩)
      + k (ix4 n p h ⟨e.val - 32, by omega⟩) * (Host.sin a : FVec Ideal S2048x32 .f32) (ix2 p ⟨e.val - 32, by omega⟩)) he.symm

/-- Each row is a position of a sequence. -/
theorem row_split (r : Fin 8192) : ∃ (n : Fin 4) (p : Fin 2048), r = ⟨n.val * 2048 + p.val, by omega⟩ :=
  ⟨⟨r.val / 2048, by omega⟩, ⟨r.val % 2048, by omega⟩, Fin.ext (show r.val = r.val / 2048 * 2048 + r.val % 2048 by omega)⟩

theorem pos_row (n : Fin 4) (p : Fin 2048) : AbMath.posOf ⟨n.val * 2048 + p.val, by omega⟩ = p :=
  Fin.ext (show (n.val * 2048 + p.val) % 2048 = p.val by omega)

variable (x : FVec Ideal S8192x2048 .f32) (g : FVec Ideal S2048 .f32) (wi : FVec Ideal S2048x1600 .f32) (qg kvg : FVec Ideal S512 .f32)
  (wq : FVec Ideal S512x12x192 .f32) (wk : FVec Ideal S512x12x128 .f32)

/-- The input projection. -/
def zOf : FVec Ideal S8192x1600 .f32 := prodOf (normOf x g (ssq x)) wi

/-- The normed latent. -/
def latOf : FVec Ideal S8192x512 .f32 := norm5 (ckvOf (zOf x g wi)) kvg (ssq5 (ckvOf (zOf x g wi)))

/-- The normed query columns. -/
def nqOf : FVec Ideal S8192x512 .f32 := norm5 (cqOf (zOf x g wi)) qg (ssq5 (cqOf (zOf x g wi)))

theorem zOf_apply (r : Fin 8192) (j : Fin 1600) : (zOf x g wi (ix2 r j) : EReal) = AbMath.zAt x g wi r j := prodOf_apply x g wi r j

theorem latOf_apply (r : Fin 8192) (d : Fin 512) : (latOf x g wi kvg (ix2 r d) : EReal) = AbMath.nrm x g wi kvg 1024 (by decide) r d := by
  refine (norm5_apply _ kvg r d).trans ?_
  unfold AbMath.nrm
  exact congrArg (fun f => AbSpec.rms f (fun k => kvg (ix1 k)) d) (funext fun k => (ckvOf_apply _ r k).trans (zOf_apply x g wi r _))

theorem nqOf_apply (r : Fin 8192) (d : Fin 512) : (nqOf x g wi qg (ix2 r d) : EReal) = AbMath.nrm x g wi qg 512 (by decide) r d := by
  refine (norm5_apply _ qg r d).trans ?_
  unfold AbMath.nrm
  exact congrArg (fun f => AbSpec.rms f (fun k => qg (ix1 k)) d) (funext fun k => (cqOf_apply _ r k).trans (zOf_apply x g wi r _))

theorem kr_apply (n : Fin 4) (p : Fin 2048) (e : Fin 64) :
    (rotK (krOf (zOf x g wi)) ang (ix3 n p e) : EReal) = AbMath.krAt x g wi ⟨n.val * 2048 + p.val, by omega⟩ e := by
  refine (rotK_apply _ _ n p e).trans ?_
  unfold AbMath.krAt
  rw [pos_row n p]
  exact congrArg (fun f => AbSpec.rot f (AbMath.cosAt p) (AbMath.sinAt p) e)
    (funext fun i => (krOf_apply _ n p i).trans (zOf_apply x g wi _ _))

theorem qd_apply (n : Fin 4) (p : Fin 2048) (h : Fin 12) (l : Fin 192) :
    (qdOf (nqOf x g wi qg) wq (ix4 n p h l) : EReal) = AbMath.qdAt x g wi qg wq ⟨n.val * 2048 + p.val, by omega⟩ h l := by
  refine (qdOf_apply _ _ n p h l).trans ?_
  unfold AbMath.qdAt
  exact congrArg (fun f => AbSpec.dot f (fun k => wq (ix3 k h l))) (funext fun k => nqOf_apply x g wi qg _ k)

theorem qr_apply (n : Fin 4) (p : Fin 2048) (h : Fin 12) (e : Fin 64) :
    (rotQ (qrOf (qdOf (nqOf x g wi qg) wq)) ang (ix4 n p h e) : EReal) = AbMath.qrAt x g wi qg wq ⟨n.val * 2048 + p.val, by omega⟩ h e := by
  refine (rotQ_apply _ _ n p h e).trans ?_
  unfold AbMath.qrAt
  rw [pos_row n p]
  exact congrArg (fun f => AbSpec.rot f (AbMath.cosAt p) (AbMath.sinAt p) e)
    (funext fun i => (qrOf_apply _ n p h i).trans (qd_apply x g wi qg wq n p h _))

theorem hd_apply (r : Fin 8192) (h : Fin 12) (l : Fin 128) :
    (hdOf (latOf x g wi kvg) wk (ix3 r h l) : EReal) = AbMath.hdAt x g wi kvg wk r h l := by
  refine (hdOf_apply _ _ r h l).trans ?_
  unfold AbMath.hdAt
  exact congrArg (fun f => AbSpec.dot f (fun k => wk (ix3 k h l))) (funext fun k => latOf_apply x g wi kvg _ k)

theorem eq0 : uOf (zOf x g wi) = AbMath.result0 x g wi := by
  funext y
  revert y
  show ∀ y : S8192x512.Idx, _ = _
  intro y
  idx_vars y
  exact (uOf_apply _ y0 y1).trans (zOf_apply x g wi _ _)

theorem eq1 : latOf x g wi kvg = AbMath.result1 x g wi kvg := by
  funext y
  revert y
  show ∀ y : S8192x512.Idx, _ = _
  intro y
  idx_vars y
  exact latOf_apply x g wi kvg y0 y1

theorem eq2 : flatK (rotK (krOf (zOf x g wi)) ang) = AbMath.result2 x g wi := by
  funext y
  revert y
  show ∀ y : S8192x64.Idx, _ = _
  intro y
  idx_vars y
  obtain ⟨n, p, rfl⟩ := row_split y0
  exact (flatK_apply _ n p y1).trans (kr_apply x g wi n p y1)

theorem eq3 : joinQ (qdOf (nqOf x g wi qg) wq) (rotQ (qrOf (qdOf (nqOf x g wi qg) wq)) ang) = AbMath.result3 x g wi qg wq := by
  funext y
  revert y
  show ∀ y : S8192x3072.Idx, _ = _
  intro y
  idx_vars y
  obtain ⟨n, p, rfl⟩ := row_split y0
  have hy : y1 = ⟨256 * (y1.val / 256) + y1.val % 256, by omega⟩ := Fin.ext (by show y1.val = 256 * (y1.val / 256) + y1.val % 256; omega)
  refine (congrArg (fun i : Fin 3072 => (joinQ (qdOf (nqOf x g wi qg) wq) (rotQ (qrOf (qdOf (nqOf x g wi qg) wq)) ang) (ix2 ⟨n.val * 2048 + p.val, by omega⟩ i) : EReal)) hy).trans
    ((joinQ_apply _ _ n p ⟨y1.val / 256, by omega⟩ ⟨y1.val % 256, by omega⟩).trans ?_)
  simp only [qd_apply, qr_apply]
  rfl

theorem eq4 : joinK (hdOf (latOf x g wi kvg) wk) (rotK (krOf (zOf x g wi)) ang) = AbMath.result4 x g wi kvg wk := by
  funext y
  revert y
  show ∀ y : S8192x3072.Idx, _ = _
  intro y
  idx_vars y
  obtain ⟨n, p, rfl⟩ := row_split y0
  have hy : y1 = ⟨256 * (y1.val / 256) + y1.val % 256, by omega⟩ := Fin.ext (by show y1.val = 256 * (y1.val / 256) + y1.val % 256; omega)
  refine (congrArg (fun i : Fin 3072 => (joinK (hdOf (latOf x g wi kvg) wk) (rotK (krOf (zOf x g wi)) ang) (ix2 ⟨n.val * 2048 + p.val, by omega⟩ i) : EReal)) hy).trans
    ((joinK_apply _ _ n p ⟨y1.val / 256, by omega⟩ ⟨y1.val % 256, by omega⟩).trans ?_)
  simp only [hd_apply, kr_apply]
  rfl

theorem eq5 : flatV (hdOf (latOf x g wi kvg) wk) = AbMath.result5 x g wi kvg wk := by
  funext y
  revert y
  show ∀ y : S8192x1536.Idx, _ = _
  intro y
  idx_vars y
  have hy : y1 = ⟨128 * (y1.val / 128) + y1.val % 128, by omega⟩ := Fin.ext (by show y1.val = 128 * (y1.val / 128) + y1.val % 128; omega)
  refine (congrArg (fun i : Fin 1536 => (flatV (hdOf (latOf x g wi kvg) wk) (ix2 y0 i) : EReal)) hy).trans
    ((flatV_apply _ y0 ⟨y1.val / 128, by omega⟩ ⟨y1.val % 128, by omega⟩).trans ?_)
  exact hd_apply x g wi kvg wk _ _ _

end Cert.AbRef

end
-- ==== Proof.InAbClaim.lean ====
/- The first layer's input projection: what the precondition says, and the claim that kernel and reference leave the same
   six arrays. -/
module

public import proofs.«01_k».proof.Defs
public import proofs.«01_k».proof.Proof.Gen.Pre_finite_ab
public import proofs.«01_k».proof.Proof.Gen.InAbRefIdeal.Run
public import proofs.«01_k».proof.Proof.AttnClaim
public import proofs.«01_k».proof.Proof.AbArrays
public import proofs.«01_k».proof.Proof.AbRef

@[expose] public section

set_option maxRecDepth 16384

noncomputable section

namespace Cert.InAbClaim

open Idealize.ShloMosaic Idealize.ShloMosaic.TcCoe Idealize.SL.Sem

section Pre
open Cert.Pre_finite_ab Cert.Pre_finite_ab.Facts

/-- One conjunct of the precondition: every entry of an array has its absolute value below +∞. -/
def below {s : Shape} (b : S_.BroadcastsInDim s (![] : Fin 0 → Fin s.rank)) (x : FVec Ideal s .f32) : IVec s 1 :=
  cmpf .olt (Host.absf x) (broadcastInDim s ![] b (constant (F := Ideal) S_ .f32 0x7F800000#32))

theorem real_of_below {s : Shape} (b : S_.BroadcastsInDim s (![] : Fin 0 → Fin s.rank)) (x : FVec Ideal s .f32) (i : s.Idx)
    (h : below b x i = 1#1) : AbSpec.IsReal (x i) := by
  have e : BitVec.ofBool (decide (max (x i : EReal) (-(x i : EReal)) < (⊤ : EReal))) = 1#1 := by
    rw [← h, ← AttnClaim.inf_f32]
    rfl
  refine AttnClaim.real_of_abs_lt _ ?_
  by_contra a
  simp [a] at e

theorem idx0 (i : S_.Idx) : i = fun a => a.elim0 := funext fun a => a.elim0

/-- The precondition: the input gain, the input weights, the query gain and the query weights are real numbers. -/
theorem fn_real (x : FVec Ideal S8192x2048 .f32) (g : FVec Ideal S2048 .f32) (wi : FVec Ideal S2048x1600 .f32) (qg kvg : FVec Ideal S512 .f32)
    (wq : FVec Ideal S512x12x192 .f32) (wuk wuv : FVec Ideal S512x12x128 .f32)
    (h : Cert.Pre_finite_ab.fn (F := Ideal) x g wi qg kvg wq wuk wuv = fun _ => 1#1) :
    (∀ i, AbSpec.IsReal (g i)) ∧ (∀ i, AbSpec.IsReal (wi i)) ∧ (∀ i, AbSpec.IsReal (qg i)) ∧ ∀ i, AbSpec.IsReal (wq i) := by
  have e := congrFun h (fun a => a.elim0)
  unfold Cert.Pre_finite_ab.fn Cert.Pre_finite_ab.fn_part1 at e
  obtain ⟨e1, e4⟩ := AbSpec.and_one _ _ e
  obtain ⟨e1, e3⟩ := AbSpec.and_one _ _ e1
  obtain ⟨e1, e2⟩ := AbSpec.and_one _ _ e1
  exact ⟨fun i => real_of_below _ g i (AbSpec.reduce_and _ _ _ _ _ idx0 e1 i),
    fun i => real_of_below _ wi i (AbSpec.reduce_and _ _ _ _ _ idx0 e2 i),
    fun i => real_of_below _ qg i (AbSpec.reduce_and _ _ _ _ _ idx0 e3 i),
    fun i => real_of_below _ wq i (AbSpec.reduce_and _ _ _ _ _ idx0 e4 i)⟩

end Pre

/-- Kernel and reference leave the same six arrays. -/
theorem algebraic : Cert.algebraic_InAbIdeal_InAbRefIdeal_pre_finite_ab := by
  intro m ρ m' ρ' hpre hag
  have hg : ∀ (c : Dev Cert.InAbIdeal.nD) d, AbSpec.IsReal ((m ((c.tc : Thread Cert.InAbIdeal.nD Cert.InAbIdeal.τ).loc Cert.InAbIdeal.main_arg1)) (ix1 d)) := fun c d => (fn_real _ _ _ _ _ _ _ _ (hpre c)).1 _
  have hwi : ∀ (c : Dev Cert.InAbIdeal.nD) d j, AbSpec.IsReal ((m ((c.tc : Thread Cert.InAbIdeal.nD Cert.InAbIdeal.τ).loc Cert.InAbIdeal.main_arg2)) (ix2 d j)) := fun c d j => (fn_real _ _ _ _ _ _ _ _ (hpre c)).2.1 _
  have hqg : ∀ (c : Dev Cert.InAbIdeal.nD) d, AbSpec.IsReal ((m ((c.tc : Thread Cert.InAbIdeal.nD Cert.InAbIdeal.τ).loc Cert.InAbIdeal.main_arg3)) (ix1 d)) := fun c d => (fn_real _ _ _ _ _ _ _ _ (hpre c)).2.2.1 _
  have hwq : ∀ (c : Dev Cert.InAbIdeal.nD) k h l, AbSpec.IsReal ((m ((c.tc : Thread Cert.InAbIdeal.nD Cert.InAbIdeal.τ).loc Cert.InAbIdeal.main_arg5)) (ix3 k h l)) := fun c k h l =>
    (fn_real _ _ _ _ _ _ _ _ (hpre c)).2.2.2 _
  refine ⟨fun c => AbMath.result0 (m ((c.tc : Thread Cert.InAbIdeal.nD Cert.InAbIdeal.τ).loc Cert.InAbIdeal.main_arg0))
      (m ((c.tc : Thread Cert.InAbIdeal.nD Cert.InAbIdeal.τ).loc Cert.InAbIdeal.main_arg1))
      (m ((c.tc : Thread Cert.InAbIdeal.nD Cert.InAbIdeal.τ).loc Cert.InAbIdeal.main_arg2)),
    fun c => AbMath.result1 (m ((c.tc : Thread Cert.InAbIdeal.nD Cert.InAbIdeal.τ).loc Cert.InAbIdeal.main_arg0))
      (m ((c.tc : Thread Cert.InAbIdeal.nD Cert.InAbIdeal.τ).loc Cert.InAbIdeal.main_arg1))
      (m ((c.tc : Thread Cert.InAbIdeal.nD Cert.InAbIdeal.τ).loc Cert.InAbIdeal.main_arg2))
      (m ((c.tc : Thread Cert.InAbIdeal.nD Cert.InAbIdeal.τ).loc Cert.InAbIdeal.main_arg4)),
    fun c => AbMath.result2 (m ((c.tc : Thread Cert.InAbIdeal.nD Cert.InAbIdeal.τ).loc Cert.InAbIdeal.main_arg0))
      (m ((c.tc : Thread Cert.InAbIdeal.nD Cert.InAbIdeal.τ).loc Cert.InAbIdeal.main_arg1))
      (m ((c.tc : Thread Cert.InAbIdeal.nD Cert.InAbIdeal.τ).loc Cert.InAbIdeal.main_arg2)),
    fun c => AbMath.result3 (m ((c.tc : Thread Cert.InAbIdeal.nD Cert.InAbIdeal.τ).loc Cert.InAbIdeal.main_arg0))
      (m ((c.tc : Thread Cert.InAbIdeal.nD Cert.InAbIdeal.τ).loc Cert.InAbIdeal.main_arg1))
      (m ((c.tc : Thread Cert.InAbIdeal.nD Cert.InAbIdeal.τ).loc Cert.InAbIdeal.main_arg2))
      (m ((c.tc : Thread Cert.InAbIdeal.nD Cert.InAbIdeal.τ).loc Cert.InAbIdeal.main_arg3))
      (m ((c.tc : Thread Cert.InAbIdeal.nD Cert.InAbIdeal.τ).loc Cert.InAbIdeal.main_arg5)),
    fun c => AbMath.result4 (m ((c.tc : Thread Cert.InAbIdeal.nD Cert.InAbIdeal.τ).loc Cert.InAbIdeal.main_arg0))
      (m ((c.tc : Thread Cert.InAbIdeal.nD Cert.InAbIdeal.τ).loc Cert.InAbIdeal.main_arg1))
      (m ((c.tc : Thread Cert.InAbIdeal.nD Cert.InAbIdeal.τ).loc Cert.InAbIdeal.main_arg2))
      (m ((c.tc : Thread Cert.InAbIdeal.nD Cert.InAbIdeal.τ).loc Cert.InAbIdeal.main_arg4))
      (m ((c.tc : Thread Cert.InAbIdeal.nD Cert.InAbIdeal.τ).loc Cert.InAbIdeal.main_arg6)),
    fun c => AbMath.result5 (m ((c.tc : Thread Cert.InAbIdeal.nD Cert.InAbIdeal.τ).loc Cert.InAbIdeal.main_arg0))
      (m ((c.tc : Thread Cert.InAbIdeal.nD Cert.InAbIdeal.τ).loc Cert.InAbIdeal.main_arg1))
      (m ((c.tc : Thread Cert.InAbIdeal.nD Cert.InAbIdeal.τ).loc Cert.InAbIdeal.main_arg2))
      (m ((c.tc : Thread Cert.InAbIdeal.nD Cert.InAbIdeal.τ).loc Cert.InAbIdeal.main_arg4))
      (m ((c.tc : Thread Cert.InAbIdeal.nD Cert.InAbIdeal.τ).loc Cert.InAbIdeal.main_arg7)), ?_, ?_⟩
  · exact (θ_run Cert.InAbIdeal.defs _ _).mono (fun _ h c => ⟨(h c).1.trans (AbArrays.final11 m c _ _ _  rfl rfl rfl),
        (h c).2.1.trans (AbArrays.final12 m c _ _ _ _  rfl rfl rfl rfl),
        (h c).2.2.1.trans (AbArrays.final13 m c _ _ _ (hg c) (hwi c) rfl rfl rfl),
        (h c).2.2.2.1.trans (AbArrays.final14 m c _ _ _ _ _ (hqg c) (hwq c) rfl rfl rfl rfl rfl),
        (h c).2.2.2.2.1.trans (AbArrays.final15 m c _ _ _ _ _ (hg c) (hwi c) rfl rfl rfl rfl rfl),
        (h c).2.2.2.2.2.1.trans (AbArrays.final16 m c _ _ _ _ _  rfl rfl rfl rfl rfl),
        (h c).2.2.2.2.2.2⟩)
      (Cert.InAbIdeal.Value.run_blocks (F := Ideal) m ρ)
  · refine (θ_run Cert.InAbRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_,
        (h c).2.2.2.2.2.2⟩)
      (Cert.InAbRefIdeal.Value.run (F := Ideal) m' ρ')
    · rw [(hag c).1, (hag c).2.1, (hag c).2.2.1]
      exact AbRef.eq0 _ _ _
    · rw [(hag c).1, (hag c).2.1, (hag c).2.2.1, (hag c).2.2.2.2.1]
      exact AbRef.eq1 _ _ _ _
    · unfold Cert.InAbRefIdeal.Value.res_main_v125
      rw [(hag c).1, (hag c).2.1, (hag c).2.2.1]
      exact AbRef.eq2 _ _ _
    · unfold Cert.InAbRefIdeal.Value.res_main_v127
      rw [(hag c).1, (hag c).2.1, (hag c).2.2.1, (hag c).2.2.2.1, (hag c).2.2.2.2.2.1]
      exact AbRef.eq3 _ _ _ _ _
    · unfold Cert.InAbRefIdeal.Value.res_main_v129
      rw [(hag c).1, (hag c).2.1, (hag c).2.2.1, (hag c).2.2.2.2.1, (hag c).2.2.2.2.2.2.1]
      exact AbRef.eq4 _ _ _ _ _
    · rw [(hag c).1, (hag c).2.1, (hag c).2.2.1, (hag c).2.2.2.2.1, (hag c).2.2.2.2.2.2.2]
      exact AbRef.eq5 _ _ _ _ _

end Cert.InAbClaim

end
-- ==== Proof.AsHost.lean ====
/- The first layer's input projection for the sample's rows: the operands the host code prepares. -/
module

public import proofs.«01_k».proof.Proof.Gen.InAbSIdeal.Value
public import proofs.«01_k».proof.Proof.AbFinal

@[expose] public section

set_option maxRecDepth 16384

noncomputable section

namespace Cert.AsHost

open Idealize.ShloMosaic Idealize.ShloMosaic.TcCoe Idealize.SL.Sem Cert.InAbSIdeal Cert.InAbSIdeal.Gen

section
variable {F : FTy → Type} [FloatOps F]

/-- The angle of each row and frequency. -/
def angle : FVec F S512x32 .f32 :=
  mulf (broadcastInDim S512x32 ![0, 1] bcast_S512x1_S512x32_0_1 (broadcastInDim S512x1 ![0] bcast_S512_S512x1_0
      (sitofp .f32 (shapeCast S512 (broadcastInDim S4x128 ![0] bcast_S4_S4x128_0
        (addi (broadcastInDim S4 ![] bcast_S_S4 (constantI S_ 32 16384#32)) (iotaInDim S4 32 0))) shapeCasts_S4x128_S512))))
    (broadcastInDim S512x32 ![0, 1] bcast_S1x32_S512x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- A table of 32 columns twice, then 64 zeros. -/
def tab (a : FVec F S512x32 .f32) : FVec F S512x128 .f32 :=
  concatenate S512x128 1 [⟨S512x32, a⟩, ⟨S512x32, a⟩,
    ⟨S512x64, broadcastInDim S512x64 ![] bcast_S_S512x64 (constant S_ .f32 0x00000000#32)⟩] concatenates_S512x32_S512x32_S512x64_S512x128_d1

variable (m : (ℓ : Loc nD τ sig) → Buf (Elt F) ℓ) (c : Dev nD)

set_option maxHeartbeats 4000000 in
theorem win_eq : (V m c main_v33 : Vec F S2048x1792 .bf16) = AbHost.winOf (m ((c.tc : Thread nD τ).loc main_arg2)) := by
  show StableHlo.after hostOps0 _ _ = _
  after_results_simp <;> (try dsimp only [Matrix.cons_val]) <;> (try after_results_simp) <;> rfl

set_option maxHeartbeats 4000000 in
theorem wq_eq : (V m c main_v37 : Vec F S512x3072 .bf16) = AbHost.wqOf (m ((c.tc : Thread nD τ).loc main_arg5)) := by
  entry_read
  rfl

set_option maxHeartbeats 4000000 in
theorem wqr_eq : (V m c main_v46 : Vec F S512x1536 .bf16) = AbHost.padQ (AbHost.swapQ (AbHost.colsQ (m ((c.tc : Thread nD τ).loc main_arg5)))) := by
  entry_read
  rfl

set_option maxHeartbeats 4000000 in
theorem cos_eq : (V m c main_v20 : Vec F S512x128 .f32) = tab (Host.cos angle) := by
  show StableHlo.after hostOps0 _ _ = _
  after_results_simp <;> (try dsimp only [Matrix.cons_val]) <;> (try after_results_simp) <;> rfl

set_option maxHeartbeats 4000000 in
theorem sin_eq : (V m c main_v21 : Vec F S512x128 .f32) = tab (Host.sin angle) := by
  show StableHlo.after hostOps0 _ _ = _
  after_results_simp <;> (try dsimp only [Matrix.cons_val]) <;> (try after_results_simp) <;> rfl
end

theorem tab_lo (a : FVec Ideal S512x32 .f32) (p : Fin 512) (e : Fin 32) :
    (tab a (ix2 p ⟨e.val, by omega⟩) : EReal) = a (ix2 p e) := by
  pointwise [tab]

theorem tab_mid (a : FVec Ideal S512x32 .f32) (p : Fin 512) (e : Fin 32) :
    (tab a (ix2 p ⟨32 + e.val, by omega⟩) : EReal) = a (ix2 p e) := by
  pointwise [tab]

theorem tab_hi (a : FVec Ideal S512x32 .f32) (p : Fin 512) (e : Fin 64) :
    (tab a (ix2 p ⟨64 + e.val, by omega⟩) : EReal) = 0 := by
  refine Eq.trans ?_ Ideal.ofBits_zero_f32
  pointwise [tab]
  rw [dif_neg (by omega), dif_neg (by omega)]

theorem tab_at (a : FVec Ideal S512x32 .f32) (p : Fin 512) (e : Fin 128) :
    (tab a (ix2 p e) : EReal) = if h : e.val < 32 then (a (ix2 p ⟨e.val, h⟩) : EReal)
      else if h' : e.val < 64 then (a (ix2 p ⟨e.val - 32, by omega⟩) : EReal) else (0 : EReal) := by
  by_cases h : e.val < 32
  · rw [dif_pos h]
    exact tab_lo a p ⟨e.val, h⟩
  · rw [dif_neg h]
    by_cases h' : e.val < 64
    · rw [dif_pos h']
      have he : e = ⟨32 + (e.val - 32), by omega⟩ := Fin.ext (by show e.val = 32 + (e.val - 32); omega)
      exact (congrArg (fun i : Fin 128 => (tab a (ix2 p i) : EReal)) he).trans (tab_mid a p ⟨e.val - 32, by omega⟩)
    · rw [dif_neg h']
      have he : e = ⟨64 + (e.val - 64), by omega⟩ := Fin.ext (by show e.val = 64 + (e.val - 64); omega)
      exact (congrArg (fun i : Fin 128 => (tab a (ix2 p i) : EReal)) he).trans (tab_hi a p ⟨e.val - 64, by omega⟩)

end Cert.AsHost

end
-- ==== Proof.AsMath.lean ====
/- The first layer's input projection for the sample's rows: its five results entry by entry. The rows are read as the first
   512 of an array of 8192, so that what is proved of the prompt's rows is used for them too. -/
module

public import proofs.«01_k».proof.Proof.AsHost

@[expose] public section

set_option maxRecDepth 16384

noncomputable section

namespace Cert.AsMath

open Idealize.ShloMosaic Idealize.ShloMosaic.TcCoe Idealize.SL.Sem Cert.InAbSIdeal Cert.InAbSIdeal.Gen

/-- The sample's rows, repeated to fill an array of 8192 rows. -/
def ext (x : Vec Ideal S512x2048 .f32) : Vec Ideal Cert.InAbIdeal.S8192x2048 .f32 :=
  fun y => x (ix2 (⟨(y 0).val % 512, by omega⟩ : Fin 512) (y 1 : Fin 2048))

/-- A row among the 8192. -/
def up (n : Fin 512) : Fin 8192 := ⟨n.val, by omega⟩

theorem ext_up (x : Vec Ideal S512x2048 .f32) (n : Fin 512) (k : Fin 2048) : (ext x (ix2 (up n) k) : EReal) = x (ix2 n k) :=
  congrArg (fun i : Fin 512 => (x (ix2 i k) : EReal)) (Fin.ext (show n.val % 512 = n.val by omega))

/-- Row and frequency to cosine. -/
def cosAt (p : Fin 512) (e : Fin 32) : EReal := (Host.cos (AsHost.angle (F := Ideal)) : FVec Ideal S512x32 .f32) (ix2 p e)

/-- Row and frequency to sine. -/
def sinAt (p : Fin 512) (e : Fin 32) : EReal := (Host.sin (AsHost.angle (F := Ideal)) : FVec Ideal S512x32 .f32) (ix2 p e)

/-- The table's row. -/
def ctab (p : Fin 512) (e : Fin 128) : EReal := AsHost.tab (Host.cos (AsHost.angle (F := Ideal))) (ix2 p e)

/-- The table's row. -/
def stab (p : Fin 512) (e : Fin 128) : EReal := AsHost.tab (Host.sin (AsHost.angle (F := Ideal))) (ix2 p e)

section
variable (x : Vec Ideal S512x2048 .f32) (g : Vec Ideal S2048 .f32) (wi : Vec Ideal S2048x1600 .f32) (qg kvg : Vec Ideal S512 .f32)
  (wq : Vec Ideal S512x12x192 .f32) (wk : Vec Ideal S512x12x128 .f32)

/-- A row's entry of the input projection. -/
def zAt (n : Fin 512) (j : Fin 1600) : EReal := AbMath.zAt (ext x) g wi (up n) j

/-- A row's normed latent. -/
def latAt (n : Fin 512) : Fin 512 → EReal := AbMath.nrm (ext x) g wi kvg 1024 (by decide) (up n)

/-- A head's query, unrotated. -/
def qdAt (n : Fin 512) (h : Fin 12) (l : Fin 192) : EReal := AbMath.qdAt (ext x) g wi qg wq (up n) h l

/-- The rotated key columns. -/
def krAt (n : Fin 512) (e : Fin 64) : EReal := AbSpec.rot (fun i => zAt x g wi n ⟨1536 + i.val, by omega⟩) (cosAt n) (sinAt n) e

/-- A head's rotated query columns. -/
def qrAt (n : Fin 512) (h : Fin 12) (e : Fin 64) : EReal :=
  AbSpec.rot (fun i => qdAt x g wi qg wq n h ⟨128 + i.val, by omega⟩) (cosAt n) (sinAt n) e

/-- A head's scaled query taken to the latents' space. -/
def qlAt (n : Fin 512) (h : Fin 12) (c : Fin 512) : EReal :=
  ∑ l : Fin 128, (qdAt x g wi qg wq n h ⟨l.val, by omega⟩ * AbBlocks.scale) * (wk (ix3 c h l) : EReal)

/-- A head's scaled rotated query columns, padded. -/
def qpAt (n : Fin 512) (h : Fin 12) (e : Fin 128) : EReal :=
  if h' : e.val < 64 then qrAt x g wi qg wq n h ⟨e.val, h'⟩ * AbBlocks.scale else 0

/-- First result: the pooled columns. -/
def result0 : Vec Ideal S512x512 .f32 := fun y => zAt x g wi (y 0) ⟨0 + (y 1).val, by have h : (y 1).val < 512 := (y 1).isLt; omega⟩

/-- Second result: the latent. -/
def result1 : Vec Ideal S512x512 .f32 := fun y => latAt x g wi kvg (y 0) (y 1)

/-- Third result: the rotated key columns. -/
def result2 : Vec Ideal S512x64 .f32 := fun y => krAt x g wi (y 0) (y 1)

/-- Fourth result: the queries in the latents' space. -/
def result3 : Vec Ideal S512x6144 .bf16 := fun y => qlAt x g wi qg wq wk (y 0)
  ⟨(y 1).val / 512, by have h : (y 1).val < 6144 := (y 1).isLt; omega⟩ ⟨(y 1).val % 512, by omega⟩

/-- Fifth result: the queries' rotated columns. -/
def result4 : Vec Ideal S512x1536 .f32 := fun y => qpAt x g wi qg wq (y 0)
  ⟨(y 1).val / 128, by have h : (y 1).val < 1536 := (y 1).isLt; omega⟩ ⟨(y 1).val % 128, by omega⟩

variable (hg : ∀ d, AbSpec.IsReal (g (ix1 d))) (hwi : ∀ d j, AbSpec.IsReal (wi (ix2 d j)))
  (hqg : ∀ d, AbSpec.IsReal (qg (ix1 d))) (hwq : ∀ k h l, AbSpec.IsReal (wq (ix3 k h l)))

include hg hwi in
theorem kr_eq (n : Fin 512) (e : Fin 128) :
    AbCols.zp (ext x) g wi (up n) ⟨1536 + e.val, by omega⟩ * ctab n e + AbCols.zp (ext x) g wi (up n) ⟨1664 + e.val, by omega⟩ * stab n e
      = if h : e.val < 64 then krAt x g wi n ⟨e.val, h⟩ else 0 :=
  AbMath.rope_eq (fun i => zAt x g wi n ⟨1536 + i.val, by omega⟩) (cosAt n) (sinAt n) e
    _ _ _ _ (AbCols.zp_k (ext x) g wi (up n) e) (AbCols.zp_r (ext x) g wi hg hwi (up n) e) (AsHost.tab_at _ _ e) (AsHost.tab_at _ _ e)

include hqg hwq in
theorem qr_eq (n : Fin 512) (h : Fin 12) (e : Fin 128) :
    AbCols.qp (ext x) g wi qg wq (up n) ⟨256 * h.val + (128 + e.val), by omega⟩ * ctab n e
      + AbCols.qs (ext x) g wi qg wq (up n) ⟨128 * h.val + e.val, by omega⟩ * stab n e
      = if h' : e.val < 64 then qrAt x g wi qg wq n h ⟨e.val, h'⟩ else 0 :=
  AbMath.rope_eq (fun i => qdAt x g wi qg wq n h ⟨128 + i.val, by omega⟩) (cosAt n) (sinAt n) e
    _ _ _ _ (AbCols.qp_k (ext x) g wi qg wq (up n) h e) (AbCols.qs_at (ext x) g wi qg wq hqg hwq (up n) h e)
    (AsHost.tab_at _ _ e) (AsHost.tab_at _ _ e)

end

end Cert.AsMath

end
-- ==== Proof.AsBlocks.lean ====
/- The first layer's input projection for the sample's rows: the blocks of the two query results, read from their twelve
   pieces, one for each head. -/
module

public import proofs.«01_k».proof.Proof.AsMath

@[expose] public section

set_option maxRecDepth 16384

noncomputable section

namespace Cert.AsBlocks

open Idealize.ShloMosaic Idealize.ShloMosaic.TcCoe Idealize.SL.Sem Cert.InAbSIdeal Cert.InAbSIdeal.Gen

/-- A head's first 128 columns, scaled. -/
def lowQ (o : ℕ) (hs : S256x3072.Slices ![0, o] S256x128) (a : FVec Ideal S256x3072 .f32) : FVec Ideal S256x128 .f32 :=
  mulf (extractStridedSlice S256x128 ![0, o] a hs) (broadcast S256x128 (Scalar.ofBits .f32 0x3D93CD3A#32))

/-- A head's last 128 columns, rotated and scaled. -/
def rotQ (o o' : ℕ) (hs : S256x3072.Slices ![0, o] S256x128) (hs' : S256x1536.Slices ![0, o'] S256x128) (c s : FVec Ideal S256x128 .f32)
    (a : FVec Ideal S256x3072 .f32) (b : FVec Ideal S256x1536 .f32) : FVec Ideal S256x128 .f32 :=
  mulf (addf (mulf (extractStridedSlice S256x128 ![0, o] a hs) c) (mulf (extractStridedSlice S256x128 ![0, o'] b hs') s))
    (broadcast S256x128 (Scalar.ofBits .f32 0x3D93CD3A#32))

theorem slice_a (o : ℕ) (hs : S256x3072.Slices ![0, o] S256x128) (a : FVec Ideal S256x3072 .f32) (r : Fin 256) (l : Fin 128) (q : o + l.val < 3072) :
    (extractStridedSlice S256x128 ![0, o] a hs (ix2 r l) : EReal) = a (ix2 r ⟨o + l.val, q⟩) := by
  refine congrArg a (funext fun i => ?_)
  match i with
  | ⟨0, _⟩ => exact Fin.ext (Nat.zero_add r.val)
  | ⟨1, _⟩ => rfl

theorem slice_b (o : ℕ) (hs : S256x1536.Slices ![0, o] S256x128) (a : FVec Ideal S256x1536 .f32) (r : Fin 256) (l : Fin 128) (q : o + l.val < 1536) :
    (extractStridedSlice S256x128 ![0, o] a hs (ix2 r l) : EReal) = a (ix2 r ⟨o + l.val, q⟩) := by
  refine congrArg a (funext fun i => ?_)
  match i with
  | ⟨0, _⟩ => exact Fin.ext (Nat.zero_add r.val)
  | ⟨1, _⟩ => rfl

theorem lowQ_apply (o : ℕ) (hs : S256x3072.Slices ![0, o] S256x128) (a : FVec Ideal S256x3072 .f32) (r : Fin 256) (l : Fin 128)
    (q : o + l.val < 3072) : (lowQ o hs a (ix2 r l) : EReal) = a (ix2 r ⟨o + l.val, q⟩) * AbBlocks.scale :=
  congrArg (· * AbBlocks.scale) (slice_a o hs a r l q)

theorem rotQ_apply (o o' : ℕ) (hs : S256x3072.Slices ![0, o] S256x128) (hs' : S256x1536.Slices ![0, o'] S256x128) (c s : FVec Ideal S256x128 .f32)
    (a : FVec Ideal S256x3072 .f32) (b : FVec Ideal S256x1536 .f32) (r : Fin 256) (l : Fin 128) (q : o + l.val < 3072) (q' : o' + l.val < 1536) :
    (rotQ o o' hs hs' c s a b (ix2 r l) : EReal)
      = ((a (ix2 r ⟨o + l.val, q⟩) : EReal) * c (ix2 r l) + b (ix2 r ⟨o' + l.val, q'⟩) * s (ix2 r l)) * AbBlocks.scale :=
  congrArg₂ (fun u v : EReal => (u * c (ix2 r l) + v * s (ix2 r l)) * AbBlocks.scale) (slice_a o hs a r l q) (slice_b o' hs' b r l q')

theorem pay16_apply (y : FVec Ideal S256x128 .f32) (w : Vec Ideal S1x128x512 .bf16) (r : Fin 256) (j : Fin 512) :
    (k0_pay16 y w (ix2 r j) : EReal) = ∑ l : Fin 128, (y (ix2 r l) : EReal) * w (ix3 0 l j) := by
  pointwise [k0_pay16]

/-- One head's slab of the latent weights. -/
theorem slab (h : Fin 12) (inb : ∀ a, (![h.val, 0, 0] : Fin 3 → ℕ) a + S1x128x512.size a ≤ S12x128x512.size a) (x9 : Vec Ideal S12x128x512 .bf16)
    (l : Fin 128) (j : Fin 512) :
    (View.ld (Val := Elt Ideal) x9 (Rect.unit (s := S12x128x512) ![h.val, 0, 0] S1x128x512.size inb) (ix3 0 l j) : EReal) = x9 (ix3 h l j) := by
  refine congrArg (x9 : S12x128x512.Idx → EReal) (funext fun i => ?_)
  match i with
  | ⟨0, _⟩ => exact Fin.ext (show h.val + 1 * 0 = h.val by omega)
  | ⟨1, _⟩ => exact Fin.ext (show 0 + 1 * l.val = l.val by omega)
  | ⟨2, _⟩ => exact Fin.ext (show 0 + 1 * j.val = j.val by omega)

/-- A block's entry of the queries in the latents' space. -/
def latE (a : FVec Ideal S256x3072 .f32) (x9 : Vec Ideal S12x128x512 .bf16) (r : Fin 256) (h : Fin 12) (j : Fin 512) : EReal :=
  ∑ l : Fin 128, ((a (ix2 r ⟨256 * h.val + l.val, by omega⟩) : EReal) * AbBlocks.scale) * x9 (ix3 h l j)

/-- A block's entry of the queries' rotated columns. -/
def rotE (c s : FVec Ideal S256x128 .f32) (a : FVec Ideal S256x3072 .f32) (b : FVec Ideal S256x1536 .f32) (r : Fin 256) (h : Fin 12) (l : Fin 128) : EReal :=
  ((a (ix2 r ⟨256 * h.val + 128 + l.val, by omega⟩) : EReal) * c (ix2 r l) + b (ix2 r ⟨128 * h.val + l.val, by omega⟩) * s (ix2 r l)) * AbBlocks.scale

/-- The array of given entries, heads of 512 columns side by side. -/
def arrL (G : Fin 256 → Fin 12 → Fin 512 → EReal) : Vec Ideal S256x6144 .bf16 := fun y =>
  G (y 0) ⟨(y 1).val / 512, by have h : (y 1).val < 6144 := (y 1).isLt; omega⟩ ⟨(y 1).val % 512, by omega⟩

/-- The array of given entries, heads of 128 columns side by side. -/
def arrR (G : Fin 256 → Fin 12 → Fin 128 → EReal) : Vec Ideal S256x1536 .f32 := fun y =>
  G (y 0) ⟨(y 1).val / 128, by have h : (y 1).val < 1536 := (y 1).isLt; omega⟩ ⟨(y 1).val % 128, by omega⟩

/-- A head's piece of the queries in the latents' space holds its entries. -/
theorem latP (h : Fin 12) (o o' : ℕ) (eo : o = 256 * h.val) (eo' : o' = 512 * h.val) (hs : S256x3072.Slices ![0, o] S256x128)
    (inw : ∀ a, (![h.val, 0, 0] : Fin 3 → ℕ) a + S1x128x512.size a ≤ S12x128x512.size a)
    (inb : ∀ a, (![0, o'] : Fin 2 → ℕ) a + S256x512.size a ≤ S256x6144.size a) (a : FVec Ideal S256x3072 .f32) (x9 : Vec Ideal S12x128x512 .bf16)
    (x : (Rect.unit (s := S256x6144) ![0, o'] S256x512.size inb).shape.Idx) :
    k0_pay16 (lowQ o hs a) (View.ld (Val := Elt Ideal) x9 (Rect.unit (s := S12x128x512) ![h.val, 0, 0] S1x128x512.size inw)) x
      = arrL (latE a x9) ((Rect.unit (s := S256x6144) ![0, o'] S256x512.size inb).emb x) := by
  subst eo eo'
  revert x
  show ∀ x : S256x512.Idx, _
  intro x
  idx_vars x
  refine (pay16_apply _ _ x0 x1).trans (Eq.trans (b := latE a x9 x0 h x1) ?_ ?_)
  · unfold latE
    exact Finset.sum_congr rfl fun l _ => congrArg₂ (fun u v : EReal => u * v) (lowQ_apply _ hs a x0 l (by omega)) (slab h inw x9 l x1)
  · show latE a x9 x0 h x1 = latE a x9 ⟨0 + 1 * x0.val, _⟩ ⟨(512 * h.val + 1 * x1.val) / 512, _⟩ ⟨(512 * h.val + 1 * x1.val) % 512, _⟩
    have e0 : (⟨0 + 1 * x0.val, by omega⟩ : Fin 256) = x0 := Fin.ext (by show 0 + 1 * x0.val = x0.val; omega)
    have e1 : (⟨(512 * h.val + 1 * x1.val) / 512, by omega⟩ : Fin 12) = h := Fin.ext (by show (512 * h.val + 1 * x1.val) / 512 = h.val; omega)
    have e2 : (⟨(512 * h.val + 1 * x1.val) % 512, by omega⟩ : Fin 512) = x1 := Fin.ext (by show (512 * h.val + 1 * x1.val) % 512 = x1.val; omega)
    rw [e0, e1, e2]

/-- A head's piece of the queries' rotated columns holds its entries. -/
theorem rotP (h : Fin 12) (o o' : ℕ) (eo : o = 256 * h.val + 128) (eo' : o' = 128 * h.val) (hs : S256x3072.Slices ![0, o] S256x128)
    (hs' : S256x1536.Slices ![0, o'] S256x128)
    (inb : ∀ a, (![0, o'] : Fin 2 → ℕ) a + S256x128.size a ≤ S256x1536.size a) (c s : FVec Ideal S256x128 .f32) (a : FVec Ideal S256x3072 .f32)
    (b : FVec Ideal S256x1536 .f32) (x : (Rect.unit (s := S256x1536) ![0, o'] S256x128.size inb).shape.Idx) :
    rotQ o o' hs hs' c s a b x = arrR (rotE c s a b) ((Rect.unit (s := S256x1536) ![0, o'] S256x128.size inb).emb x) := by
  subst eo eo'
  revert x
  show ∀ x : S256x128.Idx, _
  intro x
  idx_vars x
  refine (rotQ_apply _ _ hs hs' c s a b x0 x1 (by omega) (by omega)).trans ?_
  show rotE c s a b x0 h x1 = rotE c s a b ⟨0 + 1 * x0.val, _⟩ ⟨(128 * h.val + 1 * x1.val) / 128, _⟩ ⟨(128 * h.val + 1 * x1.val) % 128, _⟩
  have e0 : (⟨0 + 1 * x0.val, by omega⟩ : Fin 256) = x0 := Fin.ext (by show 0 + 1 * x0.val = x0.val; omega)
  have e1 : (⟨(128 * h.val + 1 * x1.val) / 128, by omega⟩ : Fin 12) = h := Fin.ext (by show (128 * h.val + 1 * x1.val) / 128 = h.val; omega)
  have e2 : (⟨(128 * h.val + 1 * x1.val) % 128, by omega⟩ : Fin 128) = x1 := Fin.ext (by show (128 * h.val + 1 * x1.val) % 128 = x1.val; omega)
  rw [e0, e1, e2]

section
variable (x0 : Vec Ideal S256x2048 .f32) (x1 : Vec Ideal S1x2048 .f32) (x2 : Vec Ideal S2048x1792 .bf16) (x3 x4 : Vec Ideal S1x512 .f32)
  (x5 : Vec Ideal S512x3072 .bf16) (x6 : Vec Ideal S512x1536 .bf16) (x7 x8 : Vec Ideal S256x128 .f32) (x9 : Vec Ideal S12x128x512 .bf16)

/-- The block of queries in the latents' space a point leaves. -/
theorem out13_eq : out0_13 x0 x1 x2 x3 x4 x5 x6 x7 x8 x9 = arrL (latE (k0_pay45 x0 x1 x2 x3 x4 x5 x6 x7 x8 x9) x9) := by
  funext y
  unfold out0_13
  refine View.canon_apply_of_pieces (Val := Elt Ideal) (arrL (latE (k0_pay45 x0 x1 x2 x3 x4 x5 x6 x7 x8 x9) x9)) _ ?_ y (cover0_13 _ _ _ _ _ _ _ _ _ _ _ _ y)
  simp only [List.forall_mem_cons]
  refine ⟨latP 11 2816 5632 rfl rfl slices_S256x3072_o0_2816_S256x128 inb_S12x128x512_S1x128x512_11_0_0 inb_S256x6144_S256x512_0_5632 _ x9, latP 10 2560 5120 rfl rfl slices_S256x3072_o0_2560_S256x128 inb_S12x128x512_S1x128x512_10_0_0 inb_S256x6144_S256x512_0_5120 _ x9, latP 9 2304 4608 rfl rfl slices_S256x3072_o0_2304_S256x128 inb_S12x128x512_S1x128x512_9_0_0 inb_S256x6144_S256x512_0_4608 _ x9, latP 8 2048 4096 rfl rfl slices_S256x3072_o0_2048_S256x128 inb_S12x128x512_S1x128x512_8_0_0 inb_S256x6144_S256x512_0_4096 _ x9, latP 7 1792 3584 rfl rfl slices_S256x3072_o0_1792_S256x128 inb_S12x128x512_S1x128x512_7_0_0 inb_S256x6144_S256x512_0_3584 _ x9, latP 6 1536 3072 rfl rfl slices_S256x3072_o0_1536_S256x128 inb_S12x128x512_S1x128x512_6_0_0 inb_S256x6144_S256x512_0_3072 _ x9, latP 5 1280 2560 rfl rfl slices_S256x3072_o0_1280_S256x128 inb_S12x128x512_S1x128x512_5_0_0 inb_S256x6144_S256x512_0_2560 _ x9, latP 4 1024 2048 rfl rfl slices_S256x3072_o0_1024_S256x128 inb_S12x128x512_S1x128x512_4_0_0 inb_S256x6144_S256x512_0_2048 _ x9, latP 3 768 1536 rfl rfl slices_S256x3072_o0_768_S256x128 inb_S12x128x512_S1x128x512_3_0_0 inb_S256x6144_S256x512_0_1536 _ x9, latP 2 512 1024 rfl rfl slices_S256x3072_o0_512_S256x128 inb_S12x128x512_S1x128x512_2_0_0 inb_S256x6144_S256x512_0_1024 _ x9, latP 1 256 512 rfl rfl slices_S256x3072_o0_256_S256x128 inb_S12x128x512_S1x128x512_1_0_0 inb_S256x6144_S256x512_0_512 _ x9, latP 0 0 0 rfl rfl slices_S256x3072_o0_0_S256x128 inb_S12x128x512_S1x128x512_0_0_0 inb_S256x6144_S256x512_0_0 _ x9, fun _ h => absurd h List.not_mem_nil⟩

/-- The block of the queries' rotated columns a point leaves. -/
theorem out14_eq : out0_14 x0 x1 x2 x3 x4 x5 x6 x7 x8 x9
    = arrR (rotE (k0_pay43 x0 x1 x2 x3 x4 x5 x6 x7 x8 x9) (k0_pay44 x0 x1 x2 x3 x4 x5 x6 x7 x8 x9) (k0_pay45 x0 x1 x2 x3 x4 x5 x6 x7 x8 x9) (k0_pay46 x0 x1 x2 x3 x4 x5 x6 x7 x8 x9)) := by
  funext y
  unfold out0_14
  refine View.canon_apply_of_pieces (Val := Elt Ideal)
    (arrR (rotE (k0_pay43 x0 x1 x2 x3 x4 x5 x6 x7 x8 x9) (k0_pay44 x0 x1 x2 x3 x4 x5 x6 x7 x8 x9) (k0_pay45 x0 x1 x2 x3 x4 x5 x6 x7 x8 x9) (k0_pay46 x0 x1 x2 x3 x4 x5 x6 x7 x8 x9))) _ ?_ y
    (cover0_14 _ _ _ _ _ _ _ _ _ _ _ _ y)
  simp only [List.forall_mem_cons]
  refine ⟨rotP 11 2944 1408 rfl rfl slices_S256x3072_o0_2944_S256x128 slices_S256x1536_o0_1408_S256x128 inb_S256x1536_S256x128_0_1408 _ _ _ _, rotP 10 2688 1280 rfl rfl slices_S256x3072_o0_2688_S256x128 slices_S256x1536_o0_1280_S256x128 inb_S256x1536_S256x128_0_1280 _ _ _ _, rotP 9 2432 1152 rfl rfl slices_S256x3072_o0_2432_S256x128 slices_S256x1536_o0_1152_S256x128 inb_S256x1536_S256x128_0_1152 _ _ _ _, rotP 8 2176 1024 rfl rfl slices_S256x3072_o0_2176_S256x128 slices_S256x1536_o0_1024_S256x128 inb_S256x1536_S256x128_0_1024 _ _ _ _, rotP 7 1920 896 rfl rfl slices_S256x3072_o0_1920_S256x128 slices_S256x1536_o0_896_S256x128 inb_S256x1536_S256x128_0_896 _ _ _ _, rotP 6 1664 768 rfl rfl slices_S256x3072_o0_1664_S256x128 slices_S256x1536_o0_768_S256x128 inb_S256x1536_S256x128_0_768 _ _ _ _, rotP 5 1408 640 rfl rfl slices_S256x3072_o0_1408_S256x128 slices_S256x1536_o0_640_S256x128 inb_S256x1536_S256x128_0_640 _ _ _ _, rotP 4 1152 512 rfl rfl slices_S256x3072_o0_1152_S256x128 slices_S256x1536_o0_512_S256x128 inb_S256x1536_S256x128_0_512 _ _ _ _, rotP 3 896 384 rfl rfl slices_S256x3072_o0_896_S256x128 slices_S256x1536_o0_384_S256x128 inb_S256x1536_S256x128_0_384 _ _ _ _, rotP 2 640 256 rfl rfl slices_S256x3072_o0_640_S256x128 slices_S256x1536_o0_256_S256x128 inb_S256x1536_S256x128_0_256 _ _ _ _, rotP 1 384 128 rfl rfl slices_S256x3072_o0_384_S256x128 slices_S256x1536_o0_128_S256x128 inb_S256x1536_S256x128_0_128 _ _ _ _, rotP 0 128 0 rfl rfl slices_S256x3072_o0_128_S256x128 slices_S256x1536_o0_0_S256x128 inb_S256x1536_S256x128_0_0 _ _ _ _, fun _ h => absurd h List.not_mem_nil⟩

end

end Cert.AsBlocks

end
-- ==== Proof.AsArrays.lean ====
/- The first layer's input projection for the sample's rows: the five arrays the kernel leaves. Its blocks are computed by
   the same operations as the prompt's, so what is proved of those is used here. -/
module

public import proofs.«01_k».proof.Proof.AsBlocks

@[expose] public section

set_option maxRecDepth 16384

noncomputable section

namespace Cert.AsArrays

open Idealize.ShloMosaic Idealize.ShloMosaic.TcCoe Idealize.SL.Sem Cert.InAbSIdeal Cert.InAbSIdeal.Gen

section Blocks
variable (x0 : Vec Ideal S256x2048 .f32) (x1 : Vec Ideal S1x2048 .f32) (x2 : Vec Ideal S2048x1792 .bf16) (x3 x4 : Vec Ideal S1x512 .f32)
  (x5 : Vec Ideal S512x3072 .bf16) (x6 : Vec Ideal S512x1536 .bf16) (x7 x8 : Vec Ideal S256x128 .f32) (x9 : Vec Ideal S12x128x512 .bf16)

theorem p42 : k0_pay42 x0 x1 x2 x3 x4 x5 x6 x7 x8 x9 = Cert.InAbIdeal.Gen.k0_pay4 x0 x1 x2 := by
  unfold k0_pay42
  have e0 : View.ld (Val := Elt Ideal) x0 r0_0 = x0 := View.ld_unit_zero AbFinal.zeros _ _
  have e1 : View.ld (Val := Elt Ideal) x1 r0_1 = x1 := View.ld_unit_zero AbFinal.zeros _ _
  have e2 : View.ld (Val := Elt Ideal) x2 r0_2 = x2 := View.ld_unit_zero AbFinal.zeros _ _
  rw [e0, e1, e2]
  rfl

theorem p43 : k0_pay43 x0 x1 x2 x3 x4 x5 x6 x7 x8 x9 = Cert.InAbIdeal.Gen.k0_pay7 x7 :=
  congrArg k0_pay7 (View.ld_unit_zero (Val := Elt Ideal) AbFinal.zeros _ x7)

theorem p44 : k0_pay44 x0 x1 x2 x3 x4 x5 x6 x7 x8 x9 = Cert.InAbIdeal.Gen.k0_pay8 x8 :=
  congrArg k0_pay8 (View.ld_unit_zero (Val := Elt Ideal) AbFinal.zeros _ x8)

theorem p45 : k0_pay45 x0 x1 x2 x3 x4 x5 x6 x7 x8 x9 = Cert.InAbIdeal.Gen.k0_pay12 (Cert.InAbIdeal.Gen.k0_pay4 x0 x1 x2) x3 x5 := by
  unfold k0_pay45
  have e3 : View.ld (Val := Elt Ideal) x3 r0_4 = x3 := View.ld_unit_zero AbFinal.zeros _ _
  have e5 : View.ld (Val := Elt Ideal) x5 r0_7 = x5 := View.ld_unit_zero AbFinal.zeros _ _
  rw [e3, e5, p42]
  rfl

theorem p46 : k0_pay46 x0 x1 x2 x3 x4 x5 x6 x7 x8 x9 = Cert.InAbIdeal.Gen.k0_pay13 (Cert.InAbIdeal.Gen.k0_pay4 x0 x1 x2) x3 x6 := by
  unfold k0_pay46
  have e3 : View.ld (Val := Elt Ideal) x3 r0_4 = x3 := View.ld_unit_zero AbFinal.zeros _ _
  have e6 : View.ld (Val := Elt Ideal) x6 r0_8 = x6 := View.ld_unit_zero AbFinal.zeros _ _
  rw [e3, e6, p42]
  rfl

theorem out10_eq : out0_10 x0 x1 x2 x3 x4 x5 x6 x7 x8 x9 = Cert.InAbIdeal.Gen.k0_pay5 x0 x1 x2 := by
  unfold out0_10
  refine (View.canon_unit_zero (Val := Elt Ideal) AbFinal.zeros inb_S256x512_S256x512_0_0 _).trans ?_
  have e0 : View.ld (Val := Elt Ideal) x0 r0_0 = x0 := View.ld_unit_zero AbFinal.zeros _ _
  have e1 : View.ld (Val := Elt Ideal) x1 r0_1 = x1 := View.ld_unit_zero AbFinal.zeros _ _
  have e2 : View.ld (Val := Elt Ideal) x2 r0_2 = x2 := View.ld_unit_zero AbFinal.zeros _ _
  rw [e0, e1, e2]
  rfl

theorem out11_eq : out0_11 x0 x1 x2 x3 x4 x5 x6 x7 x8 x9 = Cert.InAbIdeal.Gen.k0_pay6 x0 x1 x2 x4 := by
  unfold out0_11
  refine (View.canon_unit_zero (Val := Elt Ideal) AbFinal.zeros inb_S256x512_S256x512_0_0 _).trans ?_
  have e0 : View.ld (Val := Elt Ideal) x0 r0_0 = x0 := View.ld_unit_zero AbFinal.zeros _ _
  have e1 : View.ld (Val := Elt Ideal) x1 r0_1 = x1 := View.ld_unit_zero AbFinal.zeros _ _
  have e2 : View.ld (Val := Elt Ideal) x2 r0_2 = x2 := View.ld_unit_zero AbFinal.zeros _ _
  have e4 : View.ld (Val := Elt Ideal) x4 r0_4 = x4 := View.ld_unit_zero AbFinal.zeros _ _
  rw [e0, e1, e2, e4]
  rfl

theorem out12_eq : out0_12 x0 x1 x2 x3 x4 x5 x6 x7 x8 x9 = Cert.InAbIdeal.Gen.k0_pay10 (Cert.InAbIdeal.Gen.k0_pay4 x0 x1 x2) x7 x8 := by
  unfold out0_12
  refine (View.canon_unit_zero (Val := Elt Ideal) AbFinal.zeros inb_S256x64_S256x64_0_0 _).trans ?_
  have e7 : View.ld (Val := Elt Ideal) x7 r0_5 = x7 := View.ld_unit_zero AbFinal.zeros _ _
  have e8 : View.ld (Val := Elt Ideal) x8 r0_5 = x8 := View.ld_unit_zero AbFinal.zeros _ _
  rw [e7, e8, p42]
  rfl

end Blocks

variable (m : (ℓ : Loc nD τ sig) → Buf (Elt Ideal) ℓ) (c : Dev nD)

theorem idx_eq : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![t.val % 2, 0] ∧ win0_8.index t = ![t.val % 2, 0]
    ∧ win0_9.index t = ![0, 0, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![t.val % 2, 0] ∧ win0_8.index t = ![t.val % 2, 0]
    ∧ win0_9.index t = ![0, 0, 0])

theorem odx_eq : ∀ t : Fin cfg0.N, win0_10.index t = ![t.val, 0] ∧ win0_11.index t = ![t.val, 0] ∧ win0_12.index t = ![t.val, 0]
    ∧ win0_13.index t = ![t.val, 0] ∧ win0_14.index t = ![t.val, 0] :=
  (by decide +kernel : ∀ t : Fin grid0.N, win0_10.index t = ![t.val, 0] ∧ win0_11.index t = ![t.val, 0] ∧ win0_12.index t = ![t.val, 0]
    ∧ win0_13.index t = ![t.val, 0] ∧ win0_14.index t = ![t.val, 0])

/-- The row of a grid point's block. -/
def row (t : Fin cfg0.N) (r : Fin 256) : Fin 512 := ⟨256 * t.val + r.val, by have h : t.val < 2 := t.isLt; omega⟩

section
variable (x : Vec Ideal S512x2048 .f32) (g : Vec Ideal S2048 .f32) (wi : Vec Ideal S2048x1600 .f32) (qg kvg : Vec Ideal S512 .f32)
  (wq : Vec Ideal S512x12x192 .f32) (wk : Vec Ideal S512x12x128 .f32)
  (hg : ∀ d, AbSpec.IsReal (g (ix1 d))) (hwi : ∀ d j, AbSpec.IsReal (wi (ix2 d j)))
  (hqg : ∀ d, AbSpec.IsReal (qg (ix1 d))) (hwq : ∀ k h l, AbSpec.IsReal (wq (ix3 k h l)))
  (ex : m ((c.tc : Thread nD τ).loc main_arg0) = x) (eg : m ((c.tc : Thread nD τ).loc main_arg1) = g)
  (ewi : m ((c.tc : Thread nD τ).loc main_arg2) = wi) (eqg : m ((c.tc : Thread nD τ).loc main_arg3) = qg)
  (ekvg : m ((c.tc : Thread nD τ).loc main_arg4) = kvg) (ewq : m ((c.tc : Thread nD τ).loc main_arg5) = wq)
  (ewk : m ((c.tc : Thread nD τ).loc main_arg6) = wk)

include ex in
theorem i0 (t : Fin cfg0.N) (r : Fin 256) (k : Fin 2048) :
    ((iblk m c 0 t : Vec Ideal S256x2048 .f32) (ix2 r k) : EReal) = AsMath.ext x (ix2 (AsMath.up (row t r)) k) := by
  subst ex
  have h : t.val < 2 := t.isLt
  obtain ⟨e0, e1, e2, e3, e4, e5, e6, e7, e8, e9⟩ := idx_eq t
  have hb : (iblk m c 0 t : Vec Ideal S256x2048 .f32) (ix2 r k) = (m ((c.tc : Thread nD τ).loc main_arg0) : Vec Ideal S512x2048 .f32)
      (ix2 (row t r) k) := by
    unfold row
    blk_ext [iblk, V_main_arg0, e0]
  exact hb.trans (AsMath.ext_up _ (row t r) k).symm

include eg in
theorem i1 (t : Fin cfg0.N) (k : Fin 2048) : ((iblk m c 1 t : Vec Ideal S1x2048 .f32) (ix2 0 k) : EReal) = g (ix1 k) := by
  subst eg
  obtain ⟨e0, e1, e2, e3, e4, e5, e6, e7, e8, e9⟩ := idx_eq t
  have hb : (iblk m c 1 t : Vec Ideal S1x2048 .f32) (ix2 0 k) = (V m c main_v49 : Vec Ideal S1x2048 .f32) (ix2 0 k) := by
    blk_ext [iblk, e1]
  rw [hb]
  entry_read
  pointwise

include ewi in
theorem i2 (t : Fin cfg0.N) (d : Fin 2048) (j : Fin 1792) :
    ((iblk m c 2 t : Vec Ideal S2048x1792 .bf16) (ix2 d j) : EReal) = AbHost.winOf (F := Ideal) wi (ix2 d j) := by
  subst ewi
  obtain ⟨e0, e1, e2, e3, e4, e5, e6, e7, e8, e9⟩ := idx_eq t
  have hb : (iblk m c 2 t : Vec Ideal S2048x1792 .bf16) (ix2 d j) = (V m c main_v33 : Vec Ideal S2048x1792 .bf16) (ix2 d j) := by
    blk_ext [iblk, e2]
  exact hb.trans (congrFun (AsHost.win_eq m c) _)

include eqg in
theorem i3 (t : Fin cfg0.N) (k : Fin 512) : ((iblk m c 3 t : Vec Ideal S1x512 .f32) (ix2 0 k) : EReal) = qg (ix1 k) := by
  subst eqg
  obtain ⟨e0, e1, e2, e3, e4, e5, e6, e7, e8, e9⟩ := idx_eq t
  have hb : (iblk m c 3 t : Vec Ideal S1x512 .f32) (ix2 0 k) = (V m c main_v50 : Vec Ideal S1x512 .f32) (ix2 0 k) := by
    blk_ext [iblk, e3]
  rw [hb]
  entry_read
  pointwise

include ekvg in
theorem i4 (t : Fin cfg0.N) (k : Fin 512) : ((iblk m c 4 t : Vec Ideal S1x512 .f32) (ix2 0 k) : EReal) = kvg (ix1 k) := by
  subst ekvg
  obtain ⟨e0, e1, e2, e3, e4, e5, e6, e7, e8, e9⟩ := idx_eq t
  have hb : (iblk m c 4 t : Vec Ideal S1x512 .f32) (ix2 0 k) = (V m c main_v51 : Vec Ideal S1x512 .f32) (ix2 0 k) := by
    blk_ext [iblk, e4]
  rw [hb]
  entry_read
  pointwise

include ewq in
theorem i5 (t : Fin cfg0.N) (k : Fin 512) (j : Fin 3072) :
    ((iblk m c 5 t : Vec Ideal S512x3072 .bf16) (ix2 k j) : EReal) = AbHost.wqOf (F := Ideal) wq (ix2 k j) := by
  subst ewq
  obtain ⟨e0, e1, e2, e3, e4, e5, e6, e7, e8, e9⟩ := idx_eq t
  have hb : (iblk m c 5 t : Vec Ideal S512x3072 .bf16) (ix2 k j) = (V m c main_v37 : Vec Ideal S512x3072 .bf16) (ix2 k j) := by
    blk_ext [iblk, e5]
  exact hb.trans (congrFun (AsHost.wq_eq m c) _)

include ewq in
theorem i6 (t : Fin cfg0.N) (k : Fin 512) (j : Fin 1536) :
    ((iblk m c 6 t : Vec Ideal S512x1536 .bf16) (ix2 k j) : EReal) = AbHost.padQ (F := Ideal) (AbHost.swapQ (AbHost.colsQ wq)) (ix2 k j) := by
  subst ewq
  obtain ⟨e0, e1, e2, e3, e4, e5, e6, e7, e8, e9⟩ := idx_eq t
  have hb : (iblk m c 6 t : Vec Ideal S512x1536 .bf16) (ix2 k j) = (V m c main_v46 : Vec Ideal S512x1536 .bf16) (ix2 k j) := by
    blk_ext [iblk, e6]
  exact hb.trans (congrFun (AsHost.wqr_eq m c) _)

theorem i7 (t : Fin cfg0.N) (r : Fin 256) (e : Fin 128) :
    ((iblk m c 7 t : Vec Ideal S256x128 .f32) (ix2 r e) : EReal) = AsMath.ctab (row t r) e := by
  have h : t.val < 2 := t.isLt
  obtain ⟨e0, e1, e2, e3, e4, e5, e6, e7, e8, e9⟩ := idx_eq t
  have hb : (iblk m c 7 t : Vec Ideal S256x128 .f32) (ix2 r e) = (V m c main_v20 : Vec Ideal S512x128 .f32)
      (ix2 ⟨256 * (t.val % 2) + r.val, by omega⟩ e) := by
    blk_ext [iblk, e7]
  have hp : (⟨256 * (t.val % 2) + r.val, by omega⟩ : Fin 512) = row t r :=
    Fin.ext (show 256 * (t.val % 2) + r.val = 256 * t.val + r.val by omega)
  rw [hp] at hb
  exact hb.trans (congrFun (AsHost.cos_eq m c) _)

theorem i8 (t : Fin cfg0.N) (r : Fin 256) (e : Fin 128) :
    ((iblk m c 8 t : Vec Ideal S256x128 .f32) (ix2 r e) : EReal) = AsMath.stab (row t r) e := by
  have h : t.val < 2 := t.isLt
  obtain ⟨e0, e1, e2, e3, e4, e5, e6, e7, e8, e9⟩ := idx_eq t
  have hb : (iblk m c 8 t : Vec Ideal S256x128 .f32) (ix2 r e) = (V m c main_v21 : Vec Ideal S512x128 .f32)
      (ix2 ⟨256 * (t.val % 2) + r.val, by omega⟩ e) := by
    blk_ext [iblk, e8]
  have hp : (⟨256 * (t.val % 2) + r.val, by omega⟩ : Fin 512) = row t r :=
    Fin.ext (show 256 * (t.val % 2) + r.val = 256 * t.val + r.val by omega)
  rw [hp] at hb
  exact hb.trans (congrFun (AsHost.sin_eq m c) _)

include ewk in
theorem i9 (t : Fin cfg0.N) (h : Fin 12) (l : Fin 128) (k : Fin 512) :
    ((iblk m c 9 t : Vec Ideal S12x128x512 .bf16) (ix3 h l k) : EReal) = wk (ix3 k h l) := by
  subst ewk
  obtain ⟨e0, e1, e2, e3, e4, e5, e6, e7, e8, e9⟩ := idx_eq t
  have hb : (iblk m c 9 t : Vec Ideal S12x128x512 .bf16) (ix3 h l k) = (V m c main_v48 : Vec Ideal S12x128x512 .bf16) (ix3 h l k) := by
    blk_ext [iblk, e9]
  rw [hb]
  entry_read
  pointwise

include ex eg ewi in
theorem final10 : (dats m 0 c).arrAt 10 cfg0.N = AsMath.result0 x g wi := by
  refine (dats m 0 c).arrAt_eq_of_covers 10 _ (by decide +kernel) fun t hf y => ?_
  obtain ⟨o0, o1, o2, o3, o4⟩ := odx_eq t
  blk_simp
  rw [after0_10, out10_eq]
  revert y
  show ∀ y : S256x512.Idx, Cert.InAbIdeal.Gen.k0_pay5 (F := Ideal) (iblk m c 0 t) (iblk m c 1 t) (iblk m c 2 t) y =
    AsMath.result0 x g wi ((win0_10.blk t).view.emb y)
  intro y
  have h : t.val < 2 := t.isLt
  idx_vars y
  generalize y0 = r
  generalize y1 = l
  have hr : (win0_10.blk t).view.emb (ix2 r l) = (ix2 (row t r) l : S512x512.Idx) := by
    unfold row
    blk_ext [o0]
  rw [hr]
  refine (AbKernel.pay5_apply _ _ _ r l).trans ((AbFinal.b_z _ _ _ (AsMath.ext x) g wi (AsMath.up (row t r)) r (i0 m c x ex t r) (i1 m c g eg t)
    (i2 m c wi ewi t) _).trans ?_)
  exact AbCols.zp_lo (AsMath.ext x) g wi (AsMath.up (row t r)) ⟨0 + l.val, by omega⟩

include ex eg ewi ekvg in
theorem final11 : (dats m 0 c).arrAt 11 cfg0.N = AsMath.result1 x g wi kvg := by
  refine (dats m 0 c).arrAt_eq_of_covers 11 _ (by decide +kernel) fun t hf y => ?_
  obtain ⟨o0, o1, o2, o3, o4⟩ := odx_eq t
  blk_simp
  rw [after0_11, out11_eq]
  revert y
  show ∀ y : S256x512.Idx, Cert.InAbIdeal.Gen.k0_pay6 (F := Ideal) (iblk m c 0 t) (iblk m c 1 t) (iblk m c 2 t) (iblk m c 4 t) y =
    AsMath.result1 x g wi kvg ((win0_11.blk t).view.emb y)
  intro y
  have h : t.val < 2 := t.isLt
  idx_vars y
  generalize y0 = r
  generalize y1 = l
  have hr : (win0_11.blk t).view.emb (ix2 r l) = (ix2 (row t r) l : S512x512.Idx) := by
    unfold row
    blk_ext [o1]
  rw [hr]
  exact AbFinal.b_lat _ _ _ _ (AsMath.ext x) g wi kvg (AsMath.up (row t r)) r (i0 m c x ex t r) (i1 m c g eg t) (i2 m c wi ewi t) (i4 m c kvg ekvg t) l

include ex eg ewi hg hwi in
theorem kr (t : Fin cfg0.N) (r : Fin 256) (e : Fin 128) :
    (Cert.InAbIdeal.Gen.k0_pay9 (F := Ideal) (Cert.InAbIdeal.Gen.k0_pay4 (iblk m c 0 t) (iblk m c 1 t) (iblk m c 2 t)) (iblk m c 7 t) (iblk m c 8 t)
      (ix2 r e) : EReal) = if h : e.val < 64 then AsMath.krAt x g wi (row t r) ⟨e.val, h⟩ else 0 := by
  have hz := AbFinal.b_z _ _ _ (AsMath.ext x) g wi (AsMath.up (row t r)) r (i0 m c x ex t r) (i1 m c g eg t) (i2 m c wi ewi t)
  have h7 := i7 m c t r e
  have h8 := i8 m c t r e
  refine (AbKernel.pay9_apply _ _ _ r e).trans ((congrArg₂ (fun a b : EReal => a + b) ?_ ?_).trans (AsMath.kr_eq x g wi hg hwi (row t r) e))
  · exact congrArg₂ (fun a b : EReal => a * b) (hz _) h7
  · exact congrArg₂ (fun a b : EReal => a * b) (hz _) h8

include ex eg ewi hg hwi in
theorem final12 : (dats m 0 c).arrAt 12 cfg0.N = AsMath.result2 x g wi := by
  refine (dats m 0 c).arrAt_eq_of_covers 12 _ (by decide +kernel) fun t hf y => ?_
  obtain ⟨o0, o1, o2, o3, o4⟩ := odx_eq t
  blk_simp
  rw [after0_12, out12_eq]
  revert y
  show ∀ y : S256x64.Idx, Cert.InAbIdeal.Gen.k0_pay10 (F := Ideal) (Cert.InAbIdeal.Gen.k0_pay4 (iblk m c 0 t) (iblk m c 1 t) (iblk m c 2 t))
    (iblk m c 7 t) (iblk m c 8 t) y = AsMath.result2 x g wi ((win0_12.blk t).view.emb y)
  intro y
  have h : t.val < 2 := t.isLt
  idx_vars y
  generalize y0 = r
  generalize y1 = l
  have hr : (win0_12.blk t).view.emb (ix2 r l) = (ix2 (row t r) l : S512x64.Idx) := by
    unfold row
    blk_ext [o2]
  rw [hr]
  refine (AbKernel.pay10_apply _ _ _ r l).trans ((kr m c x g wi hg hwi ex eg ewi t r _).trans ?_)
  have hl : 0 + l.val < 64 := by omega
  simp only [hl, dif_pos]
  exact congrArg (AsMath.krAt x g wi (row t r)) (Fin.ext (Nat.zero_add l.val))

include ex eg ewi eqg ewq in
theorem q (t : Fin cfg0.N) (r : Fin 256) (j : Fin 3072) :
    (Cert.InAbIdeal.Gen.k0_pay12 (F := Ideal) (Cert.InAbIdeal.Gen.k0_pay4 (iblk m c 0 t) (iblk m c 1 t) (iblk m c 2 t)) (iblk m c 3 t) (iblk m c 5 t)
      (ix2 r j) : EReal) = AbCols.qp (AsMath.ext x) g wi qg wq (AsMath.up (row t r)) j :=
  AbFinal.b_q _ _ _ _ _ (AsMath.ext x) g wi qg wq (AsMath.up (row t r)) r (i0 m c x ex t r) (i1 m c g eg t) (i2 m c wi ewi t)
    (i3 m c qg eqg t) (i5 m c wq ewq t) j

include ex eg ewi eqg ewq ewk in
theorem final13 : (dats m 0 c).arrAt 13 cfg0.N = AsMath.result3 x g wi qg wq wk := by
  refine (dats m 0 c).arrAt_eq_of_covers 13 _ (by decide +kernel) fun t hf y => ?_
  obtain ⟨o0, o1, o2, o3, o4⟩ := odx_eq t
  blk_simp
  rw [after0_13, AsBlocks.out13_eq, p45]
  revert y
  show ∀ y : S256x6144.Idx, AsBlocks.arrL (AsBlocks.latE (Cert.InAbIdeal.Gen.k0_pay12 (F := Ideal)
    (Cert.InAbIdeal.Gen.k0_pay4 (iblk m c 0 t) (iblk m c 1 t) (iblk m c 2 t)) (iblk m c 3 t) (iblk m c 5 t)) (iblk m c 9 t)) y
      = AsMath.result3 x g wi qg wq wk ((win0_13.blk t).view.emb y)
  intro y
  have h : t.val < 2 := t.isLt
  idx_vars y
  generalize y0 = r
  generalize y1 = l
  have hr : (win0_13.blk t).view.emb (ix2 r l) = (ix2 (row t r) l : S512x6144.Idx) := by
    unfold row
    blk_ext [o3]
  rw [hr]
  show AsBlocks.latE _ _ r ⟨l.val / 512, _⟩ ⟨l.val % 512, _⟩ = AsMath.qlAt x g wi qg wq wk (row t r) ⟨l.val / 512, _⟩ ⟨l.val % 512, _⟩
  unfold AsBlocks.latE AsMath.qlAt
  refine Finset.sum_congr rfl fun d _ => congrArg₂ (fun a b : EReal => a * b) (congrArg (· * AbBlocks.scale) ?_) (i9 m c wk ewk t _ d _)
  exact (q m c x g wi qg wq ex eg ewi eqg ewq t r _).trans (AbCols.qp_lo (AsMath.ext x) g wi qg wq (AsMath.up (row t r)) ⟨l.val / 512, by omega⟩ d)

include ex eg ewi eqg ewq hqg hwq in
theorem final14 : (dats m 0 c).arrAt 14 cfg0.N = AsMath.result4 x g wi qg wq := by
  refine (dats m 0 c).arrAt_eq_of_covers 14 _ (by decide +kernel) fun t hf y => ?_
  obtain ⟨o0, o1, o2, o3, o4⟩ := odx_eq t
  blk_simp
  rw [after0_14, AsBlocks.out14_eq, p43, p44, p45, p46]
  revert y
  show ∀ y : S256x1536.Idx, AsBlocks.arrR (AsBlocks.rotE (Cert.InAbIdeal.Gen.k0_pay7 (F := Ideal) (iblk m c 7 t)) (Cert.InAbIdeal.Gen.k0_pay8 (iblk m c 8 t))
    (Cert.InAbIdeal.Gen.k0_pay12 (Cert.InAbIdeal.Gen.k0_pay4 (iblk m c 0 t) (iblk m c 1 t) (iblk m c 2 t)) (iblk m c 3 t) (iblk m c 5 t))
    (Cert.InAbIdeal.Gen.k0_pay13 (Cert.InAbIdeal.Gen.k0_pay4 (iblk m c 0 t) (iblk m c 1 t) (iblk m c 2 t)) (iblk m c 3 t) (iblk m c 6 t))) y
      = AsMath.result4 x g wi qg wq ((win0_14.blk t).view.emb y)
  intro y
  have h : t.val < 2 := t.isLt
  idx_vars y
  generalize y0 = r
  generalize y1 = l
  have hr : (win0_14.blk t).view.emb (ix2 r l) = (ix2 (row t r) l : S512x1536.Idx) := by
    unfold row
    blk_ext [o4]
  rw [hr]
  show AsBlocks.rotE _ _ _ _ r ⟨l.val / 128, _⟩ ⟨l.val % 128, _⟩ = AsMath.qpAt x g wi qg wq (row t r) ⟨l.val / 128, _⟩ ⟨l.val % 128, _⟩
  have hh : l.val / 128 < 12 := by omega
  have hd : l.val % 128 < 128 := by omega
  generalize (⟨l.val / 128, hh⟩ : Fin 12) = a
  generalize (⟨l.val % 128, hd⟩ : Fin 128) = d
  have ha : (⟨256 * a.val + 128 + d.val, by omega⟩ : Fin 3072) = ⟨256 * a.val + (128 + d.val), by omega⟩ :=
    Fin.ext (by show 256 * a.val + 128 + d.val = 256 * a.val + (128 + d.val); omega)
  have hs := AbFinal.b_qs _ _ _ _ _ (AsMath.ext x) g wi qg wq (AsMath.up (row t r)) r (i0 m c x ex t r) (i1 m c g eg t) (i2 m c wi ewi t)
    (i3 m c qg eqg t) (i6 m c wq ewq t)
  have h7 := (AbFinal.pay7_apply _ r d).trans (i7 m c t r d)
  have h8 := (AbFinal.pay8_apply _ r d).trans (i8 m c t r d)
  unfold AsBlocks.rotE
  refine (congrArg (· * AbBlocks.scale) ((congrArg₂ (fun a b : EReal => a + b) (congrArg₂ (fun a b : EReal => a * b)
    ((q m c x g wi qg wq ex eg ewi eqg ewq t r _).trans (congrArg (AbCols.qp (AsMath.ext x) g wi qg wq (AsMath.up (row t r))) ha)) h7)
    (congrArg₂ (fun a b : EReal => a * b) (hs _) h8)).trans (AsMath.qr_eq x g wi qg wq hqg hwq (row t r) a d))).trans ?_
  unfold AsMath.qpAt
  by_cases h2 : d.val < 64
  · simp only [h2, dif_pos]
  · simp only [h2, dif_neg, not_false_eq_true, zero_mul]

end

end Cert.AsArrays

end
-- ==== Proof.AsRef.lean ====
/- The first layer's input projection for the sample's rows: the reference's arrays, entry by entry. -/
module

public import proofs.«01_k».proof.Proof.Gen.InAbSRefIdeal.Run
public import proofs.«01_k».proof.Proof.AsMath

@[expose] public section

set_option maxRecDepth 16384

noncomputable section

namespace Cert.AsRef

open Idealize.ShloMosaic Idealize.ShloMosaic.TcCoe Idealize.SL.Sem Cert.InAbSRefIdeal Cert.InAbSRefIdeal.Gen

section
variable {F : FTy → Type} [FloatOps F]

/-- The sum of squares of each row. -/
def ssq (x : FVec F S512x2048 .f32) : FVec F S512 .f32 :=
  Host.reduceAdd (mulf x x) (constant S_ .f32 0x00000000#32) reducesTo_S512x2048_S512_d1 h_S_

/-- The normed rows, the sums of squares given. -/
def normOf (x : FVec F S512x2048 .f32) (g : FVec F S2048 .f32) (q : FVec F S512 .f32) : FVec F S512x2048 .f32 :=
  mulf (mulf x (broadcastInDim S512x2048 ![0, 1] bcast_S512x1_S512x2048_0_1 (Host.rsqrt (addf (Host.divf (broadcastInDim S512x1 ![0] bcast_S512_S512x1_0 q) (broadcastInDim S512x1 ![] bcast_S_S512x1 (constant S_ .f32 0x45000000#32))) (broadcastInDim S512x1 ![] bcast_S_S512x1 (constant S_ .f32 0x358637BD#32)))))) (broadcastInDim S512x2048 ![0, 1] bcast_S1x2048_S512x2048_0_1 (broadcastInDim S1x2048 ![1] bcast_S2048_S1x2048_1 g))

/-- All columns' products. -/
def prodOf (n : FVec F S512x2048 .f32) (w : FVec F S2048x1600 .f32) : FVec F S512x1600 .f32 :=
  Host.dotGeneral dot_S512x2048_S2048x1600_S512x1600_1_0_0_1_n_n none n w

/-- The first block of columns. -/
def uOf (z : FVec F S512x1600 .f32) : FVec F S512x512 .f32 := extractStridedSlice S512x512 ![0, 0] z slices_S512x1600_S512x512_0_0

/-- The second block of columns. -/
def cqOf (z : FVec F S512x1600 .f32) : FVec F S512x512 .f32 := extractStridedSlice S512x512 ![0, 512] z slices_S512x1600_S512x512_0_512

/-- The third block of columns. -/
def ckvOf (z : FVec F S512x1600 .f32) : FVec F S512x512 .f32 := extractStridedSlice S512x512 ![0, 1024] z slices_S512x1600_S512x512_0_1024

/-- The sum of squares of each row of 512. -/
def ssq5 (x : FVec F S512x512 .f32) : FVec F S512 .f32 :=
  Host.reduceAdd (mulf x x) (constant S_ .f32 0x00000000#32) reducesTo_S512x512_S512_d1 h_S_

/-- The normed rows of 512, the sums of squares given. -/
def norm5 (x : FVec F S512x512 .f32) (g : FVec F S512 .f32) (q : FVec F S512 .f32) : FVec F S512x512 .f32 :=
  mulf (mulf x (broadcastInDim S512x512 ![0, 1] bcast_S512x1_S512x512_0_1 (Host.rsqrt (addf (Host.divf (broadcastInDim S512x1 ![0] bcast_S512_S512x1_0 q) (broadcastInDim S512x1 ![] bcast_S_S512x1 (constant S_ .f32 0x44000000#32))) (broadcastInDim S512x1 ![] bcast_S_S512x1 (constant S_ .f32 0x358637BD#32)))))) (broadcastInDim S512x512 ![0, 1] bcast_S1x512_S512x512_0_1 (broadcastInDim S1x512 ![1] bcast_S512_S1x512_1 g))

/-- The angles. -/
def ang : FVec F S512x32 .f32 := (mulf (broadcastInDim S512x32 ![0, 1] bcast_S512x1_S512x32_0_1 (broadcastInDim S512x1 ![0] bcast_S512_S512x1_0 (sitofp .f32 (shapeCast _ (broadcastInDim S4x128 ![0] bcast_S4_S4x128_0 (addi (broadcastInDim S4 ![] bcast_S_S4 (constantI S_ 32 16384#32)) (iotaInDim S4 32 0))) shapeCasts_S4x128_S512)))) (broadcastInDim S512x32 ![0, 1] bcast_S1x32_S512x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- The last block of columns, as one sequence. -/
def krOf (z : FVec F S512x1600 .f32) : FVec F S1x512x64 .f32 := (broadcastInDim S1x512x64 ![1, 2] bcast_S512x64_S1x512x64_1_2 (extractStridedSlice S512x64 ![0, 1536] z slices_S512x1600_S512x64_0_1536))

/-- The keys' rotation. -/
def rotK (k : FVec F S1x512x64 .f32) (a : FVec F S512x32 .f32) : FVec F S1x512x64 .f32 :=
  concatenate S1x512x64 2 [⟨S1x512x32, (subf (mulf (extractStridedSlice S1x512x32 ![0, 0, 0] k slices_S1x512x64_S1x512x32_0_0_0) (broadcastInDim S1x512x32 ![1, 2] bcast_S512x32_S1x512x32_1_2 (Host.cos a))) (mulf (extractStridedSlice S1x512x32 ![0, 0, 32] k slices_S1x512x64_S1x512x32_0_0_32) (broadcastInDim S1x512x32 ![1, 2] bcast_S512x32_S1x512x32_1_2 (Host.sin a))))⟩, ⟨S1x512x32, (addf (mulf (extractStridedSlice S1x512x32 ![0, 0, 32] k slices_S1x512x64_S1x512x32_0_0_32) (broadcastInDim S1x512x32 ![1, 2] bcast_S512x32_S1x512x32_1_2 (Host.cos a))) (mulf (extractStridedSlice S1x512x32 ![0, 0, 0] k slices_S1x512x64_S1x512x32_0_0_0) (broadcastInDim S1x512x32 ![1, 2] bcast_S512x32_S1x512x32_1_2 (Host.sin a))))⟩] concatenates_S1x512x32_S1x512x32_S1x512x64_d2

/-- The sequence's rows. -/
def flatK (k : FVec F S1x512x64 .f32) : FVec F S512x64 .f32 := shapeCast _ k shapeCasts_S1x512x64_S512x64

/-- All heads' queries. -/
def qdOf (n : FVec F S512x512 .f32) (w : FVec F S512x12x192 .f32) : FVec F S512x12x192 .f32 :=
  Host.dotGeneral dot_S512x512_S512x12x192_S512x12x192_1_0_0_12_n_n none n w

/-- The queries' rotated columns before the rotation, as one sequence. -/
def qrOf (q : FVec F S512x12x192 .f32) : FVec F S1x512x12x64 .f32 :=
  (broadcastInDim S1x512x12x64 ![1, 2, 3] bcast_S512x12x64_S1x512x12x64_1_2_3 (extractStridedSlice S512x12x64 ![0, 0, 128] q slices_S512x12x192_S512x12x64_0_0_128))

/-- The queries' rotation. -/
def rotQ (k : FVec F S1x512x12x64 .f32) (a : FVec F S512x32 .f32) : FVec F S1x512x12x64 .f32 :=
  concatenate S1x512x12x64 3 [⟨S1x512x12x32, (subf (mulf (extractStridedSlice S1x512x12x32 ![0, 0, 0, 0] k slices_S1x512x12x64_S1x512x12x32_0_0_0_0) (broadcastInDim S1x512x12x32 ![0, 1, 2, 3] bcast_S1x512x1x32_S1x512x12x32_0_1_2_3 (broadcastInDim S1x512x1x32 ![1, 2, 3] bcast_S512x1x32_S1x512x1x32_1_2_3 (Host.cos (shapeCast _ a shapeCasts_S512x32_S512x1x32))))) (mulf (extractStridedSlice S1x512x12x32 ![0, 0, 0, 32] k slices_S1x512x12x64_S1x512x12x32_0_0_0_32) (broadcastInDim S1x512x12x32 ![0, 1, 2, 3] bcast_S1x512x1x32_S1x512x12x32_0_1_2_3 (broadcastInDim S1x512x1x32 ![1, 2, 3] bcast_S512x1x32_S1x512x1x32_1_2_3 (Host.sin (shapeCast _ a shapeCasts_S512x32_S512x1x32))))))⟩, ⟨S1x512x12x32, (addf (mulf (extractStridedSlice S1x512x12x32 ![0, 0, 0, 32] k slices_S1x512x12x64_S1x512x12x32_0_0_0_32) (broadcastInDim S1x512x12x32 ![0, 1, 2, 3] bcast_S1x512x1x32_S1x512x12x32_0_1_2_3 (broadcastInDim S1x512x1x32 ![1, 2, 3] bcast_S512x1x32_S1x512x1x32_1_2_3 (Host.cos (shapeCast _ a shapeCasts_S512x32_S512x1x32))))) (mulf (extractStridedSlice S1x512x12x32 ![0, 0, 0, 0] k slices_S1x512x12x64_S1x512x12x32_0_0_0_0) (broadcastInDim S1x512x12x32 ![0, 1, 2, 3] bcast_S1x512x1x32_S1x512x12x32_0_1_2_3 (broadcastInDim S1x512x1x32 ![1, 2, 3] bcast_S512x1x32_S1x512x1x32_1_2_3 (Host.sin (shapeCast _ a shapeCasts_S512x32_S512x1x32))))))⟩] concatenates_S1x512x12x32_S1x512x12x32_S1x512x12x64_d3

/-- The sequence's rows. -/
def flatQ (r : FVec F S1x512x12x64 .f32) : FVec F S512x12x64 .f32 := shapeCast _ r shapeCasts_S1x512x12x64_S512x12x64

/-- The queries' rotated columns, scaled and padded. -/
def joinQ (r : FVec F S512x12x64 .f32) : FVec F S512x1536 .f32 :=
  shapeCast _ (concatenate S512x12x128 2 [⟨S512x12x64, (mulf r (broadcastInDim S512x12x64 ![] bcast_S_S512x12x64 (constant S_ .f32 0x3D93CD3A#32)))⟩, ⟨S512x12x64, (broadcastInDim S512x12x64 ![] bcast_S_S512x12x64 (constant S_ .f32 0x00000000#32))⟩] concatenates_S512x12x64_S512x12x64_S512x12x128_d2) shapeCasts_S512x12x128_S512x1536

/-- The queries' first columns, scaled. -/
def firstQ (q : FVec F S512x12x192 .f32) : FVec F S512x12x128 .f32 :=
  mulf (extractStridedSlice S512x12x128 ![0, 0, 0] q slices_S512x12x192_S512x12x128_0_0_0) (broadcastInDim S512x12x128 ![] bcast_S_S512x12x128 (constant S_ .f32 0x3D93CD3A#32))

/-- All heads' products with the latent weights. -/
def absQ (w q : FVec F S512x12x128 .f32) : FVec F S12x512x512 .f32 :=
  Host.dotGeneral dot_S512x12x128_S512x12x128_S12x512x512_2_2_0_0_1_1 none w q

/-- Rows first, heads side by side. -/
def flatL (t : FVec F S12x512x512 .f32) : FVec F S512x6144 .bf16 :=
  truncf .bf16 (shapeCast _ (transpose S512x12x512 [2, 0, 1] t transposes_S12x512x512_S512x12x512_2_0_1) shapeCasts_S512x12x512_S512x6144) bitsLt_bf16_f32

end

theorem ssq_apply (x : FVec Ideal S512x2048 .f32) (r : Fin 512) :
    ssq x (ix1 r) = ∑ k : Fin 2048, (x (ix2 r k) : EReal) * x (ix2 r k) := by
  unfold ssq
  rw [ValueIdx.hostReduceAdd_apply]
  have reduces : S512x2048.Reduces [1] S512 := by decide
  have lift : ∀ k : Fin 2048, reduces.lift (ix1 r) k = (ix2 r k : S512x2048.Idx) := fun k => by
    funext a
    match a with
    | ⟨0, _⟩ => rfl
    | ⟨1, _⟩ => rfl
  refine (Ideal.hostReduceAdd_single _ reduces _ _ _).trans ?_
  rw [show constant (F := Ideal) S_ .f32 0x00000000#32 _ = (0 : EReal) from Ideal.ofBits_zero_f32]
  refine (zero_add _).trans (Finset.sum_congr rfl fun k _ => ?_)
  exact congrArg (fun i => (x i : EReal) * x i) (lift k)

theorem ssq5_apply (x : FVec Ideal S512x512 .f32) (r : Fin 512) :
    ssq5 x (ix1 r) = ∑ k : Fin 512, (x (ix2 r k) : EReal) * x (ix2 r k) := by
  unfold ssq5
  rw [ValueIdx.hostReduceAdd_apply]
  have reduces : S512x512.Reduces [1] S512 := by decide
  have lift : ∀ k : Fin 512, reduces.lift (ix1 r) k = (ix2 r k : S512x512.Idx) := fun k => by
    funext a
    match a with
    | ⟨0, _⟩ => rfl
    | ⟨1, _⟩ => rfl
  refine (Ideal.hostReduceAdd_single _ reduces _ _ _).trans ?_
  rw [show constant (F := Ideal) S_ .f32 0x00000000#32 _ = (0 : EReal) from Ideal.ofBits_zero_f32]
  refine (zero_add _).trans (Finset.sum_congr rfl fun k _ => ?_)
  exact congrArg (fun i => (x i : EReal) * x i) (lift k)

theorem normOf_apply (x : FVec Ideal S512x2048 .f32) (g : FVec Ideal S2048 .f32) (r : Fin 512) (d : Fin 2048) :
    normOf x g (ssq x) (ix2 r d) = AbMath.hrow (AsMath.ext x) g (AsMath.up r) d := by
  unfold AbMath.hrow Spec.rms
  simp only [AsMath.ext_up]
  rw [← ssq_apply]
  generalize ssq x = q
  pointwise [normOf]

theorem norm5_apply (x : FVec Ideal S512x512 .f32) (g : FVec Ideal S512 .f32) (r : Fin 512) (d : Fin 512) :
    norm5 x g (ssq5 x) (ix2 r d) = AbSpec.rms (fun k => x (ix2 r k)) (fun k => g (ix1 k)) d := by
  unfold AbSpec.rms
  rw [← ssq5_apply]
  generalize ssq5 x = q
  pointwise [norm5]

theorem prodOf_apply (x : FVec Ideal S512x2048 .f32) (g : FVec Ideal S2048 .f32) (w : FVec Ideal S2048x1600 .f32) (r : Fin 512) (j : Fin 1600) :
    prodOf (normOf x g (ssq x)) w (ix2 r j) = AsMath.zAt x g w r j := by
  unfold AsMath.zAt AbMath.zAt Spec.dot
  simp only [← normOf_apply]
  generalize normOf x g (ssq x) = n
  pointwise [prodOf]

theorem uOf_apply (z : FVec Ideal S512x1600 .f32) (r : Fin 512) (l : Fin 512) :
    uOf z (ix2 r l) = (z (ix2 r ⟨0 + l.val, by omega⟩) : EReal) := by
  pointwise [uOf]

theorem cqOf_apply (z : FVec Ideal S512x1600 .f32) (r : Fin 512) (l : Fin 512) :
    cqOf z (ix2 r l) = (z (ix2 r ⟨512 + l.val, by omega⟩) : EReal) := by
  pointwise [cqOf]

theorem ckvOf_apply (z : FVec Ideal S512x1600 .f32) (r : Fin 512) (l : Fin 512) :
    ckvOf z (ix2 r l) = (z (ix2 r ⟨1024 + l.val, by omega⟩) : EReal) := by
  pointwise [ckvOf]

theorem krOf_apply (z : FVec Ideal S512x1600 .f32) (p : Fin 512) (e : Fin 64) :
    (krOf z (ix3 0 p e) : EReal) = z (ix2 p ⟨1536 + e.val, by omega⟩) := by
  pointwise [krOf]

theorem rotK_lo (k : FVec Ideal S1x512x64 .f32) (a : FVec Ideal S512x32 .f32) (p : Fin 512) (e : Fin 32) :
    (rotK k a (ix3 0 p ⟨e.val, by omega⟩) : EReal) = k (ix3 0 p ⟨e.val, by omega⟩) * (Host.cos a : FVec Ideal S512x32 .f32) (ix2 p e)
      - k (ix3 0 p ⟨32 + e.val, by omega⟩) * (Host.sin a : FVec Ideal S512x32 .f32) (ix2 p e) := by
  pointwise [rotK]

theorem rotK_hi (k : FVec Ideal S1x512x64 .f32) (a : FVec Ideal S512x32 .f32) (p : Fin 512) (e : Fin 32) :
    (rotK k a (ix3 0 p ⟨32 + e.val, by omega⟩) : EReal) = k (ix3 0 p ⟨32 + e.val, by omega⟩) * (Host.cos a : FVec Ideal S512x32 .f32) (ix2 p e)
      + k (ix3 0 p ⟨e.val, by omega⟩) * (Host.sin a : FVec Ideal S512x32 .f32) (ix2 p e) := by
  pointwise [rotK]

theorem flatK_apply (k : FVec Ideal S1x512x64 .f32) (p : Fin 512) (e : Fin 64) : (flatK k (ix2 p e) : EReal) = k (ix3 0 p e) := by
  pointwise [flatK]

theorem qdOf_apply (y : FVec Ideal S512x512 .f32) (w : FVec Ideal S512x12x192 .f32) (p : Fin 512) (h : Fin 12) (l : Fin 192) :
    qdOf y w (ix3 p h l) = AbSpec.dot (fun k => y (ix2 p k)) (fun k => w (ix3 k h l)) := by
  unfold AbSpec.dot
  pointwise [qdOf]

theorem qrOf_apply (q : FVec Ideal S512x12x192 .f32) (p : Fin 512) (h : Fin 12) (e : Fin 64) :
    (qrOf q (ix4 0 p h e) : EReal) = q (ix3 p h ⟨128 + e.val, by omega⟩) := by
  pointwise [qrOf]

theorem rotQ_lo (k : FVec Ideal S1x512x12x64 .f32) (a : FVec Ideal S512x32 .f32) (p : Fin 512) (h : Fin 12) (e : Fin 32) :
    (rotQ k a (ix4 0 p h ⟨e.val, by omega⟩) : EReal) = k (ix4 0 p h ⟨e.val, by omega⟩) * (Host.cos a : FVec Ideal S512x32 .f32) (ix2 p e)
      - k (ix4 0 p h ⟨32 + e.val, by omega⟩) * (Host.sin a : FVec Ideal S512x32 .f32) (ix2 p e) := by
  pointwise [rotQ]

theorem rotQ_hi (k : FVec Ideal S1x512x12x64 .f32) (a : FVec Ideal S512x32 .f32) (p : Fin 512) (h : Fin 12) (e : Fin 32) :
    (rotQ k a (ix4 0 p h ⟨32 + e.val, by omega⟩) : EReal) = k (ix4 0 p h ⟨32 + e.val, by omega⟩) * (Host.cos a : FVec Ideal S512x32 .f32) (ix2 p e)
      + k (ix4 0 p h ⟨e.val, by omega⟩) * (Host.sin a : FVec Ideal S512x32 .f32) (ix2 p e) := by
  pointwise [rotQ]

theorem flatQ_apply (k : FVec Ideal S1x512x12x64 .f32) (p : Fin 512) (h : Fin 12) (e : Fin 64) :
    (flatQ k (ix3 p h e) : EReal) = k (ix4 0 p h e) := by
  pointwise [flatQ]

theorem joinQ_apply (r : FVec Ideal S512x12x64 .f32) (p : Fin 512) (h : Fin 12) (e : Fin 128) :
    (joinQ r (ix2 p ⟨128 * h.val + e.val, by omega⟩) : EReal)
      = if h' : e.val < 64 then r (ix3 p h ⟨e.val, h'⟩) * AbBlocks.scale else (0 : EReal) := by
  unfold AbBlocks.scale
  pointwise [joinQ]

theorem firstQ_apply (q : FVec Ideal S512x12x192 .f32) (p : Fin 512) (h : Fin 12) (l : Fin 128) :
    (firstQ q (ix3 p h l) : EReal) = q (ix3 p h ⟨l.val, by omega⟩) * AbBlocks.scale := by
  unfold AbBlocks.scale
  pointwise [firstQ]

theorem absQ_apply (w q : FVec Ideal S512x12x128 .f32) (h : Fin 12) (c p : Fin 512) :
    (absQ w q (ix3 h c p) : EReal) = ∑ l : Fin 128, (w (ix3 c h l) : EReal) * q (ix3 p h l) := by
  pointwise [absQ]

theorem flatL_apply (t : FVec Ideal S12x512x512 .f32) (p : Fin 512) (h : Fin 12) (c : Fin 512) :
    (flatL t (ix2 p ⟨512 * h.val + c.val, by omega⟩) : EReal) = t (ix3 h c p) := by
  pointwise [flatL]

theorem rotK_apply (k : FVec Ideal S1x512x64 .f32) (a : FVec Ideal S512x32 .f32) (p : Fin 512) (e : Fin 64) :
    (rotK k a (ix3 0 p e) : EReal) = AbSpec.rot (fun i => k (ix3 0 p i)) (fun i => (Host.cos a : FVec Ideal S512x32 .f32) (ix2 p i))
      (fun i => (Host.sin a : FVec Ideal S512x32 .f32) (ix2 p i)) e := by
  unfold AbSpec.rot
  by_cases h : e.val < 32
  · rw [dif_pos h]
    refine (rotK_lo k a p ⟨e.val, h⟩).trans ?_
    exact congrArg (fun i => (k (ix3 0 p e) : EReal) * (Host.cos a : FVec Ideal S512x32 .f32) (ix2 p ⟨e.val, h⟩)
      - k (ix3 0 p i) * (Host.sin a : FVec Ideal S512x32 .f32) (ix2 p ⟨e.val, h⟩)) (Fin.ext (Nat.add_comm 32 e.val))
  · rw [dif_neg h]
    have he : e = ⟨32 + (e.val - 32), by omega⟩ := Fin.ext (show e.val = 32 + (e.val - 32) by omega)
    refine (congrArg (fun i => (rotK k a (ix3 0 p i) : EReal)) he).trans ((rotK_hi k a p ⟨e.val - 32, by omega⟩).trans ?_)
    exact congrArg (fun i => (k (ix3 0 p i) : EReal) * (Host.cos a : FVec Ideal S512x32 .f32) (ix2 p ⟨e.val - 32, by omega⟩)
      + k (ix3 0 p ⟨e.val - 32, by omega⟩) * (Host.sin a : FVec Ideal S512x32 .f32) (ix2 p ⟨e.val - 32, by omega⟩)) he.symm

theorem rotQ_apply (k : FVec Ideal S1x512x12x64 .f32) (a : FVec Ideal S512x32 .f32) (p : Fin 512) (h : Fin 12) (e : Fin 64) :
    (rotQ k a (ix4 0 p h e) : EReal) = AbSpec.rot (fun i => k (ix4 0 p h i)) (fun i => (Host.cos a : FVec Ideal S512x32 .f32) (ix2 p i))
      (fun i => (Host.sin a : FVec Ideal S512x32 .f32) (ix2 p i)) e := by
  unfold AbSpec.rot
  by_cases h' : e.val < 32
  · rw [dif_pos h']
    refine (rotQ_lo k a p h ⟨e.val, h'⟩).trans ?_
    exact congrArg (fun i => (k (ix4 0 p h e) : EReal) * (Host.cos a : FVec Ideal S512x32 .f32) (ix2 p ⟨e.val, h'⟩)
      - k (ix4 0 p h i) * (Host.sin a : FVec Ideal S512x32 .f32) (ix2 p ⟨e.val, h'⟩)) (Fin.ext (Nat.add_comm 32 e.val))
  · rw [dif_neg h']
    have he : e = ⟨32 + (e.val - 32), by omega⟩ := Fin.ext (show e.val = 32 + (e.val - 32) by omega)
    refine (congrArg (fun i => (rotQ k a (ix4 0 p h i) : EReal)) he).trans ((rotQ_hi k a p h ⟨e.val - 32, by omega⟩).trans ?_)
    exact congrArg (fun i => (k (ix4 0 p h i) : EReal) * (Host.cos a : FVec Ideal S512x32 .f32) (ix2 p ⟨e.val - 32, by omega⟩)
      + k (ix4 0 p h ⟨e.val - 32, by omega⟩) * (Host.sin a : FVec Ideal S512x32 .f32) (ix2 p ⟨e.val - 32, by omega⟩)) he.symm

variable (x : FVec Ideal S512x2048 .f32) (g : FVec Ideal S2048 .f32) (wi : FVec Ideal S2048x1600 .f32) (qg kvg : FVec Ideal S512 .f32)
  (wq : FVec Ideal S512x12x192 .f32) (wk : FVec Ideal S512x12x128 .f32)

/-- The input projection. -/
def zOf : FVec Ideal S512x1600 .f32 := prodOf (normOf x g (ssq x)) wi

/-- The normed latent. -/
def latOf : FVec Ideal S512x512 .f32 := norm5 (ckvOf (zOf x g wi)) kvg (ssq5 (ckvOf (zOf x g wi)))

/-- The normed query columns. -/
def nqOf : FVec Ideal S512x512 .f32 := norm5 (cqOf (zOf x g wi)) qg (ssq5 (cqOf (zOf x g wi)))

theorem zOf_apply (r : Fin 512) (j : Fin 1600) : (zOf x g wi (ix2 r j) : EReal) = AsMath.zAt x g wi r j := prodOf_apply x g wi r j

theorem latOf_apply (r : Fin 512) (d : Fin 512) : (latOf x g wi kvg (ix2 r d) : EReal) = AsMath.latAt x g wi kvg r d := by
  refine (norm5_apply _ kvg r d).trans ?_
  unfold AsMath.latAt AbMath.nrm
  exact congrArg (fun f => AbSpec.rms f (fun k => kvg (ix1 k)) d) (funext fun k => (ckvOf_apply _ r k).trans (zOf_apply x g wi r _))

theorem nqOf_apply (r : Fin 512) (d : Fin 512) :
    (nqOf x g wi qg (ix2 r d) : EReal) = AbMath.nrm (AsMath.ext x) g wi qg 512 (by decide) (AsMath.up r) d := by
  refine (norm5_apply _ qg r d).trans ?_
  unfold AbMath.nrm
  exact congrArg (fun f => AbSpec.rms f (fun k => qg (ix1 k)) d) (funext fun k => (cqOf_apply _ r k).trans (zOf_apply x g wi r _))

theorem kr_apply (p : Fin 512) (e : Fin 64) : (rotK (krOf (zOf x g wi)) ang (ix3 0 p e) : EReal) = AsMath.krAt x g wi p e := by
  refine (rotK_apply _ _ p e).trans ?_
  unfold AsMath.krAt
  exact congrArg (fun f => AbSpec.rot f (AsMath.cosAt p) (AsMath.sinAt p) e)
    (funext fun i => (krOf_apply _ p i).trans (zOf_apply x g wi _ _))

theorem qd_apply (p : Fin 512) (h : Fin 12) (l : Fin 192) :
    (qdOf (nqOf x g wi qg) wq (ix3 p h l) : EReal) = AsMath.qdAt x g wi qg wq p h l := by
  refine (qdOf_apply _ _ p h l).trans ?_
  unfold AsMath.qdAt AbMath.qdAt
  exact congrArg (fun f => AbSpec.dot f (fun k => wq (ix3 k h l))) (funext fun k => nqOf_apply x g wi qg _ k)

theorem qr_apply (p : Fin 512) (h : Fin 12) (e : Fin 64) :
    (flatQ (rotQ (qrOf (qdOf (nqOf x g wi qg) wq)) ang) (ix3 p h e) : EReal) = AsMath.qrAt x g wi qg wq p h e := by
  refine (flatQ_apply _ p h e).trans ((rotQ_apply _ _ p h e).trans ?_)
  unfold AsMath.qrAt
  exact congrArg (fun f => AbSpec.rot f (AsMath.cosAt p) (AsMath.sinAt p) e)
    (funext fun i => (qrOf_apply _ p h i).trans (qd_apply x g wi qg wq p h _))

theorem eq0 : uOf (zOf x g wi) = AsMath.result0 x g wi := by
  funext y
  revert y
  show ∀ y : S512x512.Idx, _ = _
  intro y
  idx_vars y
  exact (uOf_apply _ y0 y1).trans (zOf_apply x g wi _ _)

theorem eq1 : latOf x g wi kvg = AsMath.result1 x g wi kvg := by
  funext y
  revert y
  show ∀ y : S512x512.Idx, _ = _
  intro y
  idx_vars y
  exact latOf_apply x g wi kvg y0 y1

theorem eq2 : flatK (rotK (krOf (zOf x g wi)) ang) = AsMath.result2 x g wi := by
  funext y
  revert y
  show ∀ y : S512x64.Idx, _ = _
  intro y
  idx_vars y
  exact (flatK_apply _ y0 y1).trans (kr_apply x g wi y0 y1)

theorem eq3 : flatL (absQ wk (firstQ (qdOf (nqOf x g wi qg) wq))) = AsMath.result3 x g wi qg wq wk := by
  funext y
  revert y
  show ∀ y : S512x6144.Idx, _ = _
  intro y
  idx_vars y
  have hy : y1 = ⟨512 * (y1.val / 512) + y1.val % 512, by omega⟩ := Fin.ext (by show y1.val = 512 * (y1.val / 512) + y1.val % 512; omega)
  refine (congrArg (fun i : Fin 6144 => (flatL (absQ wk (firstQ (qdOf (nqOf x g wi qg) wq))) (ix2 y0 i) : EReal)) hy).trans
    ((flatL_apply _ y0 ⟨y1.val / 512, by omega⟩ ⟨y1.val % 512, by omega⟩).trans ((absQ_apply _ _ _ _ _).trans ?_))
  show _ = AsMath.qlAt x g wi qg wq wk y0 ⟨y1.val / 512, by omega⟩ ⟨y1.val % 512, by omega⟩
  unfold AsMath.qlAt
  refine Finset.sum_congr rfl fun l _ => (@mul_comm EReal _ _ _).trans ?_
  refine congrArg (fun q : EReal => q * (wk (ix3 (⟨y1.val % 512, by omega⟩ : Fin 512) (⟨y1.val / 512, by omega⟩ : Fin 12) l) : EReal)) ?_
  exact (firstQ_apply _ y0 _ l).trans (congrArg (· * AbBlocks.scale) (qd_apply x g wi qg wq _ _ _))

theorem eq4 : joinQ (flatQ (rotQ (qrOf (qdOf (nqOf x g wi qg) wq)) ang)) = AsMath.result4 x g wi qg wq := by
  funext y
  revert y
  show ∀ y : S512x1536.Idx, _ = _
  intro y
  idx_vars y
  have hy : y1 = ⟨128 * (y1.val / 128) + y1.val % 128, by omega⟩ := Fin.ext (by show y1.val = 128 * (y1.val / 128) + y1.val % 128; omega)
  refine (congrArg (fun i : Fin 1536 => (joinQ (flatQ (rotQ (qrOf (qdOf (nqOf x g wi qg) wq)) ang)) (ix2 y0 i) : EReal)) hy).trans
    ((joinQ_apply _ y0 ⟨y1.val / 128, by omega⟩ ⟨y1.val % 128, by omega⟩).trans ?_)
  simp only [qr_apply]
  rfl

end Cert.AsRef

end
-- ==== Proof.InAbSClaim.lean ====
/- The first layer's input projection for the sample's rows: what the precondition says, and the claim that kernel and
   reference leave the same five arrays. -/
module

public import proofs.«01_k».proof.Defs
public import proofs.«01_k».proof.Proof.Gen.Pre_finite_ab_s
public import proofs.«01_k».proof.Proof.Gen.InAbSRefIdeal.Run
public import proofs.«01_k».proof.Proof.InAbClaim
public import proofs.«01_k».proof.Proof.AsArrays
public import proofs.«01_k».proof.Proof.AsRef

@[expose] public section

set_option maxRecDepth 16384

noncomputable section

namespace Cert.InAbSClaim

open Idealize.ShloMosaic Idealize.ShloMosaic.TcCoe Idealize.SL.Sem

section Pre
open Cert.Pre_finite_ab_s Cert.Pre_finite_ab_s.Facts

/-- The precondition: the input gain, the input weights, the query gain and the query weights are real numbers. -/
theorem fn_real (x : FVec Ideal S512x2048 .f32) (g : FVec Ideal S2048 .f32) (wi : FVec Ideal S2048x1600 .f32) (qg kvg : FVec Ideal S512 .f32)
    (wq : FVec Ideal S512x12x192 .f32) (wuk : FVec Ideal S512x12x128 .f32)
    (h : Cert.Pre_finite_ab_s.fn (F := Ideal) x g wi qg kvg wq wuk = fun _ => 1#1) :
    (∀ i, AbSpec.IsReal (g i)) ∧ (∀ i, AbSpec.IsReal (wi i)) ∧ (∀ i, AbSpec.IsReal (qg i)) ∧ ∀ i, AbSpec.IsReal (wq i) := by
  have e := congrFun h (fun a => a.elim0)
  unfold Cert.Pre_finite_ab_s.fn Cert.Pre_finite_ab_s.fn_part1 at e
  obtain ⟨e1, e4⟩ := AbSpec.and_one _ _ e
  obtain ⟨e1, e3⟩ := AbSpec.and_one _ _ e1
  obtain ⟨e1, e2⟩ := AbSpec.and_one _ _ e1
  exact ⟨fun i => InAbClaim.real_of_below _ g i (AbSpec.reduce_and _ _ _ _ _ InAbClaim.idx0 e1 i),
    fun i => InAbClaim.real_of_below _ wi i (AbSpec.reduce_and _ _ _ _ _ InAbClaim.idx0 e2 i),
    fun i => InAbClaim.real_of_below _ qg i (AbSpec.reduce_and _ _ _ _ _ InAbClaim.idx0 e3 i),
    fun i => InAbClaim.real_of_below _ wq i (AbSpec.reduce_and _ _ _ _ _ InAbClaim.idx0 e4 i)⟩

end Pre

/-- Kernel and reference leave the same five arrays. -/
theorem algebraic : Cert.algebraic_InAbSIdeal_InAbSRefIdeal_pre_finite_ab_s := by
  intro m ρ m' ρ' hpre hag
  have hg : ∀ (c : Dev Cert.InAbSIdeal.nD) d, AbSpec.IsReal ((m ((c.tc : Thread Cert.InAbSIdeal.nD Cert.InAbSIdeal.τ).loc Cert.InAbSIdeal.main_arg1)) (ix1 d)) := fun c d => (fn_real _ _ _ _ _ _ _ (hpre c)).1 _
  have hwi : ∀ (c : Dev Cert.InAbSIdeal.nD) d j, AbSpec.IsReal ((m ((c.tc : Thread Cert.InAbSIdeal.nD Cert.InAbSIdeal.τ).loc Cert.InAbSIdeal.main_arg2)) (ix2 d j)) := fun c d j => (fn_real _ _ _ _ _ _ _ (hpre c)).2.1 _
  have hqg : ∀ (c : Dev Cert.InAbSIdeal.nD) d, AbSpec.IsReal ((m ((c.tc : Thread Cert.InAbSIdeal.nD Cert.InAbSIdeal.τ).loc Cert.InAbSIdeal.main_arg3)) (ix1 d)) := fun c d => (fn_real _ _ _ _ _ _ _ (hpre c)).2.2.1 _
  have hwq : ∀ (c : Dev Cert.InAbSIdeal.nD) k h l, AbSpec.IsReal ((m ((c.tc : Thread Cert.InAbSIdeal.nD Cert.InAbSIdeal.τ).loc Cert.InAbSIdeal.main_arg5)) (ix3 k h l)) := fun c k h l =>
    (fn_real _ _ _ _ _ _ _ (hpre c)).2.2.2 _
  refine ⟨fun c => AsMath.result0 (m ((c.tc : Thread Cert.InAbSIdeal.nD Cert.InAbSIdeal.τ).loc Cert.InAbSIdeal.main_arg0))
      (m ((c.tc : Thread Cert.InAbSIdeal.nD Cert.InAbSIdeal.τ).loc Cert.InAbSIdeal.main_arg1))
      (m ((c.tc : Thread Cert.InAbSIdeal.nD Cert.InAbSIdeal.τ).loc Cert.InAbSIdeal.main_arg2)),
    fun c => AsMath.result1 (m ((c.tc : Thread Cert.InAbSIdeal.nD Cert.InAbSIdeal.τ).loc Cert.InAbSIdeal.main_arg0))
      (m ((c.tc : Thread Cert.InAbSIdeal.nD Cert.InAbSIdeal.τ).loc Cert.InAbSIdeal.main_arg1))
      (m ((c.tc : Thread Cert.InAbSIdeal.nD Cert.InAbSIdeal.τ).loc Cert.InAbSIdeal.main_arg2))
      (m ((c.tc : Thread Cert.InAbSIdeal.nD Cert.InAbSIdeal.τ).loc Cert.InAbSIdeal.main_arg4)),
    fun c => AsMath.result2 (m ((c.tc : Thread Cert.InAbSIdeal.nD Cert.InAbSIdeal.τ).loc Cert.InAbSIdeal.main_arg0))
      (m ((c.tc : Thread Cert.InAbSIdeal.nD Cert.InAbSIdeal.τ).loc Cert.InAbSIdeal.main_arg1))
      (m ((c.tc : Thread Cert.InAbSIdeal.nD Cert.InAbSIdeal.τ).loc Cert.InAbSIdeal.main_arg2)),
    fun c => AsMath.result3 (m ((c.tc : Thread Cert.InAbSIdeal.nD Cert.InAbSIdeal.τ).loc Cert.InAbSIdeal.main_arg0))
      (m ((c.tc : Thread Cert.InAbSIdeal.nD Cert.InAbSIdeal.τ).loc Cert.InAbSIdeal.main_arg1))
      (m ((c.tc : Thread Cert.InAbSIdeal.nD Cert.InAbSIdeal.τ).loc Cert.InAbSIdeal.main_arg2))
      (m ((c.tc : Thread Cert.InAbSIdeal.nD Cert.InAbSIdeal.τ).loc Cert.InAbSIdeal.main_arg3))
      (m ((c.tc : Thread Cert.InAbSIdeal.nD Cert.InAbSIdeal.τ).loc Cert.InAbSIdeal.main_arg5))
      (m ((c.tc : Thread Cert.InAbSIdeal.nD Cert.InAbSIdeal.τ).loc Cert.InAbSIdeal.main_arg6)),
    fun c => AsMath.result4 (m ((c.tc : Thread Cert.InAbSIdeal.nD Cert.InAbSIdeal.τ).loc Cert.InAbSIdeal.main_arg0))
      (m ((c.tc : Thread Cert.InAbSIdeal.nD Cert.InAbSIdeal.τ).loc Cert.InAbSIdeal.main_arg1))
      (m ((c.tc : Thread Cert.InAbSIdeal.nD Cert.InAbSIdeal.τ).loc Cert.InAbSIdeal.main_arg2))
      (m ((c.tc : Thread Cert.InAbSIdeal.nD Cert.InAbSIdeal.τ).loc Cert.InAbSIdeal.main_arg3))
      (m ((c.tc : Thread Cert.InAbSIdeal.nD Cert.InAbSIdeal.τ).loc Cert.InAbSIdeal.main_arg5)), ?_, ?_⟩
  · exact (θ_run Cert.InAbSIdeal.defs _ _).mono (fun _ h c => ⟨(h c).1.trans (AsArrays.final10 m c _ _ _  rfl rfl rfl),
        (h c).2.1.trans (AsArrays.final11 m c _ _ _ _  rfl rfl rfl rfl),
        (h c).2.2.1.trans (AsArrays.final12 m c _ _ _ (hg c) (hwi c) rfl rfl rfl),
        (h c).2.2.2.1.trans (AsArrays.final13 m c _ _ _ _ _ _  rfl rfl rfl rfl rfl rfl),
        (h c).2.2.2.2.1.trans (AsArrays.final14 m c _ _ _ _ _ (hqg c) (hwq c) rfl rfl rfl rfl rfl),
        (h c).2.2.2.2.2⟩)
      (Cert.InAbSIdeal.Value.run_blocks (F := Ideal) m ρ)
  · refine (θ_run Cert.InAbSRefIdeal.defs _ _).mono (fun _ h c => ⟨(h c).1.trans ?_, (h c).2.1.trans ?_, (h c).2.2.1.trans ?_, (h c).2.2.2.1.trans ?_, (h c).2.2.2.2.1.trans ?_,
        (h c).2.2.2.2.2⟩)
      (Cert.InAbSRefIdeal.Value.run (F := Ideal) m' ρ')
    · rw [(hag c).1, (hag c).2.1, (hag c).2.2.1]
      exact AsRef.eq0 _ _ _
    · rw [(hag c).1, (hag c).2.1, (hag c).2.2.1, (hag c).2.2.2.2.1]
      exact AsRef.eq1 _ _ _ _
    · unfold Cert.InAbSRefIdeal.Value.res_main_v114
      rw [(hag c).1, (hag c).2.1, (hag c).2.2.1]
      exact AsRef.eq2 _ _ _
    · rw [(hag c).1, (hag c).2.1, (hag c).2.2.1, (hag c).2.2.2.1, (hag c).2.2.2.2.2.1, (hag c).2.2.2.2.2.2]
      exact AsRef.eq3 _ _ _ _ _ _
    · unfold Cert.InAbSRefIdeal.Value.res_main_v125
      rw [(hag c).1, (hag c).2.1, (hag c).2.2.1, (hag c).2.2.2.1, (hag c).2.2.2.2.2.1]
      exact AsRef.eq4 _ _ _ _ _

end Cert.InAbSClaim

end
-- ==== Proof.MlpFinalSKernel.lean ====
/- The last MLP with the final norm for the sample's rows: one block of rows, in eight points of 1024 hidden units. The array the
   kernel leaves; the entries of its payloads and the partial sums are the prompt's. -/
module

public import proofs.«01_k».proof.Proof.Gen.MlpFinalSIdeal.Value
public import proofs.«01_k».proof.Proof.MlpFinalKernel

@[expose] public section

set_option maxRecDepth 16384

noncomputable section

namespace Cert.MlpFinalSKernel

open Idealize.ShloMosaic Idealize.ShloMosaic.TcCoe Idealize.SL.Sem Cert.MlpFinalSIdeal Cert.MlpFinalSIdeal.Gen

variable (m : (ℓ : Loc nD τ sig) → Buf (Elt Ideal) ℓ)

theorem step_A (c : Dev nD) (t : Fin cfg0.N) (h : t.val % 8 = 0) :
    outsAt0 m c t.val t.isLt = (k0_pay2 (k0_pay1 (iblk m c 0 t) (iblk m c 1 t)) (iblk m c 2 t) (iblk m c 0 t) (iblk m c 3 t),
      k0_pay1 (iblk m c 0 t) (iblk m c 1 t)) := by
  rw [outsAt0_A m c t h (by omega)]
  refine Prod.ext ?_ ?_
  · frame_out
  · frame_out

theorem step_B (c : Dev nD) (t : Fin cfg0.N) (h : ¬t.val % 8 = 0) (h7 : ¬t.val % 8 = 7) (hp : t.val - 1 < cfg0.N) :
    outsAt0 m c t.val t.isLt = (k0_pay2 (outsAt0 m c (t.val - 1) hp).2 (iblk m c 2 t) (outsAt0 m c (t.val - 1) hp).1 (iblk m c 3 t),
      (outsAt0 m c (t.val - 1) hp).2) := by
  rw [outsAt0_B m c t h h7]
  refine Prod.ext ?_ ?_
  · frame_out
    exact congrArg (fun n => k0_pay2 n (iblk m c 2 t) (outsAt0 m c (t.val - 1) hp).1 (iblk m c 3 t)) (Memref.IsWhole.read_unread _ _)
  · rfl

theorem step_C (c : Dev nD) (t : Fin cfg0.N) (h : ¬t.val % 8 = 0) (h7 : t.val % 8 = 7) (hp : t.val - 1 < cfg0.N) :
    outsAt0 m c t.val t.isLt = (k0_pay3 (k0_pay2 (outsAt0 m c (t.val - 1) hp).2 (iblk m c 2 t) (outsAt0 m c (t.val - 1) hp).1 (iblk m c 3 t))
        (iblk m c 4 t), (outsAt0 m c (t.val - 1) hp).2) := by
  rw [outsAt0_C m c t h h7]
  refine Prod.ext ?_ ?_
  · frame_out
    exact congrArg (fun n => k0_pay3 (k0_pay2 n (iblk m c 2 t) (outsAt0 m c (t.val - 1) hp).1 (iblk m c 3 t)) (iblk m c 4 t))
      (Memref.IsWhole.read_unread _ _)
  · rfl

theorem idx_eq : ∀ t : Fin cfg0.N, win0_0.index t = ![0, 0] ∧ (win0_1.index t = ![0, 0] ∧ win0_4.index t = ![0, 0]) ∧ win0_2.index t = ![1, 0, t.val % 8]
    ∧ win0_3.index t = ![1, t.val % 8, 0] ∧ win0_5.index t = ![0, 0] :=
  (by decide +kernel : ∀ t : Fin grid0.N, win0_0.index t = ![0, 0] ∧ (win0_1.index t = ![0, 0] ∧ win0_4.index t = ![0, 0]) ∧ win0_2.index t = ![1, 0, t.val % 8]
    ∧ win0_3.index t = ![1, t.val % 8, 0] ∧ win0_5.index t = ![0, 0])

theorem iblk0_apply (c : Dev nD) (t : Fin cfg0.N) (r : Fin 512) (d : Fin 2048) :
    (iblk m c 0 t : Vec Ideal S512x2048 .f32) (ix2 r d) = (m ((c.tc : Thread nD τ).loc main_arg0) : Vec Ideal S512x2048 .f32) (ix2 r d) := by
  obtain ⟨e0, ⟨e1, e4⟩, e2, e3, e5⟩ := idx_eq t
  blk_ext [iblk, V_main_arg0, e0]

theorem iblk1_apply (c : Dev nD) (t : Fin cfg0.N) (d : Fin 2048) :
    (iblk m c 1 t : Vec Ideal S1x2048 .f32) (ix2 0 d) = (m ((c.tc : Thread nD τ).loc main_arg1) : Vec Ideal S2048 .f32) (ix1 d) := by
  obtain ⟨e0, ⟨e1, e4⟩, e2, e3, e5⟩ := idx_eq t
  have hb : (iblk m c 1 t : Vec Ideal S1x2048 .f32) (ix2 0 d) = (V m c main_v0 : Vec Ideal S1x2048 .f32) (ix2 0 d) := by
    blk_ext [iblk, e1]
  rw [hb]
  entry_read
  pointwise

theorem iblk4_apply (c : Dev nD) (t : Fin cfg0.N) (d : Fin 2048) :
    (iblk m c 4 t : Vec Ideal S1x2048 .f32) (ix2 0 d) = (m ((c.tc : Thread nD τ).loc main_arg4) : Vec Ideal S2048 .f32) (ix1 d) := by
  obtain ⟨e0, ⟨e1, e4⟩, e2, e3, e5⟩ := idx_eq t
  have hb : (iblk m c 4 t : Vec Ideal S1x2048 .f32) (ix2 0 d) = (V m c main_v3 : Vec Ideal S1x2048 .f32) (ix2 0 d) := by
    blk_ext [iblk, e4]
  rw [hb]
  entry_read
  pointwise

theorem iblk2_apply (c : Dev nD) (t : Fin cfg0.N) (d : Fin 2048) (k : Fin 1024) :
    ((iblk m c 2 t : Vec Ideal S1x2048x1024 .bf16) (ix3 0 d k) : EReal) = (m ((c.tc : Thread nD τ).loc main_arg2) : Vec Ideal S2x2048x8192 .f32)
      (ix3 1 d ⟨1024 * (t.val % 8) + k.val, by omega⟩) := by
  obtain ⟨e0, ⟨e1, e4⟩, e2, e3, e5⟩ := idx_eq t
  have hb : (iblk m c 2 t : Vec Ideal S1x2048x1024 .bf16) (ix3 0 d k) = (V m c main_v1 : Vec Ideal S2x2048x8192 .bf16)
      (ix3 1 d ⟨1024 * (t.val % 8) + k.val, by omega⟩) := by
    blk_ext [iblk, e2]
  rw [hb]
  entry_read
  rfl

theorem iblk3_apply (c : Dev nD) (t : Fin cfg0.N) (d : Fin 2048) (k : Fin 1024) :
    ((iblk m c 3 t : Vec Ideal S1x1024x2048 .bf16) (ix3 0 k d) : EReal) = (m ((c.tc : Thread nD τ).loc main_arg3) : Vec Ideal S2x8192x2048 .f32)
      (ix3 1 ⟨1024 * (t.val % 8) + k.val, by omega⟩ d) := by
  obtain ⟨e0, ⟨e1, e4⟩, e2, e3, e5⟩ := idx_eq t
  have hb : (iblk m c 3 t : Vec Ideal S1x1024x2048 .bf16) (ix3 0 k d) = (V m c main_v2 : Vec Ideal S2x8192x2048 .bf16)
      (ix3 1 ⟨1024 * (t.val % 8) + k.val, by omega⟩ d) := by
    blk_ext [iblk, e3]
  rw [hb]
  entry_read
  rfl

/-- The array's entry: the residual row through the MLP of layer 1, then the final norm. -/
def result (x : FVec Ideal S512x2048 .f32) (g : FVec Ideal S2048 .f32) (u : FVec Ideal S2x2048x8192 .f32)
    (w : FVec Ideal S2x8192x2048 .f32) (f : FVec Ideal S2048 .f32) : FVec Ideal S512x2048 .f32 :=
  fun p => Spec.rms (Spec.mlp (fun k => x (ix2 ⟨(p 0).val, (p 0).isLt⟩ k)) (fun k => g (ix1 k)) (fun k h => u (ix3 1 k h))
    (fun h l => w (ix3 1 h l))) (fun k => f (ix1 k)) ⟨(p 1).val, (p 1).isLt⟩

/-- A row of the residual array. -/
def row (x : FVec Ideal S512x2048 .f32) (r : Fin 512) : Fin 2048 → EReal := fun k => x (ix2 r k)

variable (c : Dev nD) (x : FVec Ideal S512x2048 .f32) (g : FVec Ideal S2048 .f32) (u : FVec Ideal S2x2048x8192 .f32)
    (w : FVec Ideal S2x8192x2048 .f32)

/-- What a point adds, given the normed rows it reads. -/
theorem add_apply (eu : m ((c.tc : Thread nD τ).loc main_arg2) = u) (ew : m ((c.tc : Thread nD τ).loc main_arg3) = w)
    (t : Fin cfg0.N) (n : Vec Ideal S512x2048 .bf16) (o : Vec Ideal S512x2048 .f32) (y : Fin 2048 → EReal) (r : Fin 512) (l : Fin 2048)
    (hn : ∀ d, (n (ix2 r d) : EReal) = Spec.rms y (fun k => g (ix1 k)) d) (a : EReal)
    (ho : o (ix2 r l) = Spec.part a (MlpFinalKernel.term g u w y l) (t.val % 8)) :
    k0_pay2 n (iblk m c 2 t) o (iblk m c 3 t) (ix2 r l) = Spec.part a (MlpFinalKernel.term g u w y l) (t.val % 8 + 1) := by
  rw [Spec.part_succ _ _ _ (by omega)]
  refine (MlpFinalKernel.pay2_apply _ _ _ _ r l).trans ?_
  rw [ho]
  refine congrArg _ (Finset.sum_congr rfl fun k _ => ?_)
  rw [iblk3_apply, ew]
  unfold MlpFinalKernel.term
  refine congrArg (· * _) ?_
  refine congrArg₂ Spec.unit (funext hn) (funext fun d => ?_)
  rw [iblk2_apply, eu]

/-- After a point that is not the last: the scratch holds the normed rows, the output the partial sums. -/
theorem inv (ex : m ((c.tc : Thread nD τ).loc main_arg0) = x) (eg : m ((c.tc : Thread nD τ).loc main_arg1) = g)
    (eu : m ((c.tc : Thread nD τ).loc main_arg2) = u) (ew : m ((c.tc : Thread nD τ).loc main_arg3) = w) (r : Fin 512) :
    ∀ (n : ℕ) (hn : n < cfg0.N), n < 7 →
      (∀ d, ((outsAt0 m c n hn).2 : Vec Ideal S512x2048 .bf16) (ix2 r d) = Spec.rms (row x r) (fun k => g (ix1 k)) d)
      ∧ ∀ l, ((outsAt0 m c n hn).1 : Vec Ideal S512x2048 .f32) (ix2 r l)
        = Spec.part (row x r l) (MlpFinalKernel.term g u w (row x r) l) (n % 8 + 1) := by
  intro n
  induction n with
  | zero =>
    intro hn _
    rw [step_A m c ⟨0, hn⟩ rfl]
    have hx : ∀ k, (iblk m c 0 ⟨0, hn⟩ : Vec Ideal S512x2048 .f32) (ix2 r k) = row x r k := fun k =>
      (iblk0_apply m c ⟨0, hn⟩ r k).trans (by rw [ex]; rfl)
    have hd : ∀ d, (k0_pay1 (iblk m c 0 ⟨0, hn⟩) (iblk m c 1 ⟨0, hn⟩) : Vec Ideal S512x2048 .bf16) (ix2 r d)
        = Spec.rms (row x r) (fun k => g (ix1 k)) d := fun d =>
      (MlpFinalKernel.pay1_apply _ _ r d).trans (congrArg₂ (fun a b => Spec.rms a b d) (funext hx)
        (funext fun k => (iblk1_apply m c ⟨0, hn⟩ k).trans (by rw [eg])))
    refine ⟨hd, fun l => add_apply m c g u w eu ew ⟨0, hn⟩ _ _ _ r l hd _ ?_⟩
    show _ = Spec.part _ _ 0
    rw [Spec.part_zero]
    exact hx l
  | succ n ih =>
    intro hn h7
    have hp : n < cfg0.N := by omega
    obtain ⟨i1, i2⟩ := ih hp (by omega)
    rw [step_B m c ⟨n + 1, hn⟩ (by show ¬(n + 1) % 8 = 0; omega) (by show ¬(n + 1) % 8 = 7; omega) hp]
    refine ⟨i1, fun l => ?_⟩
    refine add_apply m c g u w eu ew ⟨n + 1, hn⟩ _ _ _ r l i1 _ ?_
    have e : (n + 1) % 8 = n % 8 + 1 := by omega
    show _ = Spec.part _ _ ((n + 1) % 8)
    rw [e]
    exact i2 l

/-- After the last point: the final norm of the whole sums. -/
theorem last (f : FVec Ideal S2048 .f32) (ex : m ((c.tc : Thread nD τ).loc main_arg0) = x)
    (eg : m ((c.tc : Thread nD τ).loc main_arg1) = g) (eu : m ((c.tc : Thread nD τ).loc main_arg2) = u)
    (ew : m ((c.tc : Thread nD τ).loc main_arg3) = w) (ef : m ((c.tc : Thread nD τ).loc main_arg4) = f) (r : Fin 512) (l : Fin 2048)
    (t : Fin cfg0.N) (h7 : t.val % 8 = 7) :
    ((outsAt0 m c t.val t.isLt).1 : Vec Ideal S512x2048 .f32) (ix2 r l)
      = Spec.rms (fun l => Spec.part (row x r l) (MlpFinalKernel.term g u w (row x r) l) 8) (fun k => f (ix1 k)) l := by
  have ht : t.val < 8 := t.isLt
  have hp : t.val - 1 < cfg0.N := by have := t.isLt; omega
  obtain ⟨i1, i2⟩ := inv m c x g u w ex eg eu ew r (t.val - 1) hp (by omega)
  rw [step_C m c t (by omega) h7 hp]
  refine (MlpFinalKernel.pay3_apply _ _ r l).trans ?_
  refine congrArg₂ (fun a b => Spec.rms a b l) (funext fun k => ?_) (funext fun k => ?_)
  · refine (add_apply m c g u w eu ew t _ _ _ r k i1 (row x r k) ?_).trans ?_
    · have e : t.val % 8 = (t.val - 1) % 8 + 1 := by omega
      rw [e]
      exact i2 k
    · rw [h7]
  · exact (iblk4_apply m c t k).trans (by rw [ef])

/-- The array after the run. -/
theorem final (f : FVec Ideal S2048 .f32) (ex : m ((c.tc : Thread nD τ).loc main_arg0) = x)
    (eg : m ((c.tc : Thread nD τ).loc main_arg1) = g) (eu : m ((c.tc : Thread nD τ).loc main_arg2) = u)
    (ew : m ((c.tc : Thread nD τ).loc main_arg3) = w) (ef : m ((c.tc : Thread nD τ).loc main_arg4) = f) :
    (dats m 0 c).arrAt 5 cfg0.N = result x g u w f := by
  refine (dats m 0 c).arrAt_eq_of_covers 5 _ (by decide +kernel) fun t hf y => ?_
  obtain ⟨e0, e1, e2, e3, e5⟩ := idx_eq t
  have h7 : t.val % 8 = 7 := (flush0_5 t).mp hf
  blk_simp
  rw [after0_5]
  revert y
  show ∀ y : S512x2048.Idx, (outsAt0 m c t.val t.isLt).1 y = result x g u w f ((win0_5.blk t).view.emb y)
  intro y
  idx_vars y
  generalize y0 = r
  generalize y1 = l
  have hr : (win0_5.blk t).view.emb (ix2 r l) = (ix2 r l : S512x2048.Idx) := by blk_ext [e5]
  rw [hr]
  refine (last m c x g u w f ex eg eu ew ef r l t h7).trans ?_
  simp only [Spec.part_eight]
  rfl

end Cert.MlpFinalSKernel

end
-- ==== Proof.InCdSKernel.lean ====
/- The second layer's input projection for the sample's rows: one block of rows, in two points. The three arrays the kernel
   leaves; the entries of its payloads are the prompt's. -/
module

public import proofs.«01_k».proof.Proof.Gen.InCdSIdeal.Value
public import proofs.«01_k».proof.Proof.InCdKernel

@[expose] public section

set_option maxRecDepth 16384

noncomputable section

namespace Cert.InCdSKernel

open Idealize.ShloMosaic Idealize.ShloMosaic.TcCoe Idealize.SL.Sem Cert.InCdSIdeal Cert.InCdSIdeal.Gen

variable (m : (ℓ : Loc nD τ sig) → Buf (Elt Ideal) ℓ)

/-- What the outputs of a point hold, from the normed rows it reads. -/
def outs (c : Dev nD) (t : Fin cfg0.N) (n : Vec Ideal S512x2048 .bf16) :
    Vec Ideal S512x512 .f32 × Vec Ideal S512x512 .f32 × Vec Ideal S512x512 .f32 × Vec Ideal S512x2048 .bf16 :=
  (k0_pay2 n (iblk m c 2 t) (iblk m c 3 t), k0_pay4 n (iblk m c 5 t) (iblk m c 6 t), k0_pay3 n (iblk m c 4 t), n)

theorem step_A (c : Dev nD) (t : Fin cfg0.N) (h : t.val % 2 = 0) :
    outsAt0 m c t.val t.isLt = outs m c t (k0_pay1 (iblk m c 0 t) (iblk m c 1 t)) := by
  rw [outsAt0_A m c t h]
  unfold outs
  refine Prod.ext ?_ (Prod.ext ?_ (Prod.ext ?_ ?_))
  · frame_out
  · frame_out
  · frame_out
  · frame_out

theorem step_B (c : Dev nD) (t : Fin cfg0.N) (h : ¬t.val % 2 = 0) (hp : t.val - 1 < cfg0.N) :
    outsAt0 m c t.val t.isLt = outs m c t (outsAt0 m c (t.val - 1) hp).2.2.2 := by
  rw [outsAt0_B m c t h]
  unfold outs
  refine Prod.ext ?_ (Prod.ext ?_ (Prod.ext ?_ ?_))
  · frame_out
    exact congrArg (fun n => k0_pay2 n (iblk m c 2 t) (iblk m c 3 t)) (Memref.IsWhole.read_unread _ _)
  · frame_out
    exact congrArg (fun n => k0_pay4 n (iblk m c 5 t) (iblk m c 6 t)) (Memref.IsWhole.read_unread _ _)
  · frame_out
    exact congrArg (fun n => k0_pay3 n (iblk m c 4 t)) (Memref.IsWhole.read_unread _ _)
  · rfl

theorem idx_eq : ∀ t : Fin cfg0.N, win0_0.index t = ![0, 0] ∧ win0_1.index t = ![0, 0] ∧ win0_2.index t = ![0, t.val % 2]
    ∧ win0_3.index t = ![0, 2 + t.val % 2] ∧ win0_4.index t = ![0, 4 + t.val % 2] ∧ win0_5.index t = ![0, 6 + t.val % 2]
    ∧ win0_6.index t = ![0, 8 + t.val % 2] ∧ win0_7.index t = ![0, t.val % 2] ∧ win0_8.index t = ![0, t.val % 2]
    ∧ win0_9.index t = ![0, t.val % 2] :=
  (by decide +kernel : ∀ t : Fin grid0.N, win0_0.index t = ![0, 0] ∧ win0_1.index t = ![0, 0] ∧ win0_2.index t = ![0, t.val % 2]
    ∧ win0_3.index t = ![0, 2 + t.val % 2] ∧ win0_4.index t = ![0, 4 + t.val % 2] ∧ win0_5.index t = ![0, 6 + t.val % 2]
    ∧ win0_6.index t = ![0, 8 + t.val % 2] ∧ win0_7.index t = ![0, t.val % 2] ∧ win0_8.index t = ![0, t.val % 2]
    ∧ win0_9.index t = ![0, t.val % 2])

theorem iblk0_apply (c : Dev nD) (t : Fin cfg0.N) (r : Fin 512) (d : Fin 2048) :
    (iblk m c 0 t : Vec Ideal S512x2048 .f32) (ix2 r d) = (m ((c.tc : Thread nD τ).loc main_arg0) : Vec Ideal S512x2048 .f32) (ix2 r d) := by
  obtain ⟨e0, e1, e2, e3, e4, e5, e6, e7, e8, e9⟩ := idx_eq t
  blk_ext [iblk, V_main_arg0, e0]

theorem iblk1_apply (c : Dev nD) (t : Fin cfg0.N) (d : Fin 2048) :
    (iblk m c 1 t : Vec Ideal S1x2048 .f32) (ix2 0 d) = (m ((c.tc : Thread nD τ).loc main_arg1) : Vec Ideal S2048 .f32) (ix1 d) := by
  obtain ⟨e0, e1, e2, e3, e4, e5, e6, e7, e8, e9⟩ := idx_eq t
  have hb : (iblk m c 1 t : Vec Ideal S1x2048 .f32) (ix2 0 d) = (V m c main_v0 : Vec Ideal S1x2048 .f32) (ix2 0 d) := by
    blk_ext [iblk, e1]
  rw [hb]
  entry_read
  pointwise

/-- The cast weights are the weights. -/
theorem w_at (c : Dev nD) (i : S2048x5120.Idx) :
    ((V m c main_v1 : Vec Ideal S2048x5120 .bf16) i : EReal) = (m ((c.tc : Thread nD τ).loc main_arg2) : Vec Ideal S2048x5120 .f32) i := by
  entry_read
  rfl

theorem iblk2_apply (c : Dev nD) (t : Fin cfg0.N) (d : Fin 2048) (l : Fin 512) :
    ((iblk m c 2 t : Vec Ideal S2048x512 .bf16) (ix2 d l) : EReal) = (m ((c.tc : Thread nD τ).loc main_arg2) : Vec Ideal S2048x5120 .f32)
      (ix2 d ⟨0 + (512 * (t.val % 2) + l.val), by omega⟩) := by
  obtain ⟨e0, e1, e2, e3, e4, e5, e6, e7, e8, e9⟩ := idx_eq t
  have hb : (iblk m c 2 t : Vec Ideal S2048x512 .bf16) (ix2 d l) = (V m c main_v1 : Vec Ideal S2048x5120 .bf16)
      (ix2 d ⟨0 + (512 * (t.val % 2) + l.val), by omega⟩) := by
    blk_ext [iblk, e2]
  exact hb.trans (w_at m c _)

theorem iblk3_apply (c : Dev nD) (t : Fin cfg0.N) (d : Fin 2048) (l : Fin 512) :
    ((iblk m c 3 t : Vec Ideal S2048x512 .bf16) (ix2 d l) : EReal) = (m ((c.tc : Thread nD τ).loc main_arg2) : Vec Ideal S2048x5120 .f32)
      (ix2 d ⟨1024 + (512 * (t.val % 2) + l.val), by omega⟩) := by
  obtain ⟨e0, e1, e2, e3, e4, e5, e6, e7, e8, e9⟩ := idx_eq t
  have hb : (iblk m c 3 t : Vec Ideal S2048x512 .bf16) (ix2 d l) = (V m c main_v1 : Vec Ideal S2048x5120 .bf16)
      (ix2 d ⟨1024 + (512 * (t.val % 2) + l.val), by omega⟩) := by
    blk_ext [iblk, e3]
  exact hb.trans (w_at m c _)

theorem iblk4_apply (c : Dev nD) (t : Fin cfg0.N) (d : Fin 2048) (l : Fin 512) :
    ((iblk m c 4 t : Vec Ideal S2048x512 .bf16) (ix2 d l) : EReal) = (m ((c.tc : Thread nD τ).loc main_arg2) : Vec Ideal S2048x5120 .f32)
      (ix2 d ⟨2048 + (512 * (t.val % 2) + l.val), by omega⟩) := by
  obtain ⟨e0, e1, e2, e3, e4, e5, e6, e7, e8, e9⟩ := idx_eq t
  have hb : (iblk m c 4 t : Vec Ideal S2048x512 .bf16) (ix2 d l) = (V m c main_v1 : Vec Ideal S2048x5120 .bf16)
      (ix2 d ⟨2048 + (512 * (t.val % 2) + l.val), by omega⟩) := by
    blk_ext [iblk, e4]
  exact hb.trans (w_at m c _)

theorem iblk5_apply (c : Dev nD) (t : Fin cfg0.N) (d : Fin 2048) (l : Fin 512) :
    ((iblk m c 5 t : Vec Ideal S2048x512 .bf16) (ix2 d l) : EReal) = (m ((c.tc : Thread nD τ).loc main_arg2) : Vec Ideal S2048x5120 .f32)
      (ix2 d ⟨3072 + (512 * (t.val % 2) + l.val), by omega⟩) := by
  obtain ⟨e0, e1, e2, e3, e4, e5, e6, e7, e8, e9⟩ := idx_eq t
  have hb : (iblk m c 5 t : Vec Ideal S2048x512 .bf16) (ix2 d l) = (V m c main_v1 : Vec Ideal S2048x5120 .bf16)
      (ix2 d ⟨3072 + (512 * (t.val % 2) + l.val), by omega⟩) := by
    blk_ext [iblk, e5]
  exact hb.trans (w_at m c _)

theorem iblk6_apply (c : Dev nD) (t : Fin cfg0.N) (d : Fin 2048) (l : Fin 512) :
    ((iblk m c 6 t : Vec Ideal S2048x512 .bf16) (ix2 d l) : EReal) = (m ((c.tc : Thread nD τ).loc main_arg2) : Vec Ideal S2048x5120 .f32)
      (ix2 d ⟨4096 + (512 * (t.val % 2) + l.val), by omega⟩) := by
  obtain ⟨e0, e1, e2, e3, e4, e5, e6, e7, e8, e9⟩ := idx_eq t
  have hb : (iblk m c 6 t : Vec Ideal S2048x512 .bf16) (ix2 d l) = (V m c main_v1 : Vec Ideal S2048x5120 .bf16)
      (ix2 d ⟨4096 + (512 * (t.val % 2) + l.val), by omega⟩) := by
    blk_ext [iblk, e6]
  exact hb.trans (w_at m c _)

/-- A normed row's product with column `b + l` of the weight. -/
def proj (x : FVec Ideal S512x2048 .f32) (g : FVec Ideal S2048 .f32) (w : FVec Ideal S2048x5120 .f32) (b : ℕ) (hb : b ≤ 4096)
    (r : Fin 512) (l : Fin 1024) : EReal :=
  Spec.dot (Spec.rms (fun k => x (ix2 r k)) (fun k => g (ix1 k))) (fun k => w (ix2 k ⟨b + l.val, by omega⟩))

/-- The gated values. -/
def result0 (x : FVec Ideal S512x2048 .f32) (g : FVec Ideal S2048 .f32) (w : FVec Ideal S2048x5120 .f32) : FVec Ideal S512x1024 .f32 :=
  fun p => proj x g w 0 (by decide) (p 0) (p 1) * Spec.gate (proj x g w 1024 (by decide) (p 0) (p 1))

/-- The product of the fourth and fifth projections. -/
def result1 (x : FVec Ideal S512x2048 .f32) (g : FVec Ideal S2048 .f32) (w : FVec Ideal S2048x5120 .f32) : FVec Ideal S512x1024 .f32 :=
  fun p => proj x g w 3072 (by decide) (p 0) (p 1) * proj x g w 4096 (by decide) (p 0) (p 1)

/-- The third projection. -/
def result2 (x : FVec Ideal S512x2048 .f32) (g : FVec Ideal S2048 .f32) (w : FVec Ideal S2048x5120 .f32) : FVec Ideal S512x1024 .f32 :=
  fun p => proj x g w 2048 (by decide) (p 0) (p 1)

variable (c : Dev nD) (x : FVec Ideal S512x2048 .f32) (g : FVec Ideal S2048 .f32) (w : FVec Ideal S2048x5120 .f32)

/-- The normed rows. -/
def Normed (n : Vec Ideal S512x2048 .bf16) : Prop :=
  ∀ (r : Fin 512) (d : Fin 2048), (n (ix2 r d) : EReal) = Spec.rms (fun k => x (ix2 r k)) (fun k => g (ix1 k)) d

theorem first_normed (ex : m ((c.tc : Thread nD τ).loc main_arg0) = x) (eg : m ((c.tc : Thread nD τ).loc main_arg1) = g)
    (t : Fin cfg0.N) : Normed x g (k0_pay1 (iblk m c 0 t) (iblk m c 1 t)) := fun r d => by
  refine (InCdKernel.pay1_apply _ _ r d).trans ?_
  refine congrArg₂ (fun a b => Spec.rms a b d) (funext fun k => ?_) (funext fun k => ?_)
  · exact (iblk0_apply m c t r k).trans (by rw [ex])
  · exact (iblk1_apply m c t k).trans (by rw [eg])

/-- Both points' outputs come from the normed rows. -/
theorem step (ex : m ((c.tc : Thread nD τ).loc main_arg0) = x) (eg : m ((c.tc : Thread nD τ).loc main_arg1) = g)
    (t : Fin cfg0.N) : ∃ n, Normed x g n ∧ outsAt0 m c t.val t.isLt = outs m c t n := by
  by_cases h : t.val % 2 = 0
  · exact ⟨_, first_normed m c x g ex eg t, step_A m c t h⟩
  · have hp : t.val - 1 < cfg0.N := by have := t.isLt; omega
    refine ⟨_, ?_, step_B m c t h hp⟩
    rw [step_A m c ⟨t.val - 1, hp⟩ (by show (t.val - 1) % 2 = 0; omega)]
    exact first_normed m c x g ex eg ⟨t.val - 1, hp⟩

theorem final7 (ex : m ((c.tc : Thread nD τ).loc main_arg0) = x) (eg : m ((c.tc : Thread nD τ).loc main_arg1) = g)
    (ew : m ((c.tc : Thread nD τ).loc main_arg2) = w) :
    (dats m 0 c).arrAt 7 cfg0.N = result0 x g w := by
  refine (dats m 0 c).arrAt_eq_of_covers 7 _ (by decide +kernel) fun t hf y => ?_
  obtain ⟨e0, e1, e2, e3, e4, e5, e6, e7, e8, e9⟩ := idx_eq t
  obtain ⟨n, hn, ho⟩ := step m c x g ex eg t
  blk_simp
  rw [after0_7, ho]
  revert y
  show ∀ y : S512x512.Idx, (outs m c t n).1 y = result0 x g w ((win0_7.blk t).view.emb y)
  intro y
  idx_vars y
  generalize y0 = r
  generalize y1 = l
  have hr : (win0_7.blk t).view.emb (ix2 r l) = (ix2 r ⟨512 * (t.val % 2) + l.val, by omega⟩ : S512x1024.Idx) := by blk_ext [e7]
  rw [hr]
  refine (InCdKernel.pay2_apply _ _ _ r l).trans ?_
  unfold result0 proj
  exact congrArg₂ (fun a b : EReal => a * b) (congrArg₂ Spec.dot (funext fun k => hn r k) (funext fun k => by rw [iblk2_apply, ew]; rfl)) (congrArg Spec.gate (congrArg₂ Spec.dot (funext fun k => hn r k) (funext fun k => by rw [iblk3_apply, ew]; rfl)))

theorem final8 (ex : m ((c.tc : Thread nD τ).loc main_arg0) = x) (eg : m ((c.tc : Thread nD τ).loc main_arg1) = g)
    (ew : m ((c.tc : Thread nD τ).loc main_arg2) = w) :
    (dats m 0 c).arrAt 8 cfg0.N = result1 x g w := by
  refine (dats m 0 c).arrAt_eq_of_covers 8 _ (by decide +kernel) fun t hf y => ?_
  obtain ⟨e0, e1, e2, e3, e4, e5, e6, e7, e8, e9⟩ := idx_eq t
  obtain ⟨n, hn, ho⟩ := step m c x g ex eg t
  blk_simp
  rw [after0_8, ho]
  revert y
  show ∀ y : S512x512.Idx, (outs m c t n).2.1 y = result1 x g w ((win0_8.blk t).view.emb y)
  intro y
  idx_vars y
  generalize y0 = r
  generalize y1 = l
  have hr : (win0_8.blk t).view.emb (ix2 r l) = (ix2 r ⟨512 * (t.val % 2) + l.val, by omega⟩ : S512x1024.Idx) := by blk_ext [e8]
  rw [hr]
  refine (InCdKernel.pay4_apply _ _ _ r l).trans ?_
  unfold result1 proj
  exact congrArg₂ (fun a b : EReal => a * b) (congrArg₂ Spec.dot (funext fun k => hn r k) (funext fun k => by rw [iblk5_apply, ew]; rfl)) (congrArg₂ Spec.dot (funext fun k => hn r k) (funext fun k => by rw [iblk6_apply, ew]; rfl))

theorem final9 (ex : m ((c.tc : Thread nD τ).loc main_arg0) = x) (eg : m ((c.tc : Thread nD τ).loc main_arg1) = g)
    (ew : m ((c.tc : Thread nD τ).loc main_arg2) = w) :
    (dats m 0 c).arrAt 9 cfg0.N = result2 x g w := by
  refine (dats m 0 c).arrAt_eq_of_covers 9 _ (by decide +kernel) fun t hf y => ?_
  obtain ⟨e0, e1, e2, e3, e4, e5, e6, e7, e8, e9⟩ := idx_eq t
  obtain ⟨n, hn, ho⟩ := step m c x g ex eg t
  blk_simp
  rw [after0_9, ho]
  revert y
  show ∀ y : S512x512.Idx, (outs m c t n).2.2.1 y = result2 x g w ((win0_9.blk t).view.emb y)
  intro y
  idx_vars y
  generalize y0 = r
  generalize y1 = l
  have hr : (win0_9.blk t).view.emb (ix2 r l) = (ix2 r ⟨512 * (t.val % 2) + l.val, by omega⟩ : S512x1024.Idx) := by blk_ext [e9]
  rw [hr]
  refine (InCdKernel.pay3_apply _ _ r l).trans ?_
  unfold result2 proj
  exact congrArg₂ Spec.dot (funext fun k => hn r k) (funext fun k => by rw [iblk4_apply, ew]; rfl)

end Cert.InCdSKernel

end
-- ==== Proof.InCdSClaim.lean ====
/- The second layer's input projection for the sample's rows: its reference's arrays, and the claim that the kernel leaves the same. -/
module

public import proofs.«01_k».proof.Defs
public import proofs.«01_k».proof.Proof.Gen.InCdSRefIdeal.Run
public import proofs.«01_k».proof.Proof.InCdSKernel

@[expose] public section

set_option maxRecDepth 16384

noncomputable section

namespace Cert.InCdSClaim

open Idealize.ShloMosaic Idealize.ShloMosaic.TcCoe Idealize.SL.Sem

section Ref
open Cert.InCdSRefIdeal Cert.InCdSRefIdeal.Gen

variable {F : FTy → Type} [FloatOps F]

/-- The sum of squares of each row. -/
def ssq (x : FVec F S512x2048 .f32) : FVec F S512 .f32 :=
  Host.reduceAdd (mulf x x) (constant S_ .f32 0x00000000#32) reducesTo_S512x2048_S512_d1 h_S_

/-- The normed rows, the sums of squares given. -/
def normOf (x : FVec F S512x2048 .f32) (g : FVec F S2048 .f32) (q : FVec F S512 .f32) : FVec F S512x2048 .f32 :=
  mulf (mulf x (broadcastInDim S512x2048 ![0, 1] bcast_S512x1_S512x2048_0_1 (Host.rsqrt (addf (Host.divf (broadcastInDim S512x1 ![0] bcast_S512_S512x1_0 q) (broadcastInDim S512x1 ![] bcast_S_S512x1 (constant S_ .f32 0x45000000#32))) (broadcastInDim S512x1 ![] bcast_S_S512x1 (constant S_ .f32 0x358637BD#32)))))) (broadcastInDim S512x2048 ![0, 1] bcast_S1x2048_S512x2048_0_1 (broadcastInDim S1x2048 ![1] bcast_S2048_S1x2048_1 g))

/-- All columns' products. -/
def prodOf (n : FVec F S512x2048 .f32) (w : FVec F S2048x5120 .f32) : FVec F S512x5120 .f32 :=
  Host.dotGeneral dot_S512x2048_S2048x5120_S512x5120_1_0_0_1_n_n none n w

/-- The first block of columns gated by the second. -/
def gluOf (z : FVec F S512x5120 .f32) : FVec F S512x1024 .f32 :=
  mulf (extractStridedSlice S512x1024 ![0, 0] z slices_S512x5120_S512x1024_0_0)
    (Host.divf (broadcastInDim S512x1024 ![] bcast_S_S512x1024 (constant S_ .f32 0x3F800000#32))
      (addf (broadcastInDim S512x1024 ![] bcast_S_S512x1024 (constant S_ .f32 0x3F800000#32))
        (Host.exp (Host.negf (extractStridedSlice S512x1024 ![0, 1024] z slices_S512x5120_S512x1024_0_1024)))))

/-- The product of the fourth and fifth blocks of columns. -/
def cghOf (z : FVec F S512x5120 .f32) : FVec F S512x1024 .f32 :=
  mulf (extractStridedSlice S512x1024 ![0, 3072] z slices_S512x5120_S512x1024_0_3072)
    (extractStridedSlice S512x1024 ![0, 4096] z slices_S512x5120_S512x1024_0_4096)

/-- The third block of columns. -/
def bgOf (z : FVec F S512x5120 .f32) : FVec F S512x1024 .f32 :=
  extractStridedSlice S512x1024 ![0, 2048] z slices_S512x5120_S512x1024_0_2048

theorem ssq_apply (x : FVec Ideal S512x2048 .f32) (r : Fin 512) :
    ssq x (ix1 r) = ∑ k : Fin 2048, (x (ix2 r k) : EReal) * x (ix2 r k) := by
  unfold ssq
  rw [ValueIdx.hostReduceAdd_apply]
  have reduces : S512x2048.Reduces [1] S512 := by decide
  have lift : ∀ k : Fin 2048, reduces.lift (ix1 r) k = (ix2 r k : S512x2048.Idx) := fun k => by
    funext a
    match a with
    | ⟨0, _⟩ => rfl
    | ⟨1, _⟩ => rfl
  refine (Ideal.hostReduceAdd_single _ reduces _ _ _).trans ?_
  rw [show constant (F := Ideal) S_ .f32 0x00000000#32 _ = (0 : EReal) from Ideal.ofBits_zero_f32]
  refine (zero_add _).trans (Finset.sum_congr rfl fun k _ => ?_)
  exact congrArg (fun i => (x i : EReal) * x i) (lift k)

theorem normOf_apply (x : FVec Ideal S512x2048 .f32) (g : FVec Ideal S2048 .f32) (r : Fin 512) (d : Fin 2048) :
    normOf x g (ssq x) (ix2 r d) = Spec.rms (fun k => x (ix2 r k)) (fun k => g (ix1 k)) d := by
  unfold Spec.rms
  rw [← ssq_apply]
  generalize ssq x = q
  pointwise [normOf]

theorem prodOf_apply (x : FVec Ideal S512x2048 .f32) (g : FVec Ideal S2048 .f32) (w : FVec Ideal S2048x5120 .f32) (b : ℕ)
    (hb : b ≤ 4096) (r : Fin 512) (l : Fin 1024) :
    prodOf (normOf x g (ssq x)) w (ix2 r ⟨b + l.val, by omega⟩) = InCdSKernel.proj x g w b hb r l := by
  unfold InCdSKernel.proj Spec.dot
  simp only [← normOf_apply]
  generalize normOf x g (ssq x) = n
  pointwise [prodOf]

theorem gluOf_apply (z : FVec Ideal S512x5120 .f32) (r : Fin 512) (l : Fin 1024) :
    gluOf z (ix2 r l) = (z (ix2 r ⟨0 + l.val, by omega⟩) : EReal) * Spec.gate (z (ix2 r ⟨1024 + l.val, by omega⟩)) := by
  unfold Spec.gate
  pointwise [gluOf]

theorem cghOf_apply (z : FVec Ideal S512x5120 .f32) (r : Fin 512) (l : Fin 1024) :
    cghOf z (ix2 r l) = (z (ix2 r ⟨3072 + l.val, by omega⟩) : EReal) * z (ix2 r ⟨4096 + l.val, by omega⟩) := by
  pointwise [cghOf]

theorem bgOf_apply (z : FVec Ideal S512x5120 .f32) (r : Fin 512) (l : Fin 1024) :
    bgOf z (ix2 r l) = (z (ix2 r ⟨2048 + l.val, by omega⟩) : EReal) := by
  pointwise [bgOf]

variable (x : FVec Ideal S512x2048 .f32) (g : FVec Ideal S2048 .f32) (w : FVec Ideal S2048x5120 .f32)

theorem glu_eq : gluOf (prodOf (normOf x g (ssq x)) w) = InCdSKernel.result0 x g w := by
  funext p
  revert p
  show ∀ p : S512x1024.Idx, _ = _
  intro p
  idx_vars p
  generalize p0 = r
  generalize p1 = l
  refine (gluOf_apply _ r l).trans ?_
  rw [prodOf_apply x g w 0 (by decide), prodOf_apply x g w 1024 (by decide)]
  rfl

theorem cgh_eq : cghOf (prodOf (normOf x g (ssq x)) w) = InCdSKernel.result1 x g w := by
  funext p
  revert p
  show ∀ p : S512x1024.Idx, _ = _
  intro p
  idx_vars p
  generalize p0 = r
  generalize p1 = l
  refine (cghOf_apply _ r l).trans ?_
  rw [prodOf_apply x g w 3072 (by decide), prodOf_apply x g w 4096 (by decide)]
  rfl

theorem bg_eq : bgOf (prodOf (normOf x g (ssq x)) w) = InCdSKernel.result2 x g w := by
  funext p
  revert p
  show ∀ p : S512x1024.Idx, _ = _
  intro p
  idx_vars p
  generalize p0 = r
  generalize p1 = l
  refine (bgOf_apply _ r l).trans ?_
  rw [prodOf_apply x g w 2048 (by decide)]
  rfl

end Ref

/-- Kernel and reference leave the same three arrays. -/
theorem algebraic : Cert.algebraic_InCdSIdeal_InCdSRefIdeal := by
  intro m ρ m' ρ' hpre hag
  refine ⟨fun c => InCdSKernel.result0 (m ((c.tc : Thread Cert.InCdSIdeal.nD Cert.InCdSIdeal.τ).loc Cert.InCdSIdeal.main_arg0))
      (m ((c.tc : Thread Cert.InCdSIdeal.nD Cert.InCdSIdeal.τ).loc Cert.InCdSIdeal.main_arg1))
      (m ((c.tc : Thread Cert.InCdSIdeal.nD Cert.InCdSIdeal.τ).loc Cert.InCdSIdeal.main_arg2)),
    fun c => InCdSKernel.result1 (m ((c.tc : Thread Cert.InCdSIdeal.nD Cert.InCdSIdeal.τ).loc Cert.InCdSIdeal.main_arg0))
      (m ((c.tc : Thread Cert.InCdSIdeal.nD Cert.InCdSIdeal.τ).loc Cert.InCdSIdeal.main_arg1))
      (m ((c.tc : Thread Cert.InCdSIdeal.nD Cert.InCdSIdeal.τ).loc Cert.InCdSIdeal.main_arg2)),
    fun c => InCdSKernel.result2 (m ((c.tc : Thread Cert.InCdSIdeal.nD Cert.InCdSIdeal.τ).loc Cert.InCdSIdeal.main_arg0))
      (m ((c.tc : Thread Cert.InCdSIdeal.nD Cert.InCdSIdeal.τ).loc Cert.InCdSIdeal.main_arg1))
      (m ((c.tc : Thread Cert.InCdSIdeal.nD Cert.InCdSIdeal.τ).loc Cert.InCdSIdeal.main_arg2)), ?_, ?_⟩
  · exact (θ_run Cert.InCdSIdeal.defs _ _).mono (fun _ h c => ⟨(h c).1.trans (InCdSKernel.final7 m c _ _ _ rfl rfl rfl),
        (h c).2.1.trans (InCdSKernel.final8 m c _ _ _ rfl rfl rfl), (h c).2.2.1.trans (InCdSKernel.final9 m c _ _ _ rfl rfl rfl),
        (h c).2.2.2⟩)
      (Cert.InCdSIdeal.Value.run_blocks (F := Ideal) m ρ)
  · refine (θ_run Cert.InCdSRefIdeal.defs _ _).mono (fun _ h c => ⟨(h c).1.trans ?_, (h c).2.1.trans ?_, (h c).2.2.1.trans ?_,
        (h c).2.2.2⟩)
      (Cert.InCdSRefIdeal.Value.run (F := Ideal) m' ρ')
    · rw [(hag c).1, (hag c).2.1, (hag c).2.2]
      exact glu_eq _ _ _
    · rw [(hag c).1, (hag c).2.1, (hag c).2.2]
      exact cgh_eq _ _ _
    · rw [(hag c).1, (hag c).2.1, (hag c).2.2]
      exact bg_eq _ _ _

end Cert.InCdSClaim

end
-- ==== Proof.MlpFinalSClaim.lean ====
/- The last layer's MLP with the final norm for the sample's rows: its reference's array, and the
   claim that the kernel leaves the same. The norm's stages are those of the input projection. -/
module

public import proofs.«01_k».proof.Defs
public import proofs.«01_k».proof.Proof.Gen.MlpFinalSRefIdeal.Run
public import proofs.«01_k».proof.Proof.MlpFinalSKernel
public import proofs.«01_k».proof.Proof.InCdSClaim

@[expose] public section

set_option maxRecDepth 16384

noncomputable section

namespace Cert.MlpFinalSClaim

open Idealize.ShloMosaic Idealize.ShloMosaic.TcCoe Idealize.SL.Sem

section Ref
open Cert.MlpFinalSRefIdeal Cert.MlpFinalSRefIdeal.Gen

variable {F : FTy → Type} [FloatOps F]

/-- The hidden units' products before the squared ReLU. -/
def upOf (n : FVec F S512x2048 .f32) (u : FVec F S2x2048x8192 .f32) : FVec F S512x8192 .f32 :=
  Host.dotGeneral dot_S512x2048_S2048x8192_S512x8192_1_0_0_1_n_n none n
    (shapeCast _ (extractStridedSlice S1x2048x8192 ![1, 0, 0] u slices_S2x2048x8192_S1x2048x8192_1_0_0) shapeCasts_S1x2048x8192_S2048x8192)

/-- The squared ReLU. -/
def actOf (z : FVec F S512x8192 .f32) : FVec F S512x8192 .f32 :=
  mulf (maximumf z (broadcastInDim S512x8192 ![] bcast_S_S512x8192 (constant S_ .f32 0x00000000#32)))
    (maximumf z (broadcastInDim S512x8192 ![] bcast_S_S512x8192 (constant S_ .f32 0x00000000#32)))

/-- The residual plus the hidden units' product with the second weight. -/
def downOf (x : FVec F S512x2048 .f32) (a : FVec F S512x8192 .f32) (w : FVec F S2x8192x2048 .f32) : FVec F S512x2048 .f32 :=
  addf x (Host.dotGeneral dot_S512x8192_S8192x2048_S512x2048_1_0_0_1_n_n none a
    (shapeCast _ (extractStridedSlice S1x8192x2048 ![1, 0, 0] w slices_S2x8192x2048_S1x8192x2048_1_0_0) shapeCasts_S1x8192x2048_S8192x2048))

/-- The residual array after the MLP, before the final norm. -/
def sum (x : FVec F S512x2048 .f32) (g : FVec F S2048 .f32) (u : FVec F S2x2048x8192 .f32) (w : FVec F S2x8192x2048 .f32) :
    FVec F S512x2048 .f32 :=
  downOf x (actOf (upOf (InCdSClaim.normOf x g (InCdSClaim.ssq x)) u)) w

theorem upOf_apply (n : FVec Ideal S512x2048 .f32) (u : FVec Ideal S2x2048x8192 .f32) (r : Fin 512) (h : Fin 8192) :
    upOf n u (ix2 r h) = ∑ k : Fin 2048, (n (ix2 r k) : EReal) * u (ix3 1 k h) := by
  pointwise [upOf]

theorem actOf_apply (z : FVec Ideal S512x8192 .f32) (r : Fin 512) (h : Fin 8192) :
    actOf z (ix2 r h) = max (z (ix2 r h) : EReal) 0 * max (z (ix2 r h)) 0 := by
  pointwise [actOf]

theorem downOf_apply (x : FVec Ideal S512x2048 .f32) (a : FVec Ideal S512x8192 .f32) (w : FVec Ideal S2x8192x2048 .f32)
    (r : Fin 512) (l : Fin 2048) :
    downOf x a w (ix2 r l) = (x (ix2 r l) : EReal) + ∑ h : Fin 8192, (a (ix2 r h) : EReal) * w (ix3 1 h l) := by
  pointwise [downOf]

theorem sum_apply (x : FVec Ideal S512x2048 .f32) (g : FVec Ideal S2048 .f32) (u : FVec Ideal S2x2048x8192 .f32)
    (w : FVec Ideal S2x8192x2048 .f32) (r : Fin 512) (l : Fin 2048) :
    sum x g u w (ix2 r l) = Spec.mlp (fun k => x (ix2 r k)) (fun k => g (ix1 k)) (fun k h => u (ix3 1 k h)) (fun h l => w (ix3 1 h l)) l := by
  refine (downOf_apply _ _ _ r l).trans ?_
  unfold Spec.mlp Spec.unit
  refine congrArg _ (Finset.sum_congr rfl fun h _ => ?_)
  rw [actOf_apply, upOf_apply]
  simp only [InCdSClaim.normOf_apply]

theorem ref_eq (x : FVec Ideal S512x2048 .f32) (g : FVec Ideal S2048 .f32) (u : FVec Ideal S2x2048x8192 .f32)
    (w : FVec Ideal S2x8192x2048 .f32) (f : FVec Ideal S2048 .f32) :
    InCdSClaim.normOf (sum x g u w) f (InCdSClaim.ssq (sum x g u w)) = MlpFinalSKernel.result x g u w f := by
  funext p
  revert p
  show ∀ p : S512x2048.Idx, _ = _
  intro p
  idx_vars p
  generalize p0 = r
  generalize p1 = l
  refine (InCdSClaim.normOf_apply _ _ r l).trans ?_
  show _ = Spec.rms (Spec.mlp (fun k => x (ix2 r k)) (fun k => g (ix1 k)) (fun k h => u (ix3 1 k h)) (fun h l => w (ix3 1 h l)))
    (fun k => f (ix1 k)) l
  exact congrArg (fun a => Spec.rms a (fun k => f (ix1 k)) l) (funext fun k => sum_apply x g u w r k)

/-- The reference's result is these stages composed. -/
theorem res_eq (m : (ℓ : Loc nD τ sig) → Buf (Elt F) ℓ) (c : Dev nD) (x : FVec F S512x2048 .f32) (g : FVec F S2048 .f32)
    (u : FVec F S2x2048x8192 .f32) (w : FVec F S2x8192x2048 .f32) (f : FVec F S2048 .f32)
    (ex : m ((c.tc : Thread nD τ).loc main_arg0) = x) (eg : m ((c.tc : Thread nD τ).loc main_arg1) = g)
    (eu : m ((c.tc : Thread nD τ).loc main_arg2) = u) (ew : m ((c.tc : Thread nD τ).loc main_arg3) = w)
    (ef : m ((c.tc : Thread nD τ).loc main_arg4) = f) :
    Value.res_main_v34 (F := F) m c = InCdSClaim.normOf (sum x g u w) f (InCdSClaim.ssq (sum x g u w)) := by
  subst ex eg eu ew ef
  rfl

end Ref

/-- Kernel and reference leave the same array. -/
theorem algebraic : Cert.algebraic_MlpFinalSIdeal_MlpFinalSRefIdeal := by
  intro m ρ m' ρ' hpre hag
  refine ⟨fun c => MlpFinalSKernel.result (m ((c.tc : Thread Cert.MlpFinalSIdeal.nD Cert.MlpFinalSIdeal.τ).loc Cert.MlpFinalSIdeal.main_arg0))
    (m ((c.tc : Thread Cert.MlpFinalSIdeal.nD Cert.MlpFinalSIdeal.τ).loc Cert.MlpFinalSIdeal.main_arg1))
    (m ((c.tc : Thread Cert.MlpFinalSIdeal.nD Cert.MlpFinalSIdeal.τ).loc Cert.MlpFinalSIdeal.main_arg2))
    (m ((c.tc : Thread Cert.MlpFinalSIdeal.nD Cert.MlpFinalSIdeal.τ).loc Cert.MlpFinalSIdeal.main_arg3))
    (m ((c.tc : Thread Cert.MlpFinalSIdeal.nD Cert.MlpFinalSIdeal.τ).loc Cert.MlpFinalSIdeal.main_arg4)), ?_, ?_⟩
  · exact (θ_run Cert.MlpFinalSIdeal.defs _ _).mono (fun _ h c => ⟨((h c).1.trans (Cert.MlpFinalSIdeal.Value.final5 m c).symm).trans
        (MlpFinalSKernel.final m c _ _ _ _ _ rfl rfl rfl rfl rfl), (h c).2⟩)
      (Cert.MlpFinalSIdeal.Value.run (F := Ideal) m ρ)
  · refine (θ_run Cert.MlpFinalSRefIdeal.defs _ _).mono (fun _ h c => ⟨(h c).1.trans ?_, (h c).2⟩)
      (Cert.MlpFinalSRefIdeal.Value.run (F := Ideal) m' ρ')
    refine (res_eq m' c _ _ _ _ _ (hag c).1 (hag c).2.1 (hag c).2.2.1 (hag c).2.2.2.1 (hag c).2.2.2.2).trans ?_
    exact ref_eq _ _ _ _ _

end Cert.MlpFinalSClaim

end
-- ==== Proof.UnabsorbClaim.lean ====
/- The sample's step from the latents back to the heads: its kernel and its reference leave the same array. -/
module

public import proofs.«01_k».proof.Defs
public import proofs.«01_k».proof.Proof.Gen.UnabsorbIdeal.Value
public import proofs.«01_k».proof.Proof.Gen.UnabsorbRefIdeal.Run
public import Idealize.ShloMosaic.Lib.Claim
public import Idealize.ShloMosaic.Lib.Pointwise
public import Idealize.ShloMosaic.Lib.IdealHost
public import Idealize.ShloMosaic.Lib.Pipeline.ValueKit

@[expose] public section

set_option maxRecDepth 16384

noncomputable section

namespace Cert.UnabsorbClaim

open Idealize.ShloMosaic Idealize.ShloMosaic.TcCoe Idealize.SL.Sem

/-- An entry of a head's output: the row's latents of that head against the head's weights. -/
def entry {n : ℕ} (o : Fin n → Fin 6144 → EReal) (w : Fin 12 → Fin 512 → Fin 128 → EReal) (p : Fin n) (h : Fin 12) (d : Fin 128) : EReal :=
  ∑ k : Fin 512, o p ⟨512 * h.val + k.val, by omega⟩ * w h k d

/-- An array of heads side by side, by row, head and column. -/
def beside {n : ℕ} (e : Fin n → Fin 12 → Fin 128 → EReal) (p : Fin n) (j : Fin 1536) : EReal :=
  e p ⟨j.val / 128, by omega⟩ ⟨j.val % 128, by omega⟩

theorem beside_head {n : ℕ} (e : Fin n → Fin 12 → Fin 128 → EReal) (p : Fin n) (h : Fin 12) (d : Fin 128) :
    beside e p ⟨128 * h.val + d.val, by omega⟩ = e p h d :=
  congrArg₂ (e p) (Fin.ext (show (128 * h.val + d.val) / 128 = h.val by omega)) (Fin.ext (show (128 * h.val + d.val) % 128 = d.val by omega))

/-- The result: every head's output, heads side by side. -/
def result (o : FVec Ideal Cert.UnabsorbIdeal.S512x6144 .bf16) (w : FVec Ideal Cert.UnabsorbIdeal.S512x12x128 .f32) :
    FVec Ideal Cert.UnabsorbIdeal.S512x1536 .bf16 :=
  fun y => beside (entry (fun p k => (o (ix2 p k) : EReal)) fun h k d => (w (ix3 k h d) : EReal)) ⟨(y 0).val, (y 0).isLt⟩ ⟨(y 1).val, (y 1).isLt⟩

section Kernel
open Cert.UnabsorbIdeal Cert.UnabsorbIdeal.Gen

variable (m : (ℓ : Loc nD τ sig) → Buf (Elt Ideal) ℓ)

theorem idx_eq : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])

theorem pay_apply (x : Vec Ideal S256x512 .bf16) (w : Vec Ideal S1x512x128 .bf16) (r : Fin 256) (d : Fin 128) :
    (k0_pay1 x w (ix2 r d) : EReal) = ∑ k : Fin 512, (x (ix2 r k) : EReal) * (w (ix3 0 k d) : EReal) := by
  pointwise [k0_pay1]

/-- One head's weights. -/
theorem slab (h : Fin 12) (inb : ∀ a, (![h.val, 0, 0] : Fin 3 → ℕ) a + S1x512x128.size a ≤ S12x512x128.size a) (w : Vec Ideal S12x512x128 .bf16)
    (k : Fin 512) (d : Fin 128) :
    (View.ld (Val := Elt Ideal) w (Rect.unit (s := S12x512x128) ![h.val, 0, 0] S1x512x128.size inb) (ix3 0 k d) : EReal) = w (ix3 h k d) := by
  refine congrArg (w : S12x512x128.Idx → EReal) (funext fun i => ?_)
  match i with
  | ⟨0, _⟩ => exact Fin.ext (show h.val + 1 * 0 = h.val by omega)
  | ⟨1, _⟩ => exact Fin.ext (show 0 + 1 * k.val = k.val by omega)
  | ⟨2, _⟩ => exact Fin.ext (show 0 + 1 * d.val = d.val by omega)

/-- One head's latents. -/
theorem cols (h : Fin 12) (inb : ∀ a, (![0, 512 * h.val] : Fin 2 → ℕ) a + S256x512.size a ≤ S256x6144.size a) (o : Vec Ideal S256x6144 .bf16)
    (r : Fin 256) (k : Fin 512) :
    (View.ld (Val := Elt Ideal) o (Rect.unit (s := S256x6144) ![0, 512 * h.val] S256x512.size inb) (ix2 r k) : EReal)
      = o (ix2 r ⟨512 * h.val + k.val, by omega⟩) := by
  refine congrArg (o : S256x6144.Idx → EReal) (funext fun i => ?_)
  match i with
  | ⟨0, _⟩ => exact Fin.ext (show 0 + 1 * r.val = r.val by omega)
  | ⟨1, _⟩ => exact Fin.ext (show 512 * h.val + 1 * k.val = 512 * h.val + k.val by omega)

/-- A block's output. -/
def block (o : Vec Ideal S256x6144 .bf16) (w : Vec Ideal S12x512x128 .bf16) : Vec Ideal S256x1536 .bf16 :=
  fun y => beside (entry (fun p k => (o (ix2 p k) : EReal)) fun h k d => (w (ix3 h k d) : EReal)) ⟨(y 0).val, (y 0).isLt⟩ ⟨(y 1).val, (y 1).isLt⟩

/-- A head's piece of a block holds its entries. -/
theorem headP (h : Fin 12) (a b : ℕ) (ea : a = 512 * h.val) (eb : b = 128 * h.val)
    (ino : ∀ i, (![0, a] : Fin 2 → ℕ) i + S256x512.size i ≤ S256x6144.size i)
    (inw : ∀ i, (![h.val, 0, 0] : Fin 3 → ℕ) i + S1x512x128.size i ≤ S12x512x128.size i)
    (inb : ∀ i, (![0, b] : Fin 2 → ℕ) i + S256x128.size i ≤ S256x1536.size i)
    (o : Vec Ideal S256x6144 .bf16) (w : Vec Ideal S12x512x128 .bf16)
    (x : (Rect.unit (s := S256x1536) ![0, b] S256x128.size inb).shape.Idx) :
    k0_pay1 (View.ld (Val := Elt Ideal) o (Rect.unit (s := S256x6144) ![0, a] S256x512.size ino))
        (View.ld (Val := Elt Ideal) w (Rect.unit (s := S12x512x128) ![h.val, 0, 0] S1x512x128.size inw)) x
      = block o w ((Rect.unit (s := S256x1536) ![0, b] S256x128.size inb).emb x) := by
  subst ea eb
  revert x
  show ∀ x : S256x128.Idx, _
  intro x
  idx_vars x
  generalize x0 = r
  generalize x1 = d
  refine (pay_apply _ _ r d).trans (((Finset.sum_congr rfl fun k _ => congrArg₂ (fun u v : EReal => u * v) (cols h ino o r k) (slab h inw w k d)).trans
    (beside_head (entry (fun p k => (o (ix2 p k) : EReal)) fun h k d => (w (ix3 h k d) : EReal)) r h d).symm).trans ?_)
  exact congrArg₂ (beside (entry (fun p k => (o (ix2 p k) : EReal)) fun h k d => (w (ix3 h k d) : EReal)))
    (Fin.ext (show r.val = 0 + 1 * r.val by omega)) (Fin.ext (show 128 * h.val + d.val = 128 * h.val + 1 * d.val by omega))

theorem out_eq (o : Vec Ideal S256x6144 .bf16) (w : Vec Ideal S12x512x128 .bf16) : out0_2 o w = block o w := by
  funext y
  unfold out0_2
  refine View.canon_apply_of_pieces (Val := Elt Ideal) (block o w) _ ?_ y (cover0_2 _ _ _ _ _ _ _ _ _ _ _ _ y)
  simp only [List.forall_mem_cons]
  refine ⟨headP 11 5632 1408 rfl rfl inb_S256x6144_S256x512_0_5632 inb_S12x512x128_S1x512x128_11_0_0 inb_S256x1536_S256x128_0_1408 o w, headP 10 5120 1280 rfl rfl inb_S256x6144_S256x512_0_5120 inb_S12x512x128_S1x512x128_10_0_0 inb_S256x1536_S256x128_0_1280 o w, headP 9 4608 1152 rfl rfl inb_S256x6144_S256x512_0_4608 inb_S12x512x128_S1x512x128_9_0_0 inb_S256x1536_S256x128_0_1152 o w, headP 8 4096 1024 rfl rfl inb_S256x6144_S256x512_0_4096 inb_S12x512x128_S1x512x128_8_0_0 inb_S256x1536_S256x128_0_1024 o w, headP 7 3584 896 rfl rfl inb_S256x6144_S256x512_0_3584 inb_S12x512x128_S1x512x128_7_0_0 inb_S256x1536_S256x128_0_896 o w, headP 6 3072 768 rfl rfl inb_S256x6144_S256x512_0_3072 inb_S12x512x128_S1x512x128_6_0_0 inb_S256x1536_S256x128_0_768 o w, headP 5 2560 640 rfl rfl inb_S256x6144_S256x512_0_2560 inb_S12x512x128_S1x512x128_5_0_0 inb_S256x1536_S256x128_0_640 o w, headP 4 2048 512 rfl rfl inb_S256x6144_S256x512_0_2048 inb_S12x512x128_S1x512x128_4_0_0 inb_S256x1536_S256x128_0_512 o w, headP 3 1536 384 rfl rfl inb_S256x6144_S256x512_0_1536 inb_S12x512x128_S1x512x128_3_0_0 inb_S256x1536_S256x128_0_384 o w, headP 2 1024 256 rfl rfl inb_S256x6144_S256x512_0_1024 inb_S12x512x128_S1x512x128_2_0_0 inb_S256x1536_S256x128_0_256 o w, headP 1 512 128 rfl rfl inb_S256x6144_S256x512_0_512 inb_S12x512x128_S1x512x128_1_0_0 inb_S256x1536_S256x128_0_128 o w, headP 0 0 0 rfl rfl inb_S256x6144_S256x512_0_0 inb_S12x512x128_S1x512x128_0_0_0 inb_S256x1536_S256x128_0_0 o w, fun _ hp => absurd hp List.not_mem_nil⟩

/-- A row block's entry in the whole array. -/
theorem iblk0_apply (c : Dev nD) (t : Fin cfg0.N) (r : Fin 256) (k : Fin 6144) :
    (iblk m c 0 t : Vec Ideal S256x6144 .bf16) (ix2 r k) = (m ((c.tc : Thread nD τ).loc main_arg0) : Vec Ideal S512x6144 .bf16)
      (ix2 ⟨256 * t.val + r.val, by have h : t.val < 2 := t.isLt; omega⟩ k) := by
  have h : t.val < 2 := t.isLt
  obtain ⟨e0, e1, e2⟩ := idx_eq t
  blk_ext [iblk, V_main_arg0, e0]

/-- The weights as the kernel reads them, heads first. -/
theorem iblk1_apply (c : Dev nD) (t : Fin cfg0.N) (h : Fin 12) (k : Fin 512) (d : Fin 128) :
    ((iblk m c 1 t : Vec Ideal S12x512x128 .bf16) (ix3 h k d) : EReal)
      = (m ((c.tc : Thread nD τ).loc main_arg1) : Vec Ideal S512x12x128 .f32) (ix3 k h d) := by
  obtain ⟨e0, e1, e2⟩ := idx_eq t
  have hb : (iblk m c 1 t : Vec Ideal S12x512x128 .bf16) (ix3 h k d) = (V m c main_v1 : Vec Ideal S12x512x128 .bf16) (ix3 h k d) := by
    blk_ext [iblk, e1]
  rw [hb]
  entry_read
  pointwise

theorem final (c : Dev nD) (o : FVec Ideal S512x6144 .bf16) (w : FVec Ideal S512x12x128 .f32)
    (eo : m ((c.tc : Thread nD τ).loc main_arg0) = o) (ew : m ((c.tc : Thread nD τ).loc main_arg1) = w) :
    (dats m 0 c).arrAt 2 cfg0.N = result o w := by
  subst eo ew
  refine (dats m 0 c).arrAt_eq_of_covers 2 _ (by decide +kernel) fun t hf y => ?_
  obtain ⟨e0, e1, e2⟩ := idx_eq t
  blk_simp
  rw [after0_2, out_eq]
  revert y
  show ∀ y : S256x1536.Idx, block (iblk m c 0 t) (iblk m c 1 t) y = result _ _ ((win0_2.blk t).view.emb y)
  intro y
  have h : t.val < 2 := t.isLt
  idx_vars y
  generalize y0 = r
  generalize y1 = l
  have hr : (win0_2.blk t).view.emb (ix2 r l) = (ix2 ⟨256 * t.val + r.val, by omega⟩ l : S512x1536.Idx) := by blk_ext [e2]
  rw [hr]
  unfold block result beside entry
  exact Finset.sum_congr rfl fun k _ => congrArg₂ (fun u v : EReal => u * v) (iblk0_apply m c t r _) (iblk1_apply m c t _ k _)

end Kernel

section Ref
open Cert.UnabsorbRefIdeal Cert.UnabsorbRefIdeal.Gen

/-- Heads side by side, as the reference lays them out. -/
def flat (t : FVec Ideal S12x128x512 .f32) : FVec Ideal S512x1536 .bf16 :=
  truncf .bf16 (shapeCast _ (transpose S512x12x128 [2, 0, 1] t transposes_S12x128x512_S512x12x128_2_0_1) shapeCasts_S512x12x128_S512x1536) bitsLt_bf16_f32

/-- The rows' latents, by head. -/
def byHead (o : FVec Ideal S512x6144 .bf16) : FVec Ideal S512x12x512 .f32 :=
  shapeCast _ (extf .f32 o bitsLt_bf16_f32) shapeCasts_S512x6144_S512x12x512

/-- Each head's product. -/
def prod (w : FVec Ideal S512x12x128 .f32) (o : FVec Ideal S512x12x512 .f32) : FVec Ideal S12x128x512 .f32 :=
  Host.dotGeneral dot_S512x12x128_S512x12x512_S12x128x512_0_2_2_0_1_1 none w o

theorem flat_apply (t : FVec Ideal S12x128x512 .f32) (p : Fin 512) (h : Fin 12) (d : Fin 128) :
    (flat t (ix2 p ⟨128 * h.val + d.val, by omega⟩) : EReal) = t (ix3 h d p) := by
  pointwise [flat]

theorem byHead_apply (o : FVec Ideal S512x6144 .bf16) (p : Fin 512) (h : Fin 12) (k : Fin 512) :
    (byHead o (ix3 p h k) : EReal) = o (ix2 p ⟨512 * h.val + k.val, by omega⟩) := by
  pointwise [byHead]
  exact congrArg (fun i => (o (ix2 p i) : EReal)) (Fin.ext (show h.val * 512 + k.val = 512 * h.val + k.val by omega))

theorem prod_apply (w : FVec Ideal S512x12x128 .f32) (o : FVec Ideal S512x12x512 .f32) (h : Fin 12) (d : Fin 128) (p : Fin 512) :
    (prod w o (ix3 h d p) : EReal) = ∑ k : Fin 512, (w (ix3 k h d) : EReal) * o (ix3 p h k) := by
  pointwise [prod]

theorem ref_eq (o : FVec Ideal S512x6144 .bf16) (w : FVec Ideal S512x12x128 .f32) : flat (prod w (byHead o)) = result o w := by
  funext y
  revert y
  show ∀ y : S512x1536.Idx, _ = _
  intro y
  idx_vars y
  generalize y0 = p
  generalize y1 = l
  have hl : l = ⟨128 * (⟨l.val / 128, by omega⟩ : Fin 12).val + (⟨l.val % 128, by omega⟩ : Fin 128).val, by show 128 * (l.val / 128) + l.val % 128 < 1536; omega⟩ :=
    Fin.ext (show l.val = 128 * (l.val / 128) + l.val % 128 by omega)
  refine (congrArg (fun i => (flat (prod w (byHead o)) (ix2 p i) : EReal)) hl).trans ((flat_apply _ p _ _).trans ((prod_apply _ _ _ _ p).trans ?_))
  exact Finset.sum_congr rfl fun k _ => (congrArg (fun v : EReal => w (ix3 k _ _) * v) (byHead_apply o p _ k)).trans (mul_comm _ _)

end Ref

/-- Kernel and reference leave the same array. -/
theorem algebraic : Cert.algebraic_UnabsorbIdeal_UnabsorbRefIdeal := by
  intro m ρ m' ρ' hpre hag
  refine ⟨fun c => result (m ((c.tc : Thread Cert.UnabsorbIdeal.nD Cert.UnabsorbIdeal.τ).loc Cert.UnabsorbIdeal.main_arg0))
    (m ((c.tc : Thread Cert.UnabsorbIdeal.nD Cert.UnabsorbIdeal.τ).loc Cert.UnabsorbIdeal.main_arg1)), ?_, ?_⟩
  · exact (θ_run Cert.UnabsorbIdeal.defs _ _).mono (fun _ h c => ⟨(h c).1.trans (final m c _ _ rfl rfl), (h c).2⟩)
      (Cert.UnabsorbIdeal.Value.run_blocks (F := Ideal) m ρ)
  · refine (θ_run Cert.UnabsorbRefIdeal.defs _ _).mono (fun _ h c => ⟨(h c).1.trans ?_, (h c).2⟩)
      (Cert.UnabsorbRefIdeal.Value.run (F := Ideal) m' ρ')
    rw [(hag c).1, (hag c).2]
    exact ref_eq _ _

end Cert.UnabsorbClaim

end
-- ==== Proof.PoolSKernel.lean ====
/- The sample's pooling mixer: what the kernel leaves, entry by entry. -/
module

public import proofs.«01_k».proof.Defs
public import proofs.«01_k».proof.Proof.Gen.PoolSIdeal.Value
public import Idealize.ShloMosaic.Lib.Claim
public import Idealize.ShloMosaic.Lib.Pointwise
public import Idealize.ShloMosaic.Lib.IdealHost
public import Idealize.ShloMosaic.Lib.Pipeline.ValueKit

@[expose] public section

set_option maxRecDepth 16384

noncomputable section

namespace Cert.PoolKernel

open Idealize.ShloMosaic Idealize.ShloMosaic.TcCoe Idealize.SL.Sem
open Cert.PoolSIdeal Cert.PoolSIdeal.Gen

/-- The row n of a sequence: the 15 older rows, then the four new ones. -/
def past (st : Vec Ideal S15x128x512 .f32) (u : Vec Ideal S4x128x512 .f32) (n : ℕ) (b : Fin 128) (c : Fin 512) : EReal :=
  if h : n < 15 then st (ix3 ⟨n, h⟩ b c) else u (ix3 ⟨(n - 15) % 4, by omega⟩ b c)

/-- A group's column in the row. -/
def col (g : Fin 4) (k : Fin 128) : Fin 512 := ⟨128 * g.val + k.val, by omega⟩

/-- The number of rows a group averages: 2, 4, 8, 16. -/
def width (g : Fin 4) : EReal := ((2 ^ (g.val + 1) : ℝ) : EReal)

/-- The average of the group's window that ends with the row, less the row. -/
def pooled (e : ℕ → Fin 128 → Fin 512 → EReal) (t : ℕ) (b : Fin 128) (g : Fin 4) (k : Fin 128) : EReal :=
  Ideal.div (∑ j ∈ Finset.range (2 ^ (g.val + 1)), e (15 + t - j) b (col g k)) (width g) - e (15 + t) b (col g k)

/-- An entry of the result: the group's averages mixed by the group's weights, scaled by column. -/
def entry (e : ℕ → Fin 128 → Fin 512 → EReal) (w : Fin 4 → Fin 128 → Fin 128 → EReal) (s : Fin 512 → EReal) (t : ℕ) (b : Fin 128) (g : Fin 4)
    (d : Fin 128) : EReal :=
  (∑ k : Fin 128, pooled e t b g k * w g k d) * s (col g d)

/-- The array of given entries. -/
def arr (f : ℕ → Fin 128 → Fin 4 → Fin 128 → EReal) : FVec Ideal S4x128x512 .bf16 := fun y =>
  f (y 0).val (y 1) ⟨(y 2).val / 128, by have h : (y 2).val < 512 := (y 2).isLt; omega⟩ ⟨(y 2).val % 128, by omega⟩

theorem arr_apply (f : ℕ → Fin 128 → Fin 4 → Fin 128 → EReal) (t : Fin 4) (b : Fin 128) (g : Fin 4) (d : Fin 128) :
    (arr f (ix3 t b (col g d)) : EReal) = f t.val b g d :=
  congrArg₂ (f t.val b) (Fin.ext (show (128 * g.val + d.val) / 128 = g.val by omega)) (Fin.ext (show (128 * g.val + d.val) % 128 = d.val by omega))

theorem exists_col (c : Fin 512) : ∃ (g : Fin 4) (d : Fin 128), c = col g d :=
  ⟨⟨c.val / 128, by omega⟩, ⟨c.val % 128, by omega⟩, Fin.ext (show c.val = 128 * (c.val / 128) + c.val % 128 by omega)⟩

theorem width0 : Ideal.ofBits .f32 0x40000000#32 = width 0 := by
  have e : width 0 = ((2 : ℝ) : EReal) := congrArg (fun x : ℝ => (x : EReal)) (show (2 : ℝ) ^ (0 + 1) = 2 by norm_num)
  rw [e]
  simp [Ideal.ofBits, Ideal.ieee, -EReal.coe_mul]; norm_num
theorem width1 : Ideal.ofBits .f32 0x40800000#32 = width 1 := by
  have e : width 1 = ((4 : ℝ) : EReal) := congrArg (fun x : ℝ => (x : EReal)) (show (2 : ℝ) ^ (1 + 1) = 4 by norm_num)
  rw [e]
  simp [Ideal.ofBits, Ideal.ieee, -EReal.coe_mul]; norm_num
theorem width2 : Ideal.ofBits .f32 0x41000000#32 = width 2 := by
  have e : width 2 = ((8 : ℝ) : EReal) := congrArg (fun x : ℝ => (x : EReal)) (show (2 : ℝ) ^ (2 + 1) = 8 by norm_num)
  rw [e]
  simp [Ideal.ofBits, Ideal.ieee, -EReal.coe_mul]; norm_num
theorem width3 : Ideal.ofBits .f32 0x41800000#32 = width 3 := by
  have e : width 3 = ((16 : ℝ) : EReal) := congrArg (fun x : ℝ => (x : EReal)) (show (2 : ℝ) ^ (3 + 1) = 16 by norm_num)
  rw [e]
  simp [Ideal.ofBits, Ideal.ieee, -EReal.coe_mul]; norm_num

section Payload

variable {F : FTy → Type} [FloatOps F]

/-- One row of one group as a matrix. -/
def mat (a : Vec F S1x128x128 .f32) : FVec F S128x128 .f32 := shapeCast S128x128 a shapeCasts_S1x128x128_S128x128

/-- A window's sum over the given number of rows, the newest row first. -/
def total (a : ℕ → Vec F S1x128x128 .f32) : ℕ → FVec F S128x128 .f32
  | 0 => mat (a 0)
  | n + 1 => addf (total a n) (mat (a (n + 1)))

/-- The group's averages less the newest row. -/
def avg (n : ℕ) (c : BitVec 32) (a : ℕ → Vec F S1x128x128 .f32) : FVec F S128x128 .f32 :=
  subf (divf (total a n) (broadcast S128x128 (Scalar.ofBits .f32 c))) (mat (a 0))

/-- The four groups side by side. -/
def cat (A : Fin 4 → FVec F S128x128 .f32) : FVec F S128x512 .f32 :=
  concatenate S128x512 1 [⟨S128x128, A 0⟩, ⟨S128x128, A 1⟩, ⟨S128x128, A 2⟩, ⟨S128x128, A 3⟩] concatenates_S128x128_S128x128_S128x128_S128x128_S128x512_d1

/-- A group's columns. -/
def part (o : ℕ) (h : S128x512.Slices ![0, o] S128x128) (v : FVec F S128x512 .f32) : FVec F S128x128 .bf16 :=
  truncf .bf16 (extractStridedSlice S128x128 ![0, o] v h) bitsLt_bf16_f32

/-- A group's columns times the group's weights. -/
def mixed (v : FVec F S128x128 .bf16) (w : Vec F S1x128x128 .bf16) : FVec F S128x128 .f32 :=
  matmul dot_S128x128_S128x128_S128x128_1_0_0_1_n_n none v (shapeCast S128x128 w shapeCasts_S1x128x128_S128x128 : FVec F S128x128 .bf16)
    (constant S128x128 .f32 0x00000000#32)

/-- The scaled row as it is stored. -/
def scaled (v : FVec F S128x512 .f32) (s : Vec F S1x512 .f32) : FVec F S1x128x512 .bf16 :=
  shapeCast S1x128x512 (truncf .bf16 (mulf v (broadcastTo S128x512 (shapeCast S1x512 s shapeCasts_S1x512_S1x512 : FVec F S1x512 .f32) broadcasts_S1x512_S128x512))
    bitsLt_bf16_f32) shapeCasts_S128x512_S1x128x512

/-- All that a store holds, from the row's windows. -/
def step (a : Fin 4 → ℕ → Vec F S1x128x128 .f32) (w : Fin 4 → Vec F S1x128x128 .bf16) (s : Vec F S1x512 .f32) : FVec F S1x128x512 .bf16 :=
  scaled (cat ![
    mixed (part 0 slices_S128x512_o0_0_S128x128 (cat ![avg 1 0x40000000#32 (a 0), avg 3 0x40800000#32 (a 1), avg 7 0x41000000#32 (a 2), avg 15 0x41800000#32 (a 3)])) (w 0),
    mixed (part 128 slices_S128x512_o0_128_S128x128 (cat ![avg 1 0x40000000#32 (a 0), avg 3 0x40800000#32 (a 1), avg 7 0x41000000#32 (a 2), avg 15 0x41800000#32 (a 3)])) (w 1),
    mixed (part 256 slices_S128x512_o0_256_S128x128 (cat ![avg 1 0x40000000#32 (a 0), avg 3 0x40800000#32 (a 1), avg 7 0x41000000#32 (a 2), avg 15 0x41800000#32 (a 3)])) (w 2),
    mixed (part 384 slices_S128x512_o0_384_S128x128 (cat ![avg 1 0x40000000#32 (a 0), avg 3 0x40800000#32 (a 1), avg 7 0x41000000#32 (a 2), avg 15 0x41800000#32 (a 3)])) (w 3)]) s

/-- The rows of a group as the kernel loads them, the row n of the sequence. -/
def tile (x0 : Vec F S15x128x512 .f32) (x1 : Vec F S4x128x512 .f32) (g : Fin 4) (n : ℕ) : Vec F S1x128x128 .f32 :=
  if h : n < 15 then View.ld x0 (Rect.unit (s := S15x128x512) ![n, 0, 128 * g.val] S1x128x128.size (by
      intro i
      match i with
      | ⟨0, _⟩ => exact (show n + 1 ≤ 15 by omega)
      | ⟨1, _⟩ => exact (show 0 + 128 ≤ 128 by omega)
      | ⟨2, _⟩ => exact (show 128 * g.val + 128 ≤ 512 by omega)))
  else View.ld x1 (Rect.unit (s := S4x128x512) ![(n - 15) % 4, 0, 128 * g.val] S1x128x128.size (by
      intro i
      match i with
      | ⟨0, _⟩ => exact (show (n - 15) % 4 + 1 ≤ 4 by omega)
      | ⟨1, _⟩ => exact (show 0 + 128 ≤ 128 by omega)
      | ⟨2, _⟩ => exact (show 128 * g.val + 128 ≤ 512 by omega)))

/-- A group's weights as the kernel loads them. -/
def wtile (x2 : Vec F S4x128x128 .bf16) (g : Fin 4) : Vec F S1x128x128 .bf16 :=
  View.ld x2 (Rect.unit (s := S4x128x128) ![g.val, 0, 0] S1x128x128.size (by
      intro i
      match i with
      | ⟨0, _⟩ => exact (show g.val + 1 ≤ 4 by omega)
      | ⟨1, _⟩ => exact (show 0 + 128 ≤ 128 by omega)
      | ⟨2, _⟩ => exact (show 0 + 128 ≤ 128 by omega)))

end Payload

theorem mat_apply (a : Vec Ideal S1x128x128 .f32) (b k : Fin 128) : (mat a (ix2 b k) : EReal) = a (ix3 0 b k) := by
  pointwise [mat]

theorem total_apply (a : ℕ → Vec Ideal S1x128x128 .f32) (n : ℕ) (b k : Fin 128) :
    (total a n (ix2 b k) : EReal) = ∑ j ∈ Finset.range (n + 1), (a j (ix3 0 b k) : EReal) := by
  induction n with
  | zero => rw [Finset.sum_range_one]; exact mat_apply _ b k
  | succ n ih => rw [Finset.sum_range_succ, ← ih]; exact congrArg (fun v : EReal => total a n (ix2 b k) + v) (mat_apply _ b k)

theorem avg_apply (n : ℕ) (c : BitVec 32) (a : ℕ → Vec Ideal S1x128x128 .f32) (b k : Fin 128) :
    (avg n c a (ix2 b k) : EReal)
      = Ideal.div (∑ j ∈ Finset.range (n + 1), (a j (ix3 0 b k) : EReal)) (Ideal.ofBits .f32 c) - a 0 (ix3 0 b k) := by
  exact congrArg₂ (fun u v : EReal => Ideal.div u (Ideal.ofBits .f32 c) - v) (total_apply a n b k) (mat_apply (a 0) b k)

theorem cat0 (A : Fin 4 → FVec Ideal S128x128 .f32) (b k : Fin 128) : (cat A (ix2 b ⟨k.val, by omega⟩) : EReal) = A 0 (ix2 b k) := by
  pointwise [cat]
theorem cat1 (A : Fin 4 → FVec Ideal S128x128 .f32) (b k : Fin 128) : (cat A (ix2 b ⟨128 + k.val, by omega⟩) : EReal) = A 1 (ix2 b k) := by
  pointwise [cat]
theorem cat2 (A : Fin 4 → FVec Ideal S128x128 .f32) (b k : Fin 128) : (cat A (ix2 b ⟨256 + k.val, by omega⟩) : EReal) = A 2 (ix2 b k) := by
  pointwise [cat]
  rw [dif_neg (by omega), dif_neg (by omega), dif_pos (by omega)]
  exact congrArg (fun i => (A 2 (ix2 b i) : EReal)) (Fin.ext (show 256 + k.val - 128 - 128 = k.val by omega))
theorem cat3 (A : Fin 4 → FVec Ideal S128x128 .f32) (b k : Fin 128) : (cat A (ix2 b ⟨384 + k.val, by omega⟩) : EReal) = A 3 (ix2 b k) := by
  pointwise [cat]
  rw [dif_neg (by omega), dif_neg (by omega), dif_neg (by omega)]
  exact congrArg (fun i => (A 3 (ix2 b i) : EReal)) (Fin.ext (show 384 + k.val - 128 - 128 - 128 = k.val by omega))

theorem cat_apply (A : Fin 4 → FVec Ideal S128x128 .f32) (g : Fin 4) (b k : Fin 128) : (cat A (ix2 b (col g k)) : EReal) = A g (ix2 b k) := by
  have e (o : ℕ) (h : 128 * g.val = o) (ho : o + k.val < 512) : col g k = ⟨o + k.val, ho⟩ := Fin.ext (show 128 * g.val + k.val = o + k.val by omega)
  match g, e with
  | 0, e => exact (congrArg (fun i => (cat A (ix2 b i) : EReal)) (Fin.ext (show 128 * 0 + k.val = k.val by omega))).trans (cat0 A b k)
  | 1, e => exact (congrArg (fun i => (cat A (ix2 b i) : EReal)) (e 128 rfl (by omega))).trans (cat1 A b k)
  | 2, e => exact (congrArg (fun i => (cat A (ix2 b i) : EReal)) (e 256 rfl (by omega))).trans (cat2 A b k)
  | 3, e => exact (congrArg (fun i => (cat A (ix2 b i) : EReal)) (e 384 rfl (by omega))).trans (cat3 A b k)

theorem part_apply (o : ℕ) (h : S128x512.Slices ![0, o] S128x128) (v : FVec Ideal S128x512 .f32) (g : Fin 4) (ho : o = 128 * g.val) (b k : Fin 128) :
    (part o h v (ix2 b k) : EReal) = v (ix2 b (col g k)) := by
  refine congrArg (v : S128x512.Idx → EReal) (funext fun i => ?_)
  match i with
  | ⟨0, _⟩ => exact Fin.ext (show 0 + b.val = b.val by omega)
  | ⟨1, _⟩ => exact Fin.ext (show o + k.val = 128 * g.val + k.val by omega)

theorem mixed_apply (v : FVec Ideal S128x128 .bf16) (w : Vec Ideal S1x128x128 .bf16) (b d : Fin 128) :
    (mixed v w (ix2 b d) : EReal) = ∑ k : Fin 128, (v (ix2 b k) : EReal) * w (ix3 0 k d) := by
  pointwise [mixed]

theorem scaled_apply (v : FVec Ideal S128x512 .f32) (s : Vec Ideal S1x512 .f32) (b : Fin 128) (c : Fin 512) :
    (scaled v s (ix3 0 b c) : EReal) = v (ix2 b c) * s (ix2 0 c) := by
  pointwise [scaled]

/-- Rows as the payload reads them, for the new row t. -/
def rows (x0 : Vec Ideal S15x128x512 .f32) (x1 : Vec Ideal S4x128x512 .f32) (t : ℕ) (g : Fin 4) (j : ℕ) : Vec Ideal S1x128x128 .f32 :=
  tile x0 x1 g (15 + t - j)

theorem tile_apply (x0 : Vec Ideal S15x128x512 .f32) (x1 : Vec Ideal S4x128x512 .f32) (g : Fin 4) (n : ℕ) (b k : Fin 128) :
    (tile x0 x1 g n (ix3 0 b k) : EReal) = past x0 x1 n b (col g k) := by
  unfold tile past
  by_cases h : n < 15
  · rw [dif_pos h, dif_pos h]
    refine congrArg (x0 : S15x128x512.Idx → EReal) (funext fun i => ?_)
    match i with
    | ⟨0, _⟩ => exact Fin.ext (show n + 1 * 0 = n by omega)
    | ⟨1, _⟩ => exact Fin.ext (show 0 + 1 * b.val = b.val by omega)
    | ⟨2, _⟩ => exact Fin.ext (show 128 * g.val + 1 * k.val = 128 * g.val + k.val by omega)
  · rw [dif_neg h, dif_neg h]
    refine congrArg (x1 : S4x128x512.Idx → EReal) (funext fun i => ?_)
    match i with
    | ⟨0, _⟩ => exact Fin.ext (show (n - 15) % 4 + 1 * 0 = (n - 15) % 4 by omega)
    | ⟨1, _⟩ => exact Fin.ext (show 0 + 1 * b.val = b.val by omega)
    | ⟨2, _⟩ => exact Fin.ext (show 128 * g.val + 1 * k.val = 128 * g.val + k.val by omega)

theorem wtile_apply (x2 : Vec Ideal S4x128x128 .bf16) (g : Fin 4) (k d : Fin 128) :
    (wtile x2 g (ix3 0 k d) : EReal) = x2 (ix3 g k d) := by
  refine congrArg (x2 : S4x128x128.Idx → EReal) (funext fun i => ?_)
  match i with
  | ⟨0, _⟩ => exact Fin.ext (show g.val + 1 * 0 = g.val by omega)
  | ⟨1, _⟩ => exact Fin.ext (show 0 + 1 * k.val = k.val by omega)
  | ⟨2, _⟩ => exact Fin.ext (show 0 + 1 * d.val = d.val by omega)

theorem avg_rows (n : ℕ) (c : BitVec 32) (g : Fin 4) (hn : n + 1 = 2 ^ (g.val + 1)) (hc : Ideal.ofBits .f32 c = width g)
    (x0 : Vec Ideal S15x128x512 .f32) (x1 : Vec Ideal S4x128x512 .f32) (t : ℕ) (b k : Fin 128) :
    (avg n c (rows x0 x1 t g) (ix2 b k) : EReal) = pooled (past x0 x1) t b g k := by
  refine (avg_apply n c _ b k).trans ?_
  rw [hc, hn]
  exact congrArg₂ (fun u v : EReal => Ideal.div u (width g) - v) (Finset.sum_congr rfl fun j _ => tile_apply x0 x1 g (15 + t - j) b k)
    (tile_apply x0 x1 g (15 + t) b k)

theorem cat_rows (x0 : Vec Ideal S15x128x512 .f32) (x1 : Vec Ideal S4x128x512 .f32) (t : ℕ) (g : Fin 4) (b k : Fin 128) :
    (cat ![avg 1 0x40000000#32 (rows x0 x1 t 0), avg 3 0x40800000#32 (rows x0 x1 t 1), avg 7 0x41000000#32 (rows x0 x1 t 2),
      avg 15 0x41800000#32 (rows x0 x1 t 3)] (ix2 b (col g k)) : EReal) = pooled (past x0 x1) t b g k := by
  refine (cat_apply _ g b k).trans ?_
  match g with
  | 0 => exact avg_rows 1 _ 0 rfl width0 x0 x1 t b k
  | 1 => exact avg_rows 3 _ 1 rfl width1 x0 x1 t b k
  | 2 => exact avg_rows 7 _ 2 rfl width2 x0 x1 t b k
  | 3 => exact avg_rows 15 _ 3 rfl width3 x0 x1 t b k

/-- A group's mixed columns. -/
theorem mixed_part (v : FVec Ideal S128x512 .f32) (x2 : Vec Ideal S4x128x128 .bf16) (o : ℕ) (h : S128x512.Slices ![0, o] S128x128) (g : Fin 4)
    (ho : o = 128 * g.val) (b d : Fin 128) :
    (mixed (part o h v) (wtile x2 g) (ix2 b d) : EReal) = ∑ k : Fin 128, (v (ix2 b (col g k)) : EReal) * x2 (ix3 g k d) :=
  (mixed_apply _ _ b d).trans (Finset.sum_congr rfl fun k _ => congrArg₂ (fun x y : EReal => x * y) (part_apply o h v g ho b k) (wtile_apply x2 g k d))

variable (v0 : Vec Ideal S15x128x512 .f32) (v1 : Vec Ideal S4x128x512 .f32) (v2 : Vec Ideal S4x128x128 .bf16) (v3 : Vec Ideal S1x512 .f32)

theorem step_apply (t : ℕ) (b : Fin 128) (g : Fin 4) (d : Fin 128) :
    (step (rows v0 v1 t) (wtile v2) v3 (ix3 0 b (col g d)) : EReal)
      = entry (past v0 v1) (fun g k d => (v2 (ix3 g k d) : EReal)) (fun c => (v3 (ix2 0 c) : EReal)) t b g d := by
  refine (scaled_apply _ _ b (col g d)).trans (congrArg (fun v : EReal => v * v3 (ix2 0 (col g d))) ((cat_apply _ g b d).trans ?_))
  refine Eq.trans (b := ∑ k : Fin 128, (cat ![avg 1 0x40000000#32 (rows v0 v1 t 0), avg 3 0x40800000#32 (rows v0 v1 t 1),
    avg 7 0x41000000#32 (rows v0 v1 t 2), avg 15 0x41800000#32 (rows v0 v1 t 3)] (ix2 b (col g k)) : EReal) * v2 (ix3 g k d)) ?_
    (Finset.sum_congr rfl fun k _ => congrArg (fun v : EReal => v * v2 (ix3 g k d)) (cat_rows v0 v1 t g b k))
  match g with
  | 0 => exact mixed_part _ v2 0 _ 0 rfl b d
  | 1 => exact mixed_part _ v2 128 _ 1 rfl b d
  | 2 => exact mixed_part _ v2 256 _ 2 rfl b d
  | 3 => exact mixed_part _ v2 384 _ 3 rfl b d

/-- The kernel's whole result. -/
def block : Vec Ideal S4x128x512 .bf16 :=
  arr (entry (past v0 v1) (fun g k d => (v2 (ix3 g k d) : EReal)) (fun c => (v3 (ix2 0 c) : EReal)))

/-- A new row's store holds its entries. -/
theorem rowP (t : Fin 4) (inb : ∀ i, (![t.val, 0, 0] : Fin 3 → ℕ) i + S1x128x512.size i ≤ S4x128x512.size i)
    (x : (Rect.unit (s := S4x128x512) ![t.val, 0, 0] S1x128x512.size inb).shape.Idx) :
    step (rows v0 v1 t.val) (wtile v2) (View.ld v3 r0_34) x = block v0 v1 v2 v3 ((Rect.unit (s := S4x128x512) ![t.val, 0, 0] S1x128x512.size inb).emb x) := by
  have e3 : View.ld (Val := Elt Ideal) v3 r0_34 = v3 := View.ld_unit_zero (by funext a; match a with | ⟨0, _⟩ => rfl | ⟨1, _⟩ => rfl) _ _
  rw [e3]
  revert x
  show ∀ x : S1x128x512.Idx, _
  intro x
  idx_vars x
  obtain ⟨g, d, rfl⟩ := exists_col x2
  obtain rfl : x0 = 0 := Subsingleton.elim _ _
  refine (step_apply v0 v1 v2 v3 t.val x1 g d).trans (Eq.trans (arr_apply _ t x1 g d).symm ?_)
  refine congrArg (block v0 v1 v2 v3 : S4x128x512.Idx → EReal) (funext fun i => ?_)
  match i with
  | ⟨0, _⟩ => exact Fin.ext (show t.val = t.val + 1 * 0 by omega)
  | ⟨1, _⟩ => exact Fin.ext (show x1.val = 0 + 1 * x1.val by omega)
  | ⟨2, _⟩ => exact Fin.ext (show 128 * g.val + d.val = 0 + 1 * (128 * g.val + d.val) by omega)

theorem out_eq : out0_4 v0 v1 v2 v3 = block v0 v1 v2 v3 := by
  funext y
  unfold_out out0_4
  refine View.canon_apply_of_pieces (Val := Elt Ideal) (block v0 v1 v2 v3) _ ?_ y (cover0_4 _ _ _ _ y)
  simp only [List.forall_mem_cons]
  refine ⟨rowP v0 v1 v2 v3 3 inb_S4x128x512_S1x128x512_3_0_0, rowP v0 v1 v2 v3 2 inb_S4x128x512_S1x128x512_2_0_0,
    rowP v0 v1 v2 v3 1 inb_S4x128x512_S1x128x512_1_0_0, rowP v0 v1 v2 v3 0 inb_S4x128x512_S1x128x512_0_0_0, fun _ h => absurd h List.not_mem_nil⟩

/-- The result: every new row's entries. -/
def result (st : FVec Ideal S15x128x512 .f32) (u : FVec Ideal S4x128x512 .f32) (w : FVec Ideal S4x128x128 .f32) (s : FVec Ideal S512 .f32) :
    FVec Ideal S4x128x512 .bf16 :=
  arr (entry (past st u) (fun g k d => (w (ix3 g k d) : EReal)) (fun c => (s (ix1 c) : EReal)))

variable (m : (ℓ : Loc nD τ sig) → Buf (Elt Ideal) ℓ)

theorem idx_eq : ∀ t : Fin cfg0.N, win0_0.index t = ![0, 0, 0] ∧ win0_1.index t = ![0, 0, 0] ∧ win0_2.index t = ![0, 0, 0]
    ∧ win0_3.index t = ![0, 0] ∧ win0_4.index t = ![0, 0, 0] :=
  (by decide +kernel : ∀ t : Fin grid0.N, win0_0.index t = ![0, 0, 0] ∧ win0_1.index t = ![0, 0, 0] ∧ win0_2.index t = ![0, 0, 0]
    ∧ win0_3.index t = ![0, 0] ∧ win0_4.index t = ![0, 0, 0])

theorem iblk0_apply (c : Dev nD) (t : Fin cfg0.N) (n : Fin 15) (b : Fin 128) (k : Fin 512) :
    (iblk m c 0 t : Vec Ideal S15x128x512 .f32) (ix3 n b k) = (m ((c.tc : Thread nD τ).loc main_arg0) : Vec Ideal S15x128x512 .f32) (ix3 n b k) := by
  obtain ⟨e0, e1, e2, e3, e4⟩ := idx_eq t
  blk_ext [iblk, V_main_arg0, e0]

theorem iblk1_apply (c : Dev nD) (t : Fin cfg0.N) (n : Fin 4) (b : Fin 128) (k : Fin 512) :
    (iblk m c 1 t : Vec Ideal S4x128x512 .f32) (ix3 n b k) = (m ((c.tc : Thread nD τ).loc main_arg1) : Vec Ideal S4x128x512 .f32) (ix3 n b k) := by
  obtain ⟨e0, e1, e2, e3, e4⟩ := idx_eq t
  blk_ext [iblk, V_main_arg1, e1]

theorem iblk2_apply (c : Dev nD) (t : Fin cfg0.N) (g : Fin 4) (k d : Fin 128) :
    ((iblk m c 2 t : Vec Ideal S4x128x128 .bf16) (ix3 g k d) : EReal) = (m ((c.tc : Thread nD τ).loc main_arg2) : Vec Ideal S4x128x128 .f32) (ix3 g k d) := by
  obtain ⟨e0, e1, e2, e3, e4⟩ := idx_eq t
  have hb : (iblk m c 2 t : Vec Ideal S4x128x128 .bf16) (ix3 g k d) = (V m c main_v0 : Vec Ideal S4x128x128 .bf16) (ix3 g k d) := by
    blk_ext [iblk, e2]
  rw [hb]
  entry_read
  rfl

theorem iblk3_apply (c : Dev nD) (t : Fin cfg0.N) (k : Fin 512) :
    (iblk m c 3 t : Vec Ideal S1x512 .f32) (ix2 0 k) = (m ((c.tc : Thread nD τ).loc main_arg3) : Vec Ideal S512 .f32) (ix1 k) := by
  obtain ⟨e0, e1, e2, e3, e4⟩ := idx_eq t
  have hb : (iblk m c 3 t : Vec Ideal S1x512 .f32) (ix2 0 k) = (V m c main_v1 : Vec Ideal S1x512 .f32) (ix2 0 k) := by
    blk_ext [iblk, e3]
  rw [hb]
  entry_read
  pointwise

theorem final (c : Dev nD) (st : FVec Ideal S15x128x512 .f32) (u : FVec Ideal S4x128x512 .f32) (w : FVec Ideal S4x128x128 .f32) (s : FVec Ideal S512 .f32)
    (est : m ((c.tc : Thread nD τ).loc main_arg0) = st) (eu : m ((c.tc : Thread nD τ).loc main_arg1) = u)
    (ew : m ((c.tc : Thread nD τ).loc main_arg2) = w) (es : m ((c.tc : Thread nD τ).loc main_arg3) = s) :
    (dats m 0 c).arrAt 4 cfg0.N = result st u w s := by
  subst est eu ew es
  refine (dats m 0 c).arrAt_eq_of_covers 4 _ (by decide +kernel) fun t hf y => ?_
  obtain ⟨e0, e1, e2, e3, e4⟩ := idx_eq t
  blk_simp
  rw [after0_4, out_eq]
  revert y
  show ∀ y : S4x128x512.Idx, block (iblk m c 0 t) (iblk m c 1 t) (iblk m c 2 t) (iblk m c 3 t) y = result _ _ _ _ ((win0_4.blk t).view.emb y)
  intro y
  idx_vars y
  generalize y0 = n
  generalize y1 = b
  generalize y2 = k
  have hr : (win0_4.blk t).view.emb (ix3 n b k) = (ix3 n b k : S4x128x512.Idx) := by blk_ext [e4]
  rw [hr]
  have f0 : past (iblk m c 0 t) (iblk m c 1 t) = past (m ((c.tc : Thread nD τ).loc main_arg0)) (m ((c.tc : Thread nD τ).loc main_arg1)) := by
    funext n b k
    unfold past
    by_cases h : n < 15
    · rw [dif_pos h, dif_pos h]; exact iblk0_apply m c t _ b k
    · rw [dif_neg h, dif_neg h]; exact iblk1_apply m c t _ b k
  have f2 : (fun (g : Fin 4) (k d : Fin 128) => ((iblk m c 2 t : Vec Ideal S4x128x128 .bf16) (ix3 g k d) : EReal)) =
      fun g k d => ((m ((c.tc : Thread nD τ).loc main_arg2) : Vec Ideal S4x128x128 .f32) (ix3 g k d) : EReal) := by
    funext g k d
    exact iblk2_apply m c t g k d
  have f3 : (fun k : Fin 512 => ((iblk m c 3 t : Vec Ideal S1x512 .f32) (ix2 0 k) : EReal)) =
      fun k => ((m ((c.tc : Thread nD τ).loc main_arg3) : Vec Ideal S512 .f32) (ix1 k) : EReal) := by
    funext k
    exact iblk3_apply m c t k
  unfold block result
  rw [f0, f2, f3]

end Cert.PoolKernel

end
-- ==== Proof.PoolSClaim.lean ====
/- The sample's pooling mixer: its kernel and its reference leave the same array. -/
module

public import proofs.«01_k».proof.Proof.PoolSKernel
public import proofs.«01_k».proof.Proof.Gen.PoolSRefIdeal.Run

@[expose] public section

set_option maxRecDepth 16384

noncomputable section

namespace Cert.PoolSClaim

open Idealize.ShloMosaic Idealize.ShloMosaic.TcCoe Idealize.SL.Sem
open Cert.PoolKernel (past col width pooled entry arr arr_apply exists_col)

section Ref
open Cert.PoolSRefIdeal Cert.PoolSRefIdeal.Gen Cert.PoolSRefIdeal.Value

section Terms
variable {F : FTy → Type} [FloatOps F]

/-- The older rows, then the new ones. -/
def ext (st : FVec F S15x128x512 .f32) (u : FVec F S4x128x512 .f32) : FVec F S19x128x512 .f32 :=
  concatenate S19x128x512 0 [⟨S15x128x512, st⟩, ⟨S4x128x512, u⟩] concatenates_S15x128x512_S4x128x512_S19x128x512_d0

/-- A group's columns in four rows one after another. -/
def cut (e : FVec F S19x128x512 .f32) (g : Fin 4) (n : ℕ) : FVec F S4x128x128 .f32 :=
  extractStridedSlice S4x128x128 ![n % 16, 0, 128 * g.val] e ⟨rfl, fun i => match i with
    | ⟨0, _⟩ => (show n % 16 + 4 ≤ 19 by omega)
    | ⟨1, _⟩ => (show 0 + 128 ≤ 128 by omega)
    | ⟨2, _⟩ => (show 128 * g.val + 128 ≤ 512 by omega)⟩

/-- A window's sum from its oldest row on. -/
def total (a : ℕ → FVec F S4x128x128 .f32) : ℕ → FVec F S4x128x128 .f32
  | 0 => a 0
  | n + 1 => addf (total a n) (a (n + 1))

/-- The number of rows averaged at each new row. -/
def count (c : BitVec 32) : FVec F S4 .f32 :=
  sitofp .f32 (minsi (addi (addi (broadcastInDim S4 ![] bcast_S_S4 (constantI S_ 32 16384#32)) (iotaInDim S4 32 0))
    (broadcastInDim S4 ![] bcast_S_S4 (constantI S_ 32 1#32))) (broadcastInDim S4 ![] bcast_S_S4 (constantI S_ 32 c)))

def spread (x : FVec F S4 .f32) : FVec F S4x128x128 .f32 :=
  broadcastInDim S4x128x128 ![0, 1, 2] bcast_S4x1x1_S4x128x128_0_1_2 (broadcastInDim S4x1x1 ![0] bcast_S4_S4x1x1_0 x)

/-- A group's averages. -/
def avg (e : FVec F S19x128x512 .f32) (g : Fin 4) (first n : ℕ) (c : BitVec 32) : FVec F S4x128x128 .f32 :=
  Host.divf (total (fun j => cut e g (first + j)) n) (spread (count c))

/-- The four groups side by side. -/
def cat (A : Fin 4 → FVec F S4x128x128 .f32) : FVec F S4x128x512 .f32 :=
  concatenate S4x128x512 2 [⟨S4x128x128, A 0⟩, ⟨S4x128x128, A 1⟩, ⟨S4x128x128, A 2⟩, ⟨S4x128x128, A 3⟩]
    concatenates_S4x128x128_S4x128x128_S4x128x128_S4x128x128_S4x128x512_d2

def avgs (e : FVec F S19x128x512 .f32) : FVec F S4x128x512 .f32 :=
  cat ![avg e 0 14 1 2#32, avg e 1 12 3 4#32, avg e 2 8 7 8#32, avg e 3 0 15 16#32]

/-- The groups mixed. -/
def mixed (x : FVec F S4x128x512 .f32) (w : FVec F S4x128x128 .f32) : FVec F S4x128x512 .f32 :=
  shapeCast _ (transpose S4x128x4x128 [2, 3, 0, 1] (Host.dotGeneral dot_S4x128x128_S4x128x4x128_S4x128x4x128_1_3_2_01_0_2 none w
    (shapeCast _ x shapeCasts_S4x128x512_S4x128x4x128)) transposes_S4x128x4x128_S4x128x4x128_2_3_0_1) shapeCasts_S4x128x4x128_S4x128x512

def scaled (x : FVec F S4x128x512 .f32) (s : FVec F S512 .f32) : FVec F S4x128x512 .bf16 :=
  truncf .bf16 (mulf x (broadcastInDim S4x128x512 ![0, 1, 2] bcast_S1x1x512_S4x128x512_0_1_2 (broadcastInDim S1x1x512 ![2] bcast_S512_S1x1x512_2 s)))
    bitsLt_bf16_f32

/-- The reference's result. -/
def out (st : FVec F S15x128x512 .f32) (u : FVec F S4x128x512 .f32) (w : FVec F S4x128x128 .f32) (s : FVec F S512 .f32) : FVec F S4x128x512 .bf16 :=
  scaled (mixed (subf (avgs (ext st u)) u) w) s

end Terms

theorem res_eq (m : (ℓ : Loc nD τ sig) → Buf (Elt Ideal) ℓ) (c : Dev nD) :
    res_main_v110 m c = out (F := Ideal) (m ((c.tc : Thread nD τ).loc main_arg0)) (m ((c.tc : Thread nD τ).loc main_arg1))
      (m ((c.tc : Thread nD τ).loc main_arg2)) (m ((c.tc : Thread nD τ).loc main_arg3)) := by
  unfold res_main_v110
  rfl

variable (st : FVec Ideal S15x128x512 .f32) (u : FVec Ideal S4x128x512 .f32) (w : FVec Ideal S4x128x128 .f32) (s : FVec Ideal S512 .f32)

theorem ext_apply (n : Fin 19) (b : Fin 128) (c : Fin 512) : (ext st u (ix3 n b c) : EReal) = past st u n.val b c := by
  unfold past
  pointwise [ext]
  split
  · rfl
  · exact congrArg (fun i => (u (ix3 i b c) : EReal)) (Fin.ext (show n.val - 15 = (n.val - 15) % 4 by omega))

theorem cut_apply (e : FVec Ideal S19x128x512 .f32) (g : Fin 4) (n : ℕ) (t : Fin 4) (b k : Fin 128) :
    (cut e g n (ix3 t b k) : EReal) = e (ix3 ⟨n % 16 + t.val, by omega⟩ b (col g k)) := by
  refine congrArg (e : S19x128x512.Idx → EReal) (funext fun i => ?_)
  match i with
  | ⟨0, _⟩ => rfl
  | ⟨1, _⟩ => exact Fin.ext (show 0 + b.val = b.val by omega)
  | ⟨2, _⟩ => rfl

theorem total_apply (a : ℕ → FVec Ideal S4x128x128 .f32) (n : ℕ) (t : Fin 4) (b k : Fin 128) :
    (total a n (ix3 t b k) : EReal) = ∑ j ∈ Finset.range (n + 1), (a j (ix3 t b k) : EReal) := by
  induction n with
  | zero => rw [Finset.sum_range_one]; rfl
  | succ n ih => rw [Finset.sum_range_succ, ← ih]; rfl

theorem spread_apply (x : FVec Ideal S4 .f32) (t : Fin 4) (b k : Fin 128) : (spread x (ix3 t b k) : EReal) = x (ix1 t) := by
  pointwise [spread]

theorem count_apply (c : BitVec 32) (g : Fin 4) (h : c.toInt = 2 ^ (g.val + 1))
    (hm : ∀ t : Fin 4, IntOp.minsi (IntOp.addi (IntOp.addi 16384#32 (BitVec.ofNat 32 t.val)) 1#32) c = c) (t : Fin 4) :
    (count (F := Ideal) c (ix1 t) : EReal) = width g := by
  have e : (count (F := Ideal) c (ix1 t) : EReal)
      = (((IntOp.minsi (IntOp.addi (IntOp.addi 16384#32 (BitVec.ofNat 32 t.val)) 1#32) c).toInt : ℝ) : EReal) := rfl
  rw [e, hm, h]
  unfold width
  push_cast
  rfl

theorem avg_apply (e : FVec Ideal S19x128x512 .f32) (g : Fin 4) (first n : ℕ) (c : BitVec 32) (hn : n + 1 = 2 ^ (g.val + 1)) (hf : first + n = 15)
    (h : c.toInt = 2 ^ (g.val + 1)) (hm : ∀ t : Fin 4, IntOp.minsi (IntOp.addi (IntOp.addi 16384#32 (BitVec.ofNat 32 t.val)) 1#32) c = c)
    (he : ∀ (n : Fin 19) (b : Fin 128) (k : Fin 512), (e (ix3 n b k) : EReal) = past st u n.val b k) (t : Fin 4) (b k : Fin 128) :
    (avg e g first n c (ix3 t b k) : EReal)
      = Ideal.div (∑ j ∈ Finset.range (2 ^ (g.val + 1)), past st u (15 + t.val - j) b (col g k)) (width g) := by
  refine congrArg₂ Ideal.div ((total_apply _ n t b k).trans ?_) ((spread_apply _ t b k).trans (count_apply c g h hm t))
  rw [← hn, ← Finset.sum_range_reflect]
  refine Finset.sum_congr rfl fun j hj => ?_
  have hj' : j < n + 1 := Finset.mem_range.mp hj
  refine (cut_apply e g _ t b k).trans ((he _ b (col g k)).trans ?_)
  exact congrArg (fun i => past st u i b (col g k)) (show (first + (n + 1 - 1 - j)) % 16 + t.val = 15 + t.val - j by omega)

theorem cat0 (A : Fin 4 → FVec Ideal S4x128x128 .f32) (t : Fin 4) (b k : Fin 128) : (cat A (ix3 t b ⟨k.val, by omega⟩) : EReal) = A 0 (ix3 t b k) := by
  pointwise [cat]
theorem cat1 (A : Fin 4 → FVec Ideal S4x128x128 .f32) (t : Fin 4) (b k : Fin 128) : (cat A (ix3 t b ⟨128 + k.val, by omega⟩) : EReal) = A 1 (ix3 t b k) := by
  pointwise [cat]
theorem cat2 (A : Fin 4 → FVec Ideal S4x128x128 .f32) (t : Fin 4) (b k : Fin 128) : (cat A (ix3 t b ⟨256 + k.val, by omega⟩) : EReal) = A 2 (ix3 t b k) := by
  pointwise [cat]
  rw [dif_neg (by omega), dif_neg (by omega), dif_pos (by omega)]
  exact congrArg (fun i => (A 2 (ix3 t b i) : EReal)) (Fin.ext (show 256 + k.val - 128 - 128 = k.val by omega))
theorem cat3 (A : Fin 4 → FVec Ideal S4x128x128 .f32) (t : Fin 4) (b k : Fin 128) : (cat A (ix3 t b ⟨384 + k.val, by omega⟩) : EReal) = A 3 (ix3 t b k) := by
  pointwise [cat]
  rw [dif_neg (by omega), dif_neg (by omega), dif_neg (by omega)]
  exact congrArg (fun i => (A 3 (ix3 t b i) : EReal)) (Fin.ext (show 384 + k.val - 128 - 128 - 128 = k.val by omega))

theorem cat_apply (A : Fin 4 → FVec Ideal S4x128x128 .f32) (g : Fin 4) (t : Fin 4) (b k : Fin 128) :
    (cat A (ix3 t b (col g k)) : EReal) = A g (ix3 t b k) := by
  have e (o : ℕ) (h : 128 * g.val = o) (ho : o + k.val < 512) : col g k = ⟨o + k.val, ho⟩ := Fin.ext (show 128 * g.val + k.val = o + k.val by omega)
  match g, e with
  | 0, e => exact (congrArg (fun i => (cat A (ix3 t b i) : EReal)) (Fin.ext (show 128 * 0 + k.val = k.val by omega))).trans (cat0 A t b k)
  | 1, e => exact (congrArg (fun i => (cat A (ix3 t b i) : EReal)) (e 128 rfl (by omega))).trans (cat1 A t b k)
  | 2, e => exact (congrArg (fun i => (cat A (ix3 t b i) : EReal)) (e 256 rfl (by omega))).trans (cat2 A t b k)
  | 3, e => exact (congrArg (fun i => (cat A (ix3 t b i) : EReal)) (e 384 rfl (by omega))).trans (cat3 A t b k)

theorem avgs_apply (g t : Fin 4) (b k : Fin 128) :
    (avgs (ext st u) (ix3 t b (col g k)) : EReal)
      = Ideal.div (∑ j ∈ Finset.range (2 ^ (g.val + 1)), past st u (15 + t.val - j) b (col g k)) (width g) := by
  refine (cat_apply _ g t b k).trans ?_
  match g with
  | 0 => exact avg_apply st u _ 0 14 1 2#32 rfl rfl (by decide) (by decide) (ext_apply st u) t b k
  | 1 => exact avg_apply st u _ 1 12 3 4#32 rfl rfl (by decide) (by decide) (ext_apply st u) t b k
  | 2 => exact avg_apply st u _ 2 8 7 8#32 rfl rfl (by decide) (by decide) (ext_apply st u) t b k
  | 3 => exact avg_apply st u _ 3 0 15 16#32 rfl rfl (by decide) (by decide) (ext_apply st u) t b k

theorem mixed_apply (x : FVec Ideal S4x128x512 .f32) (t : Fin 4) (b : Fin 128) (g : Fin 4) (d : Fin 128) :
    (mixed x w (ix3 t b (col g d)) : EReal) = ∑ k : Fin 128, (w (ix3 g k d) : EReal) * x (ix3 t b (col g k)) := by
  unfold col
  pointwise [mixed]
  exact Finset.sum_congr rfl fun k _ => congrArg (fun i => (w (ix3 g k d) : EReal) * x (ix3 t b i))
    (Fin.ext (show g.val * 128 + k.val = 128 * g.val + k.val by omega))

theorem scaled_apply (x : FVec Ideal S4x128x512 .f32) (t : Fin 4) (b : Fin 128) (c : Fin 512) :
    (scaled x s (ix3 t b c) : EReal) = x (ix3 t b c) * s (ix1 c) := by
  pointwise [scaled]

theorem ref_eq : out st u w s = PoolKernel.result st u w s := by
  funext y
  revert y
  show ∀ y : S4x128x512.Idx, _
  intro y
  idx_vars y
  obtain ⟨g, d, rfl⟩ := exists_col y2
  refine Eq.trans ?_ (arr_apply _ y0 y1 g d).symm
  refine (scaled_apply s _ y0 y1 (col g d)).trans (congrArg (fun v : EReal => v * s (ix1 (col g d))) ((mixed_apply w _ y0 y1 g d).trans ?_))
  refine Finset.sum_congr rfl fun k _ => (mul_comm _ _).trans (congrArg (fun v : EReal => v * w (ix3 g k d)) ?_)
  refine congrArg₂ (fun p q : EReal => p - q) (avgs_apply st u g y0 y1 k) ?_
  unfold past
  rw [dif_neg (by omega)]
  exact congrArg (fun i => (u (ix3 i y1 (col g k)) : EReal)) (Fin.ext (show y0.val = (15 + y0.val - 15) % 4 by omega))

end Ref

/-- Kernel and reference leave the same array. -/
theorem algebraic : Cert.algebraic_PoolSIdeal_PoolSRefIdeal := by
  intro m ρ m' ρ' hpre hag
  refine ⟨fun c => PoolKernel.result (m ((c.tc : Thread Cert.PoolSIdeal.nD Cert.PoolSIdeal.τ).loc Cert.PoolSIdeal.main_arg0))
    (m ((c.tc : Thread Cert.PoolSIdeal.nD Cert.PoolSIdeal.τ).loc Cert.PoolSIdeal.main_arg1))
    (m ((c.tc : Thread Cert.PoolSIdeal.nD Cert.PoolSIdeal.τ).loc Cert.PoolSIdeal.main_arg2))
    (m ((c.tc : Thread Cert.PoolSIdeal.nD Cert.PoolSIdeal.τ).loc Cert.PoolSIdeal.main_arg3)), ?_, ?_⟩
  · exact (θ_run Cert.PoolSIdeal.defs _ _).mono (fun _ h c => ⟨(h c).1.trans (PoolKernel.final m c _ _ _ _ rfl rfl rfl rfl), (h c).2⟩)
      (Cert.PoolSIdeal.Value.run_blocks (F := Ideal) m ρ)
  · refine (θ_run Cert.PoolSRefIdeal.defs _ _).mono (fun _ h c => ⟨(h c).1.trans ?_, (h c).2⟩)
      (Cert.PoolSRefIdeal.Value.run (F := Ideal) m' ρ')
    rw [res_eq, (hag c).1, (hag c).2.1, (hag c).2.2.1, (hag c).2.2.2]
    exact ref_eq _ _ _ _

end Cert.PoolSClaim

end
-- ==== Proof.ConvSKernel.lean ====
/- The sample's two convolutions: what the kernel leaves, entry by entry. -/
module

public import proofs.«01_k».proof.Defs
public import proofs.«01_k».proof.Proof.MlpSpec
public import proofs.«01_k».proof.Proof.Gen.ConvSIdeal.Value
public import Idealize.ShloMosaic.Lib.Claim
public import Idealize.ShloMosaic.Lib.Pointwise
public import Idealize.ShloMosaic.Lib.IdealHost
public import Idealize.ShloMosaic.Lib.Pipeline.ValueKit

@[expose] public section

set_option maxRecDepth 16384

noncomputable section

namespace Cert.ConvKernel

open Idealize.ShloMosaic Idealize.ShloMosaic.TcCoe Idealize.SL.Sem
open Cert.ConvSIdeal Cert.ConvSIdeal.Gen

/-- The row n of a sequence: the older rows, then the four new ones. -/
def past {B : ℕ} (N : ℕ) (st : Fin N → Fin B → Fin 1024 → EReal) (u : Fin 4 → Fin B → Fin 1024 → EReal) (b : Fin B) (n : ℕ) (c : Fin 1024) : EReal :=
  if h : n < N then st ⟨n, h⟩ b c else u ⟨(n - N) % 4, by omega⟩ b c

/-- A convolution's weight. -/
def tap (N : ℕ) (h : 0 < N) (w : Fin N → Fin 1024 → EReal) (j : ℕ) (c : Fin 1024) : EReal := w ⟨j % N, Nat.mod_lt _ h⟩ c

/-- The convolution of N taps, column by column. -/
def conv (N : ℕ) (e w : ℕ → Fin 1024 → EReal) (t : ℕ) (c : Fin 1024) : EReal := ∑ j ∈ Finset.range N, e (t + j) c * w j c

def mean (y : Fin 1024 → EReal) : EReal := Ideal.div (∑ k : Fin 1024, y k) (Ideal.ofBits .f32 0x44800000#32)

/-- A row's entry less the row's mean. -/
def centred (y : Fin 1024 → EReal) (c : Fin 1024) : EReal := y c - mean y

/-- A centred row's entry divided by the row's deviation, with gain and offset. -/
def scale (y g b : Fin 1024 → EReal) (c : Fin 1024) : EReal :=
  y c * Ideal.rsqrt (mean (fun k => y k * y k) + Ideal.ofBits .f32 0x358637BD#32) * g c + b c

def silu (z : EReal) : EReal := z * Spec.gate z

/-- The first half of a result's row: the layer norm of the convolution, through the gate. -/
def left (e w : ℕ → Fin 1024 → EReal) (cb lg lb : Fin 1024 → EReal) (t : ℕ) (c : Fin 1024) : EReal :=
  silu (scale (centred fun k => conv 31 e w t k + cb k) lg lb c)

/-- The second half: the short convolution, gated. -/
def right (e w : ℕ → Fin 1024 → EReal) (bg : Fin 1024 → EReal) (t : ℕ) (c : Fin 1024) : EReal := bg c * conv 3 e w t c

/-- An entry of the result. -/
def entry {B : ℕ} (cst : Fin 30 → Fin B → Fin 1024 → EReal) (sst : Fin 2 → Fin B → Fin 1024 → EReal) (glu cgh bg : Fin 4 → Fin B → Fin 1024 → EReal)
    (cw : Fin 31 → Fin 1024 → EReal) (cb lg lb : Fin 1024 → EReal) (sw : Fin 3 → Fin 1024 → EReal) (t : Fin 4) (b : Fin B) (c : Fin 2048) : EReal :=
  if h : c.val < 1024 then left (past 30 cst glu b) (tap 31 (by decide) cw) cb lg lb t.val ⟨c.val, h⟩
  else right (past 2 sst cgh b) (tap 3 (by decide) sw) (bg t b) t.val ⟨c.val - 1024, by omega⟩

section Payload

variable {F : FTy → Type} [FloatOps F]

/-- One row of the sequences as a matrix. -/
def mat (a : Vec F S1x32x1024 .f32) : FVec F S32x1024 .f32 := shapeCast S32x1024 a shapeCasts_S1x32x1024_S32x1024

def spread (w : FVec F S1x1024 .f32) : FVec F S32x1024 .f32 := broadcastTo S32x1024 w broadcasts_S1x1024_S32x1024

def same (w : Vec F S1x1024 .f32) : FVec F S1x1024 .f32 := shapeCast S1x1024 w shapeCasts_S1x1024_S1x1024

/-- The convolution's sum, the oldest row first. -/
def total (a : ℕ → Vec F S1x32x1024 .f32) (w : ℕ → Vec F S1x1024 .f32) : ℕ → FVec F S32x1024 .f32
  | 0 => mulf (mat (a 0)) (spread (w 0))
  | n + 1 => addf (total a w n) (mulf (mat (a (n + 1))) (spread (w (n + 1))))

def rowMean (y : FVec F S32x1024 .f32) : FVec F S32x1 .f32 :=
  divf (shapeCast S32x1 (multiReduction .add [1] S32 y 0x00000000#32 reduces_S32x1024_S32 (.inl rfl) rfl) shapeCasts_S32_S32x1)
    (broadcast S32x1 (Scalar.ofBits .f32 0x44800000#32))

def centre (y : FVec F S32x1024 .f32) : FVec F S32x1024 .f32 :=
  subf y (broadcastTo S32x1024 (rowMean y) broadcasts_S32x1_S32x1024)

def scaled (y : FVec F S32x1024 .f32) (q : FVec F S32x1 .f32) (g b : FVec F S1x1024 .f32) : FVec F S32x1024 .f32 :=
  addf (mulf (mulf y (broadcastTo S32x1024 (rsqrt (addf q (broadcast S32x1 (Scalar.ofBits .f32 0x358637BD#32)))) broadcasts_S32x1_S32x1024)) (spread g))
    (spread b)

def store (y : FVec F S32x1024 .f32) : FVec F S1x32x1024 .bf16 :=
  shapeCast S1x32x1024 (truncf .bf16 y bitsLt_bf16_f32) shapeCasts_S32x1024_S1x32x1024

def gated (z : FVec F S32x1024 .f32) : FVec F S32x1024 .f32 := mulf z (logistic z)

/-- What the first half's store holds, from the biased convolution. -/
def normed (y : FVec F S32x1024 .f32) (g b : FVec F S1x1024 .f32) : FVec F S1x32x1024 .bf16 :=
  store (gated (scaled (centre y) (rowMean (mulf (centre y) (centre y))) g b))

def stepL (a : ℕ → Vec F S1x32x1024 .f32) (w : ℕ → Vec F S1x1024 .f32) (cb lg lb : Vec F S1x1024 .f32) : FVec F S1x32x1024 .bf16 :=
  normed (addf (total a w 30) (spread (same cb))) (same lg) (same lb)

/-- What the second half's store holds. -/
def stepR (a : ℕ → Vec F S1x32x1024 .f32) (w : ℕ → Vec F S1x1024 .f32) (bg : Vec F S1x32x1024 .f32) : FVec F S1x32x1024 .bf16 :=
  store (mulf (mat bg) (total a w 2))

/-- A row of an array as the kernel loads it. -/
def load (N : ℕ) (x : Vec F (⟨3, ![N, 32, 1024]⟩ : Shape) .f32) (n : ℕ) (h : n < N) : Vec F S1x32x1024 .f32 :=
  View.ld x (Rect.unit (s := (⟨3, ![N, 32, 1024]⟩ : Shape)) ![n, 0, 0] S1x32x1024.size (by
      intro i
      match i with
      | ⟨0, _⟩ => exact (show n + 1 ≤ N by omega)
      | ⟨1, _⟩ => exact (show 0 + 32 ≤ 32 by omega)
      | ⟨2, _⟩ => exact (show 0 + 1024 ≤ 1024 by omega)))

/-- The row n of the sequences as the kernel loads it. -/
def tile (N : ℕ) (x : Vec F (⟨3, ![N, 32, 1024]⟩ : Shape) .f32) (y : Vec F S4x32x1024 .f32) (n : ℕ) : Vec F S1x32x1024 .f32 :=
  if h : n < N then load N x n h else load 4 y ((n - N) % 4) (by omega)

/-- A row of weights as the kernel loads it. -/
def wtile (N : ℕ) (hN : 0 < N) (w : Vec F (⟨2, ![N, 1024]⟩ : Shape) .f32) (j : ℕ) : Vec F S1x1024 .f32 :=
  View.ld w (Rect.unit (s := (⟨2, ![N, 1024]⟩ : Shape)) ![j % N, 0] S1x1024.size (by
      intro i
      have h := Nat.mod_lt j hN
      match i with
      | ⟨0, _⟩ => exact (show j % N + 1 ≤ N by omega)
      | ⟨1, _⟩ => exact (show 0 + 1024 ≤ 1024 by omega)))

end Payload

theorem mat_apply (a : Vec Ideal S1x32x1024 .f32) (b : Fin 32) (k : Fin 1024) : (mat a (ix2 b k) : EReal) = a (ix3 0 b k) := by
  pointwise [mat]

theorem spread_apply (w : FVec Ideal S1x1024 .f32) (b : Fin 32) (k : Fin 1024) : (spread w (ix2 b k) : EReal) = w (ix2 0 k) := by
  pointwise [spread]

theorem same_eq (w : Vec Ideal S1x1024 .f32) (k : Fin 1024) : (same w (ix2 0 k) : EReal) = w (ix2 0 k) := by
  pointwise [same]

theorem total_apply (a : ℕ → Vec Ideal S1x32x1024 .f32) (w : ℕ → Vec Ideal S1x1024 .f32) (n : ℕ) (b : Fin 32) (k : Fin 1024) :
    (total a w n (ix2 b k) : EReal) = ∑ j ∈ Finset.range (n + 1), (a j (ix3 0 b k) : EReal) * w j (ix2 0 k) := by
  have term (j : ℕ) : (mulf (mat (a j)) (spread (w j)) (ix2 b k) : EReal) = (a j (ix3 0 b k) : EReal) * w j (ix2 0 k) :=
    congrArg₂ (fun u v : EReal => u * v) (mat_apply (a j) b k) (spread_apply (w j) b k)
  induction n with
  | zero => rw [Finset.sum_range_one]; exact term 0
  | succ n ih => rw [Finset.sum_range_succ, ← ih]; exact congrArg (fun v : EReal => total a w n (ix2 b k) + v) (term (n + 1))

theorem rowMean_apply (y : FVec Ideal S32x1024 .f32) (b : Fin 32) : (rowMean y (ix2 b 0) : EReal) = mean (fun k => (y (ix2 b k) : EReal)) := by
  unfold mean
  pointwise [rowMean]

theorem centre_apply (y : FVec Ideal S32x1024 .f32) (b : Fin 32) (k : Fin 1024) :
    (centre y (ix2 b k) : EReal) = centred (fun k => (y (ix2 b k) : EReal)) k := by
  unfold centred
  rw [← rowMean_apply]
  unfold centre
  generalize rowMean y = q
  pointwise

theorem scaled_apply (y : FVec Ideal S32x1024 .f32) (g o : FVec Ideal S1x1024 .f32) (b : Fin 32) (k : Fin 1024) :
    (scaled y (rowMean (mulf y y)) g o (ix2 b k) : EReal) = scale (fun k => (y (ix2 b k) : EReal)) (fun k => (g (ix2 0 k) : EReal)) (fun k => (o (ix2 0 k) : EReal)) k := by
  unfold scale
  have e := rowMean_apply (mulf y y) b
  have e' : (fun k => (mulf y y (ix2 b k) : EReal)) = fun k => (y (ix2 b k) : EReal) * y (ix2 b k) := rfl
  rw [e'] at e
  rw [← e]
  generalize rowMean (mulf y y) = q
  pointwise [scaled, spread]

theorem store_apply (y : FVec Ideal S32x1024 .f32) (b : Fin 32) (k : Fin 1024) : (store y (ix3 0 b k) : EReal) = y (ix2 b k) := by
  pointwise [store]

theorem gated_apply (z : FVec Ideal S32x1024 .f32) (b : Fin 32) (k : Fin 1024) : (gated z (ix2 b k) : EReal) = silu (z (ix2 b k)) := by
  unfold silu Spec.gate
  pointwise [gated]
  rfl

theorem normed_apply (y : FVec Ideal S32x1024 .f32) (g o : FVec Ideal S1x1024 .f32) (b : Fin 32) (k : Fin 1024) :
    (normed y g o (ix3 0 b k) : EReal)
      = silu (scale (centred fun k => (y (ix2 b k) : EReal)) (fun k => (g (ix2 0 k) : EReal)) (fun k => (o (ix2 0 k) : EReal)) k) := by
  refine (store_apply _ b k).trans ((gated_apply _ b k).trans (congrArg silu ((scaled_apply _ g o b k).trans ?_)))
  exact congrArg (fun y => scale y _ _ k) (funext fun k => centre_apply y b k)

theorem load_apply (N : ℕ) (x : Vec Ideal (⟨3, ![N, 32, 1024]⟩ : Shape) .f32) (n : ℕ) (h : n < N) (b : Fin 32) (k : Fin 1024) :
    (load N x n h (ix3 0 b k) : EReal) = x (ix3 ⟨n, h⟩ b k) := by
  refine congrArg (x : (⟨3, ![N, 32, 1024]⟩ : Shape).Idx → EReal) (funext fun i => ?_)
  match i with
  | ⟨0, _⟩ => exact Fin.ext (show n + 1 * 0 = n by omega)
  | ⟨1, _⟩ => exact Fin.ext (show 0 + 1 * b.val = b.val by omega)
  | ⟨2, _⟩ => exact Fin.ext (show 0 + 1 * k.val = k.val by omega)

theorem tile_apply (N : ℕ) (x : Vec Ideal (⟨3, ![N, 32, 1024]⟩ : Shape) .f32) (y : Vec Ideal S4x32x1024 .f32) (n : ℕ) (b : Fin 32) (k : Fin 1024) :
    (tile N x y n (ix3 0 b k) : EReal) = past N (fun n b k => (x (ix3 n b k) : EReal)) (fun n b k => (y (ix3 n b k) : EReal)) b n k := by
  unfold tile past
  by_cases h : n < N
  · rw [dif_pos h, dif_pos h]; exact load_apply N x n h b k
  · rw [dif_neg h, dif_neg h]; exact load_apply 4 y _ _ b k

theorem wtile_apply (N : ℕ) (hN : 0 < N) (w : Vec Ideal (⟨2, ![N, 1024]⟩ : Shape) .f32) (j : ℕ) (k : Fin 1024) :
    (wtile N hN w j (ix2 0 k) : EReal) = tap N hN (fun j k => (w (ix2 j k) : EReal)) j k := by
  refine congrArg (w : (⟨2, ![N, 1024]⟩ : Shape).Idx → EReal) (funext fun i => ?_)
  match i with
  | ⟨0, _⟩ => exact Fin.ext (show j % N + 1 * 0 = j % N by omega)
  | ⟨1, _⟩ => exact Fin.ext (show 0 + 1 * k.val = k.val by omega)

/-- The convolution's sum over the loaded rows. -/
theorem total_conv (N M n : ℕ) (hn : n + 1 = M) (hM : 0 < M) (x : Vec Ideal (⟨3, ![N, 32, 1024]⟩ : Shape) .f32) (y : Vec Ideal S4x32x1024 .f32)
    (w : Vec Ideal (⟨2, ![M, 1024]⟩ : Shape) .f32) (t : ℕ) (b : Fin 32) (k : Fin 1024) :
    (total (fun j => tile N x y (t + j)) (wtile M hM w) n (ix2 b k) : EReal)
      = conv M (past N (fun n b k => (x (ix3 n b k) : EReal)) (fun n b k => (y (ix3 n b k) : EReal)) b) (tap M hM fun j k => (w (ix2 j k) : EReal)) t k := by
  refine (total_apply _ _ n b k).trans ?_
  rw [hn]
  exact Finset.sum_congr rfl fun j _ => congrArg₂ (fun u v : EReal => u * v) (tile_apply N x y (t + j) b k) (wtile_apply M hM w j k)

variable (v0 : Vec Ideal S30x32x1024 .f32) (v1 : Vec Ideal S2x32x1024 .f32) (v2 v3 v4 : Vec Ideal S4x32x1024 .f32) (v5 : Vec Ideal S31x1024 .f32)
  (v6 v7 v8 : Vec Ideal S1x1024 .f32) (v9 : Vec Ideal S3x1024 .f32)

/-- The kernel's block of the result. -/
def block : Vec Ideal S4x32x2048 .bf16 := fun y =>
  entry (fun n b k => (v0 (ix3 n b k) : EReal)) (fun n b k => (v1 (ix3 n b k) : EReal)) (fun n b k => (v2 (ix3 n b k) : EReal))
    (fun n b k => (v3 (ix3 n b k) : EReal)) (fun n b k => (v4 (ix3 n b k) : EReal)) (fun n k => (v5 (ix2 n k) : EReal)) (fun k => (v6 (ix2 0 k) : EReal))
    (fun k => (v7 (ix2 0 k) : EReal)) (fun k => (v8 (ix2 0 k) : EReal)) (fun n k => (v9 (ix2 n k) : EReal)) (y 0) (y 1) (y 2)

/-- A new row's first half. -/
theorem leftP (t : Fin 4) (inb : ∀ i, (![t.val, 0, 0] : Fin 3 → ℕ) i + S1x32x1024.size i ≤ S4x32x2048.size i)
    (x : (Rect.unit (s := S4x32x2048) ![t.val, 0, 0] S1x32x1024.size inb).shape.Idx) :
    stepL (fun j => tile 30 v0 v2 (t.val + j)) (wtile 31 (by decide) v5) (View.ld v6 r0_62) (View.ld v7 r0_62) (View.ld v8 r0_62) x
      = block v0 v1 v2 v3 v4 v5 v6 v7 v8 v9 ((Rect.unit (s := S4x32x2048) ![t.val, 0, 0] S1x32x1024.size inb).emb x) := by
  have e (v : Vec Ideal S1x1024 .f32) : View.ld (Val := Elt Ideal) v r0_62 = v :=
    View.ld_unit_zero (by funext a; match a with | ⟨0, _⟩ => rfl | ⟨1, _⟩ => rfl) _ _
  rw [e v6, e v7, e v8]
  revert x
  show ∀ x : S1x32x1024.Idx, _
  intro x
  idx_vars x
  obtain rfl : x0 = 0 := Subsingleton.elim _ _
  have hr : (Rect.unit (s := S4x32x2048) ![t.val, 0, 0] S1x32x1024.size inb).emb (ix3 0 x1 x2) = (ix3 t x1 ⟨x2.val, by omega⟩ : S4x32x2048.Idx) :=
    funext fun i => match i with
      | ⟨0, _⟩ => Fin.ext (show t.val + 1 * 0 = t.val by omega)
      | ⟨1, _⟩ => Fin.ext (show 0 + 1 * x1.val = x1.val by omega)
      | ⟨2, _⟩ => Fin.ext (show 0 + 1 * x2.val = x2.val by omega)
  rw [hr]
  refine (normed_apply _ _ _ x1 x2).trans (Eq.trans ?_ (dif_pos x2.isLt).symm)
  unfold left
  have hc : (fun k => (addf (total (fun j => tile 30 v0 v2 (t.val + j)) (wtile 31 (by decide) v5) 30) (spread (same v6)) (ix2 x1 k) : EReal))
      = fun k => conv 31 (past 30 (fun n b k => (v0 (ix3 n b k) : EReal)) (fun n b k => (v2 (ix3 n b k) : EReal)) x1)
        (tap 31 (by decide) fun j k => (v5 (ix2 j k) : EReal)) t.val k + v6 (ix2 0 k) :=
    funext fun k => congrArg₂ (fun u v : EReal => u + v) (total_conv 30 31 30 rfl (by decide) v0 v2 v5 t.val x1 k)
      ((spread_apply _ x1 k).trans (same_eq v6 k))
  rw [hc]
  exact congrArg₂ (fun g o => silu (scale _ g o x2)) (funext fun k => same_eq v7 k) (funext fun k => same_eq v8 k)

/-- A new row's second half. -/
theorem rightP (t : Fin 4) (inb : ∀ i, (![t.val, 0, 1024] : Fin 3 → ℕ) i + S1x32x1024.size i ≤ S4x32x2048.size i)
    (x : (Rect.unit (s := S4x32x2048) ![t.val, 0, 1024] S1x32x1024.size inb).shape.Idx) :
    stepR (fun j => tile 2 v1 v3 (t.val + j)) (wtile 3 (by decide) v9) (load 4 v4 t.val t.isLt) x
      = block v0 v1 v2 v3 v4 v5 v6 v7 v8 v9 ((Rect.unit (s := S4x32x2048) ![t.val, 0, 1024] S1x32x1024.size inb).emb x) := by
  revert x
  show ∀ x : S1x32x1024.Idx, _
  intro x
  idx_vars x
  obtain rfl : x0 = 0 := Subsingleton.elim _ _
  have hr : (Rect.unit (s := S4x32x2048) ![t.val, 0, 1024] S1x32x1024.size inb).emb (ix3 0 x1 x2) = (ix3 t x1 ⟨1024 + x2.val, by omega⟩ : S4x32x2048.Idx) :=
    funext fun i => match i with
      | ⟨0, _⟩ => Fin.ext (show t.val + 1 * 0 = t.val by omega)
      | ⟨1, _⟩ => Fin.ext (show 0 + 1 * x1.val = x1.val by omega)
      | ⟨2, _⟩ => Fin.ext (show 1024 + 1 * x2.val = 1024 + x2.val by omega)
  rw [hr]
  refine (store_apply _ x1 x2).trans (Eq.trans ?_ (dif_neg (show ¬ (1024 + x2.val < 1024) by omega)).symm)
  have hx : (⟨1024 + x2.val - 1024, by omega⟩ : Fin 1024) = x2 := Fin.ext (show 1024 + x2.val - 1024 = x2.val by omega)
  refine Eq.trans ?_ (congrArg (right (past 2 (fun n b k => (v1 (ix3 n b k) : EReal)) (fun n b k => (v3 (ix3 n b k) : EReal)) x1)
    (tap 3 (by decide) fun j k => (v9 (ix2 j k) : EReal)) (fun k => (v4 (ix3 t x1 k) : EReal)) t.val) hx).symm
  exact congrArg₂ (fun u v : EReal => u * v) ((mat_apply _ x1 x2).trans (load_apply 4 v4 t.val t.isLt x1 x2))
    (total_conv 2 3 2 rfl (by decide) v1 v3 v9 t.val x1 x2)

theorem out_eq : out0_10 v0 v1 v2 v3 v4 v5 v6 v7 v8 v9 = block v0 v1 v2 v3 v4 v5 v6 v7 v8 v9 := by
  funext y
  unfold_out out0_10
  refine View.canon_apply_of_pieces (Val := Elt Ideal) (block v0 v1 v2 v3 v4 v5 v6 v7 v8 v9) _ ?_ y (cover0_10 _ _ _ _ _ _ _ _ y)
  simp only [List.forall_mem_cons]
  refine ⟨rightP v0 v1 v2 v3 v4 v5 v6 v7 v8 v9 3 inb_S4x32x2048_S1x32x1024_3_0_1024, leftP v0 v1 v2 v3 v4 v5 v6 v7 v8 v9 3 inb_S4x32x2048_S1x32x1024_3_0_0,
    rightP v0 v1 v2 v3 v4 v5 v6 v7 v8 v9 2 inb_S4x32x2048_S1x32x1024_2_0_1024, leftP v0 v1 v2 v3 v4 v5 v6 v7 v8 v9 2 inb_S4x32x2048_S1x32x1024_2_0_0,
    rightP v0 v1 v2 v3 v4 v5 v6 v7 v8 v9 1 inb_S4x32x2048_S1x32x1024_1_0_1024, leftP v0 v1 v2 v3 v4 v5 v6 v7 v8 v9 1 inb_S4x32x2048_S1x32x1024_1_0_0,
    rightP v0 v1 v2 v3 v4 v5 v6 v7 v8 v9 0 inb_S4x32x2048_S1x32x1024_0_0_1024, leftP v0 v1 v2 v3 v4 v5 v6 v7 v8 v9 0 inb_S4x32x2048_S1x32x1024_0_0_0,
    fun _ h => absurd h List.not_mem_nil⟩

/-- The result: every new row's entries. -/
def result (cst : FVec Ideal S30x128x1024 .f32) (sst : FVec Ideal S2x128x1024 .f32) (glu cgh bg : FVec Ideal S4x128x1024 .f32)
    (cw : FVec Ideal S31x1024 .f32) (cb lg lb : FVec Ideal S1024 .f32) (sw : FVec Ideal S3x1024 .f32) : FVec Ideal S4x128x2048 .bf16 := fun y =>
  entry (fun n b k => (cst (ix3 n b k) : EReal)) (fun n b k => (sst (ix3 n b k) : EReal)) (fun n b k => (glu (ix3 n b k) : EReal))
    (fun n b k => (cgh (ix3 n b k) : EReal)) (fun n b k => (bg (ix3 n b k) : EReal)) (fun n k => (cw (ix2 n k) : EReal)) (fun k => (cb (ix1 k) : EReal))
    (fun k => (lg (ix1 k) : EReal)) (fun k => (lb (ix1 k) : EReal)) (fun n k => (sw (ix2 n k) : EReal)) (y 0) (y 1) (y 2)

variable (m : (ℓ : Loc nD τ sig) → Buf (Elt Ideal) ℓ)

theorem idx_eq : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0]
    ∧ win0_5.index t = ![0, 0] ∧ win0_6.index t = ![0, 0] ∧ win0_7.index t = ![0, 0] ∧ win0_8.index t = ![0, 0] ∧ win0_9.index t = ![0, 0] ∧ win0_10.index t = ![0, t.val, 0] :=
  (by decide +kernel : ∀ t : Fin grid0.N, win0_0.index t = ![0, t.val, 0] ∧ win0_1.index t = ![0, t.val, 0] ∧ win0_2.index t = ![0, t.val, 0] ∧ win0_3.index t = ![0, t.val, 0] ∧ win0_4.index t = ![0, t.val, 0]
    ∧ win0_5.index t = ![0, 0] ∧ win0_6.index t = ![0, 0] ∧ win0_7.index t = ![0, 0] ∧ win0_8.index t = ![0, 0] ∧ win0_9.index t = ![0, 0] ∧ win0_10.index t = ![0, t.val, 0])

/-- The sequence that a block's sequence is. -/
def seqOf (t : Fin cfg0.N) (b : Fin 32) : Fin 128 := ⟨t.val * 32 + b.val, by have h : t.val < 4 := t.isLt; omega⟩

theorem iblk0_apply (c : Dev nD) (t : Fin cfg0.N) (n : Fin 30) (b : Fin 32) (k : Fin 1024) :
    (iblk m c 0 t : Vec Ideal S30x32x1024 .f32) (ix3 n b k) = (m ((c.tc : Thread nD τ).loc main_arg0) : Vec Ideal S30x128x1024 .f32) (ix3 n (seqOf t b) k) := by
  obtain ⟨e0, e1, e2, e3, e4, e5, e6, e7, e8, e9, e10⟩ := idx_eq t
  unfold seqOf
  blk_ext [iblk, V_main_arg0, e0]

theorem iblk1_apply (c : Dev nD) (t : Fin cfg0.N) (n : Fin 2) (b : Fin 32) (k : Fin 1024) :
    (iblk m c 1 t : Vec Ideal S2x32x1024 .f32) (ix3 n b k) = (m ((c.tc : Thread nD τ).loc main_arg1) : Vec Ideal S2x128x1024 .f32) (ix3 n (seqOf t b) k) := by
  obtain ⟨e0, e1, e2, e3, e4, e5, e6, e7, e8, e9, e10⟩ := idx_eq t
  unfold seqOf
  blk_ext [iblk, V_main_arg1, e1]

theorem iblk2_apply (c : Dev nD) (t : Fin cfg0.N) (n : Fin 4) (b : Fin 32) (k : Fin 1024) :
    (iblk m c 2 t : Vec Ideal S4x32x1024 .f32) (ix3 n b k) = (m ((c.tc : Thread nD τ).loc main_arg2) : Vec Ideal S4x128x1024 .f32) (ix3 n (seqOf t b) k) := by
  obtain ⟨e0, e1, e2, e3, e4, e5, e6, e7, e8, e9, e10⟩ := idx_eq t
  unfold seqOf
  blk_ext [iblk, V_main_arg2, e2]

theorem iblk3_apply (c : Dev nD) (t : Fin cfg0.N) (n : Fin 4) (b : Fin 32) (k : Fin 1024) :
    (iblk m c 3 t : Vec Ideal S4x32x1024 .f32) (ix3 n b k) = (m ((c.tc : Thread nD τ).loc main_arg3) : Vec Ideal S4x128x1024 .f32) (ix3 n (seqOf t b) k) := by
  obtain ⟨e0, e1, e2, e3, e4, e5, e6, e7, e8, e9, e10⟩ := idx_eq t
  unfold seqOf
  blk_ext [iblk, V_main_arg3, e3]

theorem iblk4_apply (c : Dev nD) (t : Fin cfg0.N) (n : Fin 4) (b : Fin 32) (k : Fin 1024) :
    (iblk m c 4 t : Vec Ideal S4x32x1024 .f32) (ix3 n b k) = (m ((c.tc : Thread nD τ).loc main_arg4) : Vec Ideal S4x128x1024 .f32) (ix3 n (seqOf t b) k) := by
  obtain ⟨e0, e1, e2, e3, e4, e5, e6, e7, e8, e9, e10⟩ := idx_eq t
  unfold seqOf
  blk_ext [iblk, V_main_arg4, e4]

theorem iblk5_apply (c : Dev nD) (t : Fin cfg0.N) (n : Fin 31) (k : Fin 1024) :
    (iblk m c 5 t : Vec Ideal S31x1024 .f32) (ix2 n k) = (m ((c.tc : Thread nD τ).loc main_arg5) : Vec Ideal S31x1024 .f32) (ix2 n k) := by
  obtain ⟨e0, e1, e2, e3, e4, e5, e6, e7, e8, e9, e10⟩ := idx_eq t
  blk_ext [iblk, V_main_arg5, e5]

theorem iblk6_apply (c : Dev nD) (t : Fin cfg0.N) (k : Fin 1024) :
    (iblk m c 6 t : Vec Ideal S1x1024 .f32) (ix2 0 k) = (m ((c.tc : Thread nD τ).loc main_arg6) : Vec Ideal S1024 .f32) (ix1 k) := by
  obtain ⟨e0, e1, e2, e3, e4, e5, e6, e7, e8, e9, e10⟩ := idx_eq t
  have hb : (iblk m c 6 t : Vec Ideal S1x1024 .f32) (ix2 0 k) = (V m c main_v0 : Vec Ideal S1x1024 .f32) (ix2 0 k) := by
    blk_ext [iblk, e6]
  rw [hb]
  entry_read
  pointwise

theorem iblk7_apply (c : Dev nD) (t : Fin cfg0.N) (k : Fin 1024) :
    (iblk m c 7 t : Vec Ideal S1x1024 .f32) (ix2 0 k) = (m ((c.tc : Thread nD τ).loc main_arg7) : Vec Ideal S1024 .f32) (ix1 k) := by
  obtain ⟨e0, e1, e2, e3, e4, e5, e6, e7, e8, e9, e10⟩ := idx_eq t
  have hb : (iblk m c 7 t : Vec Ideal S1x1024 .f32) (ix2 0 k) = (V m c main_v1 : Vec Ideal S1x1024 .f32) (ix2 0 k) := by
    blk_ext [iblk, e7]
  rw [hb]
  entry_read
  pointwise

theorem iblk8_apply (c : Dev nD) (t : Fin cfg0.N) (k : Fin 1024) :
    (iblk m c 8 t : Vec Ideal S1x1024 .f32) (ix2 0 k) = (m ((c.tc : Thread nD τ).loc main_arg8) : Vec Ideal S1024 .f32) (ix1 k) := by
  obtain ⟨e0, e1, e2, e3, e4, e5, e6, e7, e8, e9, e10⟩ := idx_eq t
  have hb : (iblk m c 8 t : Vec Ideal S1x1024 .f32) (ix2 0 k) = (V m c main_v2 : Vec Ideal S1x1024 .f32) (ix2 0 k) := by
    blk_ext [iblk, e8]
  rw [hb]
  entry_read
  pointwise

theorem iblk9_apply (c : Dev nD) (t : Fin cfg0.N) (n : Fin 3) (k : Fin 1024) :
    (iblk m c 9 t : Vec Ideal S3x1024 .f32) (ix2 n k) = (m ((c.tc : Thread nD τ).loc main_arg9) : Vec Ideal S3x1024 .f32) (ix2 n k) := by
  obtain ⟨e0, e1, e2, e3, e4, e5, e6, e7, e8, e9, e10⟩ := idx_eq t
  blk_ext [iblk, V_main_arg9, e9]

theorem final (c : Dev nD) :
    (dats m 0 c).arrAt 10 cfg0.N = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 10 _ (by decide +kernel) fun t hf y => ?_
  obtain ⟨e0, e1, e2, e3, e4, e5, e6, e7, e8, e9, e10⟩ := idx_eq t
  blk_simp
  rw [after0_10, out_eq]
  revert y
  show ∀ y : S4x32x2048.Idx, block (iblk m c 0 t) (iblk m c 1 t) (iblk m c 2 t) (iblk m c 3 t) (iblk m c 4 t) (iblk m c 5 t) (iblk m c 6 t) (iblk m c 7 t)
    (iblk m c 8 t) (iblk m c 9 t) y = result _ _ _ _ _ _ _ _ _ _ ((win0_10.blk t).view.emb y)
  intro y
  idx_vars y
  generalize y0 = n
  generalize y1 = b
  generalize y2 = k
  have hr : (win0_10.blk t).view.emb (ix3 n b k) = (ix3 n (seqOf t b) k : S4x128x2048.Idx) := by
    unfold seqOf
    blk_ext [e10]
  rw [hr]
  show entry _ _ _ _ _ _ _ _ _ _ n b k = entry _ _ _ _ _ _ _ _ _ _ n (seqOf t b) k
  simp only [iblk0_apply m c t, iblk1_apply m c t, iblk2_apply m c t, iblk3_apply m c t, iblk4_apply m c t, iblk5_apply m c t, iblk6_apply m c t,
    iblk7_apply m c t, iblk8_apply m c t, iblk9_apply m c t]
  rfl

end Cert.ConvKernel

end
-- ==== Proof.ConvSClaim.lean ====
/- The sample's two convolutions: their kernel and their reference leave the same array. -/
module

public import proofs.«01_k».proof.Proof.ConvSKernel
public import proofs.«01_k».proof.Proof.Gen.ConvSRefIdeal.Run

@[expose] public section

set_option maxRecDepth 16384

noncomputable section

namespace Cert.ConvSClaim

open Idealize.ShloMosaic Idealize.ShloMosaic.TcCoe Idealize.SL.Sem
open Cert.ConvKernel (past tap conv mean centred scale silu left right entry)

section Ref
open Cert.ConvSRefIdeal Cert.ConvSRefIdeal.Gen Cert.ConvSRefIdeal.Value

section Terms
variable {F : FTy → Type} [FloatOps F]

/-- The older rows of the long convolution, then the new ones. -/
def ext (st : FVec F S30x128x1024 .f32) (u : FVec F S4x128x1024 .f32) : FVec F S34x128x1024 .f32 :=
  concatenate S34x128x1024 0 [⟨S30x128x1024, st⟩, ⟨S4x128x1024, u⟩] concatenates_S30x128x1024_S4x128x1024_S34x128x1024_d0

/-- The older rows of the short convolution, then the new ones. -/
def exts (st : FVec F S2x128x1024 .f32) (u : FVec F S4x128x1024 .f32) : FVec F S6x128x1024 .f32 :=
  concatenate S6x128x1024 0 [⟨S2x128x1024, st⟩, ⟨S4x128x1024, u⟩] concatenates_S2x128x1024_S4x128x1024_S6x128x1024_d0

/-- Four rows one after another, of K + 3. -/
def cut (K M : ℕ) (hK : 0 < K) (hM : K + 3 = M) (e : FVec F (⟨3, ![M, 128, 1024]⟩ : Shape) .f32) (n : ℕ) : FVec F S4x128x1024 .f32 :=
  extractStridedSlice S4x128x1024 ![n % K, 0, 0] e ⟨rfl, fun i => match i with
    | ⟨0, _⟩ => (show n % K + 4 ≤ M by have h := Nat.mod_lt n hK; omega)
    | ⟨1, _⟩ => (show 0 + 128 ≤ 128 by omega)
    | ⟨2, _⟩ => (show 0 + 1024 ≤ 1024 by omega)⟩

def spread (v : FVec F S1024 .f32) : FVec F S4x128x1024 .f32 :=
  broadcastInDim S4x128x1024 ![0, 1, 2] bcast_S1x1x1024_S4x128x1024_0_1_2 (broadcastInDim S1x1x1024 ![2] bcast_S1024_S1x1x1024_2 v)

/-- A row of weights. -/
def row (K : ℕ) (hK : 0 < K) (w : FVec F (⟨2, ![K, 1024]⟩ : Shape) .f32) (n : ℕ) : FVec F S1024 .f32 :=
  shapeCast S1024 (extractStridedSlice S1x1024 ![n % K, 0] w ⟨rfl, fun i => match i with
    | ⟨0, _⟩ => (show n % K + 1 ≤ K by have h := Nat.mod_lt n hK; omega)
    | ⟨1, _⟩ => (show 0 + 1024 ≤ 1024 by omega)⟩) shapeCasts_S1x1024_S1024

/-- The sum over the taps. -/
def total (a : ℕ → FVec F S4x128x1024 .f32) (w : ℕ → FVec F S1024 .f32) : ℕ → FVec F S4x128x1024 .f32
  | 0 => mulf (a 0) (spread (w 0))
  | n + 1 => addf (total a w n) (mulf (a (n + 1)) (spread (w (n + 1))))

def rowMean (y : FVec F S4x128x1024 .f32) : FVec F S4x128x1 .f32 :=
  Host.divf (broadcastInDim S4x128x1 ![0, 1] bcast_S4x128_S4x128x1_0_1 (Host.reduceAdd y (constant S_ .f32 0x00000000#32) reducesTo_S4x128x1024_S4x128_d2 h_S_))
    (broadcastInDim S4x128x1 ![] bcast_S_S4x128x1 (constant S_ .f32 0x44800000#32))

def sub (y : FVec F S4x128x1024 .f32) (q : FVec F S4x128x1 .f32) : FVec F S4x128x1024 .f32 :=
  subf y (broadcastInDim S4x128x1024 ![0, 1, 2] bcast_S4x128x1_S4x128x1024_0_1_2 q)

def scaled (y : FVec F S4x128x1024 .f32) (q : FVec F S4x128x1 .f32) (g b : FVec F S1024 .f32) : FVec F S4x128x1024 .f32 :=
  addf (mulf (mulf y (broadcastInDim S4x128x1024 ![0, 1, 2] bcast_S4x128x1_S4x128x1024_0_1_2 (Host.rsqrt (addf q
    (broadcastInDim S4x128x1 ![] bcast_S_S4x128x1 (constant S_ .f32 0x358637BD#32)))))) (spread g)) (spread b)

/-- The layer norm. -/
def normed (y : FVec F S4x128x1024 .f32) (g b : FVec F S1024 .f32) : FVec F S4x128x1024 .f32 :=
  scaled (sub y (rowMean y)) (rowMean (mulf (sub y (rowMean y)) (sub y (rowMean y)))) g b

def gated (z : FVec F S4x128x1024 .f32) : FVec F S4x128x1024 .f32 :=
  mulf z (Host.divf (broadcastInDim S4x128x1024 ![] bcast_S_S4x128x1024 (constant S_ .f32 0x3F800000#32))
    (addf (broadcastInDim S4x128x1024 ![] bcast_S_S4x128x1024 (constant S_ .f32 0x3F800000#32)) (Host.exp (Host.negf z))))

/-- The long convolution with its offset. -/
def long (cst : FVec F S30x128x1024 .f32) (glu : FVec F S4x128x1024 .f32) (cw : FVec F S31x1024 .f32) (cb : FVec F S1024 .f32) : FVec F S4x128x1024 .f32 :=
  addf (total (cut 31 34 (by decide) rfl (ext cst glu)) (row 31 (by decide) cw) 30) (spread cb)

def short (sst : FVec F S2x128x1024 .f32) (cgh bg : FVec F S4x128x1024 .f32) (sw : FVec F S3x1024 .f32) : FVec F S4x128x1024 .f32 :=
  mulf bg (total (cut 3 6 (by decide) rfl (exts sst cgh)) (row 3 (by decide) sw) 2)

def joined (a b : FVec F S4x128x1024 .f32) : FVec F S4x128x2048 .bf16 :=
  truncf .bf16 (concatenate S4x128x2048 2 [⟨S4x128x1024, a⟩, ⟨S4x128x1024, b⟩] concatenates_S4x128x1024_S4x128x1024_S4x128x2048_d2) bitsLt_bf16_f32

/-- The reference's result. -/
def out (cst : FVec F S30x128x1024 .f32) (sst : FVec F S2x128x1024 .f32) (glu cgh bg : FVec F S4x128x1024 .f32) (cw : FVec F S31x1024 .f32)
    (cb lg lb : FVec F S1024 .f32) (sw : FVec F S3x1024 .f32) : FVec F S4x128x2048 .bf16 :=
  joined (gated (normed (long cst glu cw cb) lg lb)) (short sst cgh bg sw)

end Terms

theorem res219_eq (V0 : Valuation τ sig (Elt Ideal)) : res_main_v219 V0 = long (F := Ideal) (V0 (Proc.devRef .tc main_arg0)) (V0 (Proc.devRef .tc main_arg2))
    (V0 (Proc.devRef .tc main_arg5)) (V0 (Proc.devRef .tc main_arg6)) := by
  unfold res_main_v219 res_main_v153 res_main_v76 res_main_v0
  rfl

theorem res241_eq (V0 : Valuation τ sig (Elt Ideal)) : res_main_v241 V0 = normed (F := Ideal) (res_main_v219 V0) (V0 (Proc.devRef .tc main_arg7))
    (V0 (Proc.devRef .tc main_arg8)) := by
  unfold res_main_v241 res_main_v225
  rfl

variable (cst : FVec Ideal S30x128x1024 .f32) (sst : FVec Ideal S2x128x1024 .f32) (glu cgh bg : FVec Ideal S4x128x1024 .f32) (cw : FVec Ideal S31x1024 .f32)
  (cb lg lb : FVec Ideal S1024 .f32) (sw : FVec Ideal S3x1024 .f32)

theorem ext_apply (n : Fin 34) (b : Fin 128) (c : Fin 1024) :
    (ext cst glu (ix3 n b c) : EReal) = past 30 (fun n b k => (cst (ix3 n b k) : EReal)) (fun n b k => (glu (ix3 n b k) : EReal)) b n.val c := by
  unfold past
  pointwise [ext]
  split
  · rfl
  · exact congrArg (fun i => (glu (ix3 i b c) : EReal)) (Fin.ext (show n.val - 30 = (n.val - 30) % 4 by omega))

theorem exts_apply (n : Fin 6) (b : Fin 128) (c : Fin 1024) :
    (exts sst cgh (ix3 n b c) : EReal) = past 2 (fun n b k => (sst (ix3 n b k) : EReal)) (fun n b k => (cgh (ix3 n b k) : EReal)) b n.val c := by
  unfold past
  pointwise [exts]
  split
  · rfl
  · exact congrArg (fun i => (cgh (ix3 i b c) : EReal)) (Fin.ext (show n.val - 2 = (n.val - 2) % 4 by omega))

theorem spread_apply (v : FVec Ideal S1024 .f32) (t : Fin 4) (b : Fin 128) (k : Fin 1024) : (spread v (ix3 t b k) : EReal) = v (ix1 k) := by
  pointwise [spread]

theorem cut_apply (K M : ℕ) (hK : 0 < K) (hM : K + 3 = M) (e : FVec Ideal (⟨3, ![M, 128, 1024]⟩ : Shape) .f32) (n : ℕ) (t : Fin 4) (b : Fin 128) (k : Fin 1024) :
    (cut K M hK hM e n (ix3 t b k) : EReal) = e (ix3 ⟨n % K + t.val, by have h := Nat.mod_lt n hK; omega⟩ b k) := by
  refine congrArg (e : (⟨3, ![M, 128, 1024]⟩ : Shape).Idx → EReal) (funext fun i => ?_)
  match i with
  | ⟨0, _⟩ => rfl
  | ⟨1, _⟩ => exact Fin.ext (show 0 + b.val = b.val by omega)
  | ⟨2, _⟩ => exact Fin.ext (show 0 + k.val = k.val by omega)

theorem flat_apply (v : FVec Ideal S1x1024 .f32) (k : Fin 1024) : (shapeCast S1024 v shapeCasts_S1x1024_S1024 (ix1 k) : EReal) = v (ix2 0 k) := by
  pointwise

theorem row_apply (K : ℕ) (hK : 0 < K) (w : FVec Ideal (⟨2, ![K, 1024]⟩ : Shape) .f32) (n : ℕ) (k : Fin 1024) :
    (row K hK w n (ix1 k) : EReal) = tap K hK (fun j k => (w (ix2 j k) : EReal)) n k := by
  refine (flat_apply _ k).trans ?_
  refine congrArg (w : (⟨2, ![K, 1024]⟩ : Shape).Idx → EReal) (funext fun i => ?_)
  match i with
  | ⟨0, _⟩ => rfl
  | ⟨1, _⟩ => exact Fin.ext (show 0 + k.val = k.val by omega)

theorem total_apply (a : ℕ → FVec Ideal S4x128x1024 .f32) (w : ℕ → FVec Ideal S1024 .f32) (n : ℕ) (t : Fin 4) (b : Fin 128) (k : Fin 1024) :
    (total a w n (ix3 t b k) : EReal) = ∑ j ∈ Finset.range (n + 1), (a j (ix3 t b k) : EReal) * w j (ix1 k) := by
  have term (j : ℕ) : (mulf (a j) (spread (w j)) (ix3 t b k) : EReal) = (a j (ix3 t b k) : EReal) * w j (ix1 k) :=
    congrArg (fun v : EReal => a j (ix3 t b k) * v) (spread_apply (w j) t b k)
  induction n with
  | zero => rw [Finset.sum_range_one]; exact term 0
  | succ n ih => rw [Finset.sum_range_succ, ← ih]; exact congrArg (fun v : EReal => total a w n (ix3 t b k) + v) (term (n + 1))

/-- The sum over the taps is the convolution. -/
theorem total_conv (K M n : ℕ) (hK : 0 < K) (hM : K + 3 = M) (hn : n + 1 = K) (e : FVec Ideal (⟨3, ![M, 128, 1024]⟩ : Shape) .f32)
    (w : FVec Ideal (⟨2, ![K, 1024]⟩ : Shape) .f32) (p : Fin 128 → ℕ → Fin 1024 → EReal)
    (he : ∀ (n : Fin M) (b : Fin 128) (c : Fin 1024), (e (ix3 n b c) : EReal) = p b n.val c) (t : Fin 4) (b : Fin 128) (k : Fin 1024) :
    (total (cut K M hK hM e) (row K hK w) n (ix3 t b k) : EReal) = conv K (p b) (tap K hK fun j k => (w (ix2 j k) : EReal)) t.val k := by
  refine (total_apply _ _ n t b k).trans ?_
  rw [hn]
  refine Finset.sum_congr rfl fun j hj => congrArg₂ (fun u v : EReal => u * v) ?_ (row_apply K hK w j k)
  refine (cut_apply K M hK hM e j t b k).trans ((he _ b k).trans (congrArg (fun i => p b i k) ?_))
  show j % K + t.val = t.val + j
  rw [Nat.mod_eq_of_lt (Finset.mem_range.mp hj), Nat.add_comm]

theorem sum_apply (y : FVec Ideal S4x128x1024 .f32) (t : Fin 4) (b : Fin 128) :
    (Host.reduceAdd y (constant S_ .f32 0x00000000#32) reducesTo_S4x128x1024_S4x128_d2 h_S_ (ix2 t b) : EReal) = ∑ k : Fin 1024, (y (ix3 t b k) : EReal) := by
  rw [ValueIdx.hostReduceAdd_apply]
  have reduces : S4x128x1024.Reduces [2] S4x128 := by decide
  have lift : ∀ k : Fin 1024, reduces.lift (ix2 t b) k = (ix3 t b k : S4x128x1024.Idx) := fun k => by
    funext a
    match a with
    | ⟨0, _⟩ => rfl
    | ⟨1, _⟩ => rfl
    | ⟨2, _⟩ => rfl
  refine (Ideal.hostReduceAdd_single _ reduces _ _ _).trans ?_
  rw [show constant (F := Ideal) S_ .f32 0x00000000#32 _ = (0 : EReal) from Ideal.ofBits_zero_f32]
  exact (zero_add _).trans (Finset.sum_congr rfl fun k _ => congrArg (fun i => (y i : EReal)) (lift k))

theorem rowMean_apply (y : FVec Ideal S4x128x1024 .f32) (t : Fin 4) (b : Fin 128) :
    (rowMean y (ix3 t b 0) : EReal) = mean (fun k => (y (ix3 t b k) : EReal)) := by
  unfold mean
  rw [← sum_apply]
  unfold rowMean
  generalize Host.reduceAdd y (constant S_ .f32 0x00000000#32) reducesTo_S4x128x1024_S4x128_d2 h_S_ = q
  pointwise

theorem sub_apply (y : FVec Ideal S4x128x1024 .f32) (t : Fin 4) (b : Fin 128) (k : Fin 1024) :
    (sub y (rowMean y) (ix3 t b k) : EReal) = centred (fun k => (y (ix3 t b k) : EReal)) k := by
  unfold centred
  rw [← rowMean_apply]
  unfold sub
  generalize rowMean y = q
  pointwise

theorem scaled_apply (y : FVec Ideal S4x128x1024 .f32) (g o : FVec Ideal S1024 .f32) (t : Fin 4) (b : Fin 128) (k : Fin 1024) :
    (scaled y (rowMean (mulf y y)) g o (ix3 t b k) : EReal)
      = scale (fun k => (y (ix3 t b k) : EReal)) (fun k => (g (ix1 k) : EReal)) (fun k => (o (ix1 k) : EReal)) k := by
  unfold scale
  have e := rowMean_apply (mulf y y) t b
  have e' : (fun k => (mulf y y (ix3 t b k) : EReal)) = fun k => (y (ix3 t b k) : EReal) * y (ix3 t b k) := rfl
  rw [e'] at e
  rw [← e]
  generalize rowMean (mulf y y) = q
  pointwise [scaled, spread]

theorem gated_apply (z : FVec Ideal S4x128x1024 .f32) (t : Fin 4) (b : Fin 128) (k : Fin 1024) : (gated z (ix3 t b k) : EReal) = silu (z (ix3 t b k)) := by
  unfold silu Spec.gate
  pointwise [gated]

theorem normed_apply (y : FVec Ideal S4x128x1024 .f32) (g o : FVec Ideal S1024 .f32) (t : Fin 4) (b : Fin 128) (k : Fin 1024) :
    (normed y g o (ix3 t b k) : EReal)
      = scale (centred fun k => (y (ix3 t b k) : EReal)) (fun k => (g (ix1 k) : EReal)) (fun k => (o (ix1 k) : EReal)) k :=
  (scaled_apply _ g o t b k).trans (congrArg (fun y => scale y _ _ k) (funext fun k => sub_apply y t b k))

theorem long_apply (t : Fin 4) (b : Fin 128) (k : Fin 1024) :
    (long cst glu cw cb (ix3 t b k) : EReal)
      = conv 31 (past 30 (fun n b k => (cst (ix3 n b k) : EReal)) (fun n b k => (glu (ix3 n b k) : EReal)) b) (tap 31 (by decide) fun j k => (cw (ix2 j k) : EReal)) t.val k
        + cb (ix1 k) :=
  congrArg₂ (fun u v : EReal => u + v) (total_conv 31 34 30 _ rfl rfl _ cw _ (ext_apply cst glu) t b k) (spread_apply cb t b k)

theorem left_apply (t : Fin 4) (b : Fin 128) (k : Fin 1024) :
    (gated (normed (long cst glu cw cb) lg lb) (ix3 t b k) : EReal)
      = left (past 30 (fun n b k => (cst (ix3 n b k) : EReal)) (fun n b k => (glu (ix3 n b k) : EReal)) b) (tap 31 (by decide) fun j k => (cw (ix2 j k) : EReal))
        (fun k => (cb (ix1 k) : EReal)) (fun k => (lg (ix1 k) : EReal)) (fun k => (lb (ix1 k) : EReal)) t.val k :=
  (gated_apply _ t b k).trans (congrArg silu ((normed_apply _ lg lb t b k).trans
    (congrArg (fun y => scale (centred y) _ _ k) (funext fun k => long_apply cst glu cw cb t b k))))

theorem right_apply (t : Fin 4) (b : Fin 128) (k : Fin 1024) :
    (short sst cgh bg sw (ix3 t b k) : EReal)
      = right (past 2 (fun n b k => (sst (ix3 n b k) : EReal)) (fun n b k => (cgh (ix3 n b k) : EReal)) b) (tap 3 (by decide) fun j k => (sw (ix2 j k) : EReal))
        (fun k => (bg (ix3 t b k) : EReal)) t.val k :=
  congrArg (fun v : EReal => bg (ix3 t b k) * v) (total_conv 3 6 2 _ rfl rfl _ sw _ (exts_apply sst cgh) t b k)

theorem joined_apply (x y : FVec Ideal S4x128x1024 .f32) (t : Fin 4) (b : Fin 128) (c : Fin 2048) :
    (joined x y (ix3 t b c) : EReal) = if h : c.val < 1024 then x (ix3 t b ⟨c.val, h⟩) else y (ix3 t b ⟨c.val - 1024, by omega⟩) := by
  pointwise [joined]

theorem ref_eq : out cst sst glu cgh bg cw cb lg lb sw = ConvKernel.result cst sst glu cgh bg cw cb lg lb sw := by
  funext y
  revert y
  show ∀ y : S4x128x2048.Idx, _
  intro y
  idx_vars y
  refine (joined_apply _ _ y0 y1 y2).trans ?_
  show _ = entry _ _ _ _ _ _ _ _ _ _ y0 y1 y2
  unfold entry
  by_cases h : y2.val < 1024
  · rw [dif_pos h, dif_pos h]; exact left_apply cst glu cw cb lg lb y0 y1 _
  · rw [dif_neg h, dif_neg h]; exact right_apply sst cgh bg sw y0 y1 _

/-- The same of arguments that agree. -/
theorem ref_of {cst cst' : FVec Ideal S30x128x1024 .f32} {sst sst' : FVec Ideal S2x128x1024 .f32} {glu glu' cgh cgh' bg bg' : FVec Ideal S4x128x1024 .f32}
    {cw cw' : FVec Ideal S31x1024 .f32} {cb cb' lg lg' lb lb' : FVec Ideal S1024 .f32} {sw sw' : FVec Ideal S3x1024 .f32}
    (h0 : cst' = cst) (h1 : sst' = sst) (h2 : glu' = glu) (h3 : cgh' = cgh) (h4 : bg' = bg) (h5 : cw' = cw) (h6 : cb' = cb) (h7 : lg' = lg)
    (h8 : lb' = lb) (h9 : sw' = sw) : out cst' sst' glu' cgh' bg' cw' cb' lg' lb' sw' = ConvKernel.result cst sst glu cgh bg cw cb lg lb sw := by
  subst h0 h1 h2 h3 h4 h5 h6 h7 h8 h9
  exact ref_eq _ _ _ _ _ _ _ _ _ _

end Ref

/-- Kernel and reference leave the same array. -/
theorem algebraic : Cert.algebraic_ConvSIdeal_ConvSRefIdeal := by
  intro m ρ m' ρ' hpre hag
  refine ⟨fun c => ConvKernel.result (m ((c.tc : Thread Cert.ConvSIdeal.nD Cert.ConvSIdeal.τ).loc Cert.ConvSIdeal.main_arg0))
    (m ((c.tc : Thread Cert.ConvSIdeal.nD Cert.ConvSIdeal.τ).loc Cert.ConvSIdeal.main_arg1))
    (m ((c.tc : Thread Cert.ConvSIdeal.nD Cert.ConvSIdeal.τ).loc Cert.ConvSIdeal.main_arg2))
    (m ((c.tc : Thread Cert.ConvSIdeal.nD Cert.ConvSIdeal.τ).loc Cert.ConvSIdeal.main_arg3))
    (m ((c.tc : Thread Cert.ConvSIdeal.nD Cert.ConvSIdeal.τ).loc Cert.ConvSIdeal.main_arg4))
    (m ((c.tc : Thread Cert.ConvSIdeal.nD Cert.ConvSIdeal.τ).loc Cert.ConvSIdeal.main_arg5))
    (m ((c.tc : Thread Cert.ConvSIdeal.nD Cert.ConvSIdeal.τ).loc Cert.ConvSIdeal.main_arg6))
    (m ((c.tc : Thread Cert.ConvSIdeal.nD Cert.ConvSIdeal.τ).loc Cert.ConvSIdeal.main_arg7))
    (m ((c.tc : Thread Cert.ConvSIdeal.nD Cert.ConvSIdeal.τ).loc Cert.ConvSIdeal.main_arg8))
    (m ((c.tc : Thread Cert.ConvSIdeal.nD Cert.ConvSIdeal.τ).loc Cert.ConvSIdeal.main_arg9)), ?_, ?_⟩
  · exact (θ_run Cert.ConvSIdeal.defs _ _).mono (fun _ h c => ⟨(h c).1.trans (ConvKernel.final m c), (h c).2⟩)
      (Cert.ConvSIdeal.Value.run_blocks (F := Ideal) m ρ)
  · refine (θ_run Cert.ConvSRefIdeal.defs _ _).mono (fun _ h c => ⟨(h c).1.trans ?_, (h c).2⟩)
      (Cert.ConvSRefIdeal.Value.run (F := Ideal) m' ρ')
    rw [res241_eq, res219_eq]
    obtain ⟨h0, h1, h2, h3, h4, h5, h6, h7, h8, h9⟩ := hag c
    exact Eq.trans (by unfold Cert.ConvSRefIdeal.Value.res_main_v249; rfl) (ref_of h0 h1 h2 h3 h4 h5 h6 h7 h8 h9)

end Cert.ConvSClaim

end
-- ==== Proof.PoolKernel.lean ====
/- The prompt's pooling mixer: what the kernel leaves, entry by entry. -/
module

public import proofs.«01_k».proof.Proof.PoolSKernel
public import proofs.«01_k».proof.Proof.Gen.PoolIdeal.Value
public import Idealize.ShloMosaic.Lib.WordCmp
public import Idealize.ShloMosaic.Lib.WholeRead

@[expose] public section

set_option maxRecDepth 16384

noncomputable section

namespace Cert.PoolPKernel

open Idealize.ShloMosaic Idealize.ShloMosaic.TcCoe Idealize.SL.Sem
open Cert.PoolIdeal Cert.PoolIdeal.Gen
open Cert.PoolKernel (col exists_col)

/-- The row j before the row t, zero before the first row. -/
def before (x : ℕ → Fin 512 → EReal) (t j : ℕ) (c : Fin 512) : EReal := if j ≤ t then x (t - j) c else 0

/-- The number of rows a group averages: 2, 4, 8, 16, or as many as there are. -/
def count (g : Fin 4) (t : ℕ) : EReal := (((min (t + 1) (2 ^ (g.val + 1)) : ℕ) : ℝ) : EReal)

/-- The average of the group's window that ends with the row, less the row. -/
def pooled (x : ℕ → Fin 512 → EReal) (t : ℕ) (g : Fin 4) (k : Fin 128) : EReal :=
  Ideal.div (∑ j ∈ Finset.range (2 ^ (g.val + 1)), before x t j (col g k)) (count g t) - x t (col g k)

/-- An entry of the result: the group's averages mixed by the group's weights, scaled by column. -/
def entry (x : ℕ → Fin 512 → EReal) (w : Fin 4 → Fin 128 → Fin 128 → EReal) (s : Fin 512 → EReal) (t : ℕ) (g : Fin 4) (d : Fin 128) : EReal :=
  (∑ k : Fin 128, pooled x t g k * w g k d) * s (col g d)

/-- The array of given entries. -/
def arr {N : ℕ} (f : ℕ → Fin 4 → Fin 128 → EReal) : FVec Ideal ⟨2, ![N, 512]⟩ .bf16 := fun y =>
  f (y 0).val ⟨(y 1).val / 128, by have h : (y 1).val < 512 := (y 1).isLt; omega⟩ ⟨(y 1).val % 128, by omega⟩

theorem arr_apply {N : ℕ} (f : ℕ → Fin 4 → Fin 128 → EReal) (t : Fin N) (g : Fin 4) (d : Fin 128) :
    (arr f (ix2 t (col g d)) : EReal) = f t.val g d :=
  congrArg₂ (f t.val) (Fin.ext (show (128 * g.val + d.val) / 128 = g.val by omega)) (Fin.ext (show (128 * g.val + d.val) % 128 = d.val by omega))

theorem minsi_small (a b : ℕ) (ha : a < 2 ^ 31) (hb : b < 2 ^ 31) :
    (IntOp.minsi (BitVec.ofNat 32 a) (BitVec.ofNat 32 b)).toInt = ((min a b : ℕ) : ℤ) := by
  have ea : (BitVec.ofNat 32 a).toInt = a := WordCmp.toInt_ofNat_of_lt (by omega)
  have eb : (BitVec.ofNat 32 b).toInt = b := WordCmp.toInt_ofNat_of_lt (by omega)
  unfold IntOp.minsi
  split <;> rename_i h <;> simp only [BitVec.slt, BitVec.sle, ea, eb, decide_eq_true_eq, decide_eq_false_iff_not] at h ⊢ <;> omega

section Payload

variable {F : FTy → Type} [FloatOps F]

/-- A window's sum over the given number of rows, the newest row first. -/
def total (a : ℕ → Vec F S256x128 .f32) : ℕ → FVec F S256x128 .f32
  | 0 => a 0
  | n + 1 => addf (total a n) (a (n + 1))

/-- The positions of the chunk's rows. -/
def pos (r0 : ℕ) : IVec S256x1 32 := addi (broadcast S256x1 (BitVec.ofNat 32 r0)) (iota .tc S256x1 32 [0] iota_S256x1_d0_w32)

/-- The number of rows averaged at each row of the chunk. -/
def cnt (r0 w : ℕ) : FVec F S256x1 .f32 :=
  sitofp .f32 (minsi (addi (pos r0) (broadcast S256x1 1#32)) (broadcast S256x1 (BitVec.ofNat 32 w)))

/-- The group's averages less the newest row. -/
def avg (n r0 w : ℕ) (a : ℕ → Vec F S256x128 .f32) : FVec F S256x128 .f32 :=
  subf (divf (total a n) (broadcastTo S256x128 (cnt r0 w) broadcasts_S256x1_S256x128)) (a 0)

/-- The four groups side by side. -/
def cat (A : Fin 4 → FVec F S256x128 .f32) : FVec F S256x512 .f32 :=
  concatenate S256x512 1 [⟨S256x128, A 0⟩, ⟨S256x128, A 1⟩, ⟨S256x128, A 2⟩, ⟨S256x128, A 3⟩] concatenates_S256x128_S256x128_S256x128_S256x128_S256x512_d1

/-- A group's columns. -/
def part (o : ℕ) (h : S256x512.Slices ![0, o] S256x128) (v : FVec F S256x512 .f32) : FVec F S256x128 .bf16 :=
  truncf .bf16 (extractStridedSlice S256x128 ![0, o] v h) bitsLt_bf16_f32

/-- A group's columns times the group's weights. -/
def mixed (v : FVec F S256x128 .bf16) (w : Vec F S1x128x128 .bf16) : FVec F S256x128 .f32 :=
  matmul dot_S256x128_S128x128_S256x128_1_0_0_1_n_n none v (shapeCast S128x128 w shapeCasts_S1x128x128_S128x128 : FVec F S128x128 .bf16)
    (constant S256x128 .f32 0x00000000#32)

/-- The scaled rows as they are stored. -/
def scaled (v : FVec F S256x512 .f32) (s : Vec F S1x512 .f32) : FVec F S256x512 .bf16 :=
  truncf .bf16 (mulf v (broadcastTo S256x512 (shapeCast S1x512 s shapeCasts_S1x512_S1x512 : FVec F S1x512 .f32) broadcasts_S1x512_S256x512))
    bitsLt_bf16_f32

/-- The four groups' averages in the chunk. -/
def avgs (r0 : ℕ) (a : Fin 4 → ℕ → Vec F S256x128 .f32) : FVec F S256x512 .f32 :=
  cat ![avg 1 r0 2 (a 0), avg 3 r0 4 (a 1), avg 7 r0 8 (a 2), avg 15 r0 16 (a 3)]

/-- All that a store holds, from the chunk's windows. -/
def step (r0 : ℕ) (a : Fin 4 → ℕ → Vec F S256x128 .f32) (w : Fin 4 → Vec F S1x128x128 .bf16) (s : Vec F S1x512 .f32) : FVec F S256x512 .bf16 :=
  scaled (cat ![mixed (part 0 slices_S256x512_o0_0_S256x128 (avgs r0 a)) (w 0), mixed (part 128 slices_S256x512_o0_128_S256x128 (avgs r0 a)) (w 1),
    mixed (part 256 slices_S256x512_o0_256_S256x128 (avgs r0 a)) (w 2), mixed (part 384 slices_S256x512_o0_384_S256x128 (avgs r0 a)) (w 3)]) s

/-- The place of a chunk's window in the scratch rows. -/
def place (n : ℕ) (g : Fin 4) : Rect S2064x512 := Rect.unit (s := S2064x512) ![n % 1809, 128 * g.val] S256x128.size (by
  intro i
  match i with
  | ⟨0, _⟩ => exact (show n % 1809 + 256 ≤ 2064 by omega)
  | ⟨1, _⟩ => exact (show 128 * g.val + 128 ≤ 512 by omega))

/-- The place of a group's weights. -/
def wplace (g : Fin 4) : Rect S4x128x128 := Rect.unit (s := S4x128x128) ![g.val, 0, 0] S1x128x128.size (by
  intro i
  match i with
  | ⟨0, _⟩ => exact (show g.val + 1 ≤ 4 by omega)
  | ⟨1, _⟩ => exact (show 0 + 128 ≤ 128 by omega)
  | ⟨2, _⟩ => exact (show 0 + 128 ≤ 128 by omega))

/-- The place of a chunk in the result. -/
def rplace (i : Fin 8) : Rect S2048x512 := Rect.unit (s := S2048x512) ![256 * i.val, 0] S256x512.size (by
  intro a
  match a with
  | ⟨0, _⟩ => exact (show 256 * i.val + 256 ≤ 2048 by omega)
  | ⟨1, _⟩ => exact (show 0 + 512 ≤ 512 by omega))

/-- The whole scale row. -/
def splace : Rect S1x512 := Rect.unit (s := S1x512) ![0, 0] S1x512.size inb_S1x512_S1x512_0_0

variable (c : Dev nD) (i : grid0.Coords) (arg1 : Memref sig .tc .vmem S2048x512 .f32) (harg1 : arg1.IsWhole)
  (arg2 : Memref sig .tc .vmem S4x128x128 .bf16) (harg2 : arg2.IsWhole) (arg3 : Memref sig .tc .vmem S1x512 .f32) (harg3 : arg3.IsWhole)
  (arg4 : Memref sig .tc .vmem S2048x512 .bf16) (harg4 : arg4.IsWhole) (arg5 : Memref sig .tc .vmem S2064x512 .f32) (harg5 : arg5.IsWhole)
  (x0 : Vec F S2048x512 .f32) (x1 : Vec F S4x128x128 .bf16) (x2 : Vec F S1x512 .f32)

/-- The scratch rows: sixteen of zeros, then the sequence. -/
def held : List (View.Piece (Elt F) S2064x512 .f32) :=
  [⟨Rect.unit ![16, 0] S2048x512.size inb_S2064x512_S2048x512_16_0,
      k0_pay3 (View.readAt (Elt F) arg1.view (Rect.unit ![0, 0] S2048x512.size inb_S2048x512_S2048x512_0_0).toLoadRect (harg1.unread x0))⟩,
    ⟨Rect.unit ![0, 0] S16x512.size inb_S2064x512_S16x512_0_0, k0_pay2⟩]

/-- The rows a chunk reads. -/
def rows (r0 : ℕ) (g : Fin 4) (j : ℕ) : Vec F S256x128 .f32 := arg5.view.readCov (held arg1 harg1 x0) (place (16 + r0 - j) g).toLoadRect

def wts (g : Fin 4) : Vec F S1x128x128 .bf16 := View.readAt (Elt F) arg2.view (wplace g).toLoadRect (harg2.unread x1)

def scl : Vec F S1x512 .f32 := View.readAt (Elt F) arg3.view splace.toLoadRect (harg3.unread x2)

/-- A chunk's store. -/
def piece (i : Fin 8) : View.Piece (Elt F) S2048x512 .bf16 :=
  ⟨rplace i, step (256 * i.val) (rows arg1 harg1 arg5 x0 (256 * i.val)) (wts arg2 harg2 x1) (scl arg3 harg3 x2)⟩

theorem pieces_eq : (kernelRun0_A c i arg1 harg1 arg2 harg2 arg3 harg3 arg4 harg4 arg5 harg5 x0 x1 x2).1
    = [piece arg1 harg1 arg2 harg2 arg3 harg3 arg5 x0 x1 x2 7, piece arg1 harg1 arg2 harg2 arg3 harg3 arg5 x0 x1 x2 6,
      piece arg1 harg1 arg2 harg2 arg3 harg3 arg5 x0 x1 x2 5, piece arg1 harg1 arg2 harg2 arg3 harg3 arg5 x0 x1 x2 4,
      piece arg1 harg1 arg2 harg2 arg3 harg3 arg5 x0 x1 x2 3, piece arg1 harg1 arg2 harg2 arg3 harg3 arg5 x0 x1 x2 2,
      piece arg1 harg1 arg2 harg2 arg3 harg3 arg5 x0 x1 x2 1, piece arg1 harg1 arg2 harg2 arg3 harg3 arg5 x0 x1 x2 0] := by
  unfold kernelRun0_A
  rfl

end Payload

theorem total_apply (a : ℕ → Vec Ideal S256x128 .f32) (n : ℕ) (r : Fin 256) (k : Fin 128) :
    (total a n (ix2 r k) : EReal) = ∑ j ∈ Finset.range (n + 1), (a j (ix2 r k) : EReal) := by
  induction n with
  | zero => rw [Finset.sum_range_one]; rfl
  | succ n ih => rw [Finset.sum_range_succ, ← ih]; rfl

theorem cnt_apply (i : Fin 8) (g : Fin 4) (w : ℕ) (hw : w = 2 ^ (g.val + 1)) (r : Fin 256) :
    (cnt (F := Ideal) (256 * i.val) w (ix2 r 0) : EReal) = count g (256 * i.val + r.val) := by
  have hw' : w < 2 ^ 31 := by
    rw [hw]
    exact Nat.pow_lt_pow_right (by omega) (by omega)
  have e : (cnt (F := Ideal) (256 * i.val) w (ix2 r 0) : EReal)
      = (((IntOp.minsi (IntOp.addi (IntOp.addi (BitVec.ofNat 32 (256 * i.val)) (BitVec.ofNat 32 r.val)) 1#32) (BitVec.ofNat 32 w)).toInt : ℝ) : EReal) := by
    pointwise [cnt, pos]
    rfl
  have ea : IntOp.addi (IntOp.addi (BitVec.ofNat 32 (256 * i.val)) (BitVec.ofNat 32 r.val)) 1#32 = BitVec.ofNat 32 (256 * i.val + r.val + 1) := by
    unfold IntOp.addi
    rw [← BitVec.ofNat_add, ← BitVec.ofNat_add]
  rw [e, ea, minsi_small _ _ (by omega) hw', hw]
  unfold count
  push_cast
  rfl

theorem avg_apply (n : ℕ) (i : Fin 8) (g : Fin 4) (w : ℕ) (hw : w = 2 ^ (g.val + 1)) (a : ℕ → Vec Ideal S256x128 .f32) (r : Fin 256) (k : Fin 128) :
    (avg n (256 * i.val) w a (ix2 r k) : EReal)
      = Ideal.div (∑ j ∈ Finset.range (n + 1), (a j (ix2 r k) : EReal)) (count g (256 * i.val + r.val)) - a 0 (ix2 r k) := by
  refine congrArg₂ (fun u v : EReal => Ideal.div u v - a 0 (ix2 r k)) (total_apply a n r k) (Eq.trans ?_ (cnt_apply i g w hw r))
  pointwise

theorem cat0 (A : Fin 4 → FVec Ideal S256x128 .f32) (b : Fin 256) (k : Fin 128) : (cat A (ix2 b ⟨k.val, by omega⟩) : EReal) = A 0 (ix2 b k) := by
  pointwise [cat]
theorem cat1 (A : Fin 4 → FVec Ideal S256x128 .f32) (b : Fin 256) (k : Fin 128) : (cat A (ix2 b ⟨128 + k.val, by omega⟩) : EReal) = A 1 (ix2 b k) := by
  pointwise [cat]
theorem cat2 (A : Fin 4 → FVec Ideal S256x128 .f32) (b : Fin 256) (k : Fin 128) : (cat A (ix2 b ⟨256 + k.val, by omega⟩) : EReal) = A 2 (ix2 b k) := by
  pointwise [cat]
  rw [dif_neg (by omega), dif_neg (by omega), dif_pos (by omega)]
  exact congrArg (fun i => (A 2 (ix2 b i) : EReal)) (Fin.ext (show 256 + k.val - 128 - 128 = k.val by omega))
theorem cat3 (A : Fin 4 → FVec Ideal S256x128 .f32) (b : Fin 256) (k : Fin 128) : (cat A (ix2 b ⟨384 + k.val, by omega⟩) : EReal) = A 3 (ix2 b k) := by
  pointwise [cat]
  rw [dif_neg (by omega), dif_neg (by omega), dif_neg (by omega)]
  exact congrArg (fun i => (A 3 (ix2 b i) : EReal)) (Fin.ext (show 384 + k.val - 128 - 128 - 128 = k.val by omega))

theorem cat_apply (A : Fin 4 → FVec Ideal S256x128 .f32) (g : Fin 4) (b : Fin 256) (k : Fin 128) : (cat A (ix2 b (col g k)) : EReal) = A g (ix2 b k) := by
  have e (o : ℕ) (h : 128 * g.val = o) (ho : o + k.val < 512) : col g k = ⟨o + k.val, ho⟩ := Fin.ext (show 128 * g.val + k.val = o + k.val by omega)
  match g, e with
  | 0, e => exact (congrArg (fun i => (cat A (ix2 b i) : EReal)) (Fin.ext (show 128 * 0 + k.val = k.val by omega))).trans (cat0 A b k)
  | 1, e => exact (congrArg (fun i => (cat A (ix2 b i) : EReal)) (e 128 rfl (by omega))).trans (cat1 A b k)
  | 2, e => exact (congrArg (fun i => (cat A (ix2 b i) : EReal)) (e 256 rfl (by omega))).trans (cat2 A b k)
  | 3, e => exact (congrArg (fun i => (cat A (ix2 b i) : EReal)) (e 384 rfl (by omega))).trans (cat3 A b k)

theorem part_apply (o : ℕ) (h : S256x512.Slices ![0, o] S256x128) (v : FVec Ideal S256x512 .f32) (g : Fin 4) (ho : o = 128 * g.val) (b : Fin 256)
    (k : Fin 128) : (part o h v (ix2 b k) : EReal) = v (ix2 b (col g k)) := by
  refine congrArg (v : S256x512.Idx → EReal) (funext fun i => ?_)
  match i with
  | ⟨0, _⟩ => exact Fin.ext (show 0 + b.val = b.val by omega)
  | ⟨1, _⟩ => exact Fin.ext (show o + k.val = 128 * g.val + k.val by omega)

theorem mixed_apply (v : FVec Ideal S256x128 .bf16) (w : Vec Ideal S1x128x128 .bf16) (b : Fin 256) (d : Fin 128) :
    (mixed v w (ix2 b d) : EReal) = ∑ k : Fin 128, (v (ix2 b k) : EReal) * w (ix3 0 k d) := by
  pointwise [mixed]

theorem scaled_apply (v : FVec Ideal S256x512 .f32) (s : Vec Ideal S1x512 .f32) (b : Fin 256) (c : Fin 512) :
    (scaled v s (ix2 b c) : EReal) = v (ix2 b c) * s (ix2 0 c) := by
  pointwise [scaled]

variable (c : Dev nD) (i : grid0.Coords) (arg1 : Memref sig .tc .vmem S2048x512 .f32) (harg1 : arg1.IsWhole)
  (arg2 : Memref sig .tc .vmem S4x128x128 .bf16) (harg2 : arg2.IsWhole) (arg3 : Memref sig .tc .vmem S1x512 .f32) (harg3 : arg3.IsWhole)
  (arg4 : Memref sig .tc .vmem S2048x512 .bf16) (harg4 : arg4.IsWhole) (arg5 : Memref sig .tc .vmem S2064x512 .f32) (harg5 : arg5.IsWhole)
  (x0 : Vec Ideal S2048x512 .f32) (x1 : Vec Ideal S4x128x128 .bf16) (x2 : Vec Ideal S1x512 .f32)

/-- The rows of a sequence. -/
def seqRow (x : Vec Ideal S2048x512 .f32) (t : ℕ) (c : Fin 512) : EReal := x (ix2 ⟨t % 2048, by omega⟩ c)

/-- The scratch row n: zero before the sixteenth, then the sequence's. -/
def ext (n : ℕ) (c : Fin 512) : EReal := if n < 16 then 0 else seqRow x0 (n - 16) c

theorem held_apply (y : S2064x512.Idx) : (View.canon (Val := Elt Ideal) (held arg1 harg1 x0) y : EReal) = ext x0 (y 0).val (y 1) := by
  refine View.canon_apply_of_pieces (Val := Elt Ideal) (fun y : S2064x512.Idx => (ext x0 (y 0).val (y 1) : EReal)) (held arg1 harg1 x0) ?_ y ?_
  · unfold held
    simp only [List.forall_mem_cons]
    refine ⟨?_, ?_, fun _ h => absurd h List.not_mem_nil⟩
    · show ∀ x : S2048x512.Idx, (k0_pay3 (F := Ideal) (View.readAt (Elt Ideal) arg1.view (Rect.unit (s := S2048x512) ![0, 0] S2048x512.size
        inb_S2048x512_S2048x512_0_0).toLoadRect (harg1.unread x0)) x : EReal)
          = ext x0 ((Rect.unit (s := S2064x512) ![16, 0] S2048x512.size inb_S2064x512_S2048x512_16_0).emb x 0).val
            ((Rect.unit (s := S2064x512) ![16, 0] S2048x512.size inb_S2064x512_S2048x512_16_0).emb x 1)
      intro x
      obtain ⟨n, k, rfl⟩ : ∃ (n : Fin 2048) (k : Fin 512), x = ix2 n k := ⟨x 0, x 1, by funext a; match a with | ⟨0, _⟩ => rfl | ⟨1, _⟩ => rfl⟩
      have e0 : ((Rect.unit (s := S2064x512) ![16, 0] S2048x512.size inb_S2064x512_S2048x512_16_0).emb (ix2 n k) 0).val = 16 + n.val :=
        show 16 + 1 * n.val = 16 + n.val by omega
      have e1 : (Rect.unit (s := S2064x512) ![16, 0] S2048x512.size inb_S2064x512_S2048x512_16_0).emb (ix2 n k) 1 = k :=
        Fin.ext (show 0 + 1 * k.val = k.val by omega)
      refine Eq.trans ?_ (congrArg₂ (ext x0) e0 e1).symm
      unfold ext seqRow
      rw [if_neg (by omega)]
      have ep : ∀ v : Vec Ideal S2048x512 .f32, (k0_pay3 (F := Ideal) v (ix2 n k) : EReal) = v (ix2 n k) := by
        intro v
        pointwise [k0_pay3]
      refine (ep _).trans ((Memref.IsWhole.readAt_unread harg1 x0 _ _).trans (congrArg (x0 : S2048x512.Idx → EReal) (funext fun i => ?_)))
      match i with
      | ⟨0, _⟩ => exact Fin.ext (show 0 + 1 * n.val = (16 + n.val - 16) % 2048 by omega)
      | ⟨1, _⟩ => exact Fin.ext (show 0 + 1 * k.val = k.val by omega)
    · show ∀ x : S16x512.Idx, (k0_pay2 (F := Ideal) x : EReal)
          = ext x0 ((Rect.unit (s := S2064x512) ![0, 0] S16x512.size inb_S2064x512_S16x512_0_0).emb x 0).val
            ((Rect.unit (s := S2064x512) ![0, 0] S16x512.size inb_S2064x512_S16x512_0_0).emb x 1)
      intro x
      obtain ⟨n, k, rfl⟩ : ∃ (n : Fin 16) (k : Fin 512), x = ix2 n k := ⟨x 0, x 1, by funext a; match a with | ⟨0, _⟩ => rfl | ⟨1, _⟩ => rfl⟩
      refine Eq.trans ?_ (if_pos (show 0 + 1 * n.val < 16 by omega)).symm
      pointwise [k0_pay2]
  · by_cases h : (y 0).val < 16
    · refine ⟨_, List.mem_cons_of_mem _ List.mem_cons_self, (Rect.mem_set_unit (inb := inb_S2064x512_S16x512_0_0)).mpr fun a => ?_⟩
      match a with
      | ⟨0, _⟩ => exact ⟨Nat.zero_le _, (show (y 0).val < 0 + 16 by omega)⟩
      | ⟨1, _⟩ => exact ⟨Nat.zero_le _, (show (y 1).val < 0 + 512 by have := (y 1).isLt; exact this)⟩
    · refine ⟨_, List.mem_cons_self, (Rect.mem_set_unit (inb := inb_S2064x512_S2048x512_16_0)).mpr fun a => ?_⟩
      match a with
      | ⟨0, _⟩ => exact ⟨(show 16 ≤ (y 0).val by omega), (show (y 0).val < 16 + 2048 by have : (y 0).val < 2064 := (y 0).isLt; omega)⟩
      | ⟨1, _⟩ => exact ⟨Nat.zero_le _, (show (y 1).val < 0 + 512 by have : (y 1).val < 512 := (y 1).isLt; omega)⟩

theorem rows_apply (i : Fin 8) (g : Fin 4) (j : ℕ) (hj : j < 16) (r : Fin 256) (k : Fin 128) :
    (rows arg1 harg1 arg5 x0 (256 * i.val) g j (ix2 r k) : EReal) = before (seqRow x0) (256 * i.val + r.val) j (col g k) := by
  unfold rows
  rw [View.readCov_eq_canon']
  refine (held_apply arg1 harg1 x0 _).trans ?_
  have e0 : ((place (16 + 256 * i.val - j) g).toLoadRect.idx (ix2 r k) 0).val = 16 + 256 * i.val - j + r.val :=
    show (16 + 256 * i.val - j) % 1809 + 1 * r.val = _ by omega
  have e1 : (place (16 + 256 * i.val - j) g).toLoadRect.idx (ix2 r k) 1 = col g k :=
    Fin.ext (show 128 * g.val + 1 * k.val = 128 * g.val + k.val by omega)
  refine (congrArg₂ (ext x0) e0 e1).trans ?_
  unfold ext before
  by_cases h : j ≤ 256 * i.val + r.val
  · rw [if_neg (by omega), if_pos h]
    exact congrArg (fun n => seqRow x0 n (col g k)) (by omega)
  · rw [if_pos (by omega), if_neg h]

theorem wts_apply (g : Fin 4) (k d : Fin 128) : (wts arg2 harg2 x1 g (ix3 0 k d) : EReal) = x1 (ix3 g k d) := by
  refine (Memref.IsWhole.readAt_unread harg2 x1 _ _).trans (congrArg (x1 : S4x128x128.Idx → EReal) (funext fun i => ?_))
  match i with
  | ⟨0, _⟩ => exact Fin.ext (show g.val + 1 * 0 = g.val by omega)
  | ⟨1, _⟩ => exact Fin.ext (show 0 + 1 * k.val = k.val by omega)
  | ⟨2, _⟩ => exact Fin.ext (show 0 + 1 * d.val = d.val by omega)

theorem scl_apply (k : Fin 512) : (scl arg3 harg3 x2 (ix2 0 k) : EReal) = x2 (ix2 0 k) := by
  refine (Memref.IsWhole.readAt_unread harg3 x2 _ _).trans (congrArg (x2 : S1x512.Idx → EReal) (funext fun i => ?_))
  match i with
  | ⟨0, _⟩ => exact Fin.ext (show 0 + 1 * 0 = 0 by omega)
  | ⟨1, _⟩ => exact Fin.ext (show 0 + 1 * k.val = k.val by omega)

theorem avg_rows (n : ℕ) (i : Fin 8) (g : Fin 4) (hn : n + 1 = 2 ^ (g.val + 1)) (h16 : n < 16) (r : Fin 256) (k : Fin 128) :
    (avg n (256 * i.val) (n + 1) (rows arg1 harg1 arg5 x0 (256 * i.val) g) (ix2 r k) : EReal) = pooled (seqRow x0) (256 * i.val + r.val) g k := by
  refine (avg_apply n i g (n + 1) hn _ r k).trans ?_
  unfold pooled
  rw [hn]
  refine congrArg₂ (fun u v : EReal => Ideal.div u (count g (256 * i.val + r.val)) - v) (Finset.sum_congr rfl fun j hj => ?_) ?_
  · have hj' : j < 2 ^ (g.val + 1) := Finset.mem_range.mp hj
    exact rows_apply arg1 harg1 arg5 x0 i g j (by omega) r k
  · exact (rows_apply arg1 harg1 arg5 x0 i g 0 (by omega) r k).trans (if_pos (Nat.zero_le _))

theorem avgs_rows (i : Fin 8) (g : Fin 4) (r : Fin 256) (k : Fin 128) :
    (avgs (256 * i.val) (rows arg1 harg1 arg5 x0 (256 * i.val)) (ix2 r (col g k)) : EReal) = pooled (seqRow x0) (256 * i.val + r.val) g k := by
  refine (cat_apply _ g r k).trans ?_
  match g with
  | 0 => exact avg_rows arg1 harg1 arg5 x0 1 i 0 rfl (by omega) r k
  | 1 => exact avg_rows arg1 harg1 arg5 x0 3 i 1 rfl (by omega) r k
  | 2 => exact avg_rows arg1 harg1 arg5 x0 7 i 2 rfl (by omega) r k
  | 3 => exact avg_rows arg1 harg1 arg5 x0 15 i 3 rfl (by omega) r k

/-- A group's mixed columns. -/
theorem mixed_part (v : FVec Ideal S256x512 .f32) (o : ℕ) (h : S256x512.Slices ![0, o] S256x128) (g : Fin 4)
    (ho : o = 128 * g.val) (b : Fin 256) (d : Fin 128) :
    (mixed (part o h v) (wts arg2 harg2 x1 g) (ix2 b d) : EReal) = ∑ k : Fin 128, (v (ix2 b (col g k)) : EReal) * x1 (ix3 g k d) :=
  (mixed_apply _ _ b d).trans (Finset.sum_congr rfl fun k _ => congrArg₂ (fun x y : EReal => x * y) (part_apply o h v g ho b k) (wts_apply arg2 harg2 x1 g k d))

/-- What a block holds: every row's entries. -/
def block : Vec Ideal S2048x512 .bf16 :=
  arr (entry (seqRow x0) (fun g k d => (x1 (ix3 g k d) : EReal)) (fun c => (x2 (ix2 0 c) : EReal)))

theorem step_apply (i : Fin 8) (r : Fin 256) (g : Fin 4) (d : Fin 128) :
    (step (256 * i.val) (rows arg1 harg1 arg5 x0 (256 * i.val)) (wts arg2 harg2 x1) (scl arg3 harg3 x2) (ix2 r (col g d)) : EReal)
      = entry (seqRow x0) (fun g k d => (x1 (ix3 g k d) : EReal)) (fun c => (x2 (ix2 0 c) : EReal)) (256 * i.val + r.val) g d := by
  refine (scaled_apply _ _ r (col g d)).trans (congrArg₂ (fun u v : EReal => u * v) ((cat_apply _ g r d).trans ?_) (scl_apply arg3 harg3 x2 _))
  refine Eq.trans (b := ∑ k : Fin 128, (avgs (256 * i.val) (rows arg1 harg1 arg5 x0 (256 * i.val)) (ix2 r (col g k)) : EReal) * x1 (ix3 g k d)) ?_
    (Finset.sum_congr rfl fun k _ => congrArg (fun v : EReal => v * x1 (ix3 g k d)) (avgs_rows arg1 harg1 arg5 x0 i g r k))
  match g with
  | 0 => exact mixed_part arg2 harg2 x1 _ 0 _ 0 rfl r d
  | 1 => exact mixed_part arg2 harg2 x1 _ 128 _ 1 rfl r d
  | 2 => exact mixed_part arg2 harg2 x1 _ 256 _ 2 rfl r d
  | 3 => exact mixed_part arg2 harg2 x1 _ 384 _ 3 rfl r d

/-- A chunk's store holds its entries. -/
theorem pieceP (i : Fin 8) (x : (piece arg1 harg1 arg2 harg2 arg3 harg3 arg5 x0 x1 x2 i).1.shape.Idx) :
    (piece arg1 harg1 arg2 harg2 arg3 harg3 arg5 x0 x1 x2 i).2 x = block x0 x1 x2 ((piece arg1 harg1 arg2 harg2 arg3 harg3 arg5 x0 x1 x2 i).1.emb x) := by
  revert x
  show ∀ x : S256x512.Idx, step (256 * i.val) (rows arg1 harg1 arg5 x0 (256 * i.val)) (wts arg2 harg2 x1) (scl arg3 harg3 x2) x
    = block x0 x1 x2 ((rplace i).emb x)
  intro x
  obtain ⟨r, cc, rfl⟩ : ∃ (r : Fin 256) (cc : Fin 512), x = ix2 r cc := ⟨x 0, x 1, by funext a; match a with | ⟨0, _⟩ => rfl | ⟨1, _⟩ => rfl⟩
  obtain ⟨g, d, rfl⟩ := exists_col cc
  refine (step_apply arg1 harg1 arg2 harg2 arg3 harg3 arg5 x0 x1 x2 i r g d).trans
    (Eq.trans (arr_apply (N := 2048) _ ⟨256 * i.val + r.val, by omega⟩ g d).symm ?_)
  refine congrArg (block x0 x1 x2 : S2048x512.Idx → EReal) (funext fun a => ?_)
  match a with
  | ⟨0, _⟩ => exact Fin.ext (show 256 * i.val + r.val = 256 * i.val + 1 * r.val by omega)
  | ⟨1, _⟩ => exact Fin.ext (show 128 * g.val + d.val = 0 + 1 * (128 * g.val + d.val) by omega)

theorem out_eq : out0_A_3 c i arg1 harg1 arg2 harg2 arg3 harg3 arg4 harg4 arg5 harg5 x0 x1 x2 = block x0 x1 x2 := by
  unfold out0_A_3
  rw [View.read_writes_junk_eq_canon]
  funext y
  refine View.canon_apply_of_pieces (Val := Elt Ideal) (block x0 x1 x2) _ ?_ y (cover0_A_3 c i arg1 harg1 arg2 harg2 arg3 harg3 arg4 harg4 arg5 harg5 x0 x1 x2 y)
  rw [pieces_eq]
  have h := pieceP arg1 harg1 arg2 harg2 arg3 harg3 arg5 x0 x1 x2
  simp only [List.forall_mem_cons]
  exact ⟨h 7, h 6, h 5, h 4, h 3, h 2, h 1, h 0, fun _ h => absurd h List.not_mem_nil⟩

/-- The result: every row's entries in its sequence. -/
def result (u : FVec Ideal S8192x512 .f32) (w : FVec Ideal S4x128x128 .f32) (s : FVec Ideal S512 .f32) : FVec Ideal S8192x512 .bf16 :=
  arr fun n => entry (fun t c => (u (ix2 ⟨(n / 2048 * 2048 + t % 2048) % 8192, by omega⟩ c) : EReal)) (fun g k d => (w (ix3 g k d) : EReal))
    (fun c => (s (ix1 c) : EReal)) (n % 2048)

variable (m : (ℓ : Loc nD τ sig) → Buf (Elt Ideal) ℓ)

theorem idx_eq : ∀ t : Fin cfg0.N, win0_0.index t = ![t.val, 0] ∧ win0_1.index t = ![0, 0, 0] ∧ win0_2.index t = ![0, 0]
    ∧ win0_3.index t = ![t.val, 0] :=
  (by decide +kernel : ∀ t : Fin grid0.N, win0_0.index t = ![t.val, 0] ∧ win0_1.index t = ![0, 0, 0] ∧ win0_2.index t = ![0, 0]
    ∧ win0_3.index t = ![t.val, 0])

theorem lt4 (t : Fin cfg0.N) : t.val < 4 := (show t.val < grid0.N from t.isLt)

theorem iblk0_apply (c : Dev nD) (t : Fin cfg0.N) (n : Fin 2048) (k : Fin 512) :
    (iblk m c 0 t : Vec Ideal S2048x512 .f32) (ix2 n k) = (m ((c.tc : Thread nD τ).loc main_arg0) : Vec Ideal S8192x512 .f32)
      (ix2 ⟨2048 * t.val + n.val, by have := lt4 t; omega⟩ k) := by
  obtain ⟨e0, e1, e2, e3⟩ := idx_eq t
  blk_ext [iblk, V_main_arg0, e0]

theorem iblk1_apply (c : Dev nD) (t : Fin cfg0.N) (g : Fin 4) (k d : Fin 128) :
    ((iblk m c 1 t : Vec Ideal S4x128x128 .bf16) (ix3 g k d) : EReal) = (m ((c.tc : Thread nD τ).loc main_arg1) : Vec Ideal S4x128x128 .f32) (ix3 g k d) := by
  obtain ⟨e0, e1, e2, e3⟩ := idx_eq t
  have hb : (iblk m c 1 t : Vec Ideal S4x128x128 .bf16) (ix3 g k d) = (V m c main_v0 : Vec Ideal S4x128x128 .bf16) (ix3 g k d) := by
    blk_ext [iblk, e1]
  rw [hb]
  entry_read
  rfl

theorem iblk2_apply (c : Dev nD) (t : Fin cfg0.N) (k : Fin 512) :
    (iblk m c 2 t : Vec Ideal S1x512 .f32) (ix2 0 k) = (m ((c.tc : Thread nD τ).loc main_arg2) : Vec Ideal S512 .f32) (ix1 k) := by
  obtain ⟨e0, e1, e2, e3⟩ := idx_eq t
  have hb : (iblk m c 2 t : Vec Ideal S1x512 .f32) (ix2 0 k) = (V m c main_v1 : Vec Ideal S1x512 .f32) (ix2 0 k) := by
    blk_ext [iblk, e2]
  rw [hb]
  entry_read
  pointwise

theorem final (c : Dev nD) (u : FVec Ideal S8192x512 .f32) (w : FVec Ideal S4x128x128 .f32) (s : FVec Ideal S512 .f32)
    (eu : m ((c.tc : Thread nD τ).loc main_arg0) = u)
    (ew : m ((c.tc : Thread nD τ).loc main_arg1) = w) (es : m ((c.tc : Thread nD τ).loc main_arg2) = s) :
    (dats m 0 c).arrAt 3 cfg0.N = result u w s := by
  subst eu ew es
  refine (dats m 0 c).arrAt_eq_of_covers 3 _ (by decide +kernel) fun t hf y => ?_
  obtain ⟨e0, e1, e2, e3⟩ := idx_eq t
  have h4 := lt4 t
  blk_simp
  rw [after0_3]
  unfold outsAt0
  rw [out_eq]
  revert y
  show ∀ y : S2048x512.Idx, block (iblk m c 0 t) (iblk m c 1 t) (iblk m c 2 t) y = result _ _ _ ((win0_3.blk t).view.emb y)
  intro y
  obtain ⟨n, k, rfl⟩ : ∃ (n : Fin 2048) (k : Fin 512), y = ix2 n k := ⟨y 0, y 1, by funext a; match a with | ⟨0, _⟩ => rfl | ⟨1, _⟩ => rfl⟩
  have hr : (win0_3.blk t).view.emb (ix2 n k) = (ix2 (⟨2048 * t.val + n.val, by omega⟩ : Fin 8192) k : S8192x512.Idx) := by blk_ext [e3]
  rw [hr]
  obtain ⟨g, d, rfl⟩ := exists_col k
  refine (arr_apply _ n g d).trans (Eq.trans ?_ (arr_apply (N := 8192) _ _ g d).symm)
  have f0 : seqRow (iblk m c 0 t) = fun a k => ((m ((c.tc : Thread nD τ).loc main_arg0) : Vec Ideal S8192x512 .f32)
      (ix2 ⟨((2048 * t.val + n.val) / 2048 * 2048 + a % 2048) % 8192, by omega⟩ k) : EReal) := by
    funext a k
    refine (iblk0_apply m c t ⟨a % 2048, by omega⟩ k).trans ?_
    refine congrArg (fun i => (m ((c.tc : Thread nD τ).loc main_arg0) : Vec Ideal S8192x512 .f32) (ix2 i k)) (Fin.ext ?_)
    show 2048 * t.val + a % 2048 = ((2048 * t.val + n.val) / 2048 * 2048 + a % 2048) % 8192
    omega
  have f1 : (fun (g : Fin 4) (k d : Fin 128) => ((iblk m c 1 t : Vec Ideal S4x128x128 .bf16) (ix3 g k d) : EReal)) =
      fun g k d => ((m ((c.tc : Thread nD τ).loc main_arg1) : Vec Ideal S4x128x128 .f32) (ix3 g k d) : EReal) := by
    funext g k d
    exact iblk1_apply m c t g k d
  have f2 : (fun k : Fin 512 => ((iblk m c 2 t : Vec Ideal S1x512 .f32) (ix2 0 k) : EReal)) =
      fun k => ((m ((c.tc : Thread nD τ).loc main_arg2) : Vec Ideal S512 .f32) (ix1 k) : EReal) := by
    funext k
    exact iblk2_apply m c t k
  have hn : n.val = (2048 * t.val + n.val) % 2048 := by omega
  rw [f0, f1, f2]
  exact congrArg (fun z => entry _ _ _ z g d) hn

end Cert.PoolPKernel

end
-- ==== Proof.PoolClaim.lean ====
/- The prompt's pooling mixer: its kernel and its reference leave the same array. -/
module

public import proofs.«01_k».proof.Proof.PoolKernel
public import proofs.«01_k».proof.Proof.Gen.PoolRefIdeal.Run

@[expose] public section

set_option maxRecDepth 16384

noncomputable section

namespace Cert.PoolClaim

open Idealize.ShloMosaic Idealize.ShloMosaic.TcCoe Idealize.SL.Sem
open Cert.PoolKernel (col exists_col)
open Cert.PoolPKernel (pooled before count entry arr arr_apply minsi_small)

section Ref
open Cert.PoolRefIdeal Cert.PoolRefIdeal.Gen Cert.PoolRefIdeal.Value

section Terms
variable {F : FTy → Type} [FloatOps F]

/-- The rows by sequence. -/
def seqs (u : FVec F S8192x512 .f32) : FVec F S4x2048x512 .f32 := shapeCast _ u shapeCasts_S8192x512_S4x2048x512

/-- Fifteen rows of zeros, then the sequence. -/
def ext (x : FVec F S4x2048x512 .f32) : FVec F S4x2063x512 .f32 :=
  concatenate S4x2063x512 1 [⟨S4x15x512, (broadcastInDim S4x15x512 ![] bcast_S_S4x15x512 (constant S_ .f32 0x00000000#32) : FVec F S4x15x512 .f32)⟩,
    ⟨S4x2048x512, x⟩] concatenates_S4x15x512_S4x2048x512_S4x2063x512_d1

/-- A group's columns in 2048 rows one after another. -/
def cut (e : FVec F S4x2063x512 .f32) (g : Fin 4) (n : ℕ) : FVec F S4x2048x128 .f32 :=
  extractStridedSlice S4x2048x128 ![0, n % 16, 128 * g.val] e ⟨rfl, fun i => match i with
    | ⟨0, _⟩ => (show 0 + 4 ≤ 4 by omega)
    | ⟨1, _⟩ => (show n % 16 + 2048 ≤ 2063 by omega)
    | ⟨2, _⟩ => (show 128 * g.val + 128 ≤ 512 by omega)⟩

/-- A window's sum from its oldest row on. -/
def total (a : ℕ → FVec F S4x2048x128 .f32) : ℕ → FVec F S4x2048x128 .f32
  | 0 => a 0
  | n + 1 => addf (total a n) (a (n + 1))

/-- The number of rows averaged at each row. -/
def cnt (w : ℕ) : FVec F S2048 .f32 :=
  sitofp .f32 (minsi (addi (iotaInDim S2048 32 0) (broadcastInDim S2048 ![] bcast_S_S2048 (constantI S_ 32 1#32)))
    (broadcastInDim S2048 ![] bcast_S_S2048 (constantI S_ 32 (BitVec.ofNat 32 w))))

def spread (x : FVec F S2048 .f32) : FVec F S4x2048x128 .f32 :=
  broadcastInDim S4x2048x128 ![0, 1, 2] bcast_S1x2048x1_S4x2048x128_0_1_2
    (broadcastInDim S1x2048x1 ![1, 2] bcast_S2048x1_S1x2048x1_1_2 (broadcastInDim S2048x1 ![0] bcast_S2048_S2048x1_0 x))

/-- A group's averages. -/
def avg (e : FVec F S4x2063x512 .f32) (g : Fin 4) (first n w : ℕ) : FVec F S4x2048x128 .f32 :=
  Host.divf (total (fun j => cut e g (first + j)) n) (spread (cnt w))

/-- The four groups side by side. -/
def cat (A : Fin 4 → FVec F S4x2048x128 .f32) : FVec F S4x2048x512 .f32 :=
  concatenate S4x2048x512 2 [⟨S4x2048x128, A 0⟩, ⟨S4x2048x128, A 1⟩, ⟨S4x2048x128, A 2⟩, ⟨S4x2048x128, A 3⟩]
    concatenates_S4x2048x128_S4x2048x128_S4x2048x128_S4x2048x128_S4x2048x512_d2

def avgs (e : FVec F S4x2063x512 .f32) : FVec F S4x2048x512 .f32 := cat ![avg e 0 14 1 2, avg e 1 12 3 4, avg e 2 8 7 8, avg e 3 0 15 16]

/-- The groups mixed. -/
def mixed (x : FVec F S4x2048x512 .f32) (w : FVec F S4x128x128 .f32) : FVec F S8192x512 .f32 :=
  shapeCast _ (transpose S4x2048x4x128 [2, 3, 0, 1] (Host.dotGeneral dot_S4x128x128_S4x2048x4x128_S4x128x4x2048_1_3_2_01_0_2 none w
    (shapeCast _ x shapeCasts_S4x2048x512_S4x2048x4x128)) transposes_S4x128x4x2048_S4x2048x4x128_2_3_0_1) shapeCasts_S4x2048x4x128_S8192x512

def scaled (x : FVec F S8192x512 .f32) (s : FVec F S512 .f32) : FVec F S8192x512 .bf16 :=
  truncf .bf16 (mulf x (broadcastInDim S8192x512 ![0, 1] bcast_S1x512_S8192x512_0_1 (broadcastInDim S1x512 ![1] bcast_S512_S1x512_1 s)))
    bitsLt_bf16_f32

/-- The reference's result. -/
def out (u : FVec F S8192x512 .f32) (w : FVec F S4x128x128 .f32) (s : FVec F S512 .f32) : FVec F S8192x512 .bf16 :=
  scaled (mixed (subf (avgs (ext (seqs u))) (seqs u)) w) s

end Terms

theorem res_eq (m : (ℓ : Loc nD τ sig) → Buf (Elt Ideal) ℓ) (c : Dev nD) :
    res_main_v108 m c = out (F := Ideal) (m ((c.tc : Thread nD τ).loc main_arg0)) (m ((c.tc : Thread nD τ).loc main_arg1))
      (m ((c.tc : Thread nD τ).loc main_arg2)) := by
  unfold res_main_v108
  rfl

variable (u : FVec Ideal S8192x512 .f32) (w : FVec Ideal S4x128x128 .f32) (s : FVec Ideal S512 .f32)

/-- A sequence's rows. -/
def rowsOf (b : ℕ) (t : ℕ) (c : Fin 512) : EReal := u (ix2 ⟨(b * 2048 + t % 2048) % 8192, by omega⟩ c)

theorem seqs_apply (b : Fin 4) (t : Fin 2048) (c : Fin 512) : (seqs u (ix3 b t c) : EReal) = rowsOf u b.val t.val c := by
  unfold rowsOf
  pointwise [seqs]
  exact congrArg (fun i => (u (ix2 i c) : EReal)) (Fin.ext (show b.val * 2048 + t.val = (b.val * 2048 + t.val % 2048) % 8192 by omega))

theorem ext_apply (x : FVec Ideal S4x2048x512 .f32) (b : Fin 4) (n : Fin 2063) (c : Fin 512) :
    (ext x (ix3 b n c) : EReal) = if n.val < 15 then 0 else x (ix3 b ⟨(n.val - 15) % 2048, by omega⟩ c) := by
  pointwise [ext]
  split
  · rfl
  · exact congrArg (fun i => (x (ix3 b i c) : EReal)) (Fin.ext (show n.val - 15 = (n.val - 15) % 2048 by omega))

theorem cut_apply (e : FVec Ideal S4x2063x512 .f32) (g : Fin 4) (n : ℕ) (b : Fin 4) (t : Fin 2048) (k : Fin 128) :
    (cut e g n (ix3 b t k) : EReal) = e (ix3 b ⟨n % 16 + t.val, by omega⟩ (col g k)) := by
  refine congrArg (e : S4x2063x512.Idx → EReal) (funext fun i => ?_)
  match i with
  | ⟨0, _⟩ => exact Fin.ext (show 0 + b.val = b.val by omega)
  | ⟨1, _⟩ => rfl
  | ⟨2, _⟩ => rfl

theorem total_apply (a : ℕ → FVec Ideal S4x2048x128 .f32) (n : ℕ) (b : Fin 4) (t : Fin 2048) (k : Fin 128) :
    (total a n (ix3 b t k) : EReal) = ∑ j ∈ Finset.range (n + 1), (a j (ix3 b t k) : EReal) := by
  induction n with
  | zero => rw [Finset.sum_range_one]; rfl
  | succ n ih => rw [Finset.sum_range_succ, ← ih]; rfl

theorem spread_apply (x : FVec Ideal S2048 .f32) (b : Fin 4) (t : Fin 2048) (k : Fin 128) : (spread x (ix3 b t k) : EReal) = x (ix1 t) := by
  pointwise [spread]

theorem cnt_apply (g : Fin 4) (n : ℕ) (hn : n = 2 ^ (g.val + 1)) (t : Fin 2048) : (cnt (F := Ideal) n (ix1 t) : EReal) = count g t.val := by
  have hn' : n < 2 ^ 31 := by
    rw [hn]
    exact Nat.pow_lt_pow_right (by omega) (by omega)
  have e : (cnt (F := Ideal) n (ix1 t) : EReal)
      = (((IntOp.minsi (IntOp.addi (BitVec.ofNat 32 t.val) 1#32) (BitVec.ofNat 32 n)).toInt : ℝ) : EReal) := rfl
  have ea : IntOp.addi (BitVec.ofNat 32 t.val) 1#32 = BitVec.ofNat 32 (t.val + 1) := by
    unfold IntOp.addi
    rw [← BitVec.ofNat_add]
  rw [e, ea, minsi_small _ _ (by omega) hn', hn]
  unfold PoolPKernel.count
  push_cast
  rfl

theorem avg_apply (g : Fin 4) (first n : ℕ) (hn : n + 1 = 2 ^ (g.val + 1)) (hf : first + n = 15) (b : Fin 4) (t : Fin 2048) (k : Fin 128) :
    (avg (ext (seqs u)) g first n (n + 1) (ix3 b t k) : EReal)
      = Ideal.div (∑ j ∈ Finset.range (2 ^ (g.val + 1)), before (rowsOf u b.val) t.val j (col g k)) (count g t.val) := by
  refine congrArg₂ Ideal.div ((total_apply _ n b t k).trans ?_) ((spread_apply _ b t k).trans (cnt_apply g (n + 1) hn t))
  rw [← hn, ← Finset.sum_range_reflect]
  refine Finset.sum_congr rfl fun j hj => ?_
  have hj' : j < n + 1 := Finset.mem_range.mp hj
  refine (cut_apply _ g _ b t k).trans ((ext_apply _ b _ (col g k)).trans ?_)
  have en : (first + (n + 1 - 1 - j)) % 16 + t.val = 15 - j + t.val := by omega
  unfold before
  by_cases h : j ≤ t.val
  · rw [if_pos h]
    refine (if_neg (show ¬ (first + (n + 1 - 1 - j)) % 16 + t.val < 15 by omega)).trans ((seqs_apply u b _ (col g k)).trans ?_)
    exact congrArg (fun i => rowsOf u b.val i (col g k)) (show ((first + (n + 1 - 1 - j)) % 16 + t.val - 15) % 2048 = t.val - j by omega)
  · rw [if_neg h]
    exact if_pos (show (first + (n + 1 - 1 - j)) % 16 + t.val < 15 by omega)

theorem cat0 (A : Fin 4 → FVec Ideal S4x2048x128 .f32) (b : Fin 4) (t : Fin 2048) (k : Fin 128) :
    (cat A (ix3 b t ⟨k.val, by omega⟩) : EReal) = A 0 (ix3 b t k) := by
  pointwise [cat]
theorem cat1 (A : Fin 4 → FVec Ideal S4x2048x128 .f32) (b : Fin 4) (t : Fin 2048) (k : Fin 128) :
    (cat A (ix3 b t ⟨128 + k.val, by omega⟩) : EReal) = A 1 (ix3 b t k) := by
  pointwise [cat]
theorem cat2 (A : Fin 4 → FVec Ideal S4x2048x128 .f32) (b : Fin 4) (t : Fin 2048) (k : Fin 128) :
    (cat A (ix3 b t ⟨256 + k.val, by omega⟩) : EReal) = A 2 (ix3 b t k) := by
  pointwise [cat]
  rw [dif_neg (by omega), dif_neg (by omega), dif_pos (by omega)]
  exact congrArg (fun i => (A 2 (ix3 b t i) : EReal)) (Fin.ext (show 256 + k.val - 128 - 128 = k.val by omega))
theorem cat3 (A : Fin 4 → FVec Ideal S4x2048x128 .f32) (b : Fin 4) (t : Fin 2048) (k : Fin 128) :
    (cat A (ix3 b t ⟨384 + k.val, by omega⟩) : EReal) = A 3 (ix3 b t k) := by
  pointwise [cat]
  rw [dif_neg (by omega), dif_neg (by omega), dif_neg (by omega)]
  exact congrArg (fun i => (A 3 (ix3 b t i) : EReal)) (Fin.ext (show 384 + k.val - 128 - 128 - 128 = k.val by omega))

theorem cat_apply (A : Fin 4 → FVec Ideal S4x2048x128 .f32) (g : Fin 4) (b : Fin 4) (t : Fin 2048) (k : Fin 128) :
    (cat A (ix3 b t (col g k)) : EReal) = A g (ix3 b t k) := by
  have e (o : ℕ) (h : 128 * g.val = o) (ho : o + k.val < 512) : col g k = ⟨o + k.val, ho⟩ := Fin.ext (show 128 * g.val + k.val = o + k.val by omega)
  match g, e with
  | 0, e => exact (congrArg (fun i => (cat A (ix3 b t i) : EReal)) (Fin.ext (show 128 * 0 + k.val = k.val by omega))).trans (cat0 A b t k)
  | 1, e => exact (congrArg (fun i => (cat A (ix3 b t i) : EReal)) (e 128 rfl (by omega))).trans (cat1 A b t k)
  | 2, e => exact (congrArg (fun i => (cat A (ix3 b t i) : EReal)) (e 256 rfl (by omega))).trans (cat2 A b t k)
  | 3, e => exact (congrArg (fun i => (cat A (ix3 b t i) : EReal)) (e 384 rfl (by omega))).trans (cat3 A b t k)

theorem avgs_apply (g b : Fin 4) (t : Fin 2048) (k : Fin 128) :
    (avgs (ext (seqs u)) (ix3 b t (col g k)) : EReal)
      = Ideal.div (∑ j ∈ Finset.range (2 ^ (g.val + 1)), before (rowsOf u b.val) t.val j (col g k)) (count g t.val) := by
  refine (cat_apply _ g b t k).trans ?_
  match g with
  | 0 => exact avg_apply u 0 14 1 rfl rfl b t k
  | 1 => exact avg_apply u 1 12 3 rfl rfl b t k
  | 2 => exact avg_apply u 2 8 7 rfl rfl b t k
  | 3 => exact avg_apply u 3 0 15 rfl rfl b t k

theorem mixed_apply (x : FVec Ideal S4x2048x512 .f32) (n : Fin 8192) (g : Fin 4) (d : Fin 128) :
    (mixed x w (ix2 n (col g d)) : EReal)
      = ∑ k : Fin 128, (w (ix3 g k d) : EReal) * x (ix3 ⟨n.val / 2048, by omega⟩ ⟨n.val % 2048, by omega⟩ (col g k)) := by
  unfold col
  pointwise [mixed]
  exact Finset.sum_congr rfl fun k _ => congrArg (fun i => (w (ix3 g k d) : EReal) * x (ix3 ⟨n.val / 2048, by omega⟩ ⟨n.val % 2048, by omega⟩ i))
    (Fin.ext (show g.val * 128 + k.val = 128 * g.val + k.val by omega))

theorem scaled_apply (x : FVec Ideal S8192x512 .f32) (n : Fin 8192) (c : Fin 512) : (scaled x s (ix2 n c) : EReal) = x (ix2 n c) * s (ix1 c) := by
  pointwise [scaled]

theorem ref_eq : out u w s = PoolPKernel.result u w s := by
  funext y
  revert y
  show ∀ y : S8192x512.Idx, _
  intro y
  obtain ⟨n, c, rfl⟩ : ∃ (n : Fin 8192) (c : Fin 512), y = ix2 n c := ⟨y 0, y 1, by funext a; match a with | ⟨0, _⟩ => rfl | ⟨1, _⟩ => rfl⟩
  obtain ⟨g, d, rfl⟩ := exists_col c
  refine Eq.trans ?_ (arr_apply (N := 8192) _ n g d).symm
  refine (scaled_apply s _ n (col g d)).trans (congrArg (fun v : EReal => v * s (ix1 (col g d))) ((mixed_apply w _ n g d).trans ?_))
  refine Finset.sum_congr rfl fun k _ => (mul_comm _ _).trans (congrArg (fun v : EReal => v * w (ix3 g k d)) ?_)
  exact congrArg₂ (fun p q : EReal => p - q) (avgs_apply u g _ _ k) (seqs_apply u _ _ (col g k))

end Ref

/-- Kernel and reference leave the same array. -/
theorem algebraic : Cert.algebraic_PoolIdeal_PoolRefIdeal := by
  intro m ρ m' ρ' hpre hag
  refine ⟨fun c => PoolPKernel.result (m ((c.tc : Thread Cert.PoolIdeal.nD Cert.PoolIdeal.τ).loc Cert.PoolIdeal.main_arg0))
    (m ((c.tc : Thread Cert.PoolIdeal.nD Cert.PoolIdeal.τ).loc Cert.PoolIdeal.main_arg1))
    (m ((c.tc : Thread Cert.PoolIdeal.nD Cert.PoolIdeal.τ).loc Cert.PoolIdeal.main_arg2)), ?_, ?_⟩
  · exact (θ_run Cert.PoolIdeal.defs _ _).mono (fun _ h c => ⟨(h c).1.trans (PoolPKernel.final m c _ _ _ rfl rfl rfl), (h c).2⟩)
      (Cert.PoolIdeal.Value.run_blocks (F := Ideal) m ρ)
  · refine (θ_run Cert.PoolRefIdeal.defs _ _).mono (fun _ h c => ⟨(h c).1.trans ?_, (h c).2⟩)
      (Cert.PoolRefIdeal.Value.run (F := Ideal) m' ρ')
    rw [res_eq, (hag c).1, (hag c).2.1, (hag c).2.2]
    exact ref_eq _ _ _

end Cert.PoolClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InAb
public import proofs.«01_k».proof.Proof.Gen.InAb.Skeleton
public import proofs.«01_k».proof.Proof.Gen.InAb.Launch
public import proofs.«01_k».proof.Proof.Gen.InAb.Points
public import proofs.«01_k».proof.Proof.Gen.InAb.Frame
public import proofs.«01_k».proof.Proof.Gen.InAbIdeal
public import proofs.«01_k».proof.Proof.Gen.InAbIdeal.Skeleton
public import proofs.«01_k».proof.Proof.Gen.InAbIdeal.Launch
public import proofs.«01_k».proof.Proof.Gen.InAbIdeal.Points
public import proofs.«01_k».proof.Proof.Gen.InAbIdeal.Frame
public import proofs.«01_k».proof.Proof.Gen.InAbIdeal.Value
public import proofs.«01_k».proof.Proof.Gen.InAbRefIdeal
public import proofs.«01_k».proof.Proof.Gen.InAbRefIdeal.Run
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpFinal
public import proofs.«01_k».proof.Proof.Gen.MlpFinal.Skeleton
public import proofs.«01_k».proof.Proof.Gen.MlpFinal.Launch
public import proofs.«01_k».proof.Proof.Gen.MlpFinal.Points
public import proofs.«01_k».proof.Proof.Gen.MlpFinal.Frame
public import proofs.«01_k».proof.Proof.Gen.MlpFinalIdeal
public import proofs.«01_k».proof.Proof.Gen.MlpFinalIdeal.Skeleton
public import proofs.«01_k».proof.Proof.Gen.MlpFinalIdeal.Launch
public import proofs.«01_k».proof.Proof.Gen.MlpFinalIdeal.Points
public import proofs.«01_k».proof.Proof.Gen.MlpFinalIdeal.Frame
public import proofs.«01_k».proof.Proof.Gen.MlpFinalRefIdeal
public import proofs.«01_k».proof.Proof.Gen.InCd
public import proofs.«01_k».proof.Proof.Gen.InCd.Skeleton
public import proofs.«01_k».proof.Proof.Gen.InCd.Launch
public import proofs.«01_k».proof.Proof.Gen.InCd.Points
public import proofs.«01_k».proof.Proof.Gen.InCd.Frame
public import proofs.«01_k».proof.Proof.Gen.InCdIdeal
public import proofs.«01_k».proof.Proof.Gen.InCdIdeal.Skeleton
public import proofs.«01_k».proof.Proof.Gen.InCdIdeal.Launch
public import proofs.«01_k».proof.Proof.Gen.InCdIdeal.Points
public import proofs.«01_k».proof.Proof.Gen.InCdIdeal.Frame
public import proofs.«01_k».proof.Proof.Gen.InCdRefIdeal
public import proofs.«01_k».proof.Proof.Gen.OutAb
public import proofs.«01_k».proof.Proof.Gen.OutAb.Skeleton
public import proofs.«01_k».proof.Proof.Gen.OutAb.Launch
public import proofs.«01_k».proof.Proof.Gen.OutAb.Points
public import proofs.«01_k».proof.Proof.Gen.OutAb.Frame
public import proofs.«01_k».proof.Proof.Gen.OutAbIdeal
public import proofs.«01_k».proof.Proof.Gen.OutAbIdeal.Skeleton
public import proofs.«01_k».proof.Proof.Gen.OutAbIdeal.Launch
public import proofs.«01_k».proof.Proof.Gen.OutAbIdeal.Points
public import proofs.«01_k».proof.Proof.Gen.OutAbIdeal.Frame
public import proofs.«01_k».proof.Proof.Gen.OutAbRefIdeal
public import proofs.«01_k».proof.Proof.Gen.OutCd
public import proofs.«01_k».proof.Proof.Gen.OutCd.Skeleton
public import proofs.«01_k».proof.Proof.Gen.OutCd.Launch
public import proofs.«01_k».proof.Proof.Gen.OutCd.Points
public import proofs.«01_k».proof.Proof.Gen.OutCd.Frame
public import proofs.«01_k».proof.Proof.Gen.OutCdIdeal
public import proofs.«01_k».proof.Proof.Gen.OutCdIdeal.Skeleton
public import proofs.«01_k».proof.Proof.Gen.OutCdIdeal.Launch
public import proofs.«01_k».proof.Proof.Gen.OutCdIdeal.Points
public import proofs.«01_k».proof.Proof.Gen.OutCdIdeal.Frame
public import proofs.«01_k».proof.Proof.Gen.OutCdRefIdeal
public import proofs.«01_k».proof.Proof.Gen.Pre_finite_qk
public import proofs.«01_k».proof.Proof.Gen.Pre_finite_ab
public import proofs.«01_k».proof.Proof.Gen.Pre_finite_ab_s
public import proofs.«01_k».proof.Proof.Gen.InAbS
public import proofs.«01_k».proof.Proof.Gen.InAbS.Skeleton
public import proofs.«01_k».proof.Proof.Gen.InAbS.Launch
public import proofs.«01_k».proof.Proof.Gen.InAbS.Points
public import proofs.«01_k».proof.Proof.Gen.InAbS.Frame
public import proofs.«01_k».proof.Proof.Gen.InAbSIdeal
public import proofs.«01_k».proof.Proof.Gen.InAbSIdeal.Skeleton
public import proofs.«01_k».proof.Proof.Gen.InAbSIdeal.Launch
public import proofs.«01_k».proof.Proof.Gen.InAbSIdeal.Points
public import proofs.«01_k».proof.Proof.Gen.InAbSIdeal.Frame
public import proofs.«01_k».proof.Proof.Gen.InAbSIdeal.Value
public import proofs.«01_k».proof.Proof.Gen.InAbSRefIdeal
public import proofs.«01_k».proof.Proof.Gen.InAbSRefIdeal.Run
public import proofs.«01_k».proof.Proof.Gen.KernelIdeal.Value
public import proofs.«01_k».proof.Proof.Gen.MlpIdeal.Value
public import proofs.«01_k».proof.Proof.Gen.MlpFinalIdeal.Value
public import proofs.«01_k».proof.Proof.Gen.InCdIdeal.Value
public import proofs.«01_k».proof.Proof.Gen.OutAbIdeal.Value
public import proofs.«01_k».proof.Proof.Gen.OutCdIdeal.Value
public import proofs.«01_k».proof.Proof.Gen.ReferenceIdeal.Run
public import proofs.«01_k».proof.Proof.Gen.MlpRefIdeal.Run
public import proofs.«01_k».proof.Proof.Gen.MlpFinalRefIdeal.Run
public import proofs.«01_k».proof.Proof.Gen.InCdRefIdeal.Run
public import proofs.«01_k».proof.Proof.Gen.OutAbRefIdeal.Run
public import proofs.«01_k».proof.Proof.Gen.OutCdRefIdeal.Run
public import proofs.«01_k».proof.Proof.Gen.MlpFinalS.Frame
public import proofs.«01_k».proof.Proof.Gen.MlpFinalSIdeal.Value
public import proofs.«01_k».proof.Proof.Gen.MlpFinalSRefIdeal.Run
public import proofs.«01_k».proof.Proof.Gen.InCdS.Frame
public import proofs.«01_k».proof.Proof.Gen.InCdSIdeal.Value
public import proofs.«01_k».proof.Proof.Gen.InCdSRefIdeal.Run
public import proofs.«01_k».proof.Proof.Gen.Unabsorb.Frame
public import proofs.«01_k».proof.Proof.Gen.UnabsorbIdeal.Value
public import proofs.«01_k».proof.Proof.Gen.UnabsorbRefIdeal.Run
public import proofs.«01_k».proof.Proof.Gen.PoolS.Frame
public import proofs.«01_k».proof.Proof.Gen.PoolSIdeal.Value
public import proofs.«01_k».proof.Proof.Gen.PoolSRefIdeal.Run
public import proofs.«01_k».proof.Proof.Gen.ConvS.Frame
public import proofs.«01_k».proof.Proof.Gen.ConvSIdeal.Value
public import proofs.«01_k».proof.Proof.Gen.ConvSRefIdeal.Run
public import proofs.«01_k».proof.Proof.Gen.Pool.Frame
public import proofs.«01_k».proof.Proof.Gen.PoolIdeal.Value
public import proofs.«01_k».proof.Proof.Gen.PoolRefIdeal.Run
public import proofs.«01_k».proof.Proof.AttnClaim
public import proofs.«01_k».proof.Proof.Frames
public import proofs.«01_k».proof.Proof.MlpClaim
public import proofs.«01_k».proof.Proof.MlpFinalClaim
public import proofs.«01_k».proof.Proof.InCdClaim
public import proofs.«01_k».proof.Proof.OutAbClaim
public import proofs.«01_k».proof.Proof.OutCdClaim
public import proofs.«01_k».proof.Proof.InAbClaim
public import proofs.«01_k».proof.Proof.InAbSClaim
public import proofs.«01_k».proof.Proof.MlpFinalSClaim
public import proofs.«01_k».proof.Proof.InCdSClaim
public import proofs.«01_k».proof.Proof.UnabsorbClaim
public import proofs.«01_k».proof.Proof.PoolSClaim
public import proofs.«01_k».proof.Proof.ConvSClaim
public import proofs.«01_k».proof.Proof.PoolClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Mlp.Gen.facts, Cert.MlpIdeal.Gen.facts, Cert.MlpRefIdeal.Gen.facts, Cert.MlpFinal.Gen.facts, Cert.MlpFinalIdeal.Gen.facts, Cert.MlpFinalRefIdeal.Gen.facts, Cert.InCd.Gen.facts, Cert.InCdIdeal.Gen.facts, Cert.InCdRefIdeal.Gen.facts, Cert.OutAb.Gen.facts, Cert.OutAbIdeal.Gen.facts, Cert.OutAbRefIdeal.Gen.facts, Cert.OutCd.Gen.facts, Cert.OutCdIdeal.Gen.facts, Cert.OutCdRefIdeal.Gen.facts, Cert.InAb.Gen.facts, Cert.InAbIdeal.Gen.facts, Cert.InAbRefIdeal.Gen.facts, Cert.InAbS.Gen.facts, Cert.InAbSIdeal.Gen.facts, Cert.InAbSRefIdeal.Gen.facts, Cert.MlpFinalS.Gen.facts, Cert.MlpFinalSIdeal.Gen.facts, Cert.MlpFinalSRefIdeal.Gen.facts, Cert.InCdS.Gen.facts, Cert.InCdSIdeal.Gen.facts, Cert.InCdSRefIdeal.Gen.facts, Cert.Unabsorb.Gen.facts, Cert.UnabsorbIdeal.Gen.facts, Cert.UnabsorbRefIdeal.Gen.facts, Cert.PoolS.Gen.facts, Cert.PoolSIdeal.Gen.facts, Cert.PoolSRefIdeal.Gen.facts, Cert.ConvS.Gen.facts, Cert.ConvSIdeal.Gen.facts, Cert.ConvSRefIdeal.Gen.facts, Cert.Pool.Gen.facts, Cert.PoolIdeal.Gen.facts, Cert.PoolRefIdeal.Gen.facts, Cert.Pre_finite_qk.Gen.facts, Cert.Pre_finite_ab.Gen.facts, Cert.Pre_finite_ab_s.Gen.facts,
  AttnClaim.frame_k,
  AttnClaim.frame_ki,
  AttnClaim.frame_ki_pre,
  AttnClaim.frame_ref,
  AttnClaim.frame_ref_pre,
  Frames.Mlp.kernel,
  Frames.Mlp.ideal,
  Frames.Mlp.ref,
  Frames.MlpFinal.kernel,
  Frames.MlpFinal.ideal,
  Frames.MlpFinal.ref,
  Frames.InCd.kernel,
  Frames.InCd.ideal,
  Frames.InCd.ref,
  Frames.OutAb.kernel,
  Frames.OutAb.ideal,
  Frames.OutAb.ref,
  Frames.OutCd.kernel,
  Frames.OutCd.ideal,
  Frames.OutCd.ref,
  Frames.InAb.kernel,
  Frames.InAb.ideal,
  Frames.InAb.ideal_pre,
  Frames.InAb.ref,
  Frames.InAb.ref_pre,
  Frames.InAbS.kernel,
  Frames.InAbS.ideal,
  Frames.InAbS.ideal_pre,
  Frames.InAbS.ref,
  Frames.InAbS.ref_pre,
  Frames.MlpFinalS.kernel,
  Frames.MlpFinalS.ideal,
  Frames.MlpFinalS.ref,
  Frames.InCdS.kernel,
  Frames.InCdS.ideal,
  Frames.InCdS.ref,
  Frames.Unabsorb.kernel,
  Frames.Unabsorb.ideal,
  Frames.Unabsorb.ref,
  Frames.PoolS.kernel,
  Frames.PoolS.ideal,
  Frames.PoolS.ref,
  Frames.ConvS.kernel,
  Frames.ConvS.ideal,
  Frames.ConvS.ref,
  Frames.Pool.kernel,
  Frames.Pool.ideal,
  Frames.Pool.ref,
  AttnClaim.preserves,
  AttnClaim.algebraic,
  trivial,
  MlpClaim.algebraic,
  trivial,
  MlpFinalClaim.algebraic,
  trivial,
  InCdClaim.algebraic,
  trivial,
  OutAbClaim.algebraic,
  trivial,
  OutCdClaim.algebraic,
  trivial,
  InAbClaim.algebraic,
  trivial,
  InAbSClaim.algebraic,
  trivial,
  MlpFinalSClaim.algebraic,
  trivial,
  InCdSClaim.algebraic,
  trivial,
  UnabsorbClaim.algebraic,
  trivial,
  PoolSClaim.algebraic,
  trivial,
  ConvSClaim.algebraic,
  trivial,
  PoolClaim.algebraic⟩

end Cert.Proof

end
